-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqRefIdeal (m : (ℓ : Loc Cert.KvqRefIdeal.nD Cert.KvqRefIdeal.τ Cert.KvqRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1)
      ∧ r.2.mem ((c.tc : Thread Cert.Kvq.nD Cert.Kvq.τ).loc Cert.Kvq.main_arg2) = m ((c.tc : Thread Cert.Kvq.nD Cert.Kvq.τ).loc Cert.Kvq.main_arg2)
      ∧ r.2.mem ((c.tc : Thread Cert.Kvq.nD Cert.Kvq.τ).loc Cert.Kvq.main_arg3) = m ((c.tc : Thread Cert.Kvq.nD Cert.Kvq.τ).loc Cert.Kvq.main_arg3)
      ∧ r.2.mem ((c.tc : Thread Cert.Kvq.nD Cert.Kvq.τ).loc Cert.Kvq.main_arg4) = m ((c.tc : Thread Cert.Kvq.nD Cert.Kvq.τ).loc Cert.Kvq.main_arg4)
      ∧ r.2.mem ((c.tc : Thread Cert.Kvq.nD Cert.Kvq.τ).loc Cert.Kvq.main_arg5) = m ((c.tc : Thread Cert.Kvq.nD Cert.Kvq.τ).loc Cert.Kvq.main_arg5)
      ∧ r.2.mem ((c.tc : Thread Cert.Kvq.nD Cert.Kvq.τ).loc Cert.Kvq.main_arg6) = m ((c.tc : Thread Cert.Kvq.nD Cert.Kvq.τ).loc Cert.Kvq.main_arg6))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
      ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
      ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
      ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
      ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
      ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6))
      ∧ r.2.sem = fun _ => 0)

def quiescent_KvqRefIdeal [hKvqRefIdeal : Cert.KvqRefIdeal.Facts] : Prop :=
  ∀ (m : (ℓ : Loc Cert.KvqRefIdeal.nD Cert.KvqRefIdeal.τ Cert.KvqRefIdeal.sig) → Buf (Elt Ideal) ℓ) (g : Dev Cert.KvqRefIdeal.nD → PrngReg), Pre_KvqRefIdeal m →
    θ_run (Cert.KvqRefIdeal.defs (F := Ideal)) (onTc (τ := Cert.KvqRefIdeal.τ) (Cert.KvqRefIdeal.main (F := Ideal))) ⟨m, fun _ => 0, g⟩ (fun r => (∀ c : Dev Cert.KvqRefIdeal.nD,
      r.2.mem ((c.tc : Thread Cert.KvqRefIdeal.nD Cert.KvqRefIdeal.τ).loc Cert.KvqRefIdeal.main_arg0) = m ((c.tc : Thread Cert.KvqRefIdeal.nD Cert.KvqRefIdeal.τ).loc Cert.KvqRefIdeal.main_arg0)
      ∧ r.2.mem ((c.tc : Thread Cert.KvqRefIdeal.nD Cert.KvqRefIdeal.τ).loc Cert.KvqRefIdeal.main_arg1) = m ((c.tc : Thread Cert.KvqRefIdeal.nD Cert.KvqRefIdeal.τ).loc Cert.KvqRefIdeal.main_arg1)
      ∧ r.2.mem ((c.tc : Thread Cert.KvqRefIdeal.nD Cert.KvqRefIdeal.τ).loc Cert.KvqRefIdeal.main_arg2) = m ((c.tc : Thread Cert.KvqRefIdeal.nD Cert.KvqRefIdeal.τ).loc Cert.KvqRefIdeal.main_arg2)
      ∧ r.2.mem ((c.tc : Thread Cert.KvqRefIdeal.nD Cert.KvqRefIdeal.τ).loc Cert.KvqRefIdeal.main_arg3) = m ((c.tc : Thread Cert.KvqRefIdeal.nD Cert.KvqRefIdeal.τ).loc Cert.KvqRefIdeal.main_arg3)
      ∧ r.2.mem ((c.tc : Thread Cert.KvqRefIdeal.nD Cert.KvqRefIdeal.τ).loc Cert.KvqRefIdeal.main_arg4) = m ((c.tc : Thread Cert.KvqRefIdeal.nD Cert.KvqRefIdeal.τ).loc Cert.KvqRefIdeal.main_arg4)
      ∧ r.2.mem ((c.tc : Thread Cert.KvqRefIdeal.nD Cert.KvqRefIdeal.τ).loc Cert.KvqRefIdeal.main_arg5) = m ((c.tc : Thread Cert.KvqRefIdeal.nD Cert.KvqRefIdeal.τ).loc Cert.KvqRefIdeal.main_arg5)
      ∧ r.2.mem ((c.tc : Thread Cert.KvqRefIdeal.nD Cert.KvqRefIdeal.τ).loc Cert.KvqRefIdeal.main_arg6) = m ((c.tc : Thread Cert.KvqRefIdeal.nD Cert.KvqRefIdeal.τ).loc Cert.KvqRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 256]⟩ ⟨2, ![1024, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def preserves_Kvq_KvqIdeal : Prop :=
  True

def algebraic_KvqIdeal_KvqRefIdeal [hKvqIdeal : Cert.KvqIdeal.Facts] [hKvqRefIdeal : Cert.KvqRefIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqRefIdeal.nD Cert.KvqRefIdeal.τ Cert.KvqRefIdeal.sig) → Buf (Elt Ideal) ℓ) (g' : Dev Cert.KvqRefIdeal.nD → PrngReg), Pre_KvqIdeal m →
    (∀ c : Dev Cert.KvqIdeal.nD,
      m ((c.tc : Thread Cert.KvqIdeal.nD Cert.KvqIdeal.τ).loc Cert.KvqIdeal.main_arg0) = m' (((0 : Dev Cert.KvqRefIdeal.nD).tc : Thread Cert.KvqRefIdeal.nD Cert.KvqRefIdeal.τ).loc Cert.KvqRefIdeal.main_arg0)
      ∧ m ((c.tc : Thread Cert.KvqIdeal.nD Cert.KvqIdeal.τ).loc Cert.KvqIdeal.main_arg1) = Layout.block ⟨2, ![4096, 128]⟩ ⟨2, ![4096, 1024]⟩ 1 8 c (m' (((0 : Dev Cert.KvqRefIdeal.nD).tc : Thread Cert.KvqRefIdeal.nD Cert.KvqRefIdeal.τ).loc Cert.KvqRefIdeal.main_arg1))
      ∧ m ((c.tc : Thread Cert.KvqIdeal.nD Cert.KvqIdeal.τ).loc Cert.KvqIdeal.main_arg2) = Layout.block ⟨3, ![8, 128, 512]⟩ ⟨3, ![8, 1024, 512]⟩ 1 8 c (m' (((0 : Dev Cert.KvqRefIdeal.nD).tc : Thread Cert.KvqRefIdeal.nD Cert.KvqRefIdeal.τ).loc Cert.KvqRefIdeal.main_arg2))
      ∧ m ((c.tc : Thread Cert.KvqIdeal.nD Cert.KvqIdeal.τ).loc Cert.KvqIdeal.main_arg3) = Layout.block ⟨3, ![8, 128, 512]⟩ ⟨3, ![8, 1024, 512]⟩ 1 8 c (m' (((0 : Dev Cert.KvqRefIdeal.nD).tc : Thread Cert.KvqRefIdeal.nD Cert.KvqRefIdeal.τ).loc Cert.KvqRefIdeal.main_arg3))
      ∧ m ((c.tc : Thread Cert.KvqIdeal.nD Cert.KvqIdeal.τ).loc Cert.KvqIdeal.main_arg4) = Layout.block ⟨2, ![4096, 512]⟩ ⟨2, ![4096, 4096]⟩ 1 8 c (m' (((0 : Dev Cert.KvqRefIdeal.nD).tc : Thread Cert.KvqRefIdeal.nD Cert.KvqRefIdeal.τ).loc Cert.KvqRefIdeal.main_arg4))
      ∧ m ((c.tc : Thread Cert.KvqIdeal.nD Cert.KvqIdeal.τ).loc Cert.KvqIdeal.main_arg5) = Layout.block ⟨2, ![4096, 256]⟩ ⟨2, ![4096, 2048]⟩ 1 8 c (m' (((0 : Dev Cert.KvqRefIdeal.nD).tc : Thread Cert.KvqRefIdeal.nD Cert.KvqRefIdeal.τ).loc Cert.KvqRefIdeal.main_arg5))
      ∧ m ((c.tc : Thread Cert.KvqIdeal.nD Cert.KvqIdeal.τ).loc Cert.KvqIdeal.main_arg6) = m' (((0 : Dev Cert.KvqRefIdeal.nD).tc : Thread Cert.KvqRefIdeal.nD Cert.KvqRefIdeal.τ).loc Cert.KvqRefIdeal.main_arg6)) →
    ∃ (v0 : Buf (Elt Ideal) (((0 : Dev Cert.KvqRefIdeal.nD).tc : Thread Cert.KvqRefIdeal.nD Cert.KvqRefIdeal.τ).loc Cert.KvqRefIdeal.main_v23)) (v1 : Buf (Elt Ideal) (((0 : Dev Cert.KvqRefIdeal.nD).tc : Thread Cert.KvqRefIdeal.nD Cert.KvqRefIdeal.τ).loc Cert.KvqRefIdeal.main_v24)) (v2 : Buf (Elt Ideal) (((0 : Dev Cert.KvqRefIdeal.nD).tc : Thread Cert.KvqRefIdeal.nD Cert.KvqRefIdeal.τ).loc Cert.KvqRefIdeal.main_v25)) (v3 : Buf (Elt Ideal) (((0 : Dev Cert.KvqRefIdeal.nD).tc : Thread Cert.KvqRefIdeal.nD Cert.KvqRefIdeal.τ).loc Cert.KvqRefIdeal.main_v26)) (v4 : Buf (Elt Ideal) (((0 : Dev Cert.KvqRefIdeal.nD).tc : Thread Cert.KvqRefIdeal.nD Cert.KvqRefIdeal.τ).loc Cert.KvqRefIdeal.main_v27)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v1_0) = Layout.block ⟨2, ![1024, 512]⟩ ⟨2, ![1024, 4096]⟩ 1 8 c v0
          ∧ r.2.mem ((c.tc : Thread Cert.KvqIdeal.nD Cert.KvqIdeal.τ).loc Cert.KvqIdeal.main_v1_1) = Layout.block ⟨2, ![1024, 256]⟩ ⟨2, ![1024, 2048]⟩ 1 8 c v1
          ∧ r.2.mem ((c.tc : Thread Cert.KvqIdeal.nD Cert.KvqIdeal.τ).loc Cert.KvqIdeal.main_v1_2) = v2
          ∧ r.2.mem ((c.tc : Thread Cert.KvqIdeal.nD Cert.KvqIdeal.τ).loc Cert.KvqIdeal.main_v1_3) = Layout.block ⟨2, ![1024, 512]⟩ ⟨2, ![1024, 4096]⟩ 1 8 c v3
          ∧ r.2.mem ((c.tc : Thread Cert.KvqIdeal.nD Cert.KvqIdeal.τ).loc Cert.KvqIdeal.main_v1_4) = Layout.block ⟨2, ![1024, 512]⟩ ⟨2, ![1024, 4096]⟩ 1 8 c v4
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
          ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
          ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
          ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
          ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
          ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6))
      ∧ θ_run (Cert.KvqRefIdeal.defs (F := Ideal)) (onTc (τ := Cert.KvqRefIdeal.τ) (Cert.KvqRefIdeal.main (F := Ideal))) ⟨m', fun _ => 0, g'⟩ (fun r =>
          r.2.mem (((0 : Dev Cert.KvqRefIdeal.nD).tc : Thread Cert.KvqRefIdeal.nD Cert.KvqRefIdeal.τ).loc Cert.KvqRefIdeal.main_v23) = v0
          ∧ r.2.mem (((0 : Dev Cert.KvqRefIdeal.nD).tc : Thread Cert.KvqRefIdeal.nD Cert.KvqRefIdeal.τ).loc Cert.KvqRefIdeal.main_v24) = v1
          ∧ r.2.mem (((0 : Dev Cert.KvqRefIdeal.nD).tc : Thread Cert.KvqRefIdeal.nD Cert.KvqRefIdeal.τ).loc Cert.KvqRefIdeal.main_v25) = v2
          ∧ r.2.mem (((0 : Dev Cert.KvqRefIdeal.nD).tc : Thread Cert.KvqRefIdeal.nD Cert.KvqRefIdeal.τ).loc Cert.KvqRefIdeal.main_v26) = v3
          ∧ r.2.mem (((0 : Dev Cert.KvqRefIdeal.nD).tc : Thread Cert.KvqRefIdeal.nD Cert.KvqRefIdeal.τ).loc Cert.KvqRefIdeal.main_v27) = v4
          ∧ r.2.mem (((0 : Dev Cert.KvqRefIdeal.nD).tc : Thread Cert.KvqRefIdeal.nD Cert.KvqRefIdeal.τ).loc Cert.KvqRefIdeal.main_arg0) = m' (((0 : Dev Cert.KvqRefIdeal.nD).tc : Thread Cert.KvqRefIdeal.nD Cert.KvqRefIdeal.τ).loc Cert.KvqRefIdeal.main_arg0)
          ∧ r.2.mem (((0 : Dev Cert.KvqRefIdeal.nD).tc : Thread Cert.KvqRefIdeal.nD Cert.KvqRefIdeal.τ).loc Cert.KvqRefIdeal.main_arg1) = m' (((0 : Dev Cert.KvqRefIdeal.nD).tc : Thread Cert.KvqRefIdeal.nD Cert.KvqRefIdeal.τ).loc Cert.KvqRefIdeal.main_arg1)
          ∧ r.2.mem (((0 : Dev Cert.KvqRefIdeal.nD).tc : Thread Cert.KvqRefIdeal.nD Cert.KvqRefIdeal.τ).loc Cert.KvqRefIdeal.main_arg2) = m' (((0 : Dev Cert.KvqRefIdeal.nD).tc : Thread Cert.KvqRefIdeal.nD Cert.KvqRefIdeal.τ).loc Cert.KvqRefIdeal.main_arg2)
          ∧ r.2.mem (((0 : Dev Cert.KvqRefIdeal.nD).tc : Thread Cert.KvqRefIdeal.nD Cert.KvqRefIdeal.τ).loc Cert.KvqRefIdeal.main_arg3) = m' (((0 : Dev Cert.KvqRefIdeal.nD).tc : Thread Cert.KvqRefIdeal.nD Cert.KvqRefIdeal.τ).loc Cert.KvqRefIdeal.main_arg3)
          ∧ r.2.mem (((0 : Dev Cert.KvqRefIdeal.nD).tc : Thread Cert.KvqRefIdeal.nD Cert.KvqRefIdeal.τ).loc Cert.KvqRefIdeal.main_arg4) = m' (((0 : Dev Cert.KvqRefIdeal.nD).tc : Thread Cert.KvqRefIdeal.nD Cert.KvqRefIdeal.τ).loc Cert.KvqRefIdeal.main_arg4)
          ∧ r.2.mem (((0 : Dev Cert.KvqRefIdeal.nD).tc : Thread Cert.KvqRefIdeal.nD Cert.KvqRefIdeal.τ).loc Cert.KvqRefIdeal.main_arg5) = m' (((0 : Dev Cert.KvqRefIdeal.nD).tc : Thread Cert.KvqRefIdeal.nD Cert.KvqRefIdeal.τ).loc Cert.KvqRefIdeal.main_arg5)
          ∧ r.2.mem (((0 : Dev Cert.KvqRefIdeal.nD).tc : Thread Cert.KvqRefIdeal.nD Cert.KvqRefIdeal.τ).loc Cert.KvqRefIdeal.main_arg6) = m' (((0 : Dev Cert.KvqRefIdeal.nD).tc : Thread Cert.KvqRefIdeal.nD Cert.KvqRefIdeal.τ).loc Cert.KvqRefIdeal.main_arg6))

def Claim : Prop :=
  ∃ (hKernel : Cert.Kernel.Facts) (hKernelIdeal : Cert.KernelIdeal.Facts) (hReferenceIdeal : Cert.ReferenceIdeal.Facts) (hKvq : Cert.Kvq.Facts) (hKvqIdeal : Cert.KvqIdeal.Facts) (hKvqRefIdeal : Cert.KvqRefIdeal.Facts),
    quiescent_Kernel (hKernel := hKernel)
    ∧ quiescent_KernelIdeal (hKernelIdeal := hKernelIdeal)
    ∧ quiescent_ReferenceIdeal (hReferenceIdeal := hReferenceIdeal)
    ∧ quiescent_Kvq (hKvq := hKvq)
    ∧ quiescent_KvqIdeal (hKvqIdeal := hKvqIdeal)
    ∧ quiescent_KvqRefIdeal (hKvqRefIdeal := hKvqRefIdeal)
    ∧ preserves_Kernel_KernelIdeal
    ∧ algebraic_KernelIdeal_ReferenceIdeal (hKernelIdeal := hKernelIdeal) (hReferenceIdeal := hReferenceIdeal)
    ∧ preserves_Kvq_KvqIdeal
    ∧ algebraic_KvqIdeal_KvqRefIdeal (hKvqIdeal := hKvqIdeal) (hKvqRefIdeal := hKvqRefIdeal)
-- ==== Kernel.lean ====
abbrev S1024x512 : Shape := ⟨2, ![1024, 512]⟩
abbrev S1024x256 : Shape := ⟨2, ![1024, 256]⟩
abbrev S1024x64 : Shape := ⟨2, ![1024, 64]⟩
abbrev S512x4096 : Shape := ⟨2, ![512, 4096]⟩
abbrev S16x64x4096 : Shape := ⟨3, ![16, 64, 4096]⟩
abbrev S8x64x4096 : Shape := ⟨3, ![8, 64, 4096]⟩
abbrev S4x7 : Shape := ⟨2, ![4, 7]⟩
abbrev S3x14 : Shape := ⟨2, ![3, 14]⟩
abbrev S_ : Shape := ⟨0, ![]⟩
abbrev S64x512 : Shape := ⟨2, ![64, 512]⟩
abbrev S64x256 : Shape := ⟨2, ![64, 256]⟩
abbrev S256x512 : Shape := ⟨2, ![256, 512]⟩
abbrev S256x64 : Shape := ⟨2, ![256, 64]⟩
abbrev S64x128 : Shape := ⟨2, ![64, 128]⟩
abbrev S256x128 : Shape := ⟨2, ![256, 128]⟩
abbrev S64x64 : Shape := ⟨2, ![64, 64]⟩
abbrev S64 : Shape := ⟨1, ![64]⟩
abbrev S64x1 : Shape := ⟨2, ![64, 1]⟩
abbrev S128x512 : Shape := ⟨2, ![128, 512]⟩
abbrev S128x4096 : Shape := ⟨2, ![128, 4096]⟩
abbrev S64x4096 : Shape := ⟨2, ![64, 4096]⟩
abbrev S1x64x4096 : Shape := ⟨3, ![1, 64, 4096]⟩
abbrev S1x1 : Shape := ⟨2, ![1, 1]⟩
abbrev S1x64x1024 : Shape := ⟨3, ![1, 64, 1024]⟩
abbrev S64x1024 : Shape := ⟨2, ![64, 1024]⟩
abbrev S1x64x1280 : Shape := ⟨3, ![1, 64, 1280]⟩
abbrev S64x1280 : Shape := ⟨2, ![64, 1280]⟩
abbrev S1x64x1408 : Shape := ⟨3, ![1, 64, 1408]⟩
abbrev S64x1408 : Shape := ⟨2, ![64, 1408]⟩

abbrev nBuf : Space → Nat
  | .hbm => 7
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x512, .bf16⟩
  | .hbm, ⟨3, _⟩ => ⟨S1024x256, .bf16⟩
  | .hbm, ⟨4, _⟩ => ⟨S1024x64, .bf16⟩
  | .hbm, ⟨5, _⟩ => ⟨S512x4096, .bf16⟩
  | .hbm, ⟨6, _⟩ => ⟨S16x64x4096, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x256, .bf16⟩
  | .local _ .vmem, ⟨4, _⟩ => ⟨S1024x64, .bf16⟩
  | .local _ .vmem, ⟨5, _⟩ => ⟨S512x4096, .bf16⟩
  | .local _ .vmem, ⟨6, _⟩ => ⟨S16x64x4096, .bf16⟩
  | .local _ .vmem, ⟨7, _⟩ => ⟨S8x64x4096, .bf16⟩
  | .local _ .vmem, ⟨8, _⟩ => ⟨S8x64x4096, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 203 → Bool
  | ⟨i, _⟩ => dmaSemScopedAt i

abbrev sig : RefSig :=
  (ofTc nBuf bufTy 1 203 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier1 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let c2_i32_37 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : BitVec 32 := Scalar.muli c2_i32_37 v2
  let c64_i32 : BitVec 32 := 64#32
  let v78 : BitVec 32 := Scalar.muli v57 c64_i32
  let v79 : Index := Scalar.indexCast v78
  let c0_46 : Index := 0#32
  ![v79.toNat, 0]
def k0_off2 (d0 : Dev nD) : Fin 2 → Nat :=
  let c2_i32_37 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : BitVec 32 := Scalar.muli c2_i32_37 v2
  let c64_i32_47 : BitVec 32 := 64#32
  let v82 : BitVec 32 := Scalar.muli v57 c64_i32_47
  let v83 : Index := Scalar.indexCast v82
  let c0_48 : Index := 0#32
  ![v83.toNat, 0]
def k0_off3 (d0 : Dev nD) : Fin 2 → Nat :=
  let c2_i32_37 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : BitVec 32 := Scalar.muli c2_i32_37 v2
  let c0_i32_40 : BitVec 32 := 0#32
  let v61 : BitVec 1 := Scalar.cmpi .sgt v57 c0_i32_40
  let v62 : BitVec 32 := Scalar.extui v61
  let c0_i32_41 : BitVec 32 := 0#32
  let v63 : BitVec 1 := Scalar.cmpi .slt v57 c0_i32_41
  let v64 : BitVec 32 := Scalar.extui v63
  let v65 : BitVec 32 := Scalar.subi v62 v64
  let c4_i32 : BitVec 32 := 4#32
  let c0_i32_42 : BitVec 32 := 0#32
  let v66 : BitVec 1 := Scalar.cmpi .sgt c4_i32 c0_i32_42
  let v67 : BitVec 32 := Scalar.extui v66
  let c0_i32_43 : BitVec 32 := 0#32
  let v68 : BitVec 1 := Scalar.cmpi .slt c4_i32 c0_i32_43
  let v69 : BitVec 32 := Scalar.extui v68
  let v70 : BitVec 32 := Scalar.subi v67 v69
  let v71 : BitVec 1 := Scalar.cmpi .ne v65 v70
  let v72 : BitVec 32 := Scalar.remsi v57 c4_i32
  let c0_i32_44 : BitVec 32 := 0#32
  let v73 : BitVec 1 := Scalar.cmpi .ne v72 c0_i32_44
  let v74 : BitVec 1 := Scalar.andi v71 v73
  let v60 : BitVec 32 := Scalar.divsi v57 c4_i32
  let c1_i32_45 : BitVec 32 := 1#32
  let v75 : BitVec 32 := Scalar.subi v60 c1_i32_45
  let v76 : BitVec 32 := Scalar.select v74 v75 v60
  let c256_i32 : BitVec 32 := 256#32
  let v77 : BitVec 32 := Scalar.muli v76 c256_i32
  let v86 : Index := Scalar.indexCast v77
  let c0_49 : Index := 0#32
  ![v86.toNat, 0]
def k0_off4 (d0 : Dev nD) : Fin 2 → Nat :=
  let c2_i32_37 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : BitVec 32 := Scalar.muli c2_i32_37 v2
  let c0_i32_40 : BitVec 32 := 0#32
  let v61 : BitVec 1 := Scalar.cmpi .sgt v57 c0_i32_40
  let v62 : BitVec 32 := Scalar.extui v61
  let c0_i32_41 : BitVec 32 := 0#32
  let v63 : BitVec 1 := Scalar.cmpi .slt v57 c0_i32_41
  let v64 : BitVec 32 := Scalar.extui v63
  let v65 : BitVec 32 := Scalar.subi v62 v64
  let c4_i32 : BitVec 32 := 4#32
  let c0_i32_42 : BitVec 32 := 0#32
  let v66 : BitVec 1 := Scalar.cmpi .sgt c4_i32 c0_i32_42
  let v67 : BitVec 32 := Scalar.extui v66
  let c0_i32_43 : BitVec 32 := 0#32
  let v68 : BitVec 1 := Scalar.cmpi .slt c4_i32 c0_i32_43
  let v69 : BitVec 32 := Scalar.extui v68
  let v70 : BitVec 32 := Scalar.subi v67 v69
  let v71 : BitVec 1 := Scalar.cmpi .ne v65 v70
  let v72 : BitVec 32 := Scalar.remsi v57 c4_i32
  let c0_i32_44 : BitVec 32 := 0#32
  let v73 : BitVec 1 := Scalar.cmpi .ne v72 c0_i32_44
  let v74 : BitVec 1 := Scalar.andi v71 v73
  let v60 : BitVec 32 := Scalar.divsi v57 c4_i32
  let c1_i32_45 : BitVec 32 := 1#32
  let v75 : BitVec 32 := Scalar.subi v60 c1_i32_45
  let v76 : BitVec 32 := Scalar.select v74 v75 v60
  let c256_i32 : BitVec 32 := 256#32
  let v77 : BitVec 32 := Scalar.muli v76 c256_i32
  let v92 : Index := Scalar.indexCast v77
  let c0_51 : Index := 0#32
  ![v92.toNat, 0]
def k0_off5 (d0 : Dev nD) : Fin 2 → Nat :=
  let c2_i32_38 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.muli c2_i32_38 v2
  let c1_i32_39 : BitVec 32 := 1#32
  let v59 : BitVec 32 := Scalar.addi v58 c1_i32_39
  let c64_i32_83 : BitVec 32 := 64#32
  let v198 : BitVec 32 := Scalar.muli v59 c64_i32_83
  let v199 : Index := Scalar.indexCast v198
  let c0_84 : Index := 0#32
  ![v199.toNat, 0]
def k0_off6 (d0 : Dev nD) : Fin 2 → Nat :=
  let c2_i32_38 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.muli c2_i32_38 v2
  let c1_i32_39 : BitVec 32 := 1#32
  let v59 : BitVec 32 := Scalar.addi v58 c1_i32_39
  let c64_i32_85 : BitVec 32 := 64#32
  let v202 : BitVec 32 := Scalar.muli v59 c64_i32_85
  let v203 : Index := Scalar.indexCast v202
  let c0_86 : Index := 0#32
  ![v203.toNat, 0]
def k0_off7 (d0 : Dev nD) : Fin 2 → Nat :=
  let c2_i32_38 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.muli c2_i32_38 v2
  let c1_i32_39 : BitVec 32 := 1#32
  let v59 : BitVec 32 := Scalar.addi v58 c1_i32_39
  let c0_i32_76 : BitVec 32 := 0#32
  let v181 : BitVec 1 := Scalar.cmpi .sgt v59 c0_i32_76
  let v182 : BitVec 32 := Scalar.extui v181
  let c0_i32_77 : BitVec 32 := 0#32
  let v183 : BitVec 1 := Scalar.cmpi .slt v59 c0_i32_77
  let v184 : BitVec 32 := Scalar.extui v183
  let v185 : BitVec 32 := Scalar.subi v182 v184
  let c4_i32_75 : BitVec 32 := 4#32
  let c0_i32_78 : BitVec 32 := 0#32
  let v186 : BitVec 1 := Scalar.cmpi .sgt c4_i32_75 c0_i32_78
  let v187 : BitVec 32 := Scalar.extui v186
  let c0_i32_79 : BitVec 32 := 0#32
  let v188 : BitVec 1 := Scalar.cmpi .slt c4_i32_75 c0_i32_79
  let v189 : BitVec 32 := Scalar.extui v188
  let v190 : BitVec 32 := Scalar.subi v187 v189
  let v191 : BitVec 1 := Scalar.cmpi .ne v185 v190
  let v192 : BitVec 32 := Scalar.remsi v59 c4_i32_75
  let c0_i32_80 : BitVec 32 := 0#32
  let v193 : BitVec 1 := Scalar.cmpi .ne v192 c0_i32_80
  let v194 : BitVec 1 := Scalar.andi v191 v193
  let v180 : BitVec 32 := Scalar.divsi v59 c4_i32_75
  let c1_i32_81 : BitVec 32 := 1#32
  let v195 : BitVec 32 := Scalar.subi v180 c1_i32_81
  let v196 : BitVec 32 := Scalar.select v194 v195 v180
  let c256_i32_82 : BitVec 32 := 256#32
  let v197 : BitVec 32 := Scalar.muli v196 c256_i32_82
  let v206 : Index := Scalar.indexCast v197
  let c0_87 : Index := 0#32
  ![v206.toNat, 0]
def k0_off8 (d0 : Dev nD) : Fin 2 → Nat :=
  let c2_i32_38 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.muli c2_i32_38 v2
  let c1_i32_39 : BitVec 32 := 1#32
  let v59 : BitVec 32 := Scalar.addi v58 c1_i32_39
  let c0_i32_76 : BitVec 32 := 0#32
  let v181 : BitVec 1 := Scalar.cmpi .sgt v59 c0_i32_76
  let v182 : BitVec 32 := Scalar.extui v181
  let c0_i32_77 : BitVec 32 := 0#32
  let v183 : BitVec 1 := Scalar.cmpi .slt v59 c0_i32_77
  let v184 : BitVec 32 := Scalar.extui v183
  let v185 : BitVec 32 := Scalar.subi v182 v184
  let c4_i32_75 : BitVec 32 := 4#32
  let c0_i32_78 : BitVec 32 := 0#32
  let v186 : BitVec 1 := Scalar.cmpi .sgt c4_i32_75 c0_i32_78
  let v187 : BitVec 32 := Scalar.extui v186
  let c0_i32_79 : BitVec 32 := 0#32
  let v188 : BitVec 1 := Scalar.cmpi .slt c4_i32_75 c0_i32_79
  let v189 : BitVec 32 := Scalar.extui v188
  let v190 : BitVec 32 := Scalar.subi v187 v189
  let v191 : BitVec 1 := Scalar.cmpi .ne v185 v190
  let v192 : BitVec 32 := Scalar.remsi v59 c4_i32_75
  let c0_i32_80 : BitVec 32 := 0#32
  let v193 : BitVec 1 := Scalar.cmpi .ne v192 c0_i32_80
  let v194 : BitVec 1 := Scalar.andi v191 v193
  let v180 : BitVec 32 := Scalar.divsi v59 c4_i32_75
  let c1_i32_81 : BitVec 32 := 1#32
  let v195 : BitVec 32 := Scalar.subi v180 c1_i32_81
  let v196 : BitVec 32 := Scalar.select v194 v195 v180
  let c256_i32_82 : BitVec 32 := 256#32
  let v197 : BitVec 32 := Scalar.muli v196 c256_i32_82
  let v212 : Index := Scalar.indexCast v197
  let c0_89 : Index := 0#32
  ![v212.toNat, 0]
def k0_dev3 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_125 : BitVec 32 := 1#32
  let v312 : BitVec 32 := Scalar.muli v24 c1_i32_125
  let v313 : BitVec 32 := Scalar.addi c0_i32_126 v312
  v313.toNat
def k0_dev4 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_137 : BitVec 32 := 1#32
  let v322 : BitVec 32 := Scalar.muli v24 c1_i32_137
  let v323 : BitVec 32 := Scalar.addi c0_i32_138 v322
  v323.toNat
def k0_dev5 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_148 : BitVec 32 := 1#32
  let v332 : BitVec 32 := Scalar.muli v24 c1_i32_148
  let v333 : BitVec 32 := Scalar.addi c0_i32_149 v332
  v333.toNat
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_158 : BitVec 32 := 1#32
  let v342 : BitVec 32 := Scalar.muli v24 c1_i32_158
  let v343 : BitVec 32 := Scalar.addi c0_i32_159 v342
  v343.toNat
def k0_dev7 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_169 : BitVec 32 := 1#32
  let v352 : BitVec 32 := Scalar.muli v13 c1_i32_169
  let v353 : BitVec 32 := Scalar.addi c0_i32_170 v352
  v353.toNat
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_181 : BitVec 32 := 1#32
  let v362 : BitVec 32 := Scalar.muli v13 c1_i32_181
  let v363 : BitVec 32 := Scalar.addi c0_i32_182 v362
  v363.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_193 : BitVec 32 := 1#32
  let v372 : BitVec 32 := Scalar.muli v13 c1_i32_193
  let v373 : BitVec 32 := Scalar.addi c0_i32_194 v372
  v373.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_205 : BitVec 32 := 1#32
  let v382 : BitVec 32 := Scalar.muli v13 c1_i32_205
  let v383 : BitVec 32 := Scalar.addi c0_i32_206 v382
  v383.toNat
def k0_off9 (d0 : Dev nD) : Fin 2 → Nat :=
  let c2_i32_218 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v392 : BitVec 32 := Scalar.subi v2 c1_i32_211
  let c8_i32_212 : BitVec 32 := 8#32
  let c0_i32_213 : BitVec 32 := 0#32
  let v393 : BitVec 1 := Scalar.cmpi .eq c8_i32_212 c0_i32_213
  let c1_i32_214 : BitVec 32 := 1#32
  let v394 : BitVec 32 := Scalar.select v393 c1_i32_214 c8_i32_212
  let v395 : BitVec 32 := Scalar.remsi v392 v394
  let c0_i32_216 : BitVec 32 := 0#32
  let v397 : BitVec 1 := Scalar.cmpi .slt v395 c0_i32_216
  let c0_i32_217 : BitVec 32 := 0#32
  let v398 : BitVec 1 := Scalar.cmpi .slt v394 c0_i32_217
  let v399 : BitVec 1 := Scalar.xori v397 v398
  let c0_i32_215 : BitVec 32 := 0#32
  let v396 : BitVec 1 := Scalar.cmpi .ne v395 c0_i32_215
  let v400 : BitVec 1 := Scalar.andi v399 v396
  let v401 : BitVec 32 := Scalar.addi v395 v394
  let v402 : BitVec 32 := Scalar.select v400 v401 v395
  let v403 : BitVec 32 := Scalar.muli c2_i32_218 v402
  let c64_i32_236 : BitVec 32 := 64#32
  let v435 : BitVec 32 := Scalar.muli v403 c64_i32_236
  let v436 : Index := Scalar.indexCast v435
  let c0_237 : Index := 0#32
  ![v436.toNat, 0]
def k0_off10 (d0 : Dev nD) : Fin 2 → Nat :=
  let c2_i32_218 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v392 : BitVec 32 := Scalar.subi v2 c1_i32_211
  let c8_i32_212 : BitVec 32 := 8#32
  let c0_i32_213 : BitVec 32 := 0#32
  let v393 : BitVec 1 := Scalar.cmpi .eq c8_i32_212 c0_i32_213
  let c1_i32_214 : BitVec 32 := 1#32
  let v394 : BitVec 32 := Scalar.select v393 c1_i32_214 c8_i32_212
  let v395 : BitVec 32 := Scalar.remsi v392 v394
  let c0_i32_216 : BitVec 32 := 0#32
  let v397 : BitVec 1 := Scalar.cmpi .slt v395 c0_i32_216
  let c0_i32_217 : BitVec 32 := 0#32
  let v398 : BitVec 1 := Scalar.cmpi .slt v394 c0_i32_217
  let v399 : BitVec 1 := Scalar.xori v397 v398
  let c0_i32_215 : BitVec 32 := 0#32
  let v396 : BitVec 1 := Scalar.cmpi .ne v395 c0_i32_215
  let v400 : BitVec 1 := Scalar.andi v399 v396
  let v401 : BitVec 32 := Scalar.addi v395 v394
  let v402 : BitVec 32 := Scalar.select v400 v401 v395
  let v403 : BitVec 32 := Scalar.muli c2_i32_218 v402
  let c64_i32_238 : BitVec 32 := 64#32
  let v439 : BitVec 32 := Scalar.muli v403 c64_i32_238
  let v440 : Index := Scalar.indexCast v439
  let c0_239 : Index := 0#32
  ![v440.toNat, 0]
def k0_off11 (d0 : Dev nD) : Fin 2 → Nat :=
  let c2_i32_218 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v392 : BitVec 32 := Scalar.subi v2 c1_i32_211
  let c8_i32_212 : BitVec 32 := 8#32
  let c0_i32_213 : BitVec 32 := 0#32
  let v393 : BitVec 1 := Scalar.cmpi .eq c8_i32_212 c0_i32_213
  let c1_i32_214 : BitVec 32 := 1#32
  let v394 : BitVec 32 := Scalar.select v393 c1_i32_214 c8_i32_212
  let v395 : BitVec 32 := Scalar.remsi v392 v394
  let c0_i32_216 : BitVec 32 := 0#32
  let v397 : BitVec 1 := Scalar.cmpi .slt v395 c0_i32_216
  let c0_i32_217 : BitVec 32 := 0#32
  let v398 : BitVec 1 := Scalar.cmpi .slt v394 c0_i32_217
  let v399 : BitVec 1 := Scalar.xori v397 v398
  let c0_i32_215 : BitVec 32 := 0#32
  let v396 : BitVec 1 := Scalar.cmpi .ne v395 c0_i32_215
  let v400 : BitVec 1 := Scalar.andi v399 v396
  let v401 : BitVec 32 := Scalar.addi v395 v394
  let v402 : BitVec 32 := Scalar.select v400 v401 v395
  let v403 : BitVec 32 := Scalar.muli c2_i32_218 v402
  let c0_i32_229 : BitVec 32 := 0#32
  let v418 : BitVec 1 := Scalar.cmpi .sgt v403 c0_i32_229
  let v419 : BitVec 32 := Scalar.extui v418
  let c0_i32_230 : BitVec 32 := 0#32
  let v420 : BitVec 1 := Scalar.cmpi .slt v403 c0_i32_230
  let v421 : BitVec 32 := Scalar.extui v420
  let v422 : BitVec 32 := Scalar.subi v419 v421
  let c4_i32_228 : BitVec 32 := 4#32
  let c0_i32_231 : BitVec 32 := 0#32
  let v423 : BitVec 1 := Scalar.cmpi .sgt c4_i32_228 c0_i32_231
  let v424 : BitVec 32 := Scalar.extui v423
  let c0_i32_232 : BitVec 32 := 0#32
  let v425 : BitVec 1 := Scalar.cmpi .slt c4_i32_228 c0_i32_232
  let v426 : BitVec 32 := Scalar.extui v425
  let v427 : BitVec 32 := Scalar.subi v424 v426
  let v428 : BitVec 1 := Scalar.cmpi .ne v422 v427
  let v429 : BitVec 32 := Scalar.remsi v403 c4_i32_228
  let c0_i32_233 : BitVec 32 := 0#32
  let v430 : BitVec 1 := Scalar.cmpi .ne v429 c0_i32_233
  let v431 : BitVec 1 := Scalar.andi v428 v430
  let v417 : BitVec 32 := Scalar.divsi v403 c4_i32_228
  let c1_i32_234 : BitVec 32 := 1#32
  let v432 : BitVec 32 := Scalar.subi v417 c1_i32_234
  let v433 : BitVec 32 := Scalar.select v431 v432 v417
  let c256_i32_235 : BitVec 32 := 256#32
  let v434 : BitVec 32 := Scalar.muli v433 c256_i32_235
  let v443 : Index := Scalar.indexCast v434
  let c0_240 : Index := 0#32
  ![v443.toNat, 0]
def k0_off12 (d0 : Dev nD) : Fin 2 → Nat :=
  let c2_i32_218 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v392 : BitVec 32 := Scalar.subi v2 c1_i32_211
  let c8_i32_212 : BitVec 32 := 8#32
  let c0_i32_213 : BitVec 32 := 0#32
  let v393 : BitVec 1 := Scalar.cmpi .eq c8_i32_212 c0_i32_213
  let c1_i32_214 : BitVec 32 := 1#32
  let v394 : BitVec 32 := Scalar.select v393 c1_i32_214 c8_i32_212
  let v395 : BitVec 32 := Scalar.remsi v392 v394
  let c0_i32_216 : BitVec 32 := 0#32
  let v397 : BitVec 1 := Scalar.cmpi .slt v395 c0_i32_216
  let c0_i32_217 : BitVec 32 := 0#32
  let v398 : BitVec 1 := Scalar.cmpi .slt v394 c0_i32_217
  let v399 : BitVec 1 := Scalar.xori v397 v398
  let c0_i32_215 : BitVec 32 := 0#32
  let v396 : BitVec 1 := Scalar.cmpi .ne v395 c0_i32_215
  let v400 : BitVec 1 := Scalar.andi v399 v396
  let v401 : BitVec 32 := Scalar.addi v395 v394
  let v402 : BitVec 32 := Scalar.select v400 v401 v395
  let v403 : BitVec 32 := Scalar.muli c2_i32_218 v402
  let c0_i32_229 : BitVec 32 := 0#32
  let v418 : BitVec 1 := Scalar.cmpi .sgt v403 c0_i32_229
  let v419 : BitVec 32 := Scalar.extui v418
  let c0_i32_230 : BitVec 32 := 0#32
  let v420 : BitVec 1 := Scalar.cmpi .slt v403 c0_i32_230
  let v421 : BitVec 32 := Scalar.extui v420
  let v422 : BitVec 32 := Scalar.subi v419 v421
  let c4_i32_228 : BitVec 32 := 4#32
  let c0_i32_231 : BitVec 32 := 0#32
  let v423 : BitVec 1 := Scalar.cmpi .sgt c4_i32_228 c0_i32_231
  let v424 : BitVec 32 := Scalar.extui v423
  let c0_i32_232 : BitVec 32 := 0#32
  let v425 : BitVec 1 := Scalar.cmpi .slt c4_i32_228 c0_i32_232
  let v426 : BitVec 32 := Scalar.extui v425
  let v427 : BitVec 32 := Scalar.subi v424 v426
  let v428 : BitVec 1 := Scalar.cmpi .ne v422 v427
  let v429 : BitVec 32 := Scalar.remsi v403 c4_i32_228
  let c0_i32_233 : BitVec 32 := 0#32
  let v430 : BitVec 1 := Scalar.cmpi .ne v429 c0_i32_233
  let v431 : BitVec 1 := Scalar.andi v428 v430
  let v417 : BitVec 32 := Scalar.divsi v403 c4_i32_228
  let c1_i32_234 : BitVec 32 := 1#32
  let v432 : BitVec 32 := Scalar.subi v417 c1_i32_234
  let v433 : BitVec 32 := Scalar.select v431 v432 v417
  let c256_i32_235 : BitVec 32 := 256#32
  let v434 : BitVec 32 := Scalar.muli v433 c256_i32_235
  let v449 : Index := Scalar.indexCast v434
  let c0_242 : Index := 0#32
  ![v449.toNat, 0]
def k0_off13 (d0 : Dev nD) : Fin 2 → Nat :=
  let c2_i32_226 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v404 : BitVec 32 := Scalar.addi v2 c1_i32_219
  let c8_i32_220 : BitVec 32 := 8#32
  let c0_i32_221 : BitVec 32 := 0#32
  let v405 : BitVec 1 := Scalar.cmpi .eq c8_i32_220 c0_i32_221
  let c1_i32_222 : BitVec 32 := 1#32
  let v406 : BitVec 32 := Scalar.select v405 c1_i32_222 c8_i32_220
  let v407 : BitVec 32 := Scalar.remsi v404 v406
  let c0_i32_224 : BitVec 32 := 0#32
  let v409 : BitVec 1 := Scalar.cmpi .slt v407 c0_i32_224
  let c0_i32_225 : BitVec 32 := 0#32
  let v410 : BitVec 1 := Scalar.cmpi .slt v406 c0_i32_225
  let v411 : BitVec 1 := Scalar.xori v409 v410
  let c0_i32_223 : BitVec 32 := 0#32
  let v408 : BitVec 1 := Scalar.cmpi .ne v407 c0_i32_223
  let v412 : BitVec 1 := Scalar.andi v411 v408
  let v413 : BitVec 32 := Scalar.addi v407 v406
  let v414 : BitVec 32 := Scalar.select v412 v413 v407
  let v415 : BitVec 32 := Scalar.muli c2_i32_226 v414
  let c1_i32_227 : BitVec 32 := 1#32
  let v416 : BitVec 32 := Scalar.addi v415 c1_i32_227
  let c64_i32_275 : BitVec 32 := 64#32
  let v555 : BitVec 32 := Scalar.muli v416 c64_i32_275
  let v556 : Index := Scalar.indexCast v555
  let c0_276 : Index := 0#32
  ![v556.toNat, 0]
def k0_off14 (d0 : Dev nD) : Fin 2 → Nat :=
  let c2_i32_226 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v404 : BitVec 32 := Scalar.addi v2 c1_i32_219
  let c8_i32_220 : BitVec 32 := 8#32
  let c0_i32_221 : BitVec 32 := 0#32
  let v405 : BitVec 1 := Scalar.cmpi .eq c8_i32_220 c0_i32_221
  let c1_i32_222 : BitVec 32 := 1#32
  let v406 : BitVec 32 := Scalar.select v405 c1_i32_222 c8_i32_220
  let v407 : BitVec 32 := Scalar.remsi v404 v406
  let c0_i32_224 : BitVec 32 := 0#32
  let v409 : BitVec 1 := Scalar.cmpi .slt v407 c0_i32_224
  let c0_i32_225 : BitVec 32 := 0#32
  let v410 : BitVec 1 := Scalar.cmpi .slt v406 c0_i32_225
  let v411 : BitVec 1 := Scalar.xori v409 v410
  let c0_i32_223 : BitVec 32 := 0#32
  let v408 : BitVec 1 := Scalar.cmpi .ne v407 c0_i32_223
  let v412 : BitVec 1 := Scalar.andi v411 v408
  let v413 : BitVec 32 := Scalar.addi v407 v406
  let v414 : BitVec 32 := Scalar.select v412 v413 v407
  let v415 : BitVec 32 := Scalar.muli c2_i32_226 v414
  let c1_i32_227 : BitVec 32 := 1#32
  let v416 : BitVec 32 := Scalar.addi v415 c1_i32_227
  let c64_i32_277 : BitVec 32 := 64#32
  let v559 : BitVec 32 := Scalar.muli v416 c64_i32_277
  let v560 : Index := Scalar.indexCast v559
  let c0_278 : Index := 0#32
  ![v560.toNat, 0]
def k0_off15 (d0 : Dev nD) : Fin 2 → Nat :=
  let c2_i32_226 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v404 : BitVec 32 := Scalar.addi v2 c1_i32_219
  let c8_i32_220 : BitVec 32 := 8#32
  let c0_i32_221 : BitVec 32 := 0#32
  let v405 : BitVec 1 := Scalar.cmpi .eq c8_i32_220 c0_i32_221
  let c1_i32_222 : BitVec 32 := 1#32
  let v406 : BitVec 32 := Scalar.select v405 c1_i32_222 c8_i32_220
  let v407 : BitVec 32 := Scalar.remsi v404 v406
  let c0_i32_224 : BitVec 32 := 0#32
  let v409 : BitVec 1 := Scalar.cmpi .slt v407 c0_i32_224
  let c0_i32_225 : BitVec 32 := 0#32
  let v410 : BitVec 1 := Scalar.cmpi .slt v406 c0_i32_225
  let v411 : BitVec 1 := Scalar.xori v409 v410
  let c0_i32_223 : BitVec 32 := 0#32
  let v408 : BitVec 1 := Scalar.cmpi .ne v407 c0_i32_223
  let v412 : BitVec 1 := Scalar.andi v411 v408
  let v413 : BitVec 32 := Scalar.addi v407 v406
  let v414 : BitVec 32 := Scalar.select v412 v413 v407
  let v415 : BitVec 32 := Scalar.muli c2_i32_226 v414
  let c1_i32_227 : BitVec 32 := 1#32
  let v416 : BitVec 32 := Scalar.addi v415 c1_i32_227
  let c0_i32_268 : BitVec 32 := 0#32
  let v538 : BitVec 1 := Scalar.cmpi .sgt v416 c0_i32_268
  let v539 : BitVec 32 := Scalar.extui v538
  let c0_i32_269 : BitVec 32 := 0#32
  let v540 : BitVec 1 := Scalar.cmpi .slt v416 c0_i32_269
  let v541 : BitVec 32 := Scalar.extui v540
  let v542 : BitVec 32 := Scalar.subi v539 v541
  let c4_i32_267 : BitVec 32 := 4#32
  let c0_i32_270 : BitVec 32 := 0#32
  let v543 : BitVec 1 := Scalar.cmpi .sgt c4_i32_267 c0_i32_270
  let v544 : BitVec 32 := Scalar.extui v543
  let c0_i32_271 : BitVec 32 := 0#32
  let v545 : BitVec 1 := Scalar.cmpi .slt c4_i32_267 c0_i32_271
  let v546 : BitVec 32 := Scalar.extui v545
  let v547 : BitVec 32 := Scalar.subi v544 v546
  let v548 : BitVec 1 := Scalar.cmpi .ne v542 v547
  let v549 : BitVec 32 := Scalar.remsi v416 c4_i32_267
  let c0_i32_272 : BitVec 32 := 0#32
  let v550 : BitVec 1 := Scalar.cmpi .ne v549 c0_i32_272
  let v551 : BitVec 1 := Scalar.andi v548 v550
  let v537 : BitVec 32 := Scalar.divsi v416 c4_i32_267
  let c1_i32_273 : BitVec 32 := 1#32
  let v552 : BitVec 32 := Scalar.subi v537 c1_i32_273
  let v553 : BitVec 32 := Scalar.select v551 v552 v537
  let c256_i32_274 : BitVec 32 := 256#32
  let v554 : BitVec 32 := Scalar.muli v553 c256_i32_274
  let v563 : Index := Scalar.indexCast v554
  let c0_279 : Index := 0#32
  ![v563.toNat, 0]
def k0_off16 (d0 : Dev nD) : Fin 2 → Nat :=
  let c2_i32_226 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v404 : BitVec 32 := Scalar.addi v2 c1_i32_219
  let c8_i32_220 : BitVec 32 := 8#32
  let c0_i32_221 : BitVec 32 := 0#32
  let v405 : BitVec 1 := Scalar.cmpi .eq c8_i32_220 c0_i32_221
  let c1_i32_222 : BitVec 32 := 1#32
  let v406 : BitVec 32 := Scalar.select v405 c1_i32_222 c8_i32_220
  let v407 : BitVec 32 := Scalar.remsi v404 v406
  let c0_i32_224 : BitVec 32 := 0#32
  let v409 : BitVec 1 := Scalar.cmpi .slt v407 c0_i32_224
  let c0_i32_225 : BitVec 32 := 0#32
  let v410 : BitVec 1 := Scalar.cmpi .slt v406 c0_i32_225
  let v411 : BitVec 1 := Scalar.xori v409 v410
  let c0_i32_223 : BitVec 32 := 0#32
  let v408 : BitVec 1 := Scalar.cmpi .ne v407 c0_i32_223
  let v412 : BitVec 1 := Scalar.andi v411 v408
  let v413 : BitVec 32 := Scalar.addi v407 v406
  let v414 : BitVec 32 := Scalar.select v412 v413 v407
  let v415 : BitVec 32 := Scalar.muli c2_i32_226 v414
  let c1_i32_227 : BitVec 32 := 1#32
  let v416 : BitVec 32 := Scalar.addi v415 c1_i32_227
  let c0_i32_268 : BitVec 32 := 0#32
  let v538 : BitVec 1 := Scalar.cmpi .sgt v416 c0_i32_268
  let v539 : BitVec 32 := Scalar.extui v538
  let c0_i32_269 : BitVec 32 := 0#32
  let v540 : BitVec 1 := Scalar.cmpi .slt v416 c0_i32_269
  let v541 : BitVec 32 := Scalar.extui v540
  let v542 : BitVec 32 := Scalar.subi v539 v541
  let c4_i32_267 : BitVec 32 := 4#32
  let c0_i32_270 : BitVec 32 := 0#32
  let v543 : BitVec 1 := Scalar.cmpi .sgt c4_i32_267 c0_i32_270
  let v544 : BitVec 32 := Scalar.extui v543
  let c0_i32_271 : BitVec 32 := 0#32
  let v545 : BitVec 1 := Scalar.cmpi .slt c4_i32_267 c0_i32_271
  let v546 : BitVec 32 := Scalar.extui v545
  let v547 : BitVec 32 := Scalar.subi v544 v546
  let v548 : BitVec 1 := Scalar.cmpi .ne v542 v547
  let v549 : BitVec 32 := Scalar.remsi v416 c4_i32_267
  let c0_i32_272 : BitVec 32 := 0#32
  let v550 : BitVec 1 := Scalar.cmpi .ne v549 c0_i32_272
  let v551 : BitVec 1 := Scalar.andi v548 v550
  let v537 : BitVec 32 := Scalar.divsi v416 c4_i32_267
  let c1_i32_273 : BitVec 32 := 1#32
  let v552 : BitVec 32 := Scalar.subi v537 c1_i32_273
  let v553 : BitVec 32 := Scalar.select v551 v552 v537
  let c256_i32_274 : BitVec 32 := 256#32
  let v554 : BitVec 32 := Scalar.muli v553 c256_i32_274
  let v569 : Index := Scalar.indexCast v554
  let c0_281 : Index := 0#32
  ![v569.toNat, 0]
def k0_dev11 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_349 : BitVec 32 := 1#32
  let v695 : BitVec 32 := Scalar.muli v24 c1_i32_349
  let v696 : BitVec 32 := Scalar.addi c0_i32_350 v695
  v696.toNat
def k0_dev12 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_361 : BitVec 32 := 1#32
  let v705 : BitVec 32 := Scalar.muli v13 c1_i32_361
  let v706 : BitVec 32 := Scalar.addi c0_i32_362 v705
  v706.toNat
def k0_off17 (d0 : Dev nD) (c0_i32_367 : BitVec 32) : Fin 2 → Nat :=
  let c2_i32_375 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v715 : BitVec 32 := Scalar.subi v2 c0_i32_367
  let c2_i32_368 : BitVec 32 := 2#32
  let v716 : BitVec 32 := Scalar.subi v715 c2_i32_368
  let c8_i32_369 : BitVec 32 := 8#32
  let c0_i32_370 : BitVec 32 := 0#32
  let v717 : BitVec 1 := Scalar.cmpi .eq c8_i32_369 c0_i32_370
  let c1_i32_371 : BitVec 32 := 1#32
  let v718 : BitVec 32 := Scalar.select v717 c1_i32_371 c8_i32_369
  let v719 : BitVec 32 := Scalar.remsi v716 v718
  let c0_i32_373 : BitVec 32 := 0#32
  let v721 : BitVec 1 := Scalar.cmpi .slt v719 c0_i32_373
  let c0_i32_374 : BitVec 32 := 0#32
  let v722 : BitVec 1 := Scalar.cmpi .slt v718 c0_i32_374
  let v723 : BitVec 1 := Scalar.xori v721 v722
  let c0_i32_372 : BitVec 32 := 0#32
  let v720 : BitVec 1 := Scalar.cmpi .ne v719 c0_i32_372
  let v724 : BitVec 1 := Scalar.andi v723 v720
  let v725 : BitVec 32 := Scalar.addi v719 v718
  let v726 : BitVec 32 := Scalar.select v724 v725 v719
  let v727 : BitVec 32 := Scalar.muli c2_i32_375 v726
  let c64_i32_394 : BitVec 32 := 64#32
  let v760 : BitVec 32 := Scalar.muli v727 c64_i32_394
  let v761 : Index := Scalar.indexCast v760
  let c0_395 : Index := 0#32
  ![v761.toNat, 0]
def k0_off18 (d0 : Dev nD) (c0_i32_367 : BitVec 32) : Fin 2 → Nat :=
  let c2_i32_375 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v715 : BitVec 32 := Scalar.subi v2 c0_i32_367
  let c2_i32_368 : BitVec 32 := 2#32
  let v716 : BitVec 32 := Scalar.subi v715 c2_i32_368
  let c8_i32_369 : BitVec 32 := 8#32
  let c0_i32_370 : BitVec 32 := 0#32
  let v717 : BitVec 1 := Scalar.cmpi .eq c8_i32_369 c0_i32_370
  let c1_i32_371 : BitVec 32 := 1#32
  let v718 : BitVec 32 := Scalar.select v717 c1_i32_371 c8_i32_369
  let v719 : BitVec 32 := Scalar.remsi v716 v718
  let c0_i32_373 : BitVec 32 := 0#32
  let v721 : BitVec 1 := Scalar.cmpi .slt v719 c0_i32_373
  let c0_i32_374 : BitVec 32 := 0#32
  let v722 : BitVec 1 := Scalar.cmpi .slt v718 c0_i32_374
  let v723 : BitVec 1 := Scalar.xori v721 v722
  let c0_i32_372 : BitVec 32 := 0#32
  let v720 : BitVec 1 := Scalar.cmpi .ne v719 c0_i32_372
  let v724 : BitVec 1 := Scalar.andi v723 v720
  let v725 : BitVec 32 := Scalar.addi v719 v718
  let v726 : BitVec 32 := Scalar.select v724 v725 v719
  let v727 : BitVec 32 := Scalar.muli c2_i32_375 v726
  let c64_i32_396 : BitVec 32 := 64#32
  let v764 : BitVec 32 := Scalar.muli v727 c64_i32_396
  let v765 : Index := Scalar.indexCast v764
  let c0_397 : Index := 0#32
  ![v765.toNat, 0]
def k0_off19 (d0 : Dev nD) (c0_i32_367 : BitVec 32) : Fin 2 → Nat :=
  let c2_i32_375 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v715 : BitVec 32 := Scalar.subi v2 c0_i32_367
  let c2_i32_368 : BitVec 32 := 2#32
  let v716 : BitVec 32 := Scalar.subi v715 c2_i32_368
  let c8_i32_369 : BitVec 32 := 8#32
  let c0_i32_370 : BitVec 32 := 0#32
  let v717 : BitVec 1 := Scalar.cmpi .eq c8_i32_369 c0_i32_370
  let c1_i32_371 : BitVec 32 := 1#32
  let v718 : BitVec 32 := Scalar.select v717 c1_i32_371 c8_i32_369
  let v719 : BitVec 32 := Scalar.remsi v716 v718
  let c0_i32_373 : BitVec 32 := 0#32
  let v721 : BitVec 1 := Scalar.cmpi .slt v719 c0_i32_373
  let c0_i32_374 : BitVec 32 := 0#32
  let v722 : BitVec 1 := Scalar.cmpi .slt v718 c0_i32_374
  let v723 : BitVec 1 := Scalar.xori v721 v722
  let c0_i32_372 : BitVec 32 := 0#32
  let v720 : BitVec 1 := Scalar.cmpi .ne v719 c0_i32_372
  let v724 : BitVec 1 := Scalar.andi v723 v720
  let v725 : BitVec 32 := Scalar.addi v719 v718
  let v726 : BitVec 32 := Scalar.select v724 v725 v719
  let v727 : BitVec 32 := Scalar.muli c2_i32_375 v726
  let c0_i32_387 : BitVec 32 := 0#32
  let v743 : BitVec 1 := Scalar.cmpi .sgt v727 c0_i32_387
  let v744 : BitVec 32 := Scalar.extui v743
  let c0_i32_388 : BitVec 32 := 0#32
  let v745 : BitVec 1 := Scalar.cmpi .slt v727 c0_i32_388
  let v746 : BitVec 32 := Scalar.extui v745
  let v747 : BitVec 32 := Scalar.subi v744 v746
  let c4_i32_386 : BitVec 32 := 4#32
  let c0_i32_389 : BitVec 32 := 0#32
  let v748 : BitVec 1 := Scalar.cmpi .sgt c4_i32_386 c0_i32_389
  let v749 : BitVec 32 := Scalar.extui v748
  let c0_i32_390 : BitVec 32 := 0#32
  let v750 : BitVec 1 := Scalar.cmpi .slt c4_i32_386 c0_i32_390
  let v751 : BitVec 32 := Scalar.extui v750
  let v752 : BitVec 32 := Scalar.subi v749 v751
  let v753 : BitVec 1 := Scalar.cmpi .ne v747 v752
  let v754 : BitVec 32 := Scalar.remsi v727 c4_i32_386
  let c0_i32_391 : BitVec 32 := 0#32
  let v755 : BitVec 1 := Scalar.cmpi .ne v754 c0_i32_391
  let v756 : BitVec 1 := Scalar.andi v753 v755
  let v742 : BitVec 32 := Scalar.divsi v727 c4_i32_386
  let c1_i32_392 : BitVec 32 := 1#32
  let v757 : BitVec 32 := Scalar.subi v742 c1_i32_392
  let v758 : BitVec 32 := Scalar.select v756 v757 v742
  let c256_i32_393 : BitVec 32 := 256#32
  let v759 : BitVec 32 := Scalar.muli v758 c256_i32_393
  let v768 : Index := Scalar.indexCast v759
  let c0_398 : Index := 0#32
  ![v768.toNat, 0]
def k0_off20 (d0 : Dev nD) (c0_i32_367 : BitVec 32) : Fin 2 → Nat :=
  let c2_i32_375 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v715 : BitVec 32 := Scalar.subi v2 c0_i32_367
  let c2_i32_368 : BitVec 32 := 2#32
  let v716 : BitVec 32 := Scalar.subi v715 c2_i32_368
  let c8_i32_369 : BitVec 32 := 8#32
  let c0_i32_370 : BitVec 32 := 0#32
  let v717 : BitVec 1 := Scalar.cmpi .eq c8_i32_369 c0_i32_370
  let c1_i32_371 : BitVec 32 := 1#32
  let v718 : BitVec 32 := Scalar.select v717 c1_i32_371 c8_i32_369
  let v719 : BitVec 32 := Scalar.remsi v716 v718
  let c0_i32_373 : BitVec 32 := 0#32
  let v721 : BitVec 1 := Scalar.cmpi .slt v719 c0_i32_373
  let c0_i32_374 : BitVec 32 := 0#32
  let v722 : BitVec 1 := Scalar.cmpi .slt v718 c0_i32_374
  let v723 : BitVec 1 := Scalar.xori v721 v722
  let c0_i32_372 : BitVec 32 := 0#32
  let v720 : BitVec 1 := Scalar.cmpi .ne v719 c0_i32_372
  let v724 : BitVec 1 := Scalar.andi v723 v720
  let v725 : BitVec 32 := Scalar.addi v719 v718
  let v726 : BitVec 32 := Scalar.select v724 v725 v719
  let v727 : BitVec 32 := Scalar.muli c2_i32_375 v726
  let c0_i32_387 : BitVec 32 := 0#32
  let v743 : BitVec 1 := Scalar.cmpi .sgt v727 c0_i32_387
  let v744 : BitVec 32 := Scalar.extui v743
  let c0_i32_388 : BitVec 32 := 0#32
  let v745 : BitVec 1 := Scalar.cmpi .slt v727 c0_i32_388
  let v746 : BitVec 32 := Scalar.extui v745
  let v747 : BitVec 32 := Scalar.subi v744 v746
  let c4_i32_386 : BitVec 32 := 4#32
  let c0_i32_389 : BitVec 32 := 0#32
  let v748 : BitVec 1 := Scalar.cmpi .sgt c4_i32_386 c0_i32_389
  let v749 : BitVec 32 := Scalar.extui v748
  let c0_i32_390 : BitVec 32 := 0#32
  let v750 : BitVec 1 := Scalar.cmpi .slt c4_i32_386 c0_i32_390
  let v751 : BitVec 32 := Scalar.extui v750
  let v752 : BitVec 32 := Scalar.subi v749 v751
  let v753 : BitVec 1 := Scalar.cmpi .ne v747 v752
  let v754 : BitVec 32 := Scalar.remsi v727 c4_i32_386
  let c0_i32_391 : BitVec 32 := 0#32
  let v755 : BitVec 1 := Scalar.cmpi .ne v754 c0_i32_391
  let v756 : BitVec 1 := Scalar.andi v753 v755
  let v742 : BitVec 32 := Scalar.divsi v727 c4_i32_386
  let c1_i32_392 : BitVec 32 := 1#32
  let v757 : BitVec 32 := Scalar.subi v742 c1_i32_392
  let v758 : BitVec 32 := Scalar.select v756 v757 v742
  let c256_i32_393 : BitVec 32 := 256#32
  let v759 : BitVec 32 := Scalar.muli v758 c256_i32_393
  let v774 : Index := Scalar.indexCast v759
  let c0_400 : Index := 0#32
  ![v774.toNat, 0]
def k0_off21 (d0 : Dev nD) (c0_i32_376 : BitVec 32) : Fin 2 → Nat :=
  let c2_i32_384 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v728 : BitVec 32 := Scalar.addi v2 c0_i32_376
  let c2_i32_377 : BitVec 32 := 2#32
  let v729 : BitVec 32 := Scalar.addi v728 c2_i32_377
  let c8_i32_378 : BitVec 32 := 8#32
  let c0_i32_379 : BitVec 32 := 0#32
  let v730 : BitVec 1 := Scalar.cmpi .eq c8_i32_378 c0_i32_379
  let c1_i32_380 : BitVec 32 := 1#32
  let v731 : BitVec 32 := Scalar.select v730 c1_i32_380 c8_i32_378
  let v732 : BitVec 32 := Scalar.remsi v729 v731
  let c0_i32_382 : BitVec 32 := 0#32
  let v734 : BitVec 1 := Scalar.cmpi .slt v732 c0_i32_382
  let c0_i32_383 : BitVec 32 := 0#32
  let v735 : BitVec 1 := Scalar.cmpi .slt v731 c0_i32_383
  let v736 : BitVec 1 := Scalar.xori v734 v735
  let c0_i32_381 : BitVec 32 := 0#32
  let v733 : BitVec 1 := Scalar.cmpi .ne v732 c0_i32_381
  let v737 : BitVec 1 := Scalar.andi v736 v733
  let v738 : BitVec 32 := Scalar.addi v732 v731
  let v739 : BitVec 32 := Scalar.select v737 v738 v732
  let v740 : BitVec 32 := Scalar.muli c2_i32_384 v739
  let c1_i32_385 : BitVec 32 := 1#32
  let v741 : BitVec 32 := Scalar.addi v740 c1_i32_385
  let c64_i32_433 : BitVec 32 := 64#32
  let v880 : BitVec 32 := Scalar.muli v741 c64_i32_433
  let v881 : Index := Scalar.indexCast v880
  let c0_434 : Index := 0#32
  ![v881.toNat, 0]
def k0_off22 (d0 : Dev nD) (c0_i32_376 : BitVec 32) : Fin 2 → Nat :=
  let c2_i32_384 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v728 : BitVec 32 := Scalar.addi v2 c0_i32_376
  let c2_i32_377 : BitVec 32 := 2#32
  let v729 : BitVec 32 := Scalar.addi v728 c2_i32_377
  let c8_i32_378 : BitVec 32 := 8#32
  let c0_i32_379 : BitVec 32 := 0#32
  let v730 : BitVec 1 := Scalar.cmpi .eq c8_i32_378 c0_i32_379
  let c1_i32_380 : BitVec 32 := 1#32
  let v731 : BitVec 32 := Scalar.select v730 c1_i32_380 c8_i32_378
  let v732 : BitVec 32 := Scalar.remsi v729 v731
  let c0_i32_382 : BitVec 32 := 0#32
  let v734 : BitVec 1 := Scalar.cmpi .slt v732 c0_i32_382
  let c0_i32_383 : BitVec 32 := 0#32
  let v735 : BitVec 1 := Scalar.cmpi .slt v731 c0_i32_383
  let v736 : BitVec 1 := Scalar.xori v734 v735
  let c0_i32_381 : BitVec 32 := 0#32
  let v733 : BitVec 1 := Scalar.cmpi .ne v732 c0_i32_381
  let v737 : BitVec 1 := Scalar.andi v736 v733
  let v738 : BitVec 32 := Scalar.addi v732 v731
  let v739 : BitVec 32 := Scalar.select v737 v738 v732
  let v740 : BitVec 32 := Scalar.muli c2_i32_384 v739
  let c1_i32_385 : BitVec 32 := 1#32
  let v741 : BitVec 32 := Scalar.addi v740 c1_i32_385
  let c64_i32_435 : BitVec 32 := 64#32
  let v884 : BitVec 32 := Scalar.muli v741 c64_i32_435
  let v885 : Index := Scalar.indexCast v884
  let c0_436 : Index := 0#32
  ![v885.toNat, 0]
def k0_off23 (d0 : Dev nD) (c0_i32_376 : BitVec 32) : Fin 2 → Nat :=
  let c2_i32_384 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v728 : BitVec 32 := Scalar.addi v2 c0_i32_376
  let c2_i32_377 : BitVec 32 := 2#32
  let v729 : BitVec 32 := Scalar.addi v728 c2_i32_377
  let c8_i32_378 : BitVec 32 := 8#32
  let c0_i32_379 : BitVec 32 := 0#32
  let v730 : BitVec 1 := Scalar.cmpi .eq c8_i32_378 c0_i32_379
  let c1_i32_380 : BitVec 32 := 1#32
  let v731 : BitVec 32 := Scalar.select v730 c1_i32_380 c8_i32_378
  let v732 : BitVec 32 := Scalar.remsi v729 v731
  let c0_i32_382 : BitVec 32 := 0#32
  let v734 : BitVec 1 := Scalar.cmpi .slt v732 c0_i32_382
  let c0_i32_383 : BitVec 32 := 0#32
  let v735 : BitVec 1 := Scalar.cmpi .slt v731 c0_i32_383
  let v736 : BitVec 1 := Scalar.xori v734 v735
  let c0_i32_381 : BitVec 32 := 0#32
  let v733 : BitVec 1 := Scalar.cmpi .ne v732 c0_i32_381
  let v737 : BitVec 1 := Scalar.andi v736 v733
  let v738 : BitVec 32 := Scalar.addi v732 v731
  let v739 : BitVec 32 := Scalar.select v737 v738 v732
  let v740 : BitVec 32 := Scalar.muli c2_i32_384 v739
  let c1_i32_385 : BitVec 32 := 1#32
  let v741 : BitVec 32 := Scalar.addi v740 c1_i32_385
  let c0_i32_426 : BitVec 32 := 0#32
  let v863 : BitVec 1 := Scalar.cmpi .sgt v741 c0_i32_426
  let v864 : BitVec 32 := Scalar.extui v863
  let c0_i32_427 : BitVec 32 := 0#32
  let v865 : BitVec 1 := Scalar.cmpi .slt v741 c0_i32_427
  let v866 : BitVec 32 := Scalar.extui v865
  let v867 : BitVec 32 := Scalar.subi v864 v866
  let c4_i32_425 : BitVec 32 := 4#32
  let c0_i32_428 : BitVec 32 := 0#32
  let v868 : BitVec 1 := Scalar.cmpi .sgt c4_i32_425 c0_i32_428
  let v869 : BitVec 32 := Scalar.extui v868
  let c0_i32_429 : BitVec 32 := 0#32
  let v870 : BitVec 1 := Scalar.cmpi .slt c4_i32_425 c0_i32_429
  let v871 : BitVec 32 := Scalar.extui v870
  let v872 : BitVec 32 := Scalar.subi v869 v871
  let v873 : BitVec 1 := Scalar.cmpi .ne v867 v872
  let v874 : BitVec 32 := Scalar.remsi v741 c4_i32_425
  let c0_i32_430 : BitVec 32 := 0#32
  let v875 : BitVec 1 := Scalar.cmpi .ne v874 c0_i32_430
  let v876 : BitVec 1 := Scalar.andi v873 v875
  let v862 : BitVec 32 := Scalar.divsi v741 c4_i32_425
  let c1_i32_431 : BitVec 32 := 1#32
  let v877 : BitVec 32 := Scalar.subi v862 c1_i32_431
  let v878 : BitVec 32 := Scalar.select v876 v877 v862
  let c256_i32_432 : BitVec 32 := 256#32
  let v879 : BitVec 32 := Scalar.muli v878 c256_i32_432
  let v888 : Index := Scalar.indexCast v879
  let c0_437 : Index := 0#32
  ![v888.toNat, 0]
def k0_off24 (d0 : Dev nD) (c0_i32_376 : BitVec 32) : Fin 2 → Nat :=
  let c2_i32_384 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v728 : BitVec 32 := Scalar.addi v2 c0_i32_376
  let c2_i32_377 : BitVec 32 := 2#32
  let v729 : BitVec 32 := Scalar.addi v728 c2_i32_377
  let c8_i32_378 : BitVec 32 := 8#32
  let c0_i32_379 : BitVec 32 := 0#32
  let v730 : BitVec 1 := Scalar.cmpi .eq c8_i32_378 c0_i32_379
  let c1_i32_380 : BitVec 32 := 1#32
  let v731 : BitVec 32 := Scalar.select v730 c1_i32_380 c8_i32_378
  let v732 : BitVec 32 := Scalar.remsi v729 v731
  let c0_i32_382 : BitVec 32 := 0#32
  let v734 : BitVec 1 := Scalar.cmpi .slt v732 c0_i32_382
  let c0_i32_383 : BitVec 32 := 0#32
  let v735 : BitVec 1 := Scalar.cmpi .slt v731 c0_i32_383
  let v736 : BitVec 1 := Scalar.xori v734 v735
  let c0_i32_381 : BitVec 32 := 0#32
  let v733 : BitVec 1 := Scalar.cmpi .ne v732 c0_i32_381
  let v737 : BitVec 1 := Scalar.andi v736 v733
  let v738 : BitVec 32 := Scalar.addi v732 v731
  let v739 : BitVec 32 := Scalar.select v737 v738 v732
  let v740 : BitVec 32 := Scalar.muli c2_i32_384 v739
  let c1_i32_385 : BitVec 32 := 1#32
  let v741 : BitVec 32 := Scalar.addi v740 c1_i32_385
  let c0_i32_426 : BitVec 32 := 0#32
  let v863 : BitVec 1 := Scalar.cmpi .sgt v741 c0_i32_426
  let v864 : BitVec 32 := Scalar.extui v863
  let c0_i32_427 : BitVec 32 := 0#32
  let v865 : BitVec 1 := Scalar.cmpi .slt v741 c0_i32_427
  let v866 : BitVec 32 := Scalar.extui v865
  let v867 : BitVec 32 := Scalar.subi v864 v866
  let c4_i32_425 : BitVec 32 := 4#32
  let c0_i32_428 : BitVec 32 := 0#32
  let v868 : BitVec 1 := Scalar.cmpi .sgt c4_i32_425 c0_i32_428
  let v869 : BitVec 32 := Scalar.extui v868
  let c0_i32_429 : BitVec 32 := 0#32
  let v870 : BitVec 1 := Scalar.cmpi .slt c4_i32_425 c0_i32_429
  let v871 : BitVec 32 := Scalar.extui v870
  let v872 : BitVec 32 := Scalar.subi v869 v871
  let v873 : BitVec 1 := Scalar.cmpi .ne v867 v872
  let v874 : BitVec 32 := Scalar.remsi v741 c4_i32_425
  let c0_i32_430 : BitVec 32 := 0#32
  let v875 : BitVec 1 := Scalar.cmpi .ne v874 c0_i32_430
  let v876 : BitVec 1 := Scalar.andi v873 v875
  let v862 : BitVec 32 := Scalar.divsi v741 c4_i32_425
  let c1_i32_431 : BitVec 32 := 1#32
  let v877 : BitVec 32 := Scalar.subi v862 c1_i32_431
  let v878 : BitVec 32 := Scalar.select v876 v877 v862
  let c256_i32_432 : BitVec 32 := 256#32
  let v879 : BitVec 32 := Scalar.muli v878 c256_i32_432
  let v894 : Index := Scalar.indexCast v879
  let c0_439 : Index := 0#32
  ![v894.toNat, 0]
def k0_dev13 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_506 : BitVec 32 := 1#32
  let v1020 : BitVec 32 := Scalar.muli v24 c1_i32_506
  let v1021 : BitVec 32 := Scalar.addi c0_i32_507 v1020
  v1021.toNat
def k0_dev14 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_518 : BitVec 32 := 1#32
  let v1030 : BitVec 32 := Scalar.muli v13 c1_i32_518
  let v1031 : BitVec 32 := Scalar.addi c0_i32_519 v1030
  v1031.toNat
def k0_dev15 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_565 : BitVec 32 := 1#32
  let v1074 : BitVec 32 := Scalar.muli v24 c1_i32_565
  let v1075 : BitVec 32 := Scalar.addi c0_i32_566 v1074
  v1075.toNat
def k0_dev16 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_577 : BitVec 32 := 1#32
  let v1084 : BitVec 32 := Scalar.muli v13 c1_i32_577
  let v1085 : BitVec 32 := Scalar.addi c0_i32_578 v1084
  v1085.toNat
def k0_dev17 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_624 : BitVec 32 := 1#32
  let v1128 : BitVec 32 := Scalar.muli v24 c1_i32_624
  let v1129 : BitVec 32 := Scalar.addi c0_i32_625 v1128
  v1129.toNat
def k0_dev18 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_636 : BitVec 32 := 1#32
  let v1138 : BitVec 32 := Scalar.muli v13 c1_i32_636
  let v1139 : BitVec 32 := Scalar.addi c0_i32_637 v1138
  v1139.toNat
def k0_dev19 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_683 : BitVec 32 := 1#32
  let v1182 : BitVec 32 := Scalar.muli v24 c1_i32_683
  let v1183 : BitVec 32 := Scalar.addi c0_i32_684 v1182
  v1183.toNat
def k0_dev20 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_695 : BitVec 32 := 1#32
  let v1192 : BitVec 32 := Scalar.muli v13 c1_i32_695
  let v1193 : BitVec 32 := Scalar.addi c0_i32_696 v1192
  v1193.toNat
def k0_dev21 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_841 : BitVec 32 := 1#32
  let v1507 : BitVec 32 := Scalar.muli v24 c1_i32_841
  let v1508 : BitVec 32 := Scalar.addi c0_i32_842 v1507
  v1508.toNat
def k0_dev22 (d0 : Dev nD) : Nat :=
  let c0_i32_854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_853 : BitVec 32 := 1#32
  let v1517 : BitVec 32 := Scalar.muli v13 c1_i32_853
  let v1518 : BitVec 32 := Scalar.addi c0_i32_854 v1517
  v1518.toNat
def k0_dev23 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_901 : BitVec 32 := 1#32
  let v1561 : BitVec 32 := Scalar.muli v24 c1_i32_901
  let v1562 : BitVec 32 := Scalar.addi c0_i32_902 v1561
  v1562.toNat
def k0_dev24 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_913 : BitVec 32 := 1#32
  let v1571 : BitVec 32 := Scalar.muli v13 c1_i32_913
  let v1572 : BitVec 32 := Scalar.addi c0_i32_914 v1571
  v1572.toNat
def k0_dev25 (d0 : Dev nD) : Nat :=
  let c0_i32_962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_961 : BitVec 32 := 1#32
  let v1615 : BitVec 32 := Scalar.muli v24 c1_i32_961
  let v1616 : BitVec 32 := Scalar.addi c0_i32_962 v1615
  v1616.toNat
def k0_dev26 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_973 : BitVec 32 := 1#32
  let v1625 : BitVec 32 := Scalar.muli v13 c1_i32_973
  let v1626 : BitVec 32 := Scalar.addi c0_i32_974 v1625
  v1626.toNat
def k0_dev27 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1020 : BitVec 32 := 1#32
  let v1669 : BitVec 32 := Scalar.muli v24 c1_i32_1020
  let v1670 : BitVec 32 := Scalar.addi c0_i32_1021 v1669
  v1670.toNat
def k0_dev28 (d0 : Dev nD) : Nat :=
  let c0_i32_1033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1032 : BitVec 32 := 1#32
  let v1679 : BitVec 32 := Scalar.muli v13 c1_i32_1032
  let v1680 : BitVec 32 := Scalar.addi c0_i32_1033 v1679
  v1680.toNat
def k0_dev29 (d0 : Dev nD) : Nat :=
  let c0_i32_1179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1178 : BitVec 32 := 1#32
  let v1994 : BitVec 32 := Scalar.muli v24 c1_i32_1178
  let v1995 : BitVec 32 := Scalar.addi c0_i32_1179 v1994
  v1995.toNat
def k0_dev30 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1190 : BitVec 32 := 1#32
  let v2004 : BitVec 32 := Scalar.muli v13 c1_i32_1190
  let v2005 : BitVec 32 := Scalar.addi c0_i32_1191 v2004
  v2005.toNat
def k0_dev31 (d0 : Dev nD) : Nat :=
  let c0_i32_1239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1238 : BitVec 32 := 1#32
  let v2048 : BitVec 32 := Scalar.muli v24 c1_i32_1238
  let v2049 : BitVec 32 := Scalar.addi c0_i32_1239 v2048
  v2049.toNat
def k0_dev32 (d0 : Dev nD) : Nat :=
  let c0_i32_1251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1250 : BitVec 32 := 1#32
  let v2058 : BitVec 32 := Scalar.muli v13 c1_i32_1250
  let v2059 : BitVec 32 := Scalar.addi c0_i32_1251 v2058
  v2059.toNat
def k0_dev33 (d0 : Dev nD) : Nat :=
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1298 : BitVec 32 := 1#32
  let v2102 : BitVec 32 := Scalar.muli v24 c1_i32_1298
  let v2103 : BitVec 32 := Scalar.addi c0_i32_1299 v2102
  v2103.toNat
def k0_dev34 (d0 : Dev nD) : Nat :=
  let c0_i32_1311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1310 : BitVec 32 := 1#32
  let v2112 : BitVec 32 := Scalar.muli v13 c1_i32_1310
  let v2113 : BitVec 32 := Scalar.addi c0_i32_1311 v2112
  v2113.toNat
def k0_dev35 (d0 : Dev nD) : Nat :=
  let c0_i32_1358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1357 : BitVec 32 := 1#32
  let v2156 : BitVec 32 := Scalar.muli v24 c1_i32_1357
  let v2157 : BitVec 32 := Scalar.addi c0_i32_1358 v2156
  v2157.toNat
def k0_dev36 (d0 : Dev nD) : Nat :=
  let c0_i32_1370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1369 : BitVec 32 := 1#32
  let v2166 : BitVec 32 := Scalar.muli v13 c1_i32_1369
  let v2167 : BitVec 32 := Scalar.addi c0_i32_1370 v2166
  v2167.toNat
def k0_dev37 (d0 : Dev nD) : Nat :=
  let c0_i32_1516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1515 : BitVec 32 := 1#32
  let v2481 : BitVec 32 := Scalar.muli v24 c1_i32_1515
  let v2482 : BitVec 32 := Scalar.addi c0_i32_1516 v2481
  v2482.toNat
def k0_dev38 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1527 : BitVec 32 := 1#32
  let v2491 : BitVec 32 := Scalar.muli v13 c1_i32_1527
  let v2492 : BitVec 32 := Scalar.addi c0_i32_1528 v2491
  v2492.toNat
def k0_dev39 (d0 : Dev nD) : Nat :=
  let c0_i32_1576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1575 : BitVec 32 := 1#32
  let v2535 : BitVec 32 := Scalar.muli v24 c1_i32_1575
  let v2536 : BitVec 32 := Scalar.addi c0_i32_1576 v2535
  v2536.toNat
def k0_dev40 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1587 : BitVec 32 := 1#32
  let v2545 : BitVec 32 := Scalar.muli v13 c1_i32_1587
  let v2546 : BitVec 32 := Scalar.addi c0_i32_1588 v2545
  v2546.toNat
def k0_dev41 (d0 : Dev nD) : Nat :=
  let c0_i32_1636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1635 : BitVec 32 := 1#32
  let v2589 : BitVec 32 := Scalar.muli v24 c1_i32_1635
  let v2590 : BitVec 32 := Scalar.addi c0_i32_1636 v2589
  v2590.toNat
def k0_dev42 (d0 : Dev nD) : Nat :=
  let c0_i32_1648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1647 : BitVec 32 := 1#32
  let v2599 : BitVec 32 := Scalar.muli v13 c1_i32_1647
  let v2600 : BitVec 32 := Scalar.addi c0_i32_1648 v2599
  v2600.toNat
def k0_dev43 (d0 : Dev nD) : Nat :=
  let c0_i32_1694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1693 : BitVec 32 := 1#32
  let v2643 : BitVec 32 := Scalar.muli v24 c1_i32_1693
  let v2644 : BitVec 32 := Scalar.addi c0_i32_1694 v2643
  v2644.toNat
def k0_dev44 (d0 : Dev nD) : Nat :=
  let c0_i32_1706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1705 : BitVec 32 := 1#32
  let v2653 : BitVec 32 := Scalar.muli v13 c1_i32_1705
  let v2654 : BitVec 32 := Scalar.addi c0_i32_1706 v2653
  v2654.toNat
def k0_dev45 (d0 : Dev nD) : Nat :=
  let c0_i32_1852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1851 : BitVec 32 := 1#32
  let v2968 : BitVec 32 := Scalar.muli v24 c1_i32_1851
  let v2969 : BitVec 32 := Scalar.addi c0_i32_1852 v2968
  v2969.toNat
def k0_dev46 (d0 : Dev nD) : Nat :=
  let c0_i32_1864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1863 : BitVec 32 := 1#32
  let v2978 : BitVec 32 := Scalar.muli v13 c1_i32_1863
  let v2979 : BitVec 32 := Scalar.addi c0_i32_1864 v2978
  v2979.toNat
def k0_dev47 (d0 : Dev nD) : Nat :=
  let c0_i32_1912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1911 : BitVec 32 := 1#32
  let v3022 : BitVec 32 := Scalar.muli v24 c1_i32_1911
  let v3023 : BitVec 32 := Scalar.addi c0_i32_1912 v3022
  v3023.toNat
def k0_dev48 (d0 : Dev nD) : Nat :=
  let c0_i32_1924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1923 : BitVec 32 := 1#32
  let v3032 : BitVec 32 := Scalar.muli v13 c1_i32_1923
  let v3033 : BitVec 32 := Scalar.addi c0_i32_1924 v3032
  v3033.toNat
def k0_dev49 (d0 : Dev nD) : Nat :=
  let c0_i32_1972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1971 : BitVec 32 := 1#32
  let v3076 : BitVec 32 := Scalar.muli v24 c1_i32_1971
  let v3077 : BitVec 32 := Scalar.addi c0_i32_1972 v3076
  v3077.toNat
def k0_dev50 (d0 : Dev nD) : Nat :=
  let c0_i32_1984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1983 : BitVec 32 := 1#32
  let v3086 : BitVec 32 := Scalar.muli v13 c1_i32_1983
  let v3087 : BitVec 32 := Scalar.addi c0_i32_1984 v3086
  v3087.toNat
def k0_dev51 (d0 : Dev nD) : Nat :=
  let c0_i32_2030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2029 : BitVec 32 := 1#32
  let v3130 : BitVec 32 := Scalar.muli v24 c1_i32_2029
  let v3131 : BitVec 32 := Scalar.addi c0_i32_2030 v3130
  v3131.toNat
def k0_dev52 (d0 : Dev nD) : Nat :=
  let c0_i32_2042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2041 : BitVec 32 := 1#32
  let v3140 : BitVec 32 := Scalar.muli v13 c1_i32_2041
  let v3141 : BitVec 32 := Scalar.addi c0_i32_2042 v3140
  v3141.toNat
def k0_dev53 (d0 : Dev nD) : Nat :=
  let c0_i32_2188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2187 : BitVec 32 := 1#32
  let v3455 : BitVec 32 := Scalar.muli v24 c1_i32_2187
  let v3456 : BitVec 32 := Scalar.addi c0_i32_2188 v3455
  v3456.toNat
def k0_dev54 (d0 : Dev nD) : Nat :=
  let c0_i32_2200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2199 : BitVec 32 := 1#32
  let v3465 : BitVec 32 := Scalar.muli v13 c1_i32_2199
  let v3466 : BitVec 32 := Scalar.addi c0_i32_2200 v3465
  v3466.toNat
def k0_dev55 (d0 : Dev nD) : Nat :=
  let c0_i32_2248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2247 : BitVec 32 := 1#32
  let v3509 : BitVec 32 := Scalar.muli v24 c1_i32_2247
  let v3510 : BitVec 32 := Scalar.addi c0_i32_2248 v3509
  v3510.toNat
def k0_dev56 (d0 : Dev nD) : Nat :=
  let c0_i32_2260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2259 : BitVec 32 := 1#32
  let v3519 : BitVec 32 := Scalar.muli v13 c1_i32_2259
  let v3520 : BitVec 32 := Scalar.addi c0_i32_2260 v3519
  v3520.toNat
def k0_dev57 (d0 : Dev nD) : Nat :=
  let c0_i32_2308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2307 : BitVec 32 := 1#32
  let v3563 : BitVec 32 := Scalar.muli v24 c1_i32_2307
  let v3564 : BitVec 32 := Scalar.addi c0_i32_2308 v3563
  v3564.toNat
def k0_dev58 (d0 : Dev nD) : Nat :=
  let c0_i32_2320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2319 : BitVec 32 := 1#32
  let v3573 : BitVec 32 := Scalar.muli v13 c1_i32_2319
  let v3574 : BitVec 32 := Scalar.addi c0_i32_2320 v3573
  v3574.toNat
def k0_off25 (d0 : Dev nD) : Fin 3 → Nat :=
  let c2_i32_27 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v32 : BitVec 32 := Scalar.addi v2 c1_i32_20
  let c8_i32_21 : BitVec 32 := 8#32
  let c0_i32_22 : BitVec 32 := 0#32
  let v33 : BitVec 1 := Scalar.cmpi .eq c8_i32_21 c0_i32_22
  let c1_i32_23 : BitVec 32 := 1#32
  let v34 : BitVec 32 := Scalar.select v33 c1_i32_23 c8_i32_21
  let v35 : BitVec 32 := Scalar.remsi v32 v34
  let c0_i32_25 : BitVec 32 := 0#32
  let v37 : BitVec 1 := Scalar.cmpi .slt v35 c0_i32_25
  let c0_i32_26 : BitVec 32 := 0#32
  let v38 : BitVec 1 := Scalar.cmpi .slt v34 c0_i32_26
  let v39 : BitVec 1 := Scalar.xori v37 v38
  let c0_i32_24 : BitVec 32 := 0#32
  let v36 : BitVec 1 := Scalar.cmpi .ne v35 c0_i32_24
  let v40 : BitVec 1 := Scalar.andi v39 v36
  let v41 : BitVec 32 := Scalar.addi v35 v34
  let v42 : BitVec 32 := Scalar.select v40 v41 v35
  let v43 : BitVec 32 := Scalar.muli c2_i32_27 v42
  let v3605 : Index := Scalar.indexCast v43
  let c0_2351 : Index := 0#32
  let c0_2352 : Index := 0#32
  ![v3605.toNat, 0, 0]
def k0_off26 (d0 : Dev nD) : Fin 3 → Nat :=
  let c2_i32_35 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v44 : BitVec 32 := Scalar.subi v2 c1_i32_28
  let c8_i32_29 : BitVec 32 := 8#32
  let c0_i32_30 : BitVec 32 := 0#32
  let v45 : BitVec 1 := Scalar.cmpi .eq c8_i32_29 c0_i32_30
  let c1_i32_31 : BitVec 32 := 1#32
  let v46 : BitVec 32 := Scalar.select v45 c1_i32_31 c8_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let v55 : BitVec 32 := Scalar.muli c2_i32_35 v54
  let c1_i32_36 : BitVec 32 := 1#32
  let v56 : BitVec 32 := Scalar.addi v55 c1_i32_36
  let v3615 : Index := Scalar.indexCast v56
  let c0_2356 : Index := 0#32
  let c0_2357 : Index := 0#32
  ![v3615.toNat, 0, 0]
def k0_off27 (d0 : Dev nD) : Fin 3 → Nat :=
  let c2_i32_27 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v32 : BitVec 32 := Scalar.addi v2 c1_i32_20
  let c8_i32_21 : BitVec 32 := 8#32
  let c0_i32_22 : BitVec 32 := 0#32
  let v33 : BitVec 1 := Scalar.cmpi .eq c8_i32_21 c0_i32_22
  let c1_i32_23 : BitVec 32 := 1#32
  let v34 : BitVec 32 := Scalar.select v33 c1_i32_23 c8_i32_21
  let v35 : BitVec 32 := Scalar.remsi v32 v34
  let c0_i32_25 : BitVec 32 := 0#32
  let v37 : BitVec 1 := Scalar.cmpi .slt v35 c0_i32_25
  let c0_i32_26 : BitVec 32 := 0#32
  let v38 : BitVec 1 := Scalar.cmpi .slt v34 c0_i32_26
  let v39 : BitVec 1 := Scalar.xori v37 v38
  let c0_i32_24 : BitVec 32 := 0#32
  let v36 : BitVec 1 := Scalar.cmpi .ne v35 c0_i32_24
  let v40 : BitVec 1 := Scalar.andi v39 v36
  let v41 : BitVec 32 := Scalar.addi v35 v34
  let v42 : BitVec 32 := Scalar.select v40 v41 v35
  let v43 : BitVec 32 := Scalar.muli c2_i32_27 v42
  let v3641 : Index := Scalar.indexCast v43
  let c0_2385 : Index := 0#32
  let c1024_2386 : Index := 1024#32
  ![v3641.toNat, 0, 1024]
def k0_off28 (d0 : Dev nD) : Fin 3 → Nat :=
  let c2_i32_35 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v44 : BitVec 32 := Scalar.subi v2 c1_i32_28
  let c8_i32_29 : BitVec 32 := 8#32
  let c0_i32_30 : BitVec 32 := 0#32
  let v45 : BitVec 1 := Scalar.cmpi .eq c8_i32_29 c0_i32_30
  let c1_i32_31 : BitVec 32 := 1#32
  let v46 : BitVec 32 := Scalar.select v45 c1_i32_31 c8_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let v55 : BitVec 32 := Scalar.muli c2_i32_35 v54
  let c1_i32_36 : BitVec 32 := 1#32
  let v56 : BitVec 32 := Scalar.addi v55 c1_i32_36
  let v3651 : Index := Scalar.indexCast v56
  let c0_2390 : Index := 0#32
  let c1024_2391 : Index := 1024#32
  ![v3651.toNat, 0, 1024]
def k0_off29 (d0 : Dev nD) : Fin 3 → Nat :=
  let c2_i32_27 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v32 : BitVec 32 := Scalar.addi v2 c1_i32_20
  let c8_i32_21 : BitVec 32 := 8#32
  let c0_i32_22 : BitVec 32 := 0#32
  let v33 : BitVec 1 := Scalar.cmpi .eq c8_i32_21 c0_i32_22
  let c1_i32_23 : BitVec 32 := 1#32
  let v34 : BitVec 32 := Scalar.select v33 c1_i32_23 c8_i32_21
  let v35 : BitVec 32 := Scalar.remsi v32 v34
  let c0_i32_25 : BitVec 32 := 0#32
  let v37 : BitVec 1 := Scalar.cmpi .slt v35 c0_i32_25
  let c0_i32_26 : BitVec 32 := 0#32
  let v38 : BitVec 1 := Scalar.cmpi .slt v34 c0_i32_26
  let v39 : BitVec 1 := Scalar.xori v37 v38
  let c0_i32_24 : BitVec 32 := 0#32
  let v36 : BitVec 1 := Scalar.cmpi .ne v35 c0_i32_24
  let v40 : BitVec 1 := Scalar.andi v39 v36
  let v41 : BitVec 32 := Scalar.addi v35 v34
  let v42 : BitVec 32 := Scalar.select v40 v41 v35
  let v43 : BitVec 32 := Scalar.muli c2_i32_27 v42
  let v3677 : Index := Scalar.indexCast v43
  let c0_2419 : Index := 0#32
  let c2048_2420 : Index := 2048#32
  ![v3677.toNat, 0, 2048]
def k0_off30 (d0 : Dev nD) : Fin 3 → Nat :=
  let c2_i32_35 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v44 : BitVec 32 := Scalar.subi v2 c1_i32_28
  let c8_i32_29 : BitVec 32 := 8#32
  let c0_i32_30 : BitVec 32 := 0#32
  let v45 : BitVec 1 := Scalar.cmpi .eq c8_i32_29 c0_i32_30
  let c1_i32_31 : BitVec 32 := 1#32
  let v46 : BitVec 32 := Scalar.select v45 c1_i32_31 c8_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let v55 : BitVec 32 := Scalar.muli c2_i32_35 v54
  let c1_i32_36 : BitVec 32 := 1#32
  let v56 : BitVec 32 := Scalar.addi v55 c1_i32_36
  let v3687 : Index := Scalar.indexCast v56
  let c0_2424 : Index := 0#32
  let c2048_2425 : Index := 2048#32
  ![v3687.toNat, 0, 2048]
def k0_off31 (d0 : Dev nD) : Fin 3 → Nat :=
  let c2_i32_27 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v32 : BitVec 32 := Scalar.addi v2 c1_i32_20
  let c8_i32_21 : BitVec 32 := 8#32
  let c0_i32_22 : BitVec 32 := 0#32
  let v33 : BitVec 1 := Scalar.cmpi .eq c8_i32_21 c0_i32_22
  let c1_i32_23 : BitVec 32 := 1#32
  let v34 : BitVec 32 := Scalar.select v33 c1_i32_23 c8_i32_21
  let v35 : BitVec 32 := Scalar.remsi v32 v34
  let c0_i32_25 : BitVec 32 := 0#32
  let v37 : BitVec 1 := Scalar.cmpi .slt v35 c0_i32_25
  let c0_i32_26 : BitVec 32 := 0#32
  let v38 : BitVec 1 := Scalar.cmpi .slt v34 c0_i32_26
  let v39 : BitVec 1 := Scalar.xori v37 v38
  let c0_i32_24 : BitVec 32 := 0#32
  let v36 : BitVec 1 := Scalar.cmpi .ne v35 c0_i32_24
  let v40 : BitVec 1 := Scalar.andi v39 v36
  let v41 : BitVec 32 := Scalar.addi v35 v34
  let v42 : BitVec 32 := Scalar.select v40 v41 v35
  let v43 : BitVec 32 := Scalar.muli c2_i32_27 v42
  let v3713 : Index := Scalar.indexCast v43
  let c0_2453 : Index := 0#32
  let c3072_2454 : Index := 3072#32
  ![v3713.toNat, 0, 3072]
def k0_off32 (d0 : Dev nD) : Fin 3 → Nat :=
  let c2_i32_35 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v44 : BitVec 32 := Scalar.subi v2 c1_i32_28
  let c8_i32_29 : BitVec 32 := 8#32
  let c0_i32_30 : BitVec 32 := 0#32
  let v45 : BitVec 1 := Scalar.cmpi .eq c8_i32_29 c0_i32_30
  let c1_i32_31 : BitVec 32 := 1#32
  let v46 : BitVec 32 := Scalar.select v45 c1_i32_31 c8_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let v55 : BitVec 32 := Scalar.muli c2_i32_35 v54
  let c1_i32_36 : BitVec 32 := 1#32
  let v56 : BitVec 32 := Scalar.addi v55 c1_i32_36
  let v3723 : Index := Scalar.indexCast v56
  let c0_2458 : Index := 0#32
  let c3072_2459 : Index := 3072#32
  ![v3723.toNat, 0, 3072]
def k0_off33 (d0 : Dev nD) : Fin 3 → Nat :=
  let c2_i32_2468 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2461 : BitVec 32 := 1#32
  let v3728 : BitVec 32 := Scalar.addi v2 c1_i32_2461
  let c8_i32_2462 : BitVec 32 := 8#32
  let c0_i32_2463 : BitVec 32 := 0#32
  let v3729 : BitVec 1 := Scalar.cmpi .eq c8_i32_2462 c0_i32_2463
  let c1_i32_2464 : BitVec 32 := 1#32
  let v3730 : BitVec 32 := Scalar.select v3729 c1_i32_2464 c8_i32_2462
  let v3731 : BitVec 32 := Scalar.remsi v3728 v3730
  let c0_i32_2466 : BitVec 32 := 0#32
  let v3733 : BitVec 1 := Scalar.cmpi .slt v3731 c0_i32_2466
  let c0_i32_2467 : BitVec 32 := 0#32
  let v3734 : BitVec 1 := Scalar.cmpi .slt v3730 c0_i32_2467
  let v3735 : BitVec 1 := Scalar.xori v3733 v3734
  let c0_i32_2465 : BitVec 32 := 0#32
  let v3732 : BitVec 1 := Scalar.cmpi .ne v3731 c0_i32_2465
  let v3736 : BitVec 1 := Scalar.andi v3735 v3732
  let v3737 : BitVec 32 := Scalar.addi v3731 v3730
  let v3738 : BitVec 32 := Scalar.select v3736 v3737 v3731
  let v3739 : BitVec 32 := Scalar.muli c2_i32_2468 v3738
  let c0_i32_2484 : BitVec 32 := 0#32
  let c0_i32_2485 : BitVec 32 := 0#32
  ![v3739.toNat, 0, 0]
def k0_dev59 (d0 : Dev nD) : Nat :=
  let c0_i32_2483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2460 : BitVec 32 := 1#32
  let v3727 : BitVec 32 := Scalar.xori v2 c1_i32_2460
  let c1_i32_2482 : BitVec 32 := 1#32
  let v3753 : BitVec 32 := Scalar.muli v3727 c1_i32_2482
  let v3754 : BitVec 32 := Scalar.addi c0_i32_2483 v3753
  v3754.toNat
def k0_off34 (d0 : Dev nD) : Fin 3 → Nat :=
  let c2_i32_2476 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2469 : BitVec 32 := 1#32
  let v3740 : BitVec 32 := Scalar.subi v2 c1_i32_2469
  let c8_i32_2470 : BitVec 32 := 8#32
  let c0_i32_2471 : BitVec 32 := 0#32
  let v3741 : BitVec 1 := Scalar.cmpi .eq c8_i32_2470 c0_i32_2471
  let c1_i32_2472 : BitVec 32 := 1#32
  let v3742 : BitVec 32 := Scalar.select v3741 c1_i32_2472 c8_i32_2470
  let v3743 : BitVec 32 := Scalar.remsi v3740 v3742
  let c0_i32_2474 : BitVec 32 := 0#32
  let v3745 : BitVec 1 := Scalar.cmpi .slt v3743 c0_i32_2474
  let c0_i32_2475 : BitVec 32 := 0#32
  let v3746 : BitVec 1 := Scalar.cmpi .slt v3742 c0_i32_2475
  let v3747 : BitVec 1 := Scalar.xori v3745 v3746
  let c0_i32_2473 : BitVec 32 := 0#32
  let v3744 : BitVec 1 := Scalar.cmpi .ne v3743 c0_i32_2473
  let v3748 : BitVec 1 := Scalar.andi v3747 v3744
  let v3749 : BitVec 32 := Scalar.addi v3743 v3742
  let v3750 : BitVec 32 := Scalar.select v3748 v3749 v3743
  let v3751 : BitVec 32 := Scalar.muli c2_i32_2476 v3750
  let c1_i32_2477 : BitVec 32 := 1#32
  let v3752 : BitVec 32 := Scalar.addi v3751 c1_i32_2477
  let c0_i32_2494 : BitVec 32 := 0#32
  let c0_i32_2495 : BitVec 32 := 0#32
  ![v3752.toNat, 0, 0]
def k0_dev60 (d0 : Dev nD) : Nat :=
  let c0_i32_2493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2460 : BitVec 32 := 1#32
  let v3727 : BitVec 32 := Scalar.xori v2 c1_i32_2460
  let c1_i32_2492 : BitVec 32 := 1#32
  let v3763 : BitVec 32 := Scalar.muli v3727 c1_i32_2492
  let v3764 : BitVec 32 := Scalar.addi c0_i32_2493 v3763
  v3764.toNat
def k0_off35 (d0 : Dev nD) : Fin 3 → Nat :=
  let c2_i32_2521 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2514 : BitVec 32 := 1#32
  let v3804 : BitVec 32 := Scalar.addi v2 c1_i32_2514
  let c8_i32_2515 : BitVec 32 := 8#32
  let c0_i32_2516 : BitVec 32 := 0#32
  let v3805 : BitVec 1 := Scalar.cmpi .eq c8_i32_2515 c0_i32_2516
  let c1_i32_2517 : BitVec 32 := 1#32
  let v3806 : BitVec 32 := Scalar.select v3805 c1_i32_2517 c8_i32_2515
  let v3807 : BitVec 32 := Scalar.remsi v3804 v3806
  let c0_i32_2519 : BitVec 32 := 0#32
  let v3809 : BitVec 1 := Scalar.cmpi .slt v3807 c0_i32_2519
  let c0_i32_2520 : BitVec 32 := 0#32
  let v3810 : BitVec 1 := Scalar.cmpi .slt v3806 c0_i32_2520
  let v3811 : BitVec 1 := Scalar.xori v3809 v3810
  let c0_i32_2518 : BitVec 32 := 0#32
  let v3808 : BitVec 1 := Scalar.cmpi .ne v3807 c0_i32_2518
  let v3812 : BitVec 1 := Scalar.andi v3811 v3808
  let v3813 : BitVec 32 := Scalar.addi v3807 v3806
  let v3814 : BitVec 32 := Scalar.select v3812 v3813 v3807
  let v3815 : BitVec 32 := Scalar.muli c2_i32_2521 v3814
  let c0_i32_2537 : BitVec 32 := 0#32
  let c1280_i32 : BitVec 32 := 1280#32
  ![v3815.toNat, 0, 1280]
def k0_dev61 (d0 : Dev nD) : Nat :=
  let c0_i32_2536 : BitVec 32 := 0#32
  let c4_i32_2506 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2500 : BitVec 32 := 0#32
  let v3775 : BitVec 1 := Scalar.cmpi .sgt v2 c0_i32_2500
  let v3776 : BitVec 32 := Scalar.extui v3775
  let c0_i32_2501 : BitVec 32 := 0#32
  let v3777 : BitVec 1 := Scalar.cmpi .slt v2 c0_i32_2501
  let v3778 : BitVec 32 := Scalar.extui v3777
  let v3779 : BitVec 32 := Scalar.subi v3776 v3778
  let c4_i32_2499 : BitVec 32 := 4#32
  let c0_i32_2502 : BitVec 32 := 0#32
  let v3780 : BitVec 1 := Scalar.cmpi .sgt c4_i32_2499 c0_i32_2502
  let v3781 : BitVec 32 := Scalar.extui v3780
  let c0_i32_2503 : BitVec 32 := 0#32
  let v3782 : BitVec 1 := Scalar.cmpi .slt c4_i32_2499 c0_i32_2503
  let v3783 : BitVec 32 := Scalar.extui v3782
  let v3784 : BitVec 32 := Scalar.subi v3781 v3783
  let v3785 : BitVec 1 := Scalar.cmpi .ne v3779 v3784
  let v3786 : BitVec 32 := Scalar.remsi v2 c4_i32_2499
  let c0_i32_2504 : BitVec 32 := 0#32
  let v3787 : BitVec 1 := Scalar.cmpi .ne v3786 c0_i32_2504
  let v3788 : BitVec 1 := Scalar.andi v3785 v3787
  let v3774 : BitVec 32 := Scalar.divsi v2 c4_i32_2499
  let c1_i32_2505 : BitVec 32 := 1#32
  let v3789 : BitVec 32 := Scalar.subi v3774 c1_i32_2505
  let v3790 : BitVec 32 := Scalar.select v3788 v3789 v3774
  let v3791 : BitVec 32 := Scalar.muli c4_i32_2506 v3790
  let c3_i32_2513 : BitVec 32 := 3#32
  let c4_i32_2507 : BitVec 32 := 4#32
  let c0_i32_2508 : BitVec 32 := 0#32
  let v3792 : BitVec 1 := Scalar.cmpi .eq c4_i32_2507 c0_i32_2508
  let c1_i32_2509 : BitVec 32 := 1#32
  let v3793 : BitVec 32 := Scalar.select v3792 c1_i32_2509 c4_i32_2507
  let v3794 : BitVec 32 := Scalar.remsi v2 v3793
  let c0_i32_2511 : BitVec 32 := 0#32
  let v3796 : BitVec 1 := Scalar.cmpi .slt v3794 c0_i32_2511
  let c0_i32_2512 : BitVec 32 := 0#32
  let v3797 : BitVec 1 := Scalar.cmpi .slt v3793 c0_i32_2512
  let v3798 : BitVec 1 := Scalar.xori v3796 v3797
  let c0_i32_2510 : BitVec 32 := 0#32
  let v3795 : BitVec 1 := Scalar.cmpi .ne v3794 c0_i32_2510
  let v3799 : BitVec 1 := Scalar.andi v3798 v3795
  let v3800 : BitVec 32 := Scalar.addi v3794 v3793
  let v3801 : BitVec 32 := Scalar.select v3799 v3800 v3794
  let v3802 : BitVec 32 := Scalar.subi c3_i32_2513 v3801
  let v3803 : BitVec 32 := Scalar.addi v3791 v3802
  let c1_i32_2535 : BitVec 32 := 1#32
  let v3829 : BitVec 32 := Scalar.muli v3803 c1_i32_2535
  let v3830 : BitVec 32 := Scalar.addi c0_i32_2536 v3829
  v3830.toNat
def k0_off36 (d0 : Dev nD) : Fin 3 → Nat :=
  let c2_i32_2529 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2522 : BitVec 32 := 1#32
  let v3816 : BitVec 32 := Scalar.subi v2 c1_i32_2522
  let c8_i32_2523 : BitVec 32 := 8#32
  let c0_i32_2524 : BitVec 32 := 0#32
  let v3817 : BitVec 1 := Scalar.cmpi .eq c8_i32_2523 c0_i32_2524
  let c1_i32_2525 : BitVec 32 := 1#32
  let v3818 : BitVec 32 := Scalar.select v3817 c1_i32_2525 c8_i32_2523
  let v3819 : BitVec 32 := Scalar.remsi v3816 v3818
  let c0_i32_2527 : BitVec 32 := 0#32
  let v3821 : BitVec 1 := Scalar.cmpi .slt v3819 c0_i32_2527
  let c0_i32_2528 : BitVec 32 := 0#32
  let v3822 : BitVec 1 := Scalar.cmpi .slt v3818 c0_i32_2528
  let v3823 : BitVec 1 := Scalar.xori v3821 v3822
  let c0_i32_2526 : BitVec 32 := 0#32
  let v3820 : BitVec 1 := Scalar.cmpi .ne v3819 c0_i32_2526
  let v3824 : BitVec 1 := Scalar.andi v3823 v3820
  let v3825 : BitVec 32 := Scalar.addi v3819 v3818
  let v3826 : BitVec 32 := Scalar.select v3824 v3825 v3819
  let v3827 : BitVec 32 := Scalar.muli c2_i32_2529 v3826
  let c1_i32_2530 : BitVec 32 := 1#32
  let v3828 : BitVec 32 := Scalar.addi v3827 c1_i32_2530
  let c0_i32_2546 : BitVec 32 := 0#32
  let c1280_i32_2547 : BitVec 32 := 1280#32
  ![v3828.toNat, 0, 1280]
def k0_dev62 (d0 : Dev nD) : Nat :=
  let c0_i32_2545 : BitVec 32 := 0#32
  let c4_i32_2506 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2500 : BitVec 32 := 0#32
  let v3775 : BitVec 1 := Scalar.cmpi .sgt v2 c0_i32_2500
  let v3776 : BitVec 32 := Scalar.extui v3775
  let c0_i32_2501 : BitVec 32 := 0#32
  let v3777 : BitVec 1 := Scalar.cmpi .slt v2 c0_i32_2501
  let v3778 : BitVec 32 := Scalar.extui v3777
  let v3779 : BitVec 32 := Scalar.subi v3776 v3778
  let c4_i32_2499 : BitVec 32 := 4#32
  let c0_i32_2502 : BitVec 32 := 0#32
  let v3780 : BitVec 1 := Scalar.cmpi .sgt c4_i32_2499 c0_i32_2502
  let v3781 : BitVec 32 := Scalar.extui v3780
  let c0_i32_2503 : BitVec 32 := 0#32
  let v3782 : BitVec 1 := Scalar.cmpi .slt c4_i32_2499 c0_i32_2503
  let v3783 : BitVec 32 := Scalar.extui v3782
  let v3784 : BitVec 32 := Scalar.subi v3781 v3783
  let v3785 : BitVec 1 := Scalar.cmpi .ne v3779 v3784
  let v3786 : BitVec 32 := Scalar.remsi v2 c4_i32_2499
  let c0_i32_2504 : BitVec 32 := 0#32
  let v3787 : BitVec 1 := Scalar.cmpi .ne v3786 c0_i32_2504
  let v3788 : BitVec 1 := Scalar.andi v3785 v3787
  let v3774 : BitVec 32 := Scalar.divsi v2 c4_i32_2499
  let c1_i32_2505 : BitVec 32 := 1#32
  let v3789 : BitVec 32 := Scalar.subi v3774 c1_i32_2505
  let v3790 : BitVec 32 := Scalar.select v3788 v3789 v3774
  let v3791 : BitVec 32 := Scalar.muli c4_i32_2506 v3790
  let c3_i32_2513 : BitVec 32 := 3#32
  let c4_i32_2507 : BitVec 32 := 4#32
  let c0_i32_2508 : BitVec 32 := 0#32
  let v3792 : BitVec 1 := Scalar.cmpi .eq c4_i32_2507 c0_i32_2508
  let c1_i32_2509 : BitVec 32 := 1#32
  let v3793 : BitVec 32 := Scalar.select v3792 c1_i32_2509 c4_i32_2507
  let v3794 : BitVec 32 := Scalar.remsi v2 v3793
  let c0_i32_2511 : BitVec 32 := 0#32
  let v3796 : BitVec 1 := Scalar.cmpi .slt v3794 c0_i32_2511
  let c0_i32_2512 : BitVec 32 := 0#32
  let v3797 : BitVec 1 := Scalar.cmpi .slt v3793 c0_i32_2512
  let v3798 : BitVec 1 := Scalar.xori v3796 v3797
  let c0_i32_2510 : BitVec 32 := 0#32
  let v3795 : BitVec 1 := Scalar.cmpi .ne v3794 c0_i32_2510
  let v3799 : BitVec 1 := Scalar.andi v3798 v3795
  let v3800 : BitVec 32 := Scalar.addi v3794 v3793
  let v3801 : BitVec 32 := Scalar.select v3799 v3800 v3794
  let v3802 : BitVec 32 := Scalar.subi c3_i32_2513 v3801
  let v3803 : BitVec 32 := Scalar.addi v3791 v3802
  let c1_i32_2544 : BitVec 32 := 1#32
  let v3839 : BitVec 32 := Scalar.muli v3803 c1_i32_2544
  let v3840 : BitVec 32 := Scalar.addi c0_i32_2545 v3839
  v3840.toNat
def k0_off37 (d0 : Dev nD) : Fin 3 → Nat :=
  let c2_i32_2573 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2566 : BitVec 32 := 1#32
  let v3880 : BitVec 32 := Scalar.addi v2 c1_i32_2566
  let c8_i32_2567 : BitVec 32 := 8#32
  let c0_i32_2568 : BitVec 32 := 0#32
  let v3881 : BitVec 1 := Scalar.cmpi .eq c8_i32_2567 c0_i32_2568
  let c1_i32_2569 : BitVec 32 := 1#32
  let v3882 : BitVec 32 := Scalar.select v3881 c1_i32_2569 c8_i32_2567
  let v3883 : BitVec 32 := Scalar.remsi v3880 v3882
  let c0_i32_2571 : BitVec 32 := 0#32
  let v3885 : BitVec 1 := Scalar.cmpi .slt v3883 c0_i32_2571
  let c0_i32_2572 : BitVec 32 := 0#32
  let v3886 : BitVec 1 := Scalar.cmpi .slt v3882 c0_i32_2572
  let v3887 : BitVec 1 := Scalar.xori v3885 v3886
  let c0_i32_2570 : BitVec 32 := 0#32
  let v3884 : BitVec 1 := Scalar.cmpi .ne v3883 c0_i32_2570
  let v3888 : BitVec 1 := Scalar.andi v3887 v3884
  let v3889 : BitVec 32 := Scalar.addi v3883 v3882
  let v3890 : BitVec 32 := Scalar.select v3888 v3889 v3883
  let v3891 : BitVec 32 := Scalar.muli c2_i32_2573 v3890
  let c0_i32_2589 : BitVec 32 := 0#32
  let c2688_i32 : BitVec 32 := 2688#32
  ![v3891.toNat, 0, 2688]
def k0_dev63 (d0 : Dev nD) : Nat :=
  let c0_i32_2588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2565 : BitVec 32 := 4#32
  let v3879 : BitVec 32 := Scalar.xori v2 c4_i32_2565
  let c1_i32_2587 : BitVec 32 := 1#32
  let v3905 : BitVec 32 := Scalar.muli v3879 c1_i32_2587
  let v3906 : BitVec 32 := Scalar.addi c0_i32_2588 v3905
  v3906.toNat
def k0_off38 (d0 : Dev nD) : Fin 3 → Nat :=
  let c2_i32_2581 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2574 : BitVec 32 := 1#32
  let v3892 : BitVec 32 := Scalar.subi v2 c1_i32_2574
  let c8_i32_2575 : BitVec 32 := 8#32
  let c0_i32_2576 : BitVec 32 := 0#32
  let v3893 : BitVec 1 := Scalar.cmpi .eq c8_i32_2575 c0_i32_2576
  let c1_i32_2577 : BitVec 32 := 1#32
  let v3894 : BitVec 32 := Scalar.select v3893 c1_i32_2577 c8_i32_2575
  let v3895 : BitVec 32 := Scalar.remsi v3892 v3894
  let c0_i32_2579 : BitVec 32 := 0#32
  let v3897 : BitVec 1 := Scalar.cmpi .slt v3895 c0_i32_2579
  let c0_i32_2580 : BitVec 32 := 0#32
  let v3898 : BitVec 1 := Scalar.cmpi .slt v3894 c0_i32_2580
  let v3899 : BitVec 1 := Scalar.xori v3897 v3898
  let c0_i32_2578 : BitVec 32 := 0#32
  let v3896 : BitVec 1 := Scalar.cmpi .ne v3895 c0_i32_2578
  let v3900 : BitVec 1 := Scalar.andi v3899 v3896
  let v3901 : BitVec 32 := Scalar.addi v3895 v3894
  let v3902 : BitVec 32 := Scalar.select v3900 v3901 v3895
  let v3903 : BitVec 32 := Scalar.muli c2_i32_2581 v3902
  let c1_i32_2582 : BitVec 32 := 1#32
  let v3904 : BitVec 32 := Scalar.addi v3903 c1_i32_2582
  let c0_i32_2598 : BitVec 32 := 0#32
  let c2688_i32_2599 : BitVec 32 := 2688#32
  ![v3904.toNat, 0, 2688]
def k0_dev64 (d0 : Dev nD) : Nat :=
  let c0_i32_2597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2565 : BitVec 32 := 4#32
  let v3879 : BitVec 32 := Scalar.xori v2 c4_i32_2565
  let c1_i32_2596 : BitVec 32 := 1#32
  let v3915 : BitVec 32 := Scalar.muli v3879 c1_i32_2596
  let v3916 : BitVec 32 := Scalar.addi c0_i32_2597 v3915
  v3916.toNat
def k0_dev65 (d0 : Dev nD) : Nat :=
  let c0_i32_2700 : BitVec 32 := 0#32
  let c4_i32_2670 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2664 : BitVec 32 := 0#32
  let v3975 : BitVec 1 := Scalar.cmpi .sgt v2 c0_i32_2664
  let v3976 : BitVec 32 := Scalar.extui v3975
  let c0_i32_2665 : BitVec 32 := 0#32
  let v3977 : BitVec 1 := Scalar.cmpi .slt v2 c0_i32_2665
  let v3978 : BitVec 32 := Scalar.extui v3977
  let v3979 : BitVec 32 := Scalar.subi v3976 v3978
  let c4_i32_2663 : BitVec 32 := 4#32
  let c0_i32_2666 : BitVec 32 := 0#32
  let v3980 : BitVec 1 := Scalar.cmpi .sgt c4_i32_2663 c0_i32_2666
  let v3981 : BitVec 32 := Scalar.extui v3980
  let c0_i32_2667 : BitVec 32 := 0#32
  let v3982 : BitVec 1 := Scalar.cmpi .slt c4_i32_2663 c0_i32_2667
  let v3983 : BitVec 32 := Scalar.extui v3982
  let v3984 : BitVec 32 := Scalar.subi v3981 v3983
  let v3985 : BitVec 1 := Scalar.cmpi .ne v3979 v3984
  let v3986 : BitVec 32 := Scalar.remsi v2 c4_i32_2663
  let c0_i32_2668 : BitVec 32 := 0#32
  let v3987 : BitVec 1 := Scalar.cmpi .ne v3986 c0_i32_2668
  let v3988 : BitVec 1 := Scalar.andi v3985 v3987
  let v3974 : BitVec 32 := Scalar.divsi v2 c4_i32_2663
  let c1_i32_2669 : BitVec 32 := 1#32
  let v3989 : BitVec 32 := Scalar.subi v3974 c1_i32_2669
  let v3990 : BitVec 32 := Scalar.select v3988 v3989 v3974
  let v3991 : BitVec 32 := Scalar.muli c4_i32_2670 v3990
  let c3_i32_2677 : BitVec 32 := 3#32
  let c4_i32_2671 : BitVec 32 := 4#32
  let c0_i32_2672 : BitVec 32 := 0#32
  let v3992 : BitVec 1 := Scalar.cmpi .eq c4_i32_2671 c0_i32_2672
  let c1_i32_2673 : BitVec 32 := 1#32
  let v3993 : BitVec 32 := Scalar.select v3992 c1_i32_2673 c4_i32_2671
  let v3994 : BitVec 32 := Scalar.remsi v2 v3993
  let c0_i32_2675 : BitVec 32 := 0#32
  let v3996 : BitVec 1 := Scalar.cmpi .slt v3994 c0_i32_2675
  let c0_i32_2676 : BitVec 32 := 0#32
  let v3997 : BitVec 1 := Scalar.cmpi .slt v3993 c0_i32_2676
  let v3998 : BitVec 1 := Scalar.xori v3996 v3997
  let c0_i32_2674 : BitVec 32 := 0#32
  let v3995 : BitVec 1 := Scalar.cmpi .ne v3994 c0_i32_2674
  let v3999 : BitVec 1 := Scalar.andi v3998 v3995
  let v4000 : BitVec 32 := Scalar.addi v3994 v3993
  let v4001 : BitVec 32 := Scalar.select v3999 v4000 v3994
  let v4002 : BitVec 32 := Scalar.subi c3_i32_2677 v4001
  let v4003 : BitVec 32 := Scalar.addi v3991 v4002
  let c1_i32_2699 : BitVec 32 := 1#32
  let v4029 : BitVec 32 := Scalar.muli v4003 c1_i32_2699
  let v4030 : BitVec 32 := Scalar.addi c0_i32_2700 v4029
  v4030.toNat
def k0_dev66 (d0 : Dev nD) : Nat :=
  let c0_i32_2710 : BitVec 32 := 0#32
  let c4_i32_2670 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2664 : BitVec 32 := 0#32
  let v3975 : BitVec 1 := Scalar.cmpi .sgt v2 c0_i32_2664
  let v3976 : BitVec 32 := Scalar.extui v3975
  let c0_i32_2665 : BitVec 32 := 0#32
  let v3977 : BitVec 1 := Scalar.cmpi .slt v2 c0_i32_2665
  let v3978 : BitVec 32 := Scalar.extui v3977
  let v3979 : BitVec 32 := Scalar.subi v3976 v3978
  let c4_i32_2663 : BitVec 32 := 4#32
  let c0_i32_2666 : BitVec 32 := 0#32
  let v3980 : BitVec 1 := Scalar.cmpi .sgt c4_i32_2663 c0_i32_2666
  let v3981 : BitVec 32 := Scalar.extui v3980
  let c0_i32_2667 : BitVec 32 := 0#32
  let v3982 : BitVec 1 := Scalar.cmpi .slt c4_i32_2663 c0_i32_2667
  let v3983 : BitVec 32 := Scalar.extui v3982
  let v3984 : BitVec 32 := Scalar.subi v3981 v3983
  let v3985 : BitVec 1 := Scalar.cmpi .ne v3979 v3984
  let v3986 : BitVec 32 := Scalar.remsi v2 c4_i32_2663
  let c0_i32_2668 : BitVec 32 := 0#32
  let v3987 : BitVec 1 := Scalar.cmpi .ne v3986 c0_i32_2668
  let v3988 : BitVec 1 := Scalar.andi v3985 v3987
  let v3974 : BitVec 32 := Scalar.divsi v2 c4_i32_2663
  let c1_i32_2669 : BitVec 32 := 1#32
  let v3989 : BitVec 32 := Scalar.subi v3974 c1_i32_2669
  let v3990 : BitVec 32 := Scalar.select v3988 v3989 v3974
  let v3991 : BitVec 32 := Scalar.muli c4_i32_2670 v3990
  let c3_i32_2677 : BitVec 32 := 3#32
  let c4_i32_2671 : BitVec 32 := 4#32
  let c0_i32_2672 : BitVec 32 := 0#32
  let v3992 : BitVec 1 := Scalar.cmpi .eq c4_i32_2671 c0_i32_2672
  let c1_i32_2673 : BitVec 32 := 1#32
  let v3993 : BitVec 32 := Scalar.select v3992 c1_i32_2673 c4_i32_2671
  let v3994 : BitVec 32 := Scalar.remsi v2 v3993
  let c0_i32_2675 : BitVec 32 := 0#32
  let v3996 : BitVec 1 := Scalar.cmpi .slt v3994 c0_i32_2675
  let c0_i32_2676 : BitVec 32 := 0#32
  let v3997 : BitVec 1 := Scalar.cmpi .slt v3993 c0_i32_2676
  let v3998 : BitVec 1 := Scalar.xori v3996 v3997
  let c0_i32_2674 : BitVec 32 := 0#32
  let v3995 : BitVec 1 := Scalar.cmpi .ne v3994 c0_i32_2674
  let v3999 : BitVec 1 := Scalar.andi v3998 v3995
  let v4000 : BitVec 32 := Scalar.addi v3994 v3993
  let v4001 : BitVec 32 := Scalar.select v3999 v4000 v3994
  let v4002 : BitVec 32 := Scalar.subi c3_i32_2677 v4001
  let v4003 : BitVec 32 := Scalar.addi v3991 v4002
  let c1_i32_2709 : BitVec 32 := 1#32
  let v4039 : BitVec 32 := Scalar.muli v4003 c1_i32_2709
  let v4040 : BitVec 32 := Scalar.addi c0_i32_2710 v4039
  v4040.toNat
def k0_off39 (d0 : Dev nD) : Fin 3 → Nat :=
  let c2_i32_2722 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2498 : BitVec 32 := 1#32
  let v3773 : BitVec 32 := Scalar.xori v2 c1_i32_2498
  let c1_i32_2715 : BitVec 32 := 1#32
  let v4049 : BitVec 32 := Scalar.addi v3773 c1_i32_2715
  let c8_i32_2716 : BitVec 32 := 8#32
  let c0_i32_2717 : BitVec 32 := 0#32
  let v4050 : BitVec 1 := Scalar.cmpi .eq c8_i32_2716 c0_i32_2717
  let c1_i32_2718 : BitVec 32 := 1#32
  let v4051 : BitVec 32 := Scalar.select v4050 c1_i32_2718 c8_i32_2716
  let v4052 : BitVec 32 := Scalar.remsi v4049 v4051
  let c0_i32_2720 : BitVec 32 := 0#32
  let v4054 : BitVec 1 := Scalar.cmpi .slt v4052 c0_i32_2720
  let c0_i32_2721 : BitVec 32 := 0#32
  let v4055 : BitVec 1 := Scalar.cmpi .slt v4051 c0_i32_2721
  let v4056 : BitVec 1 := Scalar.xori v4054 v4055
  let c0_i32_2719 : BitVec 32 := 0#32
  let v4053 : BitVec 1 := Scalar.cmpi .ne v4052 c0_i32_2719
  let v4057 : BitVec 1 := Scalar.andi v4056 v4053
  let v4058 : BitVec 32 := Scalar.addi v4052 v4051
  let v4059 : BitVec 32 := Scalar.select v4057 v4058 v4052
  let v4060 : BitVec 32 := Scalar.muli c2_i32_2722 v4059
  let c0_i32_2738 : BitVec 32 := 0#32
  let c0_i32_2739 : BitVec 32 := 0#32
  ![v4060.toNat, 0, 0]
def k0_dev67 (d0 : Dev nD) : Nat :=
  let c0_i32_2737 : BitVec 32 := 0#32
  let c4_i32_2670 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2664 : BitVec 32 := 0#32
  let v3975 : BitVec 1 := Scalar.cmpi .sgt v2 c0_i32_2664
  let v3976 : BitVec 32 := Scalar.extui v3975
  let c0_i32_2665 : BitVec 32 := 0#32
  let v3977 : BitVec 1 := Scalar.cmpi .slt v2 c0_i32_2665
  let v3978 : BitVec 32 := Scalar.extui v3977
  let v3979 : BitVec 32 := Scalar.subi v3976 v3978
  let c4_i32_2663 : BitVec 32 := 4#32
  let c0_i32_2666 : BitVec 32 := 0#32
  let v3980 : BitVec 1 := Scalar.cmpi .sgt c4_i32_2663 c0_i32_2666
  let v3981 : BitVec 32 := Scalar.extui v3980
  let c0_i32_2667 : BitVec 32 := 0#32
  let v3982 : BitVec 1 := Scalar.cmpi .slt c4_i32_2663 c0_i32_2667
  let v3983 : BitVec 32 := Scalar.extui v3982
  let v3984 : BitVec 32 := Scalar.subi v3981 v3983
  let v3985 : BitVec 1 := Scalar.cmpi .ne v3979 v3984
  let v3986 : BitVec 32 := Scalar.remsi v2 c4_i32_2663
  let c0_i32_2668 : BitVec 32 := 0#32
  let v3987 : BitVec 1 := Scalar.cmpi .ne v3986 c0_i32_2668
  let v3988 : BitVec 1 := Scalar.andi v3985 v3987
  let v3974 : BitVec 32 := Scalar.divsi v2 c4_i32_2663
  let c1_i32_2669 : BitVec 32 := 1#32
  let v3989 : BitVec 32 := Scalar.subi v3974 c1_i32_2669
  let v3990 : BitVec 32 := Scalar.select v3988 v3989 v3974
  let v3991 : BitVec 32 := Scalar.muli c4_i32_2670 v3990
  let c3_i32_2677 : BitVec 32 := 3#32
  let c4_i32_2671 : BitVec 32 := 4#32
  let c0_i32_2672 : BitVec 32 := 0#32
  let v3992 : BitVec 1 := Scalar.cmpi .eq c4_i32_2671 c0_i32_2672
  let c1_i32_2673 : BitVec 32 := 1#32
  let v3993 : BitVec 32 := Scalar.select v3992 c1_i32_2673 c4_i32_2671
  let v3994 : BitVec 32 := Scalar.remsi v2 v3993
  let c0_i32_2675 : BitVec 32 := 0#32
  let v3996 : BitVec 1 := Scalar.cmpi .slt v3994 c0_i32_2675
  let c0_i32_2676 : BitVec 32 := 0#32
  let v3997 : BitVec 1 := Scalar.cmpi .slt v3993 c0_i32_2676
  let v3998 : BitVec 1 := Scalar.xori v3996 v3997
  let c0_i32_2674 : BitVec 32 := 0#32
  let v3995 : BitVec 1 := Scalar.cmpi .ne v3994 c0_i32_2674
  let v3999 : BitVec 1 := Scalar.andi v3998 v3995
  let v4000 : BitVec 32 := Scalar.addi v3994 v3993
  let v4001 : BitVec 32 := Scalar.select v3999 v4000 v3994
  let v4002 : BitVec 32 := Scalar.subi c3_i32_2677 v4001
  let v4003 : BitVec 32 := Scalar.addi v3991 v4002
  let c1_i32_2736 : BitVec 32 := 1#32
  let v4074 : BitVec 32 := Scalar.muli v4003 c1_i32_2736
  let v4075 : BitVec 32 := Scalar.addi c0_i32_2737 v4074
  v4075.toNat
def k0_off40 (d0 : Dev nD) : Fin 3 → Nat :=
  let c2_i32_2730 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2498 : BitVec 32 := 1#32
  let v3773 : BitVec 32 := Scalar.xori v2 c1_i32_2498
  let c1_i32_2723 : BitVec 32 := 1#32
  let v4061 : BitVec 32 := Scalar.subi v3773 c1_i32_2723
  let c8_i32_2724 : BitVec 32 := 8#32
  let c0_i32_2725 : BitVec 32 := 0#32
  let v4062 : BitVec 1 := Scalar.cmpi .eq c8_i32_2724 c0_i32_2725
  let c1_i32_2726 : BitVec 32 := 1#32
  let v4063 : BitVec 32 := Scalar.select v4062 c1_i32_2726 c8_i32_2724
  let v4064 : BitVec 32 := Scalar.remsi v4061 v4063
  let c0_i32_2728 : BitVec 32 := 0#32
  let v4066 : BitVec 1 := Scalar.cmpi .slt v4064 c0_i32_2728
  let c0_i32_2729 : BitVec 32 := 0#32
  let v4067 : BitVec 1 := Scalar.cmpi .slt v4063 c0_i32_2729
  let v4068 : BitVec 1 := Scalar.xori v4066 v4067
  let c0_i32_2727 : BitVec 32 := 0#32
  let v4065 : BitVec 1 := Scalar.cmpi .ne v4064 c0_i32_2727
  let v4069 : BitVec 1 := Scalar.andi v4068 v4065
  let v4070 : BitVec 32 := Scalar.addi v4064 v4063
  let v4071 : BitVec 32 := Scalar.select v4069 v4070 v4064
  let v4072 : BitVec 32 := Scalar.muli c2_i32_2730 v4071
  let c1_i32_2731 : BitVec 32 := 1#32
  let v4073 : BitVec 32 := Scalar.addi v4072 c1_i32_2731
  let c0_i32_2748 : BitVec 32 := 0#32
  let c0_i32_2749 : BitVec 32 := 0#32
  ![v4073.toNat, 0, 0]
def k0_dev68 (d0 : Dev nD) : Nat :=
  let c0_i32_2747 : BitVec 32 := 0#32
  let c4_i32_2670 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2664 : BitVec 32 := 0#32
  let v3975 : BitVec 1 := Scalar.cmpi .sgt v2 c0_i32_2664
  let v3976 : BitVec 32 := Scalar.extui v3975
  let c0_i32_2665 : BitVec 32 := 0#32
  let v3977 : BitVec 1 := Scalar.cmpi .slt v2 c0_i32_2665
  let v3978 : BitVec 32 := Scalar.extui v3977
  let v3979 : BitVec 32 := Scalar.subi v3976 v3978
  let c4_i32_2663 : BitVec 32 := 4#32
  let c0_i32_2666 : BitVec 32 := 0#32
  let v3980 : BitVec 1 := Scalar.cmpi .sgt c4_i32_2663 c0_i32_2666
  let v3981 : BitVec 32 := Scalar.extui v3980
  let c0_i32_2667 : BitVec 32 := 0#32
  let v3982 : BitVec 1 := Scalar.cmpi .slt c4_i32_2663 c0_i32_2667
  let v3983 : BitVec 32 := Scalar.extui v3982
  let v3984 : BitVec 32 := Scalar.subi v3981 v3983
  let v3985 : BitVec 1 := Scalar.cmpi .ne v3979 v3984
  let v3986 : BitVec 32 := Scalar.remsi v2 c4_i32_2663
  let c0_i32_2668 : BitVec 32 := 0#32
  let v3987 : BitVec 1 := Scalar.cmpi .ne v3986 c0_i32_2668
  let v3988 : BitVec 1 := Scalar.andi v3985 v3987
  let v3974 : BitVec 32 := Scalar.divsi v2 c4_i32_2663
  let c1_i32_2669 : BitVec 32 := 1#32
  let v3989 : BitVec 32 := Scalar.subi v3974 c1_i32_2669
  let v3990 : BitVec 32 := Scalar.select v3988 v3989 v3974
  let v3991 : BitVec 32 := Scalar.muli c4_i32_2670 v3990
  let c3_i32_2677 : BitVec 32 := 3#32
  let c4_i32_2671 : BitVec 32 := 4#32
  let c0_i32_2672 : BitVec 32 := 0#32
  let v3992 : BitVec 1 := Scalar.cmpi .eq c4_i32_2671 c0_i32_2672
  let c1_i32_2673 : BitVec 32 := 1#32
  let v3993 : BitVec 32 := Scalar.select v3992 c1_i32_2673 c4_i32_2671
  let v3994 : BitVec 32 := Scalar.remsi v2 v3993
  let c0_i32_2675 : BitVec 32 := 0#32
  let v3996 : BitVec 1 := Scalar.cmpi .slt v3994 c0_i32_2675
  let c0_i32_2676 : BitVec 32 := 0#32
  let v3997 : BitVec 1 := Scalar.cmpi .slt v3993 c0_i32_2676
  let v3998 : BitVec 1 := Scalar.xori v3996 v3997
  let c0_i32_2674 : BitVec 32 := 0#32
  let v3995 : BitVec 1 := Scalar.cmpi .ne v3994 c0_i32_2674
  let v3999 : BitVec 1 := Scalar.andi v3998 v3995
  let v4000 : BitVec 32 := Scalar.addi v3994 v3993
  let v4001 : BitVec 32 := Scalar.select v3999 v4000 v3994
  let v4002 : BitVec 32 := Scalar.subi c3_i32_2677 v4001
  let v4003 : BitVec 32 := Scalar.addi v3991 v4002
  let c1_i32_2746 : BitVec 32 := 1#32
  let v4084 : BitVec 32 := Scalar.muli v4003 c1_i32_2746
  let v4085 : BitVec 32 := Scalar.addi c0_i32_2747 v4084
  v4085.toNat
def k0_dev69 (d0 : Dev nD) : Nat :=
  let c0_i32_2805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2782 : BitVec 32 := 4#32
  let v4154 : BitVec 32 := Scalar.xori v2 c4_i32_2782
  let c1_i32_2804 : BitVec 32 := 1#32
  let v4180 : BitVec 32 := Scalar.muli v4154 c1_i32_2804
  let v4181 : BitVec 32 := Scalar.addi c0_i32_2805 v4180
  v4181.toNat
def k0_dev70 (d0 : Dev nD) : Nat :=
  let c0_i32_2815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2782 : BitVec 32 := 4#32
  let v4154 : BitVec 32 := Scalar.xori v2 c4_i32_2782
  let c1_i32_2814 : BitVec 32 := 1#32
  let v4190 : BitVec 32 := Scalar.muli v4154 c1_i32_2814
  let v4191 : BitVec 32 := Scalar.addi c0_i32_2815 v4190
  v4191.toNat
def k0_off41 (d0 : Dev nD) : Fin 3 → Nat :=
  let c2_i32_2827 : BitVec 32 := 2#32
  let c4_i32_2557 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2551 : BitVec 32 := 0#32
  let v3850 : BitVec 1 := Scalar.cmpi .sgt v2 c0_i32_2551
  let v3851 : BitVec 32 := Scalar.extui v3850
  let c0_i32_2552 : BitVec 32 := 0#32
  let v3852 : BitVec 1 := Scalar.cmpi .slt v2 c0_i32_2552
  let v3853 : BitVec 32 := Scalar.extui v3852
  let v3854 : BitVec 32 := Scalar.subi v3851 v3853
  let c4_i32_2550 : BitVec 32 := 4#32
  let c0_i32_2553 : BitVec 32 := 0#32
  let v3855 : BitVec 1 := Scalar.cmpi .sgt c4_i32_2550 c0_i32_2553
  let v3856 : BitVec 32 := Scalar.extui v3855
  let c0_i32_2554 : BitVec 32 := 0#32
  let v3857 : BitVec 1 := Scalar.cmpi .slt c4_i32_2550 c0_i32_2554
  let v3858 : BitVec 32 := Scalar.extui v3857
  let v3859 : BitVec 32 := Scalar.subi v3856 v3858
  let v3860 : BitVec 1 := Scalar.cmpi .ne v3854 v3859
  let v3861 : BitVec 32 := Scalar.remsi v2 c4_i32_2550
  let c0_i32_2555 : BitVec 32 := 0#32
  let v3862 : BitVec 1 := Scalar.cmpi .ne v3861 c0_i32_2555
  let v3863 : BitVec 1 := Scalar.andi v3860 v3862
  let v3849 : BitVec 32 := Scalar.divsi v2 c4_i32_2550
  let c1_i32_2556 : BitVec 32 := 1#32
  let v3864 : BitVec 32 := Scalar.subi v3849 c1_i32_2556
  let v3865 : BitVec 32 := Scalar.select v3863 v3864 v3849
  let v3866 : BitVec 32 := Scalar.muli c4_i32_2557 v3865
  let c3_i32_2564 : BitVec 32 := 3#32
  let c4_i32_2558 : BitVec 32 := 4#32
  let c0_i32_2559 : BitVec 32 := 0#32
  let v3867 : BitVec 1 := Scalar.cmpi .eq c4_i32_2558 c0_i32_2559
  let c1_i32_2560 : BitVec 32 := 1#32
  let v3868 : BitVec 32 := Scalar.select v3867 c1_i32_2560 c4_i32_2558
  let v3869 : BitVec 32 := Scalar.remsi v2 v3868
  let c0_i32_2562 : BitVec 32 := 0#32
  let v3871 : BitVec 1 := Scalar.cmpi .slt v3869 c0_i32_2562
  let c0_i32_2563 : BitVec 32 := 0#32
  let v3872 : BitVec 1 := Scalar.cmpi .slt v3868 c0_i32_2563
  let v3873 : BitVec 1 := Scalar.xori v3871 v3872
  let c0_i32_2561 : BitVec 32 := 0#32
  let v3870 : BitVec 1 := Scalar.cmpi .ne v3869 c0_i32_2561
  let v3874 : BitVec 1 := Scalar.andi v3873 v3870
  let v3875 : BitVec 32 := Scalar.addi v3869 v3868
  let v3876 : BitVec 32 := Scalar.select v3874 v3875 v3869
  let v3877 : BitVec 32 := Scalar.subi c3_i32_2564 v3876
  let v3878 : BitVec 32 := Scalar.addi v3866 v3877
  let c1_i32_2820 : BitVec 32 := 1#32
  let v4200 : BitVec 32 := Scalar.addi v3878 c1_i32_2820
  let c8_i32_2821 : BitVec 32 := 8#32
  let c0_i32_2822 : BitVec 32 := 0#32
  let v4201 : BitVec 1 := Scalar.cmpi .eq c8_i32_2821 c0_i32_2822
  let c1_i32_2823 : BitVec 32 := 1#32
  let v4202 : BitVec 32 := Scalar.select v4201 c1_i32_2823 c8_i32_2821
  let v4203 : BitVec 32 := Scalar.remsi v4200 v4202
  let c0_i32_2825 : BitVec 32 := 0#32
  let v4205 : BitVec 1 := Scalar.cmpi .slt v4203 c0_i32_2825
  let c0_i32_2826 : BitVec 32 := 0#32
  let v4206 : BitVec 1 := Scalar.cmpi .slt v4202 c0_i32_2826
  let v4207 : BitVec 1 := Scalar.xori v4205 v4206
  let c0_i32_2824 : BitVec 32 := 0#32
  let v4204 : BitVec 1 := Scalar.cmpi .ne v4203 c0_i32_2824
  let v4208 : BitVec 1 := Scalar.andi v4207 v4204
  let v4209 : BitVec 32 := Scalar.addi v4203 v4202
  let v4210 : BitVec 32 := Scalar.select v4208 v4209 v4203
  let v4211 : BitVec 32 := Scalar.muli c2_i32_2827 v4210
  let c0_i32_2843 : BitVec 32 := 0#32
  let c1280_i32_2844 : BitVec 32 := 1280#32
  ![v4211.toNat, 0, 1280]
def k0_dev71 (d0 : Dev nD) : Nat :=
  let c0_i32_2842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2782 : BitVec 32 := 4#32
  let v4154 : BitVec 32 := Scalar.xori v2 c4_i32_2782
  let c1_i32_2841 : BitVec 32 := 1#32
  let v4225 : BitVec 32 := Scalar.muli v4154 c1_i32_2841
  let v4226 : BitVec 32 := Scalar.addi c0_i32_2842 v4225
  v4226.toNat
def k0_off42 (d0 : Dev nD) : Fin 3 → Nat :=
  let c2_i32_2835 : BitVec 32 := 2#32
  let c4_i32_2557 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2551 : BitVec 32 := 0#32
  let v3850 : BitVec 1 := Scalar.cmpi .sgt v2 c0_i32_2551
  let v3851 : BitVec 32 := Scalar.extui v3850
  let c0_i32_2552 : BitVec 32 := 0#32
  let v3852 : BitVec 1 := Scalar.cmpi .slt v2 c0_i32_2552
  let v3853 : BitVec 32 := Scalar.extui v3852
  let v3854 : BitVec 32 := Scalar.subi v3851 v3853
  let c4_i32_2550 : BitVec 32 := 4#32
  let c0_i32_2553 : BitVec 32 := 0#32
  let v3855 : BitVec 1 := Scalar.cmpi .sgt c4_i32_2550 c0_i32_2553
  let v3856 : BitVec 32 := Scalar.extui v3855
  let c0_i32_2554 : BitVec 32 := 0#32
  let v3857 : BitVec 1 := Scalar.cmpi .slt c4_i32_2550 c0_i32_2554
  let v3858 : BitVec 32 := Scalar.extui v3857
  let v3859 : BitVec 32 := Scalar.subi v3856 v3858
  let v3860 : BitVec 1 := Scalar.cmpi .ne v3854 v3859
  let v3861 : BitVec 32 := Scalar.remsi v2 c4_i32_2550
  let c0_i32_2555 : BitVec 32 := 0#32
  let v3862 : BitVec 1 := Scalar.cmpi .ne v3861 c0_i32_2555
  let v3863 : BitVec 1 := Scalar.andi v3860 v3862
  let v3849 : BitVec 32 := Scalar.divsi v2 c4_i32_2550
  let c1_i32_2556 : BitVec 32 := 1#32
  let v3864 : BitVec 32 := Scalar.subi v3849 c1_i32_2556
  let v3865 : BitVec 32 := Scalar.select v3863 v3864 v3849
  let v3866 : BitVec 32 := Scalar.muli c4_i32_2557 v3865
  let c3_i32_2564 : BitVec 32 := 3#32
  let c4_i32_2558 : BitVec 32 := 4#32
  let c0_i32_2559 : BitVec 32 := 0#32
  let v3867 : BitVec 1 := Scalar.cmpi .eq c4_i32_2558 c0_i32_2559
  let c1_i32_2560 : BitVec 32 := 1#32
  let v3868 : BitVec 32 := Scalar.select v3867 c1_i32_2560 c4_i32_2558
  let v3869 : BitVec 32 := Scalar.remsi v2 v3868
  let c0_i32_2562 : BitVec 32 := 0#32
  let v3871 : BitVec 1 := Scalar.cmpi .slt v3869 c0_i32_2562
  let c0_i32_2563 : BitVec 32 := 0#32
  let v3872 : BitVec 1 := Scalar.cmpi .slt v3868 c0_i32_2563
  let v3873 : BitVec 1 := Scalar.xori v3871 v3872
  let c0_i32_2561 : BitVec 32 := 0#32
  let v3870 : BitVec 1 := Scalar.cmpi .ne v3869 c0_i32_2561
  let v3874 : BitVec 1 := Scalar.andi v3873 v3870
  let v3875 : BitVec 32 := Scalar.addi v3869 v3868
  let v3876 : BitVec 32 := Scalar.select v3874 v3875 v3869
  let v3877 : BitVec 32 := Scalar.subi c3_i32_2564 v3876
  let v3878 : BitVec 32 := Scalar.addi v3866 v3877
  let c1_i32_2828 : BitVec 32 := 1#32
  let v4212 : BitVec 32 := Scalar.subi v3878 c1_i32_2828
  let c8_i32_2829 : BitVec 32 := 8#32
  let c0_i32_2830 : BitVec 32 := 0#32
  let v4213 : BitVec 1 := Scalar.cmpi .eq c8_i32_2829 c0_i32_2830
  let c1_i32_2831 : BitVec 32 := 1#32
  let v4214 : BitVec 32 := Scalar.select v4213 c1_i32_2831 c8_i32_2829
  let v4215 : BitVec 32 := Scalar.remsi v4212 v4214
  let c0_i32_2833 : BitVec 32 := 0#32
  let v4217 : BitVec 1 := Scalar.cmpi .slt v4215 c0_i32_2833
  let c0_i32_2834 : BitVec 32 := 0#32
  let v4218 : BitVec 1 := Scalar.cmpi .slt v4214 c0_i32_2834
  let v4219 : BitVec 1 := Scalar.xori v4217 v4218
  let c0_i32_2832 : BitVec 32 := 0#32
  let v4216 : BitVec 1 := Scalar.cmpi .ne v4215 c0_i32_2832
  let v4220 : BitVec 1 := Scalar.andi v4219 v4216
  let v4221 : BitVec 32 := Scalar.addi v4215 v4214
  let v4222 : BitVec 32 := Scalar.select v4220 v4221 v4215
  let v4223 : BitVec 32 := Scalar.muli c2_i32_2835 v4222
  let c1_i32_2836 : BitVec 32 := 1#32
  let v4224 : BitVec 32 := Scalar.addi v4223 c1_i32_2836
  let c0_i32_2853 : BitVec 32 := 0#32
  let c1280_i32_2854 : BitVec 32 := 1280#32
  ![v4224.toNat, 0, 1280]
def k0_dev72 (d0 : Dev nD) : Nat :=
  let c0_i32_2852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2782 : BitVec 32 := 4#32
  let v4154 : BitVec 32 := Scalar.xori v2 c4_i32_2782
  let c1_i32_2851 : BitVec 32 := 1#32
  let v4235 : BitVec 32 := Scalar.muli v4154 c1_i32_2851
  let v4236 : BitVec 32 := Scalar.addi c0_i32_2852 v4235
  v4236.toNat
def k0_dev73 (d0 : Dev nD) : Nat :=
  let c0_i32_2882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2859 : BitVec 32 := 1#32
  let v4247 : BitVec 32 := Scalar.xori v2 c1_i32_2859
  let c1_i32_2881 : BitVec 32 := 1#32
  let v4273 : BitVec 32 := Scalar.muli v4247 c1_i32_2881
  let v4274 : BitVec 32 := Scalar.addi c0_i32_2882 v4273
  v4274.toNat
def k0_dev74 (d0 : Dev nD) : Nat :=
  let c0_i32_2892 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2859 : BitVec 32 := 1#32
  let v4247 : BitVec 32 := Scalar.xori v2 c1_i32_2859
  let c1_i32_2891 : BitVec 32 := 1#32
  let v4283 : BitVec 32 := Scalar.muli v4247 c1_i32_2891
  let v4284 : BitVec 32 := Scalar.addi c0_i32_2892 v4283
  v4284.toNat
def k0_off43 (d0 : Dev nD) (c4_i32_2602 : BitVec 32) : Fin 3 → Nat :=
  let c2_i32_2904 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3925 : BitVec 32 := Scalar.xori v2 c4_i32_2602
  let c1_i32_2897 : BitVec 32 := 1#32
  let v4293 : BitVec 32 := Scalar.addi v3925 c1_i32_2897
  let c8_i32_2898 : BitVec 32 := 8#32
  let c0_i32_2899 : BitVec 32 := 0#32
  let v4294 : BitVec 1 := Scalar.cmpi .eq c8_i32_2898 c0_i32_2899
  let c1_i32_2900 : BitVec 32 := 1#32
  let v4295 : BitVec 32 := Scalar.select v4294 c1_i32_2900 c8_i32_2898
  let v4296 : BitVec 32 := Scalar.remsi v4293 v4295
  let c0_i32_2902 : BitVec 32 := 0#32
  let v4298 : BitVec 1 := Scalar.cmpi .slt v4296 c0_i32_2902
  let c0_i32_2903 : BitVec 32 := 0#32
  let v4299 : BitVec 1 := Scalar.cmpi .slt v4295 c0_i32_2903
  let v4300 : BitVec 1 := Scalar.xori v4298 v4299
  let c0_i32_2901 : BitVec 32 := 0#32
  let v4297 : BitVec 1 := Scalar.cmpi .ne v4296 c0_i32_2901
  let v4301 : BitVec 1 := Scalar.andi v4300 v4297
  let v4302 : BitVec 32 := Scalar.addi v4296 v4295
  let v4303 : BitVec 32 := Scalar.select v4301 v4302 v4296
  let v4304 : BitVec 32 := Scalar.muli c2_i32_2904 v4303
  let c0_i32_2920 : BitVec 32 := 0#32
  let c2688_i32_2921 : BitVec 32 := 2688#32
  ![v4304.toNat, 0, 2688]
def k0_dev75 (d0 : Dev nD) : Nat :=
  let c0_i32_2919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2859 : BitVec 32 := 1#32
  let v4247 : BitVec 32 := Scalar.xori v2 c1_i32_2859
  let c1_i32_2918 : BitVec 32 := 1#32
  let v4318 : BitVec 32 := Scalar.muli v4247 c1_i32_2918
  let v4319 : BitVec 32 := Scalar.addi c0_i32_2919 v4318
  v4319.toNat
def k0_off44 (d0 : Dev nD) (c4_i32_2602 : BitVec 32) : Fin 3 → Nat :=
  let c2_i32_2912 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3925 : BitVec 32 := Scalar.xori v2 c4_i32_2602
  let c1_i32_2905 : BitVec 32 := 1#32
  let v4305 : BitVec 32 := Scalar.subi v3925 c1_i32_2905
  let c8_i32_2906 : BitVec 32 := 8#32
  let c0_i32_2907 : BitVec 32 := 0#32
  let v4306 : BitVec 1 := Scalar.cmpi .eq c8_i32_2906 c0_i32_2907
  let c1_i32_2908 : BitVec 32 := 1#32
  let v4307 : BitVec 32 := Scalar.select v4306 c1_i32_2908 c8_i32_2906
  let v4308 : BitVec 32 := Scalar.remsi v4305 v4307
  let c0_i32_2910 : BitVec 32 := 0#32
  let v4310 : BitVec 1 := Scalar.cmpi .slt v4308 c0_i32_2910
  let c0_i32_2911 : BitVec 32 := 0#32
  let v4311 : BitVec 1 := Scalar.cmpi .slt v4307 c0_i32_2911
  let v4312 : BitVec 1 := Scalar.xori v4310 v4311
  let c0_i32_2909 : BitVec 32 := 0#32
  let v4309 : BitVec 1 := Scalar.cmpi .ne v4308 c0_i32_2909
  let v4313 : BitVec 1 := Scalar.andi v4312 v4309
  let v4314 : BitVec 32 := Scalar.addi v4308 v4307
  let v4315 : BitVec 32 := Scalar.select v4313 v4314 v4308
  let v4316 : BitVec 32 := Scalar.muli c2_i32_2912 v4315
  let c1_i32_2913 : BitVec 32 := 1#32
  let v4317 : BitVec 32 := Scalar.addi v4316 c1_i32_2913
  let c0_i32_2930 : BitVec 32 := 0#32
  let c2688_i32_2931 : BitVec 32 := 2688#32
  ![v4317.toNat, 0, 2688]
def k0_dev76 (d0 : Dev nD) : Nat :=
  let c0_i32_2929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2859 : BitVec 32 := 1#32
  let v4247 : BitVec 32 := Scalar.xori v2 c1_i32_2859
  let c1_i32_2928 : BitVec 32 := 1#32
  let v4328 : BitVec 32 := Scalar.muli v4247 c1_i32_2928
  let v4329 : BitVec 32 := Scalar.addi c0_i32_2929 v4328
  v4329.toNat
def k0_dev77 (d0 : Dev nD) : Nat :=
  let c0_i32_3079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3078 : BitVec 32 := 1#32
  let v4462 : BitVec 32 := Scalar.muli v4436 c1_i32_3078
  let v4463 : BitVec 32 := Scalar.addi c0_i32_3079 v4462
  v4463.toNat
def k0_dev78 (d0 : Dev nD) : Nat :=
  let c0_i32_3089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3088 : BitVec 32 := 1#32
  let v4472 : BitVec 32 := Scalar.muli v4436 c1_i32_3088
  let v4473 : BitVec 32 := Scalar.addi c0_i32_3089 v4472
  v4473.toNat
def k0_dev79 (d0 : Dev nD) : Nat :=
  let c0_i32_3116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3115 : BitVec 32 := 1#32
  let v4507 : BitVec 32 := Scalar.muli v4436 c1_i32_3115
  let v4508 : BitVec 32 := Scalar.addi c0_i32_3116 v4507
  v4508.toNat
def k0_dev80 (d0 : Dev nD) : Nat :=
  let c0_i32_3125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3124 : BitVec 32 := 1#32
  let v4517 : BitVec 32 := Scalar.muli v4436 c1_i32_3124
  let v4518 : BitVec 32 := Scalar.addi c0_i32_3125 v4517
  v4518.toNat
def k0_off45 (d0 : Dev nD) : Fin 3 → Nat :=
  let c2_i32_3137 : BitVec 32 := 2#32
  let c4_i32_2759 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2753 : BitVec 32 := 0#32
  let v4095 : BitVec 1 := Scalar.cmpi .sgt v2 c0_i32_2753
  let v4096 : BitVec 32 := Scalar.extui v4095
  let c0_i32_2754 : BitVec 32 := 0#32
  let v4097 : BitVec 1 := Scalar.cmpi .slt v2 c0_i32_2754
  let v4098 : BitVec 32 := Scalar.extui v4097
  let v4099 : BitVec 32 := Scalar.subi v4096 v4098
  let c4_i32_2752 : BitVec 32 := 4#32
  let c0_i32_2755 : BitVec 32 := 0#32
  let v4100 : BitVec 1 := Scalar.cmpi .sgt c4_i32_2752 c0_i32_2755
  let v4101 : BitVec 32 := Scalar.extui v4100
  let c0_i32_2756 : BitVec 32 := 0#32
  let v4102 : BitVec 1 := Scalar.cmpi .slt c4_i32_2752 c0_i32_2756
  let v4103 : BitVec 32 := Scalar.extui v4102
  let v4104 : BitVec 32 := Scalar.subi v4101 v4103
  let v4105 : BitVec 1 := Scalar.cmpi .ne v4099 v4104
  let v4106 : BitVec 32 := Scalar.remsi v2 c4_i32_2752
  let c0_i32_2757 : BitVec 32 := 0#32
  let v4107 : BitVec 1 := Scalar.cmpi .ne v4106 c0_i32_2757
  let v4108 : BitVec 1 := Scalar.andi v4105 v4107
  let v4094 : BitVec 32 := Scalar.divsi v2 c4_i32_2752
  let c1_i32_2758 : BitVec 32 := 1#32
  let v4109 : BitVec 32 := Scalar.subi v4094 c1_i32_2758
  let v4110 : BitVec 32 := Scalar.select v4108 v4109 v4094
  let v4111 : BitVec 32 := Scalar.muli c4_i32_2759 v4110
  let c3_i32_2766 : BitVec 32 := 3#32
  let c4_i32_2760 : BitVec 32 := 4#32
  let c0_i32_2761 : BitVec 32 := 0#32
  let v4112 : BitVec 1 := Scalar.cmpi .eq c4_i32_2760 c0_i32_2761
  let c1_i32_2762 : BitVec 32 := 1#32
  let v4113 : BitVec 32 := Scalar.select v4112 c1_i32_2762 c4_i32_2760
  let v4114 : BitVec 32 := Scalar.remsi v2 v4113
  let c0_i32_2764 : BitVec 32 := 0#32
  let v4116 : BitVec 1 := Scalar.cmpi .slt v4114 c0_i32_2764
  let c0_i32_2765 : BitVec 32 := 0#32
  let v4117 : BitVec 1 := Scalar.cmpi .slt v4113 c0_i32_2765
  let v4118 : BitVec 1 := Scalar.xori v4116 v4117
  let c0_i32_2763 : BitVec 32 := 0#32
  let v4115 : BitVec 1 := Scalar.cmpi .ne v4114 c0_i32_2763
  let v4119 : BitVec 1 := Scalar.andi v4118 v4115
  let v4120 : BitVec 32 := Scalar.addi v4114 v4113
  let v4121 : BitVec 32 := Scalar.select v4119 v4120 v4114
  let v4122 : BitVec 32 := Scalar.subi c3_i32_2766 v4121
  let v4123 : BitVec 32 := Scalar.addi v4111 v4122
  let c1_i32_3130 : BitVec 32 := 1#32
  let v4527 : BitVec 32 := Scalar.addi v4123 c1_i32_3130
  let c8_i32_3131 : BitVec 32 := 8#32
  let c0_i32_3132 : BitVec 32 := 0#32
  let v4528 : BitVec 1 := Scalar.cmpi .eq c8_i32_3131 c0_i32_3132
  let c1_i32_3133 : BitVec 32 := 1#32
  let v4529 : BitVec 32 := Scalar.select v4528 c1_i32_3133 c8_i32_3131
  let v4530 : BitVec 32 := Scalar.remsi v4527 v4529
  let c0_i32_3135 : BitVec 32 := 0#32
  let v4532 : BitVec 1 := Scalar.cmpi .slt v4530 c0_i32_3135
  let c0_i32_3136 : BitVec 32 := 0#32
  let v4533 : BitVec 1 := Scalar.cmpi .slt v4529 c0_i32_3136
  let v4534 : BitVec 1 := Scalar.xori v4532 v4533
  let c0_i32_3134 : BitVec 32 := 0#32
  let v4531 : BitVec 1 := Scalar.cmpi .ne v4530 c0_i32_3134
  let v4535 : BitVec 1 := Scalar.andi v4534 v4531
  let v4536 : BitVec 32 := Scalar.addi v4530 v4529
  let v4537 : BitVec 32 := Scalar.select v4535 v4536 v4530
  let v4538 : BitVec 32 := Scalar.muli c2_i32_3137 v4537
  let c0_i32_3152 : BitVec 32 := 0#32
  let c0_i32_3153 : BitVec 32 := 0#32
  ![v4538.toNat, 0, 0]
def k0_dev81 (d0 : Dev nD) : Nat :=
  let c0_i32_3151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3150 : BitVec 32 := 1#32
  let v4552 : BitVec 32 := Scalar.muli v4436 c1_i32_3150
  let v4553 : BitVec 32 := Scalar.addi c0_i32_3151 v4552
  v4553.toNat
def k0_off46 (d0 : Dev nD) : Fin 3 → Nat :=
  let c2_i32_3145 : BitVec 32 := 2#32
  let c4_i32_2759 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2753 : BitVec 32 := 0#32
  let v4095 : BitVec 1 := Scalar.cmpi .sgt v2 c0_i32_2753
  let v4096 : BitVec 32 := Scalar.extui v4095
  let c0_i32_2754 : BitVec 32 := 0#32
  let v4097 : BitVec 1 := Scalar.cmpi .slt v2 c0_i32_2754
  let v4098 : BitVec 32 := Scalar.extui v4097
  let v4099 : BitVec 32 := Scalar.subi v4096 v4098
  let c4_i32_2752 : BitVec 32 := 4#32
  let c0_i32_2755 : BitVec 32 := 0#32
  let v4100 : BitVec 1 := Scalar.cmpi .sgt c4_i32_2752 c0_i32_2755
  let v4101 : BitVec 32 := Scalar.extui v4100
  let c0_i32_2756 : BitVec 32 := 0#32
  let v4102 : BitVec 1 := Scalar.cmpi .slt c4_i32_2752 c0_i32_2756
  let v4103 : BitVec 32 := Scalar.extui v4102
  let v4104 : BitVec 32 := Scalar.subi v4101 v4103
  let v4105 : BitVec 1 := Scalar.cmpi .ne v4099 v4104
  let v4106 : BitVec 32 := Scalar.remsi v2 c4_i32_2752
  let c0_i32_2757 : BitVec 32 := 0#32
  let v4107 : BitVec 1 := Scalar.cmpi .ne v4106 c0_i32_2757
  let v4108 : BitVec 1 := Scalar.andi v4105 v4107
  let v4094 : BitVec 32 := Scalar.divsi v2 c4_i32_2752
  let c1_i32_2758 : BitVec 32 := 1#32
  let v4109 : BitVec 32 := Scalar.subi v4094 c1_i32_2758
  let v4110 : BitVec 32 := Scalar.select v4108 v4109 v4094
  let v4111 : BitVec 32 := Scalar.muli c4_i32_2759 v4110
  let c3_i32_2766 : BitVec 32 := 3#32
  let c4_i32_2760 : BitVec 32 := 4#32
  let c0_i32_2761 : BitVec 32 := 0#32
  let v4112 : BitVec 1 := Scalar.cmpi .eq c4_i32_2760 c0_i32_2761
  let c1_i32_2762 : BitVec 32 := 1#32
  let v4113 : BitVec 32 := Scalar.select v4112 c1_i32_2762 c4_i32_2760
  let v4114 : BitVec 32 := Scalar.remsi v2 v4113
  let c0_i32_2764 : BitVec 32 := 0#32
  let v4116 : BitVec 1 := Scalar.cmpi .slt v4114 c0_i32_2764
  let c0_i32_2765 : BitVec 32 := 0#32
  let v4117 : BitVec 1 := Scalar.cmpi .slt v4113 c0_i32_2765
  let v4118 : BitVec 1 := Scalar.xori v4116 v4117
  let c0_i32_2763 : BitVec 32 := 0#32
  let v4115 : BitVec 1 := Scalar.cmpi .ne v4114 c0_i32_2763
  let v4119 : BitVec 1 := Scalar.andi v4118 v4115
  let v4120 : BitVec 32 := Scalar.addi v4114 v4113
  let v4121 : BitVec 32 := Scalar.select v4119 v4120 v4114
  let v4122 : BitVec 32 := Scalar.subi c3_i32_2766 v4121
  let v4123 : BitVec 32 := Scalar.addi v4111 v4122
  let c1_i32_3138 : BitVec 32 := 1#32
  let v4539 : BitVec 32 := Scalar.subi v4123 c1_i32_3138
  let c8_i32_3139 : BitVec 32 := 8#32
  let c0_i32_3140 : BitVec 32 := 0#32
  let v4540 : BitVec 1 := Scalar.cmpi .eq c8_i32_3139 c0_i32_3140
  let c1_i32_3141 : BitVec 32 := 1#32
  let v4541 : BitVec 32 := Scalar.select v4540 c1_i32_3141 c8_i32_3139
  let v4542 : BitVec 32 := Scalar.remsi v4539 v4541
  let c0_i32_3143 : BitVec 32 := 0#32
  let v4544 : BitVec 1 := Scalar.cmpi .slt v4542 c0_i32_3143
  let c0_i32_3144 : BitVec 32 := 0#32
  let v4545 : BitVec 1 := Scalar.cmpi .slt v4541 c0_i32_3144
  let v4546 : BitVec 1 := Scalar.xori v4544 v4545
  let c0_i32_3142 : BitVec 32 := 0#32
  let v4543 : BitVec 1 := Scalar.cmpi .ne v4542 c0_i32_3142
  let v4547 : BitVec 1 := Scalar.andi v4546 v4543
  let v4548 : BitVec 32 := Scalar.addi v4542 v4541
  let v4549 : BitVec 32 := Scalar.select v4547 v4548 v4542
  let v4550 : BitVec 32 := Scalar.muli c2_i32_3145 v4549
  let c1_i32_3146 : BitVec 32 := 1#32
  let v4551 : BitVec 32 := Scalar.addi v4550 c1_i32_3146
  let c0_i32_3161 : BitVec 32 := 0#32
  let c0_i32_3162 : BitVec 32 := 0#32
  ![v4551.toNat, 0, 0]
def k0_dev82 (d0 : Dev nD) : Nat :=
  let c0_i32_3160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3159 : BitVec 32 := 1#32
  let v4562 : BitVec 32 := Scalar.muli v4436 c1_i32_3159
  let v4563 : BitVec 32 := Scalar.addi c0_i32_3160 v4562
  v4563.toNat
def k0_off47 (d0 : Dev nD) : Fin 3 → Nat :=
  let c2_i32_3172 : BitVec 32 := 2#32
  let c4_i32_2774 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2498 : BitVec 32 := 1#32
  let v3773 : BitVec 32 := Scalar.xori v2 c1_i32_2498
  let c0_i32_2768 : BitVec 32 := 0#32
  let v4125 : BitVec 1 := Scalar.cmpi .sgt v3773 c0_i32_2768
  let v4126 : BitVec 32 := Scalar.extui v4125
  let c0_i32_2769 : BitVec 32 := 0#32
  let v4127 : BitVec 1 := Scalar.cmpi .slt v3773 c0_i32_2769
  let v4128 : BitVec 32 := Scalar.extui v4127
  let v4129 : BitVec 32 := Scalar.subi v4126 v4128
  let c4_i32_2767 : BitVec 32 := 4#32
  let c0_i32_2770 : BitVec 32 := 0#32
  let v4130 : BitVec 1 := Scalar.cmpi .sgt c4_i32_2767 c0_i32_2770
  let v4131 : BitVec 32 := Scalar.extui v4130
  let c0_i32_2771 : BitVec 32 := 0#32
  let v4132 : BitVec 1 := Scalar.cmpi .slt c4_i32_2767 c0_i32_2771
  let v4133 : BitVec 32 := Scalar.extui v4132
  let v4134 : BitVec 32 := Scalar.subi v4131 v4133
  let v4135 : BitVec 1 := Scalar.cmpi .ne v4129 v4134
  let v4136 : BitVec 32 := Scalar.remsi v3773 c4_i32_2767
  let c0_i32_2772 : BitVec 32 := 0#32
  let v4137 : BitVec 1 := Scalar.cmpi .ne v4136 c0_i32_2772
  let v4138 : BitVec 1 := Scalar.andi v4135 v4137
  let v4124 : BitVec 32 := Scalar.divsi v3773 c4_i32_2767
  let c1_i32_2773 : BitVec 32 := 1#32
  let v4139 : BitVec 32 := Scalar.subi v4124 c1_i32_2773
  let v4140 : BitVec 32 := Scalar.select v4138 v4139 v4124
  let v4141 : BitVec 32 := Scalar.muli c4_i32_2774 v4140
  let c3_i32_2781 : BitVec 32 := 3#32
  let c4_i32_2775 : BitVec 32 := 4#32
  let c0_i32_2776 : BitVec 32 := 0#32
  let v4142 : BitVec 1 := Scalar.cmpi .eq c4_i32_2775 c0_i32_2776
  let c1_i32_2777 : BitVec 32 := 1#32
  let v4143 : BitVec 32 := Scalar.select v4142 c1_i32_2777 c4_i32_2775
  let v4144 : BitVec 32 := Scalar.remsi v3773 v4143
  let c0_i32_2779 : BitVec 32 := 0#32
  let v4146 : BitVec 1 := Scalar.cmpi .slt v4144 c0_i32_2779
  let c0_i32_2780 : BitVec 32 := 0#32
  let v4147 : BitVec 1 := Scalar.cmpi .slt v4143 c0_i32_2780
  let v4148 : BitVec 1 := Scalar.xori v4146 v4147
  let c0_i32_2778 : BitVec 32 := 0#32
  let v4145 : BitVec 1 := Scalar.cmpi .ne v4144 c0_i32_2778
  let v4149 : BitVec 1 := Scalar.andi v4148 v4145
  let v4150 : BitVec 32 := Scalar.addi v4144 v4143
  let v4151 : BitVec 32 := Scalar.select v4149 v4150 v4144
  let v4152 : BitVec 32 := Scalar.subi c3_i32_2781 v4151
  let v4153 : BitVec 32 := Scalar.addi v4141 v4152
  let c1_i32_3165 : BitVec 32 := 1#32
  let v4572 : BitVec 32 := Scalar.addi v4153 c1_i32_3165
  let c8_i32_3166 : BitVec 32 := 8#32
  let c0_i32_3167 : BitVec 32 := 0#32
  let v4573 : BitVec 1 := Scalar.cmpi .eq c8_i32_3166 c0_i32_3167
  let c1_i32_3168 : BitVec 32 := 1#32
  let v4574 : BitVec 32 := Scalar.select v4573 c1_i32_3168 c8_i32_3166
  let v4575 : BitVec 32 := Scalar.remsi v4572 v4574
  let c0_i32_3170 : BitVec 32 := 0#32
  let v4577 : BitVec 1 := Scalar.cmpi .slt v4575 c0_i32_3170
  let c0_i32_3171 : BitVec 32 := 0#32
  let v4578 : BitVec 1 := Scalar.cmpi .slt v4574 c0_i32_3171
  let v4579 : BitVec 1 := Scalar.xori v4577 v4578
  let c0_i32_3169 : BitVec 32 := 0#32
  let v4576 : BitVec 1 := Scalar.cmpi .ne v4575 c0_i32_3169
  let v4580 : BitVec 1 := Scalar.andi v4579 v4576
  let v4581 : BitVec 32 := Scalar.addi v4575 v4574
  let v4582 : BitVec 32 := Scalar.select v4580 v4581 v4575
  let v4583 : BitVec 32 := Scalar.muli c2_i32_3172 v4582
  let c0_i32_3187 : BitVec 32 := 0#32
  let c0_i32_3188 : BitVec 32 := 0#32
  ![v4583.toNat, 0, 0]
def k0_dev83 (d0 : Dev nD) : Nat :=
  let c0_i32_3186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3185 : BitVec 32 := 1#32
  let v4597 : BitVec 32 := Scalar.muli v4436 c1_i32_3185
  let v4598 : BitVec 32 := Scalar.addi c0_i32_3186 v4597
  v4598.toNat
def k0_off48 (d0 : Dev nD) : Fin 3 → Nat :=
  let c2_i32_3180 : BitVec 32 := 2#32
  let c4_i32_2774 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2498 : BitVec 32 := 1#32
  let v3773 : BitVec 32 := Scalar.xori v2 c1_i32_2498
  let c0_i32_2768 : BitVec 32 := 0#32
  let v4125 : BitVec 1 := Scalar.cmpi .sgt v3773 c0_i32_2768
  let v4126 : BitVec 32 := Scalar.extui v4125
  let c0_i32_2769 : BitVec 32 := 0#32
  let v4127 : BitVec 1 := Scalar.cmpi .slt v3773 c0_i32_2769
  let v4128 : BitVec 32 := Scalar.extui v4127
  let v4129 : BitVec 32 := Scalar.subi v4126 v4128
  let c4_i32_2767 : BitVec 32 := 4#32
  let c0_i32_2770 : BitVec 32 := 0#32
  let v4130 : BitVec 1 := Scalar.cmpi .sgt c4_i32_2767 c0_i32_2770
  let v4131 : BitVec 32 := Scalar.extui v4130
  let c0_i32_2771 : BitVec 32 := 0#32
  let v4132 : BitVec 1 := Scalar.cmpi .slt c4_i32_2767 c0_i32_2771
  let v4133 : BitVec 32 := Scalar.extui v4132
  let v4134 : BitVec 32 := Scalar.subi v4131 v4133
  let v4135 : BitVec 1 := Scalar.cmpi .ne v4129 v4134
  let v4136 : BitVec 32 := Scalar.remsi v3773 c4_i32_2767
  let c0_i32_2772 : BitVec 32 := 0#32
  let v4137 : BitVec 1 := Scalar.cmpi .ne v4136 c0_i32_2772
  let v4138 : BitVec 1 := Scalar.andi v4135 v4137
  let v4124 : BitVec 32 := Scalar.divsi v3773 c4_i32_2767
  let c1_i32_2773 : BitVec 32 := 1#32
  let v4139 : BitVec 32 := Scalar.subi v4124 c1_i32_2773
  let v4140 : BitVec 32 := Scalar.select v4138 v4139 v4124
  let v4141 : BitVec 32 := Scalar.muli c4_i32_2774 v4140
  let c3_i32_2781 : BitVec 32 := 3#32
  let c4_i32_2775 : BitVec 32 := 4#32
  let c0_i32_2776 : BitVec 32 := 0#32
  let v4142 : BitVec 1 := Scalar.cmpi .eq c4_i32_2775 c0_i32_2776
  let c1_i32_2777 : BitVec 32 := 1#32
  let v4143 : BitVec 32 := Scalar.select v4142 c1_i32_2777 c4_i32_2775
  let v4144 : BitVec 32 := Scalar.remsi v3773 v4143
  let c0_i32_2779 : BitVec 32 := 0#32
  let v4146 : BitVec 1 := Scalar.cmpi .slt v4144 c0_i32_2779
  let c0_i32_2780 : BitVec 32 := 0#32
  let v4147 : BitVec 1 := Scalar.cmpi .slt v4143 c0_i32_2780
  let v4148 : BitVec 1 := Scalar.xori v4146 v4147
  let c0_i32_2778 : BitVec 32 := 0#32
  let v4145 : BitVec 1 := Scalar.cmpi .ne v4144 c0_i32_2778
  let v4149 : BitVec 1 := Scalar.andi v4148 v4145
  let v4150 : BitVec 32 := Scalar.addi v4144 v4143
  let v4151 : BitVec 32 := Scalar.select v4149 v4150 v4144
  let v4152 : BitVec 32 := Scalar.subi c3_i32_2781 v4151
  let v4153 : BitVec 32 := Scalar.addi v4141 v4152
  let c1_i32_3173 : BitVec 32 := 1#32
  let v4584 : BitVec 32 := Scalar.subi v4153 c1_i32_3173
  let c8_i32_3174 : BitVec 32 := 8#32
  let c0_i32_3175 : BitVec 32 := 0#32
  let v4585 : BitVec 1 := Scalar.cmpi .eq c8_i32_3174 c0_i32_3175
  let c1_i32_3176 : BitVec 32 := 1#32
  let v4586 : BitVec 32 := Scalar.select v4585 c1_i32_3176 c8_i32_3174
  let v4587 : BitVec 32 := Scalar.remsi v4584 v4586
  let c0_i32_3178 : BitVec 32 := 0#32
  let v4589 : BitVec 1 := Scalar.cmpi .slt v4587 c0_i32_3178
  let c0_i32_3179 : BitVec 32 := 0#32
  let v4590 : BitVec 1 := Scalar.cmpi .slt v4586 c0_i32_3179
  let v4591 : BitVec 1 := Scalar.xori v4589 v4590
  let c0_i32_3177 : BitVec 32 := 0#32
  let v4588 : BitVec 1 := Scalar.cmpi .ne v4587 c0_i32_3177
  let v4592 : BitVec 1 := Scalar.andi v4591 v4588
  let v4593 : BitVec 32 := Scalar.addi v4587 v4586
  let v4594 : BitVec 32 := Scalar.select v4592 v4593 v4587
  let v4595 : BitVec 32 := Scalar.muli c2_i32_3180 v4594
  let c1_i32_3181 : BitVec 32 := 1#32
  let v4596 : BitVec 32 := Scalar.addi v4595 c1_i32_3181
  let c0_i32_3196 : BitVec 32 := 0#32
  let c0_i32_3197 : BitVec 32 := 0#32
  ![v4596.toNat, 0, 0]
def k0_dev84 (d0 : Dev nD) : Nat :=
  let c0_i32_3195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3056 : BitVec 32 := 4#32
  let v4436 : BitVec 32 := Scalar.xori v2 c4_i32_3056
  let c1_i32_3194 : BitVec 32 := 1#32
  let v4607 : BitVec 32 := Scalar.muli v4436 c1_i32_3194
  let v4608 : BitVec 32 := Scalar.addi c0_i32_3195 v4607
  v4608.toNat
def k0_dev85 (d0 : Dev nD) : Nat :=
  let c0_i32_3223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3222 : BitVec 32 := 1#32
  let v4643 : BitVec 32 := Scalar.muli v4617 c1_i32_3222
  let v4644 : BitVec 32 := Scalar.addi c0_i32_3223 v4643
  v4644.toNat
def k0_dev86 (d0 : Dev nD) : Nat :=
  let c0_i32_3233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3232 : BitVec 32 := 1#32
  let v4653 : BitVec 32 := Scalar.muli v4617 c1_i32_3232
  let v4654 : BitVec 32 := Scalar.addi c0_i32_3233 v4653
  v4654.toNat
def k0_dev87 (d0 : Dev nD) : Nat :=
  let c0_i32_3260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3259 : BitVec 32 := 1#32
  let v4688 : BitVec 32 := Scalar.muli v4617 c1_i32_3259
  let v4689 : BitVec 32 := Scalar.addi c0_i32_3260 v4688
  v4689.toNat
def k0_dev88 (d0 : Dev nD) : Nat :=
  let c0_i32_3270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3269 : BitVec 32 := 1#32
  let v4698 : BitVec 32 := Scalar.muli v4617 c1_i32_3269
  let v4699 : BitVec 32 := Scalar.addi c0_i32_3270 v4698
  v4699.toNat
def k0_off49 (d0 : Dev nD) : Fin 3 → Nat :=
  let c2_i32_3282 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2857 : BitVec 32 := 4#32
  let v4245 : BitVec 32 := Scalar.xori v2 c4_i32_2857
  let c1_i32_3275 : BitVec 32 := 1#32
  let v4708 : BitVec 32 := Scalar.addi v4245 c1_i32_3275
  let c8_i32_3276 : BitVec 32 := 8#32
  let c0_i32_3277 : BitVec 32 := 0#32
  let v4709 : BitVec 1 := Scalar.cmpi .eq c8_i32_3276 c0_i32_3277
  let c1_i32_3278 : BitVec 32 := 1#32
  let v4710 : BitVec 32 := Scalar.select v4709 c1_i32_3278 c8_i32_3276
  let v4711 : BitVec 32 := Scalar.remsi v4708 v4710
  let c0_i32_3280 : BitVec 32 := 0#32
  let v4713 : BitVec 1 := Scalar.cmpi .slt v4711 c0_i32_3280
  let c0_i32_3281 : BitVec 32 := 0#32
  let v4714 : BitVec 1 := Scalar.cmpi .slt v4710 c0_i32_3281
  let v4715 : BitVec 1 := Scalar.xori v4713 v4714
  let c0_i32_3279 : BitVec 32 := 0#32
  let v4712 : BitVec 1 := Scalar.cmpi .ne v4711 c0_i32_3279
  let v4716 : BitVec 1 := Scalar.andi v4715 v4712
  let v4717 : BitVec 32 := Scalar.addi v4711 v4710
  let v4718 : BitVec 32 := Scalar.select v4716 v4717 v4711
  let v4719 : BitVec 32 := Scalar.muli c2_i32_3282 v4718
  let c0_i32_3298 : BitVec 32 := 0#32
  let c1280_i32_3299 : BitVec 32 := 1280#32
  ![v4719.toNat, 0, 1280]
def k0_dev89 (d0 : Dev nD) : Nat :=
  let c0_i32_3297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3296 : BitVec 32 := 1#32
  let v4733 : BitVec 32 := Scalar.muli v4617 c1_i32_3296
  let v4734 : BitVec 32 := Scalar.addi c0_i32_3297 v4733
  v4734.toNat
def k0_off50 (d0 : Dev nD) : Fin 3 → Nat :=
  let c2_i32_3290 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2857 : BitVec 32 := 4#32
  let v4245 : BitVec 32 := Scalar.xori v2 c4_i32_2857
  let c1_i32_3283 : BitVec 32 := 1#32
  let v4720 : BitVec 32 := Scalar.subi v4245 c1_i32_3283
  let c8_i32_3284 : BitVec 32 := 8#32
  let c0_i32_3285 : BitVec 32 := 0#32
  let v4721 : BitVec 1 := Scalar.cmpi .eq c8_i32_3284 c0_i32_3285
  let c1_i32_3286 : BitVec 32 := 1#32
  let v4722 : BitVec 32 := Scalar.select v4721 c1_i32_3286 c8_i32_3284
  let v4723 : BitVec 32 := Scalar.remsi v4720 v4722
  let c0_i32_3288 : BitVec 32 := 0#32
  let v4725 : BitVec 1 := Scalar.cmpi .slt v4723 c0_i32_3288
  let c0_i32_3289 : BitVec 32 := 0#32
  let v4726 : BitVec 1 := Scalar.cmpi .slt v4722 c0_i32_3289
  let v4727 : BitVec 1 := Scalar.xori v4725 v4726
  let c0_i32_3287 : BitVec 32 := 0#32
  let v4724 : BitVec 1 := Scalar.cmpi .ne v4723 c0_i32_3287
  let v4728 : BitVec 1 := Scalar.andi v4727 v4724
  let v4729 : BitVec 32 := Scalar.addi v4723 v4722
  let v4730 : BitVec 32 := Scalar.select v4728 v4729 v4723
  let v4731 : BitVec 32 := Scalar.muli c2_i32_3290 v4730
  let c1_i32_3291 : BitVec 32 := 1#32
  let v4732 : BitVec 32 := Scalar.addi v4731 c1_i32_3291
  let c0_i32_3308 : BitVec 32 := 0#32
  let c1280_i32_3309 : BitVec 32 := 1280#32
  ![v4732.toNat, 0, 1280]
def k0_dev90 (d0 : Dev nD) : Nat :=
  let c0_i32_3307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3306 : BitVec 32 := 1#32
  let v4743 : BitVec 32 := Scalar.muli v4617 c1_i32_3306
  let v4744 : BitVec 32 := Scalar.addi c0_i32_3307 v4743
  v4744.toNat
def k0_off51 (d0 : Dev nD) : Fin 3 → Nat :=
  let c2_i32_3319 : BitVec 32 := 2#32
  let c4_i32_2557 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2551 : BitVec 32 := 0#32
  let v3850 : BitVec 1 := Scalar.cmpi .sgt v2 c0_i32_2551
  let v3851 : BitVec 32 := Scalar.extui v3850
  let c0_i32_2552 : BitVec 32 := 0#32
  let v3852 : BitVec 1 := Scalar.cmpi .slt v2 c0_i32_2552
  let v3853 : BitVec 32 := Scalar.extui v3852
  let v3854 : BitVec 32 := Scalar.subi v3851 v3853
  let c4_i32_2550 : BitVec 32 := 4#32
  let c0_i32_2553 : BitVec 32 := 0#32
  let v3855 : BitVec 1 := Scalar.cmpi .sgt c4_i32_2550 c0_i32_2553
  let v3856 : BitVec 32 := Scalar.extui v3855
  let c0_i32_2554 : BitVec 32 := 0#32
  let v3857 : BitVec 1 := Scalar.cmpi .slt c4_i32_2550 c0_i32_2554
  let v3858 : BitVec 32 := Scalar.extui v3857
  let v3859 : BitVec 32 := Scalar.subi v3856 v3858
  let v3860 : BitVec 1 := Scalar.cmpi .ne v3854 v3859
  let v3861 : BitVec 32 := Scalar.remsi v2 c4_i32_2550
  let c0_i32_2555 : BitVec 32 := 0#32
  let v3862 : BitVec 1 := Scalar.cmpi .ne v3861 c0_i32_2555
  let v3863 : BitVec 1 := Scalar.andi v3860 v3862
  let v3849 : BitVec 32 := Scalar.divsi v2 c4_i32_2550
  let c1_i32_2556 : BitVec 32 := 1#32
  let v3864 : BitVec 32 := Scalar.subi v3849 c1_i32_2556
  let v3865 : BitVec 32 := Scalar.select v3863 v3864 v3849
  let v3866 : BitVec 32 := Scalar.muli c4_i32_2557 v3865
  let c3_i32_2564 : BitVec 32 := 3#32
  let c4_i32_2558 : BitVec 32 := 4#32
  let c0_i32_2559 : BitVec 32 := 0#32
  let v3867 : BitVec 1 := Scalar.cmpi .eq c4_i32_2558 c0_i32_2559
  let c1_i32_2560 : BitVec 32 := 1#32
  let v3868 : BitVec 32 := Scalar.select v3867 c1_i32_2560 c4_i32_2558
  let v3869 : BitVec 32 := Scalar.remsi v2 v3868
  let c0_i32_2562 : BitVec 32 := 0#32
  let v3871 : BitVec 1 := Scalar.cmpi .slt v3869 c0_i32_2562
  let c0_i32_2563 : BitVec 32 := 0#32
  let v3872 : BitVec 1 := Scalar.cmpi .slt v3868 c0_i32_2563
  let v3873 : BitVec 1 := Scalar.xori v3871 v3872
  let c0_i32_2561 : BitVec 32 := 0#32
  let v3870 : BitVec 1 := Scalar.cmpi .ne v3869 c0_i32_2561
  let v3874 : BitVec 1 := Scalar.andi v3873 v3870
  let v3875 : BitVec 32 := Scalar.addi v3869 v3868
  let v3876 : BitVec 32 := Scalar.select v3874 v3875 v3869
  let v3877 : BitVec 32 := Scalar.subi c3_i32_2564 v3876
  let v3878 : BitVec 32 := Scalar.addi v3866 v3877
  let c4_i32_2858 : BitVec 32 := 4#32
  let v4246 : BitVec 32 := Scalar.xori v3878 c4_i32_2858
  let c1_i32_3312 : BitVec 32 := 1#32
  let v4753 : BitVec 32 := Scalar.addi v4246 c1_i32_3312
  let c8_i32_3313 : BitVec 32 := 8#32
  let c0_i32_3314 : BitVec 32 := 0#32
  let v4754 : BitVec 1 := Scalar.cmpi .eq c8_i32_3313 c0_i32_3314
  let c1_i32_3315 : BitVec 32 := 1#32
  let v4755 : BitVec 32 := Scalar.select v4754 c1_i32_3315 c8_i32_3313
  let v4756 : BitVec 32 := Scalar.remsi v4753 v4755
  let c0_i32_3317 : BitVec 32 := 0#32
  let v4758 : BitVec 1 := Scalar.cmpi .slt v4756 c0_i32_3317
  let c0_i32_3318 : BitVec 32 := 0#32
  let v4759 : BitVec 1 := Scalar.cmpi .slt v4755 c0_i32_3318
  let v4760 : BitVec 1 := Scalar.xori v4758 v4759
  let c0_i32_3316 : BitVec 32 := 0#32
  let v4757 : BitVec 1 := Scalar.cmpi .ne v4756 c0_i32_3316
  let v4761 : BitVec 1 := Scalar.andi v4760 v4757
  let v4762 : BitVec 32 := Scalar.addi v4756 v4755
  let v4763 : BitVec 32 := Scalar.select v4761 v4762 v4756
  let v4764 : BitVec 32 := Scalar.muli c2_i32_3319 v4763
  let c0_i32_3335 : BitVec 32 := 0#32
  let c1280_i32_3336 : BitVec 32 := 1280#32
  ![v4764.toNat, 0, 1280]
def k0_dev91 (d0 : Dev nD) : Nat :=
  let c0_i32_3334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3333 : BitVec 32 := 1#32
  let v4778 : BitVec 32 := Scalar.muli v4617 c1_i32_3333
  let v4779 : BitVec 32 := Scalar.addi c0_i32_3334 v4778
  v4779.toNat
def k0_off52 (d0 : Dev nD) : Fin 3 → Nat :=
  let c2_i32_3327 : BitVec 32 := 2#32
  let c4_i32_2557 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2551 : BitVec 32 := 0#32
  let v3850 : BitVec 1 := Scalar.cmpi .sgt v2 c0_i32_2551
  let v3851 : BitVec 32 := Scalar.extui v3850
  let c0_i32_2552 : BitVec 32 := 0#32
  let v3852 : BitVec 1 := Scalar.cmpi .slt v2 c0_i32_2552
  let v3853 : BitVec 32 := Scalar.extui v3852
  let v3854 : BitVec 32 := Scalar.subi v3851 v3853
  let c4_i32_2550 : BitVec 32 := 4#32
  let c0_i32_2553 : BitVec 32 := 0#32
  let v3855 : BitVec 1 := Scalar.cmpi .sgt c4_i32_2550 c0_i32_2553
  let v3856 : BitVec 32 := Scalar.extui v3855
  let c0_i32_2554 : BitVec 32 := 0#32
  let v3857 : BitVec 1 := Scalar.cmpi .slt c4_i32_2550 c0_i32_2554
  let v3858 : BitVec 32 := Scalar.extui v3857
  let v3859 : BitVec 32 := Scalar.subi v3856 v3858
  let v3860 : BitVec 1 := Scalar.cmpi .ne v3854 v3859
  let v3861 : BitVec 32 := Scalar.remsi v2 c4_i32_2550
  let c0_i32_2555 : BitVec 32 := 0#32
  let v3862 : BitVec 1 := Scalar.cmpi .ne v3861 c0_i32_2555
  let v3863 : BitVec 1 := Scalar.andi v3860 v3862
  let v3849 : BitVec 32 := Scalar.divsi v2 c4_i32_2550
  let c1_i32_2556 : BitVec 32 := 1#32
  let v3864 : BitVec 32 := Scalar.subi v3849 c1_i32_2556
  let v3865 : BitVec 32 := Scalar.select v3863 v3864 v3849
  let v3866 : BitVec 32 := Scalar.muli c4_i32_2557 v3865
  let c3_i32_2564 : BitVec 32 := 3#32
  let c4_i32_2558 : BitVec 32 := 4#32
  let c0_i32_2559 : BitVec 32 := 0#32
  let v3867 : BitVec 1 := Scalar.cmpi .eq c4_i32_2558 c0_i32_2559
  let c1_i32_2560 : BitVec 32 := 1#32
  let v3868 : BitVec 32 := Scalar.select v3867 c1_i32_2560 c4_i32_2558
  let v3869 : BitVec 32 := Scalar.remsi v2 v3868
  let c0_i32_2562 : BitVec 32 := 0#32
  let v3871 : BitVec 1 := Scalar.cmpi .slt v3869 c0_i32_2562
  let c0_i32_2563 : BitVec 32 := 0#32
  let v3872 : BitVec 1 := Scalar.cmpi .slt v3868 c0_i32_2563
  let v3873 : BitVec 1 := Scalar.xori v3871 v3872
  let c0_i32_2561 : BitVec 32 := 0#32
  let v3870 : BitVec 1 := Scalar.cmpi .ne v3869 c0_i32_2561
  let v3874 : BitVec 1 := Scalar.andi v3873 v3870
  let v3875 : BitVec 32 := Scalar.addi v3869 v3868
  let v3876 : BitVec 32 := Scalar.select v3874 v3875 v3869
  let v3877 : BitVec 32 := Scalar.subi c3_i32_2564 v3876
  let v3878 : BitVec 32 := Scalar.addi v3866 v3877
  let c4_i32_2858 : BitVec 32 := 4#32
  let v4246 : BitVec 32 := Scalar.xori v3878 c4_i32_2858
  let c1_i32_3320 : BitVec 32 := 1#32
  let v4765 : BitVec 32 := Scalar.subi v4246 c1_i32_3320
  let c8_i32_3321 : BitVec 32 := 8#32
  let c0_i32_3322 : BitVec 32 := 0#32
  let v4766 : BitVec 1 := Scalar.cmpi .eq c8_i32_3321 c0_i32_3322
  let c1_i32_3323 : BitVec 32 := 1#32
  let v4767 : BitVec 32 := Scalar.select v4766 c1_i32_3323 c8_i32_3321
  let v4768 : BitVec 32 := Scalar.remsi v4765 v4767
  let c0_i32_3325 : BitVec 32 := 0#32
  let v4770 : BitVec 1 := Scalar.cmpi .slt v4768 c0_i32_3325
  let c0_i32_3326 : BitVec 32 := 0#32
  let v4771 : BitVec 1 := Scalar.cmpi .slt v4767 c0_i32_3326
  let v4772 : BitVec 1 := Scalar.xori v4770 v4771
  let c0_i32_3324 : BitVec 32 := 0#32
  let v4769 : BitVec 1 := Scalar.cmpi .ne v4768 c0_i32_3324
  let v4773 : BitVec 1 := Scalar.andi v4772 v4769
  let v4774 : BitVec 32 := Scalar.addi v4768 v4767
  let v4775 : BitVec 32 := Scalar.select v4773 v4774 v4768
  let v4776 : BitVec 32 := Scalar.muli c2_i32_3327 v4775
  let c1_i32_3328 : BitVec 32 := 1#32
  let v4777 : BitVec 32 := Scalar.addi v4776 c1_i32_3328
  let c0_i32_3345 : BitVec 32 := 0#32
  let c1280_i32_3346 : BitVec 32 := 1280#32
  ![v4777.toNat, 0, 1280]
def k0_dev92 (d0 : Dev nD) : Nat :=
  let c0_i32_3344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3200 : BitVec 32 := 1#32
  let v4617 : BitVec 32 := Scalar.xori v2 c1_i32_3200
  let c1_i32_3343 : BitVec 32 := 1#32
  let v4788 : BitVec 32 := Scalar.muli v4617 c1_i32_3343
  let v4789 : BitVec 32 := Scalar.addi c0_i32_3344 v4788
  v4789.toNat
def k0_dev93 (d0 : Dev nD) : Nat :=
  let c0_i32_3386 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3385 : BitVec 32 := 1#32
  let v4853 : BitVec 32 := Scalar.muli v4827 c1_i32_3385
  let v4854 : BitVec 32 := Scalar.addi c0_i32_3386 v4853
  v4854.toNat
def k0_dev94 (d0 : Dev nD) : Nat :=
  let c0_i32_3396 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3395 : BitVec 32 := 1#32
  let v4863 : BitVec 32 := Scalar.muli v4827 c1_i32_3395
  let v4864 : BitVec 32 := Scalar.addi c0_i32_3396 v4863
  v4864.toNat
def k0_dev95 (d0 : Dev nD) : Nat :=
  let c0_i32_3423 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3422 : BitVec 32 := 1#32
  let v4898 : BitVec 32 := Scalar.muli v4827 c1_i32_3422
  let v4899 : BitVec 32 := Scalar.addi c0_i32_3423 v4898
  v4899.toNat
def k0_dev96 (d0 : Dev nD) : Nat :=
  let c0_i32_3433 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3432 : BitVec 32 := 1#32
  let v4908 : BitVec 32 := Scalar.muli v4827 c1_i32_3432
  let v4909 : BitVec 32 := Scalar.addi c0_i32_3433 v4908
  v4909.toNat
def k0_dev97 (d0 : Dev nD) : Nat :=
  let c0_i32_3460 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3459 : BitVec 32 := 1#32
  let v4943 : BitVec 32 := Scalar.muli v4827 c1_i32_3459
  let v4944 : BitVec 32 := Scalar.addi c0_i32_3460 v4943
  v4944.toNat
def k0_dev98 (d0 : Dev nD) : Nat :=
  let c0_i32_3470 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3469 : BitVec 32 := 1#32
  let v4953 : BitVec 32 := Scalar.muli v4827 c1_i32_3469
  let v4954 : BitVec 32 := Scalar.addi c0_i32_3470 v4953
  v4954.toNat
def k0_off53 (d0 : Dev nD) : Fin 3 → Nat :=
  let c2_i32_3482 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2602 : BitVec 32 := 4#32
  let v3925 : BitVec 32 := Scalar.xori v2 c4_i32_2602
  let c1_i32_2935 : BitVec 32 := 1#32
  let v4339 : BitVec 32 := Scalar.xori v3925 c1_i32_2935
  let c1_i32_3475 : BitVec 32 := 1#32
  let v4963 : BitVec 32 := Scalar.addi v4339 c1_i32_3475
  let c8_i32_3476 : BitVec 32 := 8#32
  let c0_i32_3477 : BitVec 32 := 0#32
  let v4964 : BitVec 1 := Scalar.cmpi .eq c8_i32_3476 c0_i32_3477
  let c1_i32_3478 : BitVec 32 := 1#32
  let v4965 : BitVec 32 := Scalar.select v4964 c1_i32_3478 c8_i32_3476
  let v4966 : BitVec 32 := Scalar.remsi v4963 v4965
  let c0_i32_3480 : BitVec 32 := 0#32
  let v4968 : BitVec 1 := Scalar.cmpi .slt v4966 c0_i32_3480
  let c0_i32_3481 : BitVec 32 := 0#32
  let v4969 : BitVec 1 := Scalar.cmpi .slt v4965 c0_i32_3481
  let v4970 : BitVec 1 := Scalar.xori v4968 v4969
  let c0_i32_3479 : BitVec 32 := 0#32
  let v4967 : BitVec 1 := Scalar.cmpi .ne v4966 c0_i32_3479
  let v4971 : BitVec 1 := Scalar.andi v4970 v4967
  let v4972 : BitVec 32 := Scalar.addi v4966 v4965
  let v4973 : BitVec 32 := Scalar.select v4971 v4972 v4966
  let v4974 : BitVec 32 := Scalar.muli c2_i32_3482 v4973
  let c0_i32_3498 : BitVec 32 := 0#32
  let c2688_i32_3499 : BitVec 32 := 2688#32
  ![v4974.toNat, 0, 2688]
def k0_dev99 (d0 : Dev nD) : Nat :=
  let c0_i32_3497 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3496 : BitVec 32 := 1#32
  let v4988 : BitVec 32 := Scalar.muli v4827 c1_i32_3496
  let v4989 : BitVec 32 := Scalar.addi c0_i32_3497 v4988
  v4989.toNat
def k0_off54 (d0 : Dev nD) : Fin 3 → Nat :=
  let c2_i32_3490 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2602 : BitVec 32 := 4#32
  let v3925 : BitVec 32 := Scalar.xori v2 c4_i32_2602
  let c1_i32_2935 : BitVec 32 := 1#32
  let v4339 : BitVec 32 := Scalar.xori v3925 c1_i32_2935
  let c1_i32_3483 : BitVec 32 := 1#32
  let v4975 : BitVec 32 := Scalar.subi v4339 c1_i32_3483
  let c8_i32_3484 : BitVec 32 := 8#32
  let c0_i32_3485 : BitVec 32 := 0#32
  let v4976 : BitVec 1 := Scalar.cmpi .eq c8_i32_3484 c0_i32_3485
  let c1_i32_3486 : BitVec 32 := 1#32
  let v4977 : BitVec 32 := Scalar.select v4976 c1_i32_3486 c8_i32_3484
  let v4978 : BitVec 32 := Scalar.remsi v4975 v4977
  let c0_i32_3488 : BitVec 32 := 0#32
  let v4980 : BitVec 1 := Scalar.cmpi .slt v4978 c0_i32_3488
  let c0_i32_3489 : BitVec 32 := 0#32
  let v4981 : BitVec 1 := Scalar.cmpi .slt v4977 c0_i32_3489
  let v4982 : BitVec 1 := Scalar.xori v4980 v4981
  let c0_i32_3487 : BitVec 32 := 0#32
  let v4979 : BitVec 1 := Scalar.cmpi .ne v4978 c0_i32_3487
  let v4983 : BitVec 1 := Scalar.andi v4982 v4979
  let v4984 : BitVec 32 := Scalar.addi v4978 v4977
  let v4985 : BitVec 32 := Scalar.select v4983 v4984 v4978
  let v4986 : BitVec 32 := Scalar.muli c2_i32_3490 v4985
  let c1_i32_3491 : BitVec 32 := 1#32
  let v4987 : BitVec 32 := Scalar.addi v4986 c1_i32_3491
  let c0_i32_3508 : BitVec 32 := 0#32
  let c2688_i32_3509 : BitVec 32 := 2688#32
  ![v4987.toNat, 0, 2688]
def k0_dev100 (d0 : Dev nD) : Nat :=
  let c0_i32_3507 : BitVec 32 := 0#32
  let c4_i32_3356 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3350 : BitVec 32 := 0#32
  let v4799 : BitVec 1 := Scalar.cmpi .sgt v2 c0_i32_3350
  let v4800 : BitVec 32 := Scalar.extui v4799
  let c0_i32_3351 : BitVec 32 := 0#32
  let v4801 : BitVec 1 := Scalar.cmpi .slt v2 c0_i32_3351
  let v4802 : BitVec 32 := Scalar.extui v4801
  let v4803 : BitVec 32 := Scalar.subi v4800 v4802
  let c4_i32_3349 : BitVec 32 := 4#32
  let c0_i32_3352 : BitVec 32 := 0#32
  let v4804 : BitVec 1 := Scalar.cmpi .sgt c4_i32_3349 c0_i32_3352
  let v4805 : BitVec 32 := Scalar.extui v4804
  let c0_i32_3353 : BitVec 32 := 0#32
  let v4806 : BitVec 1 := Scalar.cmpi .slt c4_i32_3349 c0_i32_3353
  let v4807 : BitVec 32 := Scalar.extui v4806
  let v4808 : BitVec 32 := Scalar.subi v4805 v4807
  let v4809 : BitVec 1 := Scalar.cmpi .ne v4803 v4808
  let v4810 : BitVec 32 := Scalar.remsi v2 c4_i32_3349
  let c0_i32_3354 : BitVec 32 := 0#32
  let v4811 : BitVec 1 := Scalar.cmpi .ne v4810 c0_i32_3354
  let v4812 : BitVec 1 := Scalar.andi v4809 v4811
  let v4798 : BitVec 32 := Scalar.divsi v2 c4_i32_3349
  let c1_i32_3355 : BitVec 32 := 1#32
  let v4813 : BitVec 32 := Scalar.subi v4798 c1_i32_3355
  let v4814 : BitVec 32 := Scalar.select v4812 v4813 v4798
  let v4815 : BitVec 32 := Scalar.muli c4_i32_3356 v4814
  let c3_i32_3363 : BitVec 32 := 3#32
  let c4_i32_3357 : BitVec 32 := 4#32
  let c0_i32_3358 : BitVec 32 := 0#32
  let v4816 : BitVec 1 := Scalar.cmpi .eq c4_i32_3357 c0_i32_3358
  let c1_i32_3359 : BitVec 32 := 1#32
  let v4817 : BitVec 32 := Scalar.select v4816 c1_i32_3359 c4_i32_3357
  let v4818 : BitVec 32 := Scalar.remsi v2 v4817
  let c0_i32_3361 : BitVec 32 := 0#32
  let v4820 : BitVec 1 := Scalar.cmpi .slt v4818 c0_i32_3361
  let c0_i32_3362 : BitVec 32 := 0#32
  let v4821 : BitVec 1 := Scalar.cmpi .slt v4817 c0_i32_3362
  let v4822 : BitVec 1 := Scalar.xori v4820 v4821
  let c0_i32_3360 : BitVec 32 := 0#32
  let v4819 : BitVec 1 := Scalar.cmpi .ne v4818 c0_i32_3360
  let v4823 : BitVec 1 := Scalar.andi v4822 v4819
  let v4824 : BitVec 32 := Scalar.addi v4818 v4817
  let v4825 : BitVec 32 := Scalar.select v4823 v4824 v4818
  let v4826 : BitVec 32 := Scalar.subi c3_i32_3363 v4825
  let v4827 : BitVec 32 := Scalar.addi v4815 v4826
  let c1_i32_3506 : BitVec 32 := 1#32
  let v4998 : BitVec 32 := Scalar.muli v4827 c1_i32_3506
  let v4999 : BitVec 32 := Scalar.addi c0_i32_3507 v4998
  v4999.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1024x4096 : Shape := ⟨2, ![1024, 4096]⟩
abbrev S1024x2048 : Shape := ⟨2, ![1024, 2048]⟩
abbrev S1024x64 : Shape := ⟨2, ![1024, 64]⟩
abbrev S4096x4096 : Shape := ⟨2, ![4096, 4096]⟩
abbrev S4x256x32x128 : Shape := ⟨4, ![4, 256, 32, 128]⟩
abbrev S4x256x32x64 : Shape := ⟨4, ![4, 256, 32, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩
abbrev S16x64x4096 : Shape := ⟨3, ![16, 64, 4096]⟩

abbrev nBuf : Space → Nat
  | .hbm => 41
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S1024x4096, .bf16⟩
  | .hbm, ⟨3, _⟩ => ⟨S1024x2048, .bf16⟩
  | .hbm, ⟨4, _⟩ => ⟨S1024x64, .bf16⟩
  | .hbm, ⟨5, _⟩ => ⟨S4096x4096, .bf16⟩
  | .hbm, ⟨6, _⟩ => ⟨S1024x4096, .f32⟩
  | .hbm, ⟨7, _⟩ => ⟨S4x256x32x128, .f32⟩
  | .hbm, ⟨8, _⟩ => ⟨S1024x4096, .f32⟩
  | .hbm, ⟨9, _⟩ => ⟨S4x256x32x128, .f32⟩
  | .hbm, ⟨10, _⟩ => ⟨S1024x4096, .f32⟩
  | .hbm, ⟨11, _⟩ => ⟨S4x256x32x128, .f32⟩
  | .hbm, ⟨12, _⟩ => ⟨S1024x2048, .f32⟩
  | .hbm, ⟨13, _⟩ => ⟨S4x256x32x64, .f32⟩
  | .hbm, ⟨14, _⟩ => ⟨S1024x64, .f32⟩
  | .hbm, ⟨15, _⟩ => ⟨S4x256x1x64, .f32⟩
  | .hbm, ⟨16, _⟩ => ⟨S4x32x256x256, .f32⟩
  | .hbm, ⟨17, _⟩ => ⟨S4x256x32x64, .f32⟩
  | .hbm, ⟨18, _⟩ => ⟨S4x32x256x256, .f32⟩
  | .hbm, ⟨19, _⟩ => ⟨S4x32x256x256, .f32⟩
  | .hbm, ⟨20, _⟩ => ⟨S_, .f32⟩
  | .hbm, ⟨21, _⟩ => ⟨S4x32x256x256, .f32⟩
  | .hbm, ⟨22, _⟩ => ⟨S4x32x256x256, .f32⟩
  | .hbm, ⟨23, _⟩ => ⟨S_, .f32⟩
  | .hbm, ⟨24, _⟩ => ⟨S4x32x256, .f32⟩
  | .hbm, ⟨25, _⟩ => ⟨S4x32x256x1, .f32⟩
  | .hbm, ⟨26, _⟩ => ⟨S4x32x256x256, .f32⟩
  | .hbm, ⟨27, _⟩ => ⟨S4x32x256x256, .f32⟩
  | .hbm, ⟨28, _⟩ => ⟨S4x32x256x256, .f32⟩
  | .hbm, ⟨29, _⟩ => ⟨S_, .f32⟩
  | .hbm, ⟨30, _⟩ => ⟨S4x32x256, .f32⟩
  | .hbm, ⟨31, _⟩ => ⟨S4x32x256x1, .f32⟩
  | .hbm, ⟨32, _⟩ => ⟨S4x32x256x256, .f32⟩
  | .hbm, ⟨33, _⟩ => ⟨S4x32x256x256, .f32⟩
  | .hbm, ⟨34, _⟩ => ⟨S4x32x128x256, .f32⟩
  | .hbm, ⟨35, _⟩ => ⟨S4x256x32x128, .f32⟩
  | .hbm, ⟨36, _⟩ => ⟨S1024x4096, .f32⟩
  | .hbm, ⟨37, _⟩ => ⟨S4096x4096, .f32⟩
  | .hbm, ⟨38, _⟩ => ⟨S1024x4096, .f32⟩
  | .hbm, ⟨39, _⟩ => ⟨S1024x4096, .bf16⟩
  | .hbm, ⟨40, _⟩ => ⟨S16x64x4096, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kvq.lean ====
abbrev S1024x4096 : Shape := ⟨2, ![1024, 4096]⟩
abbrev S4096x128 : Shape := ⟨2, ![4096, 128]⟩
abbrev S8x128x512 : Shape := ⟨3, ![8, 128, 512]⟩
abbrev S4096x512 : Shape := ⟨2, ![4096, 512]⟩
abbrev S4096x256 : Shape := ⟨2, ![4096, 256]⟩
abbrev S4096x64 : Shape := ⟨2, ![4096, 64]⟩
abbrev S1024x512 : Shape := ⟨2, ![1024, 512]⟩
abbrev S1024x256 : Shape := ⟨2, ![1024, 256]⟩
abbrev S1024x64 : Shape := ⟨2, ![1024, 64]⟩
abbrev S1024x128 : Shape := ⟨2, ![1024, 128]⟩
abbrev S1024x1024 : Shape := ⟨2, ![1024, 1024]⟩
abbrev S7 : Shape := ⟨1, ![7]⟩
abbrev S_ : Shape := ⟨0, ![]⟩
abbrev S1 : Shape := ⟨1, ![1]⟩
abbrev S128x512 : Shape := ⟨2, ![128, 512]⟩
abbrev S1x128x512 : Shape := ⟨3, ![1, 128, 512]⟩

abbrev nBuf : Space → Nat
  | .hbm => 12
  | .vmem => 16
  | .smem => 0
  | _ => 0

abbrev bufTy : (tb : Table) → Fin (tcTables nBuf tb) → BufTy
  | .hbm, ⟨0, _⟩ => ⟨S1024x4096, .bf16⟩
  | .hbm, ⟨1, _⟩ => ⟨S4096x128, .bf16⟩
  | .hbm, ⟨2, _⟩ => ⟨S8x128x512, .bf16⟩
  | .hbm, ⟨3, _⟩ => ⟨S8x128x512, .bf16⟩
  | .hbm, ⟨4, _⟩ => ⟨S4096x512, .bf16⟩
  | .hbm, ⟨5, _⟩ => ⟨S4096x256, .bf16⟩
  | .hbm, ⟨6, _⟩ => ⟨S4096x64, .bf16⟩
  | .hbm, ⟨7, _⟩ => ⟨S1024x512, .bf16⟩
  | .hbm, ⟨8, _⟩ => ⟨S1024x256, .bf16⟩
  | .hbm, ⟨9, _⟩ => ⟨S1024x64, .bf16⟩
  | .hbm, ⟨10, _⟩ => ⟨S1024x512, .bf16⟩
  | .hbm, ⟨11, _⟩ => ⟨S1024x512, .bf16⟩
  | .local _ .vmem, ⟨0, _⟩ => ⟨S1024x4096, .bf16⟩
  | .local _ .vmem, ⟨1, _⟩ => ⟨S4096x128, .bf16⟩
  | .local _ .vmem, ⟨2, _⟩ => ⟨S8x128x512, .bf16⟩
  | .local _ .vmem, ⟨3, _⟩ => ⟨S8x128x512, .bf16⟩
  | .local _ .vmem, ⟨4, _⟩ => ⟨S4096x512, .bf16⟩
  | .local _ .vmem, ⟨5, _⟩ => ⟨S4096x256, .bf16⟩
  | .local _ .vmem, ⟨6, _⟩ => ⟨S4096x64, .bf16⟩
  | .local _ .vmem, ⟨7, _⟩ => ⟨S1024x512, .bf16⟩
  | .local _ .vmem, ⟨8, _⟩ => ⟨S1024x256, .bf16⟩
  | .local _ .vmem, ⟨9, _⟩ => ⟨S1024x64, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x1024, .bf16⟩
  | .local _ .vmem, ⟨14, _⟩ => ⟨S1024x512, .bf16⟩
  | .local _ .vmem, ⟨15, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v24 : BitVec 32 := Scalar.addi v2 c1_i32_11
  let c8_i32_12 : BitVec 32 := 8#32
  let c0_i32_13 : BitVec 32 := 0#32
  let v25 : BitVec 1 := Scalar.cmpi .eq c8_i32_12 c0_i32_13
  let c1_i32_14 : BitVec 32 := 1#32
  let v26 : BitVec 32 := Scalar.select v25 c1_i32_14 c8_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c1_i32_19 : BitVec 32 := 1#32
  let v35 : BitVec 32 := Scalar.muli v34 c1_i32_19
  let v36 : BitVec 32 := Scalar.addi c0_i32_20 v35
  v36.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v37 : BitVec 32 := Scalar.addi v2 c2_i32
  let c8_i32_21 : BitVec 32 := 8#32
  let c0_i32_22 : BitVec 32 := 0#32
  let v38 : BitVec 1 := Scalar.cmpi .eq c8_i32_21 c0_i32_22
  let c1_i32_23 : BitVec 32 := 1#32
  let v39 : BitVec 32 := Scalar.select v38 c1_i32_23 c8_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_28 : BitVec 32 := 1#32
  let v48 : BitVec 32 := Scalar.muli v47 c1_i32_28
  let v49 : BitVec 32 := Scalar.addi c0_i32_29 v48
  v49.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v50 : BitVec 32 := Scalar.addi v2 c3_i32
  let c8_i32_30 : BitVec 32 := 8#32
  let c0_i32_31 : BitVec 32 := 0#32
  let v51 : BitVec 1 := Scalar.cmpi .eq c8_i32_30 c0_i32_31
  let c1_i32_32 : BitVec 32 := 1#32
  let v52 : BitVec 32 := Scalar.select v51 c1_i32_32 c8_i32_30
  let v53 : BitVec 32 := Scalar.remsi v50 v52
  let c0_i32_34 : BitVec 32 := 0#32
  let v55 : BitVec 1 := Scalar.cmpi .slt v53 c0_i32_34
  let c0_i32_35 : BitVec 32 := 0#32
  let v56 : BitVec 1 := Scalar.cmpi .slt v52 c0_i32_35
  let v57 : BitVec 1 := Scalar.xori v55 v56
  let c0_i32_33 : BitVec 32 := 0#32
  let v54 : BitVec 1 := Scalar.cmpi .ne v53 c0_i32_33
  let v58 : BitVec 1 := Scalar.andi v57 v54
  let v59 : BitVec 32 := Scalar.addi v53 v52
  let v60 : BitVec 32 := Scalar.select v58 v59 v53
  let c1_i32_37 : BitVec 32 := 1#32
  let v61 : BitVec 32 := Scalar.muli v60 c1_i32_37
  let v62 : BitVec 32 := Scalar.addi c0_i32_38 v61
  v62.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v63 : BitVec 32 := Scalar.addi v2 c4_i32
  let c8_i32_39 : BitVec 32 := 8#32
  let c0_i32_40 : BitVec 32 := 0#32
  let v64 : BitVec 1 := Scalar.cmpi .eq c8_i32_39 c0_i32_40
  let c1_i32_41 : BitVec 32 := 1#32
  let v65 : BitVec 32 := Scalar.select v64 c1_i32_41 c8_i32_39
  let v66 : BitVec 32 := Scalar.remsi v63 v65
  let c0_i32_43 : BitVec 32 := 0#32
  let v68 : BitVec 1 := Scalar.cmpi .slt v66 c0_i32_43
  let c0_i32_44 : BitVec 32 := 0#32
  let v69 : BitVec 1 := Scalar.cmpi .slt v65 c0_i32_44
  let v70 : BitVec 1 := Scalar.xori v68 v69
  let c0_i32_42 : BitVec 32 := 0#32
  let v67 : BitVec 1 := Scalar.cmpi .ne v66 c0_i32_42
  let v71 : BitVec 1 := Scalar.andi v70 v67
  let v72 : BitVec 32 := Scalar.addi v66 v65
  let v73 : BitVec 32 := Scalar.select v71 v72 v66
  let c1_i32_46 : BitVec 32 := 1#32
  let v74 : BitVec 32 := Scalar.muli v73 c1_i32_46
  let v75 : BitVec 32 := Scalar.addi c0_i32_47 v74
  v75.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v76 : BitVec 32 := Scalar.addi v2 c5_i32
  let c8_i32_48 : BitVec 32 := 8#32
  let c0_i32_49 : BitVec 32 := 0#32
  let v77 : BitVec 1 := Scalar.cmpi .eq c8_i32_48 c0_i32_49
  let c1_i32_50 : BitVec 32 := 1#32
  let v78 : BitVec 32 := Scalar.select v77 c1_i32_50 c8_i32_48
  let v79 : BitVec 32 := Scalar.remsi v76 v78
  let c0_i32_52 : BitVec 32 := 0#32
  let v81 : BitVec 1 := Scalar.cmpi .slt v79 c0_i32_52
  let c0_i32_53 : BitVec 32 := 0#32
  let v82 : BitVec 1 := Scalar.cmpi .slt v78 c0_i32_53
  let v83 : BitVec 1 := Scalar.xori v81 v82
  let c0_i32_51 : BitVec 32 := 0#32
  let v80 : BitVec 1 := Scalar.cmpi .ne v79 c0_i32_51
  let v84 : BitVec 1 := Scalar.andi v83 v80
  let v85 : BitVec 32 := Scalar.addi v79 v78
  let v86 : BitVec 32 := Scalar.select v84 v85 v79
  let c1_i32_55 : BitVec 32 := 1#32
  let v87 : BitVec 32 := Scalar.muli v86 c1_i32_55
  let v88 : BitVec 32 := Scalar.addi c0_i32_56 v87
  v88.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v89 : BitVec 32 := Scalar.addi v2 c6_i32
  let c8_i32_57 : BitVec 32 := 8#32
  let c0_i32_58 : BitVec 32 := 0#32
  let v90 : BitVec 1 := Scalar.cmpi .eq c8_i32_57 c0_i32_58
  let c1_i32_59 : BitVec 32 := 1#32
  let v91 : BitVec 32 := Scalar.select v90 c1_i32_59 c8_i32_57
  let v92 : BitVec 32 := Scalar.remsi v89 v91
  let c0_i32_61 : BitVec 32 := 0#32
  let v94 : BitVec 1 := Scalar.cmpi .slt v92 c0_i32_61
  let c0_i32_62 : BitVec 32 := 0#32
  let v95 : BitVec 1 := Scalar.cmpi .slt v91 c0_i32_62
  let v96 : BitVec 1 := Scalar.xori v94 v95
  let c0_i32_60 : BitVec 32 := 0#32
  let v93 : BitVec 1 := Scalar.cmpi .ne v92 c0_i32_60
  let v97 : BitVec 1 := Scalar.andi v96 v93
  let v98 : BitVec 32 := Scalar.addi v92 v91
  let v99 : BitVec 32 := Scalar.select v97 v98 v92
  let c1_i32_64 : BitVec 32 := 1#32
  let v100 : BitVec 32 := Scalar.muli v99 c1_i32_64
  let v101 : BitVec 32 := Scalar.addi c0_i32_65 v100
  v101.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v102 : BitVec 32 := Scalar.addi v2 c7_i32
  let c8_i32_66 : BitVec 32 := 8#32
  let c0_i32_67 : BitVec 32 := 0#32
  let v103 : BitVec 1 := Scalar.cmpi .eq c8_i32_66 c0_i32_67
  let c1_i32_68 : BitVec 32 := 1#32
  let v104 : BitVec 32 := Scalar.select v103 c1_i32_68 c8_i32_66
  let v105 : BitVec 32 := Scalar.remsi v102 v104
  let c0_i32_70 : BitVec 32 := 0#32
  let v107 : BitVec 1 := Scalar.cmpi .slt v105 c0_i32_70
  let c0_i32_71 : BitVec 32 := 0#32
  let v108 : BitVec 1 := Scalar.cmpi .slt v104 c0_i32_71
  let v109 : BitVec 1 := Scalar.xori v107 v108
  let c0_i32_69 : BitVec 32 := 0#32
  let v106 : BitVec 1 := Scalar.cmpi .ne v105 c0_i32_69
  let v110 : BitVec 1 := Scalar.andi v109 v106
  let v111 : BitVec 32 := Scalar.addi v105 v104
  let v112 : BitVec 32 := Scalar.select v110 v111 v105
  let c1_i32_73 : BitVec 32 := 1#32
  let v113 : BitVec 32 := Scalar.muli v112 c1_i32_73
  let v114 : BitVec 32 := Scalar.addi c0_i32_74 v113
  v114.toNat
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v115 : BitVec 32 := Scalar.addi v2 c1_i32_76
  let c8_i32_77 : BitVec 32 := 8#32
  let c0_i32_78 : BitVec 32 := 0#32
  let v116 : BitVec 1 := Scalar.cmpi .eq c8_i32_77 c0_i32_78
  let c1_i32_79 : BitVec 32 := 1#32
  let v117 : BitVec 32 := Scalar.select v116 c1_i32_79 c8_i32_77
  let v118 : BitVec 32 := Scalar.remsi v115 v117
  let c0_i32_81 : BitVec 32 := 0#32
  let v120 : BitVec 1 := Scalar.cmpi .slt v118 c0_i32_81
  let c0_i32_82 : BitVec 32 := 0#32
  let v121 : BitVec 1 := Scalar.cmpi .slt v117 c0_i32_82
  let v122 : BitVec 1 := Scalar.xori v120 v121
  let c0_i32_80 : BitVec 32 := 0#32
  let v119 : BitVec 1 := Scalar.cmpi .ne v118 c0_i32_80
  let v123 : BitVec 1 := Scalar.andi v122 v119
  let v124 : BitVec 32 := Scalar.addi v118 v117
  let v125 : BitVec 32 := Scalar.select v123 v124 v118
  let c1_i32_92 : BitVec 32 := 1#32
  let v137 : BitVec 32 := Scalar.muli v125 c1_i32_92
  let v138 : BitVec 32 := Scalar.addi c0_i32_93 v137
  v138.toNat
def k0_off1 (d0 : Dev nD) (c1_i32_76 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v115 : BitVec 32 := Scalar.addi v2 c1_i32_76
  let c8_i32_77 : BitVec 32 := 8#32
  let c0_i32_78 : BitVec 32 := 0#32
  let v116 : BitVec 1 := Scalar.cmpi .eq c8_i32_77 c0_i32_78
  let c1_i32_79 : BitVec 32 := 1#32
  let v117 : BitVec 32 := Scalar.select v116 c1_i32_79 c8_i32_77
  let v118 : BitVec 32 := Scalar.remsi v115 v117
  let c0_i32_81 : BitVec 32 := 0#32
  let v120 : BitVec 1 := Scalar.cmpi .slt v118 c0_i32_81
  let c0_i32_82 : BitVec 32 := 0#32
  let v121 : BitVec 1 := Scalar.cmpi .slt v117 c0_i32_82
  let v122 : BitVec 1 := Scalar.xori v120 v121
  let c0_i32_80 : BitVec 32 := 0#32
  let v119 : BitVec 1 := Scalar.cmpi .ne v118 c0_i32_80
  let v123 : BitVec 1 := Scalar.andi v122 v119
  let v124 : BitVec 32 := Scalar.addi v118 v117
  let v125 : BitVec 32 := Scalar.select v123 v124 v118
  let c1_i32_83 : BitVec 32 := 1#32
  let v126 : BitVec 32 := Scalar.addi v125 c1_i32_83
  let c8_i32_84 : BitVec 32 := 8#32
  let c0_i32_85 : BitVec 32 := 0#32
  let v127 : BitVec 1 := Scalar.cmpi .eq c8_i32_84 c0_i32_85
  let c1_i32_86 : BitVec 32 := 1#32
  let v128 : BitVec 32 := Scalar.select v127 c1_i32_86 c8_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c0_i32_102 : BitVec 32 := 0#32
  let c0_i32_103 : BitVec 32 := 0#32
  ![v136.toNat, 0, 0]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v115 : BitVec 32 := Scalar.addi v2 c1_i32_76
  let c8_i32_77 : BitVec 32 := 8#32
  let c0_i32_78 : BitVec 32 := 0#32
  let v116 : BitVec 1 := Scalar.cmpi .eq c8_i32_77 c0_i32_78
  let c1_i32_79 : BitVec 32 := 1#32
  let v117 : BitVec 32 := Scalar.select v116 c1_i32_79 c8_i32_77
  let v118 : BitVec 32 := Scalar.remsi v115 v117
  let c0_i32_81 : BitVec 32 := 0#32
  let v120 : BitVec 1 := Scalar.cmpi .slt v118 c0_i32_81
  let c0_i32_82 : BitVec 32 := 0#32
  let v121 : BitVec 1 := Scalar.cmpi .slt v117 c0_i32_82
  let v122 : BitVec 1 := Scalar.xori v120 v121
  let c0_i32_80 : BitVec 32 := 0#32
  let v119 : BitVec 1 := Scalar.cmpi .ne v118 c0_i32_80
  let v123 : BitVec 1 := Scalar.andi v122 v119
  let v124 : BitVec 32 := Scalar.addi v118 v117
  let v125 : BitVec 32 := Scalar.select v123 v124 v118
  let c1_i32_98 : BitVec 32 := 1#32
  let v144 : BitVec 32 := Scalar.muli v125 c1_i32_98
  let v145 : BitVec 32 := Scalar.addi c0_i32_99 v144
  v145.toNat
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v115 : BitVec 32 := Scalar.addi v2 c1_i32_76
  let c8_i32_77 : BitVec 32 := 8#32
  let c0_i32_78 : BitVec 32 := 0#32
  let v116 : BitVec 1 := Scalar.cmpi .eq c8_i32_77 c0_i32_78
  let c1_i32_79 : BitVec 32 := 1#32
  let v117 : BitVec 32 := Scalar.select v116 c1_i32_79 c8_i32_77
  let v118 : BitVec 32 := Scalar.remsi v115 v117
  let c0_i32_81 : BitVec 32 := 0#32
  let v120 : BitVec 1 := Scalar.cmpi .slt v118 c0_i32_81
  let c0_i32_82 : BitVec 32 := 0#32
  let v121 : BitVec 1 := Scalar.cmpi .slt v117 c0_i32_82
  let v122 : BitVec 1 := Scalar.xori v120 v121
  let c0_i32_80 : BitVec 32 := 0#32
  let v119 : BitVec 1 := Scalar.cmpi .ne v118 c0_i32_80
  let v123 : BitVec 1 := Scalar.andi v122 v119
  let v124 : BitVec 32 := Scalar.addi v118 v117
  let v125 : BitVec 32 := Scalar.select v123 v124 v118
  let c1_i32_106 : BitVec 32 := 1#32
  let v153 : BitVec 32 := Scalar.muli v125 c1_i32_106
  let v154 : BitVec 32 := Scalar.addi c0_i32_107 v153
  v154.toNat
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_112 : BitVec 32 := 2#32
  let v162 : BitVec 32 := Scalar.addi v2 c2_i32_112
  let c8_i32_113 : BitVec 32 := 8#32
  let c0_i32_114 : BitVec 32 := 0#32
  let v163 : BitVec 1 := Scalar.cmpi .eq c8_i32_113 c0_i32_114
  let c1_i32_115 : BitVec 32 := 1#32
  let v164 : BitVec 32 := Scalar.select v163 c1_i32_115 c8_i32_113
  let v165 : BitVec 32 := Scalar.remsi v162 v164
  let c0_i32_117 : BitVec 32 := 0#32
  let v167 : BitVec 1 := Scalar.cmpi .slt v165 c0_i32_117
  let c0_i32_118 : BitVec 32 := 0#32
  let v168 : BitVec 1 := Scalar.cmpi .slt v164 c0_i32_118
  let v169 : BitVec 1 := Scalar.xori v167 v168
  let c0_i32_116 : BitVec 32 := 0#32
  let v166 : BitVec 1 := Scalar.cmpi .ne v165 c0_i32_116
  let v170 : BitVec 1 := Scalar.andi v169 v166
  let v171 : BitVec 32 := Scalar.addi v165 v164
  let v172 : BitVec 32 := Scalar.select v170 v171 v165
  let c1_i32_128 : BitVec 32 := 1#32
  let v184 : BitVec 32 := Scalar.muli v172 c1_i32_128
  let v185 : BitVec 32 := Scalar.addi c0_i32_129 v184
  v185.toNat
def k0_dev12 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_112 : BitVec 32 := 2#32
  let v162 : BitVec 32 := Scalar.addi v2 c2_i32_112
  let c8_i32_113 : BitVec 32 := 8#32
  let c0_i32_114 : BitVec 32 := 0#32
  let v163 : BitVec 1 := Scalar.cmpi .eq c8_i32_113 c0_i32_114
  let c1_i32_115 : BitVec 32 := 1#32
  let v164 : BitVec 32 := Scalar.select v163 c1_i32_115 c8_i32_113
  let v165 : BitVec 32 := Scalar.remsi v162 v164
  let c0_i32_117 : BitVec 32 := 0#32
  let v167 : BitVec 1 := Scalar.cmpi .slt v165 c0_i32_117
  let c0_i32_118 : BitVec 32 := 0#32
  let v168 : BitVec 1 := Scalar.cmpi .slt v164 c0_i32_118
  let v169 : BitVec 1 := Scalar.xori v167 v168
  let c0_i32_116 : BitVec 32 := 0#32
  let v166 : BitVec 1 := Scalar.cmpi .ne v165 c0_i32_116
  let v170 : BitVec 1 := Scalar.andi v169 v166
  let v171 : BitVec 32 := Scalar.addi v165 v164
  let v172 : BitVec 32 := Scalar.select v170 v171 v165
  let c1_i32_133 : BitVec 32 := 1#32
  let v191 : BitVec 32 := Scalar.muli v172 c1_i32_133
  let v192 : BitVec 32 := Scalar.addi c0_i32_134 v191
  v192.toNat
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_112 : BitVec 32 := 2#32
  let v162 : BitVec 32 := Scalar.addi v2 c2_i32_112
  let c8_i32_113 : BitVec 32 := 8#32
  let c0_i32_114 : BitVec 32 := 0#32
  let v163 : BitVec 1 := Scalar.cmpi .eq c8_i32_113 c0_i32_114
  let c1_i32_115 : BitVec 32 := 1#32
  let v164 : BitVec 32 := Scalar.select v163 c1_i32_115 c8_i32_113
  let v165 : BitVec 32 := Scalar.remsi v162 v164
  let c0_i32_117 : BitVec 32 := 0#32
  let v167 : BitVec 1 := Scalar.cmpi .slt v165 c0_i32_117
  let c0_i32_118 : BitVec 32 := 0#32
  let v168 : BitVec 1 := Scalar.cmpi .slt v164 c0_i32_118
  let v169 : BitVec 1 := Scalar.xori v167 v168
  let c0_i32_116 : BitVec 32 := 0#32
  let v166 : BitVec 1 := Scalar.cmpi .ne v165 c0_i32_116
  let v170 : BitVec 1 := Scalar.andi v169 v166
  let v171 : BitVec 32 := Scalar.addi v165 v164
  let v172 : BitVec 32 := Scalar.select v170 v171 v165
  let c1_i32_141 : BitVec 32 := 1#32
  let v200 : BitVec 32 := Scalar.muli v172 c1_i32_141
  let v201 : BitVec 32 := Scalar.addi c0_i32_142 v200
  v201.toNat
def k0_dev14 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v209 : BitVec 32 := Scalar.addi v2 c3_i32_147
  let c8_i32_148 : BitVec 32 := 8#32
  let c0_i32_149 : BitVec 32 := 0#32
  let v210 : BitVec 1 := Scalar.cmpi .eq c8_i32_148 c0_i32_149
  let c1_i32_150 : BitVec 32 := 1#32
  let v211 : BitVec 32 := Scalar.select v210 c1_i32_150 c8_i32_148
  let v212 : BitVec 32 := Scalar.remsi v209 v211
  let c0_i32_152 : BitVec 32 := 0#32
  let v214 : BitVec 1 := Scalar.cmpi .slt v212 c0_i32_152
  let c0_i32_153 : BitVec 32 := 0#32
  let v215 : BitVec 1 := Scalar.cmpi .slt v211 c0_i32_153
  let v216 : BitVec 1 := Scalar.xori v214 v215
  let c0_i32_151 : BitVec 32 := 0#32
  let v213 : BitVec 1 := Scalar.cmpi .ne v212 c0_i32_151
  let v217 : BitVec 1 := Scalar.andi v216 v213
  let v218 : BitVec 32 := Scalar.addi v212 v211
  let v219 : BitVec 32 := Scalar.select v217 v218 v212
  let c1_i32_163 : BitVec 32 := 1#32
  let v231 : BitVec 32 := Scalar.muli v219 c1_i32_163
  let v232 : BitVec 32 := Scalar.addi c0_i32_164 v231
  v232.toNat
def k0_dev15 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v209 : BitVec 32 := Scalar.addi v2 c3_i32_147
  let c8_i32_148 : BitVec 32 := 8#32
  let c0_i32_149 : BitVec 32 := 0#32
  let v210 : BitVec 1 := Scalar.cmpi .eq c8_i32_148 c0_i32_149
  let c1_i32_150 : BitVec 32 := 1#32
  let v211 : BitVec 32 := Scalar.select v210 c1_i32_150 c8_i32_148
  let v212 : BitVec 32 := Scalar.remsi v209 v211
  let c0_i32_152 : BitVec 32 := 0#32
  let v214 : BitVec 1 := Scalar.cmpi .slt v212 c0_i32_152
  let c0_i32_153 : BitVec 32 := 0#32
  let v215 : BitVec 1 := Scalar.cmpi .slt v211 c0_i32_153
  let v216 : BitVec 1 := Scalar.xori v214 v215
  let c0_i32_151 : BitVec 32 := 0#32
  let v213 : BitVec 1 := Scalar.cmpi .ne v212 c0_i32_151
  let v217 : BitVec 1 := Scalar.andi v216 v213
  let v218 : BitVec 32 := Scalar.addi v212 v211
  let v219 : BitVec 32 := Scalar.select v217 v218 v212
  let c1_i32_168 : BitVec 32 := 1#32
  let v238 : BitVec 32 := Scalar.muli v219 c1_i32_168
  let v239 : BitVec 32 := Scalar.addi c0_i32_169 v238
  v239.toNat
def k0_dev16 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v209 : BitVec 32 := Scalar.addi v2 c3_i32_147
  let c8_i32_148 : BitVec 32 := 8#32
  let c0_i32_149 : BitVec 32 := 0#32
  let v210 : BitVec 1 := Scalar.cmpi .eq c8_i32_148 c0_i32_149
  let c1_i32_150 : BitVec 32 := 1#32
  let v211 : BitVec 32 := Scalar.select v210 c1_i32_150 c8_i32_148
  let v212 : BitVec 32 := Scalar.remsi v209 v211
  let c0_i32_152 : BitVec 32 := 0#32
  let v214 : BitVec 1 := Scalar.cmpi .slt v212 c0_i32_152
  let c0_i32_153 : BitVec 32 := 0#32
  let v215 : BitVec 1 := Scalar.cmpi .slt v211 c0_i32_153
  let v216 : BitVec 1 := Scalar.xori v214 v215
  let c0_i32_151 : BitVec 32 := 0#32
  let v213 : BitVec 1 := Scalar.cmpi .ne v212 c0_i32_151
  let v217 : BitVec 1 := Scalar.andi v216 v213
  let v218 : BitVec 32 := Scalar.addi v212 v211
  let v219 : BitVec 32 := Scalar.select v217 v218 v212
  let c1_i32_176 : BitVec 32 := 1#32
  let v247 : BitVec 32 := Scalar.muli v219 c1_i32_176
  let v248 : BitVec 32 := Scalar.addi c0_i32_177 v247
  v248.toNat
def k0_dev17 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_182 : BitVec 32 := 4#32
  let v256 : BitVec 32 := Scalar.addi v2 c4_i32_182
  let c8_i32_183 : BitVec 32 := 8#32
  let c0_i32_184 : BitVec 32 := 0#32
  let v257 : BitVec 1 := Scalar.cmpi .eq c8_i32_183 c0_i32_184
  let c1_i32_185 : BitVec 32 := 1#32
  let v258 : BitVec 32 := Scalar.select v257 c1_i32_185 c8_i32_183
  let v259 : BitVec 32 := Scalar.remsi v256 v258
  let c0_i32_187 : BitVec 32 := 0#32
  let v261 : BitVec 1 := Scalar.cmpi .slt v259 c0_i32_187
  let c0_i32_188 : BitVec 32 := 0#32
  let v262 : BitVec 1 := Scalar.cmpi .slt v258 c0_i32_188
  let v263 : BitVec 1 := Scalar.xori v261 v262
  let c0_i32_186 : BitVec 32 := 0#32
  let v260 : BitVec 1 := Scalar.cmpi .ne v259 c0_i32_186
  let v264 : BitVec 1 := Scalar.andi v263 v260
  let v265 : BitVec 32 := Scalar.addi v259 v258
  let v266 : BitVec 32 := Scalar.select v264 v265 v259
  let c1_i32_198 : BitVec 32 := 1#32
  let v278 : BitVec 32 := Scalar.muli v266 c1_i32_198
  let v279 : BitVec 32 := Scalar.addi c0_i32_199 v278
  v279.toNat
def k0_dev18 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_182 : BitVec 32 := 4#32
  let v256 : BitVec 32 := Scalar.addi v2 c4_i32_182
  let c8_i32_183 : BitVec 32 := 8#32
  let c0_i32_184 : BitVec 32 := 0#32
  let v257 : BitVec 1 := Scalar.cmpi .eq c8_i32_183 c0_i32_184
  let c1_i32_185 : BitVec 32 := 1#32
  let v258 : BitVec 32 := Scalar.select v257 c1_i32_185 c8_i32_183
  let v259 : BitVec 32 := Scalar.remsi v256 v258
  let c0_i32_187 : BitVec 32 := 0#32
  let v261 : BitVec 1 := Scalar.cmpi .slt v259 c0_i32_187
  let c0_i32_188 : BitVec 32 := 0#32
  let v262 : BitVec 1 := Scalar.cmpi .slt v258 c0_i32_188
  let v263 : BitVec 1 := Scalar.xori v261 v262
  let c0_i32_186 : BitVec 32 := 0#32
  let v260 : BitVec 1 := Scalar.cmpi .ne v259 c0_i32_186
  let v264 : BitVec 1 := Scalar.andi v263 v260
  let v265 : BitVec 32 := Scalar.addi v259 v258
  let v266 : BitVec 32 := Scalar.select v264 v265 v259
  let c1_i32_203 : BitVec 32 := 1#32
  let v285 : BitVec 32 := Scalar.muli v266 c1_i32_203
  let v286 : BitVec 32 := Scalar.addi c0_i32_204 v285
  v286.toNat
def k0_dev19 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_182 : BitVec 32 := 4#32
  let v256 : BitVec 32 := Scalar.addi v2 c4_i32_182
  let c8_i32_183 : BitVec 32 := 8#32
  let c0_i32_184 : BitVec 32 := 0#32
  let v257 : BitVec 1 := Scalar.cmpi .eq c8_i32_183 c0_i32_184
  let c1_i32_185 : BitVec 32 := 1#32
  let v258 : BitVec 32 := Scalar.select v257 c1_i32_185 c8_i32_183
  let v259 : BitVec 32 := Scalar.remsi v256 v258
  let c0_i32_187 : BitVec 32 := 0#32
  let v261 : BitVec 1 := Scalar.cmpi .slt v259 c0_i32_187
  let c0_i32_188 : BitVec 32 := 0#32
  let v262 : BitVec 1 := Scalar.cmpi .slt v258 c0_i32_188
  let v263 : BitVec 1 := Scalar.xori v261 v262
  let c0_i32_186 : BitVec 32 := 0#32
  let v260 : BitVec 1 := Scalar.cmpi .ne v259 c0_i32_186
  let v264 : BitVec 1 := Scalar.andi v263 v260
  let v265 : BitVec 32 := Scalar.addi v259 v258
  let v266 : BitVec 32 := Scalar.select v264 v265 v259
  let c1_i32_211 : BitVec 32 := 1#32
  let v294 : BitVec 32 := Scalar.muli v266 c1_i32_211
  let v295 : BitVec 32 := Scalar.addi c0_i32_212 v294
  v295.toNat
def k0_dev20 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_217 : BitVec 32 := 5#32
  let v303 : BitVec 32 := Scalar.addi v2 c5_i32_217
  let c8_i32_218 : BitVec 32 := 8#32
  let c0_i32_219 : BitVec 32 := 0#32
  let v304 : BitVec 1 := Scalar.cmpi .eq c8_i32_218 c0_i32_219
  let c1_i32_220 : BitVec 32 := 1#32
  let v305 : BitVec 32 := Scalar.select v304 c1_i32_220 c8_i32_218
  let v306 : BitVec 32 := Scalar.remsi v303 v305
  let c0_i32_222 : BitVec 32 := 0#32
  let v308 : BitVec 1 := Scalar.cmpi .slt v306 c0_i32_222
  let c0_i32_223 : BitVec 32 := 0#32
  let v309 : BitVec 1 := Scalar.cmpi .slt v305 c0_i32_223
  let v310 : BitVec 1 := Scalar.xori v308 v309
  let c0_i32_221 : BitVec 32 := 0#32
  let v307 : BitVec 1 := Scalar.cmpi .ne v306 c0_i32_221
  let v311 : BitVec 1 := Scalar.andi v310 v307
  let v312 : BitVec 32 := Scalar.addi v306 v305
  let v313 : BitVec 32 := Scalar.select v311 v312 v306
  let c1_i32_233 : BitVec 32 := 1#32
  let v325 : BitVec 32 := Scalar.muli v313 c1_i32_233
  let v326 : BitVec 32 := Scalar.addi c0_i32_234 v325
  v326.toNat
def k0_dev21 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_217 : BitVec 32 := 5#32
  let v303 : BitVec 32 := Scalar.addi v2 c5_i32_217
  let c8_i32_218 : BitVec 32 := 8#32
  let c0_i32_219 : BitVec 32 := 0#32
  let v304 : BitVec 1 := Scalar.cmpi .eq c8_i32_218 c0_i32_219
  let c1_i32_220 : BitVec 32 := 1#32
  let v305 : BitVec 32 := Scalar.select v304 c1_i32_220 c8_i32_218
  let v306 : BitVec 32 := Scalar.remsi v303 v305
  let c0_i32_222 : BitVec 32 := 0#32
  let v308 : BitVec 1 := Scalar.cmpi .slt v306 c0_i32_222
  let c0_i32_223 : BitVec 32 := 0#32
  let v309 : BitVec 1 := Scalar.cmpi .slt v305 c0_i32_223
  let v310 : BitVec 1 := Scalar.xori v308 v309
  let c0_i32_221 : BitVec 32 := 0#32
  let v307 : BitVec 1 := Scalar.cmpi .ne v306 c0_i32_221
  let v311 : BitVec 1 := Scalar.andi v310 v307
  let v312 : BitVec 32 := Scalar.addi v306 v305
  let v313 : BitVec 32 := Scalar.select v311 v312 v306
  let c1_i32_238 : BitVec 32 := 1#32
  let v332 : BitVec 32 := Scalar.muli v313 c1_i32_238
  let v333 : BitVec 32 := Scalar.addi c0_i32_239 v332
  v333.toNat
def k0_dev22 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_217 : BitVec 32 := 5#32
  let v303 : BitVec 32 := Scalar.addi v2 c5_i32_217
  let c8_i32_218 : BitVec 32 := 8#32
  let c0_i32_219 : BitVec 32 := 0#32
  let v304 : BitVec 1 := Scalar.cmpi .eq c8_i32_218 c0_i32_219
  let c1_i32_220 : BitVec 32 := 1#32
  let v305 : BitVec 32 := Scalar.select v304 c1_i32_220 c8_i32_218
  let v306 : BitVec 32 := Scalar.remsi v303 v305
  let c0_i32_222 : BitVec 32 := 0#32
  let v308 : BitVec 1 := Scalar.cmpi .slt v306 c0_i32_222
  let c0_i32_223 : BitVec 32 := 0#32
  let v309 : BitVec 1 := Scalar.cmpi .slt v305 c0_i32_223
  let v310 : BitVec 1 := Scalar.xori v308 v309
  let c0_i32_221 : BitVec 32 := 0#32
  let v307 : BitVec 1 := Scalar.cmpi .ne v306 c0_i32_221
  let v311 : BitVec 1 := Scalar.andi v310 v307
  let v312 : BitVec 32 := Scalar.addi v306 v305
  let v313 : BitVec 32 := Scalar.select v311 v312 v306
  let c1_i32_246 : BitVec 32 := 1#32
  let v341 : BitVec 32 := Scalar.muli v313 c1_i32_246
  let v342 : BitVec 32 := Scalar.addi c0_i32_247 v341
  v342.toNat
def k0_dev23 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_252 : BitVec 32 := 6#32
  let v350 : BitVec 32 := Scalar.addi v2 c6_i32_252
  let c8_i32_253 : BitVec 32 := 8#32
  let c0_i32_254 : BitVec 32 := 0#32
  let v351 : BitVec 1 := Scalar.cmpi .eq c8_i32_253 c0_i32_254
  let c1_i32_255 : BitVec 32 := 1#32
  let v352 : BitVec 32 := Scalar.select v351 c1_i32_255 c8_i32_253
  let v353 : BitVec 32 := Scalar.remsi v350 v352
  let c0_i32_257 : BitVec 32 := 0#32
  let v355 : BitVec 1 := Scalar.cmpi .slt v353 c0_i32_257
  let c0_i32_258 : BitVec 32 := 0#32
  let v356 : BitVec 1 := Scalar.cmpi .slt v352 c0_i32_258
  let v357 : BitVec 1 := Scalar.xori v355 v356
  let c0_i32_256 : BitVec 32 := 0#32
  let v354 : BitVec 1 := Scalar.cmpi .ne v353 c0_i32_256
  let v358 : BitVec 1 := Scalar.andi v357 v354
  let v359 : BitVec 32 := Scalar.addi v353 v352
  let v360 : BitVec 32 := Scalar.select v358 v359 v353
  let c1_i32_268 : BitVec 32 := 1#32
  let v372 : BitVec 32 := Scalar.muli v360 c1_i32_268
  let v373 : BitVec 32 := Scalar.addi c0_i32_269 v372
  v373.toNat
def k0_dev24 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_252 : BitVec 32 := 6#32
  let v350 : BitVec 32 := Scalar.addi v2 c6_i32_252
  let c8_i32_253 : BitVec 32 := 8#32
  let c0_i32_254 : BitVec 32 := 0#32
  let v351 : BitVec 1 := Scalar.cmpi .eq c8_i32_253 c0_i32_254
  let c1_i32_255 : BitVec 32 := 1#32
  let v352 : BitVec 32 := Scalar.select v351 c1_i32_255 c8_i32_253
  let v353 : BitVec 32 := Scalar.remsi v350 v352
  let c0_i32_257 : BitVec 32 := 0#32
  let v355 : BitVec 1 := Scalar.cmpi .slt v353 c0_i32_257
  let c0_i32_258 : BitVec 32 := 0#32
  let v356 : BitVec 1 := Scalar.cmpi .slt v352 c0_i32_258
  let v357 : BitVec 1 := Scalar.xori v355 v356
  let c0_i32_256 : BitVec 32 := 0#32
  let v354 : BitVec 1 := Scalar.cmpi .ne v353 c0_i32_256
  let v358 : BitVec 1 := Scalar.andi v357 v354
  let v359 : BitVec 32 := Scalar.addi v353 v352
  let v360 : BitVec 32 := Scalar.select v358 v359 v353
  let c1_i32_273 : BitVec 32 := 1#32
  let v379 : BitVec 32 := Scalar.muli v360 c1_i32_273
  let v380 : BitVec 32 := Scalar.addi c0_i32_274 v379
  v380.toNat
def k0_dev25 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_252 : BitVec 32 := 6#32
  let v350 : BitVec 32 := Scalar.addi v2 c6_i32_252
  let c8_i32_253 : BitVec 32 := 8#32
  let c0_i32_254 : BitVec 32 := 0#32
  let v351 : BitVec 1 := Scalar.cmpi .eq c8_i32_253 c0_i32_254
  let c1_i32_255 : BitVec 32 := 1#32
  let v352 : BitVec 32 := Scalar.select v351 c1_i32_255 c8_i32_253
  let v353 : BitVec 32 := Scalar.remsi v350 v352
  let c0_i32_257 : BitVec 32 := 0#32
  let v355 : BitVec 1 := Scalar.cmpi .slt v353 c0_i32_257
  let c0_i32_258 : BitVec 32 := 0#32
  let v356 : BitVec 1 := Scalar.cmpi .slt v352 c0_i32_258
  let v357 : BitVec 1 := Scalar.xori v355 v356
  let c0_i32_256 : BitVec 32 := 0#32
  let v354 : BitVec 1 := Scalar.cmpi .ne v353 c0_i32_256
  let v358 : BitVec 1 := Scalar.andi v357 v354
  let v359 : BitVec 32 := Scalar.addi v353 v352
  let v360 : BitVec 32 := Scalar.select v358 v359 v353
  let c1_i32_281 : BitVec 32 := 1#32
  let v388 : BitVec 32 := Scalar.muli v360 c1_i32_281
  let v389 : BitVec 32 := Scalar.addi c0_i32_282 v388
  v389.toNat
def k0_dev26 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_287 : BitVec 32 := 7#32
  let v397 : BitVec 32 := Scalar.addi v2 c7_i32_287
  let c8_i32_288 : BitVec 32 := 8#32
  let c0_i32_289 : BitVec 32 := 0#32
  let v398 : BitVec 1 := Scalar.cmpi .eq c8_i32_288 c0_i32_289
  let c1_i32_290 : BitVec 32 := 1#32
  let v399 : BitVec 32 := Scalar.select v398 c1_i32_290 c8_i32_288
  let v400 : BitVec 32 := Scalar.remsi v397 v399
  let c0_i32_292 : BitVec 32 := 0#32
  let v402 : BitVec 1 := Scalar.cmpi .slt v400 c0_i32_292
  let c0_i32_293 : BitVec 32 := 0#32
  let v403 : BitVec 1 := Scalar.cmpi .slt v399 c0_i32_293
  let v404 : BitVec 1 := Scalar.xori v402 v403
  let c0_i32_291 : BitVec 32 := 0#32
  let v401 : BitVec 1 := Scalar.cmpi .ne v400 c0_i32_291
  let v405 : BitVec 1 := Scalar.andi v404 v401
  let v406 : BitVec 32 := Scalar.addi v400 v399
  let v407 : BitVec 32 := Scalar.select v405 v406 v400
  let c1_i32_303 : BitVec 32 := 1#32
  let v419 : BitVec 32 := Scalar.muli v407 c1_i32_303
  let v420 : BitVec 32 := Scalar.addi c0_i32_304 v419
  v420.toNat
def k0_dev27 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_287 : BitVec 32 := 7#32
  let v397 : BitVec 32 := Scalar.addi v2 c7_i32_287
  let c8_i32_288 : BitVec 32 := 8#32
  let c0_i32_289 : BitVec 32 := 0#32
  let v398 : BitVec 1 := Scalar.cmpi .eq c8_i32_288 c0_i32_289
  let c1_i32_290 : BitVec 32 := 1#32
  let v399 : BitVec 32 := Scalar.select v398 c1_i32_290 c8_i32_288
  let v400 : BitVec 32 := Scalar.remsi v397 v399
  let c0_i32_292 : BitVec 32 := 0#32
  let v402 : BitVec 1 := Scalar.cmpi .slt v400 c0_i32_292
  let c0_i32_293 : BitVec 32 := 0#32
  let v403 : BitVec 1 := Scalar.cmpi .slt v399 c0_i32_293
  let v404 : BitVec 1 := Scalar.xori v402 v403
  let c0_i32_291 : BitVec 32 := 0#32
  let v401 : BitVec 1 := Scalar.cmpi .ne v400 c0_i32_291
  let v405 : BitVec 1 := Scalar.andi v404 v401
  let v406 : BitVec 32 := Scalar.addi v400 v399
  let v407 : BitVec 32 := Scalar.select v405 v406 v400
  let c1_i32_308 : BitVec 32 := 1#32
  let v426 : BitVec 32 := Scalar.muli v407 c1_i32_308
  let v427 : BitVec 32 := Scalar.addi c0_i32_309 v426
  v427.toNat
def k0_dev28 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_287 : BitVec 32 := 7#32
  let v397 : BitVec 32 := Scalar.addi v2 c7_i32_287
  let c8_i32_288 : BitVec 32 := 8#32
  let c0_i32_289 : BitVec 32 := 0#32
  let v398 : BitVec 1 := Scalar.cmpi .eq c8_i32_288 c0_i32_289
  let c1_i32_290 : BitVec 32 := 1#32
  let v399 : BitVec 32 := Scalar.select v398 c1_i32_290 c8_i32_288
  let v400 : BitVec 32 := Scalar.remsi v397 v399
  let c0_i32_292 : BitVec 32 := 0#32
  let v402 : BitVec 1 := Scalar.cmpi .slt v400 c0_i32_292
  let c0_i32_293 : BitVec 32 := 0#32
  let v403 : BitVec 1 := Scalar.cmpi .slt v399 c0_i32_293
  let v404 : BitVec 1 := Scalar.xori v402 v403
  let c0_i32_291 : BitVec 32 := 0#32
  let v401 : BitVec 1 := Scalar.cmpi .ne v400 c0_i32_291
  let v405 : BitVec 1 := Scalar.andi v404 v401
  let v406 : BitVec 32 := Scalar.addi v400 v399
  let v407 : BitVec 32 := Scalar.select v405 v406 v400
  let c1_i32_316 : BitVec 32 := 1#32
  let v435 : BitVec 32 := Scalar.muli v407 c1_i32_316
  let v436 : BitVec 32 := Scalar.addi c0_i32_317 v435
  v436.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v448 : Index := Scalar.indexCast v13
  let c0_325 : Index := 0#32
  let c0_326 : Index := 0#32
  ![v448.toNat, 0, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KvqRefIdeal.lean ====
abbrev S1024x4096 : Shape := ⟨2, ![1024, 4096]⟩
abbrev S4096x1024 : Shape := ⟨2, ![4096, 1024]⟩
abbrev S8x1024x512 : Shape := ⟨3, ![8, 1024, 512]⟩
abbrev S4096x4096 : Shape := ⟨2, ![4096, 4096]⟩
abbrev S4096x2048 : Shape := ⟨2, ![4096, 2048]⟩
abbrev S4096x64 : Shape := ⟨2, ![4096, 64]⟩
abbrev S1024x8x512 : Shape := ⟨3, ![1024, 8, 512]⟩
abbrev S1024x1024 : Shape := ⟨2, ![1024, 1024]⟩
abbrev S1024x3584 : Shape := ⟨2, ![1024, 3584]⟩
abbrev S1024x512 : Shape := ⟨2, ![1024, 512]⟩
abbrev S1024x2048 : Shape := ⟨2, ![1024, 2048]⟩
abbrev S1024x64 : Shape := ⟨2, ![1024, 64]⟩

abbrev nBuf : Space → Nat
  | .hbm => 35
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S8x1024x512, .bf16⟩
  | .hbm, ⟨3, _⟩ => ⟨S8x1024x512, .bf16⟩
  | .hbm, ⟨4, _⟩ => ⟨S4096x4096, .bf16⟩
  | .hbm, ⟨5, _⟩ => ⟨S4096x2048, .bf16⟩
  | .hbm, ⟨6, _⟩ => ⟨S4096x64, .bf16⟩
  | .hbm, ⟨7, _⟩ => ⟨S1024x4096, .f32⟩
  | .hbm, ⟨8, _⟩ => ⟨S8x1024x512, .f32⟩
  | .hbm, ⟨9, _⟩ => ⟨S1024x8x512, .f32⟩
  | .hbm, ⟨10, _⟩ => ⟨S1024x4096, .f32⟩
  | .hbm, ⟨11, _⟩ => ⟨S8x1024x512, .f32⟩
  | .hbm, ⟨12, _⟩ => ⟨S1024x8x512, .f32⟩
  | .hbm, ⟨13, _⟩ => ⟨S1024x4096, .f32⟩
  | .hbm, ⟨14, _⟩ => ⟨S4096x1024, .f32⟩
  | .hbm, ⟨15, _⟩ => ⟨S1024x1024, .f32⟩
  | .hbm, ⟨16, _⟩ => ⟨S1024x4096, .f32⟩
  | .hbm, ⟨17, _⟩ => ⟨S1024x4096, .f32⟩
  | .hbm, ⟨18, _⟩ => ⟨S1024x3584, .f32⟩
  | .hbm, ⟨19, _⟩ => ⟨S1024x512, .f32⟩
  | .hbm, ⟨20, _⟩ => ⟨S1024x4096, .f32⟩
  | .hbm, ⟨21, _⟩ => ⟨S1024x3584, .f32⟩
  | .hbm, ⟨22, _⟩ => ⟨S1024x512, .f32⟩
  | .hbm, ⟨23, _⟩ => ⟨S1024x4096, .f32⟩
  | .hbm, ⟨24, _⟩ => ⟨S4096x4096, .f32⟩
  | .hbm, ⟨25, _⟩ => ⟨S1024x4096, .f32⟩
  | .hbm, ⟨26, _⟩ => ⟨S4096x2048, .f32⟩
  | .hbm, ⟨27, _⟩ => ⟨S1024x2048, .f32⟩
  | .hbm, ⟨28, _⟩ => ⟨S4096x64, .f32⟩
  | .hbm, ⟨29, _⟩ => ⟨S1024x64, .f32⟩
  | .hbm, ⟨30, _⟩ => ⟨S1024x4096, .bf16⟩
  | .hbm, ⟨31, _⟩ => ⟨S1024x2048, .bf16⟩
  | .hbm, ⟨32, _⟩ => ⟨S1024x64, .bf16⟩
  | .hbm, ⟨33, _⟩ => ⟨S1024x4096, .bf16⟩
  | .hbm, ⟨34, _⟩ => ⟨S1024x4096, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Canon.lean ====
/- The kernel's body as one straight program over a few tables: which device each copy goes to,
   where each piece lies, which value each store writes; and the theorem that the printed body is
   this program. -/
module

public import proofs.«01_k».proof.Proof.Gen.KernelIdeal.Skeleton

@[expose] public section

set_option synthInstance.maxSize 4096

noncomputable section

namespace Cert.KernelIdeal.Canon

open Idealize.ShloMosaic Idealize.SL.Sem Cert.KernelIdeal Cert.KernelIdeal.Gen

variable {F : FTy → Type} [FloatOps F]

/-- The five blocks one part of a step loads: queries, rotary queries, keys, values, rotary keys. -/
structure Ld (F : FTy → Type) where
  q : Vec F S64x512 .bf16
  r : Vec F S64x256 .bf16
  k : Vec F S256x512 .bf16
  v : Vec F S256x512 .bf16
  c : Vec F S256x64 .bf16

/-- What the top ring's slot 7 of device `c` starts from, and the bottom ring's. -/
def stTab (l : Bool) (w : Vec F S512x4096 .bf16) (t b : Ld F) : FVec F S1x64x4096 .bf16 :=
  match l with
  | false =>
    let p1 := k0_pay1 w
    let p2 := k0_pay2 t.q
    let p3 := k0_pay3 t.r
    let p4 := k0_pay4 t.k
    let p5 := k0_pay5 t.v
    let p6 := k0_pay6 t.c
    let p7 := k0_pay7 t.q t.r t.k t.c
    let p8 := k0_pay8 t.q t.r t.k t.c
    let p9 := k0_pay9 p5 p7 p8
    let p10 := k0_pay10 p2 p3 p4 p5 p6
    let p11 := k0_pay11 p2 p3 p4 p5 p6
    let p12 := k0_pay12 p2 p3 p4 p5 p6 p9 p10 p11
    let p13 := k0_pay13 b.q
    let p14 := k0_pay14 b.r
    let p15 := k0_pay15 b.k
    let p16 := k0_pay16 b.v
    let p17 := k0_pay17 b.c
    let p18 := k0_pay18 b.q b.r b.k b.v b.c
    let p19 := k0_pay19 b.q b.r b.k b.c
    let p20 := k0_pay20 b.q b.r b.k b.c
    let p21 := k0_pay21 p16 p19 p20
    let p22 := k0_pay22 p13 p14 p15 p16 p17
    let p23 := k0_pay23 p13 p14 p15 p17
    let p24 := k0_pay24 p13 p14 p15 p17
    k0_pay26 p1 p12 p16 p18 p21 p22 p23 p24
  | true =>
    let p1 := k0_pay1 w
    let p2 := k0_pay2 t.q
    let p3 := k0_pay3 t.r
    let p4 := k0_pay4 t.k
    let p5 := k0_pay5 t.v
    let p6 := k0_pay6 t.c
    let p7 := k0_pay7 t.q t.r t.k t.c
    let p8 := k0_pay8 t.q t.r t.k t.c
    let p9 := k0_pay9 p5 p7 p8
    let p10 := k0_pay10 p2 p3 p4 p5 p6
    let p11 := k0_pay11 p2 p3 p4 p5 p6
    let p12 := k0_pay12 p2 p3 p4 p5 p6 p9 p10 p11
    let p13 := k0_pay13 b.q
    let p14 := k0_pay14 b.r
    let p15 := k0_pay15 b.k
    let p16 := k0_pay16 b.v
    let p17 := k0_pay17 b.c
    let p18 := k0_pay18 b.q b.r b.k b.v b.c
    let p19 := k0_pay19 b.q b.r b.k b.c
    let p20 := k0_pay20 b.q b.r b.k b.c
    let p21 := k0_pay21 p16 p19 p20
    let p22 := k0_pay22 p13 p14 p15 p16 p17
    let p23 := k0_pay23 p13 p14 p15 p17
    let p24 := k0_pay24 p13 p14 p15 p17
    k0_pay27 p1 p12 p16 p18 p21 p22 p23 p24

/-- The product of step `s`, top half and bottom half, as the kernel computes it. -/
def gTab (s : Nat) (w : Vec F S512x4096 .bf16) (t b : Ld F) : FVec F S64x4096 .f32 × FVec F S64x4096 .f32 :=
  match s with
  | 1 =>
    let p1 := k0_pay1 w
    let p28 := k0_pay28 t.q
    let p29 := k0_pay29 t.r
    let p30 := k0_pay30 t.k
    let p31 := k0_pay31 t.v
    let p32 := k0_pay32 t.c
    let p33 := k0_pay33 p28 p29 p30 t.v t.c
    let p34 := k0_pay34 p28 p29 p30 t.v t.c
    let p35 := k0_pay35 p28
    let p36 := k0_pay36 p28 p29 p30 p31 p32 p33 p34 p35
    let p37 := k0_pay37 b.q
    let p38 := k0_pay38 b.r
    let p39 := k0_pay39 b.k
    let p40 := k0_pay40 b.v
    let p41 := k0_pay41 b.c
    let p42 := k0_pay42 b.q b.r b.k b.c
    let p43 := k0_pay43 p40 p42
    let p44 := k0_pay44 p37 p38 p39 p40 p41
    let p45 := k0_pay45 p37 p38 p39 p41
    (k0_pay47 p1 p36 p37 p38 p39 p40 p41 p43 p44 p45, k0_pay48 p1 p36 p37 p38 p39 p40 p41 p43 p44 p45)
  | 2 =>
    let p1 := k0_pay1 w
    let p51 := k0_pay51 t.q
    let p52 := k0_pay52 t.r
    let p53 := k0_pay53 t.k
    let p54 := k0_pay54 t.v
    let p55 := k0_pay55 t.c
    let p56 := k0_pay56 p51 t.r t.k t.v t.c
    let p57 := k0_pay57 p51 t.r t.k t.c
    let p58 := k0_pay58 p51 t.r t.k t.c
    let p59 := k0_pay59 p54 p57 p58
    let p60 := k0_pay60 p51 p52 p53 p54 p55
    let p61 := k0_pay61 p51 p52 p53 p55
    let p62 := k0_pay62 p54
    let p63 := k0_pay63 p56 p59 p60 p61 p62 (constant S64x128 .f32 0x00000000#32)
    let p64 := k0_pay64 b.q
    let p65 := k0_pay65 b.r
    let p66 := k0_pay66 b.k
    let p67 := k0_pay67 b.v
    let p68 := k0_pay68 b.c
    let p69 := k0_pay69 b.q b.k
    let p70 := k0_pay70 b.r b.c
    let p71 := k0_pay71 p67 p69 p70
    let p72 := k0_pay72 p64 p65 p66 p67 p68
    let p73 := k0_pay73 p64 p65 p66 p68
    let p74 := k0_pay74 p64 p65 p66 p68
    (k0_pay76 p1 p63 p64 p65 p66 p67 p68 p71 p72 p73 p74, k0_pay77 p1 p63 p64 p65 p66 p67 p68 p71 p72 p73 p74)
  | 3 =>
    let p1 := k0_pay1 w
    let p86 := k0_pay86 t.q
    let p87 := k0_pay87 t.r
    let p88 := k0_pay88 t.k
    let p89 := k0_pay89 t.v
    let p90 := k0_pay90 t.c
    let p91 := k0_pay91 t.q t.r t.k t.v t.c
    let p92 := k0_pay92 t.q t.r t.k t.c
    let p93 := k0_pay93 (F := F)
    let p94 := k0_pay94 p89 p92 p93
    let p95 := k0_pay95 p86 p87 p88 p89 p90
    let p96 := k0_pay96 p86 p87 p88 p90
    let p97 := k0_pay97 p89 p91 p94 p95 p96
    let p98 := k0_pay98 b.q
    let p99 := k0_pay99 b.r
    let p100 := k0_pay100 b.k
    let p101 := k0_pay101 b.v
    let p102 := k0_pay102 b.c
    let p103 := k0_pay103 p98 p99 p100 p101 b.c
    let p104 := k0_pay104 p98 p99 p100 p101 b.c
    let p105 := k0_pay105 p98 p100
    (k0_pay107 p1 p97 p98 p99 p100 p101 p102 p103 p104 p105, k0_pay108 p1 p97 p98 p99 p100 p101 p102 p103 p104 p105)
  | 4 =>
    let p1 := k0_pay1 w
    let p125 := k0_pay125 t.q
    let p126 := k0_pay126 t.r
    let p127 := k0_pay127 t.k
    let p128 := k0_pay128 t.v
    let p129 := k0_pay129 t.c
    let p130 := k0_pay130 t.q t.r t.k t.v t.c
    let p131 := k0_pay131 t.q
    let p132 := k0_pay132 p126 p127 p128 p129 p131
    let p133 := k0_pay133 p125 p126 p127 p128 p129
    let p134 := k0_pay134 p125 p127
    let p135 := k0_pay135 p126 p129
    let p136 := k0_pay136 p128 p130 p132 p133 p134 p135
    let p137 := k0_pay137 b.q
    let p138 := k0_pay138 b.r
    let p139 := k0_pay139 b.k
    let p140 := k0_pay140 b.v
    let p141 := k0_pay141 b.c
    let p142 := k0_pay142 p137 p138 b.k b.v b.c
    let p143 := k0_pay143 p137 p138 b.k b.c
    let p144 := k0_pay144 p137 p138 p139 p140 p141 p142 p143
    (k0_pay146 p1 p136 p144, k0_pay147 p1 p136 p144)
  | 5 =>
    let p1 := k0_pay1 w
    let p160 := k0_pay160 t.q
    let p161 := k0_pay161 t.r
    let p162 := k0_pay162 t.k
    let p163 := k0_pay163 t.v
    let p164 := k0_pay164 t.c
    let p165 := k0_pay165 t.q t.r t.k t.c
    let p166 := k0_pay166 t.q t.r t.k t.c
    let p167 := k0_pay167 p163 p165 p166
    let p168 := k0_pay168 p160 p161 p162 p163 p164
    let p169 := k0_pay169 p160 p161 p162 p164
    let p170 := k0_pay170 p163
    let p171 := k0_pay171 p160 p161 p162 p163 p164 p167 p168 p169 p170 (constant S64x128 .f32 0x00000000#32)
    let p172 := k0_pay172 b.q
    let p173 := k0_pay173 b.r
    let p174 := k0_pay174 b.k
    let p175 := k0_pay175 b.v
    let p176 := k0_pay176 b.c
    let p177 := k0_pay177 b.q b.r b.k b.v b.c
    let p178 := k0_pay178 b.q b.r b.k b.c
    let p179 := k0_pay179 b.q b.r b.k b.c
    let p180 := k0_pay180 p175 p178 p179
    let p181 := k0_pay181 p172 p173 p174 p175 p176
    let p182 := k0_pay182 p172 p173 p174 p176
    let p183 := k0_pay183 p172 p173 p174 p176
    (k0_pay185 p1 p171 p175 p177 p180 p181 p182 p183, k0_pay186 p1 p171 p175 p177 p180 p181 p182 p183)
  | 6 =>
    let p1 := k0_pay1 w
    let p195 := k0_pay195 t.q
    let p196 := k0_pay196 t.r
    let p197 := k0_pay197 t.k
    let p198 := k0_pay198 t.v
    let p199 := k0_pay199 t.c
    let p200 := k0_pay200 t.q t.r t.k t.c
    let p201 := k0_pay201 (F := F)
    let p202 := k0_pay202 p198 p200 p201
    let p203 := k0_pay203 p195 p196 p197 p198 p199
    let p204 := k0_pay204 p195 p196 p197 p199
    let p205 := k0_pay205 p195 p196 p197 p198 p199 p202 p203 p204
    let p206 := k0_pay206 b.q
    let p207 := k0_pay207 b.r
    let p208 := k0_pay208 b.k
    let p209 := k0_pay209 b.v
    let p210 := k0_pay210 b.c
    let p211 := k0_pay211 b.q b.r b.k b.v b.c
    let p212 := k0_pay212 b.q b.k
    let p213 := k0_pay213 p207 p209 p210 p212
    let p214 := k0_pay214 p206 p207 p208 p209 p210
    let p215 := k0_pay215 p206 p207 p208 p210
    let p216 := k0_pay216 (F := F)
    (k0_pay218 p1 p205 p209 p211 p213 p214 p215 p216, k0_pay219 p1 p205 p209 p211 p213 p214 p215 p216)
  | _ =>
    let p1 := k0_pay1 w
    let p228 := k0_pay228 t.q
    let p229 := k0_pay229 t.r
    let p230 := k0_pay230 t.k
    let p231 := k0_pay231 t.v
    let p232 := k0_pay232 t.c
    let p233 := k0_pay233 t.q
    let p234 := k0_pay234 p229 p230 p231 p232 p233
    let p235 := k0_pay235 p228 p229 p230 p231 p232
    let p236 := k0_pay236 p228 p230
    let p237 := k0_pay237 p229 p232
    let p238 := k0_pay238 p228 p229 p230 p231 p232 p234 p235 p236 p237
    let p239 := k0_pay239 b.q
    let p240 := k0_pay240 b.r
    let p241 := k0_pay241 b.k
    let p242 := k0_pay242 b.v
    let p243 := k0_pay243 b.c
    let p244 := k0_pay244 b.q b.r b.k b.c
    let p245 := k0_pay245 p242 p244
    let p246 := k0_pay246 p239 p240 p241 p242 p243
    let p247 := k0_pay247 p239 p240 p241 p242 p243
    let p248 := k0_pay248 p239
    (k0_pay250 p1 p238 p240 p241 p242 p243 p245 p246 p247 p248, k0_pay251 p1 p238 p240 p241 p242 p243 p245 p246 p247 p248)

/-- What block `ch` of step `s` stores. -/
def accTab (l : Bool) (s ch : Nat) (g : FVec F S64x4096 .f32) (x : Vec F S1x64x1024 .bf16) : FVec F S1x64x1024 .bf16 :=
  match l with
  | false => match s with
    | 0 => match ch with
      | 0 =>
        k0_pay49 g x
      | 1 =>
        k0_pay78 g x
      | 2 =>
        k0_pay80 g x
      | _ =>
        k0_pay82 g x
    | 1 => match ch with
      | 0 =>
        k0_pay84 g x
      | 1 =>
        k0_pay109 g x
      | 2 =>
        k0_pay113 g x
      | _ =>
        k0_pay117 g x
    | 2 => match ch with
      | 0 =>
        k0_pay121 g x
      | 1 =>
        let p148 := k0_pay148 g x
        k0_pay149 p148
      | 2 =>
        let p151 := k0_pay151 g x
        k0_pay152 p151
      | _ =>
        let p154 := k0_pay154 g x
        k0_pay155 p154
    | 3 => match ch with
      | 0 =>
        let p157 := k0_pay157 g x
        k0_pay158 p157
      | 1 =>
        k0_pay187 g x
      | 2 =>
        k0_pay189 g x
      | _ =>
        k0_pay191 g x
    | 4 => match ch with
      | 0 =>
        k0_pay193 g x
      | 1 =>
        k0_pay220 g x
      | 2 =>
        k0_pay222 g x
      | _ =>
        k0_pay224 g x
    | 5 => match ch with
      | 0 =>
        k0_pay226 g x
      | 1 =>
        k0_pay252 g x
      | 2 =>
        k0_pay254 g x
      | _ =>
        k0_pay256 g x
    | _ => match ch with
      | 0 =>
        k0_pay258 g x
      | 1 =>
        k0_pay260 g x
      | 2 =>
        k0_pay262 g x
      | _ =>
        k0_pay264 g x
  | true => match s with
    | 0 => match ch with
      | 0 =>
        k0_pay50 g x
      | 1 =>
        k0_pay79 g x
      | 2 =>
        k0_pay81 g x
      | _ =>
        k0_pay83 g x
    | 1 => match ch with
      | 0 =>
        k0_pay85 g x
      | 1 =>
        let p110 := k0_pay110 x
        let p111 := k0_pay111 g
        k0_pay112 p110 p111
      | 2 =>
        let p114 := k0_pay114 x
        let p115 := k0_pay115 g
        k0_pay116 p114 p115
      | _ =>
        let p118 := k0_pay118 x
        let p119 := k0_pay119 g
        k0_pay120 p118 p119
    | 2 => match ch with
      | 0 =>
        let p122 := k0_pay122 x
        let p123 := k0_pay123 g
        k0_pay124 p122 p123
      | 1 =>
        k0_pay150 g x
      | 2 =>
        k0_pay153 g x
      | _ =>
        k0_pay156 g x
    | 3 => match ch with
      | 0 =>
        k0_pay159 g x
      | 1 =>
        k0_pay188 g x
      | 2 =>
        k0_pay190 g x
      | _ =>
        k0_pay192 g x
    | 4 => match ch with
      | 0 =>
        k0_pay194 g x
      | 1 =>
        k0_pay221 g x
      | 2 =>
        k0_pay223 g x
      | _ =>
        k0_pay225 g x
    | 5 => match ch with
      | 0 =>
        k0_pay227 g x
      | 1 =>
        k0_pay253 g x
      | 2 =>
        k0_pay255 g x
      | _ =>
        k0_pay257 g x
    | _ => match ch with
      | 0 =>
        k0_pay259 g x
      | 1 =>
        k0_pay261 g x
      | 2 =>
        k0_pay263 g x
      | _ =>
        k0_pay265 g x

/-- The device hop `hop` of chunk `ch` goes to. -/
def rsDevTab (l : Bool) (ch hop : Nat) (c : Dev nD) : Dev nD :=
  match l with
  | false => match ch with
    | 0 => match hop with
      | 0 => ⟨k0_dev3 c, k0_dev3_lt c⟩
      | 1 => ⟨k0_dev11 c, k0_dev11_lt c⟩
      | 2 => ⟨k0_dev19 c, k0_dev19_lt c⟩
      | 3 => ⟨k0_dev27 c, k0_dev27_lt c⟩
      | 4 => ⟨k0_dev35 c, k0_dev35_lt c⟩
      | 5 => ⟨k0_dev43 c, k0_dev43_lt c⟩
      | _ => ⟨k0_dev51 c, k0_dev51_lt c⟩
    | 1 => match hop with
      | 0 => ⟨k0_dev4 c, k0_dev4_lt c⟩
      | 1 => ⟨k0_dev13 c, k0_dev13_lt c⟩
      | 2 => ⟨k0_dev21 c, k0_dev21_lt c⟩
      | 3 => ⟨k0_dev29 c, k0_dev29_lt c⟩
      | 4 => ⟨k0_dev37 c, k0_dev37_lt c⟩
      | 5 => ⟨k0_dev45 c, k0_dev45_lt c⟩
      | _ => ⟨k0_dev53 c, k0_dev53_lt c⟩
    | 2 => match hop with
      | 0 => ⟨k0_dev5 c, k0_dev5_lt c⟩
      | 1 => ⟨k0_dev15 c, k0_dev15_lt c⟩
      | 2 => ⟨k0_dev23 c, k0_dev23_lt c⟩
      | 3 => ⟨k0_dev31 c, k0_dev31_lt c⟩
      | 4 => ⟨k0_dev39 c, k0_dev39_lt c⟩
      | 5 => ⟨k0_dev47 c, k0_dev47_lt c⟩
      | _ => ⟨k0_dev55 c, k0_dev55_lt c⟩
    | _ => match hop with
      | 0 => ⟨k0_dev6 c, k0_dev6_lt c⟩
      | 1 => ⟨k0_dev17 c, k0_dev17_lt c⟩
      | 2 => ⟨k0_dev25 c, k0_dev25_lt c⟩
      | 3 => ⟨k0_dev33 c, k0_dev33_lt c⟩
      | 4 => ⟨k0_dev41 c, k0_dev41_lt c⟩
      | 5 => ⟨k0_dev49 c, k0_dev49_lt c⟩
      | _ => ⟨k0_dev57 c, k0_dev57_lt c⟩
  | true => match ch with
    | 0 => match hop with
      | 0 => ⟨k0_dev7 c, k0_dev7_lt c⟩
      | 1 => ⟨k0_dev12 c, k0_dev12_lt c⟩
      | 2 => ⟨k0_dev20 c, k0_dev20_lt c⟩
      | 3 => ⟨k0_dev28 c, k0_dev28_lt c⟩
      | 4 => ⟨k0_dev36 c, k0_dev36_lt c⟩
      | 5 => ⟨k0_dev44 c, k0_dev44_lt c⟩
      | _ => ⟨k0_dev52 c, k0_dev52_lt c⟩
    | 1 => match hop with
      | 0 => ⟨k0_dev8 c, k0_dev8_lt c⟩
      | 1 => ⟨k0_dev14 c, k0_dev14_lt c⟩
      | 2 => ⟨k0_dev22 c, k0_dev22_lt c⟩
      | 3 => ⟨k0_dev30 c, k0_dev30_lt c⟩
      | 4 => ⟨k0_dev38 c, k0_dev38_lt c⟩
      | 5 => ⟨k0_dev46 c, k0_dev46_lt c⟩
      | _ => ⟨k0_dev54 c, k0_dev54_lt c⟩
    | 2 => match hop with
      | 0 => ⟨k0_dev9 c, k0_dev9_lt c⟩
      | 1 => ⟨k0_dev16 c, k0_dev16_lt c⟩
      | 2 => ⟨k0_dev24 c, k0_dev24_lt c⟩
      | 3 => ⟨k0_dev32 c, k0_dev32_lt c⟩
      | 4 => ⟨k0_dev40 c, k0_dev40_lt c⟩
      | 5 => ⟨k0_dev48 c, k0_dev48_lt c⟩
      | _ => ⟨k0_dev56 c, k0_dev56_lt c⟩
    | _ => match hop with
      | 0 => ⟨k0_dev10 c, k0_dev10_lt c⟩
      | 1 => ⟨k0_dev18 c, k0_dev18_lt c⟩
      | 2 => ⟨k0_dev26 c, k0_dev26_lt c⟩
      | 3 => ⟨k0_dev34 c, k0_dev34_lt c⟩
      | 4 => ⟨k0_dev42 c, k0_dev42_lt c⟩
      | 5 => ⟨k0_dev50 c, k0_dev50_lt c⟩
      | _ => ⟨k0_dev58 c, k0_dev58_lt c⟩

/-- The device copy `k` of track `t` goes to. -/
def agDevTab (t k : Nat) (c : Dev nD) : Dev nD :=
  match t with
  | 0 => match k with
    | 0 => ⟨k0_dev59 c, k0_dev59_lt c⟩
    | 1 => ⟨k0_dev60 c, k0_dev60_lt c⟩
    | 2 => ⟨k0_dev65 c, k0_dev65_lt c⟩
    | 3 => ⟨k0_dev66 c, k0_dev66_lt c⟩
    | 4 => ⟨k0_dev67 c, k0_dev67_lt c⟩
    | 5 => ⟨k0_dev68 c, k0_dev68_lt c⟩
    | 6 => ⟨k0_dev77 c, k0_dev77_lt c⟩
    | 7 => ⟨k0_dev78 c, k0_dev78_lt c⟩
    | 8 => ⟨k0_dev79 c, k0_dev79_lt c⟩
    | 9 => ⟨k0_dev80 c, k0_dev80_lt c⟩
    | 10 => ⟨k0_dev81 c, k0_dev81_lt c⟩
    | 11 => ⟨k0_dev82 c, k0_dev82_lt c⟩
    | 12 => ⟨k0_dev83 c, k0_dev83_lt c⟩
    | _ => ⟨k0_dev84 c, k0_dev84_lt c⟩
  | 1 => match k with
    | 0 => ⟨k0_dev61 c, k0_dev61_lt c⟩
    | 1 => ⟨k0_dev62 c, k0_dev62_lt c⟩
    | 2 => ⟨k0_dev69 c, k0_dev69_lt c⟩
    | 3 => ⟨k0_dev70 c, k0_dev70_lt c⟩
    | 4 => ⟨k0_dev71 c, k0_dev71_lt c⟩
    | 5 => ⟨k0_dev72 c, k0_dev72_lt c⟩
    | 6 => ⟨k0_dev85 c, k0_dev85_lt c⟩
    | 7 => ⟨k0_dev86 c, k0_dev86_lt c⟩
    | 8 => ⟨k0_dev87 c, k0_dev87_lt c⟩
    | 9 => ⟨k0_dev88 c, k0_dev88_lt c⟩
    | 10 => ⟨k0_dev89 c, k0_dev89_lt c⟩
    | 11 => ⟨k0_dev90 c, k0_dev90_lt c⟩
    | 12 => ⟨k0_dev91 c, k0_dev91_lt c⟩
    | _ => ⟨k0_dev92 c, k0_dev92_lt c⟩
  | _ => match k with
    | 0 => ⟨k0_dev63 c, k0_dev63_lt c⟩
    | 1 => ⟨k0_dev64 c, k0_dev64_lt c⟩
    | 2 => ⟨k0_dev73 c, k0_dev73_lt c⟩
    | 3 => ⟨k0_dev74 c, k0_dev74_lt c⟩
    | 4 => ⟨k0_dev75 c, k0_dev75_lt c⟩
    | 5 => ⟨k0_dev76 c, k0_dev76_lt c⟩
    | 6 => ⟨k0_dev93 c, k0_dev93_lt c⟩
    | 7 => ⟨k0_dev94 c, k0_dev94_lt c⟩
    | 8 => ⟨k0_dev95 c, k0_dev95_lt c⟩
    | 9 => ⟨k0_dev96 c, k0_dev96_lt c⟩
    | 10 => ⟨k0_dev97 c, k0_dev97_lt c⟩
    | 11 => ⟨k0_dev98 c, k0_dev98_lt c⟩
    | 12 => ⟨k0_dev99 c, k0_dev99_lt c⟩
    | _ => ⟨k0_dev100 c, k0_dev100_lt c⟩

/-- Where copy `k` of track `t` lies in the result. -/
def agOffTab (t k : Nat) (c : Dev nD) : Fin 3 → Nat :=
  match t with
  | 0 => match k with
    | 0 => k0_off33 c
    | 1 => k0_off34 c
    | 2 => k0_off33 c
    | 3 => k0_off34 c
    | 4 => k0_off39 c
    | 5 => k0_off40 c
    | 6 => k0_off33 c
    | 7 => k0_off34 c
    | 8 => k0_off39 c
    | 9 => k0_off40 c
    | 10 => k0_off45 c
    | 11 => k0_off46 c
    | 12 => k0_off47 c
    | _ => k0_off48 c
  | 1 => match k with
    | 0 => k0_off35 c
    | 1 => k0_off36 c
    | 2 => k0_off35 c
    | 3 => k0_off36 c
    | 4 => k0_off41 c
    | 5 => k0_off42 c
    | 6 => k0_off35 c
    | 7 => k0_off36 c
    | 8 => k0_off41 c
    | 9 => k0_off42 c
    | 10 => k0_off49 c
    | 11 => k0_off50 c
    | 12 => k0_off51 c
    | _ => k0_off52 c
  | _ => match k with
    | 0 => k0_off37 c
    | 1 => k0_off38 c
    | 2 => k0_off37 c
    | 3 => k0_off38 c
    | 4 => k0_off43 c 4#32
    | 5 => k0_off44 c 4#32
    | 6 => k0_off37 c
    | 7 => k0_off38 c
    | 8 => k0_off43 c 4#32
    | 9 => k0_off44 c 4#32
    | 10 => k0_off43 c 1#32
    | 11 => k0_off44 c 1#32
    | 12 => k0_off53 c
    | _ => k0_off54 c

/-- Where the loads of step `s` start: the rows of the queries, of the rotary queries, of the keys
   and values, of the rotary keys; top half and bottom half. -/
def ldOff (bot : Bool) (s : Nat) (j : Nat) (c : Dev nD) : Fin 2 → Nat :=
  match bot with
  | false => match s with
    | 0 => match j with | 0 => k0_off1 c | 1 => k0_off2 c | 2 => k0_off3 c | _ => k0_off4 c
    | 1 => match j with | 0 => k0_off9 c | 1 => k0_off10 c | 2 => k0_off11 c | _ => k0_off12 c
    | n+2 => match j with
      | 0 => k0_off17 c (BitVec.ofNat 32 n) | 1 => k0_off18 c (BitVec.ofNat 32 n)
      | 2 => k0_off19 c (BitVec.ofNat 32 n) | _ => k0_off20 c (BitVec.ofNat 32 n)
  | true => match s with
    | 0 => match j with | 0 => k0_off5 c | 1 => k0_off6 c | 2 => k0_off7 c | _ => k0_off8 c
    | 1 => match j with | 0 => k0_off13 c | 1 => k0_off14 c | 2 => k0_off15 c | _ => k0_off16 c
    | n+2 => match j with
      | 0 => k0_off21 c (BitVec.ofNat 32 n) | 1 => k0_off22 c (BitVec.ofNat 32 n)
      | 2 => k0_off23 c (BitVec.ofNat 32 n) | _ => k0_off24 c (BitVec.ofNat 32 n)

/-- Where the last step's block `ch` goes in the result. -/
def oOff (l : Bool) (ch : Nat) (c : Dev nD) : Fin 3 → Nat :=
  match l with
  | false => match ch with | 0 => k0_off25 c | 1 => k0_off27 c | 2 => k0_off29 c | _ => k0_off31 c
  | true => match ch with | 0 => k0_off26 c | 1 => k0_off28 c | 2 => k0_off30 c | _ => k0_off32 c

/-- The width of a track's pieces. -/
def agW (t : Nat) : Nat := match t with | 0 => 1280 | _ => 1408

/-- The shape of a track's piece, and the same without the leading axis. -/
abbrev S1W (t : Nat) : Shape := ⟨3, ![1, 64, agW t]⟩
/-- The shape of a track's piece without the leading axis. -/
abbrev SW (t : Nat) : Shape := ⟨2, ![64, agW t]⟩

/-! ## Bounds of the tables -/

theorem ldOff_inb0 : ∀ (bot : Bool) (s : Fin 8) (c : Dev nD) (a : Fin 2),
    ldOff bot s.val 0 c a + S64x512.size a ≤ S1024x512.size a := by decide +kernel
theorem ldOff_inb1 : ∀ (bot : Bool) (s : Fin 8) (c : Dev nD) (a : Fin 2),
    ldOff bot s.val 1 c a + S64x256.size a ≤ S1024x256.size a := by decide +kernel
theorem ldOff_inb2 : ∀ (bot : Bool) (s : Fin 8) (c : Dev nD) (a : Fin 2),
    ldOff bot s.val 2 c a + S256x512.size a ≤ S1024x512.size a := by decide +kernel
theorem ldOff_inb3 : ∀ (bot : Bool) (s : Fin 8) (c : Dev nD) (a : Fin 2),
    ldOff bot s.val 3 c a + S256x64.size a ≤ S1024x64.size a := by decide +kernel
theorem oOff_inb : ∀ (l : Bool) (ch : Fin 4) (c : Dev nD) (a : Fin 3),
    oOff l ch.val c a + S1x64x1024.size a ≤ S16x64x4096.size a := by decide +kernel
theorem oOff_packed (l : Bool) (ch : Fin 4) (c : Dev nD) :
    (Rect.unit (s := S16x64x4096) (oOff l ch.val c) S1x64x1024.size (oOff_inb l ch c)).PackedRows
      (EltTy.packing .bf16) := by
  revert l ch c; decide +kernel
theorem agOff_inb : ∀ (t : Fin 3) (k : Fin 14) (c : Dev nD) (a : Fin 3),
    agOffTab t.val k.val c a + (S1W t.val).size a ≤ S16x64x4096.size a := by decide +kernel
theorem agOff_words : ∀ (t : Fin 3) (k : Fin 14) (c : Dev nD),
    (Rect.unit (s := S16x64x4096) (agOffTab t.val k.val c) (S1W t.val).size (agOff_inb t k c)).WholeWords
      (EltTy.packing .bf16) := by decide +kernel
theorem ag_squeezes : ∀ t : Fin 3, (S1W t.val).Squeezes (SW t.val) := by
  intro t; fin_cases t
  exacts [squeezes_S1x64x1280_S64x1280, squeezes_S1x64x1408_S64x1408, squeezes_S1x64x1408_S64x1408]
theorem piece_inb : ∀ (sl : Fin 8) (ch : Fin 4) (a : Fin 3),
    (![sl.val, 0, 1024 * ch.val] : Fin 3 → Nat) a + S1x64x1024.size a ≤ S8x64x4096.size a := by
  decide +kernel
theorem piece_words : ∀ (sl : Fin 8) (ch : Fin 4),
    (Rect.unit (s := S8x64x4096) ![sl.val, 0, 1024 * ch.val] S1x64x1024.size (piece_inb sl ch)).WholeWords
      (EltTy.packing .bf16) := by decide +kernel
theorem piece_packed : ∀ (sl : Fin 8) (ch : Fin 4),
    (Rect.unit (s := S8x64x4096) ![sl.val, 0, 1024 * ch.val] S1x64x1024.size (piece_inb sl ch)).PackedRows
      (EltTy.packing .bf16) := by decide +kernel
theorem sem_inb : ∀ (ch : Fin 4) (hop : Fin 7) (a : Fin 2),
    (![ch.val, hop.val] : Fin 2 → Nat) a + S1x1.size a ≤ S4x7.size a := by decide +kernel
theorem agSem_inb : ∀ (t : Fin 3) (k : Fin 14) (a : Fin 2),
    (![t.val, k.val] : Fin 2 → Nat) a + S1x1.size a ≤ S3x14.size a := by decide +kernel

/-! ## The blocks -/

/-- The effects of the body. -/
abbrev E (F : FTy → Type) := TpuEff nD τ sig (Elt F) Λ₀ .tc
/-- A program of the body. -/
abbrev PR (F : FTy → Type) (α : Type) := Prog (E F) α

/-- One after the other. -/
def seqP : List (PR F PUnit) → PR F PUnit
  | [] => pure ⟨⟩
  | p :: ps => do p; seqP ps

/-- The slot a hop sends from. -/
def srcSlot (hop : Fin 7) : Fin 8 := ⟨(hop.val + 7) % 8, Nat.mod_lt _ (by decide)⟩
/-- The slot a hop lands in. -/
def dstSlot (hop : Fin 7) : Fin 8 := ⟨hop.val, Nat.lt_succ_of_lt hop.isLt⟩

/-- The rectangle of chunk `ch` of slot `sl`. -/
abbrev pieceRect (sl : Fin 8) (ch : Fin 4) : Rect S8x64x4096 :=
  Rect.unit (s := S8x64x4096) ![sl.val, 0, 1024 * ch.val] S1x64x1024.size (piece_inb sl ch)

/-- Chunk `ch` of slot `sl` of a ring's buffer. -/
abbrev piece (a : Memref sig .tc .vmem S8x64x4096 .bf16) (sl : Fin 8) (ch : Fin 4) :=
  (a.slice (pieceRect sl ch) (fun _ => rfl)).squeeze S64x1024 squeezes_S1x64x1024_S64x1024

/-- The semaphore of chunk `ch`, hop `hop`. -/
abbrev sem47 (a : DmaSems sig S4x7) (ch : Fin 4) (hop : Fin 7) :=
  ((a.slice (Rect.unit (s := S4x7) ![ch.val, hop.val] S1x1.size (sem_inb ch hop))).squeeze S_ squeezes_S1x1_S_).sem

/-- The semaphore of copy `k` of track `t`. -/
abbrev sem314 (a : DmaSems sig S3x14) (t : Fin 3) (k : Fin 14) :=
  ((a.slice (Rect.unit (s := S3x14) ![t.val, k.val] S1x1.size (agSem_inb t k))).squeeze S_ squeezes_S1x1_S_).sem

theorem piece_exact {a : Memref sig .tc .vmem S8x64x4096 .bf16} (h : a.IsWhole) (sl : Fin 8) (ch : Fin 4) :
    (piece a sl ch).view.WordExact :=
  (h.wordExact_slice rfl _ (piece_words sl ch)).reshape _ _

/-- Hop `hop` of chunk `ch` of one ring. -/
def sendRS (l : Bool) {a : Memref sig .tc .vmem S8x64x4096 .bf16} (h : a.IsWhole) (sS sR : DmaSems sig S4x7)
    (c : Dev nD) (ch : Fin 4) (hop : Fin 7) : PR F PUnit :=
  Prog.lift (.enqueueDma (piece a (srcSlot hop) ch)
    (.remote (Dev.tc (rsDevTab l ch.val hop.val c)) (piece a (dstSlot hop) ch) (.dma (sem47 sS ch hop)))
    (.dma (sem47 sR ch hop)) (piece_exact h _ _) (piece_exact h _ _) ⟨⟨rfl, Or.inl rfl⟩, trivial⟩)

/-- The wait for a hop: on its arrival, or on its departure. -/
def waitRS {a : Memref sig .tc .vmem S8x64x4096 .bf16} (h : a.IsWhole) (s : DmaSems sig S4x7)
    (ch : Fin 4) (hop : Fin 7) : PR F PUnit :=
  Prog.lift (.waitDma2 (sem47 s ch hop) (piece a (srcSlot hop) ch) (piece a (dstSlot hop) ch)
    (piece_exact h _ _) (piece_exact h _ _))

/-- The rectangle of copy `k` of track `t`. -/
abbrev agRect (t : Fin 3) (k : Fin 14) (c : Dev nD) : Rect S16x64x4096 :=
  Rect.unit (s := S16x64x4096) (agOffTab t.val k.val c) (S1W t.val).size (agOff_inb t k c)

/-- The piece of the result copy `k` of track `t` moves. -/
abbrev agPiece (a : Memref sig .tc .vmem S16x64x4096 .bf16) (t : Fin 3) (k : Fin 14) (c : Dev nD) :=
  (a.slice (agRect t k c) (fun _ => rfl)).squeeze (SW t.val) (ag_squeezes t)

theorem agPiece_exact {a : Memref sig .tc .vmem S16x64x4096 .bf16} (h : a.IsWhole) (t : Fin 3) (k : Fin 14)
    (c : Dev nD) : (agPiece a t k c).view.WordExact :=
  (h.wordExact_slice rfl _ (agOff_words t k c)).reshape _ _

/-- Copy `k` of track `t`. -/
def sendAG {a : Memref sig .tc .vmem S16x64x4096 .bf16} (h : a.IsWhole) (sS sR : DmaSems sig S3x14)
    (c : Dev nD) (tk : Fin 3 × Fin 14) : PR F PUnit :=
  Prog.lift (.enqueueDma (agPiece a tk.1 tk.2 c)
    (.remote (Dev.tc (agDevTab tk.1.val tk.2.val c)) (agPiece a tk.1 tk.2 c) (.dma (sem314 sS tk.1 tk.2)))
    (.dma (sem314 sR tk.1 tk.2)) (agPiece_exact h _ _ _) (agPiece_exact h _ _ _) ⟨⟨rfl, Or.inl rfl⟩, trivial⟩)

/-- The wait for copy `k` of track `t`. -/
def waitAG {a : Memref sig .tc .vmem S16x64x4096 .bf16} (h : a.IsWhole) (s : DmaSems sig S3x14)
    (c : Dev nD) (tk : Fin 3 × Fin 14) : PR F PUnit :=
  Prog.lift (.waitDma2 (sem314 s tk.1 tk.2) (agPiece a tk.1 tk.2 c) (agPiece a tk.1 tk.2 c)
    (agPiece_exact h _ _ _) (agPiece_exact h _ _ _))

/-- The copies of phase `p`, in order. -/
def agList (p : Fin 3) : List (Fin 3 × Fin 14) :=
  match p.val with
  | 0 => [(0, 0), (0, 1), (1, 0), (1, 1), (2, 0), (2, 1)]
  | 1 => [(0, 2), (0, 3), (0, 4), (0, 5), (1, 2), (1, 3), (1, 4), (1, 5), (2, 2), (2, 3), (2, 4), (2, 5)]
  | _ => [(0, 6), (0, 7), (0, 8), (0, 9), (0, 10), (0, 11), (0, 12), (0, 13),
      (1, 6), (1, 7), (1, 8), (1, 9), (1, 10), (1, 11), (1, 12), (1, 13),
      (2, 6), (2, 7), (2, 8), (2, 9), (2, 10), (2, 11), (2, 12), (2, 13)]

/-- The hops of the rings in the order they are sent: ring, chunk, hop. -/
def rsList : List (Bool × Fin 4 × Fin 7) :=
  ([0, 1, 2, 3].map fun ch => (false, ch, 0)) ++ ([0, 1, 2, 3].map fun ch => (true, ch, 0)) ++
    ([1, 2, 3, 4, 5, 6].flatMap fun hop => [0, 1, 2, 3].flatMap fun ch => [(false, ch, hop), (true, ch, hop)])

section
variable (arg0 arg1 arg2 : Memref sig .tc .vmem S1024x512 .bf16)
  (arg3 : Memref sig .tc .vmem S1024x256 .bf16) (arg4 : Memref sig .tc .vmem S1024x64 .bf16)
  (arg5 : Memref sig .tc .vmem S512x4096 .bf16)
  (arg6 : Memref sig .tc .vmem S16x64x4096 .bf16) (harg6 : arg6.IsWhole)
  (arg7 : Memref sig .tc .vmem S8x64x4096 .bf16) (harg7 : arg7.IsWhole)
  (arg8 : Memref sig .tc .vmem S8x64x4096 .bf16) (harg8 : arg8.IsWhole)
  (arg9 arg10 arg11 arg12 : DmaSems sig S4x7) (arg13 arg14 : DmaSems sig S3x14)

/-- The five loads of one part of step `s`. -/
def ldBlk (bot : Bool) (s : Fin 8) (c : Dev nD) : PR F (Ld F) := do
  let q ← Prog.lift (.load arg0 (Rect.unit (s := S1024x512) (ldOff bot s.val 0 c) S64x512.size (ldOff_inb0 bot s c)).toLoadRect (View.loadsAt_vmem h_S64x512))
  let r ← Prog.lift (.load arg3 (Rect.unit (s := S1024x256) (ldOff bot s.val 1 c) S64x256.size (ldOff_inb1 bot s c)).toLoadRect (View.loadsAt_vmem h_S64x256))
  let k ← Prog.lift (.load arg1 (Rect.unit (s := S1024x512) (ldOff bot s.val 2 c) S256x512.size (ldOff_inb2 bot s c)).toLoadRect (View.loadsAt_vmem h_S256x512))
  let v ← Prog.lift (.load arg2 (Rect.unit (s := S1024x512) (ldOff bot s.val 2 c) S256x512.size (ldOff_inb2 bot s c)).toLoadRect (View.loadsAt_vmem h_S256x512))
  let x ← Prog.lift (.load arg4 (Rect.unit (s := S1024x64) (ldOff bot s.val 3 c) S256x64.size (ldOff_inb3 bot s c)).toLoadRect (View.loadsAt_vmem h_S256x64))
  pure ⟨q, r, k, v, x⟩

/-- The first value of a ring goes to its slot 7. -/
def st7 {a : Memref sig .tc .vmem S8x64x4096 .bf16} (h : a.IsWhole) (x : FVec F S1x64x4096 .bf16) : PR F PUnit := do
  let _ ← Prog.lift (.load a (Rect.unit (s := S8x64x4096) ![7, 0, 0] S1x64x4096.size inb_S8x64x4096_S1x64x4096_7_0_0).toLoadRect (View.loadsAt_vmem h_S1x64x4096))
  Prog.lift (.store a (Rect.unit (s := S8x64x4096) ![7, 0, 0] S1x64x4096.size inb_S8x64x4096_S1x64x4096_7_0_0) x Finset.univ
    (View.stores_vmem h_S1x64x4096 (h.storeExact_slice rfl _ packedbf16_S8x64x4096_S1x64x4096_7_0_0) (fun _ => rfl)) (.inl rfl))

/-- A step adds its product to a landed chunk, in place. -/
def accBlk (l : Bool) {a : Memref sig .tc .vmem S8x64x4096 .bf16} (h : a.IsWhole) (hop : Fin 7) (ch : Fin 4)
    (g : FVec F S64x4096 .f32) : PR F PUnit := do
  let x ← Prog.lift (.load a (pieceRect (dstSlot hop) ch).toLoadRect (View.loadsAt_vmem h_S1x64x1024))
  let _ ← Prog.lift (.load a (pieceRect (dstSlot hop) ch).toLoadRect (View.loadsAt_vmem h_S1x64x1024))
  Prog.lift (.store a (pieceRect (dstSlot hop) ch) (accTab l hop.val ch.val g x) Finset.univ
    (View.stores_vmem h_S1x64x1024 (h.storeExact_slice rfl _ (piece_packed _ _)) (fun _ => rfl)) (.inl rfl))

/-- The last step adds its product to the last landed chunk and stores the sum in the result. -/
def finBlk (l : Bool) (a : Memref sig .tc .vmem S8x64x4096 .bf16) (c : Dev nD) (ch : Fin 4)
    (g : FVec F S64x4096 .f32) : PR F PUnit := do
  let x ← Prog.lift (.load a (pieceRect (dstSlot 6) ch).toLoadRect (View.loadsAt_vmem h_S1x64x1024))
  let _ ← Prog.lift (.load arg6 (Rect.unit (s := S16x64x4096) (oOff l ch.val c) S1x64x1024.size (oOff_inb l ch c)).toLoadRect (View.loadsAt_vmem h_S1x64x1024))
  Prog.lift (.store arg6 (Rect.unit (s := S16x64x4096) (oOff l ch.val c) S1x64x1024.size (oOff_inb l ch c)) (accTab l 6 ch.val g x) Finset.univ
    (View.stores_vmem h_S1x64x1024 (harg6.storeExact_slice rfl _ (oOff_packed l ch c)) (fun _ => rfl)) (.inl rfl))

/-- One chunk of step `s`: both arrivals, both sums, both next hops. -/
def chBlk (c : Dev nD) (s : Fin 6) (ch : Fin 4) (g : FVec F S64x4096 .f32 × FVec F S64x4096 .f32) : PR F PUnit := do
  waitRS harg7 arg10 ch s.castSucc
  waitRS harg8 arg12 ch s.castSucc
  accBlk false harg7 s.castSucc ch g.1
  accBlk true harg8 s.castSucc ch g.2
  sendRS false harg7 arg9 arg10 c ch s.succ
  sendRS true harg8 arg11 arg12 c ch s.succ

/-- Step `s` of the rings, with the products of the step after it. -/
def rsIter (c : Dev nD) (w : Vec F S512x4096 .bf16) (s : Fin 6) (g : FVec F S64x4096 .f32 × FVec F S64x4096 .f32) :
    PR F (FVec F S64x4096 .f32 × FVec F S64x4096 .f32) := do
  chBlk arg7 harg7 arg8 harg8 arg9 arg10 arg11 arg12 c s 0 g
  let t ← ldBlk arg0 arg1 arg2 arg3 arg4 false s.succ.succ c
  let b ← ldBlk arg0 arg1 arg2 arg3 arg4 true s.succ.succ c
  chBlk arg7 harg7 arg8 harg8 arg9 arg10 arg11 arg12 c s 1 g
  chBlk arg7 harg7 arg8 harg8 arg9 arg10 arg11 arg12 c s 2 g
  chBlk arg7 harg7 arg8 harg8 arg9 arg10 arg11 arg12 c s 3 g
  pure (gTab (s.val + 2) w t b)

/-- One chunk of the last step. -/
def finCh (c : Dev nD) (g : FVec F S64x4096 .f32 × FVec F S64x4096 .f32) (ch : Fin 4) : PR F PUnit := do
  waitRS harg7 arg10 ch 6
  waitRS harg8 arg12 ch 6
  finBlk arg6 harg6 false arg7 c ch g.1
  finBlk arg6 harg6 true arg8 c ch g.2

/-- The wait for a hop's departure. -/
def waitSent (x : Bool × Fin 4 × Fin 7) : PR F PUnit :=
  match x with
  | (false, ch, hop) => waitRS harg7 arg9 ch hop
  | (true, ch, hop) => waitRS harg8 arg11 ch hop

/-- The barrier's semaphore. -/
abbrev barS : Sems sig S_ := SemArray.scalar (sig.barrier 1 rfl)

/-- The whole body. -/
def canon : PR F PUnit := do
  let c ← Prog.lift .deviceId
  semSignalWord (⟨k0_dev1 c, k0_dev1_lt c⟩ : Dev nD) barS.sem 1#32
  semSignalWord (⟨k0_dev2 c, k0_dev2_lt c⟩ : Dev nD) barS.sem 1#32
  semWaitWord barS.sem 2#32
  let w ← Prog.lift (.load arg5 (Rect.unit (s := S512x4096) ![0, 0] S512x4096.size inb_S512x4096_S512x4096_0_0).toLoadRect (View.loadsAt_vmem h_S512x4096))
  let t ← ldBlk arg0 arg1 arg2 arg3 arg4 false 0 c
  let b ← ldBlk arg0 arg1 arg2 arg3 arg4 true 0 c
  st7 harg7 (stTab false w t b)
  st7 harg8 (stTab true w t b)
  seqP ([0, 1, 2, 3].map fun ch => sendRS false harg7 arg9 arg10 c ch 0)
  seqP ([0, 1, 2, 3].map fun ch => sendRS true harg8 arg11 arg12 c ch 0)
  let t ← ldBlk arg0 arg1 arg2 arg3 arg4 false 1 c
  let b ← ldBlk arg0 arg1 arg2 arg3 arg4 true 1 c
  let g ← rsIter arg0 arg1 arg2 arg3 arg4 arg7 harg7 arg8 harg8 arg9 arg10 arg11 arg12 c w 0 (gTab 1 w t b)
  let g ← rsIter arg0 arg1 arg2 arg3 arg4 arg7 harg7 arg8 harg8 arg9 arg10 arg11 arg12 c w 1 g
  let g ← rsIter arg0 arg1 arg2 arg3 arg4 arg7 harg7 arg8 harg8 arg9 arg10 arg11 arg12 c w 2 g
  let g ← rsIter arg0 arg1 arg2 arg3 arg4 arg7 harg7 arg8 harg8 arg9 arg10 arg11 arg12 c w 3 g
  let g ← rsIter arg0 arg1 arg2 arg3 arg4 arg7 harg7 arg8 harg8 arg9 arg10 arg11 arg12 c w 4 g
  let g ← rsIter arg0 arg1 arg2 arg3 arg4 arg7 harg7 arg8 harg8 arg9 arg10 arg11 arg12 c w 5 g
  seqP ([0, 1, 2, 3].map (finCh arg6 harg6 arg7 harg7 arg8 harg8 arg10 arg12 c g))
  seqP ((agList 0).map (sendAG harg6 arg13 arg14 c))
  seqP ((agList 0).map (waitAG harg6 arg14 c))
  seqP ((agList 1).map (sendAG harg6 arg13 arg14 c))
  seqP ((agList 1).map (waitAG harg6 arg14 c))
  seqP ((agList 2).map (sendAG harg6 arg13 arg14 c))
  seqP ((agList 2).map (waitAG harg6 arg14 c))
  seqP (rsList.map (waitSent arg7 harg7 arg8 harg8 arg9 arg11))
  seqP ((agList 0).map (waitAG harg6 arg13 c))
  seqP ((agList 1).map (waitAG harg6 arg13 c))
  seqP ((agList 2).map (waitAG harg6 arg13 c))

end

end Cert.KernelIdeal.Canon
-- ==== Proof.Proto.lean ====
/- The protocol in closed form: the ring's neighbours, the exchange partners, the pieces' places, and
   the semaphores' cells, each shown to be what the tables of the printed body say. -/
module

public import proofs.«01_k».proof.Proof.Canon
public import Idealize.ShloMosaic.Lib.Rounds

@[expose] public section

set_option synthInstance.maxSize 4096

noncomputable section

namespace Cert.KernelIdeal.Canon

open Idealize.ShloMosaic Idealize.ShloMosaic.TcCoe Idealize.SL.Sem Cert.KernelIdeal Cert.KernelIdeal.Gen

/-! ## Devices -/

/-- The next device of the ring. -/
def nxt (c : Dev nD) : Dev nD := ⟨(c.val + 1) % 8, Nat.mod_lt _ (by decide)⟩
/-- The device before it. -/
def prv (c : Dev nD) : Dev nD := ⟨(c.val + 7) % 8, Nat.mod_lt _ (by decide)⟩
/-- Where ring `l` sends: the first ring to the next device, the second to the one before. -/
def fwd (l : Bool) (c : Dev nD) : Dev nD := if l then prv c else nxt c
/-- Where ring `l` comes from. -/
def bwd (l : Bool) (c : Dev nD) : Dev nD := if l then nxt c else prv c
/-- How many steps of the first ring lead from `o` to `d`. -/
def dist (o d : Dev nD) : Nat := (d.val + 8 - o.val) % 8
/-- The device `n` steps back along the first ring. -/
def back (n : Nat) (c : Dev nD) : Dev nD := ⟨(c.val + 8 - n % 8) % 8, Nat.mod_lt _ (by decide)⟩

theorem fwd_bwd : ∀ (l : Bool) (c : Dev nD), fwd l (bwd l c) = c := by decide +kernel
theorem bwd_fwd : ∀ (l : Bool) (c : Dev nD), bwd l (fwd l c) = c := by decide +kernel
theorem prv_nxt : ∀ c : Dev nD, prv (nxt c) = c := by decide +kernel
theorem nxt_prv : ∀ c : Dev nD, nxt (prv c) = c := by decide +kernel
theorem nxt_ne_prv : ∀ c : Dev nD, nxt c ≠ prv c := by decide +kernel

/-- The phase copy `k` of a track belongs to. -/
def phaseOf (k : Fin 14) : Fin 3 := if k.val < 2 then 0 else if k.val < 6 then 1 else 2

/-- The partner along one axis of the mesh. -/
def axisFlip (a : Nat) (c : Dev nD) : Dev nD :=
  match a with
  | 0 => ⟨(2 * (c.val / 2) + (1 - c.val % 2)) % 8, Nat.mod_lt _ (by decide)⟩
  | 1 => ⟨(4 * (c.val / 4) + (3 - c.val % 4)) % 8, Nat.mod_lt _ (by decide)⟩
  | _ => ⟨(c.val + 4) % 8, Nat.mod_lt _ (by decide)⟩

/-- The partner of copy `k` of track `t`. -/
def partner (t : Fin 3) (k : Fin 14) (c : Dev nD) : Dev nD := axisFlip ((t.val + (phaseOf k).val) % 3) c

/-- Whose block copy `k` of track `t` of device `c` moves: the blocks held so far, in order. -/
def ownerOf (t : Fin 3) (k : Fin 14) (c : Dev nD) : Dev nD :=
  let j := if k.val < 2 then 0 else if k.val < 6 then (k.val - 2) / 2 else (k.val - 6) / 2
  let c' := if j / 2 % 2 = 1 then axisFlip ((t.val + 1) % 3) c else c
  if j % 2 = 1 then axisFlip (t.val % 3) c' else c'

/-- The slab of the result a device sums on ring `l`. -/
def slab (l : Bool) (o : Dev nD) : Nat := if l then 2 * ((o.val + 7) % 8) + 1 else 2 * ((o.val + 1) % 8)

/-- Where a track's columns start. -/
def agStart (t : Fin 3) : Nat := match t.val with | 0 => 0 | 1 => 1280 | _ => 2688

/-- Which of the two slabs copy `k` moves. -/
def half (k : Fin 14) : Bool := k.val % 2 == 1

theorem rsDev_eq : ∀ (l : Bool) (ch : Fin 4) (hop : Fin 7) (c : Dev nD), rsDevTab l ch.val hop.val c = fwd l c := by
  decide +kernel
theorem agDev_eq : ∀ (t : Fin 3) (k : Fin 14) (c : Dev nD), agDevTab t.val k.val c = partner t k c := by
  decide +kernel
theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem agOff_eq : ∀ (t : Fin 3) (k : Fin 14) (c : Dev nD),
    agOffTab t.val k.val c = ![slab (half k) (ownerOf t k c), 0, agStart t] := by decide +kernel
theorem oOff_eq : ∀ (l : Bool) (ch : Fin 4) (c : Dev nD), oOff l ch.val c = ![slab l c, 0, 1024 * ch.val] := by
  decide +kernel
theorem partner_partner : ∀ (t : Fin 3) (k : Fin 14) (c : Dev nD), partner t k (partner t k c) = c := by decide +kernel
theorem partner_ne : ∀ (t : Fin 3) (k : Fin 14) (c : Dev nD), partner t k c ≠ c := by decide +kernel

/-! ## Cells -/

/-- A copy: a hop of a ring (ring, chunk, hop), or an exchange (track, counter). -/
abbrev X := (Bool × Fin 4 × Fin 7) ⊕ (Fin 3 × Fin 14)
/-- A cell of a device: the barrier's, or the departure's (`false`) or arrival's (`true`) of a copy. -/
abbrev Cl := Option (Bool × X)

/-- The semaphores of the rings, by ring. -/
abbrev rsS (l : Bool) : DmaSems sig S4x7 := match l with | false => cc0_scratch2 | true => cc0_scratch4
/-- The semaphores of the rings' arrivals. -/
abbrev rsR (l : Bool) : DmaSems sig S4x7 := match l with | false => cc0_scratch3 | true => cc0_scratch5

/-- The semaphore of a copy's departure. -/
def semS : X → DmaSem sig
  | .inl (l, ch, hop) => sem47 (rsS l) ch hop
  | .inr (t, k) => sem314 cc0_scratch6 t k
/-- The semaphore of a copy's arrival. -/
def semR : X → DmaSem sig
  | .inl (l, ch, hop) => sem47 (rsR l) ch hop
  | .inr (t, k) => sem314 cc0_scratch7 t k

/-- The semaphore of a cell. -/
def csem : Cl → SemLoc sig
  | none => .reg barS.sem
  | some (false, x) => .dma (semS x)
  | some (true, x) => .dma (semR x)

/-- A cell of the machine. -/
abbrev kcell (c : Dev nD) (k : Cl) : GSem nD τ sig := ((c : Thread nD τ), csem k)

/-- Which cell a DMA semaphore is, by its number. -/
def decN (n : Nat) : Option (Bool × X) :=
  if n < 7 then none
  else if n < 119 then
    let m := n - 7
    some (decide (m / 28 % 2 = 1), .inl (decide (56 ≤ m), ⟨m % 28 / 7 % 4, Nat.mod_lt _ (by decide)⟩, ⟨m % 7, Nat.mod_lt _ (by decide)⟩))
  else
    let m := n - 119
    some (decide (42 ≤ m), .inr (⟨m % 42 / 14 % 3, Nat.mod_lt _ (by decide)⟩, ⟨m % 14, Nat.mod_lt _ (by decide)⟩))

/-- Which cell a semaphore is. -/
def dec : SemLoc sig → Option Cl
  | .reg _ => some none
  | .dma q => (decN q.val).map some

theorem dec_csem : ∀ k : Cl, dec (csem k) = some k := by decide +kernel
theorem csem_injective : Function.Injective csem := fun a b h => by
  have := congrArg dec h; rw [dec_csem, dec_csem] at this; exact Option.some.inj this

/-! ## Order -/

/-- The exchanges in the order they start. -/
def agAll : List (Fin 3 × Fin 14) := agList 0 ++ agList 1 ++ agList 2

/-- All copies in the order they start. -/
def allX : List X := rsList.map .inl ++ agAll.map .inr

theorem allX_nodup : allX.Nodup := by decide +kernel
theorem mem_rsList : ∀ p : Bool × Fin 4 × Fin 7, rsList.contains p = true := by decide +kernel
theorem mem_agAll : ∀ p : Fin 3 × Fin 14, agAll.contains p = true := by decide +kernel
theorem mem_allX (x : X) : x ∈ allX := by
  unfold allX
  rcases x with p | p
  · exact List.mem_append_left _ (List.mem_map.2 ⟨p, List.contains_iff_mem.1 (mem_rsList p), rfl⟩)
  · exact List.mem_append_right _ (List.mem_map.2 ⟨p, List.contains_iff_mem.1 (mem_agAll p), rfl⟩)

/-- The height of an arrival: arrivals are awaited in this order. -/
def lvl : X → Nat
  | .inl (_, _, hop) => 2 + hop.val
  | .inr (_, k) => 9 + (phaseOf k).val

end Cert.KernelIdeal.Canon
-- ==== Proof.Pc.lean ====
/- Parts of a buffer seen through a memory reference: `pc m c S q X` holds the elements under the
   indices `S`, at share `q`, reading `X` there. Splitting, joining, loads and stores. -/
module

public import proofs.«01_k».proof.Proof.Proto
public import Idealize.ShloMosaic.Lib.Ring
public import Idealize.ShloMosaic.Lib.Exec.Geometry
public import Idealize.ShloMosaic.Lib.Tactic

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Running `p` on core `c`. -/
abbrev WP (c : Dev nD) {α : Type} (p : PR F α) (Q : α → sProp 𝕄) : sProp 𝕄 :=
  wp frame (wpE (defs₀ (F := F)) 𝒱₀ (c : Thread nD τ) none) Set.univ p Q

/-- A block's triple, used at the head of a program. -/
theorem step {c : Dev nD} {α β : Type} {p : PR F α} {k : α → PR F β} {P : sProp 𝕄} {R : α → sProp 𝕄} {Q : β → sProp 𝕄}
    (h : P ⊢ WP c p R) : P ⊢ iprop((∀ r, R r -∗ WP c (k r) Q) -∗ WP c (p >>= k) Q) := by
  unfold WP at *; rw [wp_bind]; exact h.trans (wp_wand _ _ _)

/-- A block's triple, used on the whole program. -/
theorem last {c : Dev nD} {α : Type} {p : PR F α} {P : sProp 𝕄} {R Q : α → sProp 𝕄}
    (h : P ⊢ WP c p R) : P ⊢ iprop((∀ r, R r -∗ Q r) -∗ WP c p Q) := h.trans (wp_wand _ _ _)

/-- A post can be weakened. -/
theorem wp_mono' (c : Dev nD) {α : Type} {p : PR F α} {R Q : α → sProp 𝕄} (h : ∀ r, R r ⊢ Q r) : WP c p R ⊢ WP c p Q := by
  iintro H
  iapply (last (BI.Entails.refl (WP c p R))) $$ H
  iintro %r HR
  iapply (h r); iexact HR

/-- A value meets a post that holds of it. -/
theorem wp_pure_intro {c : Dev nD} {α : Type} (a : α) (Q : α → sProp 𝕄) : Q a ⊢ WP c (pure a) Q :=
  (fupd_intro (PROP := sProp 𝕄))

section
variable {s : Shape} {e : EltTy}

/-- The elements under `S`, at share `q`, reading `X`. -/
def pc (m : Memref sig .tc .vmem s e) (c : Dev nD) (S : Finset s.Idx) (q : PosShare TreeShare) (X : Vec F s e) : sProp 𝕄 :=
  iprop(∃ f : Buf (Elt F) (m.view.loc (c : Thread nD τ)), ⌜∀ i ∈ S, m.view.read (Elt F) f i = X i⌝
    ∗ (m.view.loc (c : Thread nD τ) ↦[m.view.setOn S]{q} f))

/-- The elements under `S`, at contents not stated. -/
def pcE (m : Memref sig .tc .vmem s e) (c : Dev nD) (S : Finset s.Idx) : sProp 𝕄 :=
  iprop(∃ f : Buf (Elt F) (m.view.loc (c : Thread nD τ)), (m.view.loc (c : Thread nD τ) ↦[m.view.setOn S]{fullShare} f))

omit [FloatOps F] in
instance pc_storable (m : Memref sig .tc .vmem s e) (c S q) (X : Vec F s e) : BI.Storable (upEmb : UEmb _ 𝕄) (pc m c S q X) := by
  unfold pc; infer_instance
omit [FloatOps F] in
instance pcE_storable (m : Memref sig .tc .vmem s e) (c S) : BI.Storable (upEmb : UEmb _ 𝕄) (pcE (F := F) m c S) := by
  unfold pcE; infer_instance

variable (m : Memref sig .tc .vmem s e) (c : Dev nD)

omit [FloatOps F] in
theorem pc_forget (S) (X : Vec F s e) : pc m c S fullShare X ⊢ pcE m c S := by
  unfold pc pcE; iintro ⟨%f, -, H⟩; iexists f; iexact H

omit [FloatOps F] in
theorem pc_congr {S} {q} {X Y : Vec F s e} (h : ∀ i ∈ S, X i = Y i) : pc m c S q X = pc m c S q Y := by
  unfold pc
  exact congrArg _ (funext fun f => by
    rw [show (∀ i ∈ S, m.view.read (Elt F) f i = X i) = (∀ i ∈ S, m.view.read (Elt F) f i = Y i) from
      propext ⟨fun H i hi => (H i hi).trans (h i hi), fun H i hi => (H i hi).trans (h i hi).symm⟩])

omit [FloatOps F] in
/-- Along the share. -/
theorem pc_halves (S) (q : PosShare TreeShare) (X : Vec F s e) : pc m c S q X ⊣⊢ iprop(pc m c S q.left X ∗ pc m c S q.right X) := by
  constructor
  · unfold pc
    iintro ⟨%f, %h, H⟩
    ihave H2 := (pointsTo_share (PosShare.mem_left_op_right q)).1 $$ H
    icases H2 with ⟨H1, H2⟩
    isplitl [H1]
    · iexists f; isplitr; · ipureintro; exact h
      iexact H1
    · iexists f; isplitr; · ipureintro; exact h
      iexact H2
  · unfold pc
    iintro ⟨⟨%f, %h, H1⟩, ⟨%g, %h', H2⟩⟩
    have hfg : ∀ i ∈ m.view.setOn S, f i = g i := by
      intro i hi
      obtain ⟨x, hx, rfl⟩ := Finset.mem_map.mp hi
      have := (h x hx).trans (h' x hx).symm
      rw [View.read_apply, View.read_apply] at this
      exact (cast_inj _).mp this
    ihave H1 := (Entails.of_eq (pointsTo_congr hfg)) $$ H1
    iexists g
    isplitr; · ipureintro; exact h'
    iapply (pointsTo_share (PosShare.mem_left_op_right q)).2
    isplitl [H1] <;> iassumption

omit [FloatOps F] in
theorem pc_empty (f₀ : Buf (Elt F) (m.view.loc (c : Thread nD τ))) (q) (X : Vec F s e) : (emp : sProp 𝕄) ⊢ pc m c ∅ q X := by
  unfold pc
  iintro -
  iexists f₀
  isplitr
  · ipureintro; exact fun i hi => absurd hi (Finset.notMem_empty _)
  rw [show m.view.setOn ∅ = ∅ from Finset.map_empty _, pointsTo_empty]; iempintro

omit [FloatOps F] in
theorem pc_join {S T : Finset s.Idx} (hd : Disjoint S T) (q) (X : Vec F s e) :
    iprop(pc m c S q X ∗ pc m c T q X) ⊢ pc m c (S ∪ T) q X := by
  have hd' : Disjoint (m.view.setOn S) (m.view.setOn T) := m.view.disjoint_setOn hd
  unfold pc
  iintro ⟨⟨%f, %h, H1⟩, ⟨%g, %h', H2⟩⟩
  iexists (m.view.setOn T).piecewise g f
  isplitr
  · ipureintro
    intro i hi
    rcases Finset.mem_union.mp hi with hS | hT
    · rw [View.read_congr_at (f := (m.view.setOn T).piecewise g f) (g := f) i, h i hS]
      exact Finset.piecewise_eq_of_notMem _ _ _ fun hm => Finset.disjoint_left.mp hd hS (m.view.mem_setOn.mp hm)
    · rw [View.read_congr_at (f := (m.view.setOn T).piecewise g f) (g := g) i, h' i hT]
      exact Finset.piecewise_eq_of_mem _ _ _ (m.view.mem_setOn.mpr hT)
  rw [show m.view.setOn (S ∪ T) = m.view.setOn S ∪ m.view.setOn T from Finset.map_union _ _]
  iapply (pointsTo_join hd')
  isplitl [H1] <;> iassumption

omit [FloatOps F] in
theorem pc_split {S T : Finset s.Idx} (hd : Disjoint S T) (q) (X : Vec F s e) :
    pc m c (S ∪ T) q X ⊢ iprop(pc m c S q X ∗ pc m c T q X) := by
  have hd' : Disjoint (m.view.setOn S) (m.view.setOn T) := m.view.disjoint_setOn hd
  unfold pc
  iintro ⟨%f, %h, H⟩
  rw [show m.view.setOn (S ∪ T) = m.view.setOn S ∪ m.view.setOn T from Finset.map_union _ _]
  ihave H2 := (pointsTo_union hd').1 $$ H
  icases H2 with ⟨H1, H2⟩
  isplitl [H1]
  · iexists f; isplitr; · ipureintro; exact fun i hi => h i (Finset.mem_union_left _ hi)
    iexact H1
  · iexists f; isplitr; · ipureintro; exact fun i hi => h i (Finset.mem_union_right _ hi)
    iexact H2

section Blocks
variable {B : Type} [Fintype B] [DecidableEq B] (I : B → Finset s.Idx) (hd : ∀ b b', b ≠ b' → Disjoint (I b) (I b'))

omit [FloatOps F] [Fintype B] in
include hd in
theorem pc_biUnion (f₀ : Buf (Elt F) (m.view.loc (c : Thread nD τ))) (q) (X : Vec F s e) (T : Finset B) :
    pc m c (T.biUnion I) q X ⊣⊢ bigSep T fun b => pc m c (I b) q X := by
  induction T using Finset.induction_on with
  | empty =>
    rw [Finset.biUnion_empty]
    constructor
    · rw [bigSep_empty]
      unfold pc; iintro ⟨%f, -, -⟩; iempintro
    · rw [bigSep_empty]; exact pc_empty m c f₀ q X
  | insert b T hb ih =>
    rw [bigSep_insert hb, Finset.biUnion_insert]
    have hd' : Disjoint (I b) (T.biUnion I) := (Finset.disjoint_biUnion_right _ _ _).mpr fun b' hb' => hd b b' fun h => hb (h ▸ hb')
    constructor
    · exact (pc_split m c hd' q X).trans (sep_mono_right ih.1)
    · exact (show iprop(pc m c (I b) q X ∗ bigSep T fun b => pc m c (I b) q X) ⊢ _ from (sep_mono_right ih.2).trans (pc_join m c hd' q X))

omit [FloatOps F] in
include hd in
/-- A set cut into blocks, at one contents. -/
theorem pc_blocks [Nonempty (Buf (Elt F) (m.view.loc (c : Thread nD τ)))] (q) (X : Vec F s e) (S : Finset s.Idx)
    (hS : Finset.univ.biUnion I = S) : pc m c S q X ⊣⊢ bigSep Finset.univ fun b => pc m c (I b) q X := by
  subst hS; exact pc_biUnion m c I hd (Classical.arbitrary _) q X Finset.univ

theorem setOn_biUnion' (v : View sig .tc .vmem s e) (T : Finset B) : T.biUnion (fun b => v.setOn (I b)) = v.setOn (T.biUnion I) := by
  ext i
  simp only [View.setOn, Finset.mem_biUnion, Finset.mem_map]
  constructor
  · rintro ⟨b, hb, x, hx, rfl⟩; exact ⟨x, ⟨b, hb, hx⟩, rfl⟩
  · rintro ⟨x, ⟨b, hb, hx⟩, rfl⟩; exact ⟨b, hb, x, hx, rfl⟩

omit [FloatOps F] in
include hd in
/-- A set cut into blocks, each at some contents. -/
theorem pcE_blocks [Nonempty (Buf (Elt F) (m.view.loc (c : Thread nD τ)))] (S : Finset s.Idx)
    (hS : Finset.univ.biUnion I = S) : pcE (F := F) m c S ⊣⊢ bigSep Finset.univ fun b => pcE m c (I b) := by
  let J : B → Finset (Idx (m.view.loc (c : Thread nD τ))) := fun b => m.view.setOn (I b)
  have hd' : ∀ b b', b ≠ b' → Disjoint (J b) (J b') := fun b b' h => m.view.disjoint_setOn (hd b b' h)
  have hS' : Finset.univ.biUnion J = m.view.setOn S := (setOn_biUnion' I m.view Finset.univ).trans (congrArg _ hS)
  constructor
  · unfold pcE
    iintro ⟨%f, H⟩
    have hsp := Ring.pointsTo_sub_blocks (Ix := Unit) (Val := Elt F) (Name := ℕ) (U := UU) (Lvl := ℕ) J hd' _ hS' (q := fullShare) f
    have hm : (m.view.loc (c : Thread nD τ) ↦[m.view.setOn S]{fullShare} f : sProp 𝕄)
        ⊢ bigSep Finset.univ fun b => iprop(∃ f : Buf (Elt F) (m.view.loc (c : Thread nD τ)), (m.view.loc (c : Thread nD τ) ↦[J b]{fullShare} f)) := by
      rw [hsp]
      have h1 (b : B) : (m.view.loc (c : Thread nD τ) ↦[J b]{fullShare} f : sProp 𝕄)
          ⊢ iprop(∃ f : Buf (Elt F) (m.view.loc (c : Thread nD τ)), (m.view.loc (c : Thread nD τ) ↦[J b]{fullShare} f)) := by
        iintro H; iexists f; iexact H
      exact bigSep_mono fun b _ => h1 b
    iapply hm
    iexact H
  · unfold pcE
    exact Ring.pointsTo_sub_blocks_join_exists J hd' _ hS' (Classical.arbitrary _)

end Blocks

/-! ### Loads and stores -/

/-- A load of a rectangle of elements held. -/
theorem wp_load_pc {r : Rect s} {hl : m.view.LoadsAt r.toLoadRect}
    {S : Finset s.Idx} (hS : r.set ⊆ S) (q) (X : Vec F s e) :
    pc m c S q X ⊢ WP c (Prog.lift (.load m r.toLoadRect hl)) (fun x => iprop(⌜x = fun j => X (r.emb j)⌝ ∗ pc m c S q X)) := by
  conv_lhs => unfold pc
  iintro ⟨%f, %h, H⟩
  iapply (wp_load 𝒱₀ (c : Thread nD τ) none Set.univ (m := m) (r := r.toLoadRect) (q := q) (f := f)
    (S := m.view.setOn S) (Finset.map_subset_map.mpr hS)) $$ H
  iintro H
  iapply (wp_pure_intro (c := c) (m.view.readAt (Elt F) r.toLoadRect f))
  isplitr
  · ipureintro
    funext j
    exact h _ (hS (r.idx_mem j))
  unfold pc
  iexists f
  isplitr; · ipureintro; exact h
  iexact H

/-- A load of elements held at contents not stated. -/
theorem wp_load_pcE {r : Rect s} {hl : m.view.LoadsAt r.toLoadRect} {S : Finset s.Idx} (hS : r.set ⊆ S) :
    pcE (F := F) m c S ⊢ WP c (Prog.lift (.load m r.toLoadRect hl)) (fun x => pcE m c S) := by
  conv_lhs => unfold pcE
  iintro ⟨%f, H⟩
  iapply (wp_load 𝒱₀ (c : Thread nD τ) none Set.univ (m := m) (r := r.toLoadRect) (q := fullShare) (f := f)
    (S := m.view.setOn S) (Finset.map_subset_map.mpr hS)) $$ H
  iintro H
  iapply (wp_pure_intro (c := c) (m.view.readAt (Elt F) r.toLoadRect f))
  unfold pcE
  iexists f
  iexact H

/-- A store over a whole rectangle held. -/
theorem wp_store_pc {r : Rect s} {w : r.shape.Idx → Elt F e} {hx : (m.access r).Stores Finset.univ}
    {hm : (Finset.univ : Finset r.shape.Idx) = Finset.univ ∨ ∀ a, r.stride a = 1} (Y : Vec F s e) (hY : ∀ j, Y (r.emb j) = w j) :
    pcE (F := F) m c r.set ⊢ WP c (Prog.lift (.store m r w Finset.univ hx hm)) (fun _ => pc m c r.set fullShare Y) := by
  unfold pcE
  iintro ⟨%f, H⟩
  iapply (wp_store 𝒱₀ (c : Thread nD τ) none Set.univ (m := m) (r := r) (w := w) (Mk := Finset.univ) (f := f)
    (S := m.view.setOn r.set) (by
      rw [View.setOn_slice, ← Rect.map_emb_univ])) $$ H
  iintro H
  iapply (wp_pure_intro (c := c) PUnit.unit)
  unfold pc
  iexists ((m.access r).write (Elt F) f w Finset.univ)
  isplitr
  · ipureintro
    intro i hi
    obtain ⟨j, rfl⟩ := r.exists_idx_of_mem hi
    exact (View.read_slice_write_emb (v := m.view) (Val := Elt F) r f w (Finset.mem_univ j)).trans (hY j).symm
  iexact H

end

end Cert.KernelIdeal.Canon
-- ==== Proof.Geom.lean ====
/- Which elements each copy moves, and what every buffer holds: the partial sums along the rings and
   the finished result. -/
module

public import proofs.«01_k».proof.Proof.Pc
public import Idealize.ShloMosaic.Lib.Pointwise.Index

@[expose] public section

noncomputable section

namespace Cert.KernelIdeal.Canon

open Cert.KernelIdeal Cert.KernelIdeal.Gen

open Idealize.ShloMosaic
open Idealize.ShloMosaic.TcCoe

variable {F : FTy → Type} [FloatOps F]

/-! ## Element sets -/

/-- The columns `lo … lo + w - 1` of slab `a`. -/
def blk (n a lo w : Nat) : Finset (⟨3, ![n, 64, 4096]⟩ : Shape).Idx :=
  Finset.univ.filter fun i => (i 0).val = a ∧ lo ≤ (i 2).val ∧ (i 2).val < lo + w

theorem mem_blk {n a lo w : Nat} {i : (⟨3, ![n, 64, 4096]⟩ : Shape).Idx} :
    i ∈ blk n a lo w ↔ (i 0).val = a ∧ lo ≤ (i 2).val ∧ (i 2).val < lo + w := by
  unfold blk; rw [Finset.mem_filter]; exact ⟨fun h => h.2, fun h => ⟨Finset.mem_univ _, h⟩⟩

/-- A rectangle of one slab and all its rows. -/
theorem set_unit_blk {n : Nat} {off size : Fin 3 → Nat} {inb} {a lo w : Nat} (ho : off = ![a, 0, lo]) (hs : size = ![1, 64, w]) :
    (Rect.unit (s := ⟨3, ![n, 64, 4096]⟩) off size inb).set = blk n a lo w := by
  subst ho hs
  ext i
  rw [mem_blk, Rect.mem_set_unit]
  constructor
  · intro h
    have h0 := h 0
    have h2 := h 2
    simp at h0 h2
    exact ⟨by omega, h2.1, h2.2⟩
  · rintro ⟨h0, h1, h2⟩ x
    have hb : (i 1).val < 64 := (i 1).isLt
    match x with
    | 0 => exact ⟨h0.ge, by show (i 0).val < a + 1; omega⟩
    | 1 => exact ⟨Nat.zero_le _, by show (i 1).val < 0 + 64; omega⟩
    | 2 => exact ⟨h1, h2⟩

/-- The elements of chunk `ch` of slot `sl` of a ring's buffer. -/
abbrev pieceSet (sl : Fin 8) (ch : Fin 4) : Finset S8x64x4096.Idx := (pieceRect sl ch).set
/-- The elements copy `k` of track `t` moves on device `c`. -/
abbrev agSet (t : Fin 3) (k : Fin 14) (c : Dev nD) : Finset S16x64x4096.Idx := (agRect t k c).set
/-- Chunk `ch` of the slab device `c` sums on ring `l`. -/
abbrev oRect (l : Bool) (ch : Fin 4) (c : Dev nD) : Rect S16x64x4096 :=
  Rect.unit (s := S16x64x4096) (oOff l ch.val c) S1x64x1024.size (oOff_inb l ch c)
abbrev oSet (l : Bool) (ch : Fin 4) (c : Dev nD) : Finset S16x64x4096.Idx := (oRect l ch c).set
/-- The whole slab a device sums on ring `l`. -/
def slabSet (l : Bool) (c : Dev nD) : Finset S16x64x4096.Idx := blk 16 (slab l c) 0 4096
/-- Track `t` of the slab device `o` sums on ring `l`. -/
def trkSet (o : Dev nD) (l : Bool) (t : Fin 3) : Finset S16x64x4096.Idx := blk 16 (slab l o) (agStart t) (agW t.val)
/-- The rectangle of a ring's slot 7. -/
abbrev rect7 : Rect S8x64x4096 := Rect.unit (s := S8x64x4096) ![7, 0, 0] S1x64x4096.size inb_S8x64x4096_S1x64x4096_7_0_0

theorem pieceSet_eq (sl : Fin 8) (ch : Fin 4) : pieceSet sl ch = blk 8 sl.val (1024 * ch.val) 1024 := set_unit_blk rfl rfl
theorem rect7_set : rect7.set = blk 8 7 0 4096 := set_unit_blk rfl rfl
theorem agSet_eq (t : Fin 3) (k : Fin 14) (c : Dev nD) : agSet t k c = trkSet (ownerOf t k c) (half k) t :=
  set_unit_blk (agOff_eq t k c) rfl
theorem oSet_eq (l : Bool) (ch : Fin 4) (c : Dev nD) : oSet l ch c = blk 16 (slab l c) (1024 * ch.val) 1024 :=
  set_unit_blk (oOff_eq l ch c) rfl

theorem piece_disj : ∀ p p' : Fin 8 × Fin 4, p ≠ p' → Disjoint (pieceSet p.1 p.2) (pieceSet p'.1 p'.2) := by
  intro p p' h
  rw [pieceSet_eq, pieceSet_eq, Finset.disjoint_left]
  intro i h1 h2
  rw [mem_blk] at h1 h2
  refine h (Prod.ext (Fin.ext (h1.1.symm.trans h2.1)) (Fin.ext ?_))
  omega

theorem piece_cover : (Finset.univ : Finset (Fin 8 × Fin 4)).biUnion (fun p => pieceSet p.1 p.2) = Finset.univ := by
  ext i
  simp only [Finset.mem_biUnion, Finset.mem_univ, true_and, iff_true]
  have h0 : (i 0).val < 8 := (i 0).isLt
  have h2 : (i 2).val < 4096 := (i 2).isLt
  refine ⟨(⟨(i 0).val, h0⟩, ⟨(i 2).val / 1024, by omega⟩), ?_⟩
  rw [pieceSet_eq, mem_blk]
  refine ⟨rfl, ?_, ?_⟩ <;> dsimp only <;> omega

theorem rect7_cover : (Finset.univ : Finset (Fin 4)).biUnion (fun ch => pieceSet 7 ch) = rect7.set := by
  ext i
  simp only [Finset.mem_biUnion, Finset.mem_univ, true_and, pieceSet_eq, rect7_set, mem_blk]
  have h2 : (i 2).val < 4096 := (i 2).isLt
  constructor
  · rintro ⟨ch, h, -, -⟩; exact ⟨h, Nat.zero_le _, by omega⟩
  · rintro ⟨h, -, -⟩
    refine ⟨⟨(i 2).val / 1024, by omega⟩, h, ?_, ?_⟩ <;> dsimp only <;> omega

theorem chunk_disj (l : Bool) (c : Dev nD) : ∀ p p' : Fin 4, p ≠ p' → Disjoint (oSet l p c) (oSet l p' c) := by
  intro p p' h
  rw [oSet_eq, oSet_eq, Finset.disjoint_left]
  intro i h1 h2
  rw [mem_blk] at h1 h2
  exact h (Fin.ext (by omega))

theorem chunk_cover (l : Bool) (c : Dev nD) : (Finset.univ : Finset (Fin 4)).biUnion (fun ch => oSet l ch c) = slabSet l c := by
  ext i
  simp only [Finset.mem_biUnion, Finset.mem_univ, true_and, oSet_eq, slabSet, mem_blk]
  have h2 : (i 2).val < 4096 := (i 2).isLt
  constructor
  · rintro ⟨ch, h, -, -⟩; exact ⟨h, Nat.zero_le _, by omega⟩
  · rintro ⟨h, -, -⟩
    refine ⟨⟨(i 2).val / 1024, by omega⟩, h, ?_, ?_⟩ <;> dsimp only <;> omega

theorem trk_sep : ∀ t t' : Fin 3, t ≠ t' → agStart t + agW t.val ≤ agStart t' ∨ agStart t' + agW t'.val ≤ agStart t := by decide
theorem slab_inj : ∀ (l l' : Bool) (o o' : Dev nD), slab l o = slab l' o' → l = l' ∧ o = o' := by decide +kernel
theorem slab_surj : ∀ n : Fin 16, ∃ l o, slab l o = n.val := by decide +kernel

theorem trk_disj : ∀ p p' : Dev nD × Bool × Fin 3, p ≠ p' → Disjoint (trkSet p.1 p.2.1 p.2.2) (trkSet p'.1 p'.2.1 p'.2.2) := by
  intro p p' h
  rw [Finset.disjoint_left]
  intro i h1 h2
  unfold trkSet at h1 h2
  rw [mem_blk] at h1 h2
  obtain ⟨hl, ho⟩ := slab_inj _ _ _ _ (h1.1.symm.trans h2.1)
  by_cases ht : p.2.2 = p'.2.2
  · exact h (Prod.ext ho (Prod.ext hl ht))
  · have := trk_sep _ _ ht
    omega

theorem trk_cover (l : Bool) (o : Dev nD) : (Finset.univ : Finset (Fin 3)).biUnion (fun t => trkSet o l t) = slabSet l o := by
  ext i
  simp only [Finset.mem_biUnion, Finset.mem_univ, true_and, trkSet, slabSet, mem_blk]
  have h2 : (i 2).val < 4096 := (i 2).isLt
  constructor
  · rintro ⟨t, h, -, -⟩; exact ⟨h, Nat.zero_le _, by omega⟩
  · rintro ⟨h, -, -⟩
    by_cases ha : (i 2).val < 1280
    · exact ⟨0, h, Nat.zero_le _, by show (i 2).val < 0 + 1280; omega⟩
    by_cases hb : (i 2).val < 2688
    · exact ⟨1, h, by show 1280 ≤ (i 2).val; omega, by show (i 2).val < 1280 + 1408; omega⟩
    · exact ⟨2, h, by show 2688 ≤ (i 2).val; omega, by show (i 2).val < 2688 + 1408; omega⟩

/-- The parts of the result on device `c`: what each copy brings, and its own two slabs. -/
def partSet (c : Dev nD) : (Fin 3 × Fin 14) ⊕ Bool → Finset S16x64x4096.Idx
  | .inl (t, k) => agSet t k (partner t k c)
  | .inr l => slabSet l c

theorem owner_ne : ∀ (c : Dev nD) (t : Fin 3) (k : Fin 14), ownerOf t k (partner t k c) ≠ c := by decide +kernel
theorem owner_inj : ∀ (c : Dev nD) (t : Fin 3) (k k' : Fin 14), ownerOf t k (partner t k c) = ownerOf t k' (partner t k' c) →
    half k = half k' → k = k' := by decide +kernel
theorem owner_surj : ∀ (c o : Dev nD) (l : Bool) (t : Fin 3), o ≠ c → ∃ k : Fin 14, ownerOf t k (partner t k c) = o ∧ half k = l := by
  decide +kernel

theorem slab_trk_disj {l l' : Bool} {o o' : Dev nD} {t : Fin 3} (h : o ≠ o') : Disjoint (trkSet o l t) (slabSet l' o') := by
  rw [Finset.disjoint_left]
  intro i h1 h2
  unfold trkSet at h1; unfold slabSet at h2
  rw [mem_blk] at h1 h2
  exact h (slab_inj _ _ _ _ (h1.1.symm.trans h2.1)).2

theorem part_disj (c : Dev nD) : ∀ b b', b ≠ b' → Disjoint (partSet c b) (partSet c b') := by
  rintro (⟨t, k⟩ | l) (⟨t', k'⟩ | l') h
  · show Disjoint (agSet _ _ _) (agSet _ _ _)
    rw [agSet_eq, agSet_eq]
    refine trk_disj (_, _, _) (_, _, _) fun he => h ?_
    simp only [Prod.mk.injEq] at he
    obtain ⟨h1, h2, rfl⟩ := he
    rw [owner_inj c t k k' h1 h2]
  · show Disjoint (agSet _ _ _) (slabSet _ _)
    rw [agSet_eq]; exact slab_trk_disj (owner_ne c t k)
  · show Disjoint (slabSet _ _) (agSet _ _ _)
    rw [agSet_eq]; exact (slab_trk_disj (owner_ne c t' k')).symm
  · show Disjoint (slabSet _ _) (slabSet _ _)
    rw [Finset.disjoint_left]
    intro i h1 h2
    unfold slabSet at h1 h2
    rw [mem_blk] at h1 h2
    exact h (congrArg _ (slab_inj _ _ _ _ (h1.1.symm.trans h2.1)).1)

theorem part_cover (c : Dev nD) : Finset.univ.biUnion (partSet c) = Finset.univ := by
  ext i
  simp only [Finset.mem_biUnion, Finset.mem_univ, true_and, iff_true]
  obtain ⟨l, o, h⟩ := slab_surj ⟨(i 0).val, (i 0).isLt⟩
  have hi : i ∈ slabSet l o := by
    unfold slabSet; rw [mem_blk]
    exact ⟨h.symm, Nat.zero_le _, by have : (i 2).val < 4096 := (i 2).isLt; omega⟩
  by_cases ho : o = c
  · subst ho; exact ⟨.inr l, hi⟩
  · rw [← trk_cover] at hi
    obtain ⟨t, -, ht⟩ := Finset.mem_biUnion.mp hi
    obtain ⟨k, hk, hl⟩ := owner_surj c o l t ho
    refine ⟨.inl (t, k), ?_⟩
    show i ∈ agSet _ _ _
    rw [agSet_eq, hk, hl]; exact ht

/-! ## Contents -/

/-- What a device's six operands hold. -/
structure Ins (F : FTy → Type) where
  q : Vec F S1024x512 .bf16
  k : Vec F S1024x512 .bf16
  v : Vec F S1024x512 .bf16
  qr : Vec F S1024x256 .bf16
  kr : Vec F S1024x64 .bf16
  wo : Vec F S512x4096 .bf16

variable (I : Dev nD → Ins F)

/-- The blocks part `bot` of step `s` loads. -/
def ldv (bot : Bool) (s : Fin 8) (c : Dev nD) : Ld F where
  q := fun j => (I c).q ((Rect.unit (s := S1024x512) (ldOff bot s.val 0 c) S64x512.size (ldOff_inb0 bot s c)).emb j)
  r := fun j => (I c).qr ((Rect.unit (s := S1024x256) (ldOff bot s.val 1 c) S64x256.size (ldOff_inb1 bot s c)).emb j)
  k := fun j => (I c).k ((Rect.unit (s := S1024x512) (ldOff bot s.val 2 c) S256x512.size (ldOff_inb2 bot s c)).emb j)
  v := fun j => (I c).v ((Rect.unit (s := S1024x512) (ldOff bot s.val 2 c) S256x512.size (ldOff_inb2 bot s c)).emb j)
  c := fun j => (I c).kr ((Rect.unit (s := S1024x64) (ldOff bot s.val 3 c) S256x64.size (ldOff_inb3 bot s c)).emb j)

/-- The projection's weights as loaded. -/
def wld (c : Dev nD) : Vec F S512x4096 .bf16 := fun j =>
  (I c).wo ((Rect.unit (s := S512x4096) ![0, 0] S512x4096.size inb_S512x4096_S512x4096_0_0).emb j)

/-- Step number `n`, as the tables count it. -/
def stp (n : Nat) : Fin 8 := ⟨n % 8, Nat.mod_lt _ (by decide)⟩

/-- The first value of ring `l`. -/
def stV (l : Bool) (c : Dev nD) : FVec F S1x64x4096 .bf16 := stTab l (wld I c) (ldv I false 0 c) (ldv I true 0 c)
/-- The two products of step `n`. -/
def gP (n : Nat) (c : Dev nD) : FVec F S64x4096 .f32 × FVec F S64x4096 .f32 :=
  gTab n (wld I c) (ldv I false (stp n) c) (ldv I true (stp n) c)
/-- Ring `l`'s product of step `n`. -/
def gV (l : Bool) (n : Nat) (c : Dev nD) : FVec F S64x4096 .f32 := match l with | false => (gP I n c).1 | true => (gP I n c).2

/-- The sum ring `l` has on device `c` after `n` additions. -/
def acc (l : Bool) : Nat → Dev nD → Fin 64 → Fin 4096 → Elt F (.bf16)
  | 0, c, r, k => stV I l c (ix3 0 r k)
  | n + 1, c, r, k =>
    accTab l n (k.val / 1024) (gV I l (n + 1) c)
      (fun j => acc l n (bwd l c) (j 1) ⟨1024 * (k.val / 1024) + (j 2).val,
        by have h1 := k.isLt; have h2 : (j 2).val < 1024 := (j 2).isLt; omega⟩)
      (ix3 0 r ⟨k.val % 1024, Nat.mod_lt _ (by decide)⟩)

/-- What a ring's buffer holds once a slot's sum is stored. -/
def accB (l : Bool) (c : Dev nD) : Vec F S8x64x4096 .bf16 := fun i => acc I l (((i 0).val + 1) % 8) c (i 1) (i 2)
/-- What a ring's slot holds when its hop has landed. -/
def landB (l : Bool) (c : Dev nD) : Vec F S8x64x4096 .bf16 := fun i => acc I l (i 0).val (bwd l c) (i 1) (i 2)

/-- The device that sums slab `n`. -/
def sumDev (n : Nat) : Dev nD := if n % 2 = 0 then ⟨(n / 2 + 7) % 8, Nat.mod_lt _ (by decide)⟩ else ⟨(n / 2 + 1) % 8, Nat.mod_lt _ (by decide)⟩

/-- The whole result, the same on every device. -/
def outV : Vec F S16x64x4096 .bf16 := fun i => acc I (decide ((i 0).val % 2 = 1)) 7 (sumDev (i 0).val) (i 1) (i 2)

theorem sumDev_slab : ∀ (l : Bool) (c : Dev nD), sumDev (slab l c) = c ∧ decide (slab l c % 2 = 1) = l := by decide +kernel

/-! ### What the steps store -/

theorem acc_chunk (l : Bool) (n : Nat) (ch : Fin 4) (c : Dev nD) (r : Fin 64) (k : Fin 4096) (b : Fin 1024) (hk : k.val = 1024 * ch.val + b.val) :
    acc I l (n + 1) c r k = accTab l n ch.val (gV I l (n + 1) c)
      (fun j => acc I l n (bwd l c) (j 1) ⟨1024 * ch.val + (j 2).val,
        by have h1 := ch.isLt; have h2 : (j 2).val < 1024 := (j 2).isLt; omega⟩) (ix3 0 r b) := by
  have h1 : k.val / 1024 = ch.val := by omega
  have h2 : (⟨k.val % 1024, Nat.mod_lt _ (by decide)⟩ : Fin 1024) = b := Fin.ext (by show k.val % 1024 = b.val; omega)
  conv_lhs => unfold acc
  rw [h2]
  simp only [h1]

/-- A landed chunk plus the step's product is the stored chunk. -/
theorem accB_store (l : Bool) (c : Dev nD) (hop : Fin 7) (hh : hop.val < 6) (ch : Fin 4) (j : S1x64x1024.Idx) :
    accB I l c ((pieceRect (dstSlot hop) ch).emb j)
      = accTab l hop.val ch.val (gV I l (hop.val + 1) c) (fun j => landB I l c ((pieceRect (dstSlot hop) ch).emb j)) j := by
  have hj0 : (j 0).val < 1 := (j 0).isLt
  have hj2 : (j 2).val < 1024 := (j 2).isLt
  have h0 : ((pieceRect (dstSlot hop) ch).emb j 0).val = hop.val := by
    show hop.val + 1 * (j 0).val = hop.val; omega
  have hr : (pieceRect (dstSlot hop) ch).emb j 1 = j 1 := Fin.ext (by show 0 + 1 * (j 1).val = (j 1).val; omega)
  have hk : ((pieceRect (dstSlot hop) ch).emb j 2).val = 1024 * ch.val + (j 2).val := by
    show 1024 * ch.val + 1 * (j 2).val = _; omega
  unfold accB
  rw [h0, Nat.mod_eq_of_lt (by omega : hop.val + 1 < 8), hr,
    acc_chunk I l hop.val ch c (j 1) _ (j 2) hk]
  have hj : (ix3 0 (j 1) (j 2) : S1x64x1024.Idx) = j := by
    funext a; match a with
    | 0 => exact Fin.ext (by show 0 = (j 0).val; omega)
    | 1 => rfl
    | 2 => rfl
  rw [hj]
  congr 1
  funext i
  have hi0 : (i 0).val < 1 := (i 0).isLt
  have hi2 : (i 2).val < 1024 := (i 2).isLt
  unfold landB
  have e0 : ((pieceRect (dstSlot hop) ch).emb i 0).val = hop.val := by
    show hop.val + 1 * (i 0).val = hop.val; omega
  have e1 : (pieceRect (dstSlot hop) ch).emb i 1 = i 1 := Fin.ext (by show 0 + 1 * (i 1).val = (i 1).val; omega)
  rw [e0, e1]
  congr 1
  exact Fin.ext (by show 1024 * ch.val + (i 2).val = 1024 * ch.val + 1 * (i 2).val; omega)

/-- The last landed chunk plus the last product is the result's chunk. -/
theorem outV_store (l : Bool) (c : Dev nD) (ch : Fin 4) (j : S1x64x1024.Idx) :
    outV I ((oRect l ch c).emb j)
      = accTab l 6 ch.val (gV I l 7 c) (fun j => landB I l c ((pieceRect (dstSlot 6) ch).emb j)) j := by
  have hj0 : (j 0).val < 1 := (j 0).isLt
  have hj2 : (j 2).val < 1024 := (j 2).isLt
  have ho := oOff_eq l ch c
  have h0 : ((oRect l ch c).emb j 0).val = slab l c := by
    show oOff l ch.val c 0 + 1 * (j 0).val = slab l c
    rw [ho]; show slab l c + 1 * (j 0).val = _; omega
  have hr : (oRect l ch c).emb j 1 = j 1 := Fin.ext (by
    show oOff l ch.val c 1 + 1 * (j 1).val = (j 1).val
    rw [ho]; show 0 + 1 * (j 1).val = _; omega)
  have hk : ((oRect l ch c).emb j 2).val = 1024 * ch.val + (j 2).val := by
    show oOff l ch.val c 2 + 1 * (j 2).val = _
    rw [ho]; show 1024 * ch.val + 1 * (j 2).val = _; omega
  unfold outV
  rw [h0, (sumDev_slab l c).1, (sumDev_slab l c).2, hr, acc_chunk I l 6 ch c (j 1) _ (j 2) hk]
  have hj : (ix3 0 (j 1) (j 2) : S1x64x1024.Idx) = j := by
    funext a; match a with
    | 0 => exact Fin.ext (by show 0 = (j 0).val; omega)
    | 1 => rfl
    | 2 => rfl
  rw [hj]
  congr 1
  funext i
  have hi0 : (i 0).val < 1 := (i 0).isLt
  have hi2 : (i 2).val < 1024 := (i 2).isLt
  unfold landB
  have e0 : ((pieceRect (dstSlot 6) ch).emb i 0).val = 6 := by
    show 6 + 1 * (i 0).val = 6; omega
  have e1 : (pieceRect (dstSlot 6) ch).emb i 1 = i 1 := Fin.ext (by show 0 + 1 * (i 1).val = (i 1).val; omega)
  rw [e0, e1]
  congr 1
  exact Fin.ext (by show 1024 * ch.val + (i 2).val = 1024 * ch.val + 1 * (i 2).val; omega)

/-- The first value of a ring, in its slot 7. -/
theorem accB_seven (l : Bool) (c : Dev nD) (j : S1x64x4096.Idx) : accB I l c (rect7.emb j) = stV I l c j := by
  have hj0 : (j 0).val < 1 := (j 0).isLt
  have h0 : (rect7.emb j 0).val = 7 := by show 7 + 1 * (j 0).val = 7; omega
  have hr : rect7.emb j 1 = j 1 := Fin.ext (by show 0 + 1 * (j 1).val = (j 1).val; omega)
  have hk : rect7.emb j 2 = j 2 := Fin.ext (by show 0 + 1 * (j 2).val = (j 2).val; omega)
  unfold accB
  rw [h0, hr, hk]
  have hj : (ix3 0 (j 1) (j 2) : S1x64x4096.Idx) = j := by
    funext a; match a with
    | 0 => exact Fin.ext (by show 0 = (j 0).val; omega)
    | 1 => rfl
    | 2 => rfl
  show stV I l c (ix3 0 (j 1) (j 2)) = _
  rw [hj]

/-- What a hop sends is what its slot holds when it has landed. -/
theorem land_of_send (l : Bool) (c : Dev nD) (hop : Fin 7) (ch : Fin 4) (j : S1x64x1024.Idx) :
    landB I l (fwd l c) ((pieceRect (dstSlot hop) ch).emb j) = accB I l c ((pieceRect (srcSlot hop) ch).emb j) := by
  have hj0 : (j 0).val < 1 := (j 0).isLt
  have hh := hop.isLt
  have h0 : ((pieceRect (dstSlot hop) ch).emb j 0).val = hop.val := by
    show hop.val + 1 * (j 0).val = hop.val; omega
  have h1 : (((pieceRect (srcSlot hop) ch).emb j 0).val + 1) % 8 = hop.val := by
    show ((hop.val + 7) % 8 + 1 * (j 0).val + 1) % 8 = hop.val; omega
  unfold landB accB
  rw [h0, h1, bwd_fwd]
  rfl

end Cert.KernelIdeal.Canon
-- ==== Proof.Sched.lean ====
/- The protocol of the run: what every arrival and departure hands over, what a device owes, and the
   order in which the semaphores are awaited.

   The rings' destinations are handed over at the barrier. The parts of the result a partner of the
   exchange writes travel along the first ring with its chunk 0: device `d` receives, with hop `s`,
   what is left of the parts of the device `s + 1` steps behind it, and keeps those it will write. -/
module

public import proofs.«01_k».proof.Proof.Geom

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

/-- The resources `Φ x` for `x` in a list. -/
def lsep {α : Type} (l : List α) (Φ : α → sProp 𝕄) : sProp 𝕄 := bigSepM (l : Multiset α) Φ

section
variable {α β : Type}
omit [FloatOps F]

theorem sep_emp' (P : sProp 𝕄) : iprop(P ∗ emp) = P := equiv_iff.mp BI.sep_emp
theorem emp_sep' (P : sProp 𝕄) : iprop(emp ∗ P) = P := equiv_iff.mp BI.emp_sep
theorem sep_cross (P Q R S : sProp 𝕄) : iprop((P ∗ Q) ∗ R ∗ S) ⊢ iprop((P ∗ R) ∗ Q ∗ S) := by
  iintro ⟨⟨HP, HQ⟩, HR, HS⟩
  isplitl [HP HR]
  · isplitl [HP] <;> iassumption
  isplitl [HQ] <;> iassumption
theorem lsep_nil (Φ : α → sProp 𝕄) : lsep [] Φ = iprop(emp) := rfl
theorem lsep_cons (x : α) (l : List α) (Φ : α → sProp 𝕄) : lsep (x :: l) Φ = iprop(Φ x ∗ lsep l Φ) := bigSepM_cons x (l : Multiset α) Φ
theorem lsep_append (l l' : List α) (Φ : α → sProp 𝕄) : lsep (l ++ l') Φ = iprop(lsep l Φ ∗ lsep l' Φ) := bigSepM_add (l : Multiset α) (l' : Multiset α) Φ
theorem lsep_single (x : α) (Φ : α → sProp 𝕄) : lsep [x] Φ = Φ x := bigSepM_singleton x Φ
theorem lsep_perm {l l' : List α} (h : l.Perm l') (Φ : α → sProp 𝕄) : lsep l Φ = lsep l' Φ := by
  unfold lsep; rw [Multiset.coe_eq_coe.mpr h]
theorem lsep_map (f : β → α) (l : List β) (Φ : α → sProp 𝕄) : lsep (l.map f) Φ = lsep l fun b => Φ (f b) := by
  induction l with
  | nil => rfl
  | cons b l ih => rw [List.map_cons, lsep_cons, lsep_cons, ih]
theorem lsep_mono {Φ Ψ : α → sProp 𝕄} (l : List α) (h : ∀ x, Φ x ⊢ Ψ x) : lsep l Φ ⊢ lsep l Ψ := by
  induction l with
  | nil => exact BI.Entails.refl _
  | cons b l ih => rw [lsep_cons, lsep_cons]; exact BI.sep_mono (h b) ih
theorem lsep_sep (l : List α) (Φ Ψ : α → sProp 𝕄) : lsep l (fun x => iprop(Φ x ∗ Ψ x)) = iprop(lsep l Φ ∗ lsep l Ψ) := by
  induction l with
  | nil => rw [lsep_nil, lsep_nil, lsep_nil]; exact (emp_sep' _).symm
  | cons b l ih => rw [lsep_cons, lsep_cons, lsep_cons, ih]; exact equiv_iff.mp ⟨sep_cross _ _ _ _, sep_cross _ _ _ _⟩
theorem lsep_emp (l : List α) : (emp : sProp 𝕄) ⊢ lsep l fun _ => iprop(emp) := by
  induction l with
  | nil => exact BI.Entails.refl _
  | cons b l ih => rw [lsep_cons, emp_sep']; exact ih
theorem lsep_univ [DecidableEq α] [Fintype α] {l : List α} (hn : l.Nodup) (hm : ∀ x, x ∈ l) (Φ : α → sProp 𝕄) :
    lsep l Φ = bigSep Finset.univ Φ := by
  rw [← show l.toFinset = Finset.univ from Finset.ext fun x => by simp [hm x]]
  show _ = bigSepM l.toFinset.val Φ
  rw [List.toFinset_val, hn.dedup]
  rfl
end

/-! ## The arrivals in the order they are awaited -/

/-- The arrivals of the rings in the order they are awaited. -/
def rsArr : List (Bool × Fin 4 × Fin 7) :=
  [0, 1, 2, 3, 4, 5, 6].flatMap fun hop => [0, 1, 2, 3].flatMap fun ch => [(false, ch, hop), (true, ch, hop)]
/-- All arrivals in the order they are awaited. -/
def allY : List X := rsArr.map .inl ++ agAll.map .inr
theorem allY_nodup : allY.Nodup := by decide +kernel
theorem mem_rsArr : ∀ p : Bool × Fin 4 × Fin 7, rsArr.contains p = true := by decide +kernel
theorem mem_allY (x : X) : x ∈ allY := by
  unfold allY
  rcases x with p | p
  · exact List.mem_append_left _ (List.mem_map.2 ⟨p, List.contains_iff_mem.1 (mem_rsArr p), rfl⟩)
  · exact List.mem_append_right _ (List.mem_map.2 ⟨p, List.contains_iff_mem.1 (mem_agAll p), rfl⟩)

/-! ## The buffers -/

/-- Ring `l`'s buffer. -/
abbrev bufM (l : Bool) : Memref sig .tc .vmem S8x64x4096 .bf16 :=
  match l with | false => Memref.whole cc0_scratch0 | true => Memref.whole cc0_scratch1
/-- The result's buffer. -/
abbrev outM : Memref sig .tc .vmem S16x64x4096 .bf16 := Memref.whole cc0_stg6_0

theorem bufM_whole : ∀ l, (bufM l).IsWhole
  | false => Memref.isWhole_whole _
  | true => Memref.isWhole_whole _

instance buf_nonempty (l : Bool) (c : Dev nD) : Nonempty (Buf (Elt F) ((bufM l).view.loc (c : Thread nD τ))) :=
  match l with
  | false => ⟨fun i => (FloatOps.ofBits .bf16 0 : F .bf16)⟩
  | true => ⟨fun i => (FloatOps.ofBits .bf16 0 : F .bf16)⟩
instance out_nonempty (c : Dev nD) : Nonempty (Buf (Elt F) ((outM).view.loc (c : Thread nD τ))) :=
  ⟨fun i => (FloatOps.ofBits .bf16 0 : F .bf16)⟩

/-- Where a copy goes. -/
def dstDev (c : Dev nD) : X → Dev nD
  | .inl (l, _, _) => fwd l c
  | .inr (t, k) => partner t k c
/-- Where a copy comes from. -/
def srcDev (c : Dev nD) : X → Dev nD
  | .inl (l, _, _) => bwd l c
  | .inr (t, k) => partner t k c

/-- The units of a copy. -/
def amt : X → ℕ
  | .inl (l, _, _) => (piece (bufM l) 0 0).view.dmaCredit
  | .inr (t, _) => (agPiece outM t 0 0).view.dmaCredit

theorem amt_pos : ∀ x, 0 < amt x
  | .inl (false, _, _) => View.dmaCredit_pos _ (by decide)
  | .inl (true, _, _) => View.dmaCredit_pos _ (by decide)
  | .inr (0, _) => View.dmaCredit_pos _ (by decide)
  | .inr (1, _) => View.dmaCredit_pos _ (by decide)
  | .inr (2, _) => View.dmaCredit_pos _ (by decide)

/-- The share of a part of the result copy `k` reads from. -/
def qk (k : Fin 14) : PosShare TreeShare :=
  if k.val < 2 then (fullShare : PosShare TreeShare).left
  else if k.val < 4 then (fullShare : PosShare TreeShare).right.left
  else if k.val < 6 then (fullShare : PosShare TreeShare).left
  else if k.val < 8 then (fullShare : PosShare TreeShare).right.right
  else if k.val < 10 then (fullShare : PosShare TreeShare).right
  else fullShare

/-! ## Payloads -/

variable (I : Dev nD → Ins F)

/-- The part of `o`'s result a copy writes. -/
def slotPts (o : Dev nD) (tk : Fin 3 × Fin 14) : sProp 𝕄 := pcE outM o (agSet tk.1 tk.2 (partner tk.1 tk.2 o))
/-- What is left of `o`'s parts on the way at hop `s`. -/
def carry (o : Dev nD) (s : Nat) : sProp 𝕄 :=
  bigSep Finset.univ fun tk : Fin 3 × Fin 14 => if s < dist o (partner tk.1 tk.2 o) then slotPts o tk else iprop(emp)
/-- What travels with a hop. -/
def cr (l : Bool) (ch : Fin 4) (o : Dev nD) (s : Nat) : sProp 𝕄 := if l = false ∧ ch = 0 then carry o s else iprop(emp)

/-- What ring `l`'s barrier duty hands device `d`: the slots it sends to. -/
def barPay (l : Bool) (d : Dev nD) : sProp 𝕄 :=
  bigSep Finset.univ fun p : Fin 4 × Fin 7 => pcE (bufM l) (fwd l d) (pieceSet (dstSlot p.2) p.1)
/-- What a departure hands back: the source. -/
def sendPay (c : Dev nD) : X → sProp 𝕄
  | .inl (l, ch, hop) => pc (bufM l) c (pieceSet (srcSlot hop) ch) fullShare (accB I l c)
  | .inr (t, k) => pc outM c (agSet t k c) (qk k) (outV I)
/-- What an arrival hands over. -/
def recvPay (c : Dev nD) : X → sProp 𝕄
  | .inl (l, ch, hop) => iprop(pc (bufM l) c (pieceSet (dstSlot hop) ch) fullShare (landB I l c) ∗ cr l ch (back (hop.val + 1) c) hop.val)
  | .inr (t, k) => pc outM c (agSet t k (partner t k c)) fullShare (outV I)

omit [FloatOps F] in
instance slotPts_storable (o tk) : BI.Storable (upEmb : UEmb _ 𝕄) (slotPts (F := F) o tk) := by unfold slotPts; infer_instance
omit [FloatOps F] in
instance carry_storable (o s) : BI.Storable (upEmb : UEmb _ 𝕄) (carry (F := F) o s) := by
  unfold carry
  haveI : ∀ tk : Fin 3 × Fin 14, BI.Storable (upEmb : UEmb _ 𝕄) (if s < dist o (partner tk.1 tk.2 o) then slotPts (F := F) o tk else iprop(emp)) := fun tk => by
    split <;> infer_instance
  infer_instance
omit [FloatOps F] in
instance cr_storable (l ch o s) : BI.Storable (upEmb : UEmb _ 𝕄) (cr (F := F) l ch o s) := by unfold cr; split <;> infer_instance
omit [FloatOps F] in
instance barPay_storable (l d) : BI.Storable (upEmb : UEmb _ 𝕄) (barPay (F := F) l d) := by unfold barPay; infer_instance
instance sendPay_storable (c) : ∀ x, BI.Storable (upEmb : UEmb _ 𝕄) (sendPay I c x)
  | .inl (l, ch, hop) => by unfold sendPay; infer_instance
  | .inr (t, k) => by unfold sendPay; infer_instance
instance recvPay_storable (c) : ∀ x, BI.Storable (upEmb : UEmb _ 𝕄) (recvPay I c x)
  | .inl (l, ch, hop) => by unfold recvPay; infer_instance
  | .inr (t, k) => by unfold recvPay; infer_instance

/-! ## The schedule -/

/-- The duties of a cell in its one round. -/
def dutiesOf : Option Cl → Finset Bool
  | none => ∅
  | some none => Finset.univ
  | some (some _) => {false}
/-- The units of a cell's duties. -/
def amtOf : Option Cl → ℕ
  | some (some (_, x)) => amt x
  | _ => 1
/-- What a cell's duties hand over. -/
def payOf (c : Dev nD) (d : Bool) : Option Cl → sProp 𝕄
  | none => iprop(emp)
  | some none => barPay d c
  | some (some (false, x)) => sendPay I c x
  | some (some (true, x)) => recvPay I c x

instance payOf_storable (c d) : ∀ k, BI.Storable (upEmb : UEmb _ 𝕄) (payOf I c d k)
  | none => by unfold payOf; infer_instance
  | some none => by unfold payOf; infer_instance
  | some (some (false, x)) => by unfold payOf; infer_instance
  | some (some (true, x)) => by unfold payOf; infer_instance

/-- One round: a barrier cell's two duties, a copy's one. -/
def ringRd : Rounds.Schedule (GSem nD τ sig) Bool 𝕄 where
  duties g r := if r = 0 ∧ g.1.2 = .tc then dutiesOf (dec g.2) else ∅
  unitless _ := False
  amount g _ _ := amtOf (dec g.2)
  payload g _ d := payOf I g.1.1 d (dec g.2)
  amount_pos g _ _ _ := by
    rcases dec g.2 with _ | _ | ⟨b, x⟩
    · exact Nat.one_pos
    · exact Nat.one_pos
    · exact amt_pos x

instance ringRd_payload_storable (g : GSem nD τ sig) (r : ℕ) (d : Bool) :
    BI.Storable (upEmb : UEmb _ 𝕄) ((ringRd I).payload g r d) := by
  show BI.Storable upEmb (payOf I g.1.1 d (dec g.2)); infer_instance

section
variable (c : Dev nD)

theorem duties_bar : (ringRd I).duties (kcell c none) 0 = Finset.univ := by
  dsimp only [ringRd]; rw [if_pos ⟨rfl, rfl⟩, dec_csem]; rfl
theorem duties_copy (b : Bool) (x : X) : (ringRd I).duties (kcell c (some (b, x))) 0 = {false} := by
  dsimp only [ringRd]; rw [if_pos ⟨rfl, rfl⟩, dec_csem]; rfl
theorem duties_later (g : GSem nD τ sig) : ∀ r, 1 ≤ r → (ringRd I).duties g r = ∅ :=
  fun r hr => by dsimp only [ringRd]; exact if_neg fun h => by omega
theorem amount_bar (d : Bool) : (ringRd I).amount (kcell c none) 0 d = 1 := by
  dsimp only [ringRd]; rw [dec_csem]; rfl
theorem amount_copy (b : Bool) (x : X) (d : Bool) : (ringRd I).amount (kcell c (some (b, x))) 0 d = amt x := by
  dsimp only [ringRd]; rw [dec_csem]; rfl
theorem expect_bar : (ringRd I).expect (kcell c none) 0 = 2 := by
  unfold Schedule.expect Schedule.amountOf
  rw [duties_bar, Finset.sum_congr rfl fun d _ => amount_bar I c d, Finset.sum_const, Finset.card_univ, Fintype.card_bool, smul_eq_mul]
theorem expect_copy (b : Bool) (x : X) : (ringRd I).expect (kcell c (some (b, x))) 0 = amt x := by
  unfold Schedule.expect Schedule.amountOf; rw [duties_copy, Finset.sum_singleton, amount_copy]
theorem payload_bar (d : Bool) : (ringRd I).payload (kcell c none) 0 d = barPay d c := by
  dsimp only [ringRd]; rw [dec_csem]; rfl
theorem payload_send (x : X) (d : Bool) : (ringRd I).payload (kcell c (some (false, x))) 0 d = sendPay I c x := by
  dsimp only [ringRd]; rw [dec_csem]; rfl
theorem payload_recv (x : X) (d : Bool) : (ringRd I).payload (kcell c (some (true, x))) 0 d = recvPay I c x := by
  dsimp only [ringRd]; rw [dec_csem]; rfl
/-- Both of the barrier's payloads. -/
theorem rest_bar : bigSep ((ringRd I).duties (kcell c none) 0 \ ∅) (fun d => (ringRd I).payload (kcell c none) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
/-- A departure's payload. -/
theorem rest_send (x : X) : bigSep ((ringRd I).duties (kcell c (some (false, x))) 0 \ ∅) (fun d => (ringRd I).payload (kcell c (some (false, x))) 0 d)
    = sendPay I c x := by
  rw [Finset.sdiff_empty, duties_copy, bigSep_singleton, payload_send]
/-- An arrival's payload. -/
theorem rest_recv (x : X) : bigSep ((ringRd I).duties (kcell c (some (true, x))) 0 \ ∅) (fun d => (ringRd I).payload (kcell c (some (true, x))) 0 d)
    = recvPay I c x := by
  rw [Finset.sdiff_empty, duties_copy, bigSep_singleton, payload_recv]
end

/-! ## What a device owes; the levels -/

/-- What the copies still to start owe. -/
def tal (c : Dev nD) : List X → CellTallies nD τ sig Unit
  | [] => 0
  | x :: xs => tal c xs + tallyAt (kcell (dstDev c x) (some (true, x))) () (amt x)
/-- What is owed at launch. -/
def O₀ (c : Dev nD) : CellTallies nD τ sig Unit :=
  tal c allX + tallyAt (kcell (nxt c) none) () 1 + tallyAt (kcell (prv c) none) () 1

def L (g : GSem nD τ sig) : Finset Unit := if g.1.2 = .tc then {()} else ∅
/-- The height of a cell. -/
def lvOf : Option Cl → ℕ
  | some none => 1
  | some (some (true, x)) => lvl x
  | _ => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem tal_pos {c : Dev nD} {g : GSem nD τ sig} {u : Unit} : ∀ {xs : List X}, 0 < tal c xs g u → ∃ x ∈ xs, g = kcell (dstDev c x) (some (true, x))
  | [], h => absurd h (Nat.lt_irrefl 0)
  | x :: xs, h => by
    unfold tal at h
    rw [Pi.add_apply, Finsupp.add_apply, tallyAt_apply] at h
    by_cases hx : g = kcell (dstDev c x) (some (true, x)) ∧ u = ()
    · exact ⟨x, List.mem_cons_self, hx.1⟩
    · rw [if_neg hx, add_zero] at h
      obtain ⟨y, hy, e⟩ := tal_pos h
      exact ⟨y, List.mem_cons_of_mem _ hy, e⟩

theorem O₀_pos {c : Dev nD} {g : GSem nD τ sig} {u : Unit} (h : 0 < O₀ c g u) :
    ∃ (d : Dev nD) (k : Cl), g = kcell d k ∧ 0 < lvOf (some k) := by
  unfold O₀ at h
  rw [Pi.add_apply, Finsupp.add_apply, Pi.add_apply, Finsupp.add_apply, tallyAt_apply, tallyAt_apply] at h
  by_cases h1 : g = kcell (nxt c) none ∧ u = ()
  · exact ⟨_, _, h1.1, Nat.one_pos⟩
  by_cases h2 : g = kcell (prv c) none ∧ u = ()
  · exact ⟨_, _, h2.1, Nat.one_pos⟩
  rw [if_neg h1, if_neg h2, add_zero, add_zero] at h
  obtain ⟨x, -, e⟩ := tal_pos h
  refine ⟨_, _, e, ?_⟩
  show 0 < lvl x
  rcases x with ⟨l, ch, hop⟩ | ⟨t, k⟩
  · show 0 < 2 + hop.val; omega
  · show 0 < 9 + (phaseOf k).val; omega

omit [FloatOps F] in
/-- Below everything the copies owe, a wait is in order. -/
theorem mayWait_tal (c : Dev nD) (sm : SemLoc sig) (xs : List X) (h : ∀ x ∈ xs, lvOf (dec sm) < lvl x) :
    (levAts L lv : sProp 𝕄) ⊢ MayWait (c : Thread nD τ) sm () (tal c xs) :=
  MayOwe.of_cut (L := L) (lev := lv) (lvOf (dec sm)) (fun p hp => by rw [Finset.mem_singleton.mp hp, L_tc]; exact Finset.mem_singleton_self _)
    (fun g u hg => by obtain ⟨x, -, rfl⟩ := tal_pos hg; exact Finset.mem_singleton_self _)
    (fun p hp => by rw [Finset.mem_singleton.mp hp]; exact le_rfl)
    (fun g u hg => by
      obtain ⟨x, hx, rfl⟩ := tal_pos hg
      show lvOf (dec sm) < lvOf (dec (csem (some (true, x))))
      rw [dec_csem]; exact h x hx)

omit [FloatOps F] in
/-- A wait on a semaphore that is no cell is in order at any time. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; exact Finset.mem_singleton_self _)
      (fun p hp => by rw [Finset.mem_singleton.mp hp]; show lvOf (dec (.dma q)) ≤ 0; rw [hq]; exact le_rfl)
      (fun g u hg => by
        obtain ⟨d, k, rfl, h⟩ := O₀_pos hg
        show 0 < lvOf (dec (csem k)); rw [dec_csem]; exact h)
  · rw [MayWait_zero]; iintro -; iempintro

/-! ## What the parts on the way become -/

/-- The parts of the result device `c` may write after `s` hops. -/
def slots (c : Dev nD) (s : Nat) : sProp 𝕄 :=
  bigSep Finset.univ fun tk : Fin 3 × Fin 14 =>
    if dist (partner tk.1 tk.2 c) c ≤ s then slotPts (partner tk.1 tk.2 c) tk else iprop(emp)

theorem keep_eq : ∀ (c : Dev nD) (s : Fin 7) (t : Fin 3) (k : Fin 14), partner t k c = back (s.val + 1) c →
    (¬ dist (partner t k c) c ≤ s.val) ∧ dist (partner t k c) c ≤ s.val + 1 ∧
    s.val < dist (back (s.val + 1) c) (partner t k (back (s.val + 1) c)) ∧ ¬ s.val + 1 < dist (back (s.val + 1) c) (partner t k (back (s.val + 1) c)) := by
  decide +kernel
theorem keep_ne : ∀ (c : Dev nD) (s : Fin 7) (t : Fin 3) (k : Fin 14), partner t k c ≠ back (s.val + 1) c →
    (dist (partner t k c) c ≤ s.val + 1 ↔ dist (partner t k c) c ≤ s.val) ∧
    (s.val + 1 < dist (back (s.val + 1) c) (partner t k (back (s.val + 1) c)) ↔ s.val < dist (back (s.val + 1) c) (partner t k (back (s.val + 1) c))) := by
  decide +kernel

omit [FloatOps F] in
/-- A device keeps the parts it will write and passes the others on. -/
theorem keep (c : Dev nD) (s : Fin 7) :
    iprop(slots (F := F) c s.val ∗ carry (back (s.val + 1) c) s.val) ⊢ iprop(slots c (s.val + 1) ∗ carry (back (s.val + 1) c) (s.val + 1)) := by
  unfold slots carry
  rw [← bigSep_sep', ← bigSep_sep']
  refine bigSep_mono fun tk _ => ?_
  by_cases h : partner tk.1 tk.2 c = back (s.val + 1) c
  · obtain ⟨h1, h2, h3, h4⟩ := keep_eq c s tk.1 tk.2 h
    simp only [if_neg h1, if_pos h2, if_pos h3, if_neg h4]
    rw [h]
    exact Entails.of_eq ((emp_sep' _).trans (sep_emp' _).symm)
  · obtain ⟨h1, h2⟩ := keep_ne c s tk.1 tk.2 h
    simp only [h1, h2]
    exact BI.Entails.refl _

theorem dist_pos : ∀ (c : Dev nD) (t : Fin 3) (k : Fin 14), 0 < dist c (partner t k c) ∧ ¬ dist (partner t k c) c ≤ 0 ∧ dist (partner t k c) c ≤ 7 := by
  decide +kernel

omit [FloatOps F] in
theorem slots_zero (c : Dev nD) : (emp : sProp 𝕄) ⊢ slots (F := F) c 0 := by
  unfold slots
  rw [show (fun tk : Fin 3 × Fin 14 => if dist (partner tk.1 tk.2 c) c ≤ 0 then slotPts (F := F) (partner tk.1 tk.2 c) tk else iprop(emp))
    = fun _ => iprop(emp) from funext fun tk => if_neg (dist_pos c tk.1 tk.2).2.1]
  exact Entails.of_eq (bigSep_emp_const _).symm
omit [FloatOps F] in
theorem slots_seven (c : Dev nD) : slots (F := F) c 7 = lsep agAll fun tk => slotPts (partner tk.1 tk.2 c) tk := by
  rw [lsep_univ (by decide +kernel) (fun x => List.contains_iff_mem.1 (mem_agAll x))]
  unfold slots
  exact bigSep_congr fun tk _ => if_pos (dist_pos c tk.1 tk.2).2.2
omit [FloatOps F] in
theorem carry_zero (c : Dev nD) : carry (F := F) c 0 = bigSep Finset.univ fun tk => slotPts c tk := by
  unfold carry
  exact bigSep_congr fun tk _ => if_pos (dist_pos c tk.1 tk.2).1

end Cert.KernelIdeal.Canon
-- ==== Proof.Ops.lean ====
/- The copies and the waits, one rule each: what a device holds between them is `St c i j`, after the
   first `i` copies have started and the first `j` arrivals have been awaited. -/
module

public import proofs.«01_k».proof.Proof.Sched

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Views -/

section
variable {s s' : Shape} {e : EltTy}

omit [FloatOps F] in
/-- What a copy writes reads back as its source. -/
theorem read_copied (v : View sig .tc .vmem s e) {off off' size : Fin s.rank → Nat} {inb inb'}
    (h : s'.numel = (⟨s.rank, size⟩ : Shape).numel)
    (fd fs : v.ty.Contents (Elt F)) (j : (⟨s.rank, size⟩ : Shape).Idx) :
    v.read (Elt F) (((v.slice (Rect.unit off' size inb')).reshape s' h).write (Elt F) fd
      (((v.slice (Rect.unit off size inb)).reshape s' h).read (Elt F) fs) Finset.univ) ((Rect.unit off' size inb').emb j)
      = v.read (Elt F) fs ((Rect.unit off size inb).emb j) := by
  obtain ⟨y, rfl⟩ := (Shape.reshapeEquiv h).surjective j
  exact View.read_write_of_mem (v := (v.slice (Rect.unit off' size inb')).reshape s' h) (Val := Elt F) fd _ (Finset.mem_univ y)

end

theorem piece_set (a : Memref sig .tc .vmem S8x64x4096 .bf16) (sl : Fin 8) (ch : Fin 4) :
    (piece a sl ch).view.set = a.view.setOn (pieceSet sl ch) := by
  refine (View.set_reshape _ _).trans ?_
  exact View.set_slice a.view _
theorem agPiece_set (a : Memref sig .tc .vmem S16x64x4096 .bf16) (t : Fin 3) (k : Fin 14) (c : Dev nD) :
    (agPiece a t k c).view.set = a.view.setOn (agSet t k c) := by
  refine (View.set_reshape _ _).trans ?_
  exact View.set_slice a.view _

/-! ## The state -/

variable (I : Dev nD → Ins F) (K : Dev nD × Cl → ℕ)

/-- The invariants of all cells, that all have reached their round, and the levels. -/
def Env : sProp 𝕄 :=
  iprop((bigSep Finset.univ fun p : Dev nD × Cl => iprop(cellInv ER (ringRd I) (K p) (kcell p.1 p.2) ∗ reached ER (kcell p.1 p.2) 0)) ∗ levAts L lv)

instance Env_persistent : BI.Persistent (Env I K) := by unfold Env; infer_instance

theorem Env_inv (c : Dev nD) (k : Cl) : Env I K ⊢ iprop(cellInv ER (ringRd I) (K (c, k)) (kcell c k) ∗ reached ER (kcell c k) 0) := by
  unfold Env
  classical
  iintro ⟨H, -⟩
  have key : (bigSep Finset.univ fun p : Dev nD × Cl => iprop(cellInv ER (ringRd I) (K p) (kcell p.1 p.2) ∗ reached ER (kcell p.1 p.2) 0) : sProp 𝕄)
      ⊢ iprop(cellInv ER (ringRd I) (K (c, k)) (kcell c k) ∗ reached ER (kcell c k) 0) := bigSep_elim (i := (c, k)) (Finset.mem_univ _)
  iapply key; iexact H
theorem Env_lev : Env I K ⊢ (levAts L lv : sProp 𝕄) := by
  unfold Env; iintro ⟨-, H⟩; iexact H

/-- The destination of a hop. -/
def dstPts (c : Dev nD) : X → sProp 𝕄
  | .inl (l, ch, hop) => pcE (bufM l) (fwd l c) (pieceSet (dstSlot hop) ch)
  | .inr _ => iprop(emp)
/-- What a copy needs before it starts. -/
def T1 (c : Dev nD) (x : X) : sProp 𝕄 :=
  iprop(dutyTok ER (kcell c (some (false, x))) 0 false ∗ dutyTok ER (kcell (dstDev c x) (some (true, x))) 0 false
    ∗ atPos ER (kcell c (some (false, x))) 0 ∅ 0 ∗ dstPts c x)
/-- What the wait for an arrival needs. -/
def T2 (c : Dev nD) (x : X) : sProp 𝕄 :=
  iprop(atPos ER (kcell c (some (true, x))) 0 ∅ 0 ∗ cred (tallyAt (kcell c (some (true, x))) () (amt x)))
/-- What the wait for a departure needs. -/
def Sent (c : Dev nD) (x : X) : sProp 𝕄 :=
  iprop(atPos ER (kcell c (some (false, x))) 0 ∅ 0 ∗ cred (tallyAt (kcell c (some (false, x))) () (amt x)))
/-- An arrival's cell, done with. -/
def Rcvd (c : Dev nD) (x : X) : sProp 𝕄 := semVal (kcell c (some (true, x))) 0
/-- A departure's cell, done with. -/
def Gone (c : Dev nD) (x : X) : sProp 𝕄 := semVal (kcell c (some (false, x))) 0

/-- What is owed. -/
def Ow (c : Dev nD) (xs : List X) : sProp 𝕄 := iprop(∃ W, owes (c : Thread nD τ) (tal c xs) W)

/-- After `i` copies started and `j` arrivals. -/
def St (c : Dev nD) (i j : ℕ) : sProp 𝕄 :=
  iprop(Ow c (allX.drop i) ∗ lsep (allX.drop i) (T1 c) ∗ lsep (allY.drop j) (T2 c)
    ∗ lsep (allX.take i) (Sent c) ∗ lsep (allY.take j) (Rcvd c))
/-- After all copies and arrivals, and `i` departures. -/
def Fin' (c : Dev nD) (i : ℕ) : sProp 𝕄 :=
  iprop(Ow c [] ∗ lsep (allX.drop i) (Sent c) ∗ lsep (allX.take i) (Gone c) ∗ lsep allY (Rcvd c))

theorem drop_step {α : Type} {l : List α} {i : ℕ} {x : α} {R : List α} (h : l.drop i = x :: R) :
    l.drop (i + 1) = R ∧ l.take (i + 1) = l.take i ++ [x] := by
  have hi : i < l.length := by
    by_contra hn
    rw [List.drop_eq_nil_of_le (by omega)] at h; cases h
  rw [List.drop_eq_getElem_cons hi] at h
  obtain ⟨h1, h2⟩ := List.cons.inj h
  exact ⟨h2, by rw [List.take_succ_eq_append_getElem hi, h1]⟩

omit [FloatOps F] in
theorem lsep_take {α : Type} {l : List α} {i : ℕ} {x : α} {R : List α} (h : l.drop i = x :: R) (Φ : α → sProp 𝕄) :
    lsep (l.take (i + 1)) Φ = iprop(lsep (l.take i) Φ ∗ Φ x) := by
  rw [(drop_step h).2, lsep_append, lsep_single]
omit [FloatOps F] in
theorem lsep_drop {α : Type} {l : List α} {i : ℕ} {x : α} {R : List α} (h : l.drop i = x :: R) (Φ : α → sProp 𝕄) :
    lsep (l.drop i) Φ = iprop(Φ x ∗ lsep (l.drop (i + 1)) Φ) := by
  rw [(drop_step h).1, h, lsep_cons]

omit [FloatOps F] in
theorem St_send (c : Dev nD) {i j : ℕ} {x : X} {R : List X} (h : allX.drop i = x :: R) :
    St (F := F) c i j ⊢ iprop((Ow c (x :: R) ∗ T1 c x) ∗ ((Ow c R ∗ Sent c x) -∗ St c (i + 1) j)) := by
  unfold St
  rw [lsep_drop h, lsep_take h, (drop_step h).1, h]
  iintro ⟨HO, ⟨HT, H1⟩, H2, H3, H4⟩
  isplitl [HO HT]
  · isplitl [HO] <;> iassumption
  iintro ⟨HO, HS⟩
  isplitl [HO]; · iexact HO
  isplitl [H1]; · iexact H1
  isplitl [H2]; · iexact H2
  isplitl [H3 HS]
  · isplitl [H3] <;> iassumption
  iexact H4

omit [FloatOps F] in
theorem St_wait (c : Dev nD) {i j : ℕ} {y : X} {R : List X} (h : allY.drop j = y :: R) :
    St (F := F) c i j ⊢ iprop((Ow c (allX.drop i) ∗ T2 c y) ∗ ((Ow c (allX.drop i) ∗ Rcvd c y) -∗ St c i (j + 1))) := by
  unfold St
  rw [lsep_drop h, lsep_take h]
  iintro ⟨HO, H1, ⟨HT, H2⟩, H3, H4⟩
  isplitl [HO HT]
  · isplitl [HO] <;> iassumption
  iintro ⟨HO, HR⟩
  isplitl [HO]; · iexact HO
  isplitl [H1]; · iexact H1
  isplitl [H2]; · iexact H2
  isplitl [H3]; · iexact H3
  isplitl [H4] <;> iassumption

omit [FloatOps F] in
theorem Fin_wait (c : Dev nD) {i : ℕ} {x : X} {R : List X} (h : allX.drop i = x :: R) :
    Fin' (F := F) c i ⊢ iprop((Ow c [] ∗ Sent c x) ∗ ((Ow c [] ∗ Gone c x) -∗ Fin' c (i + 1))) := by
  unfold Fin'
  rw [lsep_drop h, lsep_take h]
  iintro ⟨HO, ⟨HS, H1⟩, H2, H3⟩
  isplitl [HO HS]
  · isplitl [HO] <;> iassumption
  iintro ⟨HO, HG⟩
  isplitl [HO]; · iexact HO
  isplitl [H1]; · iexact H1
  isplitl [H2 HG]
  · isplitl [H2] <;> iassumption
  iexact H3

omit [FloatOps F] in
/-- When all has started and arrived, the departures remain. -/
theorem Fin_of_St (c : Dev nD) : St (F := F) c 98 98 ⊢ Fin' c 0 := by
  unfold St Fin'
  rw [show allX.drop 98 = [] from by decide +kernel, show allY.drop 98 = [] from by decide +kernel,
    show allX.take 98 = allX from by decide +kernel, show allY.take 98 = allY from by decide +kernel, List.drop_zero, List.take_zero,
    lsep_nil, lsep_nil, lsep_nil]
  iintro ⟨HO, -, -, H1, H2⟩
  isplitl [HO]; · iexact HO
  isplitl [H1]; · iexact H1
  isplitr; · iempintro
  iexact H2

theorem payOf_recv (c : Dev nD) (x : X) : payOf I c false (some (some (true, x))) = recvPay I c x := rfl
theorem payOf_send (c : Dev nD) (x : X) : payOf I c false (some (some (false, x))) = sendPay I c x := rfl
theorem sendPay_rs (c : Dev nD) (l ch hop) :
    sendPay I c (.inl (l, ch, hop)) = pc (bufM l) c (pieceSet (srcSlot hop) ch) fullShare (accB I l c) := rfl
theorem sendPay_ag (c : Dev nD) (t k) : sendPay I c (.inr (t, k)) = pc outM c (agSet t k c) (qk k) (outV I) := rfl
theorem recvPay_rs (c : Dev nD) (l ch hop) : recvPay I c (.inl (l, ch, hop))
    = iprop(pc (bufM l) c (pieceSet (dstSlot hop) ch) fullShare (landB I l c) ∗ cr l ch (back (hop.val + 1) c) hop.val) := rfl
theorem recvPay_ag (c : Dev nD) (t k) : recvPay I c (.inr (t, k)) = pc outM c (agSet t k (partner t k c)) fullShare (outV I) := rfl

/-! ## Waits -/

/-- A wait for a copy's arrival or departure closes its cell and hands over its payload. -/
theorem wait_copy (c : Dev nD) (b : Bool) (x : X) (xs : List X)
    (hlv : ∀ z ∈ xs, lvOf (some (some (b, x))) < lvl z)
    {sp sp' : Space} {s s' : Shape} {e e' : EltTy} {q : DmaSem sig} (hq : q = (if b then semR x else semS x))
    {src : Memref sig .tc sp' s' e'} {dst : Memref sig .tc sp s e} {hsrc : src.view.WordExact} {hdst : dst.view.WordExact}
    (hN : dst.view.dmaCredit = amt x) :
    iprop(Env I K ∗ Ow c xs ∗ atPos ER (kcell c (some (b, x))) 0 ∅ 0 ∗ cred (tallyAt (kcell c (some (b, x))) () (amt x)))
      ⊢ WP c (Prog.lift (.waitDma2 q src dst hsrc hdst)) (fun _ => iprop((Ow c xs ∗ semVal (kcell c (some (b, x))) 0)
        ∗ payOf I c false (some (some (b, x))))) := by
  have hsm : csem (some (b, x)) = .dma q := by subst hq; cases b <;> rfl
  unfold Ow
  iintro ⟨#HE, ⟨%W, HO⟩, Hat, Hcr⟩
  ihave Hi := (Env_inv I K c (some (b, x))) $$ HE
  icases Hi with ⟨#HI, -⟩
  have key := Rounds.wp_wait_rest_token 𝒱₀ ER (ringRd I) (c : Thread nD τ) none (defs := defs₀ (F := F)) (κ := K (c, some (b, x)))
      (w := .waitDma2 q src dst hsrc hdst) (sm := csem (some (b, x))) (k' := amt x)
      (hw := by intro Kt; rw [hsm, ← hN]; exact wpE_waitDma2_eq 𝒱₀ (c : Thread nD τ) none Set.univ Kt) (Set.mem_univ _) () (O := tal c xs) (W := W) (R := 0) (m := 0) (T := ∅)
      (k := Prog.ret) (Q := fun _ => iprop(((∃ W, owes (c : Thread nD τ) (tal c xs) W) ∗ semVal (kcell c (some (b, x))) 0)
        ∗ payOf I c false (some (some (b, x)))))
      (by rw [expect_copy, Nat.zero_add])
  iapply key $$ [Hcr HO Hat]
  · isplitr; · iexact HI
    isplitl [Hcr]; · iexact Hcr
    isplitl [HO]; · iexact HO
    isplitr
    · iapply (mayWait_tal c (csem (some (b, x))) xs (by rw [dec_csem]; exact hlv))
      iapply (Env_lev I K); iexact HE
    iexact Hat
  iintro ⟨HO, Hat, -, Hpay⟩
  have hrest : bigSep ((ringRd I).duties (kcell c (some (b, x))) 0 \ ∅) (fun d => (ringRd I).payload (kcell c (some (b, x))) 0 d)
      = payOf I c false (some (some (b, x))) := by
    cases b
    · exact rest_send I c x
    · exact rest_recv I c x
  ihave Hp := (Entails.of_eq hrest) $$ Hpay
  ihave Hc := (Rounds.cell_close ER (ringRd I) (Set.mem_univ (K (c, some (b, x)))) (fun h => h) (R := 0 + 1) (duties_later I (kcell c (some (b, x))))) $$ [Hat]
  · isplitr; · iexact HI
    iexact Hat
  rw [wp_ret]
  imod Hc
  imodintro
  isplitl [HO Hc]
  · isplitl [HO]
    · iexists (insert (csem (some (b, x)), ()) W); iexact HO
    iexact Hc
  iexact Hp

/-- The wait for a hop's arrival. -/
theorem wait_rs (c : Dev nD) (l : Bool) (ch : Fin 4) (hop : Fin 7) {i j : ℕ} {R : List X} (h : allY.drop j = .inl (l, ch, hop) :: R)
    (hlv : ∀ z ∈ allX.drop i, 2 + hop.val < lvl z) :
    iprop(Env I K ∗ St c i j) ⊢ WP c (waitRS (F := F) (bufM_whole l) (rsR l) ch hop) (fun _ => iprop(St c i (j + 1)
      ∗ pc (bufM l) c (pieceSet (dstSlot hop) ch) fullShare (landB I l c) ∗ cr l ch (back (hop.val + 1) c) hop.val)) := by
  iintro ⟨#HE, HS⟩
  ihave H := (St_wait c h) $$ HS
  icases H with ⟨⟨HO, HT⟩, Hk⟩
  unfold T2
  icases HT with ⟨Hat, Hcr⟩
  have key := wait_copy I K c true (.inl (l, ch, hop)) (allX.drop i) hlv (q := sem47 (rsR l) ch hop) (by cases l <;> rfl)
    (src := piece (bufM l) (srcSlot hop) ch) (dst := piece (bufM l) (dstSlot hop) ch)
    (hsrc := piece_exact (bufM_whole l) _ _) (hdst := piece_exact (bufM_whole l) _ _) (by cases l <;> rfl)
  iapply (last key) $$ [HO Hat Hcr]
  · isplitr; · iexact HE
    isplitl [HO]; · iexact HO
    isplitl [Hat] <;> iassumption
  iintro %r ⟨HO, Hp⟩
  isplitl [HO Hk]; · iapply Hk; iexact HO
  iapply (Entails.of_eq ((payOf_recv I c _).trans (recvPay_rs I c l ch hop))); iexact Hp

/-- The wait for an exchange's arrival. -/
theorem wait_ag (c : Dev nD) (tk : Fin 3 × Fin 14) {i j : ℕ} {R : List X} (h : allY.drop j = .inr tk :: R)
    (hlv : ∀ z ∈ allX.drop i, 9 + (phaseOf tk.2).val < lvl z) :
    iprop(Env I K ∗ St c i j) ⊢ WP c (waitAG (F := F) (a := outM) (Memref.isWhole_whole _) cc0_scratch7 c tk) (fun _ => iprop(St c i (j + 1)
      ∗ pc outM c (agSet tk.1 tk.2 (partner tk.1 tk.2 c)) fullShare (outV I))) := by
  obtain ⟨t, k⟩ := tk
  iintro ⟨#HE, HS⟩
  ihave H := (St_wait c h) $$ HS
  icases H with ⟨⟨HO, HT⟩, Hk⟩
  unfold T2
  icases HT with ⟨Hat, Hcr⟩
  have key := wait_copy I K c true (.inr (t, k)) (allX.drop i) hlv (q := sem314 cc0_scratch7 t k) rfl
    (src := agPiece outM t k c) (dst := agPiece outM t k c)
    (hsrc := agPiece_exact (Memref.isWhole_whole _) _ _ _) (hdst := agPiece_exact (Memref.isWhole_whole _) _ _ _) rfl
  iapply (last key) $$ [HO Hat Hcr]
  · isplitr; · iexact HE
    isplitl [HO]; · iexact HO
    isplitl [Hat] <;> iassumption
  iintro %r ⟨HO, Hp⟩
  isplitl [HO Hk]; · iapply Hk; iexact HO
  iapply (Entails.of_eq ((payOf_recv I c _).trans (recvPay_ag I c t k))); iexact Hp

/-- The wait for a hop's departure. -/
theorem wait_rs_gone (c : Dev nD) (l : Bool) (ch : Fin 4) (hop : Fin 7) {i : ℕ} {R : List X} (h : allX.drop i = .inl (l, ch, hop) :: R) :
    iprop(Env I K ∗ Fin' c i) ⊢ WP c (waitRS (F := F) (bufM_whole l) (rsS l) ch hop) (fun _ => iprop(Fin' c (i + 1)
      ∗ pc (bufM l) c (pieceSet (srcSlot hop) ch) fullShare (accB I l c))) := by
  iintro ⟨#HE, HS⟩
  ihave H := (Fin_wait c h) $$ HS
  icases H with ⟨⟨HO, HT⟩, Hk⟩
  unfold Sent
  icases HT with ⟨Hat, Hcr⟩
  have key := wait_copy I K c false (.inl (l, ch, hop)) [] (by intro z hz; cases hz) (q := sem47 (rsS l) ch hop) (by cases l <;> rfl)
    (src := piece (bufM l) (srcSlot hop) ch) (dst := piece (bufM l) (dstSlot hop) ch)
    (hsrc := piece_exact (bufM_whole l) _ _) (hdst := piece_exact (bufM_whole l) _ _) (by cases l <;> rfl)
  iapply (last key) $$ [HO Hat Hcr]
  · isplitr; · iexact HE
    isplitl [HO]; · iexact HO
    isplitl [Hat] <;> iassumption
  iintro %r ⟨HO, Hp⟩
  isplitl [HO Hk]; · iapply Hk; iexact HO
  iapply (Entails.of_eq ((payOf_send I c _).trans (sendPay_rs I c l ch hop))); iexact Hp

/-- The wait for an exchange's departure. -/
theorem wait_ag_gone (c : Dev nD) (tk : Fin 3 × Fin 14) {i : ℕ} {R : List X} (h : allX.drop i = .inr tk :: R) :
    iprop(Env I K ∗ Fin' c i) ⊢ WP c (waitAG (F := F) (a := outM) (Memref.isWhole_whole _) cc0_scratch6 c tk) (fun _ => iprop(Fin' c (i + 1)
      ∗ pc outM c (agSet tk.1 tk.2 c) (qk tk.2) (outV I))) := by
  obtain ⟨t, k⟩ := tk
  iintro ⟨#HE, HS⟩
  ihave H := (Fin_wait c h) $$ HS
  icases H with ⟨⟨HO, HT⟩, Hk⟩
  unfold Sent
  icases HT with ⟨Hat, Hcr⟩
  have key := wait_copy I K c false (.inr (t, k)) [] (by intro z hz; cases hz) (q := sem314 cc0_scratch6 t k) rfl
    (src := agPiece outM t k c) (dst := agPiece outM t k c)
    (hsrc := agPiece_exact (Memref.isWhole_whole _) _ _ _) (hdst := agPiece_exact (Memref.isWhole_whole _) _ _ _) rfl
  iapply (last key) $$ [HO Hat Hcr]
  · isplitr; · iexact HE
    isplitl [HO]; · iexact HO
    isplitl [Hat] <;> iassumption
  iintro %r ⟨HO, Hp⟩
  isplitl [HO Hk]; · iapply Hk; iexact HO
  iapply (Entails.of_eq ((payOf_send I c _).trans (sendPay_ag I c t k))); iexact Hp

/-! ## Copies -/

theorem back_fwd : ∀ (c : Dev nD) (hop : Fin 7), back (hop.val + 1) (fwd false c) = back hop.val c := by decide +kernel

omit [FloatOps F] in
theorem cr_fwd (l : Bool) (ch : Fin 4) (c : Dev nD) (hop : Fin 7) (s : ℕ) :
    cr (F := F) l ch (back (hop.val + 1) (fwd l c)) s = cr l ch (back hop.val c) s := by
  unfold cr
  by_cases h : l = false ∧ ch = 0
  · rw [if_pos h, if_pos h, h.1, back_fwd]
  · rw [if_neg h, if_neg h]

/-- A hop starts, wherever its address comes from. -/
theorem send_rs_at (c n : Dev nD) (l : Bool) (ch : Fin 4) (hop : Fin 7) (hn : n = fwd l c)
    {hsc : (piece (bufM l) (dstSlot hop) ch : Memref sig (Dev.tc n : Thread nD τ).2.kind .vmem S64x1024 .bf16).view.ref.isScScratch = false}
    {hsrc : (piece (bufM l) (srcSlot hop) ch).view.WordExact} {hdst : (piece (bufM l) (dstSlot hop) ch).view.WordExact}
    {hsem : DmaTarget.Typed .vmem (.dma (sem47 (rsR l) ch hop)) (.remote (Dev.tc n : Thread nD τ) (piece (bufM l) (dstSlot hop) ch) (.dma (sem47 (rsS l) ch hop)) hsc)}
    {i j : ℕ} {R : List X} (h : allX.drop i = .inl (l, ch, hop) :: R) :
    iprop(Env I K ∗ St c i j ∗ pc (bufM l) c (pieceSet (srcSlot hop) ch) fullShare (accB I l c) ∗ cr l ch (back hop.val c) hop.val)
      ⊢ WP c (Prog.lift (.enqueueDma (piece (bufM l) (srcSlot hop) ch) (.remote (Dev.tc n : Thread nD τ) (piece (bufM l) (dstSlot hop) ch)
          (.dma (sem47 (rsS l) ch hop)) hsc) (.dma (sem47 (rsR l) ch hop)) hsrc hdst hsem)) (fun _ => St c (i + 1) j) := by
  subst hn
  iintro ⟨#HE, HS, Hsrc, Hcr⟩
  ihave H := (St_send c h) $$ HS
  icases H with ⟨⟨HO, HT⟩, Hk⟩
  unfold T1 dstPts Ow
  icases HT with ⟨Ht1, Ht2, Hat, Hdst⟩
  icases HO with ⟨%W, HO⟩
  unfold pcE
  icases Hdst with ⟨%fd, Hdst⟩
  unfold pc
  icases Hsrc with ⟨%fs, %hfs, Hsrc⟩
  ihave Hi := (Env_inv I K c (some (false, .inl (l, ch, hop)))) $$ HE
  icases Hi with ⟨#HI1, #HR1⟩
  ihave Hi := (Env_inv I K (fwd l c) (some (true, .inl (l, ch, hop)))) $$ HE
  icases Hi with ⟨#HI2, #HR2⟩
  iapply (Rounds.wp_send_pointsTo_with 𝒱₀ ER (ringRd I) (c : Thread nD τ) none (defs := defs₀ (F := F))
    (c' := ((fwd l c : Dev nD) : Thread nD τ))
    (src := piece (bufM l) (srcSlot hop) ch) (dst := piece (bufM l) (dstSlot hop) ch)
    (sS := .dma (sem47 (rsS l) ch hop)) (sem := .dma (sem47 (rsR l) ch hop))
    (κ₁ := K (c, some (false, .inl (l, ch, hop)))) (κ₂ := K (fwd l c, some (true, .inl (l, ch, hop))))
    (q := fullShare) (fs := fs) (fd := fd) (F := cr l ch (back hop.val c) hop.val)
    (r₁ := 0) (r₂ := 0) (d₁ := false) (d₂ := false)
    (by show false ∈ (ringRd I).duties (kcell c (some (false, .inl (l, ch, hop)))) 0; rw [duties_copy]; exact Finset.mem_singleton_self _)
    (by show false ∈ (ringRd I).duties (kcell (fwd l c) (some (true, .inl (l, ch, hop)))) 0; rw [duties_copy]; exact Finset.mem_singleton_self _)
    () () (amt (.inl (l, ch, hop))) (by cases l <;> rfl)
    (amount_copy I c false (.inl (l, ch, hop)) false) (amount_copy I (fwd l c) true (.inl (l, ch, hop)) false)
    (tal c R) rfl (W := W)
    (by
      show _ ⊢ (ringRd I).payload (kcell c (some (false, .inl (l, ch, hop)))) 0 false
      rw [payload_send, sendPay_rs, piece_set]; unfold pc
      iintro H; iexists fs; isplitr; · ipureintro; exact hfs
      iexact H)
    (by
      show _ ⊢ (ringRd I).payload (kcell (fwd l c) (some (true, .inl (l, ch, hop)))) 0 false
      rw [payload_recv, recvPay_rs, cr_fwd, piece_set]; unfold pc
      iintro ⟨H, Hc⟩
      isplitl [H]
      · iexists _; isplitr
        rotate_left
        · iexact H
        ipureintro
        intro i hi
        obtain ⟨j, rfl⟩ := (pieceRect (dstSlot hop) ch).exists_idx_of_mem hi
        refine (read_copied (bufM l).view (squeezes_S1x64x1024_S64x1024).numel_eq fd fs j).trans ?_
        exact (hfs _ ((pieceRect (srcSlot hop) ch).idx_mem j)).trans (land_of_send I l c hop ch j).symm
      iexact Hc)) $$ [Ht1 Ht2 Hdst HO Hsrc Hcr]
  · isplitr; · iexact HI1
    isplitr; · iexact HI2
    isplitl [Hsrc]; · rw [piece_set]; iexact Hsrc
    isplitl [Hdst Hcr]
    · isplitl [Hdst]; · rw [piece_set]; iexact Hdst
      iexact Hcr
    isplitl [HO]; · iexact HO
    isplitl [Ht1]; · iexact Ht1
    isplitr; · iexact HR1
    isplitl [Ht2]; · iexact Ht2
    iexact HR2
  iintro ⟨Hcred, HO⟩
  iapply (wp_pure_intro (c := c) PUnit.unit)
  iapply Hk
  isplitl [HO]
  · iexists W; iexact HO
  unfold Sent
  isplitl [Hat]; · iexact Hat
  iexact Hcred

/-- A hop starts. -/
theorem send_rs (c : Dev nD) (l : Bool) (ch : Fin 4) (hop : Fin 7) {i j : ℕ} {R : List X} (h : allX.drop i = .inl (l, ch, hop) :: R) :
    iprop(Env I K ∗ St c i j ∗ pc (bufM l) c (pieceSet (srcSlot hop) ch) fullShare (accB I l c) ∗ cr l ch (back hop.val c) hop.val)
      ⊢ WP c (sendRS (F := F) l (bufM_whole l) (rsS l) (rsR l) c ch hop) (fun _ => St c (i + 1) j) :=
  send_rs_at I K c _ l ch hop (rsDev_eq l ch hop c) h

/-- An exchange starts, wherever its address comes from. -/
theorem send_ag_at (c n : Dev nD) (t : Fin 3) (k : Fin 14) (hn : n = partner t k c)
    {hsc : (agPiece outM t k c : Memref sig (Dev.tc n : Thread nD τ).2.kind .vmem (SW t.val) .bf16).view.ref.isScScratch = false}
    {hsrc : (agPiece outM t k c).view.WordExact} {hdst : (agPiece outM t k c).view.WordExact}
    {hsem : DmaTarget.Typed .vmem (.dma (sem314 cc0_scratch7 t k)) (.remote (Dev.tc n : Thread nD τ) (agPiece outM t k c) (.dma (sem314 cc0_scratch6 t k)) hsc)}
    {i j : ℕ} {R : List X} (h : allX.drop i = .inr (t, k) :: R) :
    iprop(Env I K ∗ St c i j ∗ pc outM c (agSet t k c) (qk k) (outV I) ∗ slotPts (partner t k c) (t, k))
      ⊢ WP c (Prog.lift (.enqueueDma (agPiece outM t k c) (.remote (Dev.tc n : Thread nD τ) (agPiece outM t k c)
          (.dma (sem314 cc0_scratch6 t k)) hsc) (.dma (sem314 cc0_scratch7 t k)) hsrc hdst hsem)) (fun _ => St c (i + 1) j) := by
  subst hn
  iintro ⟨#HE, HS, Hsrc, Hdst⟩
  ihave H := (St_send c h) $$ HS
  icases H with ⟨⟨HO, HT⟩, Hk⟩
  unfold T1 dstPts Ow
  icases HT with ⟨Ht1, Ht2, Hat, -⟩
  icases HO with ⟨%W, HO⟩
  unfold slotPts pcE
  dsimp only
  icases Hdst with ⟨%fd, Hdst⟩
  unfold pc
  icases Hsrc with ⟨%fs, %hfs, Hsrc⟩
  ihave Hi := (Env_inv I K c (some (false, .inr (t, k)))) $$ HE
  icases Hi with ⟨#HI1, #HR1⟩
  ihave Hi := (Env_inv I K (partner t k c) (some (true, .inr (t, k)))) $$ HE
  icases Hi with ⟨#HI2, #HR2⟩
  iapply (Rounds.wp_send_pointsTo_with 𝒱₀ ER (ringRd I) (c : Thread nD τ) none (defs := defs₀ (F := F))
    (c' := ((partner t k c : Dev nD) : Thread nD τ))
    (src := agPiece outM t k c) (dst := agPiece outM t k c)
    (sS := .dma (sem314 cc0_scratch6 t k)) (sem := .dma (sem314 cc0_scratch7 t k))
    (κ₁ := K (c, some (false, .inr (t, k)))) (κ₂ := K (partner t k c, some (true, .inr (t, k))))
    (q := qk k) (fs := fs) (fd := fd) (F := iprop(emp))
    (r₁ := 0) (r₂ := 0) (d₁ := false) (d₂ := false)
    (by show false ∈ (ringRd I).duties (kcell c (some (false, .inr (t, k)))) 0; rw [duties_copy]; exact Finset.mem_singleton_self _)
    (by show false ∈ (ringRd I).duties (kcell (partner t k c) (some (true, .inr (t, k)))) 0; rw [duties_copy]; exact Finset.mem_singleton_self _)
    () () (amt (.inr (t, k))) rfl
    (amount_copy I c false (.inr (t, k)) false) (amount_copy I (partner t k c) true (.inr (t, k)) false)
    (tal c R) rfl (W := W)
    (by
      show _ ⊢ (ringRd I).payload (kcell c (some (false, .inr (t, k)))) 0 false
      rw [payload_send, sendPay_ag, agPiece_set]; unfold pc
      iintro H; iexists fs; isplitr; · ipureintro; exact hfs
      iexact H)
    (by
      show _ ⊢ (ringRd I).payload (kcell (partner t k c) (some (true, .inr (t, k)))) 0 false
      rw [payload_recv, recvPay_ag, partner_partner, agPiece_set]; unfold pc
      iintro ⟨H, -⟩
      iexists _; isplitr
      rotate_left
      · iexact H
      ipureintro
      intro i hi
      obtain ⟨j, rfl⟩ := (agRect t k c).exists_idx_of_mem hi
      refine (read_copied (outM).view (ag_squeezes t).numel_eq fd fs j).trans ?_
      exact hfs _ ((agRect t k c).idx_mem j))) $$ [Ht1 Ht2 Hdst HO Hsrc]
  · isplitr; · iexact HI1
    isplitr; · iexact HI2
    isplitl [Hsrc]; · rw [agPiece_set]; iexact Hsrc
    isplitl [Hdst]
    · isplitl [Hdst]; · rw [agPiece_set, partner_partner]; iexact Hdst
      iempintro
    isplitl [HO]; · iexact HO
    isplitl [Ht1]; · iexact Ht1
    isplitr; · iexact HR1
    isplitl [Ht2]; · iexact Ht2
    iexact HR2
  iintro ⟨Hcred, HO⟩
  iapply (wp_pure_intro (c := c) PUnit.unit)
  iapply Hk
  isplitl [HO]
  · iexists W; iexact HO
  unfold Sent
  isplitl [Hat]; · iexact Hat
  iexact Hcred

/-- An exchange starts. -/
theorem send_ag (c : Dev nD) (tk : Fin 3 × Fin 14) {i j : ℕ} {R : List X} (h : allX.drop i = .inr tk :: R) :
    iprop(Env I K ∗ St c i j ∗ pc outM c (agSet tk.1 tk.2 c) (qk tk.2) (outV I) ∗ slotPts (partner tk.1 tk.2 c) tk)
      ⊢ WP c (sendAG (F := F) (a := outM) (Memref.isWhole_whole _) cc0_scratch6 cc0_scratch7 c tk) (fun _ => St c (i + 1) j) :=
  send_ag_at I K c _ tk.1 tk.2 (agDev_eq tk.1 tk.2 c) h

end Cert.KernelIdeal.Canon
-- ==== Proof.Blocks.lean ====
/- The blocks of the body: loads, the rings' steps, the last step, the loops of copies and waits. -/
module

public import proofs.«01_k».proof.Proof.Ops

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cl → ℕ)

/-! ## Loops -/

omit [FloatOps F] in
theorem prefix_step {α : Type} {l L R₀ : List α} {i n : ℕ} {x : α} (h : l.drop i = L ++ R₀) (hx : L[n]? = some x) :
    ∃ R, l.drop (i + n) = x :: R := by
  obtain ⟨hn, rfl⟩ := List.getElem?_eq_some_iff.mp hx
  refine ⟨(L ++ R₀).drop (n + 1), ?_⟩
  rw [← List.drop_drop, h, List.drop_eq_getElem_cons (by rw [List.length_append]; omega), List.getElem_append_left hn]

/-- A list of programs, each moving the state one step on and turning its resource into another. -/
theorem seq_loop (c : Dev nD) {α : Type} (f : α → PR F PUnit) (Φ Ψ : α → sProp 𝕄) : ∀ (L : List α) (P : ℕ → sProp 𝕄)
    (h : ∀ n x, L[n]? = some x → iprop(P n ∗ Φ x) ⊢ WP c (f x) (fun _ => iprop(P (n + 1) ∗ Ψ x))),
    iprop(P 0 ∗ lsep L Φ) ⊢ WP c (seqP (L.map f)) (fun _ => iprop(P L.length ∗ lsep L Ψ))
  | [], P, h => by
    rw [lsep_nil, lsep_nil]
    exact wp_pure_intro (c := c) PUnit.unit (fun _ => iprop(P 0 ∗ emp))
  | x :: L, P, h => by
    rw [lsep_cons, lsep_cons, List.map_cons, List.length_cons]
    unfold seqP
    iintro ⟨HP, Hx, HL⟩
    iapply (step (h 0 x rfl)) $$ [HP Hx]
    · isplitl [HP] <;> iassumption
    iintro %r ⟨HP, Hx⟩
    iapply (last (seq_loop c f Φ Ψ L (fun n => P (n + 1)) (fun n y hy => h (n + 1) y hy))) $$ [HP HL]
    · isplitl [HP] <;> iassumption
    iintro %r ⟨HP, HL⟩
    isplitl [HP]; · iexact HP
    isplitl [Hx] <;> iassumption

/-! ## Loads -/

/-- The six operands in place. -/
def Inp (c : Dev nD) : sProp 𝕄 :=
  iprop(pc (Memref.whole cc0_stg0_0) c Finset.univ fullShare (I c).q ∗ pc (Memref.whole cc0_stg1_0) c Finset.univ fullShare (I c).k
    ∗ pc (Memref.whole cc0_stg2_0) c Finset.univ fullShare (I c).v ∗ pc (Memref.whole cc0_stg3_0) c Finset.univ fullShare (I c).qr
    ∗ pc (Memref.whole cc0_stg4_0) c Finset.univ fullShare (I c).kr ∗ pc (Memref.whole cc0_stg5_0) c Finset.univ fullShare (I c).wo)

/-- The five loads of a part of a step. -/
theorem ld_blk (c : Dev nD) (bot : Bool) (s : Fin 8) :
    Inp I c ⊢ WP c (ldBlk (F := F) (Memref.whole cc0_stg0_0) (Memref.whole cc0_stg1_0) (Memref.whole cc0_stg2_0) (Memref.whole cc0_stg3_0)
      (Memref.whole cc0_stg4_0) bot s c) (fun x => iprop(⌜x = ldv I bot s c⌝ ∗ Inp I c)) := by
  unfold Inp
  iintro ⟨H0, H1, H2, H3, H4, H5⟩
  unfold ldBlk
  iapply (step (wp_load_pc (Memref.whole cc0_stg0_0) c (Finset.subset_univ _) fullShare (I c).q)) $$ H0
  iintro %q ⟨%hq, H0⟩
  iapply (step (wp_load_pc (Memref.whole cc0_stg3_0) c (Finset.subset_univ _) fullShare (I c).qr)) $$ H3
  iintro %r ⟨%hr, H3⟩
  iapply (step (wp_load_pc (Memref.whole cc0_stg1_0) c (Finset.subset_univ _) fullShare (I c).k)) $$ H1
  iintro %k ⟨%hk, H1⟩
  iapply (step (wp_load_pc (Memref.whole cc0_stg2_0) c (Finset.subset_univ _) fullShare (I c).v)) $$ H2
  iintro %v ⟨%hv, H2⟩
  iapply (step (wp_load_pc (Memref.whole cc0_stg4_0) c (Finset.subset_univ _) fullShare (I c).kr)) $$ H4
  iintro %x ⟨%hx, H4⟩
  subst hq hr hk hv hx
  iapply (wp_pure_intro (c := c))
  isplitr
  · ipureintro; rfl
  isplitl [H0]; · iexact H0
  isplitl [H1]; · iexact H1
  isplitl [H2]; · iexact H2
  isplitl [H3]; · iexact H3
  isplitl [H4] <;> iassumption

/-- The load of the projection's weights. -/
theorem ld_wo (c : Dev nD) {hl} :
    Inp I c ⊢ WP c (Prog.lift (.load (Memref.whole cc0_stg5_0) (Rect.unit (s := S512x4096) ![0, 0] S512x4096.size inb_S512x4096_S512x4096_0_0).toLoadRect hl))
      (fun x => iprop(⌜x = wld I c⌝ ∗ Inp I c)) := by
  unfold Inp
  iintro ⟨H0, H1, H2, H3, H4, H5⟩
  iapply (last (wp_load_pc (Memref.whole cc0_stg5_0) c (Finset.subset_univ _) fullShare (I c).wo)) $$ H5
  iintro %q ⟨%hq, H5⟩
  isplitr
  · ipureintro; exact hq
  isplitl [H0]; · iexact H0
  isplitl [H1]; · iexact H1
  isplitl [H2]; · iexact H2
  isplitl [H3]; · iexact H3
  isplitl [H4] <;> iassumption

/-! ## Sums -/

theorem st_7 (c : Dev nD) (l : Bool) : pcE (bufM l) c rect7.set ⊢ WP c (st7 (F := F) (bufM_whole l) (stV I l c))
    (fun _ => pc (bufM l) c rect7.set fullShare (accB I l c)) := by
  iintro H
  unfold st7
  iapply (step (wp_load_pcE (bufM l) c (Finset.Subset.refl _))) $$ H
  iintro %x H
  iapply (wp_store_pc (bufM l) c (accB I l c) (accB_seven I l c))
  iexact H

/-- A step's sum, in place. -/
theorem acc_blk (c : Dev nD) (l : Bool) (hop : Fin 7) (hh : hop.val < 6) (ch : Fin 4) :
    pc (bufM l) c (pieceSet (dstSlot hop) ch) fullShare (landB I l c)
      ⊢ WP c (accBlk (F := F) l (bufM_whole l) hop ch (gV I l (hop.val + 1) c))
        (fun _ => pc (bufM l) c (pieceSet (dstSlot hop) ch) fullShare (accB I l c)) := by
  iintro H
  unfold accBlk
  iapply (step (wp_load_pc (bufM l) c (Finset.Subset.refl _) fullShare (landB I l c))) $$ H
  iintro %x ⟨%hx, H⟩
  iapply (step (wp_load_pc (bufM l) c (Finset.Subset.refl _) fullShare (landB I l c))) $$ H
  iintro %y ⟨-, H⟩
  subst hx
  iapply (wp_store_pc (bufM l) c (accB I l c) (accB_store I l c hop hh ch))
  iapply (pc_forget (bufM l) c)
  iexact H

/-- The last sum. -/
theorem fin_blk (c : Dev nD) (l : Bool) (ch : Fin 4) :
    iprop(pc (bufM l) c (pieceSet (dstSlot 6) ch) fullShare (landB I l c) ∗ pcE outM c (oSet l ch c))
      ⊢ WP c (finBlk (F := F) outM (Memref.isWhole_whole _) l (bufM l) c ch (gV I l 7 c))
        (fun _ => iprop(pcE (bufM l) c (pieceSet (dstSlot 6) ch) ∗ pc outM c (oSet l ch c) fullShare (outV I))) := by
  iintro ⟨H, Ho⟩
  unfold finBlk
  iapply (step (wp_load_pc (bufM l) c (Finset.Subset.refl _) fullShare (landB I l c))) $$ H
  iintro %x ⟨%hx, H⟩
  iapply (step (wp_load_pcE outM c (Finset.Subset.refl _))) $$ Ho
  iintro %y Ho
  subst hx
  iapply (last (wp_store_pc outM c (outV I) (outV_store I l c ch))) $$ Ho
  iintro %r Ho
  isplitl [H]
  · iapply (pc_forget (bufM l) c); iexact H
  iexact Ho

/-! ## The rings' steps -/

/-- Before chunk `ch` of step `s`: the parts received so far. -/
def sl (c : Dev nD) (s : ℕ) (ch : Fin 4) : sProp 𝕄 := slots c (if ch = 0 then s else s + 1)

omit [FloatOps F] in
theorem keep_ch (c : Dev nD) (s : Fin 7) (ch : Fin 4) :
    iprop(sl (F := F) c s.val ch ∗ cr false ch (back (s.val + 1) c) s.val) ⊢ iprop(slots c (s.val + 1) ∗ cr false ch (back (s.val + 1) c) (s.val + 1)) := by
  unfold sl cr
  by_cases h : ch = 0
  · simp only [h, if_true, and_self]
    exact keep c s
  · simp only [h, if_false, and_false]
    exact BI.Entails.refl _

theorem rsX (s : Fin 6) (ch : Fin 4) : ∃ R, allX.drop (8 + 8 * s.val + 2 * ch.val) = .inl (false, ch, s.succ) :: .inl (true, ch, s.succ) :: R := by
  refine ⟨allX.drop (8 + 8 * s.val + 2 * ch.val + 2), ?_⟩
  revert s ch; decide +kernel
theorem rsY (s : Fin 7) (ch : Fin 4) : ∃ R, allY.drop (8 * s.val + 2 * ch.val) = .inl (false, ch, s) :: .inl (true, ch, s) :: R := by
  refine ⟨allY.drop (8 * s.val + 2 * ch.val + 2), ?_⟩
  revert s ch; decide +kernel
theorem rsLv : ∀ (s : Fin 6) (ch : Fin 4), ∀ z ∈ allX.drop (8 + 8 * s.val + 2 * ch.val), 2 + s.val < lvl z := by decide +kernel
theorem rsLv6 : ∀ z ∈ allX.drop 56, 2 + 6 < lvl z := by decide +kernel

/-- One chunk of a step. -/
theorem ch_blk (c : Dev nD) (s : Fin 6) (ch : Fin 4) :
    iprop(Env I K ∗ St c (8 + 8 * s.val + 2 * ch.val) (8 * s.val + 2 * ch.val) ∗ sl c s.val ch)
      ⊢ WP c (chBlk (F := F) (bufM false) (bufM_whole false) (bufM true) (bufM_whole true) (rsS false) (rsR false) (rsS true) (rsR true)
          c s ch (gP I (s.val + 1) c))
        (fun _ => iprop(St c (8 + 8 * s.val + 2 * ch.val + 2) (8 * s.val + 2 * ch.val + 2) ∗ slots c (s.val + 1))) := by
  obtain ⟨RX, hX⟩ := rsX s ch
  obtain ⟨RY, hY⟩ := rsY s.castSucc ch
  have hX' := (drop_step hX).1
  have hY' := (drop_step hY).1
  iintro ⟨#HE, HS, Hsl⟩
  unfold chBlk
  iapply (step (wait_rs I K c false ch s.castSucc hY (rsLv s ch))) $$ [HS]
  · isplitr; · iexact HE
    iexact HS
  iintro %r ⟨HS, Ha, Hc⟩
  iapply (step (wait_rs I K c true ch s.castSucc hY' (rsLv s ch))) $$ [HS]
  · isplitr; · iexact HE
    iexact HS
  iintro %r ⟨HS, Hb, -⟩
  iapply (step (acc_blk I c false s.castSucc s.isLt ch)) $$ Ha
  iintro %r Ha
  iapply (step (acc_blk I c true s.castSucc s.isLt ch)) $$ Hb
  iintro %r Hb
  ihave Hk := (keep_ch c s.castSucc ch) $$ [Hsl Hc]
  · isplitl [Hsl]; · iexact Hsl
    iexact Hc
  icases Hk with ⟨Hsl, Hc⟩
  have hsl : srcSlot s.succ = dstSlot s.castSucc := Fin.ext (by
    have := s.isLt
    show (s.val + 1 + 7) % 8 = s.val; omega)
  iapply (step (send_rs I K c false ch s.succ hX)) $$ [HS Ha Hc]
  · isplitr; · iexact HE
    isplitl [HS]; · iexact HS
    isplitl [Ha]; · rw [hsl]; iexact Ha
    iexact Hc
  iintro %r HS
  iapply (last (send_rs I K c true ch s.succ hX')) $$ [HS Hb]
  · isplitr; · iexact HE
    isplitl [HS]; · iexact HS
    isplitl [Hb]; · rw [hsl]; iexact Hb
    unfold cr; rw [if_neg (fun h => by cases h.1)]; iempintro
  iintro %r HS
  isplitl [HS]; · iexact HS
  iexact Hsl

/-- One step of the rings, with the products of the step after it. -/
theorem rs_iter (c : Dev nD) (s : Fin 6) :
    iprop(Env I K ∗ St c (8 + 8 * s.val) (8 * s.val) ∗ slots c s.val ∗ Inp I c)
      ⊢ WP c (rsIter (F := F) (Memref.whole cc0_stg0_0) (Memref.whole cc0_stg1_0) (Memref.whole cc0_stg2_0) (Memref.whole cc0_stg3_0)
          (Memref.whole cc0_stg4_0) (bufM false) (bufM_whole false) (bufM true) (bufM_whole true) (rsS false) (rsR false) (rsS true) (rsR true)
          c (wld I c) s (gP I (s.val + 1) c))
        (fun g => iprop(⌜g = gP I (s.val + 2) c⌝ ∗ St c (8 + 8 * (s.val + 1)) (8 * (s.val + 1)) ∗ slots c (s.val + 1) ∗ Inp I c)) := by
  iintro ⟨#HE, HS, Hsl, HI⟩
  unfold rsIter
  iapply (step (ch_blk I K c s 0)) $$ [HS Hsl]
  · isplitr; · iexact HE
    isplitl [HS]; · iexact HS
    iapply (Entails.of_eq (show slots (F := F) c (s.val) = sl c s.val 0 from rfl)); iexact Hsl
  iintro %r ⟨HS, Hsl⟩
  iapply (step (ld_blk I c false s.succ.succ)) $$ HI
  iintro %t ⟨%ht, HI⟩
  iapply (step (ld_blk I c true s.succ.succ)) $$ HI
  iintro %b ⟨%hb, HI⟩
  iapply (step (ch_blk I K c s 1)) $$ [HS Hsl]
  · isplitr; · iexact HE
    isplitl [HS]; · iexact HS
    iapply (Entails.of_eq (show slots (F := F) c (s.val + 1) = sl c s.val 1 from rfl)); iexact Hsl
  iintro %r ⟨HS, Hsl⟩
  iapply (step (ch_blk I K c s 2)) $$ [HS Hsl]
  · isplitr; · iexact HE
    isplitl [HS]; · iexact HS
    iapply (Entails.of_eq (show slots (F := F) c (s.val + 1) = sl c s.val 2 from rfl)); iexact Hsl
  iintro %r ⟨HS, Hsl⟩
  iapply (step (ch_blk I K c s 3)) $$ [HS Hsl]
  · isplitr; · iexact HE
    isplitl [HS]; · iexact HS
    iapply (Entails.of_eq (show slots (F := F) c (s.val + 1) = sl c s.val 3 from rfl)); iexact Hsl
  iintro %r ⟨HS, Hsl⟩
  iapply (wp_pure_intro (c := c))
  isplitr
  · ipureintro
    have hs : stp (s.val + 2) = s.succ.succ := Fin.ext (by
      have := s.isLt
      show (s.val + 2) % 8 = s.val + 1 + 1; omega)
    subst ht hb
    unfold gP; rw [hs]
  isplitl [HS]; · iexact HS
  isplitl [Hsl] <;> iassumption

/-- One chunk of the last step. -/
theorem fin_ch (c : Dev nD) (ch : Fin 4) :
    iprop(Env I K ∗ St c 56 (48 + 2 * ch.val) ∗ sl c 6 ch ∗ pcE outM c (oSet false ch c) ∗ pcE outM c (oSet true ch c))
      ⊢ WP c (finCh (F := F) outM (Memref.isWhole_whole _) (bufM false) (bufM_whole false) (bufM true) (bufM_whole true) (rsR false) (rsR true)
          c (gP I 7 c) ch)
        (fun _ => iprop((St c 56 (48 + 2 * ch.val + 2) ∗ slots c 7)
          ∗ (pcE (bufM false) c (pieceSet (dstSlot 6) ch) ∗ pc outM c (oSet false ch c) fullShare (outV I))
          ∗ (pcE (bufM true) c (pieceSet (dstSlot 6) ch) ∗ pc outM c (oSet true ch c) fullShare (outV I)))) := by
  obtain ⟨RY, hY⟩ := rsY 6 ch
  have hY' := (drop_step hY).1
  iintro ⟨#HE, HS, Hsl, Ho1, Ho2⟩
  unfold finCh
  iapply (step (wait_rs I K c false ch 6 hY rsLv6)) $$ [HS]
  · isplitr; · iexact HE
    iexact HS
  iintro %r ⟨HS, Ha, Hc⟩
  iapply (step (wait_rs I K c true ch 6 hY' rsLv6)) $$ [HS]
  · isplitr; · iexact HE
    iexact HS
  iintro %r ⟨HS, Hb, -⟩
  ihave Hk := (keep_ch c 6 ch) $$ [Hsl Hc]
  · isplitl [Hsl]; · iexact Hsl
    iexact Hc
  icases Hk with ⟨Hsl, -⟩
  iapply (step (fin_blk I c false ch)) $$ [Ha Ho1]
  · isplitl [Ha] <;> iassumption
  iintro %r Ha
  iapply (last (fin_blk I c true ch)) $$ [Hb Ho2]
  · isplitl [Hb] <;> iassumption
  iintro %r Hb
  isplitl [HS Hsl]
  · isplitl [HS]; · iexact HS
    iexact Hsl
  isplitl [Ha] <;> iassumption

/-! ## The loops of copies and waits -/

theorem rs0 (l : Bool) (n : ℕ) (x : Fin 4) (h : [0, 1, 2, 3][n]? = some x) :
    ∃ R, allX.drop ((if l then 4 else 0) + n) = .inl (l, x, 0) :: R := by
  refine prefix_step (L := [0, 1, 2, 3].map fun ch => .inl (l, ch, 0)) (R₀ := allX.drop ((if l then 4 else 0) + 4)) ?_ (by
    rw [List.getElem?_map, h]; rfl)
  revert l; decide +kernel

/-- The first hops of ring `l`. -/
theorem first_hops (c : Dev nD) (l : Bool) :
    iprop((Env I K ∗ St c ((if l then 4 else 0) + 0) 0) ∗ lsep [0, 1, 2, 3] fun ch =>
        iprop(pc (bufM l) c (pieceSet 7 ch) fullShare (accB I l c) ∗ cr l ch (back 0 c) 0))
      ⊢ WP c (seqP ([0, 1, 2, 3].map fun ch => sendRS (F := F) l (bufM_whole l) (rsS l) (rsR l) c ch 0))
        (fun _ => St c ((if l then 4 else 0) + 4) 0) := by
  refine (seq_loop c (fun ch => sendRS (F := F) l (bufM_whole l) (rsS l) (rsR l) c ch 0)
    (fun ch => iprop(pc (bufM l) c (pieceSet 7 ch) fullShare (accB I l c) ∗ cr l ch (back 0 c) 0)) (fun _ => iprop(emp)) [0, 1, 2, 3]
    (fun n => iprop(Env I K ∗ St c ((if l then 4 else 0) + n) 0)) fun n x hx => ?_).trans (wp_mono' c fun _ => ?_)
  · obtain ⟨R, hR⟩ := rs0 l n x hx
    iintro ⟨⟨#HE, HS⟩, Hp, Hc⟩
    iapply (last (send_rs I K c l x 0 hR)) $$ [HS Hp Hc]
    · isplitr; · iexact HE
      isplitl [HS]; · iexact HS
      isplitl [Hp]; · iexact Hp
      iexact Hc
    iintro %r HS
    isplitl
    · isplitr; · iexact HE
      iexact HS
    iempintro
  · iintro ⟨⟨-, HS⟩, -⟩; iexact HS

/-- The copies of a phase of the exchange. -/
theorem ag_sends (c : Dev nD) (L : List (Fin 3 × Fin 14)) (i j : ℕ) {R₀ : List X} (h : allX.drop i = L.map .inr ++ R₀) :
    iprop(Env I K ∗ St c i j ∗ lsep L fun tk => iprop(sendPay I c (.inr tk) ∗ slotPts (partner tk.1 tk.2 c) tk))
      ⊢ WP c (seqP (L.map (sendAG (F := F) (a := outM) (Memref.isWhole_whole _) cc0_scratch6 cc0_scratch7 c)))
        (fun _ => St c (i + L.length) j) := by
  have := (seq_loop c (sendAG (F := F) (a := outM) (Memref.isWhole_whole _) cc0_scratch6 cc0_scratch7 c)
    (fun tk => iprop(sendPay I c (.inr tk) ∗ slotPts (partner tk.1 tk.2 c) tk)) (fun _ => iprop(emp)) L
    (fun n => iprop(Env I K ∗ St c (i + n) j)) fun n x hx => by
      obtain ⟨R, hR⟩ := prefix_step (n := n) (x := .inr x) h (by rw [List.getElem?_map, hx]; rfl)
      iintro ⟨⟨#HE, HS⟩, Hp, Hc⟩
      iapply (last (send_ag I K c x hR)) $$ [HS Hp Hc]
      · isplitr; · iexact HE
        isplitl [HS]; · iexact HS
        isplitl [Hp]; · iapply (Entails.of_eq (sendPay_ag I c x.1 x.2)); iexact Hp
        iexact Hc
      iintro %r HS
      isplitl
      · isplitr; · iexact HE
        iexact HS
      iempintro)
  iintro ⟨#HE, HS, HL⟩
  iapply (last this) $$ [HS HL]
  · isplitl [HS]
    · isplitr; · iexact HE
      iexact HS
    iexact HL
  iintro %r ⟨⟨-, HS⟩, -⟩
  iexact HS

/-- The arrivals of a phase of the exchange. -/
theorem ag_waits (c : Dev nD) (L : List (Fin 3 × Fin 14)) (i j : ℕ) {R₀ : List X} (h : allY.drop j = L.map .inr ++ R₀)
    (hlv : ∀ x ∈ L, ∀ z ∈ allX.drop i, 9 + (phaseOf x.2).val < lvl z) :
    iprop(Env I K ∗ St c i j)
      ⊢ WP c (seqP (L.map (waitAG (F := F) (a := outM) (Memref.isWhole_whole _) cc0_scratch7 c)))
        (fun _ => iprop(St c i (j + L.length) ∗ lsep L fun tk => recvPay I c (.inr tk))) := by
  have := (seq_loop c (waitAG (F := F) (a := outM) (Memref.isWhole_whole _) cc0_scratch7 c)
    (fun tk => iprop(emp)) (fun tk => recvPay I c (.inr tk)) L
    (fun n => iprop(Env I K ∗ St c i (j + n))) fun n x hx => by
      obtain ⟨R, hR⟩ := prefix_step (n := n) (x := .inr x) h (by rw [List.getElem?_map, hx]; rfl)
      iintro ⟨⟨#HE, HS⟩, -⟩
      iapply (last (wait_ag I K c x hR (hlv x (List.mem_of_getElem? hx)))) $$ [HS]
      · isplitr; · iexact HE
        iexact HS
      iintro %r ⟨HS, Hp⟩
      isplitl [HS]
      · isplitr; · iexact HE
        iexact HS
      iapply (Entails.of_eq (recvPay_ag I c x.1 x.2).symm); iexact Hp)
  iintro ⟨#HE, HS⟩
  iapply (last this) $$ [HS]
  · isplitl [HS]
    · isplitr; · iexact HE
      iexact HS
    iapply (lsep_emp L); iempintro
  iintro %r ⟨⟨-, HS⟩, HL⟩
  isplitl [HS] <;> iassumption

/-- The departures of the exchange. -/
theorem ag_gone (c : Dev nD) (L : List (Fin 3 × Fin 14)) (i : ℕ) {R₀ : List X} (h : allX.drop i = L.map .inr ++ R₀) :
    iprop(Env I K ∗ Fin' c i)
      ⊢ WP c (seqP (L.map (waitAG (F := F) (a := outM) (Memref.isWhole_whole _) cc0_scratch6 c)))
        (fun _ => iprop(Fin' c (i + L.length) ∗ lsep L fun tk => sendPay I c (.inr tk))) := by
  have := (seq_loop c (waitAG (F := F) (a := outM) (Memref.isWhole_whole _) cc0_scratch6 c)
    (fun tk => iprop(emp)) (fun tk => sendPay I c (.inr tk)) L
    (fun n => iprop(Env I K ∗ Fin' c (i + n))) fun n x hx => by
      obtain ⟨R, hR⟩ := prefix_step (n := n) (x := .inr x) h (by rw [List.getElem?_map, hx]; rfl)
      iintro ⟨⟨#HE, HS⟩, -⟩
      iapply (last (wait_ag_gone I K c x hR)) $$ [HS]
      · isplitr; · iexact HE
        iexact HS
      iintro %r ⟨HS, Hp⟩
      isplitl [HS]
      · isplitr; · iexact HE
        iexact HS
      iapply (Entails.of_eq (sendPay_ag I c x.1 x.2).symm); iexact Hp)
  iintro ⟨#HE, HS⟩
  iapply (last this) $$ [HS]
  · isplitl [HS]
    · isplitr; · iexact HE
      iexact HS
    iapply (lsep_emp L); iempintro
  iintro %r ⟨⟨-, HS⟩, HL⟩
  isplitl [HS] <;> iassumption

/-- The departures of the rings. -/
theorem rs_gone (c : Dev nD) :
    iprop(Env I K ∗ Fin' c 0)
      ⊢ WP c (seqP (rsList.map (waitSent (F := F) (bufM false) (bufM_whole false) (bufM true) (bufM_whole true) (rsS false) (rsS true))))
        (fun _ => iprop(Fin' c 56 ∗ lsep rsList fun x => sendPay I c (.inl x))) := by
  have := (seq_loop c (waitSent (F := F) (bufM false) (bufM_whole false) (bufM true) (bufM_whole true) (rsS false) (rsS true))
    (fun tk => iprop(emp)) (fun x => sendPay I c (.inl x)) rsList
    (fun n => iprop(Env I K ∗ Fin' c (0 + n))) fun n x hx => by
      obtain ⟨R, hR⟩ := prefix_step (l := allX) (n := n) (x := .inl x) (L := rsList.map .inl) (R₀ := agAll.map .inr) (i := 0) rfl
        (by rw [List.getElem?_map, hx]; rfl)
      obtain ⟨l, ch, hop⟩ := x
      iintro ⟨⟨#HE, HS⟩, -⟩
      have hw : waitSent (F := F) (bufM false) (bufM_whole false) (bufM true) (bufM_whole true) (rsS false) (rsS true) (l, ch, hop)
          = waitRS (F := F) (bufM_whole l) (rsS l) ch hop := by cases l <;> rfl
      rw [hw]
      iapply (last (wait_rs_gone I K c l ch hop hR)) $$ [HS]
      · isplitr; · iexact HE
        iexact HS
      iintro %r ⟨HS, Hp⟩
      isplitl [HS]
      · isplitr; · iexact HE
        iexact HS
      iapply (Entails.of_eq (sendPay_rs I c l ch hop).symm); iexact Hp)
  iintro ⟨#HE, HS⟩
  iapply (last this) $$ [HS]
  · isplitl [HS]
    · isplitr; · iexact HE
      iexact HS
    iapply (lsep_emp rsList); iempintro
  iintro %r ⟨⟨-, HS⟩, HL⟩
  isplitl [HS]; · iapply (Entails.of_eq (congrArg (Fin' (F := F) c) (show 0 + rsList.length = 56 from rfl))); iexact HS
  iexact HL

/-- The chunks of the last step. -/
theorem fin_chs (c : Dev nD) :
    iprop(Env I K ∗ St c 56 48 ∗ slots c 6 ∗ lsep [0, 1, 2, 3] fun ch => iprop(pcE outM c (oSet false ch c) ∗ pcE outM c (oSet true ch c)))
      ⊢ WP c (seqP ([0, 1, 2, 3].map (finCh (F := F) outM (Memref.isWhole_whole _) (bufM false) (bufM_whole false) (bufM true) (bufM_whole true)
          (rsR false) (rsR true) c (gP I 7 c))))
        (fun _ => iprop(St c 56 56 ∗ slots c 7 ∗ lsep [0, 1, 2, 3] fun ch =>
          iprop((pcE (bufM false) c (pieceSet (dstSlot 6) ch) ∗ pc outM c (oSet false ch c) fullShare (outV I))
            ∗ (pcE (bufM true) c (pieceSet (dstSlot 6) ch) ∗ pc outM c (oSet true ch c) fullShare (outV I))))) := by
  have := (seq_loop c (finCh (F := F) outM (Memref.isWhole_whole _) (bufM false) (bufM_whole false) (bufM true) (bufM_whole true)
          (rsR false) (rsR true) c (gP I 7 c))
    (fun ch => iprop(pcE outM c (oSet false ch c) ∗ pcE outM c (oSet true ch c)))
    (fun ch => iprop((pcE (bufM false) c (pieceSet (dstSlot 6) ch) ∗ pc outM c (oSet false ch c) fullShare (outV I))
            ∗ (pcE (bufM true) c (pieceSet (dstSlot 6) ch) ∗ pc outM c (oSet true ch c) fullShare (outV I)))) [0, 1, 2, 3]
    (fun n => iprop(Env I K ∗ St c 56 (48 + 2 * n) ∗ slots c (if n = 0 then 6 else 7))) fun n x hx => by
      have hn : n = x.val := by
        obtain ⟨hn, rfl⟩ := List.getElem?_eq_some_iff.mp hx
        match n, hn with
        | 0, _ => rfl
        | 1, _ => rfl
        | 2, _ => rfl
        | 3, _ => rfl
      have hs : sl (F := F) c 6 x = slots c (if n = 0 then 6 else 7) := by
        unfold sl; rw [hn]
        exact congrArg (slots c) (if_congr Fin.ext_iff rfl rfl)
      subst hn
      rw [← hs]
      iintro ⟨⟨#HE, HS, Hsl⟩, Ho1, Ho2⟩
      iapply (last (fin_ch I K c x)) $$ [HS Hsl Ho1 Ho2]
      · isplitr; · iexact HE
        isplitl [HS]; · iexact HS
        isplitl [Hsl]; · iexact Hsl
        isplitl [Ho1] <;> iassumption
      iintro %r ⟨⟨HS, Hsl⟩, Hp⟩
      isplitl [HS Hsl]
      · isplitr; · iexact HE
        isplitl [HS]; · iexact HS
        rw [if_neg (Nat.succ_ne_zero _)]; iexact Hsl
      iexact Hp)
  iintro ⟨#HE, HS, Hsl, HL⟩
  iapply (last this) $$ [HS Hsl HL]
  · isplitl [HS Hsl]
    · isplitr; · iexact HE
      isplitl [HS]; · iexact HS
      iexact Hsl
    iexact HL
  iintro %r ⟨⟨-, HS, Hsl⟩, HL⟩
  isplitl [HS]; · iexact HS
  isplitl [Hsl]; · iexact Hsl
  iexact HL

end Cert.KernelIdeal.Canon
-- ==== Proof.Share.lean ====
/- How the buffers are divided and put together again, and how the exchange shares its parts. -/
module

public import proofs.«01_k».proof.Proof.Blocks

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cl → ℕ)

omit [FloatOps F] in
theorem eqv {P Q : sProp 𝕄} (h : P ⊣⊢ Q) : P = Q := equiv_iff.mp ⟨h.1, h.2⟩

/-! ## The exchange's parts -/

/-- Track `t` and half `b`, in some order. -/
def tbs : List (Fin 3 × Bool) := [0, 1, 2].map (fun t => (t, false)) ++ [0, 1, 2].map (fun t => (t, true))
/-- Copy number `n` or `n + 1` of a track, by half. -/
def kk (n : Fin 14) (tb : Fin 3 × Bool) : Fin 3 × Fin 14 := (tb.1, if tb.2 then n + 1 else n)
/-- A device's own track. -/
def own (c : Dev nD) (tb : Fin 3 × Bool) : sProp 𝕄 := pc outM c (trkSet c tb.2 tb.1) fullShare (outV I)

/-- A part sent out. -/
abbrev sP (c : Dev nD) (tk : Fin 3 × Fin 14) : sProp 𝕄 := sendPay I c (.inr tk)
/-- A part received. -/
abbrev rP (c : Dev nD) (tk : Fin 3 × Fin 14) : sProp 𝕄 := recvPay I c (.inr tk)

theorem own_set : ∀ (c : Dev nD) (t : Fin 3) (k : Fin 14), (k.val < 4 ∨ k.val = 6 ∨ k.val = 7) → ownerOf t k c = c := by decide +kernel
theorem fwd_set : ∀ (c : Dev nD) (t : Fin 3) (b : Bool),
    (ownerOf t (kk 4 (t, b)).2 c = ownerOf t (kk 0 (t, b)).2 (partner t (kk 0 (t, b)).2 c) ∧ half (kk 4 (t, b)).2 = half (kk 0 (t, b)).2)
    ∧ (ownerOf t (kk 8 (t, b)).2 c = ownerOf t (kk 0 (t, b)).2 (partner t (kk 0 (t, b)).2 c) ∧ half (kk 8 (t, b)).2 = half (kk 0 (t, b)).2)
    ∧ (ownerOf t (kk 10 (t, b)).2 c = ownerOf t (kk 2 (t, b)).2 (partner t (kk 2 (t, b)).2 c) ∧ half (kk 10 (t, b)).2 = half (kk 2 (t, b)).2)
    ∧ (ownerOf t (kk 12 (t, b)).2 c = ownerOf t (kk 4 (t, b)).2 (partner t (kk 4 (t, b)).2 c) ∧ half (kk 12 (t, b)).2 = half (kk 4 (t, b)).2) := by
  decide +kernel
theorem kk_half : ∀ (n : Fin 3) (t : Fin 3) (b : Bool), half (kk (if n = 0 then 0 else if n = 1 then 2 else 6) (t, b)).2 = b
    ∧ ((kk (if n = 0 then 0 else if n = 1 then 2 else 6) (t, b)).2.val < 4 ∨ (kk (if n = 0 then 0 else if n = 1 then 2 else 6) (t, b)).2.val = 6
      ∨ (kk (if n = 0 then 0 else if n = 1 then 2 else 6) (t, b)).2.val = 7) := by decide +kernel

theorem set_own (c : Dev nD) (n : Fin 3) (t : Fin 3) (b : Bool) :
    agSet t (kk (if n = 0 then 0 else if n = 1 then 2 else 6) (t, b)).2 c = trkSet c b t := by
  rw [agSet_eq, own_set c t _ (kk_half n t b).2, (kk_half n t b).1]

/-- A device sends its own track three times. -/
theorem own_eq (c : Dev nD) (tb : Fin 3 × Bool) : own I c tb = iprop(sP I c (kk 0 tb) ∗ sP I c (kk 2 tb) ∗ sP I c (kk 6 tb)) := by
  obtain ⟨t, b⟩ := tb
  have e (n : Fin 3) (q) (hq : qk (kk (if n = 0 then 0 else if n = 1 then 2 else 6) (t, b)).2 = q) :
      sP I c (kk (if n = 0 then 0 else if n = 1 then 2 else 6) (t, b)) = pc outM c (trkSet c b t) q (outV I) := by
    show pc outM c (agSet t (kk _ (t, b)).2 c) (qk (kk _ (t, b)).2) (outV I) = _
    rw [set_own, hq]
  have e0 := e 0 fullShare.left (by cases b <;> rfl)
  have e1 := e 1 fullShare.right.left (by cases b <;> rfl)
  have e2 := e 2 fullShare.right.right (by cases b <;> rfl)
  rw [if_pos rfl] at e0
  rw [if_neg (by decide), if_pos rfl] at e1
  rw [if_neg (by decide), if_neg (by decide)] at e2
  rw [e0, e1, e2, ← eqv (pc_halves outM c (trkSet c b t) (fullShare : PosShare TreeShare).right (outV I)),
    ← eqv (pc_halves outM c (trkSet c b t) fullShare (outV I))]
  rfl

theorem fwd_part (c : Dev nD) (t : Fin 3) (k k' : Fin 14) (q) (h : ownerOf t k c = ownerOf t k' (partner t k' c) ∧ half k = half k') (hq : qk k = q) :
    sP I c (t, k) = pc outM c (agSet t k' (partner t k' c)) q (outV I) := by
  show pc outM c (agSet t k c) (qk k) (outV I) = _
  rw [agSet_eq, agSet_eq, h.1, h.2, hq]

/-- A part of the first phase is passed on twice. -/
theorem recv0_eq (c : Dev nD) (tb : Fin 3 × Bool) : rP I c (kk 0 tb) = iprop(sP I c (kk 4 tb) ∗ sP I c (kk 8 tb)) := by
  obtain ⟨t, b⟩ := tb
  rw [show kk 4 (t, b) = (t, (kk 4 (t, b)).2) from rfl, show kk 8 (t, b) = (t, (kk 8 (t, b)).2) from rfl,
    fwd_part I c t _ _ fullShare.left (fwd_set c t b).1 (by cases b <;> rfl),
    fwd_part I c t _ _ fullShare.right (fwd_set c t b).2.1 (by cases b <;> rfl),
    ← eqv (pc_halves outM c _ fullShare (outV I))]
  rfl
/-- The parts of the second phase are passed on once. -/
theorem recv2_eq (c : Dev nD) (tb : Fin 3 × Bool) : rP I c (kk 2 tb) = sP I c (kk 10 tb) := by
  obtain ⟨t, b⟩ := tb
  rw [show kk 10 (t, b) = (t, (kk 10 (t, b)).2) from rfl, fwd_part I c t _ _ fullShare (fwd_set c t b).2.2.1 (by cases b <;> rfl)]
  rfl
theorem recv4_eq (c : Dev nD) (tb : Fin 3 × Bool) : rP I c (kk 4 tb) = sP I c (kk 12 tb) := by
  obtain ⟨t, b⟩ := tb
  rw [show kk 12 (t, b) = (t, (kk 12 (t, b)).2) from rfl, fwd_part I c t _ _ fullShare (fwd_set c t b).2.2.2 (by cases b <;> rfl)]
  rfl

omit [FloatOps F] in
theorem ag0 (Φ : Fin 3 × Fin 14 → sProp 𝕄) : lsep (agList 0) Φ = lsep tbs fun tb => Φ (kk 0 tb) := by
  rw [lsep_perm (show (agList 0).Perm (tbs.map (kk 0)) by decide +kernel), lsep_map]
omit [FloatOps F] in
theorem ag1 (Φ : Fin 3 × Fin 14 → sProp 𝕄) : lsep (agList 1) Φ = iprop((lsep tbs fun tb => Φ (kk 2 tb)) ∗ lsep tbs fun tb => Φ (kk 4 tb)) := by
  rw [lsep_perm (show (agList 1).Perm (tbs.map (kk 2) ++ tbs.map (kk 4)) by decide +kernel), lsep_append, lsep_map, lsep_map]
omit [FloatOps F] in
theorem ag2 (Φ : Fin 3 × Fin 14 → sProp 𝕄) : lsep (agList 2) Φ = iprop((lsep tbs fun tb => Φ (kk 6 tb)) ∗ (lsep tbs fun tb => Φ (kk 8 tb))
    ∗ (lsep tbs fun tb => Φ (kk 10 tb)) ∗ lsep tbs fun tb => Φ (kk 12 tb)) := by
  rw [lsep_perm (show (agList 2).Perm (tbs.map (kk 6) ++ (tbs.map (kk 8) ++ (tbs.map (kk 10) ++ tbs.map (kk 12)))) by decide +kernel),
    lsep_append, lsep_append, lsep_append, lsep_map, lsep_map, lsep_map, lsep_map]
omit [FloatOps F] in
theorem agAll_eq (Φ : Fin 3 × Fin 14 → sProp 𝕄) : lsep agAll Φ = iprop((lsep (agList 0) Φ ∗ lsep (agList 1) Φ) ∗ lsep (agList 2) Φ) := by
  unfold agAll; rw [lsep_append, lsep_append]

theorem own_list (c : Dev nD) : lsep tbs (own I c)
    = iprop((lsep tbs fun tb => sP I c (kk 0 tb)) ∗ (lsep tbs fun tb => sP I c (kk 2 tb)) ∗ lsep tbs fun tb => sP I c (kk 6 tb)) := by
  rw [← lsep_sep, ← lsep_sep]; exact congrArg (lsep tbs) (funext fun tb => own_eq I c tb)
theorem recv0_list (c : Dev nD) : lsep (agList 0) (rP I c)
    = iprop((lsep tbs fun tb => sP I c (kk 4 tb)) ∗ lsep tbs fun tb => sP I c (kk 8 tb)) := by
  rw [ag0, ← lsep_sep]; exact congrArg (lsep tbs) (funext fun tb => recv0_eq I c tb)
theorem recv1_list (c : Dev nD) : lsep (agList 1) (rP I c)
    = iprop((lsep tbs fun tb => sP I c (kk 10 tb)) ∗ lsep tbs fun tb => sP I c (kk 12 tb)) := by
  rw [ag1, show (fun tb => rP I c (kk 2 tb)) = fun tb => sP I c (kk 10 tb) from funext fun tb => recv2_eq I c tb,
    show (fun tb => rP I c (kk 4 tb)) = fun tb => sP I c (kk 12 tb) from funext fun tb => recv4_eq I c tb]

/-! ## The result's buffer -/

theorem list3 : ([0, 1, 2] : List (Fin 3)).Nodup ∧ ∀ x : Fin 3, x ∈ ([0, 1, 2] : List (Fin 3)) := by decide
theorem list4 : ([0, 1, 2, 3] : List (Fin 4)).Nodup ∧ ∀ x : Fin 4, x ∈ ([0, 1, 2, 3] : List (Fin 4)) := by decide

/-- A device's chunks make its slab, and so do its tracks. -/
theorem slab_chunks (c : Dev nD) (l : Bool) :
    (lsep [0, 1, 2, 3] fun ch => pc outM c (oSet l ch c) fullShare (outV I)) = pc outM c (slabSet l c) fullShare (outV I) := by
  rw [lsep_univ list4.1 list4.2]
  exact (eqv (pc_blocks outM c (fun ch => oSet l ch c) (chunk_disj l c) fullShare (outV I) _ (chunk_cover l c))).symm
omit [FloatOps F] in
theorem slab_chunksE [FloatOps F] (c : Dev nD) (l : Bool) :
    (lsep [0, 1, 2, 3] fun ch => pcE (F := F) outM c (oSet l ch c)) = pcE outM c (slabSet l c) := by
  rw [lsep_univ list4.1 list4.2]
  exact (eqv (pcE_blocks outM c (fun ch => oSet l ch c) (chunk_disj l c) _ (chunk_cover l c))).symm
theorem slab_tracks (c : Dev nD) (l : Bool) :
    (lsep [0, 1, 2] fun t => own I c (t, l)) = pc outM c (slabSet l c) fullShare (outV I) := by
  rw [lsep_univ list3.1 list3.2]
  refine (eqv (pc_blocks outM c (fun t => trkSet c l t) (fun t t' h => ?_) fullShare (outV I) _ (trk_cover l c))).symm
  exact trk_disj (c, l, t) (c, l, t') fun he => h (by simpa using he)
theorem own_slabs (c : Dev nD) : lsep tbs (own I c)
    = iprop(pc outM c (slabSet false c) fullShare (outV I) ∗ pc outM c (slabSet true c) fullShare (outV I)) := by
  unfold tbs; rw [lsep_append, lsep_map, lsep_map, slab_tracks, slab_tracks]

omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

/-- At the start: the parts of the others, and the two slabs. -/
theorem out_split (c : Dev nD) : pcE (F := F) outM c Finset.univ
    = iprop(carry c 0 ∗ pcE outM c (slabSet false c) ∗ pcE outM c (slabSet true c)) := by
  rw [eqv (pcE_blocks outM c (partSet c) (part_disj c) _ (part_cover c)), bigSep_univ_sum, bigSep_bool, carry_zero]
  rfl
/-- At the end the parts make the whole. -/
theorem out_join (c : Dev nD) : pc outM c Finset.univ fullShare (outV I)
    = iprop(lsep agAll (rP I c) ∗ lsep tbs (own I c)) := by
  rw [eqv (pc_blocks outM c (partSet c) (part_disj c) fullShare (outV I) _ (part_cover c)), bigSep_univ_sum, bigSep_bool, own_slabs,
    lsep_univ (by decide +kernel) (fun x => List.contains_iff_mem.1 (mem_agAll x))]
  rfl

/-! ## The rings' buffers -/

/-- A ring's buffer at the start: the slots written by the other device, and the last slot. -/
def inSet : (Fin 4 × Fin 7) ⊕ Unit → Finset S8x64x4096.Idx
  | .inl p => pieceSet (dstSlot p.2) p.1
  | .inr _ => rect7.set
/-- At the end: the sources, and the last arrivals. -/
def endSet : (Fin 4 × Fin 7) ⊕ Fin 4 → Finset S8x64x4096.Idx
  | .inl p => pieceSet (srcSlot p.2) p.1
  | .inr ch => pieceSet (dstSlot 6) ch

theorem dst_inj : ∀ h h' : Fin 7, dstSlot h = dstSlot h' → h = h' := by decide +kernel
theorem src_inj : ∀ h h' : Fin 7, srcSlot h = srcSlot h' → h = h' := by decide +kernel
theorem dst_seven : ∀ h : Fin 7, dstSlot h ≠ 7 := by decide +kernel
theorem src_six : ∀ h : Fin 7, srcSlot h ≠ dstSlot 6 := by decide +kernel
theorem dst_surj : ∀ s : Fin 8, s = 7 ∨ ∃ h : Fin 7, dstSlot h = s := by decide +kernel
theorem src_surj : ∀ s : Fin 8, s = dstSlot 6 ∨ ∃ h : Fin 7, srcSlot h = s := by decide +kernel

theorem seven_disj (p : Fin 4 × Fin 7) : Disjoint (pieceSet (dstSlot p.2) p.1) rect7.set := by
  rw [← rect7_cover, Finset.disjoint_biUnion_right]
  intro ch _
  exact piece_disj (dstSlot p.2, p.1) (7, ch) fun he => dst_seven p.2 (Prod.ext_iff.1 he).1

theorem in_disj : ∀ b b', b ≠ b' → Disjoint (inSet b) (inSet b') := by
  rintro (⟨ch, h⟩ | u) (⟨ch', h'⟩ | u') hne
  · refine piece_disj (dstSlot h, ch) (dstSlot h', ch') fun he => hne ?_
    rw [Prod.mk.injEq] at he
    rw [he.2, dst_inj _ _ he.1]
  · exact seven_disj (ch, h)
  · exact (seven_disj (ch', h')).symm
  · exact absurd rfl hne
theorem in_cover : Finset.univ.biUnion inSet = Finset.univ := by
  ext i
  simp only [Finset.mem_biUnion, Finset.mem_univ, true_and, iff_true]
  have hi : i ∈ (Finset.univ : Finset (Fin 8 × Fin 4)).biUnion (fun p => pieceSet p.1 p.2) := by rw [piece_cover]; exact Finset.mem_univ _
  obtain ⟨⟨s, ch⟩, -, h⟩ := Finset.mem_biUnion.1 hi
  rcases dst_surj s with rfl | ⟨hop, rfl⟩
  · exact ⟨.inr (), by show i ∈ rect7.set; rw [← rect7_cover]; exact Finset.mem_biUnion.2 ⟨ch, Finset.mem_univ _, h⟩⟩
  · exact ⟨.inl (ch, hop), h⟩
theorem end_disj : ∀ b b', b ≠ b' → Disjoint (endSet b) (endSet b') := by
  rintro (⟨ch, h⟩ | u) (⟨ch', h'⟩ | u') hne
  · refine piece_disj (srcSlot h, ch) (srcSlot h', ch') fun he => hne ?_
    rw [Prod.mk.injEq] at he
    rw [he.2, src_inj _ _ he.1]
  · exact piece_disj (srcSlot h, ch) (dstSlot 6, u') fun he => src_six h (Prod.ext_iff.1 he).1
  · exact piece_disj (dstSlot 6, u) (srcSlot h', ch') fun he => src_six h' (Prod.ext_iff.1 he).1.symm
  · exact piece_disj (dstSlot 6, u) (dstSlot 6, u') fun he => hne (congrArg Sum.inr (Prod.ext_iff.1 he).2)
theorem end_cover : Finset.univ.biUnion endSet = Finset.univ := by
  ext i
  simp only [Finset.mem_biUnion, Finset.mem_univ, true_and, iff_true]
  have hi : i ∈ (Finset.univ : Finset (Fin 8 × Fin 4)).biUnion (fun p => pieceSet p.1 p.2) := by rw [piece_cover]; exact Finset.mem_univ _
  obtain ⟨⟨s, ch⟩, -, h⟩ := Finset.mem_biUnion.1 hi
  rcases src_surj s with rfl | ⟨hop, rfl⟩
  · exact ⟨.inr ch, h⟩
  · exact ⟨.inl (ch, hop), h⟩

theorem buf_split (c : Dev nD) (l : Bool) : pcE (F := F) (bufM l) c Finset.univ = iprop(barPay l (bwd l c) ∗ pcE (bufM l) c rect7.set) := by
  rw [eqv (pcE_blocks (bufM l) c inSet in_disj _ in_cover), bigSep_univ_sum]
  unfold barPay
  rw [fwd_bwd, show (bigSep (Finset.univ : Finset Unit) fun b => pcE (F := F) (bufM l) c (inSet (.inr b))) = pcE (bufM l) c rect7.set from
    bigSep_singleton]
  rfl
theorem buf_seven (c : Dev nD) (l : Bool) : pc (bufM l) c rect7.set fullShare (accB I l c)
    = lsep [0, 1, 2, 3] fun ch => pc (bufM l) c (pieceSet 7 ch) fullShare (accB I l c) := by
  rw [lsep_univ list4.1 list4.2]
  refine eqv (pc_blocks (bufM l) c (fun ch => pieceSet 7 ch) (fun t t' h => ?_) fullShare (accB I l c) _ rect7_cover)
  exact piece_disj (7, t) (7, t') fun he => h (Prod.ext_iff.1 he).2
theorem buf_join (c : Dev nD) :
    iprop((lsep rsList fun x => sendPay I c (.inl x)) ∗ (lsep [0, 1, 2, 3] fun ch => pcE (bufM false) c (pieceSet (dstSlot 6) ch))
      ∗ (lsep [0, 1, 2, 3] fun ch => pcE (bufM true) c (pieceSet (dstSlot 6) ch)))
      ⊢ iprop(pcE (F := F) (bufM false) c Finset.univ ∗ pcE (F := F) (bufM true) c Finset.univ) := by
  have h1 : (lsep rsList fun x => sendPay I c (.inl x)) ⊢ lsep rsList fun x => pcE (F := F) (bufM x.1) c (pieceSet (srcSlot x.2.2) x.2.1) :=
    lsep_mono rsList fun x => pc_forget (bufM x.1) c _ _
  have h2 : (lsep rsList fun x => pcE (F := F) (bufM x.1) c (pieceSet (srcSlot x.2.2) x.2.1))
      = iprop((bigSep Finset.univ fun p : Fin 4 × Fin 7 => pcE (F := F) (bufM false) c (pieceSet (srcSlot p.2) p.1))
        ∗ bigSep Finset.univ fun p : Fin 4 × Fin 7 => pcE (F := F) (bufM true) c (pieceSet (srcSlot p.2) p.1)) := by
    rw [lsep_univ (by decide +kernel) (fun x => List.contains_iff_mem.1 (mem_rsList x)), bigSep_univ_prod, bigSep_bool]
  have h3 (l : Bool) : pcE (F := F) (bufM l) c Finset.univ = iprop((bigSep Finset.univ fun p : Fin 4 × Fin 7 => pcE (F := F) (bufM l) c (pieceSet (srcSlot p.2) p.1))
      ∗ lsep [0, 1, 2, 3] fun ch => pcE (F := F) (bufM l) c (pieceSet (dstSlot 6) ch)) := by
    rw [eqv (pcE_blocks (bufM l) c endSet end_disj _ end_cover), bigSep_univ_sum, lsep_univ list4.1 list4.2]
    rfl
  rw [h3 false, h3 true]
  iintro ⟨HS, H1, H2⟩
  ihave HS := (h1.trans (Entails.of_eq h2)) $$ HS
  icases HS with ⟨HS1, HS2⟩
  isplitl [HS1 H1]
  · isplitl [HS1] <;> iassumption
  isplitl [HS2] <;> iassumption

end Cert.KernelIdeal.Canon
-- ==== Proof.Body.lean ====
/- The whole body: from what a device starts with to what it ends with. -/
module

public import proofs.«01_k».proof.Proof.Share

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cl → ℕ)

/-! ## The barrier -/

theorem bar_pay (d : Dev nD) (b : Bool) : barPay b d ⊢ (ringRd I).payload (((d : Dev nD) : Thread nD τ), SemLoc.reg barS.sem) 0 b :=
  Entails.of_eq (payload_bar I d b).symm

/-- The first signal hands the first ring's slots over. -/
theorem sig_prv (c n : Dev nD) (hn : n = prv c) (W : Waits sig Unit) :
    iprop(Env I K ∗ owes (c : Thread nD τ) (O₀ c) W ∗ dutyTok ER (kcell (prv c) none) 0 false ∗ barPay false (prv c))
      ⊢ WP c (semSignalWord (n : Dev nD) barS.sem 1#32)
        (fun _ => owes (c : Thread nD τ) (tal c allX + tallyAt (kcell (nxt c) none) () 1) W) := by
  subst hn
  iintro ⟨#HE, HO, Ht, Hp⟩
  ihave Hi := (Env_inv I K (prv c) none) $$ HE
  icases Hi with ⟨#HI, #HR⟩
  have key := Rounds.wp_signal 𝒱₀ ER (ringRd I) (c : Thread nD τ) none (defs := defs₀ (F := F)) (dst := (prv c : Thread nD τ)) (sem := barS.sem)
      (κ := K (prv c, none)) (r := 0) (d := false) (k := Prog.ret) (Es := Set.univ) (Γ := [])
      (Q := fun _ => owes (c : Thread nD τ) (tal c allX + tallyAt (kcell (nxt c) none) () 1) W)
      (by rw [show (((prv c : Dev nD) : Thread nD τ), SemLoc.reg barS.sem) = kcell (prv c) none from rfl, duties_bar]; exact Finset.mem_univ _)
      (amount_bar I (prv c) false) ()
      (O₀ := O₀ c) (tal c allX + tallyAt (kcell (nxt c) none) () 1) rfl (W := W)
  iapply key $$ [HO Ht Hp]
  · isplitr; · iexact HI
    isplitl [HO]; · iexact HO
    isplitl [Ht]; · iexact Ht
    isplitl [Hp]
    · iapply (bar_pay I (prv c) false); iexact Hp
    iexact HR
  iintro HO
  iapply (wp_pure_intro (c := c) PUnit.unit)
  iexact HO

theorem sig_nxt (c n : Dev nD) (hn : n = nxt c) (W : Waits sig Unit) :
    iprop(Env I K ∗ owes (c : Thread nD τ) (tal c allX + tallyAt (kcell (nxt c) none) () 1) W ∗ dutyTok ER (kcell (nxt c) none) 0 true ∗ barPay true (nxt c))
      ⊢ WP c (semSignalWord (n : Dev nD) barS.sem 1#32)
        (fun _ => owes (c : Thread nD τ) (tal c allX) W) := by
  subst hn
  iintro ⟨#HE, HO, Ht, Hp⟩
  ihave Hi := (Env_inv I K (nxt c) none) $$ HE
  icases Hi with ⟨#HI, #HR⟩
  have key := Rounds.wp_signal 𝒱₀ ER (ringRd I) (c : Thread nD τ) none (defs := defs₀ (F := F)) (dst := (nxt c : Thread nD τ)) (sem := barS.sem)
      (κ := K (nxt c, none)) (r := 0) (d := true) (k := Prog.ret) (Es := Set.univ) (Γ := [])
      (Q := fun _ => owes (c : Thread nD τ) (tal c allX) W)
      (by rw [show (((nxt c : Dev nD) : Thread nD τ), SemLoc.reg barS.sem) = kcell (nxt c) none from rfl, duties_bar]; exact Finset.mem_univ _)
      (amount_bar I (nxt c) true) ()
      (O₀ := tal c allX + tallyAt (kcell (nxt c) none) () 1) (tal c allX) rfl (W := W)
  iapply key $$ [HO Ht Hp]
  · isplitr; · iexact HI
    isplitl [HO]; · iexact HO
    isplitl [Ht]; · iexact Ht
    isplitl [Hp]
    · iapply (bar_pay I (nxt c) true); iexact Hp
    iexact HR
  iintro HO
  iapply (wp_pure_intro (c := c) PUnit.unit)
  iexact HO

theorem bar_lv : ∀ z ∈ allX, 1 < lvl z := by decide +kernel

theorem wait_bar (c : Dev nD) (W : Waits sig Unit) :
    iprop(Env I K ∗ owes (c : Thread nD τ) (tal c allX) W ∗ atPos ER (kcell c none) 0 ∅ 0 ∗ cred (tallyAt (kcell c none) () 2))
      ⊢ WP c (semWaitWord barS.sem 2#32) (fun _ => iprop((Ow c allX ∗ semVal (kcell c none) 0) ∗ barPay false c ∗ barPay true c)) := by
  unfold Ow
  iintro ⟨#HE, HO, Hat, Hcr⟩
  ihave Hi := (Env_inv I K c none) $$ HE
  icases Hi with ⟨#HI, -⟩
  have key := Rounds.wp_wait_rest_token 𝒱₀ ER (ringRd I) (c : Thread nD τ) none (defs := defs₀ (F := F)) (κ := K (c, none))
      (w := .semWait barS.sem (2#32 : BitVec 32).toInt) (sm := csem none) (k' := 2)
      (hw := wpE_semWait_eq 𝒱₀ (c : Thread nD τ) none Set.univ) (Set.mem_univ _) () (O := tal c allX) (W := W) (R := 0) (m := 0) (T := ∅)
      (k := Prog.ret) (Q := fun _ => iprop(((∃ W, owes (c : Thread nD τ) (tal c allX) W) ∗ semVal (kcell c none) 0) ∗ barPay false c ∗ barPay true c))
      (by rw [expect_bar])
  iapply key $$ [Hcr HO Hat]
  · isplitr; · iexact HI
    isplitl [Hcr]; · iexact Hcr
    isplitl [HO]; · iexact HO
    isplitr
    · iapply (mayWait_tal c (csem none) allX (by rw [dec_csem]; exact bar_lv))
      iapply (Env_lev I K); iexact HE
    iexact Hat
  iintro ⟨HO, Hat, -, Hpay⟩
  ihave Hp := (Entails.of_eq (rest_bar I c)) $$ Hpay
  ihave Hc := (Rounds.cell_close ER (ringRd I) (Set.mem_univ (K (c, none))) (fun h => h) (R := 0 + 1) (duties_later I (kcell c none))) $$ [Hat]
  · isplitr; · iexact HI
    iexact Hat
  rw [wp_ret]
  imod Hc
  imodintro
  isplitl [HO Hc]
  · isplitl [HO]
    · iexists (insert (csem none, ()) W); iexact HO
    iexact Hc
  iexact Hp

/-! ## The state -/

/-- The tokens of a copy before the barrier. -/
def T0 (c : Dev nD) (x : X) : sProp 𝕄 :=
  iprop(dutyTok ER (kcell c (some (false, x))) 0 false ∗ dutyTok ER (kcell (dstDev c x) (some (true, x))) 0 false
    ∗ atPos ER (kcell c (some (false, x))) 0 ∅ 0)

omit [FloatOps F] in
theorem dst_list (c : Dev nD) : lsep allX (dstPts (F := F) c) = iprop(barPay false c ∗ barPay true c) := by
  classical
  rw [lsep_univ allX_nodup mem_allX, bigSep_univ_sum, bigSep_univ_prod, bigSep_bool]
  rw [show (bigSep Finset.univ fun b : Fin 3 × Fin 14 => dstPts (F := F) c (.inr b)) = iprop(emp) from bigSep_emp_const _]
  exact sep_emp' _

omit [FloatOps F] in
theorem T1_list (c : Dev nD) : lsep allX (T1 (F := F) c) = iprop(lsep allX (T0 c) ∗ barPay false c ∗ barPay true c) := by
  rw [← dst_list, ← lsep_sep]
  refine congrArg (lsep allX) (funext fun x => eqv ⟨?_, ?_⟩)
  · unfold T1 T0
    iintro ⟨H1, H2, H3, H4⟩
    isplitr [H4]
    · isplitl [H1]; · iexact H1
      isplitl [H2] <;> iassumption
    iexact H4
  · unfold T1 T0
    iintro ⟨⟨H1, H2, H3⟩, H4⟩
    isplitl [H1]; · iexact H1
    isplitl [H2]; · iexact H2
    isplitl [H3] <;> iassumption

theorem St_zero (c : Dev nD) : iprop(Ow (F := F) c allX ∗ (lsep allX (T0 c) ∗ barPay false c ∗ barPay true c) ∗ lsep allY (T2 c)) ⊢ St c 0 0 := by
  unfold St
  rw [List.drop_zero, List.drop_zero, List.take_zero, List.take_zero, lsep_nil, lsep_nil, T1_list]
  iintro ⟨HO, H1, H2⟩
  isplitl [HO]; · iexact HO
  isplitl [H1]; · iexact H1
  isplitl [H2]; · iexact H2
  isplitr <;> iempintro

/-- What a device starts with. -/
def Pre (c : Dev nD) (W : Waits sig Unit) : sProp 𝕄 :=
  iprop(Env I K ∗ owes (c : Thread nD τ) (O₀ c) W ∗ (dutyTok ER (kcell (prv c) none) 0 false ∗ dutyTok ER (kcell (nxt c) none) 0 true
      ∗ atPos ER (kcell c none) 0 ∅ 0 ∗ cred (tallyAt (kcell c none) () 2))
    ∗ lsep allX (T0 c) ∗ lsep allY (T2 c) ∗ Inp I c
    ∗ pcE (bufM false) c Finset.univ ∗ pcE (bufM true) c Finset.univ ∗ pcE outM c Finset.univ)

/-- What it ends with. -/
def Post (c : Dev nD) : sProp 𝕄 :=
  iprop((∃ W, owes (c : Thread nD τ) 0 W) ∗ semVal (kcell c none) 0 ∗ lsep allX (Gone c) ∗ lsep allY (Rcvd c) ∗ Inp I c
    ∗ (pcE (F := F) (bufM false) c Finset.univ ∗ pcE (F := F) (bufM true) c Finset.univ) ∗ pc outM c Finset.univ fullShare (outV I))

theorem lv0 : ∀ x ∈ agList 0, ∀ z ∈ allX.drop 62, 9 + (phaseOf x.2).val < lvl z := by decide +kernel
theorem lv1 : ∀ x ∈ agList 1, ∀ z ∈ allX.drop 74, 9 + (phaseOf x.2).val < lvl z := by decide +kernel
theorem lv2 : ∀ x ∈ agList 2, ∀ z ∈ allX.drop 98, 9 + (phaseOf x.2).val < lvl z := by decide +kernel

omit [FloatOps F] in
theorem cr_emp (l : Bool) (ch : Fin 4) (o : Dev nD) (s : Nat) (h : ¬ (l = false ∧ ch = 0)) : cr (F := F) l ch o s = iprop(emp) := by
  unfold cr; rw [if_neg h]

/-- From the first values to the first hops' operands. -/
theorem hops_pre (c : Dev nD) (l : Bool) :
    iprop(pc (bufM l) c rect7.set fullShare (accB I l c) ∗ cr l 0 (back 0 c) 0)
      ⊢ lsep [0, 1, 2, 3] fun ch => iprop(pc (bufM l) c (pieceSet 7 ch) fullShare (accB I l c) ∗ cr l ch (back 0 c) 0) := by
  rw [buf_seven, lsep_sep]
  refine BI.sep_mono (BI.Entails.refl _) ?_
  rw [lsep_cons, lsep_cons, lsep_cons, lsep_single, cr_emp l 1 _ _ (by simp), cr_emp l 2 _ _ (by simp), cr_emp l 3 _ _ (by simp),
    sep_emp', sep_emp', sep_emp']
  exact BI.Entails.refl _

theorem St_Fin (c : Dev nD) : Fin' (F := F) c 98 ⊢ iprop((∃ W, owes (c : Thread nD τ) 0 W) ∗ lsep allX (Gone c) ∗ lsep allY (Rcvd c)) := by
  unfold Fin' Ow
  rw [show allX.drop 98 = [] from by decide +kernel, show allX.take 98 = allX from by decide +kernel, lsep_nil]
  iintro ⟨HO, -, H1, H2⟩
  isplitl [HO]; · iexact HO
  isplitl [H1] <;> iassumption

/-! ## The body -/

theorem wp_dev (c : Dev nD) : (emp : sProp 𝕄) ⊢ WP (F := F) c (Prog.lift .deviceId) (fun d => iprop(⌜c = d⌝)) := by
  unfold WP Prog.lift
  rw [wp_deviceId]
  iintro -
  iapply (wp_pure_intro (c := c))
  ipureintro; rfl

theorem back_zero : ∀ c : Dev nD, back 0 c = c := by decide +kernel

theorem slab_chunks2 (c : Dev nD) : iprop(pcE (F := F) outM c (slabSet false c) ∗ pcE outM c (slabSet true c))
    = lsep [0, 1, 2, 3] fun ch => iprop(pcE (F := F) outM c (oSet false ch c) ∗ pcE outM c (oSet true ch c)) := by
  rw [lsep_sep, slab_chunksE, slab_chunksE]

theorem fin_list (c : Dev nD) : (lsep [0, 1, 2, 3] fun ch =>
          iprop((pcE (bufM false) c (pieceSet (dstSlot 6) ch) ∗ pc outM c (oSet false ch c) fullShare (outV I))
            ∗ (pcE (bufM true) c (pieceSet (dstSlot 6) ch) ∗ pc outM c (oSet true ch c) fullShare (outV I))))
    = iprop((lsep [0, 1, 2, 3] fun ch => pcE (bufM false) c (pieceSet (dstSlot 6) ch))
      ∗ (lsep [0, 1, 2, 3] fun ch => pcE (bufM true) c (pieceSet (dstSlot 6) ch)) ∗ lsep tbs (own I c)) := by
  rw [lsep_sep, lsep_sep, lsep_sep, slab_chunks, slab_chunks, own_slabs]
  refine eqv ⟨?_, ?_⟩
  · iintro ⟨⟨H1, H2⟩, H3, H4⟩
    isplitl [H1]; · iexact H1
    isplitl [H3]; · iexact H3
    isplitl [H2] <;> iassumption
  · iintro ⟨H1, H3, H2, H4⟩
    isplitl [H1 H2]
    · isplitl [H1] <;> iassumption
    isplitl [H3] <;> iassumption

/-- The sources given back and the last parts received are the whole result. -/
theorem out_back (c : Dev nD) :
    iprop(lsep (agList 0) (sP I c) ∗ lsep (agList 1) (sP I c) ∗ lsep (agList 2) (sP I c) ∗ lsep (agList 2) (rP I c))
      ⊢ pc outM c Finset.univ fullShare (outV I) := by
  rw [out_join, agAll_eq, recv0_list, recv1_list, own_list, ag0 (sP I c), ag1 (sP I c), ag2 (sP I c)]
  iintro ⟨H0, ⟨H2, H4⟩, ⟨H6, H8, H10, H12⟩, HR⟩
  isplitr [H0 H2 H6]
  · isplitr [HR]
    · isplitl [H4 H8]
      · isplitl [H4] <;> iassumption
      isplitl [H10] <;> iassumption
    iexact HR
  isplitl [H0]; · iexact H0
  isplitl [H2] <;> iassumption

/-- The body of a device. -/
theorem canon_wp (c : Dev nD) (W : Waits sig Unit) :
    Pre I K c W ⊢ WP c (canon (F := F) (Memref.whole cc0_stg0_0) (Memref.whole cc0_stg1_0) (Memref.whole cc0_stg2_0) (Memref.whole cc0_stg3_0)
      (Memref.whole cc0_stg4_0) (Memref.whole cc0_stg5_0) outM (Memref.isWhole_whole _) (bufM false) (bufM_whole false) (bufM true) (bufM_whole true)
      (rsS false) (rsR false) (rsS true) (rsR true) cc0_scratch6 cc0_scratch7) (fun _ => Post I c) := by
  unfold Pre
  iintro ⟨#HE, HO, ⟨Ht1, Ht2, Hat, Hcr⟩, HT0, HT2, HI, Hb0, Hb1, Ho⟩
  -- the buffers are divided
  ihave Hb0 := (Entails.of_eq (buf_split c false)) $$ Hb0
  ihave Hb1 := (Entails.of_eq (buf_split c true)) $$ Hb1
  ihave Ho := (Entails.of_eq (out_split c)) $$ Ho
  icases Hb0 with ⟨Hp0, Hb0⟩
  icases Hb1 with ⟨Hp1, Hb1⟩
  icases Ho with ⟨Hcar, Ho0, Ho1⟩
  unfold canon
  iapply (step (wp_dev c)) $$ []
  · iempintro
  iintro %d %hd
  subst hd
  -- the barrier
  iapply (step (sig_prv I K c _ (dev1_eq c) W)) $$ [HO Ht1 Hp0]
  · isplitr; · iexact HE
    isplitl [HO]; · iexact HO
    isplitl [Ht1]; · iexact Ht1
    iexact Hp0
  iintro %r HO
  iapply (step (sig_nxt I K c _ (dev2_eq c) W)) $$ [HO Ht2 Hp1]
  · isplitr; · iexact HE
    isplitl [HO]; · iexact HO
    isplitl [Ht2]; · iexact Ht2
    iexact Hp1
  iintro %r HO
  iapply (step (wait_bar I K c W)) $$ [HO Hat Hcr]
  · isplitr; · iexact HE
    isplitl [HO]; · iexact HO
    isplitl [Hat] <;> iassumption
  iintro %r ⟨⟨HO, Hv⟩, Hbp⟩
  ihave HS := (St_zero c) $$ [HO HT0 Hbp HT2]
  · isplitl [HO]; · iexact HO
    isplitr [HT2]
    · isplitl [HT0]; · iexact HT0
      iexact Hbp
    iexact HT2
  -- the first values
  iapply (step (ld_wo I c)) $$ HI
  iintro %w ⟨%hw, HI⟩
  iapply (step (ld_blk I c false 0)) $$ HI
  iintro %t0 ⟨%ht0, HI⟩
  iapply (step (ld_blk I c true 0)) $$ HI
  iintro %b0 ⟨%hb0, HI⟩
  subst hw ht0 hb0
  iapply (step (st_7 I c false)) $$ Hb0
  iintro %r Hb0
  iapply (step (st_7 I c true)) $$ Hb1
  iintro %r Hb1
  -- the first hops
  ihave Hh0 := (hops_pre I c false) $$ [Hb0 Hcar]
  · isplitl [Hb0]; · iexact Hb0
    iapply (Entails.of_eq (show carry (F := F) c 0 = cr false 0 (back 0 c) 0 by unfold cr; rw [if_pos ⟨rfl, rfl⟩, back_zero c])); iexact Hcar
  ihave Hh1 := (hops_pre I c true) $$ [Hb1]
  · isplitl [Hb1]; · iexact Hb1
    iapply (Entails.of_eq (cr_emp true 0 _ _ (by simp)).symm); iempintro
  iapply (step (first_hops I K c false)) $$ [HS Hh0]
  · isplitr [Hh0]
    · isplitr; · iexact HE
      iexact HS
    iexact Hh0
  iintro %r HS
  iapply (step (first_hops I K c true)) $$ [HS Hh1]
  · isplitr [Hh1]
    · isplitr; · iexact HE
      iexact HS
    iexact Hh1
  iintro %r HS
  -- the rings' steps
  iapply (step (ld_blk I c false 1)) $$ HI
  iintro %t1 ⟨%ht1, HI⟩
  iapply (step (ld_blk I c true 1)) $$ HI
  iintro %b1 ⟨%hb1, HI⟩
  subst ht1 hb1
  ihave Hsl := (slots_zero c) $$ []
  · iempintro
  iapply (step (rs_iter I K c 0)) $$ [HS Hsl HI]
  · isplitr; · iexact HE
    isplitl [HS]; · iexact HS
    isplitl [Hsl]; · iexact Hsl
    iexact HI
  iintro %g ⟨%hg, HS, Hsl, HI⟩
  subst hg
  iapply (step (rs_iter I K c 1)) $$ [HS Hsl HI]
  · isplitr; · iexact HE
    isplitl [HS]; · iexact HS
    isplitl [Hsl]; · iexact Hsl
    iexact HI
  iintro %g ⟨%hg, HS, Hsl, HI⟩
  subst hg
  iapply (step (rs_iter I K c 2)) $$ [HS Hsl HI]
  · isplitr; · iexact HE
    isplitl [HS]; · iexact HS
    isplitl [Hsl]; · iexact Hsl
    iexact HI
  iintro %g ⟨%hg, HS, Hsl, HI⟩
  subst hg
  iapply (step (rs_iter I K c 3)) $$ [HS Hsl HI]
  · isplitr; · iexact HE
    isplitl [HS]; · iexact HS
    isplitl [Hsl]; · iexact Hsl
    iexact HI
  iintro %g ⟨%hg, HS, Hsl, HI⟩
  subst hg
  iapply (step (rs_iter I K c 4)) $$ [HS Hsl HI]
  · isplitr; · iexact HE
    isplitl [HS]; · iexact HS
    isplitl [Hsl]; · iexact Hsl
    iexact HI
  iintro %g ⟨%hg, HS, Hsl, HI⟩
  subst hg
  iapply (step (rs_iter I K c 5)) $$ [HS Hsl HI]
  · isplitr; · iexact HE
    isplitl [HS]; · iexact HS
    isplitl [Hsl]; · iexact Hsl
    iexact HI
  iintro %g ⟨%hg, HS, Hsl, HI⟩
  subst hg
  ihave Hoc := (Entails.of_eq (slab_chunks2 c)) $$ [Ho0 Ho1]
  · isplitl [Ho0] <;> iassumption
  iapply (step (fin_chs I K c)) $$ [HS Hsl Hoc]
  · isplitr; · iexact HE
    isplitl [HS]; · iexact HS
    isplitl [Hsl]; · iexact Hsl
    iexact Hoc
  iintro %r ⟨HS, Hsl, Hfin⟩
  ihave Hfin := (Entails.of_eq (fin_list I c)) $$ Hfin
  icases Hfin with ⟨Hl0, Hl1, Hown⟩
  -- the exchange
  ihave Hown := (Entails.of_eq (own_list I c)) $$ Hown
  icases Hown with ⟨H0, H2, H6⟩
  ihave Hsl := (Entails.of_eq ((slots_seven c).trans (agAll_eq _))) $$ Hsl
  icases Hsl with ⟨⟨Hs0, Hs1⟩, Hs2⟩
  iapply (step (ag_sends I K c (agList 0) 56 56 (R₀ := (agList 1 ++ agList 2).map .inr) rfl)) $$ [HS H0 Hs0]
  · isplitr; · iexact HE
    isplitl [HS]; · iexact HS
    iapply (Entails.of_eq (lsep_sep _ _ _).symm)
    isplitl [H0]; · iapply (Entails.of_eq (ag0 (sP I c)).symm); iexact H0
    iexact Hs0
  iintro %r HS
  iapply (step (ag_waits I K c (agList 0) 62 56 (R₀ := (agList 1 ++ agList 2).map .inr) rfl lv0)) $$ [HS]
  · isplitr; · iexact HE
    iexact HS
  iintro %r ⟨HS, Hr0⟩
  ihave Hr0 := (Entails.of_eq (recv0_list I c)) $$ Hr0
  icases Hr0 with ⟨H4, H8⟩
  iapply (step (ag_sends I K c (agList 1) 62 62 (R₀ := (agList 2).map .inr) rfl)) $$ [HS H2 H4 Hs1]
  · isplitr; · iexact HE
    isplitl [HS]; · iexact HS
    iapply (Entails.of_eq (lsep_sep _ _ _).symm)
    isplitl [H2 H4]
    · iapply (Entails.of_eq (ag1 (sP I c)).symm)
      isplitl [H2] <;> iassumption
    iexact Hs1
  iintro %r HS
  iapply (step (ag_waits I K c (agList 1) 74 62 (R₀ := (agList 2).map .inr) rfl lv1)) $$ [HS]
  · isplitr; · iexact HE
    iexact HS
  iintro %r ⟨HS, Hr1⟩
  ihave Hr1 := (Entails.of_eq (recv1_list I c)) $$ Hr1
  icases Hr1 with ⟨H10, H12⟩
  iapply (step (ag_sends I K c (agList 2) 74 74 (R₀ := []) rfl)) $$ [HS H6 H8 H10 H12 Hs2]
  · isplitr; · iexact HE
    isplitl [HS]; · iexact HS
    iapply (Entails.of_eq (lsep_sep _ _ _).symm)
    isplitr [Hs2]
    · iapply (Entails.of_eq (ag2 (sP I c)).symm)
      isplitl [H6]; · iexact H6
      isplitl [H8]; · iexact H8
      isplitl [H10] <;> iassumption
    iexact Hs2
  iintro %r HS
  iapply (step (ag_waits I K c (agList 2) 98 74 (R₀ := []) rfl lv2)) $$ [HS]
  · isplitr; · iexact HE
    iexact HS
  iintro %r ⟨HS, Hr2⟩
  -- the departures
  have h98 : St (F := F) c 98 (74 + (agList 2).length) ⊢ Fin' c 0 := Fin_of_St c
  ihave HF := h98 $$ HS
  iapply (step (rs_gone I K c)) $$ [HF]
  · isplitr; · iexact HE
    iexact HF
  iintro %r ⟨HF, Hrs⟩
  iapply (step (ag_gone I K c (agList 0) 56 (R₀ := (agList 1 ++ agList 2).map .inr) rfl)) $$ [HF]
  · isplitr; · iexact HE
    iexact HF
  iintro %r ⟨HF, Hg0⟩
  iapply (step (ag_gone I K c (agList 1) 62 (R₀ := (agList 2).map .inr) rfl)) $$ [HF]
  · isplitr; · iexact HE
    iexact HF
  iintro %r ⟨HF, Hg1⟩
  iapply (last (ag_gone I K c (agList 2) 74 (R₀ := []) rfl)) $$ [HF]
  · isplitr; · iexact HE
    iexact HF
  iintro %r ⟨HF, Hg2⟩
  have h98' : Fin' (F := F) c (74 + (agList 2).length) ⊢ iprop((∃ W, owes (c : Thread nD τ) 0 W) ∗ lsep allX (Gone c) ∗ lsep allY (Rcvd c)) := St_Fin c
  ihave HF := h98' $$ HF
  icases HF with ⟨HO, HG, HR⟩
  unfold Post
  isplitl [HO]; · iexact HO
  isplitl [Hv]; · iexact Hv
  isplitl [HG]; · iexact HG
  isplitl [HR]; · iexact HR
  isplitl [HI]; · iexact HI
  isplitl [Hrs Hl0 Hl1]
  · iapply (buf_join I c)
    isplitl [Hrs]; · iexact Hrs
    isplitl [Hl0] <;> iassumption
  iapply (out_back I c)
  isplitl [Hg0]; · iexact Hg0
  isplitl [Hg1]; · iexact Hg1
  isplitl [Hg2]; · iexact Hg2
  iexact Hr2

end Cert.KernelIdeal.Canon
-- ==== Proof.Launch.lean ====
/- The launch: the ghost state of the protocol, dealt to the devices that use it. -/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Cl → ℕ)

/-! ## The kernel's own semaphores -/

/-- The kernel's own semaphores: a departure's and an arrival's for each copy. -/
abbrev osem (k : Bool × X) : SemLoc sig := csem (some k)

theorem dec_stage : ∀ (w : Fin 7) (s : Fin (spec0 w).nbuf), dec (.dma ((spec0 w).sem s)) = none := by decide +kernel
theorem osem_scoped : ∀ k : Bool × X, (osem k).isScoped .tc = true := by decide +kernel

theorem ownSemFacts : Pipeline.OwnSemFacts cfg0.spec osem where
  isScoped := osem_scoped
  inj := fun a b h => Option.some.inj (csem_injective h)
  disj := fun k w s h => by
    have h1 := congrArg dec h
    rw [dec_csem] at h1
    exact absurd (h1.trans (dec_stage w s)) (by simp)

/-! ## Cells and tokens -/

theorem kcell_inj : Function.Injective fun p : Dev nD × Cl => kcell p.1 p.2 := by
  rintro ⟨c, k⟩ ⟨c', k'⟩ h
  have h1 : c = c' := congrArg (fun g : GSem nD τ sig => g.1.1) h
  have h2 : k = k' := csem_injective (congrArg Prod.snd h)
  rw [h1, h2]

/-- All cells. -/
def ringCells : Finset (GSem nD τ sig) := Finset.univ.map ⟨fun p : Dev nD × Cl => kcell p.1 p.2, kcell_inj⟩

/-- The duties of one device's cells: the barrier's two, and one for each departure and arrival. -/
abbrev J := Bool ⊕ (Bool × X)
/-- A duty's cell. -/
def jcl : J → Cl
  | .inl _ => none
  | .inr k => some k
/-- A duty's name. -/
def jd : J → Bool
  | .inl b => b
  | .inr _ => false
theorem j_inj {j j' : J} (h1 : jcl j = jcl j') (h2 : jd j = jd j') : j = j' := by
  rcases j with b | k <;> rcases j' with b' | k'
  · exact congrArg _ h2
  · cases h1
  · cases h1
  · exact congrArg _ (Option.some.inj h1)
/-- A duty's token. -/
abbrev tokOf (p : Dev nD × J) : GSem nD τ sig × ℕ × Bool := (kcell p.1 (jcl p.2), 0, jd p.2)
theorem tokOf_injective : Function.Injective tokOf := by
  rintro ⟨c, j⟩ ⟨c', j'⟩ h
  have h1 := kcell_inj (a₁ := (c, jcl j)) (a₂ := (c', jcl j')) (congrArg Prod.fst h)
  have h2 : jd j = jd j' := congrArg (fun x : GSem nD τ sig × ℕ × Bool => x.2.2) h
  rw [show c = c' from congrArg Prod.fst h1, j_inj (congrArg Prod.snd h1) h2]
/-- All tokens. -/
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf ringCells ringToks)

/-- The tokens of device `c`'s own cells. -/
def toks (c : Dev nD) : sProp 𝕄 := bigSep Finset.univ fun j : J => dutyTok ER (kcell c (jcl j)) 0 (jd j)

/-- What the launch deals device `c`. -/
def G (c : Dev nD) : sProp 𝕄 :=
  iprop((bigSep Finset.univ fun k : Cl => roundState ER (ringRd I) (kcell c k) 0)
    ∗ (bigSep Finset.univ fun k : Cl => iprop(atPos ER (kcell c k) 0 ∅ 0 ∗ reached ER (kcell c k) 0)) ∗ toks c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Cl => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd I) ringCells ringToks) $$ HX with ⟨Hst, Hr, Hat, Htok⟩
  imodintro
  ihave Hst' := (Entails.of_eq (hX fun g => roundState ER (ringRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Invariants -/

omit [FloatOps F] in
theorem sep_comm' (P Q : sProp 𝕄) : BI.sep P Q = BI.sep Q P := eqv ⟨BI.sep_comm, BI.sep_comm⟩
omit [FloatOps F] in
theorem bigSep_cl (Φ : Cl → sProp 𝕄) : bigSep Finset.univ Φ = iprop(Φ none ∗ bigSep Finset.univ fun k : Bool × X => Φ (some k)) := by
  classical
  rw [bigSep_univ_equiv (Equiv.optionEquivSumPUnit (Bool × X)).symm, bigSep_univ_sum]
  have h1 : (bigSep Finset.univ fun b : PUnit.{1} => Φ ((Equiv.optionEquivSumPUnit (Bool × X)).symm (Sum.inr b))) = Φ none := bigSep_singleton
  exact (congrArg (BI.sep _) h1).trans (sep_comm' _ _)
omit [FloatOps F] in
theorem unscopedSems0_eq (c : Dev nD) : (unscopedSems0 c : sProp 𝕄) = semVal (kcell c none) 0 := by
  unfold unscopedSems0; rw [bigSep_eq_bigSepL_of_eq [SemLoc.reg barS.sem] (by decide +kernel) (by decide)]; rfl
/-- The kernel's own semaphores at zero. -/
abbrev own0 (c : Dev nD) : sProp 𝕄 := Pipeline.ownSems0 (Ix := Unit) (Name := ℕ) (U := UU) (Lvl := ℕ) (Val := Elt F) (τ := τ) osem c
omit [FloatOps F] in
theorem sems0_eq (c : Dev nD) : iprop(own0 (F := F) c ∗ unscopedSems0 c) ⊢ (bigSep Finset.univ fun k : Cl => semVal (kcell c k) 0 : sProp 𝕄) := by
  unfold own0 Pipeline.ownSems0
  rw [unscopedSems0_eq, bigSep_cl]
  iintro ⟨HS, HB⟩
  isplitl [HB]; · iexact HB
  iexact HS

theorem core_alloc (c : Dev nD) :
    iprop(own0 (F := F) c ∗ unscopedSems0 c ∗ G I c)
      ⊢ |={Set.univ}=> iprop((bigSep Finset.univ fun k : Cl => iprop(∃ κ : ℕ, cellInv ER (ringRd I) κ (kcell c k)))
          ∗ (bigSep Finset.univ fun k : Cl => iprop(atPos ER (kcell c k) 0 ∅ 0 ∗ reached ER (kcell c k) 0)) ∗ toks c) := by
  classical
  unfold G
  iintro ⟨Hos, Hus, Hst, Hat, Htok⟩
  ihave Hv := (sems0_eq (F := F) c) $$ [Hos Hus]
  · isplitl [Hos] <;> iassumption
  have key : iprop((bigSep Finset.univ fun k : Cl => semVal (kcell c k) 0) ∗ bigSep Finset.univ fun k : Cl => roundState ER (ringRd I) (kcell c k) 0)
      ⊢ (|={Set.univ}=> bigSep Finset.univ fun k : Cl => iprop(∃ κ : ℕ, cellInv ER (ringRd I) κ (kcell c k)) : sProp 𝕄) := by
    rw [← bigSep_sep']
    exact (bigSep_mono fun k _ => (Rounds.body_intro ER (ringRd I) (kcell c k)).trans inv_alloc).trans (bigSep_fupd _ _)
  imod key $$ [Hv Hst] with Hinv
  · isplitl [Hv] <;> iassumption
  imodintro
  isplitl [Hinv]; · iexact Hinv
  isplitl [Hat]; · iexact Hat
  iexact Htok

/-! ## The tokens go to the devices that pay -/

/-- The positions and tokens device `c` runs with. -/
def linear (c : Dev nD) : sProp 𝕄 :=
  iprop((dutyTok ER (kcell (prv c) none) 0 false ∗ dutyTok ER (kcell (nxt c) none) 0 true ∗ atPos ER (kcell c none) 0 ∅ 0)
    ∗ lsep allX (T0 c) ∗ lsep allX fun x => atPos ER (kcell c (some (true, x))) 0 ∅ 0)

theorem prv_nxt' : ∀ c : Dev nD, prv (nxt c) = c := by decide +kernel
theorem nxt_prv' : ∀ c : Dev nD, nxt (prv c) = c := by decide +kernel
theorem src_dst (x : X) (c : Dev nD) : srcDev (dstDev c x) x = c := by
  rcases x with ⟨l, ch, hop⟩ | ⟨t, k⟩
  · cases l
    · exact (by decide +kernel : ∀ c : Dev nD, bwd false (fwd false c) = c) c
    · exact (by decide +kernel : ∀ c : Dev nD, bwd true (fwd true c) = c) c
  · exact partner_partner t k c
theorem dst_src (x : X) (c : Dev nD) : dstDev (srcDev c x) x = c := by
  rcases x with ⟨l, ch, hop⟩ | ⟨t, k⟩
  · cases l
    · exact (by decide +kernel : ∀ c : Dev nD, fwd false (bwd false c) = c) c
    · exact (by decide +kernel : ∀ c : Dev nD, fwd true (bwd true c) = c) c
  · exact partner_partner t k c
/-- The devices moved one step around. -/
def around : Dev nD ≃ Dev nD := ⟨prv, nxt, nxt_prv', prv_nxt'⟩
/-- Each copy moved from where it starts to where it arrives. -/
def travel : Dev nD × X ≃ Dev nD × X :=
  ⟨fun p => (dstDev p.1 p.2, p.2), fun p => (srcDev p.1 p.2, p.2), fun p => Prod.ext (src_dst p.2 p.1) rfl, fun p => Prod.ext (dst_src p.2 p.1) rfl⟩

omit [FloatOps F] in
theorem toks_around :
    iprop((bigSep Finset.univ fun c : Dev nD => toks (F := F) c) ∗ bigSep Finset.univ fun c : Dev nD => bigSep Finset.univ fun k : Cl => (atPos ER (kcell c k) 0 ∅ 0 : sProp 𝕄))
      ⊢ bigSep Finset.univ fun c : Dev nD => linear (F := F) c := by
  classical
  have hT (c : Dev nD) : toks (F := F) c = iprop((dutyTok ER (kcell c none) 0 false ∗ dutyTok ER (kcell c none) 0 true)
      ∗ (bigSep Finset.univ fun x : X => dutyTok ER (kcell c (some (false, x))) 0 false)
      ∗ bigSep Finset.univ fun x : X => dutyTok ER (kcell c (some (true, x))) 0 false) := by
    unfold toks
    rw [bigSep_univ_sum, bigSep_bool, bigSep_univ_prod, bigSep_bool]; rfl
  have hA (c : Dev nD) : (bigSep Finset.univ fun k : Cl => (atPos ER (kcell c k) 0 ∅ 0 : sProp 𝕄)) = iprop(atPos ER (kcell c none) 0 ∅ 0
      ∗ (bigSep Finset.univ fun x : X => atPos ER (kcell c (some (false, x))) 0 ∅ 0)
      ∗ bigSep Finset.univ fun x : X => atPos ER (kcell c (some (true, x))) 0 ∅ 0) := by
    rw [bigSep_cl, bigSep_univ_prod, bigSep_bool]
  have hL (c : Dev nD) : linear (F := F) c = iprop((dutyTok ER (kcell (prv c) none) 0 false ∗ dutyTok ER (kcell (nxt c) none) 0 true ∗ atPos ER (kcell c none) 0 ∅ 0)
      ∗ ((bigSep Finset.univ fun x : X => dutyTok ER (kcell c (some (false, x))) 0 false)
        ∗ (bigSep Finset.univ fun x : X => dutyTok ER (kcell (dstDev c x) (some (true, x))) 0 false)
        ∗ (bigSep Finset.univ fun x : X => atPos ER (kcell c (some (false, x))) 0 ∅ 0))
      ∗ bigSep Finset.univ fun x : X => atPos ER (kcell c (some (true, x))) 0 ∅ 0) := by
    unfold linear T0
    rw [lsep_univ allX_nodup mem_allX, lsep_univ allX_nodup mem_allX, bigSep_sep', bigSep_sep']
  rw [bigSep_congr (s := Finset.univ) (fun (c : Dev nD) _ => hT c), bigSep_congr (s := Finset.univ) (fun (c : Dev nD) _ => hA c),
    bigSep_congr (s := Finset.univ) (fun (c : Dev nD) _ => hL c)]
  simp only [bigSep_sep']
  have h1 : (bigSep Finset.univ fun c : Dev nD => (dutyTok ER (kcell c none) 0 false : sProp 𝕄)) = bigSep Finset.univ fun c : Dev nD => dutyTok ER (kcell (prv c) none) 0 false :=
    bigSep_univ_equiv around fun c : Dev nD => (dutyTok ER (kcell c none) 0 false : sProp 𝕄)
  have h2 : (bigSep Finset.univ fun c : Dev nD => (dutyTok ER (kcell c none) 0 true : sProp 𝕄)) = bigSep Finset.univ fun c : Dev nD => dutyTok ER (kcell (nxt c) none) 0 true :=
    bigSep_univ_equiv around.symm fun c : Dev nD => (dutyTok ER (kcell c none) 0 true : sProp 𝕄)
  have h3 : (bigSep Finset.univ fun c : Dev nD => bigSep Finset.univ fun x : X => (dutyTok ER (kcell c (some (true, x))) 0 false : sProp 𝕄))
      = bigSep Finset.univ fun c : Dev nD => bigSep Finset.univ fun x : X => dutyTok ER (kcell (dstDev c x) (some (true, x))) 0 false := by
    rw [← bigSep_univ_prod (fun p : Dev nD × X => (dutyTok ER (kcell p.1 (some (true, p.2))) 0 false : sProp 𝕄)),
      bigSep_univ_equiv travel (fun p : Dev nD × X => (dutyTok ER (kcell p.1 (some (true, p.2))) 0 false : sProp 𝕄)), bigSep_univ_prod]
    rfl
  rw [h1, h2, h3]
  iintro ⟨⟨⟨Ha, Hb⟩, Hc, Hd⟩, He, Hf, Hg⟩
  isplitl [Ha Hb He]
  · isplitl [Ha]; · iexact Ha
    isplitl [Hb]; · iexact Hb
    iexact He
  isplitl [Hc Hd Hf]
  · isplitl [Hc]; · iexact Hc
    isplitl [Hd]; · iexact Hd
    iexact Hf
  iexact Hg

/-- What every device knows of all cells. -/
def records : sProp 𝕄 :=
  bigSep Finset.univ fun p : Dev nD × Cl => iprop(cellInv ER (ringRd I) (K p) (kcell p.1 p.2) ∗ reached ER (kcell p.1 p.2) 0)
instance records_persistent : BI.Persistent (records I K) := by unfold records; infer_instance

/-- What the global step makes for device `c`. -/
def G' (c : Dev nD) : sProp 𝕄 := iprop(∃ K, records I K ∗ linear c)

omit [FloatOps F] in
theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cl => iprop(∃ κ : ℕ, cellInv ER (ringRd I) κ (kcell c k)))
          ∗ (bigSep Finset.univ fun k : Cl => iprop(atPos ER (kcell c k) 0 ∅ 0 ∗ reached ER (kcell c k) 0)) ∗ toks c) : sProp 𝕄)
      ⊢ bigSep Finset.univ (G' I) := by
  classical
  rw [bigSep_sep', bigSep_sep', ← bigSep_univ_prod (fun p : Dev nD × Cl => iprop(∃ κ : ℕ, cellInv ER (ringRd I) κ (kcell p.1 p.2))),
    bigSep_congr (s := Finset.univ) (fun (c : Dev nD) _ => bigSep_sep' Finset.univ (fun k : Cl => (atPos ER (kcell c k) 0 ∅ 0 : sProp 𝕄)) (fun k => reached ER (kcell c k) 0)),
    bigSep_sep', ← bigSep_univ_prod (fun p : Dev nD × Cl => (reached ER (kcell p.1 p.2) 0 : sProp 𝕄))]
  iintro ⟨HI, ⟨Hat, #HR⟩, Htok⟩
  ihave HK := (BI.bigSep_exists_pi Finset.univ (fun (p : Dev nD × Cl) (κ : ℕ) => (cellInv ER (ringRd I) κ (kcell p.1 p.2) : sProp 𝕄))) $$ HI
  icases HK with ⟨%K, #HI⟩
  ihave Hlin := (toks_around (F := F)) $$ [Htok Hat]
  · isplitl [Htok] <;> iassumption
  have hg (c : Dev nD) : iprop(records I K ∗ linear c) ⊢ G' I c := by
    unfold G'; iintro H; iexists K; iexact H
  iapply (with_persistent (R := records I K) fun c _ => hg c)
  isplitr
  · unfold records; rw [bigSep_sep']
    isplitl; · iexact HI
    iexact HR
  iexact Hlin

/-- The global step: all semaphores of all devices at once. -/
theorem glob : (bigSep Finset.univ fun c => iprop(own0 (F := F) c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem kcell_eq_iff {a b : Dev nD} {k k' : Cl} : kcell a k = kcell b k' ↔ a = b ∧ k = k' :=
  ⟨fun h => by have := kcell_inj (a₁ := (a, k)) (a₂ := (b, k')) h; exact ⟨congrArg Prod.fst this, congrArg Prod.snd this⟩, fun h => by rw [h.1, h.2]⟩

theorem tal_bar (d c : Dev nD) : ∀ l : List X, tal d l (kcell c none) () = 0
  | [] => rfl
  | x :: l => by
    unfold tal
    rw [Pi.add_apply, Finsupp.add_apply, tal_bar d c l, tallyAt_apply, if_neg (fun h => by cases (kcell_eq_iff.1 h.1).2)]
open scoped Classical in
theorem tal_copy (d c : Dev nD) (x : X) : ∀ l : List X, l.Nodup → tal d l (kcell c (some (true, x))) () = if x ∈ l ∧ dstDev d x = c then amt x else 0
  | [], _ => by rw [if_neg (fun h => by cases h.1)]; rfl
  | y :: l, hn => by
    have hn' := List.nodup_cons.1 hn
    unfold tal
    rw [Pi.add_apply, Finsupp.add_apply, tal_copy d c x l hn'.2, tallyAt_apply]
    by_cases hxy : x = y
    · subst hxy
      rw [if_neg (c := x ∈ l ∧ dstDev d x = c) (fun h => hn'.1 h.1), Nat.zero_add]
      by_cases hc : dstDev d x = c
      · subst hc; rw [if_pos ⟨rfl, rfl⟩, if_pos ⟨List.mem_cons_self, rfl⟩]
      · rw [if_neg (fun h => hc (kcell_eq_iff.1 h.1).1.symm), if_neg (fun h => hc h.2)]
    · rw [if_neg (c := kcell c (some (true, x)) = kcell (dstDev d y) (some (true, y)) ∧ () = ())
        (fun h => hxy (by have := (kcell_eq_iff.1 h.1).2; exact congrArg Prod.snd (Option.some.inj this))), Nat.add_zero]
      refine if_congr ?_ rfl rfl
      rw [List.mem_cons, or_iff_right hxy]

theorem owed_bar (d c : Dev nD) : O₀ d (kcell c none) () = (if d = prv c then 1 else 0) + (if d = nxt c then 1 else 0) := by
  unfold O₀
  rw [Pi.add_apply, Finsupp.add_apply, Pi.add_apply, Finsupp.add_apply, tal_bar, tallyAt_apply, tallyAt_apply, Nat.zero_add]
  refine congrArg₂ (· + ·) (if_congr ?_ rfl rfl) (if_congr ?_ rfl rfl)
  · exact ⟨fun h => by rw [(kcell_eq_iff.1 h.1).1, prv_nxt'], fun h => by subst h; rw [nxt_prv']; exact ⟨rfl, rfl⟩⟩
  · exact ⟨fun h => by rw [(kcell_eq_iff.1 h.1).1, nxt_prv'], fun h => by subst h; rw [prv_nxt']; exact ⟨rfl, rfl⟩⟩
open scoped Classical in
theorem owed_copy (d c : Dev nD) (x : X) : O₀ d (kcell c (some (true, x))) () = if d = srcDev c x then amt x else 0 := by
  unfold O₀
  rw [Pi.add_apply, Finsupp.add_apply, Pi.add_apply, Finsupp.add_apply, tal_copy d c x allX allX_nodup, tallyAt_apply, tallyAt_apply,
    if_neg (c := kcell c (some (true, x)) = kcell (nxt d) none ∧ () = ()) (fun h => by cases (kcell_eq_iff.1 h.1).2),
    if_neg (c := kcell c (some (true, x)) = kcell (prv d) none ∧ () = ()) (fun h => by cases (kcell_eq_iff.1 h.1).2)]
  refine (Nat.add_zero _).trans ((Nat.add_zero _).trans (if_congr ?_ rfl rfl))
  exact ⟨fun h => by rw [← h.2, src_dst], fun h => by subst h; exact ⟨mem_allX x, dst_src x c⟩⟩

theorem launch_bar (c : Dev nD) :
    tallyOn (kcell c none) (launchCredit (Pipeline.owing O₀) 0 (kcell c none)) = (tallyAt (kcell c none) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_copy (c : Dev nD) (x : X) :
    tallyOn (kcell c (some (true, x))) (launchCredit (Pipeline.owing O₀) 0 (kcell c (some (true, x))))
      = (tallyAt (kcell c (some (true, x))) () (amt x) : CellTallies nD τ sig Unit) := by
  unfold tallyAt; refine congrArg _ (Finsupp.ext fun u => ?_); cases u
  rw [Pipeline.launchCredit_owing, Finsupp.single_eq_same, Finset.sum_congr rfl fun d _ => owed_copy d c x,
    Finset.sum_ite_eq' Finset.univ (srcDev c x) fun _ => amt x, if_pos (Finset.mem_univ _)]

/-- The cells a device waits on for others. -/
def waitCl : Unit ⊕ X → Cl
  | .inl _ => none
  | .inr x => some (true, x)
theorem waitCl_inj : Function.Injective fun o => csem (waitCl o) := fun a b h => by
  have h' := csem_injective h
  rcases a with _ | a <;> rcases b with _ | b
  · rfl
  · cases h'
  · cases h'
  · exact congrArg _ (congrArg Prod.snd (Option.some.inj h'))

omit [FloatOps F] in
theorem creds (c : Dev nD) :
    (Pipeline.launchCred O₀ c : sProp 𝕄) ⊢ iprop(cred (tallyAt (kcell c none) () 2)
      ∗ lsep allX fun x => cred (tallyAt (kcell c (some (true, x))) () (amt x))) := by
  classical
  unfold Pipeline.launchCred
  refine (bigSep_subset (Finset.subset_univ (Finset.univ.map ⟨fun o => csem (waitCl o), waitCl_inj⟩))).trans ?_
  rw [bigSep_map, bigSep_univ_sum, lsep_univ allX_nodup mem_allX]
  refine BI.sep_mono ?_ ?_
  · rw [← launch_bar]
    exact bigSep_elim (Finset.mem_univ ())
  · exact Entails.of_eq (bigSep_congr fun x _ => by rw [← launch_copy]; rfl)

end Cert.KernelIdeal.Canon
-- ==== Proof.CanonEq.lean ====
module

public import proofs.«01_k».proof.Proof.Canon

@[expose] public section

set_option synthInstance.maxSize 4096

noncomputable section

namespace Cert.KernelIdeal.Canon

open Idealize.ShloMosaic Idealize.SL.Sem Cert.KernelIdeal Cert.KernelIdeal.Gen

variable {F : FTy → Type} [FloatOps F]

set_option maxRecDepth 100000 in
set_option maxHeartbeats 0 in
/-- The printed body is the straight program. -/
theorem body_eq (arg0 : Memref sig .tc .vmem S1024x512 .bf16) (harg0 : arg0.IsWhole) (arg1 : Memref sig .tc .vmem S1024x512 .bf16) (harg1 : arg1.IsWhole) (arg2 : Memref sig .tc .vmem S1024x512 .bf16) (harg2 : arg2.IsWhole) (arg3 : Memref sig .tc .vmem S1024x256 .bf16) (harg3 : arg3.IsWhole) (arg4 : Memref sig .tc .vmem S1024x64 .bf16) (harg4 : arg4.IsWhole) (arg5 : Memref sig .tc .vmem S512x4096 .bf16) (harg5 : arg5.IsWhole) (arg6 : Memref sig .tc .vmem S16x64x4096 .bf16) (harg6 : arg6.IsWhole) (arg7 : Memref sig .tc .vmem S8x64x4096 .bf16) (harg7 : arg7.IsWhole) (arg8 : Memref sig .tc .vmem S8x64x4096 .bf16) (harg8 : arg8.IsWhole) (arg9 arg10 arg11 arg12 : DmaSems sig S4x7) (arg13 arg14 : DmaSems sig S3x14) :
    cc0__outar_body_skel (F := F) arg0 harg0 arg1 harg1 arg2 harg2 arg3 harg3 arg4 harg4 arg5 harg5 arg6 harg6 arg7 harg7 arg8 harg8 arg9 arg10 arg11 arg12 arg13 arg14
      = canon arg0 arg1 arg2 arg3 arg4 arg5 arg6 harg6 arg7 harg7 arg8 harg8 arg9 arg10 arg11 arg12 arg13 arg14 := by
  rfl

end Cert.KernelIdeal.Canon
-- ==== Proof.Run.lean ====
/- The run of the whole program: every device's result, its inputs unchanged, every semaphore at zero. -/
module

public import proofs.«01_k».proof.Proof.Launch
public import proofs.«01_k».proof.Proof.CanonEq
public import Idealize.ShloMosaic.Lib.Pipeline.CollectiveSegs

@[expose] public section

noncomputable section

namespace Cert.KernelIdeal.Canon

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What the devices are given. -/
def insAt (c : Dev nD) : Ins F where
  q := (win0_0.blk (0 : Fin 1)).view.read (Elt F) ((s₀ m ρ).mem ((c : Thread nD τ).loc main_arg0))
  k := (win0_1.blk (0 : Fin 1)).view.read (Elt F) ((s₀ m ρ).mem ((c : Thread nD τ).loc main_arg1))
  v := (win0_2.blk (0 : Fin 1)).view.read (Elt F) ((s₀ m ρ).mem ((c : Thread nD τ).loc main_arg2))
  qr := (win0_3.blk (0 : Fin 1)).view.read (Elt F) ((s₀ m ρ).mem ((c : Thread nD τ).loc main_arg3))
  kr := (win0_4.blk (0 : Fin 1)).view.read (Elt F) ((s₀ m ρ).mem ((c : Thread nD τ).loc main_arg4))
  wo := (win0_5.blk (0 : Fin 1)).view.read (Elt F) ((s₀ m ρ).mem ((c : Thread nD τ).loc main_arg5))

/-- What device `c` starts from. -/
def start (c : Dev nD) : sProp 𝕄 :=
  iprop(G' (insAt m ρ) c ∗ levAts L lv ∗ cred (tallyAt (kcell c none) () 2) ∗ lsep allX fun x => cred (tallyAt (kcell c (some (true, x))) () (amt x)))
/-- The rings' buffers at contents not stated. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m ρ c ∗ scr c)
def Φ₁ (c : Dev nD) : sProp 𝕄 := iprop(semVal (kcell c none) 0 ∗ lsep allX (Gone c) ∗ lsep allY (Rcvd c) ∗ scr c)

/-- The proof data of the pipeline. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insAt m ρ c).q
    | ⟨1, _⟩ => (insAt m ρ c).k
    | ⟨2, _⟩ => (insAt m ρ c).v
    | ⟨3, _⟩ => (insAt m ρ c).qr
    | ⟨4, _⟩ => (insAt m ρ c).kr
    | ⟨5, _⟩ => (insAt m ρ c).wo
    | ⟨6, _⟩ => outV (insAt m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) := bigSep_W0 Φ

/-- A buffer held whole. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem whole_setOn (b : Ref sig .tc) : (Memref.whole b).view.setOn Finset.univ = Finset.univ := by
  rw [View.setOn_univ, Memref.view_whole, View.set_whole]
omit [FloatOps F] in
theorem whole_read (c : Dev nD) (b : Ref sig .tc) (f : Buf (Elt F) ((c : Thread nD τ).loc b)) : (Memref.whole b).view.read (Elt F) f = f := by
  simp only [Memref.view_whole, View.read_whole]

/-- All of a whole buffer's elements, reading `X`. -/
abbrev wpc (c : Dev nD) (b : Ref sig .tc) (X : b.ty.Contents (Elt F)) : sProp 𝕄 :=
  iprop(∃ f : Buf (Elt F) ((Memref.whole b).view.loc (c : Thread nD τ)), ⌜∀ i ∈ Finset.univ, (Memref.whole b).view.read (Elt F) f i = X i⌝
      ∗ ((Memref.whole b).view.loc (c : Thread nD τ) ↦[(Memref.whole b).view.setOn Finset.univ]{fullShare} f))
omit [FloatOps F] in
theorem stg_wpc (c : Dev nD) (b : Ref sig .tc) (X : b.ty.Contents (Elt F)) : stg c b X ⊢ wpc c b X := by
  unfold wpc
  rw [whole_setOn]
  iintro ⟨%f, %hf, H⟩
  iexists f
  isplitr
  · ipureintro; intro i _; rw [← hf]; exact congrFun (whole_read c b f) i
  iexact H
omit [FloatOps F] in
theorem wpc_stg (c : Dev nD) (b : Ref sig .tc) (X : b.ty.Contents (Elt F)) : wpc c b X ⊢ stg c b X := by
  unfold wpc
  rw [whole_setOn]
  iintro ⟨%f, %hf, H⟩
  iexists f
  isplitr
  · ipureintro; exact (whole_read c b f).symm.trans (funext fun i => hf i (Finset.mem_univ _))
  iexact H

/-- A whole buffer at contents not stated. -/
abbrev any (c : Dev nD) (b : Ref sig .tc) : sProp 𝕄 :=
  iprop(∃ f : Buf (Elt F) ((c : Thread nD τ).loc b), ((c : Thread nD τ).loc b) ↦{fullShare} f)
/-- All of a whole buffer's elements at contents not stated. -/
abbrev wany (c : Dev nD) (b : Ref sig .tc) : sProp 𝕄 :=
  iprop(∃ f : Buf (Elt F) ((Memref.whole b).view.loc (c : Thread nD τ)),
    ((Memref.whole b).view.loc (c : Thread nD τ) ↦[(Memref.whole b).view.setOn Finset.univ]{fullShare} f))
omit [FloatOps F] in
theorem any_eq (c : Dev nD) (b : Ref sig .tc) : any (F := F) c b = wany c b := by
  unfold wany; rw [whole_setOn]

omit [FloatOps F] in
theorem scr_eq (c : Dev nD) : scr (F := F) c = iprop(pcE (bufM false) c Finset.univ ∗ pcE (bufM true) c Finset.univ) := by
  have h0 : any (F := F) c cc0_scratch0 = pcE (bufM false) c Finset.univ := any_eq c cc0_scratch0
  have h1 : any (F := F) c cc0_scratch1 = pcE (bufM true) c Finset.univ := any_eq c cc0_scratch1
  rw [← h0, ← h1]; rfl

/-! ## The body -/

theorem before_0 (c : Dev nD) (d) : (dats m ρ 0 c).before (0 : Fin 7) t₀ d = (insAt m ρ c).q := by unfold Dat.before; rw [if_pos (fetch0_0 t₀)]; rfl
theorem before_1 (c : Dev nD) (d) : (dats m ρ 0 c).before (1 : Fin 7) t₀ d = (insAt m ρ c).k := by unfold Dat.before; rw [if_pos (fetch0_1 t₀)]; rfl
theorem before_2 (c : Dev nD) (d) : (dats m ρ 0 c).before (2 : Fin 7) t₀ d = (insAt m ρ c).v := by unfold Dat.before; rw [if_pos (fetch0_2 t₀)]; rfl
theorem before_3 (c : Dev nD) (d) : (dats m ρ 0 c).before (3 : Fin 7) t₀ d = (insAt m ρ c).qr := by unfold Dat.before; rw [if_pos (fetch0_3 t₀)]; rfl
theorem before_4 (c : Dev nD) (d) : (dats m ρ 0 c).before (4 : Fin 7) t₀ d = (insAt m ρ c).kr := by unfold Dat.before; rw [if_pos (fetch0_4 t₀)]; rfl
theorem before_5 (c : Dev nD) (d) : (dats m ρ 0 c).before (5 : Fin 7) t₀ d = (insAt m ρ c).wo := by unfold Dat.before; rw [if_pos (fetch0_5 t₀)]; rfl

/-- What a device's body starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 7) t₀ d)) ∗ (∃ d, stg c cc0_stg1_0 ((dats m ρ 0 c).before (1 : Fin 7) t₀ d))
    ∗ (∃ d, stg c cc0_stg2_0 ((dats m ρ 0 c).before (2 : Fin 7) t₀ d)) ∗ (∃ d, stg c cc0_stg3_0 ((dats m ρ 0 c).before (3 : Fin 7) t₀ d))
    ∗ (∃ d, stg c cc0_stg4_0 ((dats m ρ 0 c).before (4 : Fin 7) t₀ d)) ∗ (∃ d, stg c cc0_stg5_0 ((dats m ρ 0 c).before (5 : Fin 7) t₀ d))
    ∗ (∃ d, stg c cc0_stg6_0 ((dats m ρ 0 c).before (6 : Fin 7) t₀ d)))
/-- What it ends with. -/
def bodyPost (c : Dev nD) : sProp 𝕄 :=
  iprop(Φ₁ c ∗ (dats m ρ 0 c).owesAt () t₀.succ
    ∗ stg c cc0_stg0_0 (insAt m ρ c).q ∗ stg c cc0_stg1_0 (insAt m ρ c).k ∗ stg c cc0_stg2_0 (insAt m ρ c).v ∗ stg c cc0_stg3_0 (insAt m ρ c).qr
    ∗ stg c cc0_stg4_0 (insAt m ρ c).kr ∗ stg c cc0_stg5_0 (insAt m ρ c).wo ∗ stg c cc0_stg6_0 (outV (insAt m ρ)))

theorem pre_intro (c : Dev nD) : bodyPre m ρ c ⊢ iprop(∃ K W, Pre (insAt m ρ) K c W) := by
  unfold bodyPre Φ₀ start G' linear Dat.owesAt Pipeline.owesWithin
  iintro ⟨⟨⟨⟨%K, #HR, ⟨Ht1, Ht2, Hat⟩, HT0, HA⟩, #Hlev, Hcb, Hcr⟩, Hscr⟩, ⟨%W, %hW, HO⟩, ⟨%d0, H0⟩, ⟨%d1, H1⟩, ⟨%d2, H2⟩, ⟨%d3, H3⟩, ⟨%d4, H4⟩, ⟨%d5, H5⟩, ⟨%d6, H6⟩⟩
  iexists K; iexists W
  unfold Pre
  isplitr
  · unfold Env; isplitr
    · unfold records; iexact HR
    iexact Hlev
  isplitl [HO]; · iexact HO
  isplitl [Ht1 Ht2 Hat Hcb]
  · isplitl [Ht1]; · iexact Ht1
    isplitl [Ht2]; · iexact Ht2
    isplitl [Hat]; · iexact Hat
    iexact Hcb
  isplitl [HT0]; · iexact HT0
  isplitl [HA Hcr]
  · have h : iprop((lsep allX fun x => atPos ER (kcell c (some (true, x))) 0 ∅ 0) ∗ lsep allX fun x => cred (tallyAt (kcell c (some (true, x))) () (amt x)))
        ⊢ (lsep allY (T2 c) : sProp 𝕄) := by
      rw [← lsep_sep, lsep_univ allX_nodup mem_allX, lsep_univ allY_nodup mem_allY]; exact BI.Entails.refl _
    iapply h; isplitl [HA] <;> iassumption
  isplitl [H0 H1 H2 H3 H4 H5]
  · have e0 : stg c cc0_stg0_0 ((dats m ρ 0 c).before (0 : Fin 7) t₀ d0) ⊢ pc (Memref.whole cc0_stg0_0) c Finset.univ fullShare (insAt m ρ c).q := by
      rw [before_0]; exact stg_wpc c cc0_stg0_0 _
    have e1 : stg c cc0_stg1_0 ((dats m ρ 0 c).before (1 : Fin 7) t₀ d1) ⊢ pc (Memref.whole cc0_stg1_0) c Finset.univ fullShare (insAt m ρ c).k := by
      rw [before_1]; exact stg_wpc c cc0_stg1_0 _
    have e2 : stg c cc0_stg2_0 ((dats m ρ 0 c).before (2 : Fin 7) t₀ d2) ⊢ pc (Memref.whole cc0_stg2_0) c Finset.univ fullShare (insAt m ρ c).v := by
      rw [before_2]; exact stg_wpc c cc0_stg2_0 _
    have e3 : stg c cc0_stg3_0 ((dats m ρ 0 c).before (3 : Fin 7) t₀ d3) ⊢ pc (Memref.whole cc0_stg3_0) c Finset.univ fullShare (insAt m ρ c).qr := by
      rw [before_3]; exact stg_wpc c cc0_stg3_0 _
    have e4 : stg c cc0_stg4_0 ((dats m ρ 0 c).before (4 : Fin 7) t₀ d4) ⊢ pc (Memref.whole cc0_stg4_0) c Finset.univ fullShare (insAt m ρ c).kr := by
      rw [before_4]; exact stg_wpc c cc0_stg4_0 _
    have e5 : stg c cc0_stg5_0 ((dats m ρ 0 c).before (5 : Fin 7) t₀ d5) ⊢ pc (Memref.whole cc0_stg5_0) c Finset.univ fullShare (insAt m ρ c).wo := by
      rw [before_5]; exact stg_wpc c cc0_stg5_0 _
    unfold Inp
    isplitl [H0]; · iapply e0; iexact H0
    isplitl [H1]; · iapply e1; iexact H1
    isplitl [H2]; · iapply e2; iexact H2
    isplitl [H3]; · iapply e3; iexact H3
    isplitl [H4]; · iapply e4; iexact H4
    iapply e5; iexact H5
  ihave Hs := (Entails.of_eq (scr_eq c)) $$ Hscr
  icases Hs with ⟨Hs0, Hs1⟩
  isplitl [Hs0]; · iexact Hs0
  isplitl [Hs1]; · iexact Hs1
  have e6 : stg c cc0_stg6_0 ((dats m ρ 0 c).before (6 : Fin 7) t₀ d6) ⊢ pcE outM c Finset.univ := by
    have h : wany (F := F) c cc0_stg6_0 ⊢ pcE outM c Finset.univ := BI.Entails.refl _
    rw [← any_eq] at h
    have h' : stg c cc0_stg6_0 ((dats m ρ 0 c).before (6 : Fin 7) t₀ d6) ⊢ any c cc0_stg6_0 := by
      iintro ⟨%f, -, H⟩; iexists f; iexact H
    exact h'.trans h
  iapply e6; iexact H6

theorem post_elim (c : Dev nD) : Post (insAt m ρ) c ⊢ bodyPost m ρ c := by
  unfold Post bodyPost Φ₁ Inp Dat.owesAt Pipeline.owesWithin
  iintro ⟨⟨%W, HO⟩, Hbar, Hg, Hr, ⟨H0, H1, H2, H3, H4, H5⟩, Hs, H6⟩
  isplitl [Hbar Hg Hr Hs]
  · isplitl [Hbar]; · iexact Hbar
    isplitl [Hg]; · iexact Hg
    isplitl [Hr]; · iexact Hr
    iapply (Entails.of_eq (scr_eq c).symm); iexact Hs
  isplitl [HO]
  · iexists W; isplitr
    · ipureintro; exact fun _ _ => Or.inl trivial
    iexact HO
  have e0 : pc (Memref.whole cc0_stg0_0) c Finset.univ fullShare (insAt m ρ c).q ⊢ stg c cc0_stg0_0 (insAt m ρ c).q := wpc_stg c cc0_stg0_0 _
  have e1 : pc (Memref.whole cc0_stg1_0) c Finset.univ fullShare (insAt m ρ c).k ⊢ stg c cc0_stg1_0 (insAt m ρ c).k := wpc_stg c cc0_stg1_0 _
  have e2 : pc (Memref.whole cc0_stg2_0) c Finset.univ fullShare (insAt m ρ c).v ⊢ stg c cc0_stg2_0 (insAt m ρ c).v := wpc_stg c cc0_stg2_0 _
  have e3 : pc (Memref.whole cc0_stg3_0) c Finset.univ fullShare (insAt m ρ c).qr ⊢ stg c cc0_stg3_0 (insAt m ρ c).qr := wpc_stg c cc0_stg3_0 _
  have e4 : pc (Memref.whole cc0_stg4_0) c Finset.univ fullShare (insAt m ρ c).kr ⊢ stg c cc0_stg4_0 (insAt m ρ c).kr := wpc_stg c cc0_stg4_0 _
  have e5 : pc (Memref.whole cc0_stg5_0) c Finset.univ fullShare (insAt m ρ c).wo ⊢ stg c cc0_stg5_0 (insAt m ρ c).wo := wpc_stg c cc0_stg5_0 _
  have e6 : pc outM c Finset.univ fullShare (outV (insAt m ρ)) ⊢ stg c cc0_stg6_0 (outV (insAt m ρ)) := wpc_stg c cc0_stg6_0 _
  isplitl [H0]; · iapply e0; iexact H0
  isplitl [H1]; · iapply e1; iexact H1
  isplitl [H2]; · iapply e2; iexact H2
  isplitl [H3]; · iapply e3; iexact H3
  isplitl [H4]; · iapply e4; iexact H4
  isplitl [H5]; · iapply e5; iexact H5
  iapply e6; iexact H6

set_option maxRecDepth 100000 in
/-- The pipeline's obligation for the body on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0__outar_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) outM (Memref.isWhole_whole _) (bufM false) (bufM_whole false) (bufM true) (bufM_whole true)
      (rsS false) (rsR false) (rsS true) (rsR true) cc0_scratch6 cc0_scratch7) (fun _ => bodyPost m ρ c)
  rw [cc0__outar_body_eq_skeleton, body_eq]
  refine (pre_intro m ρ c).trans ?_
  iintro ⟨%K, %W, H⟩
  iapply (wp_mono' c fun _ => post_elim m ρ c)
  iapply (canon_wp (insAt m ρ) K c W); iexact H

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insAt m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  classical
  have hown : iprop(lsep allX (Gone (F := F) c) ∗ lsep allY (Rcvd c)) ⊢ own0 c := by
    unfold own0 Pipeline.ownSems0
    rw [lsep_univ allX_nodup mem_allX, lsep_univ allY_nodup mem_allY, bigSep_univ_prod, bigSep_bool]
    exact BI.Entails.refl _
  rw [show (dats m ρ 0 c).Φ (Fin.last cfg0.N) = Φ₁ c from rfl, scopedRest0_eq, unscopedSems0_eq]
  unfold Φ₁ scr
  iintro ⟨HzB, Hg, Hr, Hs⟩
  isplitl [HzB]; · iexact HzB
  isplitl [Hg Hr]
  · iapply hown
    isplitl [Hg] <;> iassumption
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (dec_stage w s) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m ρ 0 c).arrAt w cfg0.N

/-- Every device's arrays are at the stated contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with the counters at zero, every fair execution of the program on the eight devices ends, each
    device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insAt m ρ)) (G' := G' (insAt m ρ)) (u₀ := u₀)
    (hu₀ := by
      unfold u₀
      iintro Hu
      ihave H := (ownU_pair _ _) $$ Hu
      icases H with ⟨HP, HX⟩
      imod (fund_ring (insAt m ρ)) $$ HX with HG
      imodintro
      isplitl [HP] <;> iassumption)
    (hglob := glob (insAt m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays after the run hold what they held. -/
theorem finalA_in (c : Dev nD) (w : Fin 6) : finalA m ρ c (w.castSucc) = (s₀ m ρ).mem ((cfg0.win w.castSucc).arr.view.loc (c : Thread nD τ)) :=
  (dats (F := F) m ρ 0 c).arrAt_in w.castSucc (by fin_cases w <;> rfl) _

end Cert.KernelIdeal.Canon
-- ==== Proof.Frames.lean ====
/- The frames of the kernel, as floats and as reals, from the one run. -/
module

public import proofs.«01_k».proof.Defs
public import proofs.«01_k».proof.Proof.Gen.Kernel
public import proofs.«01_k».proof.Proof.Run

@[expose] public section

noncomputable section

namespace Cert.KernelIdeal.Canon

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The run read at the arguments and the result: the arguments are unchanged, the result holds the summed slabs. -/
theorem run_args : θ_run defs (onTc (τ := τ) (main (F := F))) (s₀ m ρ) (fun r => (∀ c : Dev nD,
      r.2.mem ((c.tc : Thread nD τ).loc main_v1) = finalA m ρ c (6 : Fin 7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨h.1 c (6 : Fin 7),
    (h.1 c (0 : Fin 7)).trans (finalA_in m ρ c 0), (h.1 c (1 : Fin 7)).trans (finalA_in m ρ c 1), (h.1 c (2 : Fin 7)).trans (finalA_in m ρ c 2),
    (h.1 c (3 : Fin 7)).trans (finalA_in m ρ c 3), (h.1 c (4 : Fin 7)).trans (finalA_in m ρ c 4), (h.1 c (5 : Fin 7)).trans (finalA_in m ρ c 5)⟩, h.2⟩)
    (run_main m ρ)

/-- The frame of the kernel read over the reals. -/
theorem frame_ideal : Cert.quiescent_KernelIdeal := fun m ρ _ =>
  (θ_run Cert.KernelIdeal.defs _ _).mono (fun _ h => ⟨fun c => (h.1 c).2, h.2⟩) (run_args (F := Ideal) m ρ)

set_option maxRecDepth 100000

/-- The two programs' bodies have the same text, label by label. -/
theorem defs_eq0 : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So the two programs are the same. -/
theorem defs_eq : Cert.Kernel.defs (F := Bits) = Cert.KernelIdeal.defs (F := Bits) :=
  congrArg (Pipeline.defs (Cert.KernelIdeal.pcfgs (F := Bits))) defs_eq0

/-- The frame of the kernel: its text is that of the run above. -/
theorem frame_kernel : Cert.quiescent_Kernel := by
  intro m ρ _
  rw [defs_eq]
  exact (θ_run (Cert.KernelIdeal.defs (F := Bits)) (onTc (Cert.KernelIdeal.main (F := Bits))) _).mono
    (fun _ h => ⟨fun c => (h.1 c).2, h.2⟩) (run_args (F := Bits) m ρ)

end Cert.KernelIdeal.Canon
-- ==== Proof.Parts.lean ====
/- The attention of one block of rows and the product that follows it, as one text: every step of the
   kernel computes it, whatever names its values carry. -/
module

public import proofs.«01_k».proof.Proof.Canon
public import Mathlib.Tactic.IntervalCases

@[expose] public section

noncomputable section

namespace Cert.KernelIdeal.Canon

open Cert.KernelIdeal Cert.KernelIdeal.Gen

open Idealize.ShloMosaic
open Idealize.ShloMosaic.TcCoe

variable {F : FTy → Type} [FloatOps F]

/-- One head's exponentials: the scaled scores less their row's maximum. -/
def expG (qo ro : Nat) (hq : S64x512.Slices ![0, qo] S64x128) (hk : S256x512.Slices ![0, qo] S256x128)
    (hr : S64x256.Slices ![0, ro] S64x64) (L : Ld F) : FVec F S64x256 .f32 :=
  have a : FVec F S64x128 .bf16 := extractStridedSlice S64x128 ![0, qo] (shapeCast S64x512 L.q shapeCasts_S64x512_S64x512) hq
  have b : FVec F S256x128 .bf16 := extractStridedSlice S256x128 ![0, qo] (shapeCast S256x512 L.k shapeCasts_S256x512_S256x512) hk
  have s : FVec F S64x256 .f32 := matmul dot_S64x128_S256x128_S64x256_1_1_0_0_n_n none a b (constant S64x256 .f32 0x00000000#32)
  have e : FVec F S64x64 .bf16 := extractStridedSlice S64x64 ![0, ro] (shapeCast S64x256 L.r shapeCasts_S64x256_S64x256) hr
  have f : FVec F S64x256 .f32 := matmul dot_S64x64_S256x64_S64x256_1_1_0_0_n_n none e (shapeCast S256x64 L.c shapeCasts_S256x64_S256x64) (constant S64x256 .f32 0x00000000#32)
  have x : FVec F S64x256 .f32 := mulf (addf s f) (broadcast S64x256 (Scalar.ofBits .f32 0x3D93CD3A#32))
  have y : FVec F S64 .f32 := multiReduction .maximumf [1] S64 x 0xFF800000#32 reduces_S64x256_S64 (.inl rfl) rfl
  exp (subf x (broadcastTo S64x256 (shapeCast S64x1 y shapeCasts_S64_S64x1) broadcasts_S64x1_S64x256))

/-- One head's rows: the softmax's product with the values. -/
def headG (qo ro : Nat) (hq : S64x512.Slices ![0, qo] S64x128) (hk : S256x512.Slices ![0, qo] S256x128)
    (hr : S64x256.Slices ![0, ro] S64x64) (L : Ld F) : FVec F S64x128 .bf16 :=
  have x : FVec F S64x256 .f32 := expG qo ro hq hk hr L
  have y : FVec F S64 .f32 := multiReduction .add [1] S64 x 0x00000000#32 reduces_S64x256_S64 (.inl rfl) rfl
  have p : FVec F S64x256 .f32 := divf x (broadcastTo S64x256 (shapeCast S64x1 y shapeCasts_S64_S64x1) broadcasts_S64x1_S64x256)
  have v : FVec F S256x128 .bf16 := extractStridedSlice S256x128 ![0, qo] (shapeCast S256x512 L.v shapeCasts_S256x512_S256x512) hk
  truncf .bf16 (matmul dot_S64x256_S256x128_S64x128_1_0_0_1_n_n none (truncf .bf16 p bitsLt_bf16_f32) v (constant S64x128 .f32 0x00000000#32)) bitsLt_bf16_f32

/-- The four heads side by side. -/
def attG (L : Ld F) : FVec F S64x512 .bf16 :=
  concatenate S64x512 1 [
    ⟨S64x128, headG 0 0 slices_S64x512_o0_0_S64x128 slices_S256x512_o0_0_S256x128 slices_S64x256_o0_0_S64x64 L⟩,
    ⟨S64x128, headG 128 64 slices_S64x512_o0_128_S64x128 slices_S256x512_o0_128_S256x128 slices_S64x256_o0_64_S64x64 L⟩,
    ⟨S64x128, headG 256 128 slices_S64x512_o0_256_S64x128 slices_S256x512_o0_256_S256x128 slices_S64x256_o0_128_S64x64 L⟩,
    ⟨S64x128, headG 384 192 slices_S64x512_o0_384_S64x128 slices_S256x512_o0_384_S256x128 slices_S64x256_o0_192_S64x64 L⟩]
    concatenates_S64x128_S64x128_S64x128_S64x128_S64x512_d1

/-- The two blocks' rows, one above the other, times the device's rows of the projection. -/
def partG (w : Vec F S512x4096 .bf16) (t b : Ld F) : FVec F S128x4096 .f32 :=
  matmul dot_S128x512_S512x4096_S128x4096_1_0_0_1_n_n none
    (concatenate S128x512 0 [⟨S64x512, attG t⟩, ⟨S64x512, attG b⟩] concatenates_S64x512_S64x512_S128x512_d0)
    (shapeCast S512x4096 w shapeCasts_S512x4096_S512x4096) (constant S128x4096 .f32 0x00000000#32)

/-- Its upper half. -/
def topG (w : Vec F S512x4096 .bf16) (t b : Ld F) : FVec F S64x4096 .f32 :=
  extractStridedSlice S64x4096 ![0, 0] (partG w t b) slices_S128x4096_o0_0_S64x4096
/-- Its lower half. -/
def botG (w : Vec F S512x4096 .bf16) (t b : Ld F) : FVec F S64x4096 .f32 :=
  extractStridedSlice S64x4096 ![64, 0] (partG w t b) slices_S128x4096_o64_0_S64x4096

/-- Step 1 computes the two halves. -/
theorem gTab1 (w : Vec F S512x4096 .bf16) (t b : Ld F) : gTab 1 w t b = (topG w t b, botG w t b) := rfl
/-- Step 2 computes the two halves. -/
theorem gTab2 (w : Vec F S512x4096 .bf16) (t b : Ld F) : gTab 2 w t b = (topG w t b, botG w t b) := rfl
/-- Step 3 computes the two halves. -/
theorem gTab3 (w : Vec F S512x4096 .bf16) (t b : Ld F) : gTab 3 w t b = (topG w t b, botG w t b) := rfl
/-- Step 4 computes the two halves. -/
theorem gTab4 (w : Vec F S512x4096 .bf16) (t b : Ld F) : gTab 4 w t b = (topG w t b, botG w t b) := rfl
/-- Step 5 computes the two halves. -/
theorem gTab5 (w : Vec F S512x4096 .bf16) (t b : Ld F) : gTab 5 w t b = (topG w t b, botG w t b) := rfl
/-- Step 6 computes the two halves. -/
theorem gTab6 (w : Vec F S512x4096 .bf16) (t b : Ld F) : gTab 6 w t b = (topG w t b, botG w t b) := rfl
/-- Step 7 computes the two halves. -/
theorem gTab7 (w : Vec F S512x4096 .bf16) (t b : Ld F) : gTab 7 w t b = (topG w t b, botG w t b) := rfl

/-- Every step computes the two halves. -/
theorem gTab_eq (n : Nat) (h1 : 1 ≤ n) (h7 : n ≤ 7) (w : Vec F S512x4096 .bf16) (t b : Ld F) :
    gTab n w t b = (topG w t b, botG w t b) := by
  interval_cases n
  exacts [gTab1 w t b, gTab2 w t b, gTab3 w t b, gTab4 w t b, gTab5 w t b, gTab6 w t b, gTab7 w t b]

/-- The first ring starts from the upper half, rounded. -/
theorem stTab_top (w : Vec F S512x4096 .bf16) (t b : Ld F) :
    stTab false w t b = shapeCast S1x64x4096 (truncf .bf16 (topG w t b) bitsLt_bf16_f32) shapeCasts_S64x4096_S1x64x4096 := rfl
/-- The second ring starts from the lower half, rounded. -/
theorem stTab_bot (w : Vec F S512x4096 .bf16) (t b : Ld F) :
    stTab true w t b = shapeCast S1x64x4096 (truncf .bf16 (botG w t b) bitsLt_bf16_f32) shapeCasts_S64x4096_S1x64x4096 := rfl

/-- One addition along a ring: the chunk that arrived plus the step's product from column `o` on. -/
def accG (o : Nat) (h : S64x4096.Slices ![0, o] S64x1024) (g : FVec F S64x4096 .f32) (x : Vec F S1x64x1024 .bf16) : FVec F S1x64x1024 .bf16 :=
  shapeCast S1x64x1024 (truncf .bf16 (addf (extf .f32 (shapeCast S64x1024 x shapeCasts_S1x64x1024_S64x1024) bitsLt_bf16_f32)
    (extractStridedSlice S64x1024 ![0, o] g h)) bitsLt_bf16_f32) shapeCasts_S64x1024_S1x64x1024

/-- Chunk 0's additions. -/
theorem accTab0 (l : Bool) (s : Nat) (hs : s < 7) (g : FVec F S64x4096 .f32) (x : Vec F S1x64x1024 .bf16) :
    accTab l s 0 g x = accG 0 slices_S64x4096_o0_0_S64x1024 g x := by
  interval_cases s <;> cases l <;> rfl
/-- Chunk 1's additions. -/
theorem accTab1 (l : Bool) (s : Nat) (hs : s < 7) (g : FVec F S64x4096 .f32) (x : Vec F S1x64x1024 .bf16) :
    accTab l s 1 g x = accG 1024 slices_S64x4096_o0_1024_S64x1024 g x := by
  interval_cases s <;> cases l <;> rfl
/-- Chunk 2's additions. -/
theorem accTab2 (l : Bool) (s : Nat) (hs : s < 7) (g : FVec F S64x4096 .f32) (x : Vec F S1x64x1024 .bf16) :
    accTab l s 2 g x = accG 2048 slices_S64x4096_o0_2048_S64x1024 g x := by
  interval_cases s <;> cases l <;> rfl
/-- Chunk 3's additions. -/
theorem accTab3 (l : Bool) (s : Nat) (hs : s < 7) (g : FVec F S64x4096 .f32) (x : Vec F S1x64x1024 .bf16) :
    accTab l s 3 g x = accG 3072 slices_S64x4096_o0_3072_S64x1024 g x := by
  interval_cases s <;> cases l <;> rfl

end Cert.KernelIdeal.Canon
-- ==== Proof.Soft.lean ====
/- The attention over extended reals, as plain sums: what one entry of the kernel's and of the
   reference's rows is. -/
module

public import Idealize.ShloMosaic.Lib.Pointwise

@[expose] public section

noncomputable section

namespace Cert.Soft

open Idealize.ShloMosaic

/-- One row's scaled scores. -/
def sc (q : Fin 128 → EReal) (k : Fin 256 → Fin 128 → EReal) (r : Fin 64 → EReal) (c : Fin 256 → Fin 64 → EReal) (t : Fin 256) : EReal :=
  (∑ x, q x * k t x + ∑ x, r x * c t x) * Ideal.ofBits FTy.f32 0x3D93CD3A#32

/-- The exponentials of a row of scores less its maximum. -/
def ex (s : Fin 256 → EReal) (t : Fin 256) : EReal :=
  Ideal.exp (s t - Finset.fold max (Ideal.ofBits FTy.f32 0xFF800000#32) s Finset.univ)

/-- The row of weights, divided by its sum, times a column of values. -/
def av (e v : Fin 256 → EReal) : EReal := ∑ t, Ideal.div (e t) (∑ u, e u) * v t

/-- An array of two axes. -/
abbrev Arr (a b : Nat) : Type := (⟨2, ![a, b]⟩ : Shape).Idx → EReal

/-- Entry (row, column) of the attention's output: the column's head is its number divided by 128, the
    row's batch its number divided by 256. -/
def att (Q K V : Arr 1024 4096) (Qr : Arr 1024 2048) (Kr : Arr 1024 64) (R : Fin 1024) (j : Fin 4096) : EReal :=
  av (ex (sc (fun e => Q (ix2 R ⟨j.val / 128 * 128 + e.val, by omega⟩))
    (fun t e => K (ix2 ⟨R.val / 256 * 256 + t.val, by omega⟩ ⟨j.val / 128 * 128 + e.val, by omega⟩))
    (fun e => Qr (ix2 R ⟨j.val / 128 * 64 + e.val, by omega⟩))
    (fun t e => Kr (ix2 ⟨R.val / 256 * 256 + t.val, by omega⟩ e))))
    (fun t => V (ix2 ⟨R.val / 256 * 256 + t.val, by omega⟩ j))

/-- Entry (row, column) of the projected output. -/
def out (Q K V : Arr 1024 4096) (Qr : Arr 1024 2048) (Kr : Arr 1024 64) (W : Arr 4096 4096) (R : Fin 1024) (k : Fin 4096) : EReal :=
  ∑ j, att Q K V Qr Kr R j * W (ix2 j k)

/-- The share device `d`'s columns have in it. -/
def part (Q K V : Arr 1024 4096) (Qr : Arr 1024 2048) (Kr : Arr 1024 64) (W : Arr 4096 4096) (d : Fin 8) (R : Fin 1024) (k : Fin 4096) : EReal :=
  ∑ x : Fin 512, att Q K V Qr Kr R ⟨d.val * 512 + x.val, by omega⟩ * W (ix2 ⟨d.val * 512 + x.val, by omega⟩ k)

/-- The eight shares add up to the whole. -/
theorem sum_part (Q K V : Arr 1024 4096) (Qr : Arr 1024 2048) (Kr : Arr 1024 64) (W : Arr 4096 4096) (R : Fin 1024) (k : Fin 4096) :
    ∑ d, part Q K V Qr Kr W d R k = out Q K V Qr Kr W R k := by
  unfold part out
  rw [← Fintype.sum_prod_type' (f := fun (d : Fin 8) (x : Fin 512) => att Q K V Qr Kr R ⟨d.val * 512 + x.val, by omega⟩ * W (ix2 ⟨d.val * 512 + x.val, by omega⟩ k))]
  refine Fintype.sum_equiv (finProdFinEquiv (m := 8) (n := 512)) _ _ fun p => ?_
  have h : (⟨p.1.val * 512 + p.2.val, by omega⟩ : Fin 4096) = finProdFinEquiv (m := 8) (n := 512) p :=
    Fin.ext (by show p.1.val * 512 + p.2.val = p.2.val + 512 * p.1.val; omega)
  rw [h]

end Cert.Soft

end
-- ==== Proof.KerVal.lean ====
/- The kernel's result over the extended reals, entry by entry: the eight devices' shares of the
   projected attention, whichever way round the ring they were added. -/
module

public import proofs.«01_k».proof.Proof.Parts
public import proofs.«01_k».proof.Proof.Geom
public import proofs.«01_k».proof.Proof.Soft

@[expose] public section

set_option maxRecDepth 16384

noncomputable section

namespace Cert.KernelIdeal.Canon

open Cert.KernelIdeal Cert.KernelIdeal.Gen
open Idealize.ShloMosaic
open Idealize.ShloMosaic.TcCoe

/-! ## One block's attention -/

/-- An entry of one head's exponentials. -/
theorem expG_apply (qo ro : Nat) (hq : S64x512.Slices ![0, qo] S64x128) (hk : S256x512.Slices ![0, qo] S256x128)
    (hr : S64x256.Slices ![0, ro] S64x64) (hqo : qo + 128 ≤ 512) (hro : ro + 64 ≤ 256) (L : Ld Ideal) (r : Fin 64) (t : Fin 256) :
    expG qo ro hq hk hr L (ix2 r t) =
      Soft.ex (Soft.sc (fun e => L.q (ix2 r ⟨qo + e.val, by omega⟩)) (fun t e => L.k (ix2 t ⟨qo + e.val, by omega⟩))
        (fun e => L.r (ix2 r ⟨ro + e.val, by omega⟩)) (fun t e => L.c (ix2 t e))) t := by
  pointwise [expG, Soft.ex, Soft.sc]

/-- An entry of one head's rows. -/
theorem headG_apply (qo ro : Nat) (hq : S64x512.Slices ![0, qo] S64x128) (hk : S256x512.Slices ![0, qo] S256x128)
    (hr : S64x256.Slices ![0, ro] S64x64) (hqo : qo + 128 ≤ 512) (L : Ld Ideal) (r : Fin 64) (d : Fin 128) :
    headG qo ro hq hk hr L (ix2 r d) =
      Soft.av (fun t => expG qo ro hq hk hr L (ix2 r t)) (fun t => L.v (ix2 t ⟨qo + d.val, by omega⟩)) := by
  pointwise [headG, Soft.av]

/-- An entry of a block's attention: of the head its column belongs to. -/
def attL (L : Ld Ideal) (r : Fin 64) (j : Fin 512) : EReal :=
  Soft.av (Soft.ex (Soft.sc (fun e => L.q (ix2 r ⟨j.val / 128 * 128 + e.val, by omega⟩)) (fun t e => L.k (ix2 t ⟨j.val / 128 * 128 + e.val, by omega⟩))
    (fun e => L.r (ix2 r ⟨j.val / 128 * 64 + e.val, by omega⟩)) (fun t e => L.c (ix2 t e))))
    (fun t => L.v (ix2 t j))

/-- One head's rows are that entry, for the columns of the head. -/
theorem headG_eq (qo ro : Nat) (hq : S64x512.Slices ![0, qo] S64x128) (hk : S256x512.Slices ![0, qo] S256x128)
    (hr : S64x256.Slices ![0, ro] S64x64) (L : Ld Ideal) (r : Fin 64) (d : Fin 128) (j : Fin 512)
    (hj : qo + d.val = j.val) (hqo : qo = j.val / 128 * 128) (hro : ro = j.val / 128 * 64) :
    headG qo ro hq hk hr L (ix2 r d) = attL L r j := by
  subst hqo hro
  rw [headG_apply _ _ hq hk hr (by omega)]
  have h : (⟨j.val / 128 * 128 + d.val, by omega⟩ : Fin 512) = j := Fin.ext hj
  simp only [expG_apply _ _ hq hk hr (by omega) (by omega), h]
  rfl

/-- An entry of the four heads side by side. -/
theorem attG_apply (L : Ld Ideal) (r : Fin 64) (j : Fin 512) : attG L (ix2 r j) = attL L r j := by
  pointwise [attG]
  split
  · exact headG_eq 0 0 _ _ _ L r _ j (by show 0 + j.val = j.val; omega) (by omega) (by omega)
  split
  · exact headG_eq 128 64 _ _ _ L r _ j (by show 128 + (j.val - 128) = j.val; omega) (by omega) (by omega)
  split
  · exact headG_eq 256 128 _ _ _ L r _ j (by show 256 + (j.val - 128 - 128) = j.val; omega) (by omega) (by omega)
  · exact headG_eq 384 192 _ _ _ L r _ j (by show 384 + (j.val - 128 - 128 - 128) = j.val; omega) (by omega) (by omega)

/-- An entry of the upper half of a step's product. -/
theorem topG_apply (w : Vec Ideal S512x4096 .bf16) (t b : Ld Ideal) (r : Fin 64) (k : Fin 4096) :
    topG w t b (ix2 r k) = ∑ x : Fin 512, attG t (ix2 r x) * w (ix2 x k) := by
  pointwise [topG, partG]

/-- An entry of the lower half. -/
theorem botG_apply (w : Vec Ideal S512x4096 .bf16) (t b : Ld Ideal) (r : Fin 64) (k : Fin 4096) :
    botG w t b (ix2 r k) = ∑ x : Fin 512, attG b (ix2 r x) * w (ix2 x k) := by
  pointwise [botG, partG]

/-- An entry of one addition. -/
theorem accG_apply (o : Nat) (h : S64x4096.Slices ![0, o] S64x1024) (ho : o + 1024 ≤ 4096) (g : FVec Ideal S64x4096 .f32)
    (x : Vec Ideal S1x64x1024 .bf16) (r : Fin 64) (b : Fin 1024) :
    accG o h g x (ix3 0 r b) = x (ix3 0 r b) + g (ix2 r ⟨o + b.val, by omega⟩) := by
  pointwise [accG]

/-- The same of the table, whatever the ring and the step. -/
theorem accTab_apply (l : Bool) (s : Nat) (hs : s < 7) (ch : Nat) (hc : ch < 4) (g : FVec Ideal S64x4096 .f32)
    (x : Vec Ideal S1x64x1024 .bf16) (r : Fin 64) (b : Fin 1024) :
    accTab l s ch g x (ix3 0 r b) = x (ix3 0 r b) + g (ix2 r ⟨1024 * ch + b.val, by omega⟩) := by
  interval_cases ch
  · rw [accTab0 l s hs]; exact accG_apply 0 _ (by omega) g x r b
  · rw [accTab1 l s hs]; exact accG_apply 1024 _ (by omega) g x r b
  · rw [accTab2 l s hs]; exact accG_apply 2048 _ (by omega) g x r b
  · rw [accTab3 l s hs]; exact accG_apply 3072 _ (by omega) g x r b

/-! ## Which rows a step loads -/

/-- The block of 64 rows that ring `l` works on at step `s` of device `c`. -/
def subOf (l : Bool) (s : Fin 8) (c : Dev nD) : Fin 16 :=
  match l with
  | false => ⟨(2 * (c.val + 8 - s.val)) % 16, Nat.mod_lt _ (by decide)⟩
  | true => ⟨(2 * (c.val + s.val) + 1) % 16, Nat.mod_lt _ (by decide)⟩

/-- Where a step's queries start. -/
theorem ldOff_q : ∀ (l : Bool) (s : Fin 8) (c : Dev nD), ldOff l s.val 0 c 0 = 64 * (subOf l s c).val ∧ ldOff l s.val 0 c 1 = 0 := by decide +kernel
/-- Where a step's rotary queries start. -/
theorem ldOff_r : ∀ (l : Bool) (s : Fin 8) (c : Dev nD), ldOff l s.val 1 c 0 = 64 * (subOf l s c).val ∧ ldOff l s.val 1 c 1 = 0 := by decide +kernel
/-- Where a step's keys and values start. -/
theorem ldOff_k : ∀ (l : Bool) (s : Fin 8) (c : Dev nD), ldOff l s.val 2 c 0 = 256 * ((subOf l s c).val / 4) ∧ ldOff l s.val 2 c 1 = 0 := by decide +kernel
/-- Where a step's rotary keys start. -/
theorem ldOff_c : ∀ (l : Bool) (s : Fin 8) (c : Dev nD), ldOff l s.val 3 c 0 = 256 * ((subOf l s c).val / 4) ∧ ldOff l s.val 3 c 1 = 0 := by decide +kernel

/-! ## The devices' blocks of the whole arrays -/

/-- The devices' operands are blocks of whole arrays: columns of the first four, rows of the projection. -/
structure Blk (I : Dev nD → Ins Ideal) (Q K V : Soft.Arr 1024 4096) (Qr : Soft.Arr 1024 2048) (Kr : Soft.Arr 1024 64) (W : Soft.Arr 4096 4096) : Prop where
  q : ∀ (c : Fin 8) (r : Fin 1024) (x : Fin 512), (I c).q (ix2 r x) = Q (ix2 r ⟨c.val * 512 + x.val, by omega⟩)
  k : ∀ (c : Fin 8) (r : Fin 1024) (x : Fin 512), (I c).k (ix2 r x) = K (ix2 r ⟨c.val * 512 + x.val, by omega⟩)
  v : ∀ (c : Fin 8) (r : Fin 1024) (x : Fin 512), (I c).v (ix2 r x) = V (ix2 r ⟨c.val * 512 + x.val, by omega⟩)
  qr : ∀ (c : Fin 8) (r : Fin 1024) (x : Fin 256), (I c).qr (ix2 r x) = Qr (ix2 r ⟨c.val * 256 + x.val, by omega⟩)
  kr : ∀ (c : Fin 8) (r : Fin 1024) (x : Fin 64), (I c).kr (ix2 r x) = Kr (ix2 r x)
  wo : ∀ (c : Fin 8) (x : Fin 512) (k : Fin 4096), (I c).wo (ix2 x k) = W (ix2 ⟨c.val * 512 + x.val, by omega⟩ k)

section

variable {I : Dev nD → Ins Ideal} {Q K V : Soft.Arr 1024 4096} {Qr : Soft.Arr 1024 2048} {Kr : Soft.Arr 1024 64} {W : Soft.Arr 4096 4096}

/-- A row of the whole arrays: row `r` of the block of 64 numbered `n`. -/
def rowOf (n : Fin 16) (r : Fin 64) : Fin 1024 := ⟨n.val * 64 + r.val, by omega⟩
/-- Row `t` of the batch that block belongs to. -/
def batOf (n : Fin 16) (t : Fin 256) : Fin 1024 := ⟨n.val / 4 * 256 + t.val, by omega⟩

/-- A unit rectangle's entry, by its two coordinates. -/
theorem emb2 {a b a' b' : Nat} (off : Fin 2 → Nat)
    (h : ∀ i, off i + (⟨2, ![a', b']⟩ : Shape).size i ≤ (⟨2, ![a, b]⟩ : Shape).size i) (r : Fin a') (x : Fin b') (R : Fin a) (X : Fin b)
    (h0 : off 0 + r.val = R.val) (h1 : off 1 + x.val = X.val) :
    (Rect.unit (s := ⟨2, ![a, b]⟩) off (⟨2, ![a', b']⟩ : Shape).size h).emb (ix2 r x) = ix2 R X := by
  funext i
  match i with
  | ⟨0, _⟩ => exact Fin.ext (by show off 0 + 1 * r.val = R.val; omega)
  | ⟨1, _⟩ => exact Fin.ext (by show off 1 + 1 * x.val = X.val; omega)

/-- The queries a step loads, as rows of the device's operand. -/
theorem ldv_q (l : Bool) (s : Fin 8) (c : Dev nD) (r : Fin 64) (x : Fin 512) :
    (ldv I l s c).q (ix2 r x) = (I c).q (ix2 (rowOf (subOf l s c) r) x) :=
  congrArg (I c).q (emb2 _ _ r x _ _ (by rw [(ldOff_q l s c).1]; show 64 * (subOf l s c).val + r.val = (subOf l s c).val * 64 + r.val; omega)
    (by rw [(ldOff_q l s c).2, Nat.zero_add]))
/-- The rotary queries a step loads, as rows of the device's operand. -/
theorem ldv_r (l : Bool) (s : Fin 8) (c : Dev nD) (r : Fin 64) (x : Fin 256) :
    (ldv I l s c).r (ix2 r x) = (I c).qr (ix2 (rowOf (subOf l s c) r) x) :=
  congrArg (I c).qr (emb2 _ _ r x _ _ (by rw [(ldOff_r l s c).1]; show 64 * (subOf l s c).val + r.val = (subOf l s c).val * 64 + r.val; omega)
    (by rw [(ldOff_r l s c).2, Nat.zero_add]))
/-- The keys a step loads, as rows of the device's operand. -/
theorem ldv_k (l : Bool) (s : Fin 8) (c : Dev nD) (t : Fin 256) (x : Fin 512) :
    (ldv I l s c).k (ix2 t x) = (I c).k (ix2 (batOf (subOf l s c) t) x) :=
  congrArg (I c).k (emb2 _ _ t x _ _ (by rw [(ldOff_k l s c).1]; show 256 * ((subOf l s c).val / 4) + t.val = (subOf l s c).val / 4 * 256 + t.val; omega)
    (by rw [(ldOff_k l s c).2, Nat.zero_add]))
/-- The values a step loads, as rows of the device's operand. -/
theorem ldv_v (l : Bool) (s : Fin 8) (c : Dev nD) (t : Fin 256) (x : Fin 512) :
    (ldv I l s c).v (ix2 t x) = (I c).v (ix2 (batOf (subOf l s c) t) x) :=
  congrArg (I c).v (emb2 _ _ t x _ _ (by rw [(ldOff_k l s c).1]; show 256 * ((subOf l s c).val / 4) + t.val = (subOf l s c).val / 4 * 256 + t.val; omega)
    (by rw [(ldOff_k l s c).2, Nat.zero_add]))
/-- The rotary keys a step loads, as rows of the device's operand. -/
theorem ldv_c (l : Bool) (s : Fin 8) (c : Dev nD) (t : Fin 256) (x : Fin 64) :
    (ldv I l s c).c (ix2 t x) = (I c).kr (ix2 (batOf (subOf l s c) t) x) :=
  congrArg (I c).kr (emb2 _ _ t x _ _ (by rw [(ldOff_c l s c).1]; show 256 * ((subOf l s c).val / 4) + t.val = (subOf l s c).val / 4 * 256 + t.val; omega)
    (by rw [(ldOff_c l s c).2, Nat.zero_add]))
/-- The projection's weights are loaded whole. -/
theorem wld_apply (c : Dev nD) (x : Fin 512) (k : Fin 4096) : wld I c (ix2 x k) = (I c).wo (ix2 x k) :=
  congrArg (I c).wo (emb2 _ _ x k _ _ (Nat.zero_add _) (Nat.zero_add _))

/-- An entry of a step's attention is one of the whole attention, in the device's columns. -/
theorem attL_eq (H : Blk I Q K V Qr Kr W) (l : Bool) (s : Fin 8) (c : Dev nD) (r : Fin 64) (j : Fin 512) :
    attL (ldv I l s c) r j = Soft.att Q K V Qr Kr (rowOf (subOf l s c) r) ⟨c.val * 512 + j.val, by have : c.val < 8 := c.isLt; omega⟩ := by
  have hc : c.val < 8 := c.isLt
  have hb (t : Fin 256) : batOf (subOf l s c) t = ⟨(rowOf (subOf l s c) r).val / 256 * 256 + t.val, by omega⟩ :=
    Fin.ext (by show (subOf l s c).val / 4 * 256 + t.val = ((subOf l s c).val * 64 + r.val) / 256 * 256 + t.val; omega)
  have hq (e : Fin 128) : (⟨c.val * 512 + (j.val / 128 * 128 + e.val), by omega⟩ : Fin 4096) = ⟨(c.val * 512 + j.val) / 128 * 128 + e.val, by omega⟩ :=
    Fin.ext (by show c.val * 512 + (j.val / 128 * 128 + e.val) = (c.val * 512 + j.val) / 128 * 128 + e.val; omega)
  have hr (e : Fin 64) : (⟨c.val * 256 + (j.val / 128 * 64 + e.val), by omega⟩ : Fin 2048) = ⟨(c.val * 512 + j.val) / 128 * 64 + e.val, by omega⟩ :=
    Fin.ext (by show c.val * 256 + (j.val / 128 * 64 + e.val) = (c.val * 512 + j.val) / 128 * 64 + e.val; omega)
  unfold attL Soft.att
  congr 1
  · congr 1
    congr 1
    · funext e; rw [ldv_q]; exact (H.q c _ _).trans (congrArg (fun z => Q (ix2 _ z)) (hq e))
    · funext t e; rw [ldv_k]; exact (H.k c _ _).trans (by rw [hb t]; exact congrArg (fun z => K (ix2 _ z)) (hq e))
    · funext e; rw [ldv_r]; exact (H.qr c _ _).trans (congrArg (fun z => Qr (ix2 _ z)) (hr e))
    · funext t e; rw [ldv_c]; exact (H.kr c _ _).trans (by rw [hb t])
  · funext t; rw [ldv_v]; exact (H.v c _ _).trans (by rw [hb t])

/-- So a step's product is the device's share of the block's rows. -/
theorem step_eq (H : Blk I Q K V Qr Kr W) (l : Bool) (s : Fin 8) (c : Dev nD) (r : Fin 64) (k : Fin 4096) :
    (∑ x : Fin 512, attG (ldv I l s c) (ix2 r x) * wld I c (ix2 x k)) = Soft.part Q K V Qr Kr W c (rowOf (subOf l s c) r) k := by
  unfold Soft.part
  refine Finset.sum_congr rfl fun x _ => ?_
  rw [attG_apply, attL_eq H, wld_apply]
  exact congrArg _ (H.wo c x k)

/-- A later step's product, of either ring. -/
theorem gV_eq (H : Blk I Q K V Qr Kr W) (l : Bool) (n : Fin 8) (h1 : 1 ≤ n.val) (c : Dev nD) (r : Fin 64) (k : Fin 4096) :
    gV I l n.val c (ix2 r k) = Soft.part Q K V Qr Kr W c (rowOf (subOf l n c) r) k := by
  have hn : stp n.val = n := Fin.ext (Nat.mod_eq_of_lt n.isLt)
  have hg := gTab_eq n.val h1 (by have := n.isLt; omega) (wld I c) (ldv I false (stp n.val) c) (ldv I true (stp n.val) c)
  rw [hn] at hg
  cases l
  · show (gP I n.val c).1 (ix2 r k) = _
    unfold gP; rw [hn, hg]
    exact (topG_apply _ _ _ r k).trans (step_eq H false n c r k)
  · show (gP I n.val c).2 (ix2 r k) = _
    unfold gP; rw [hn, hg]
    exact (botG_apply _ _ _ r k).trans (step_eq H true n c r k)

/-- The first step's, of either ring. -/
theorem stV_eq (H : Blk I Q K V Qr Kr W) (l : Bool) (c : Dev nD) (r : Fin 64) (k : Fin 4096) :
    stV I l c (ix3 0 r k) = Soft.part Q K V Qr Kr W c (rowOf (subOf l 0 c) r) k := by
  cases l
  · unfold stV; rw [stTab_top]
    refine Eq.trans ?_ ((topG_apply _ (ldv I false 0 c) (ldv I true 0 c) r k).trans (step_eq H false 0 c r k))
    pointwise
  · unfold stV; rw [stTab_bot]
    refine Eq.trans ?_ ((botG_apply _ (ldv I false 0 c) (ldv I true 0 c) r k).trans (step_eq H true 0 c r k))
    pointwise

/-! ## Along the rings -/

/-- The device `i` hops back along ring `l`. -/
def behind (l : Bool) : Nat → Dev nD → Dev nD
  | 0, c => c
  | i + 1, c => behind l i (bwd l c)

/-- A ring's next step works on the block its neighbour worked on. -/
theorem subOf_succ : ∀ (l : Bool) (n : Fin 7) (c : Dev nD), subOf l n.succ c = subOf l n.castSucc (bwd l c) := by decide +kernel

/-- The sum after `n` additions: the shares of the device and of the `n` behind it. -/
theorem acc_eq (H : Blk I Q K V Qr Kr W) (l : Bool) (n : Nat) (hn : n < 8) (c : Dev nD) (r : Fin 64) (k : Fin 4096) :
    acc I l n c r k = ∑ i ∈ Finset.range (n + 1), Soft.part Q K V Qr Kr W (behind l i c) (rowOf (subOf l ⟨n, hn⟩ c) r) k := by
  induction n generalizing c k with
  | zero =>
    rw [Finset.sum_range_one]
    exact stV_eq H l c r k
  | succ n ih =>
    have hk : k.val < 4096 := k.isLt
    rw [Finset.sum_range_succ']
    have e : (⟨1024 * (k.val / 1024) + k.val % 1024, by omega⟩ : Fin 4096) = k := Fin.ext (Nat.div_add_mod k.val 1024)
    have hs : subOf l ⟨n + 1, hn⟩ c = subOf l ⟨n, by omega⟩ (bwd l c) := subOf_succ l ⟨n, by omega⟩ c
    show accTab l n (k.val / 1024) (gV I l (n + 1) c) _ (ix3 0 r ⟨k.val % 1024, _⟩) = _
    rw [accTab_apply l n (by omega) (k.val / 1024) (by omega)]
    have h2 := gV_eq H l ⟨n + 1, hn⟩ (by show 1 ≤ n + 1; omega) c r k
    refine congr (congrArg _ ?_) ?_
    · refine (ih (by omega) (bwd l c) _).trans ?_
      rw [hs]
      refine Finset.sum_congr rfl fun i _ => ?_
      exact congrArg _ e
    · refine Eq.trans ?_ h2
      exact congrArg (fun z => gV I l (n + 1) c (ix2 r z)) e

/-- Seven hops back reach every device once. -/
theorem behind_inj : ∀ (l : Bool) (c : Dev nD) (i j : Fin 8), behind l i.val c = behind l j.val c → i = j := by decide +kernel

/-- So a sum over the hops is a sum over the devices. -/
theorem sum_behind (l : Bool) (c : Dev nD) (f : Fin 8 → EReal) : (∑ i ∈ Finset.range 8, f (behind l i c)) = ∑ d, f d := by
  rw [Finset.sum_range]
  have hinj : Function.Injective (fun i : Fin 8 => (behind l i.val c : Fin 8)) := fun i j h => behind_inj l c i j h
  exact Function.Bijective.sum_comp (Finite.injective_iff_bijective.1 hinj) f

/-- The block a slab's summing device ends with is the slab. -/
theorem subOf_sum : ∀ n : Fin 16, subOf (decide (n.val % 2 = 1)) 7 (sumDev n.val) = n := by decide +kernel

/-- The whole result, entry by entry. -/
theorem outV_apply (H : Blk I Q K V Qr Kr W) (n : Fin 16) (r : Fin 64) (k : Fin 4096) :
    outV I (ix3 n r k) = Soft.out Q K V Qr Kr W ⟨n.val * 64 + r.val, by omega⟩ k := by
  show acc I (decide (n.val % 2 = 1)) 7 (sumDev n.val) r k = _
  rw [acc_eq H _ 7 (by omega)]
  show (∑ i ∈ Finset.range 8, Soft.part Q K V Qr Kr W (behind _ i _) (rowOf (subOf _ 7 _) r) k) = _
  rw [subOf_sum n, sum_behind _ _ (fun d => Soft.part Q K V Qr Kr W d (rowOf n r) k), Soft.sum_part]
  rfl

end

end Cert.KernelIdeal.Canon

end
-- ==== Proof.RefVal.lean ====
/- The reference's result, entry by entry. -/
module

public import proofs.«01_k».proof.Proof.Gen.ReferenceIdeal.Run
public import proofs.«01_k».proof.Proof.Soft

@[expose] public section

set_option maxRecDepth 16384

noncomputable section

namespace Cert.ReferenceIdeal.Value

open Cert.ReferenceIdeal Cert.ReferenceIdeal.Gen
open Idealize.ShloMosaic
open Idealize.ShloMosaic.TcCoe

/-- The scaled scores. -/
def scR {F : FTy → Type} [FloatOps F] (Q K : FVec F S1024x4096 .bf16) (Qr : FVec F S1024x2048 .bf16) (Kr : FVec F S1024x64 .bf16) : FVec F S4x32x256x256 .f32 :=
  mulf (addf (Host.dotGeneral dot_S4x256x32x128_S4x256x32x128_S4x32x256x256_3_3_1_1_02_02 none (shapeCast _ (extf .f32 Q bitsLt_bf16_f32) shapeCasts_S1024x4096_S4x256x32x128) (shapeCast _ (extf .f32 K bitsLt_bf16_f32) shapeCasts_S1024x4096_S4x256x32x128)) (Host.dotGeneral dot_S4x256x32x64_S4x256x32x64_S4x32x256x256_3_3_1_1_02_02 none (shapeCast _ (extf .f32 Qr bitsLt_bf16_f32) shapeCasts_S1024x2048_S4x256x32x64) (broadcastInDim S4x256x32x64 ![0, 1, 2, 3] bcast_S4x256x1x64_S4x256x32x64_0_1_2_3 (shapeCast _ (extf .f32 Kr bitsLt_bf16_f32) shapeCasts_S1024x64_S4x256x1x64)))) (broadcastInDim S4x32x256x256 ![] bcast_S_S4x32x256x256 (constant S_ .f32 0x3D93CD3A#32))
/-- Their exponentials less their row's maximum. -/
def expR {F : FTy → Type} [FloatOps F] (s : FVec F S4x32x256x256 .f32) : FVec F S4x32x256x256 .f32 :=
  Host.exp (subf s (broadcastInDim S4x32x256x256 ![0, 1, 2, 3] bcast_S4x32x256x1_S4x32x256x256_0_1_2_3 (broadcastInDim S4x32x256x1 ![0, 1, 2] bcast_S4x32x256_S4x32x256x1_0_1_2 (Host.reduce FloatOps.maximumf s (constant S_ .f32 0xFF800000#32) reducesTo_S4x32x256x256_S4x32x256_d3 h_S_))))
/-- The attention's rows. -/
def attR {F : FTy → Type} [FloatOps F] (V : FVec F S1024x4096 .bf16) (e : FVec F S4x32x256x256 .f32) : FVec F S1024x4096 .f32 :=
  shapeCast _ (transpose S4x256x32x128 [0, 3, 1, 2] (Host.dotGeneral dot_S4x256x32x128_S4x32x256x256_S4x32x128x256_1_3_3_2_02_01 none (shapeCast _ (extf .f32 V bitsLt_bf16_f32) shapeCasts_S1024x4096_S4x256x32x128) (Host.divf e (broadcastInDim S4x32x256x256 ![0, 1, 2, 3] bcast_S4x32x256x1_S4x32x256x256_0_1_2_3 (broadcastInDim S4x32x256x1 ![0, 1, 2] bcast_S4x32x256_S4x32x256x1_0_1_2 (Host.reduceAdd e (constant S_ .f32 0x00000000#32) reducesTo_S4x32x256x256_S4x32x256_d3 h_S_))))) transposes_S4x32x128x256_S4x256x32x128_0_3_1_2) shapeCasts_S4x256x32x128_S1024x4096
/-- The whole result. -/
def outR {F : FTy → Type} [FloatOps F] (a : FVec F S1024x4096 .f32) (w : FVec F S4096x4096 .bf16) : FVec F S16x64x4096 .bf16 :=
  shapeCast _ (truncf .bf16 (Host.dotGeneral dot_S1024x4096_S4096x4096_S1024x4096_1_0_0_1_n_n none a (extf .f32 w bitsLt_bf16_f32)) bitsLt_bf16_f32) shapeCasts_S1024x4096_S16x64x4096
/-- The printed result is those four steps. -/
theorem res_eq {F : FTy → Type} [FloatOps F] (m : (ℓ : Loc nD τ sig) → Buf (Elt F) ℓ) (c : Dev nD) :
   res_main_v31 m c = outR (attR (m ((c.tc : Thread nD τ).loc main_arg2)) (expR (scR (m ((c.tc : Thread nD τ).loc main_arg0)) (m ((c.tc : Thread nD τ).loc main_arg1)) (m ((c.tc : Thread nD τ).loc main_arg3)) (m ((c.tc : Thread nD τ).loc main_arg4))))) (m ((c.tc : Thread nD τ).loc main_arg5)) := rfl

/-- An entry of the scores. -/
theorem scR_apply (Q K : FVec Ideal S1024x4096 .bf16) (Qr : FVec Ideal S1024x2048 .bf16) (Kr : FVec Ideal S1024x64 .bf16)
    (b : Fin 4) (h : Fin 32) (s t : Fin 256) : scR Q K Qr Kr (ix4 b h s t) =
      Soft.sc (fun e => Q (ix2 ⟨b.val * 256 + s.val, by omega⟩ ⟨h.val * 128 + e.val, by omega⟩))
        (fun t e => K (ix2 ⟨b.val * 256 + t.val, by omega⟩ ⟨h.val * 128 + e.val, by omega⟩))
        (fun e => Qr (ix2 ⟨b.val * 256 + s.val, by omega⟩ ⟨h.val * 64 + e.val, by omega⟩))
        (fun t e => Kr (ix2 ⟨b.val * 256 + t.val, by omega⟩ e)) t := by
  pointwise [scR, Soft.sc]

/-- An entry of the exponentials. -/
theorem expR_apply (x : FVec Ideal S4x32x256x256 .f32) (b : Fin 4) (h : Fin 32) (s t : Fin 256) :
    expR x (ix4 b h s t) = Soft.ex (fun t => x (ix4 b h s t)) t := by
  pointwise [expR, Soft.ex]

/-- An entry of the attention's output, given the exponentials. -/
theorem attR_apply (V : FVec Ideal S1024x4096 .bf16) (x : FVec Ideal S4x32x256x256 .f32) (R : Fin 1024) (j : Fin 4096) :
    attR V x (ix2 R j) = Soft.av (fun t => x (ix4 ⟨R.val / 256, by omega⟩ ⟨j.val / 128, by omega⟩ ⟨R.val % 256, by omega⟩ t))
      (fun t => V (ix2 ⟨R.val / 256 * 256 + t.val, by omega⟩ j)) := by
  pointwise [attR, Soft.av]
  exact Finset.sum_congr rfl fun t _ => mul_comm _ _

/-- An entry of the attention's output. -/
theorem attR_eq (Q K V : FVec Ideal S1024x4096 .bf16) (Qr : FVec Ideal S1024x2048 .bf16) (Kr : FVec Ideal S1024x64 .bf16)
    (R : Fin 1024) (j : Fin 4096) : attR V (expR (scR Q K Qr Kr)) (ix2 R j) = Soft.att Q K V Qr Kr R j := by
  rw [attR_apply]
  have h : (⟨R.val / 256 * 256 + R.val % 256, by omega⟩ : Fin 1024) = R := Fin.ext (Nat.div_add_mod' R.val 256)
  simp only [expR_apply, scR_apply, h]
  rfl

/-- An entry of the result, given the attention's output. -/
theorem outR_apply (a : FVec Ideal S1024x4096 .f32) (w : FVec Ideal S4096x4096 .bf16) (n : Fin 16) (r : Fin 64) (k : Fin 4096) :
    outR a w (ix3 n r k) = ∑ j, a (ix2 ⟨n.val * 64 + r.val, by omega⟩ j) * w (ix2 j k) := by
  pointwise [outR]

/-- An entry of the reference's result. -/
theorem res_apply (m : (ℓ : Loc nD τ sig) → Buf (Elt Ideal) ℓ) (c : Dev nD) (n : Fin 16) (r : Fin 64) (k : Fin 4096) :
    res_main_v31 m c (ix3 n r k) = Soft.out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) ⟨n.val * 64 + r.val, by omega⟩ k := by
  rw [res_eq]
  refine (outR_apply _ _ n r k).trans ?_
  exact Finset.sum_congr rfl fun j _ => by rw [attR_eq]

end Cert.ReferenceIdeal.Value

end
-- ==== Proof.Algebraic.lean ====
/- The value claim: every device's result array is the reference's result. -/
module

public import proofs.«01_k».proof.Proof.Frames
public import proofs.«01_k».proof.Proof.Gen.KernelIdeal.Points
public import proofs.«01_k».proof.Proof.KerVal
public import proofs.«01_k».proof.Proof.RefVal

@[expose] public section

set_option maxRecDepth 16384

noncomputable section

namespace Cert.KernelIdeal.Canon

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result's block, read, is the body's result: the one point writes it whole. -/
theorem finalA_read (c : Dev nD) : (win0_6.blk (0 : Fin 1)).view.read (Elt F) (finalA m ρ c (6 : Fin 7)) = outV (insAt m ρ) := by
  unfold finalA
  rw [show cfg0.N = ((0 : Fin 1) : Fin cfg0.N).val + 1 from rfl, (dats m ρ 0 c).arrAt_succ (6 : Fin 7) (0 : Fin 1)]
  rw [show (cfg0.win (6 : Fin 7)).flush (0 : Fin 1) = true from flush0_6 _, if_pos rfl]
  exact View.read_write_univ _ _

/-- The result window's one block is the whole array, so the array ends at the body's result. -/
theorem finalA_out (c : Dev nD) : finalA m ρ c (6 : Fin 7) = outV (insAt m ρ) := by
  have hz : (fun a => (win0_6.index (0 : Fin 1)) a * main_v1.ty.shape.size a) = fun _ => 0 := funext fun a => by fin_cases a <;> decide
  exact (Memref.read_access_unit_zero (Elt F) main_v1 hz (fun a => by fin_cases a <;> decide) _).symm.trans (finalA_read m ρ c)

/-- A device's operands are the arrays it was given. -/
theorem insAt_q (c : Dev nD) : (insAt m ρ c).q = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- The keys likewise. -/
theorem insAt_k (c : Dev nD) : (insAt m ρ c).k = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
/-- The values likewise. -/
theorem insAt_v (c : Dev nD) : (insAt m ρ c).v = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _
/-- The rotary queries likewise. -/
theorem insAt_qr (c : Dev nD) : (insAt m ρ c).qr = m ((c : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _
/-- The rotary keys likewise. -/
theorem insAt_kr (c : Dev nD) : (insAt m ρ c).kr = m ((c : Thread nD τ).loc main_arg4) := by
  have hz : (fun a => (win0_4.index (0 : Fin 1)) a * main_arg4.ty.shape.size a) = fun _ => 0 := funext fun a => by fin_cases a <;> decide
  exact Memref.read_access_unit_zero (Elt F) main_arg4 hz (fun a => by fin_cases a <;> decide) _
/-- The projection's weights likewise. -/
theorem insAt_wo (c : Dev nD) : (insAt m ρ c).wo = m ((c : Thread nD τ).loc main_arg5) := by
  have hz : (fun a => (win0_5.index (0 : Fin 1)) a * main_arg5.ty.shape.size a) = fun _ => 0 := funext fun a => by fin_cases a <;> decide
  exact Memref.read_access_unit_zero (Elt F) main_arg5 hz (fun a => by fin_cases a <;> decide) _

/-- An entry of a block of columns. -/
theorem block_cols {a b b' : Nat} (v : Soft.Arr a b) (c : Fin 8) (h : Layout.Tiles ⟨2, ![a, b']⟩ ⟨2, ![a, b]⟩ 1 8) (r : Fin a) (x : Fin b') (X : Fin b)
    (hX : c.val * b' + x.val = X.val) : Layout.block ⟨2, ![a, b']⟩ ⟨2, ![a, b]⟩ 1 8 c v h (ix2 r x) = v (ix2 r X) := by
  rw [Layout.block_apply]
  refine congrArg v (funext fun i => Fin.ext ?_)
  match i with
  | ⟨0, _⟩ => exact (Layout.idx_cols_val h c (ix2 r x)).1
  | ⟨1, _⟩ => exact ((Layout.idx_cols_val h c (ix2 r x)).2).trans hX

/-- An entry of a block of rows. -/
theorem block_rows {a b a' : Nat} (v : Soft.Arr a b) (c : Fin 8) (h : Layout.Tiles ⟨2, ![a', b]⟩ ⟨2, ![a, b]⟩ 0 8) (r : Fin a') (x : Fin b) (R : Fin a)
    (hR : c.val * a' + r.val = R.val) : Layout.block ⟨2, ![a', b]⟩ ⟨2, ![a, b]⟩ 0 8 c v h (ix2 r x) = v (ix2 R x) := by
  rw [Layout.block_apply]
  refine congrArg v (funext fun i => Fin.ext ?_)
  match i with
  | ⟨0, _⟩ => exact ((Layout.idx_rows_val h c (ix2 r x)).1).trans hR
  | ⟨1, _⟩ => exact (Layout.idx_rows_val h c (ix2 r x)).2

/-- The value claim: the devices' slabs, summed along the rings and gathered, are the reference's result. -/
theorem algebraic : Cert.algebraic_KernelIdeal_ReferenceIdeal := by
  intro m ρ m' ρ' _ hag
  refine ⟨Cert.ReferenceIdeal.Value.res_main_v31 m' 0, ?_, ?_⟩
  · refine (θ_run Cert.KernelIdeal.defs _ _).mono (fun _ h c => ⟨((h.1 c).1.trans (finalA_out m ρ c)).trans ?_, (h.1 c).2⟩) (run_args (F := Ideal) m ρ)
    have H : Blk (insAt m ρ) (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4))
        (m' (((0 : Dev Cert.ReferenceIdeal.nD).tc : Thread Cert.ReferenceIdeal.nD Cert.ReferenceIdeal.τ).loc Cert.ReferenceIdeal.main_arg5)) := by
      refine ⟨fun c r x => ?_, fun c r x => ?_, fun c r x => ?_, fun c r x => ?_, fun c r x => ?_, fun c x k => ?_⟩
      · exact (congrFun ((insAt_q m ρ c).trans (hag c).1) _).trans (block_cols _ c _ r x _ rfl)
      · exact (congrFun ((insAt_k m ρ c).trans (hag c).2.1) _).trans (block_cols _ c _ r x _ rfl)
      · exact (congrFun ((insAt_v m ρ c).trans (hag c).2.2.1) _).trans (block_cols _ c _ r x _ rfl)
      · exact (congrFun ((insAt_qr m ρ c).trans (hag c).2.2.2.1) _).trans (block_cols _ c _ r x _ rfl)
      · exact congrFun ((insAt_kr m ρ c).trans (hag c).2.2.2.2.1) _
      · exact (congrFun ((insAt_wo m ρ c).trans (hag c).2.2.2.2.2) _).trans (block_rows _ c _ x k _ rfl)
    funext i
    idx_vars i
    exact (outV_apply H _ _ _).trans (Cert.ReferenceIdeal.Value.res_apply m' 0 _ _ _).symm
  · exact (θ_run Cert.ReferenceIdeal.defs _ _).mono (fun _ h => h 0) (Cert.ReferenceIdeal.Value.run (F := Ideal) m' ρ')

end Cert.KernelIdeal.Canon

end
-- ==== Proof.KvqCanon.lean ====
/- The body of the call that projects, as one straight program over a few tables: which device each
   copy goes to and which block of a weight it reads. -/
module

public import proofs.«01_k».proof.Proof.Gen.KvqIdeal.Skeleton

@[expose] public section

set_option synthInstance.maxSize 4096

noncomputable section

namespace Cert.KvqIdeal.Canon

open Idealize.ShloMosaic Idealize.SL.Sem Cert.KvqIdeal Cert.KvqIdeal.Gen

variable {F : FTy → Type} [FloatOps F]

/-- The device copy `d` of kind `k` goes to. -/
def devTab (k d : Nat) (c : Dev nD) : Dev nD :=
  match d with
  | 0 => match k with
    | 0 => ⟨k0_dev8 c, k0_dev8_lt c⟩
    | 1 => ⟨k0_dev9 c, k0_dev9_lt c⟩
    | _ => ⟨k0_dev10 c, k0_dev10_lt c⟩
  | 1 => match k with
    | 0 => ⟨k0_dev11 c, k0_dev11_lt c⟩
    | 1 => ⟨k0_dev12 c, k0_dev12_lt c⟩
    | _ => ⟨k0_dev13 c, k0_dev13_lt c⟩
  | 2 => match k with
    | 0 => ⟨k0_dev14 c, k0_dev14_lt c⟩
    | 1 => ⟨k0_dev15 c, k0_dev15_lt c⟩
    | _ => ⟨k0_dev16 c, k0_dev16_lt c⟩
  | 3 => match k with
    | 0 => ⟨k0_dev17 c, k0_dev17_lt c⟩
    | 1 => ⟨k0_dev18 c, k0_dev18_lt c⟩
    | _ => ⟨k0_dev19 c, k0_dev19_lt c⟩
  | 4 => match k with
    | 0 => ⟨k0_dev20 c, k0_dev20_lt c⟩
    | 1 => ⟨k0_dev21 c, k0_dev21_lt c⟩
    | _ => ⟨k0_dev22 c, k0_dev22_lt c⟩
  | 5 => match k with
    | 0 => ⟨k0_dev23 c, k0_dev23_lt c⟩
    | 1 => ⟨k0_dev24 c, k0_dev24_lt c⟩
    | _ => ⟨k0_dev25 c, k0_dev25_lt c⟩
  | _ => match k with
    | 0 => ⟨k0_dev26 c, k0_dev26_lt c⟩
    | 1 => ⟨k0_dev27 c, k0_dev27_lt c⟩
    | _ => ⟨k0_dev28 c, k0_dev28_lt c⟩

/-- The device signal `d` goes to. -/
def sigTab (d : Nat) (c : Dev nD) : Dev nD :=
  match d with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | _ => ⟨k0_dev7 c, k0_dev7_lt c⟩

/-- Where in a weight's argument the block of copy `s` starts; 7 for the device's own block. -/
def uOff (s : Nat) (c : Dev nD) : Fin 3 → Nat :=
  match s with
  | 0 => k0_off1 c 1#32
  | 1 => k0_off1 c 2#32
  | 2 => k0_off1 c 3#32
  | 3 => k0_off1 c 4#32
  | 4 => k0_off1 c 5#32
  | 5 => k0_off1 c 6#32
  | 6 => k0_off1 c 7#32
  | _ => k0_off2 c

theorem uOff_inb : ∀ (s : Fin 8) (c : Dev nD) (a : Fin 3), uOff s.val c a + S1x128x512.size a ≤ S8x128x512.size a := by
  decide +kernel
theorem uOff_words : ∀ (s : Fin 8) (c : Dev nD),
    (Rect.unit (s := S8x128x512) (uOff s.val c) S1x128x512.size (uOff_inb s c)).WholeWords (EltTy.packing .bf16) := by
  decide +kernel
theorem cInb : ∀ (s : Fin 8) (a : Fin 2), (![0, 128 * s.val] : Fin 2 → Nat) a + S1024x128.size a ≤ S1024x1024.size a := by
  decide +kernel
theorem wInb : ∀ (s : Fin 8) (a : Fin 2), (![128 * s.val, 0] : Fin 2 → Nat) a + S128x512.size a ≤ S1024x512.size a := by
  decide +kernel
theorem cWords : ∀ s : Fin 8, (Rect.unit (s := S1024x1024) ![0, 128 * s.val] S1024x128.size (cInb s)).WholeWords (EltTy.packing .bf16) := by
  decide +kernel
theorem wWords : ∀ s : Fin 8, (Rect.unit (s := S1024x512) ![128 * s.val, 0] S128x512.size (wInb s)).WholeWords (EltTy.packing .bf16) := by
  decide +kernel
theorem semInb : ∀ (d : Fin 7) (a : Fin 1), (![d.val] : Fin 1 → Nat) a + S1.size a ≤ S7.size a := by decide +kernel

/-- The effects of the body. -/
abbrev E (F : FTy → Type) := TpuEff nD τ sig (Elt F) Λ₀ .tc
/-- A program of the body. -/
abbrev PR (F : FTy → Type) (α : Type) := Prog (E F) α

/-- One after the other. -/
def seqP : List (PR F PUnit) → PR F PUnit
  | [] => pure ⟨⟩
  | p :: ps => do p; seqP ps

/-- A copy's index as a slot. -/
def slotOf (d : Fin 7) : Fin 8 := ⟨d.val, Nat.lt_succ_of_lt d.isLt⟩

/-- Slot `s` of the gathered latents. -/
abbrev cRect (s : Fin 8) : Rect S1024x1024 := Rect.unit (s := S1024x1024) ![0, 128 * s.val] S1024x128.size (cInb s)
/-- Slot `s` of the gathered weights. -/
abbrev wRect (s : Fin 8) : Rect S1024x512 := Rect.unit (s := S1024x512) ![128 * s.val, 0] S128x512.size (wInb s)
/-- The block of a weight's argument that copy `s` of device `c` reads. -/
abbrev uRect (s : Fin 8) (c : Dev nD) : Rect S8x128x512 :=
  Rect.unit (s := S8x128x512) (uOff s.val c) S1x128x512.size (uOff_inb s c)

/-- Slot `s` of the gathered latents, as a memory reference. -/
abbrev cSlot (a : Memref sig .tc .vmem S1024x1024 .bf16) (s : Fin 8) : Memref sig .tc .vmem S1024x128 .bf16 :=
  a.slice (cRect s) (fun _ => rfl)
/-- Slot `s` of the gathered weights, as a memory reference. -/
abbrev wSlot (a : Memref sig .tc .vmem S1024x512 .bf16) (s : Fin 8) : Memref sig .tc .vmem S128x512 .bf16 :=
  a.slice (wRect s) (fun _ => rfl)
/-- The block of a weight's argument copy `s` reads, as a memory reference. -/
abbrev uBlk (a : Memref sig .tc .vmem S8x128x512 .bf16) (s : Fin 8) (c : Dev nD) : Memref sig .tc .vmem S128x512 .bf16 :=
  (a.slice (uRect s c) (fun _ => rfl)).squeeze S128x512 squeezes_S1x128x512_S128x512

/-- The semaphore of copy `d`. -/
abbrev sem7 (a : DmaSems sig S7) (d : Fin 7) :=
  ((a.slice (Rect.unit (s := S7) ![d.val] S1.size (semInb d))).squeeze S_ squeezes_S1_S_).sem

theorem cSlot_exact {a : Memref sig .tc .vmem S1024x1024 .bf16} (h : a.IsWhole) (s : Fin 8) : (cSlot a s).view.WordExact :=
  h.wordExact_slice rfl _ (cWords s)
theorem wSlot_exact {a : Memref sig .tc .vmem S1024x512 .bf16} (h : a.IsWhole) (s : Fin 8) : (wSlot a s).view.WordExact :=
  h.wordExact_slice rfl _ (wWords s)
theorem uBlk_exact {a : Memref sig .tc .vmem S8x128x512 .bf16} (h : a.IsWhole) (s : Fin 8) (c : Dev nD) :
    (uBlk a s c).view.WordExact :=
  (h.wordExact_slice rfl _ (uOff_words s c)).reshape _ _

/-- Copy `d` of the latents. -/
def sendC {a12 : Memref sig .tc .vmem S1024x128 .bf16} (h12 : a12.IsWhole) {a13 : Memref sig .tc .vmem S1024x1024 .bf16}
    (h13 : a13.IsWhole) (sS sR : DmaSems sig S7) (c : Dev nD) (d : Fin 7) : PR F PUnit :=
  Prog.lift (.enqueueDma a12
    (.remote (Dev.tc (devTab 0 d.val c)) (cSlot a13 (slotOf d)) (.dma (sem7 sS d)))
    (.dma (sem7 sR d)) h12.wordExact (cSlot_exact h13 _) ⟨⟨rfl, Or.inl rfl⟩, trivial⟩)

/-- Copy `d` of a weight; `k` is 1 for the keys' and 2 for the values'. -/
def sendW (k : Nat) {a : Memref sig .tc .vmem S8x128x512 .bf16} (h : a.IsWhole) {b : Memref sig .tc .vmem S1024x512 .bf16}
    (hb : b.IsWhole) (sS sR : DmaSems sig S7) (c : Dev nD) (d : Fin 7) : PR F PUnit :=
  Prog.lift (.enqueueDma (uBlk a (slotOf d) c)
    (.remote (Dev.tc (devTab k d.val c)) (wSlot b (slotOf d)) (.dma (sem7 sS d)))
    (.dma (sem7 sR d)) (uBlk_exact h _ _) (wSlot_exact hb _) ⟨⟨rfl, Or.inl rfl⟩, trivial⟩)

/-- The wait for a copy of the latents, on its departure and on its arrival. -/
def waitC {a12 : Memref sig .tc .vmem S1024x128 .bf16} (h12 : a12.IsWhole) {a13 : Memref sig .tc .vmem S1024x1024 .bf16}
    (h13 : a13.IsWhole) (sS sR : DmaSems sig S7) (d : Fin 7) : PR F PUnit := do
  Prog.lift (.waitDma2 (sem7 sS d) (cSlot a13 (slotOf d)) a12 (cSlot_exact h13 _) h12.wordExact)
  Prog.lift (.waitDma2 (sem7 sR d) a12 (cSlot a13 (slotOf d)) h12.wordExact (cSlot_exact h13 _))

/-- The wait for a copy of a weight, on its departure and on its arrival. -/
def waitW {a : Memref sig .tc .vmem S8x128x512 .bf16} (h : a.IsWhole) {b : Memref sig .tc .vmem S1024x512 .bf16}
    (hb : b.IsWhole) (sS sR : DmaSems sig S7) (c : Dev nD) (d : Fin 7) : PR F PUnit := do
  Prog.lift (.waitDma2 (sem7 sS d) (wSlot b (slotOf d)) (uBlk a (slotOf d) c) (wSlot_exact hb _) (uBlk_exact h _ _))
  Prog.lift (.waitDma2 (sem7 sR d) (uBlk a (slotOf d) c) (wSlot b (slotOf d)) (uBlk_exact h _ _) (wSlot_exact hb _))

/-- The barrier's semaphore. -/
abbrev barS : Sems sig S_ := SemArray.scalar (sig.barrier 0 rfl)

/-- The seven rounds. -/
def l7 : List (Fin 7) := [0, 1, 2, 3, 4, 5, 6]

section
variable (arg0 : Memref sig .tc .vmem S1024x4096 .bf16) (arg1 : Memref sig .tc .vmem S4096x128 .bf16)
  (arg2 : Memref sig .tc .vmem S8x128x512 .bf16) (harg2 : arg2.IsWhole) (arg3 : Memref sig .tc .vmem S8x128x512 .bf16) (harg3 : arg3.IsWhole)
  (arg4 : Memref sig .tc .vmem S4096x512 .bf16) (arg5 : Memref sig .tc .vmem S4096x256 .bf16) (arg6 : Memref sig .tc .vmem S4096x64 .bf16)
  (arg7 : Memref sig .tc .vmem S1024x512 .bf16) (harg7 : arg7.IsWhole) (arg8 : Memref sig .tc .vmem S1024x256 .bf16) (harg8 : arg8.IsWhole)
  (arg9 : Memref sig .tc .vmem S1024x64 .bf16) (harg9 : arg9.IsWhole) (arg10 : Memref sig .tc .vmem S1024x512 .bf16) (harg10 : arg10.IsWhole)
  (arg11 : Memref sig .tc .vmem S1024x512 .bf16) (harg11 : arg11.IsWhole)
  (arg12 : Memref sig .tc .vmem S1024x128 .bf16) (harg12 : arg12.IsWhole) (arg13 : Memref sig .tc .vmem S1024x1024 .bf16) (harg13 : arg13.IsWhole)
  (arg14 : Memref sig .tc .vmem S1024x512 .bf16) (harg14 : arg14.IsWhole) (arg15 : Memref sig .tc .vmem S1024x512 .bf16) (harg15 : arg15.IsWhole)
  (arg16 arg17 arg18 arg19 arg20 arg21 : DmaSems sig S7)

/-- The three copies of round `d`. -/
def sends (c : Dev nD) (d : Fin 7) : PR F PUnit := do
  sendC harg12 harg13 arg16 arg17 c d
  sendW 1 harg2 harg14 arg18 arg19 c d
  sendW 2 harg3 harg15 arg20 arg21 c d

/-- The six waits of round `d`. -/
def waits (c : Dev nD) (d : Fin 7) : PR F PUnit := do
  waitC harg12 harg13 arg16 arg17 d
  waitW harg2 harg14 arg18 arg19 c d
  waitW harg3 harg15 arg20 arg21 c d

/-- The seven signals of the barrier and its wait. -/
def handshake (c : Dev nD) : PR F PUnit := do
  seqP (l7.map fun d => semSignalWord (sigTab d.val c) barS.sem 1#32)
  semWaitWord barS.sem 7#32

/-- The device's own latent to its own scratch. -/
def latent : PR F PUnit := do
  let x ← Prog.lift (.load arg0 (Rect.unit (s := S1024x4096) ![0, 0] S1024x4096.size inb_S1024x4096_S1024x4096_0_0).toLoadRect (View.loadsAt_vmem h_S1024x4096))
  let w ← Prog.lift (.load arg1 (Rect.unit (s := S4096x128) ![0, 0] S4096x128.size inb_S4096x128_S4096x128_0_0).toLoadRect (View.loadsAt_vmem h_S4096x128))
  let _ ← Prog.lift (.load arg12 (Rect.unit (s := S1024x128) ![0, 0] S1024x128.size inb_S1024x128_S1024x128_0_0).toLoadRect (View.loadsAt_vmem h_S1024x128))
  Prog.lift (.store arg12 (Rect.unit (s := S1024x128) ![0, 0] S1024x128.size inb_S1024x128_S1024x128_0_0) (k0_pay3 x w) Finset.univ (View.stores_vmem h_S1024x128 (harg12.storeExact_slice rfl _ packedbf16_S1024x128_S1024x128_0_0) (fun _ => rfl)) (.inl rfl))

/-- The device's own blocks to its last slots. -/
def own (c : Dev nD) : PR F PUnit := do
  let z ← Prog.lift (.load arg12 (Rect.unit (s := S1024x128) ![0, 0] S1024x128.size inb_S1024x128_S1024x128_0_0).toLoadRect (View.loadsAt_vmem h_S1024x128))
  let _ ← Prog.lift (.load arg13 (cRect 7).toLoadRect (View.loadsAt_vmem h_S1024x128))
  Prog.lift (.store arg13 (cRect 7) (k0_pay4 z) Finset.univ (View.stores_vmem h_S1024x128 (harg13.storeExact_slice rfl _ packedbf16_S1024x1024_S1024x128_0_896) (fun _ => rfl)) (.inl rfl))
  let k ← Prog.lift (.load arg2 (uRect 7 c).toLoadRect (View.loadsAt_vmem h_S1x128x512))
  let _ ← Prog.lift (.load arg14 (wRect 7).toLoadRect (View.loadsAt_vmem h_S128x512))
  Prog.lift (.store arg14 (wRect 7) (k0_pay5 k) Finset.univ (View.stores_vmem h_S128x512 (harg14.storeExact_slice rfl _ packedbf16_S1024x512_S128x512_896_0) (fun _ => rfl)) (.inl rfl))
  let v ← Prog.lift (.load arg3 (uRect 7 c).toLoadRect (View.loadsAt_vmem h_S1x128x512))
  let _ ← Prog.lift (.load arg15 (wRect 7).toLoadRect (View.loadsAt_vmem h_S128x512))
  Prog.lift (.store arg15 (wRect 7) (k0_pay7 (k0_pay6 v)) Finset.univ (View.stores_vmem h_S128x512 (harg15.storeExact_slice rfl _ packedbf16_S1024x512_S128x512_896_0) (fun _ => rfl)) (.inl rfl))

/-- The three projections of the device's own columns. -/
def projs : PR F PUnit := do
  let x ← Prog.lift (.load arg0 (Rect.unit (s := S1024x4096) ![0, 0] S1024x4096.size inb_S1024x4096_S1024x4096_0_0).toLoadRect (View.loadsAt_vmem h_S1024x4096))
  let q ← Prog.lift (.load arg4 (Rect.unit (s := S4096x512) ![0, 0] S4096x512.size inb_S4096x512_S4096x512_0_0).toLoadRect (View.loadsAt_vmem h_S4096x512))
  let _ ← Prog.lift (.load arg7 (Rect.unit (s := S1024x512) ![0, 0] S1024x512.size inb_S1024x512_S1024x512_0_0).toLoadRect (View.loadsAt_vmem h_S1024x512))
  Prog.lift (.store arg7 (Rect.unit (s := S1024x512) ![0, 0] S1024x512.size inb_S1024x512_S1024x512_0_0) (k0_pay9 x q) Finset.univ (View.stores_vmem h_S1024x512 (harg7.storeExact_slice rfl _ packedbf16_S1024x512_S1024x512_0_0) (fun _ => rfl)) (.inl rfl))
  let r ← Prog.lift (.load arg5 (Rect.unit (s := S4096x256) ![0, 0] S4096x256.size inb_S4096x256_S4096x256_0_0).toLoadRect (View.loadsAt_vmem h_S4096x256))
  let _ ← Prog.lift (.load arg8 (Rect.unit (s := S1024x256) ![0, 0] S1024x256.size inb_S1024x256_S1024x256_0_0).toLoadRect (View.loadsAt_vmem h_S1024x256))
  Prog.lift (.store arg8 (Rect.unit (s := S1024x256) ![0, 0] S1024x256.size inb_S1024x256_S1024x256_0_0) (k0_pay10 x r) Finset.univ (View.stores_vmem h_S1024x256 (harg8.storeExact_slice rfl _ packedbf16_S1024x256_S1024x256_0_0) (fun _ => rfl)) (.inl rfl))
  let k ← Prog.lift (.load arg6 (Rect.unit (s := S4096x64) ![0, 0] S4096x64.size inb_S4096x64_S4096x64_0_0).toLoadRect (View.loadsAt_vmem h_S4096x64))
  let _ ← Prog.lift (.load arg9 (Rect.unit (s := S1024x64) ![0, 0] S1024x64.size inb_S1024x64_S1024x64_0_0).toLoadRect (View.loadsAt_vmem h_S1024x64))
  Prog.lift (.store arg9 (Rect.unit (s := S1024x64) ![0, 0] S1024x64.size inb_S1024x64_S1024x64_0_0) (k0_pay11 x k) Finset.univ (View.stores_vmem h_S1024x64 (harg9.storeExact_slice rfl _ packedbf16_S1024x64_S1024x64_0_0) (fun _ => rfl)) (.inl rfl))

/-- The two products of the gathered blocks. -/
def prods : PR F PUnit := do
  let z ← Prog.lift (.load arg13 (Rect.unit (s := S1024x1024) ![0, 0] S1024x1024.size inb_S1024x1024_S1024x1024_0_0).toLoadRect (View.loadsAt_vmem h_S1024x1024))
  let k ← Prog.lift (.load arg14 (Rect.unit (s := S1024x512) ![0, 0] S1024x512.size inb_S1024x512_S1024x512_0_0).toLoadRect (View.loadsAt_vmem h_S1024x512))
  let _ ← Prog.lift (.load arg10 (Rect.unit (s := S1024x512) ![0, 0] S1024x512.size inb_S1024x512_S1024x512_0_0).toLoadRect (View.loadsAt_vmem h_S1024x512))
  Prog.lift (.store arg10 (Rect.unit (s := S1024x512) ![0, 0] S1024x512.size inb_S1024x512_S1024x512_0_0) (k0_pay1 z k) Finset.univ (View.stores_vmem h_S1024x512 (harg10.storeExact_slice rfl _ packedbf16_S1024x512_S1024x512_0_0) (fun _ => rfl)) (.inl rfl))
  let v ← Prog.lift (.load arg15 (Rect.unit (s := S1024x512) ![0, 0] S1024x512.size inb_S1024x512_S1024x512_0_0).toLoadRect (View.loadsAt_vmem h_S1024x512))
  let _ ← Prog.lift (.load arg11 (Rect.unit (s := S1024x512) ![0, 0] S1024x512.size inb_S1024x512_S1024x512_0_0).toLoadRect (View.loadsAt_vmem h_S1024x512))
  Prog.lift (.store arg11 (Rect.unit (s := S1024x512) ![0, 0] S1024x512.size inb_S1024x512_S1024x512_0_0) (k0_pay2 z v) Finset.univ (View.stores_vmem h_S1024x512 (harg11.storeExact_slice rfl _ packedbf16_S1024x512_S1024x512_0_0) (fun _ => rfl)) (.inl rfl))

/-- The whole body. -/
def canon : PR F PUnit := do
  let c ← Prog.lift .deviceId
  latent arg0 arg1 arg12 harg12
  handshake c
  seqP (l7.map (sends arg2 harg2 arg3 harg3 arg12 harg12 arg13 harg13 arg14 harg14 arg15 harg15 arg16 arg17 arg18 arg19 arg20 arg21 c))
  own arg2 arg3 arg12 arg13 harg13 arg14 harg14 arg15 harg15 c
  projs arg0 arg4 arg5 arg6 arg7 harg7 arg8 harg8 arg9 harg9
  seqP (l7.map (waits arg2 harg2 arg3 harg3 arg12 harg12 arg13 harg13 arg14 harg14 arg15 harg15 arg16 arg17 arg18 arg19 arg20 arg21 c))
  prods arg10 harg10 arg11 harg11 arg13 arg14 arg15

end

end Cert.KvqIdeal.Canon
-- ==== Proof.KvqProto.lean ====
/- The protocol of the call that projects, in closed form: where every copy goes, which block of a
   weight it reads, and the semaphores' cells, each shown to be what the tables of the body say. -/
module

public import proofs.«01_k».proof.Proof.KvqCanon
public import Idealize.ShloMosaic.Lib.Rounds

@[expose] public section

set_option synthInstance.maxSize 4096

noncomputable section

namespace Cert.KvqIdeal.Canon

open Idealize.ShloMosaic Idealize.ShloMosaic.TcCoe Idealize.SL.Sem Cert.KvqIdeal Cert.KvqIdeal.Gen

/-! ## Devices -/

/-- The device `d + 1` places on, where the copies of round `d` go. -/
def fwd (d : Fin 7) (c : Dev nD) : Dev nD := ⟨(c.val + d.val + 1) % 8, Nat.mod_lt _ (by decide)⟩
/-- The device `d + 1` places back, where the copies of round `d` come from. -/
def bwd (d : Fin 7) (c : Dev nD) : Dev nD := ⟨(c.val + 7 - d.val) % 8, Nat.mod_lt _ (by decide)⟩
/-- The round counted from the other end. -/
def rv (d : Fin 7) : Fin 7 := ⟨6 - d.val, by omega⟩
/-- The device whose block slot `s` holds. -/
def slotDev (s : Nat) (c : Dev nD) : Dev nD := ⟨(c.val + 7 + 8 - s % 8) % 8, Nat.mod_lt _ (by decide)⟩
/-- The block of its own columns. -/
def ownBlk (c : Dev nD) : Fin 8 := ⟨(c.val + 1) % 8, Nat.mod_lt _ (by decide)⟩

theorem fwd_bwd : ∀ (d : Fin 7) (c : Dev nD), fwd d (bwd d c) = c := by decide +kernel
theorem bwd_fwd : ∀ (d : Fin 7) (c : Dev nD), bwd d (fwd d c) = c := by decide +kernel
theorem fwd_rv : ∀ (d : Fin 7) (c : Dev nD), fwd (rv d) (fwd d c) = c := by decide +kernel
theorem rv_rv : ∀ d : Fin 7, rv (rv d) = d := by decide +kernel
theorem slotDev_fwd : ∀ (d : Fin 7) (c : Dev nD), slotDev d.val (fwd d c) = c := by decide +kernel
theorem slotDev_own : ∀ c : Dev nD, slotDev 7 c = c := by decide +kernel

theorem sigTab_eq : ∀ (d : Fin 7) (c : Dev nD), sigTab d.val c = fwd d c := by decide +kernel
theorem devTab_eq : ∀ (k : Fin 3) (d : Fin 7) (c : Dev nD), devTab k.val d.val c = fwd d c := by decide +kernel
theorem uOff_fwd : ∀ (d : Fin 7) (c : Dev nD), uOff (slotOf d).val c = ![(ownBlk (fwd d c)).val, 0, 0] := by decide +kernel
theorem uOff_own : ∀ c : Dev nD, uOff (7 : Fin 8).val c = ![(ownBlk c).val, 0, 0] := by decide +kernel
/-- The block of a weight slot number `s` reads. -/
def uBlkNo (s : Fin 8) (c : Dev nD) : Nat := (c.val + s.val + 2) % 8
theorem uOff_eq : ∀ (s : Fin 8) (c : Dev nD), uOff s.val c = ![uBlkNo s c, 0, 0] := by decide +kernel
theorem uBlkNo_inj : ∀ (c : Dev nD) (s s' : Fin 8), uBlkNo s c = uBlkNo s' c → s = s' := by decide +kernel
theorem uBlkNo_surj : ∀ (c : Dev nD) (n : Fin 8), ∃ s, uBlkNo s c = n.val := by decide +kernel

/-! ## Cells -/

/-- What a copy moves: the latent (`none`), or a block of the keys' (`some false`) or values' weight. -/
abbrev Kd := Option Bool
/-- A copy: what it moves, and its round. -/
abbrev X := Kd × Fin 7
/-- A cell of a device: the barrier's, or the departure's (`false`) or arrival's (`true`) of a copy. -/
abbrev Cl := Option (Bool × X)

/-- The semaphores of the departures. -/
abbrev smS (k : Kd) : DmaSems sig S7 := match k with | none => cc0_scratch4 | some false => cc0_scratch6 | some true => cc0_scratch8
/-- The semaphores of the arrivals. -/
abbrev smR (k : Kd) : DmaSems sig S7 := match k with | none => cc0_scratch5 | some false => cc0_scratch7 | some true => cc0_scratch9

/-- The semaphore of a copy's departure. -/
def semS (x : X) : DmaSem sig := sem7 (smS x.1) x.2
/-- The semaphore of a copy's arrival. -/
def semR (x : X) : DmaSem sig := sem7 (smR x.1) x.2

/-- The semaphore of a cell. -/
def csem : Cl → SemLoc sig
  | none => .reg barS.sem
  | some (false, x) => .dma (semS x)
  | some (true, x) => .dma (semR x)

/-- A cell of the machine. -/
abbrev kcell (c : Dev nD) (k : Cl) : GSem nD τ sig := ((c : Thread nD τ), csem k)

/-- What the copies of a number move. -/
def kdN : Nat → Kd
  | 0 => none
  | 1 => some false
  | _ => some true

/-- Which cell a DMA semaphore is, by its number. -/
def decN (n : Nat) : Option (Bool × X) :=
  if n < 12 then none
  else some (decide ((n - 12) % 14 / 7 = 1), kdN ((n - 12) / 14), ⟨(n - 12) % 7, Nat.mod_lt _ (by decide)⟩)

/-- Which cell a semaphore is. -/
def dec : SemLoc sig → Option Cl
  | .reg _ => some none
  | .dma q => (decN q.val).map some

theorem dec_csem : ∀ k : Cl, dec (csem k) = some k := by decide +kernel
theorem csem_injective : Function.Injective csem := fun a b h => by
  have := congrArg dec h; rw [dec_csem, dec_csem] at this; exact Option.some.inj this

/-! ## Order -/

/-- The three copies of a round. -/
def x3 (d : Fin 7) : List X := [(none, d), (some false, d), (some true, d)]
/-- All copies in the order they start. -/
def allX : List X := l7.flatMap x3

theorem l7_nodup : l7.Nodup := by decide
theorem mem_l7 : ∀ d : Fin 7, d ∈ l7 := by decide
theorem allX_nodup : allX.Nodup := by decide +kernel
theorem mem_allX : ∀ x : X, x ∈ allX := by
  intro x
  have h : ∀ x : X, allX.contains x = true := by decide +kernel
  exact List.contains_iff_mem.1 (h x)

end Cert.KvqIdeal.Canon
-- ==== Proof.KvqPc.lean ====
/- Parts of a buffer seen through a memory reference: `pc m c S q X` holds the elements under the
   indices `S`, at share `q`, reading `X` there. Splitting, joining, loads and stores. -/
module

public import proofs.«01_k».proof.Proof.KvqProto
public import Idealize.ShloMosaic.Lib.Ring
public import Idealize.ShloMosaic.Lib.Exec.Geometry
public import Idealize.ShloMosaic.Lib.Tactic

@[expose] public section

noncomputable section

namespace Cert.KvqIdeal.Canon

open Cert.KvqIdeal Cert.KvqIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Running `p` on core `c`. -/
abbrev WP (c : Dev nD) {α : Type} (p : PR F α) (Q : α → sProp 𝕄) : sProp 𝕄 :=
  wp frame (wpE (defs₀ (F := F)) 𝒱₀ (c : Thread nD τ) none) Set.univ p Q

/-- A block's triple, used at the head of a program. -/
theorem step {c : Dev nD} {α β : Type} {p : PR F α} {k : α → PR F β} {P : sProp 𝕄} {R : α → sProp 𝕄} {Q : β → sProp 𝕄}
    (h : P ⊢ WP c p R) : P ⊢ iprop((∀ r, R r -∗ WP c (k r) Q) -∗ WP c (p >>= k) Q) := by
  unfold WP at *; rw [wp_bind]; exact h.trans (wp_wand _ _ _)

/-- A block's triple, used on the whole program. -/
theorem last {c : Dev nD} {α : Type} {p : PR F α} {P : sProp 𝕄} {R Q : α → sProp 𝕄}
    (h : P ⊢ WP c p R) : P ⊢ iprop((∀ r, R r -∗ Q r) -∗ WP c p Q) := h.trans (wp_wand _ _ _)

/-- A post can be weakened. -/
theorem wp_mono' (c : Dev nD) {α : Type} {p : PR F α} {R Q : α → sProp 𝕄} (h : ∀ r, R r ⊢ Q r) : WP c p R ⊢ WP c p Q := by
  iintro H
  iapply (last (BI.Entails.refl (WP c p R))) $$ H
  iintro %r HR
  iapply (h r); iexact HR

/-- A value meets a post that holds of it. -/
theorem wp_pure_intro {c : Dev nD} {α : Type} (a : α) (Q : α → sProp 𝕄) : Q a ⊢ WP c (pure a) Q :=
  (fupd_intro (PROP := sProp 𝕄))

section
variable {s : Shape} {e : EltTy}

/-- The elements under `S`, at share `q`, reading `X`. -/
def pc (m : Memref sig .tc .vmem s e) (c : Dev nD) (S : Finset s.Idx) (q : PosShare TreeShare) (X : Vec F s e) : sProp 𝕄 :=
  iprop(∃ f : Buf (Elt F) (m.view.loc (c : Thread nD τ)), ⌜∀ i ∈ S, m.view.read (Elt F) f i = X i⌝
    ∗ (m.view.loc (c : Thread nD τ) ↦[m.view.setOn S]{q} f))

/-- The elements under `S`, at contents not stated. -/
def pcE (m : Memref sig .tc .vmem s e) (c : Dev nD) (S : Finset s.Idx) : sProp 𝕄 :=
  iprop(∃ f : Buf (Elt F) (m.view.loc (c : Thread nD τ)), (m.view.loc (c : Thread nD τ) ↦[m.view.setOn S]{fullShare} f))

omit [FloatOps F] in
instance pc_storable (m : Memref sig .tc .vmem s e) (c S q) (X : Vec F s e) : BI.Storable (upEmb : UEmb _ 𝕄) (pc m c S q X) := by
  unfold pc; infer_instance
omit [FloatOps F] in
instance pcE_storable (m : Memref sig .tc .vmem s e) (c S) : BI.Storable (upEmb : UEmb _ 𝕄) (pcE (F := F) m c S) := by
  unfold pcE; infer_instance

variable (m : Memref sig .tc .vmem s e) (c : Dev nD)

omit [FloatOps F] in
theorem pc_forget (S) (X : Vec F s e) : pc m c S fullShare X ⊢ pcE m c S := by
  unfold pc pcE; iintro ⟨%f, -, H⟩; iexists f; iexact H

omit [FloatOps F] in
theorem pc_congr {S} {q} {X Y : Vec F s e} (h : ∀ i ∈ S, X i = Y i) : pc m c S q X = pc m c S q Y := by
  unfold pc
  exact congrArg _ (funext fun f => by
    rw [show (∀ i ∈ S, m.view.read (Elt F) f i = X i) = (∀ i ∈ S, m.view.read (Elt F) f i = Y i) from
      propext ⟨fun H i hi => (H i hi).trans (h i hi), fun H i hi => (H i hi).trans (h i hi).symm⟩])

omit [FloatOps F] in
/-- Along the share. -/
theorem pc_halves (S) (q : PosShare TreeShare) (X : Vec F s e) : pc m c S q X ⊣⊢ iprop(pc m c S q.left X ∗ pc m c S q.right X) := by
  constructor
  · unfold pc
    iintro ⟨%f, %h, H⟩
    ihave H2 := (pointsTo_share (PosShare.mem_left_op_right q)).1 $$ H
    icases H2 with ⟨H1, H2⟩
    isplitl [H1]
    · iexists f; isplitr; · ipureintro; exact h
      iexact H1
    · iexists f; isplitr; · ipureintro; exact h
      iexact H2
  · unfold pc
    iintro ⟨⟨%f, %h, H1⟩, ⟨%g, %h', H2⟩⟩
    have hfg : ∀ i ∈ m.view.setOn S, f i = g i := by
      intro i hi
      obtain ⟨x, hx, rfl⟩ := Finset.mem_map.mp hi
      have := (h x hx).trans (h' x hx).symm
      rw [View.read_apply, View.read_apply] at this
      exact (cast_inj _).mp this
    ihave H1 := (Entails.of_eq (pointsTo_congr hfg)) $$ H1
    iexists g
    isplitr; · ipureintro; exact h'
    iapply (pointsTo_share (PosShare.mem_left_op_right q)).2
    isplitl [H1] <;> iassumption

omit [FloatOps F] in
theorem pc_empty (f₀ : Buf (Elt F) (m.view.loc (c : Thread nD τ))) (q) (X : Vec F s e) : (emp : sProp 𝕄) ⊢ pc m c ∅ q X := by
  unfold pc
  iintro -
  iexists f₀
  isplitr
  · ipureintro; exact fun i hi => absurd hi (Finset.notMem_empty _)
  rw [show m.view.setOn ∅ = ∅ from Finset.map_empty _, pointsTo_empty]; iempintro

omit [FloatOps F] in
theorem pc_join {S T : Finset s.Idx} (hd : Disjoint S T) (q) (X : Vec F s e) :
    iprop(pc m c S q X ∗ pc m c T q X) ⊢ pc m c (S ∪ T) q X := by
  have hd' : Disjoint (m.view.setOn S) (m.view.setOn T) := m.view.disjoint_setOn hd
  unfold pc
  iintro ⟨⟨%f, %h, H1⟩, ⟨%g, %h', H2⟩⟩
  iexists (m.view.setOn T).piecewise g f
  isplitr
  · ipureintro
    intro i hi
    rcases Finset.mem_union.mp hi with hS | hT
    · rw [View.read_congr_at (f := (m.view.setOn T).piecewise g f) (g := f) i, h i hS]
      exact Finset.piecewise_eq_of_notMem _ _ _ fun hm => Finset.disjoint_left.mp hd hS (m.view.mem_setOn.mp hm)
    · rw [View.read_congr_at (f := (m.view.setOn T).piecewise g f) (g := g) i, h' i hT]
      exact Finset.piecewise_eq_of_mem _ _ _ (m.view.mem_setOn.mpr hT)
  rw [show m.view.setOn (S ∪ T) = m.view.setOn S ∪ m.view.setOn T from Finset.map_union _ _]
  iapply (pointsTo_join hd')
  isplitl [H1] <;> iassumption

omit [FloatOps F] in
theorem pc_split {S T : Finset s.Idx} (hd : Disjoint S T) (q) (X : Vec F s e) :
    pc m c (S ∪ T) q X ⊢ iprop(pc m c S q X ∗ pc m c T q X) := by
  have hd' : Disjoint (m.view.setOn S) (m.view.setOn T) := m.view.disjoint_setOn hd
  unfold pc
  iintro ⟨%f, %h, H⟩
  rw [show m.view.setOn (S ∪ T) = m.view.setOn S ∪ m.view.setOn T from Finset.map_union _ _]
  ihave H2 := (pointsTo_union hd').1 $$ H
  icases H2 with ⟨H1, H2⟩
  isplitl [H1]
  · iexists f; isplitr; · ipureintro; exact fun i hi => h i (Finset.mem_union_left _ hi)
    iexact H1
  · iexists f; isplitr; · ipureintro; exact fun i hi => h i (Finset.mem_union_right _ hi)
    iexact H2

section Blocks
variable {B : Type} [Fintype B] [DecidableEq B] (I : B → Finset s.Idx) (hd : ∀ b b', b ≠ b' → Disjoint (I b) (I b'))

omit [FloatOps F] [Fintype B] in
include hd in
theorem pc_biUnion (f₀ : Buf (Elt F) (m.view.loc (c : Thread nD τ))) (q) (X : Vec F s e) (T : Finset B) :
    pc m c (T.biUnion I) q X ⊣⊢ bigSep T fun b => pc m c (I b) q X := by
  induction T using Finset.induction_on with
  | empty =>
    rw [Finset.biUnion_empty]
    constructor
    · rw [bigSep_empty]
      unfold pc; iintro ⟨%f, -, -⟩; iempintro
    · rw [bigSep_empty]; exact pc_empty m c f₀ q X
  | insert b T hb ih =>
    rw [bigSep_insert hb, Finset.biUnion_insert]
    have hd' : Disjoint (I b) (T.biUnion I) := (Finset.disjoint_biUnion_right _ _ _).mpr fun b' hb' => hd b b' fun h => hb (h ▸ hb')
    constructor
    · exact (pc_split m c hd' q X).trans (sep_mono_right ih.1)
    · exact (show iprop(pc m c (I b) q X ∗ bigSep T fun b => pc m c (I b) q X) ⊢ _ from (sep_mono_right ih.2).trans (pc_join m c hd' q X))

omit [FloatOps F] in
include hd in
/-- A set cut into blocks, at one contents. -/
theorem pc_blocks [Nonempty (Buf (Elt F) (m.view.loc (c : Thread nD τ)))] (q) (X : Vec F s e) (S : Finset s.Idx)
    (hS : Finset.univ.biUnion I = S) : pc m c S q X ⊣⊢ bigSep Finset.univ fun b => pc m c (I b) q X := by
  subst hS; exact pc_biUnion m c I hd (Classical.arbitrary _) q X Finset.univ

theorem setOn_biUnion' (v : View sig .tc .vmem s e) (T : Finset B) : T.biUnion (fun b => v.setOn (I b)) = v.setOn (T.biUnion I) := by
  ext i
  simp only [View.setOn, Finset.mem_biUnion, Finset.mem_map]
  constructor
  · rintro ⟨b, hb, x, hx, rfl⟩; exact ⟨x, ⟨b, hb, hx⟩, rfl⟩
  · rintro ⟨x, ⟨b, hb, hx⟩, rfl⟩; exact ⟨b, hb, x, hx, rfl⟩

omit [FloatOps F] in
include hd in
/-- A set cut into blocks, each at some contents. -/
theorem pcE_blocks [Nonempty (Buf (Elt F) (m.view.loc (c : Thread nD τ)))] (S : Finset s.Idx)
    (hS : Finset.univ.biUnion I = S) : pcE (F := F) m c S ⊣⊢ bigSep Finset.univ fun b => pcE m c (I b) := by
  let J : B → Finset (Idx (m.view.loc (c : Thread nD τ))) := fun b => m.view.setOn (I b)
  have hd' : ∀ b b', b ≠ b' → Disjoint (J b) (J b') := fun b b' h => m.view.disjoint_setOn (hd b b' h)
  have hS' : Finset.univ.biUnion J = m.view.setOn S := (setOn_biUnion' I m.view Finset.univ).trans (congrArg _ hS)
  constructor
  · unfold pcE
    iintro ⟨%f, H⟩
    have hsp := Ring.pointsTo_sub_blocks (Ix := Unit) (Val := Elt F) (Name := ℕ) (U := UU) (Lvl := ℕ) J hd' _ hS' (q := fullShare) f
    have hm : (m.view.loc (c : Thread nD τ) ↦[m.view.setOn S]{fullShare} f : sProp 𝕄)
        ⊢ bigSep Finset.univ fun b => iprop(∃ f : Buf (Elt F) (m.view.loc (c : Thread nD τ)), (m.view.loc (c : Thread nD τ) ↦[J b]{fullShare} f)) := by
      rw [hsp]
      have h1 (b : B) : (m.view.loc (c : Thread nD τ) ↦[J b]{fullShare} f : sProp 𝕄)
          ⊢ iprop(∃ f : Buf (Elt F) (m.view.loc (c : Thread nD τ)), (m.view.loc (c : Thread nD τ) ↦[J b]{fullShare} f)) := by
        iintro H; iexists f; iexact H
      exact bigSep_mono fun b _ => h1 b
    iapply hm
    iexact H
  · unfold pcE
    exact Ring.pointsTo_sub_blocks_join_exists J hd' _ hS' (Classical.arbitrary _)

end Blocks

/-! ### Loads and stores -/

/-- A load of a rectangle of elements held. -/
theorem wp_load_pc {r : Rect s} {hl : m.view.LoadsAt r.toLoadRect}
    {S : Finset s.Idx} (hS : r.set ⊆ S) (q) (X : Vec F s e) :
    pc m c S q X ⊢ WP c (Prog.lift (.load m r.toLoadRect hl)) (fun x => iprop(⌜x = fun j => X (r.emb j)⌝ ∗ pc m c S q X)) := by
  conv_lhs => unfold pc
  iintro ⟨%f, %h, H⟩
  iapply (wp_load 𝒱₀ (c : Thread nD τ) none Set.univ (m := m) (r := r.toLoadRect) (q := q) (f := f)
    (S := m.view.setOn S) (Finset.map_subset_map.mpr hS)) $$ H
  iintro H
  iapply (wp_pure_intro (c := c) (m.view.readAt (Elt F) r.toLoadRect f))
  isplitr
  · ipureintro
    funext j
    exact h _ (hS (r.idx_mem j))
  unfold pc
  iexists f
  isplitr; · ipureintro; exact h
  iexact H

/-- A load of elements held at contents not stated. -/
theorem wp_load_pcE {r : Rect s} {hl : m.view.LoadsAt r.toLoadRect} {S : Finset s.Idx} (hS : r.set ⊆ S) :
    pcE (F := F) m c S ⊢ WP c (Prog.lift (.load m r.toLoadRect hl)) (fun x => pcE m c S) := by
  conv_lhs => unfold pcE
  iintro ⟨%f, H⟩
  iapply (wp_load 𝒱₀ (c : Thread nD τ) none Set.univ (m := m) (r := r.toLoadRect) (q := fullShare) (f := f)
    (S := m.view.setOn S) (Finset.map_subset_map.mpr hS)) $$ H
  iintro H
  iapply (wp_pure_intro (c := c) (m.view.readAt (Elt F) r.toLoadRect f))
  unfold pcE
  iexists f
  iexact H

/-- A store over a whole rectangle held. -/
theorem wp_store_pc {r : Rect s} {w : r.shape.Idx → Elt F e} {hx : (m.access r).Stores Finset.univ}
    {hm : (Finset.univ : Finset r.shape.Idx) = Finset.univ ∨ ∀ a, r.stride a = 1} (Y : Vec F s e) (hY : ∀ j, Y (r.emb j) = w j) :
    pcE (F := F) m c r.set ⊢ WP c (Prog.lift (.store m r w Finset.univ hx hm)) (fun _ => pc m c r.set fullShare Y) := by
  unfold pcE
  iintro ⟨%f, H⟩
  iapply (wp_store 𝒱₀ (c : Thread nD τ) none Set.univ (m := m) (r := r) (w := w) (Mk := Finset.univ) (f := f)
    (S := m.view.setOn r.set) (by
      rw [View.setOn_slice, ← Rect.map_emb_univ])) $$ H
  iintro H
  iapply (wp_pure_intro (c := c) PUnit.unit)
  unfold pc
  iexists ((m.access r).write (Elt F) f w Finset.univ)
  isplitr
  · ipureintro
    intro i hi
    obtain ⟨j, rfl⟩ := r.exists_idx_of_mem hi
    exact (View.read_slice_write_emb (v := m.view) (Val := Elt F) r f w (Finset.mem_univ j)).trans (hY j).symm
  iexact H

end

end Cert.KvqIdeal.Canon
-- ==== Proof.KvqGeom.lean ====
/- Which elements each copy moves, and what every buffer holds. -/
module

public import proofs.«01_k».proof.Proof.KvqPc
public import Idealize.ShloMosaic.Lib.Pointwise.Index

@[expose] public section

noncomputable section

namespace Cert.KvqIdeal.Canon

open Cert.KvqIdeal Cert.KvqIdeal.Gen

open Idealize.ShloMosaic
open Idealize.ShloMosaic.TcCoe

variable {F : FTy → Type} [FloatOps F]

/-! ## Element sets -/

theorem mem_cRect (s : Fin 8) (i : S1024x1024.Idx) : i ∈ (cRect s).set ↔ (i 1).val / 128 = s.val := by
  rw [Rect.mem_set_unit]
  have h0 : (i 0).val < 1024 := (i 0).isLt
  constructor
  · intro h
    have h1 := h 1
    simp at h1
    omega
  · intro h a
    match a with
    | 0 => exact ⟨Nat.zero_le _, by show (i 0).val < 0 + 1024; omega⟩
    | 1 => exact ⟨by show 128 * s.val ≤ (i 1).val; omega, by show (i 1).val < 128 * s.val + 128; omega⟩

theorem mem_wRect (s : Fin 8) (i : S1024x512.Idx) : i ∈ (wRect s).set ↔ (i 0).val / 128 = s.val := by
  rw [Rect.mem_set_unit]
  have h1 : (i 1).val < 512 := (i 1).isLt
  constructor
  · intro h
    have h0 := h 0
    simp at h0
    omega
  · intro h a
    match a with
    | 0 => exact ⟨by show 128 * s.val ≤ (i 0).val; omega, by show (i 0).val < 128 * s.val + 128; omega⟩
    | 1 => exact ⟨Nat.zero_le _, by show (i 1).val < 0 + 512; omega⟩

theorem mem_uRect (s : Fin 8) (c : Dev nD) (i : S8x128x512.Idx) : i ∈ (uRect s c).set ↔ (i 0).val = uBlkNo s c := by
  rw [Rect.mem_set_unit]
  have ho := uOff_eq s c
  have e0 : uOff s.val c 0 = uBlkNo s c := by rw [ho]; rfl
  have e1 : uOff s.val c 1 = 0 := by rw [ho]; rfl
  have e2 : uOff s.val c 2 = 0 := by rw [ho]; rfl
  have h1 : (i 1).val < 128 := (i 1).isLt
  have h2 : (i 2).val < 512 := (i 2).isLt
  constructor
  · intro h
    have h0 : uOff s.val c 0 ≤ (i 0).val ∧ (i 0).val < uOff s.val c 0 + 1 := h 0
    omega
  · intro h a
    match a with
    | 0 => exact ⟨by show uOff s.val c 0 ≤ (i 0).val; omega, by show (i 0).val < uOff s.val c 0 + 1; omega⟩
    | 1 => exact ⟨by show uOff s.val c 1 ≤ (i 1).val; omega, by show (i 1).val < uOff s.val c 1 + 128; omega⟩
    | 2 => exact ⟨by show uOff s.val c 2 ≤ (i 2).val; omega, by show (i 2).val < uOff s.val c 2 + 512; omega⟩

theorem c_disj : ∀ s s' : Fin 8, s ≠ s' → Disjoint (cRect s).set (cRect s').set := by
  intro s s' h
  rw [Finset.disjoint_left]
  intro i h1 h2
  rw [mem_cRect] at h1 h2
  exact h (Fin.ext (h1.symm.trans h2))
theorem c_cover : (Finset.univ : Finset (Fin 8)).biUnion (fun s => (cRect s).set) = Finset.univ := by
  ext i
  simp only [Finset.mem_biUnion, Finset.mem_univ, true_and, iff_true]
  have h1 : (i 1).val < 1024 := (i 1).isLt
  exact ⟨⟨(i 1).val / 128, by omega⟩, (mem_cRect _ _).mpr rfl⟩
theorem w_disj : ∀ s s' : Fin 8, s ≠ s' → Disjoint (wRect s).set (wRect s').set := by
  intro s s' h
  rw [Finset.disjoint_left]
  intro i h1 h2
  rw [mem_wRect] at h1 h2
  exact h (Fin.ext (h1.symm.trans h2))
theorem w_cover : (Finset.univ : Finset (Fin 8)).biUnion (fun s => (wRect s).set) = Finset.univ := by
  ext i
  simp only [Finset.mem_biUnion, Finset.mem_univ, true_and, iff_true]
  have h1 : (i 0).val < 1024 := (i 0).isLt
  exact ⟨⟨(i 0).val / 128, by omega⟩, (mem_wRect _ _).mpr rfl⟩
theorem u_disj (c : Dev nD) : ∀ s s' : Fin 8, s ≠ s' → Disjoint (uRect s c).set (uRect s' c).set := by
  intro s s' h
  rw [Finset.disjoint_left]
  intro i h1 h2
  rw [mem_uRect] at h1 h2
  exact h (uBlkNo_inj c s s' (h1.symm.trans h2))
theorem u_cover (c : Dev nD) : (Finset.univ : Finset (Fin 8)).biUnion (fun s => (uRect s c).set) = Finset.univ := by
  ext i
  simp only [Finset.mem_biUnion, Finset.mem_univ, true_and, iff_true]
  obtain ⟨s, hs⟩ := uBlkNo_surj c ⟨(i 0).val, (i 0).isLt⟩
  exact ⟨s, (mem_uRect _ _ _).mpr hs.symm⟩

section
variable {n m : Nat}

theorem whole_inb (a : Fin 2) : (![0, 0] : Fin 2 → Nat) a + (![n, m] : Fin 2 → Nat) a ≤ (![n, m] : Fin 2 → Nat) a :=
  match a with
  | 0 => (Nat.zero_add n).le
  | 1 => (Nat.zero_add m).le

/-- The whole of a rank-2 array, as a rectangle. -/
theorem whole_emb {inb : ∀ a : Fin 2, (![0, 0] : Fin 2 → Nat) a + (![n, m] : Fin 2 → Nat) a ≤ (![n, m] : Fin 2 → Nat) a}
    (j : (⟨2, ![n, m]⟩ : Shape).Idx) : (Rect.unit (s := ⟨2, ![n, m]⟩) ![0, 0] ![n, m] inb).emb j = j := by
  funext a
  match a with
  | 0 => exact Fin.ext (by show 0 + 1 * (j 0).val = (j 0).val; omega)
  | 1 => exact Fin.ext (by show 0 + 1 * (j 1).val = (j 1).val; omega)

theorem whole_set {inb : ∀ a : Fin 2, (![0, 0] : Fin 2 → Nat) a + (![n, m] : Fin 2 → Nat) a ≤ (![n, m] : Fin 2 → Nat) a} :
    (Rect.unit (s := ⟨2, ![n, m]⟩) ![0, 0] ![n, m] inb).set = Finset.univ := by
  ext i
  simp only [Finset.mem_univ, iff_true]
  rw [Rect.mem_set_unit]
  intro a
  match a with
  | 0 => exact ⟨Nat.zero_le _, by have : (i 0).val < n := (i 0).isLt; show (i 0).val < 0 + n; omega⟩
  | 1 => exact ⟨Nat.zero_le _, by have : (i 1).val < m := (i 1).isLt; show (i 1).val < 0 + m; omega⟩
end

/-! ## Contents -/

/-- What a device's seven operands hold. -/
structure Ins (F : FTy → Type) where
  x : Vec F S1024x4096 .bf16
  wd : Vec F S4096x128 .bf16
  wk : Vec F S8x128x512 .bf16
  wv : Vec F S8x128x512 .bf16
  wq : Vec F S4096x512 .bf16
  wr : Vec F S4096x256 .bf16
  wc : Vec F S4096x64 .bf16

/-- The keys' or the values' weight. -/
def Ins.u (i : Ins F) (v : Bool) : Vec F S8x128x512 .bf16 := match v with | false => i.wk | true => i.wv

variable (I : Dev nD → Ins F)

/-- A device's own latent. -/
def cV (c : Dev nD) : FVec F S1024x128 .bf16 := k0_pay3 (I c).x (I c).wd
/-- The gathered latents, slot by slot. -/
def caV (c : Dev nD) : Vec F S1024x1024 .bf16 := fun i =>
  cV I (slotDev ((i 1).val / 128) c) (ix2 (i 0) ⟨(i 1).val % 128, Nat.mod_lt _ (by decide)⟩)
/-- The gathered blocks of a weight, slot by slot. -/
def wV (v : Bool) (c : Dev nD) : Vec F S1024x512 .bf16 := fun i =>
  (I (slotDev ((i 0).val / 128) c)).u v (ix3 (ownBlk c) ⟨(i 0).val % 128, Nat.mod_lt _ (by decide)⟩ (i 1))

/-- A device's latent in the slot of any device. -/
theorem caV_slot (s : Fin 8) (c b : Dev nD) (h : slotDev s.val b = c) (j : S1024x128.Idx) :
    caV I b ((cRect s).emb j) = cV I c j := by
  have hj : (j 1).val < 128 := (j 1).isLt
  have h0 : (cRect s).emb j 0 = j 0 := Fin.ext (by show 0 + 1 * (j 0).val = (j 0).val; omega)
  have h1 : ((cRect s).emb j 1).val = 128 * s.val + (j 1).val := by show 128 * s.val + 1 * (j 1).val = _; omega
  unfold caV
  rw [h0]
  have e1 : ((cRect s).emb j 1).val / 128 = s.val := by omega
  have e2 : (⟨((cRect s).emb j 1).val % 128, Nat.mod_lt _ (by decide)⟩ : Fin 128) = j 1 := Fin.ext (by show _ % 128 = (j 1).val; omega)
  rw [e1, h, e2]
  congr 1
  funext a
  match a with
  | 0 => rfl
  | 1 => rfl

/-- A block of a device's weight in the slot of any device. -/
theorem wV_slot (v : Bool) (s : Fin 8) (c b : Dev nD) (h : slotDev s.val b = c) (ho : uBlkNo s c = (ownBlk b).val)
    (hr : S128x512.numel = S1x128x512.numel) (j : S128x512.Idx) :
    wV I v b ((wRect s).emb j) = (I c).u v ((uRect s c).emb (Shape.reshapeEquiv hr j)) := by
  have hj : (j 0).val < 128 := (j 0).isLt
  have h1 : (wRect s).emb j 1 = j 1 := Fin.ext (by show 0 + 1 * (j 1).val = (j 1).val; omega)
  have h0 : ((wRect s).emb j 0).val = 128 * s.val + (j 0).val := by show 128 * s.val + 1 * (j 0).val = _; omega
  have e1 : ((wRect s).emb j 0).val / 128 = s.val := by omega
  have e2 : (⟨((wRect s).emb j 0).val % 128, Nat.mod_lt _ (by decide)⟩ : Fin 128) = j 0 := Fin.ext (by show _ % 128 = (j 0).val; omega)
  unfold wV
  rw [e1, h, e2, h1]
  have hq : Shape.reshapeEquiv hr j = (Fin.cons ⟨0, Nat.one_pos⟩ j : S1x128x512.Idx) :=
    Shape.reshapeEquiv_cons_one (d := ![128, 512]) hr j
  rw [hq]
  congr 1
  have hu := uOff_eq s c
  have u0 : uOff s.val c 0 = uBlkNo s c := by rw [hu]; rfl
  have u1 : uOff s.val c 1 = 0 := by rw [hu]; rfl
  have u2 : uOff s.val c 2 = 0 := by rw [hu]; rfl
  funext a
  match a with
  | 0 => exact Fin.ext (by show (ownBlk b).val = uOff s.val c 0 + 1 * 0; omega)
  | 1 => exact Fin.ext (by show (j 0).val = uOff s.val c 1 + 1 * (j 0).val; omega)
  | 2 => exact Fin.ext (by show (j 1).val = uOff s.val c 2 + 1 * (j 1).val; omega)

theorem uBlk_send : ∀ (d : Fin 7) (c : Dev nD), uBlkNo (slotOf d) c = (ownBlk (fwd d c)).val := by decide +kernel
theorem uBlk_own : ∀ c : Dev nD, uBlkNo 7 c = (ownBlk c).val := by decide +kernel

/-! ### What a device stores of its own -/

/-- A cast to the same shape changes nothing. -/
theorem cast_self {s : Shape} {α : Type} (v : s.Idx → α) (h : s.ShapeCasts s) : shapeCast s v h = v :=
  funext fun i => congrArg v (Shape.reshapeEquiv_self _ i)

theorem pay4_eq (z : Vec F S1024x128 .bf16) : k0_pay4 z = z := cast_self z _
theorem pay5_eq (k : Vec F S1x128x512 .bf16) (j : S128x512.Idx) :
    k0_pay5 k j = k (Shape.reshapeEquiv shapeCasts_S1x128x512_S128x512 j) :=
  congrFun (cast_self (shapeCast S128x512 k shapeCasts_S1x128x512_S128x512) _) j
theorem pay7_eq (k : Vec F S1x128x512 .bf16) (j : S128x512.Idx) :
    k0_pay7 (k0_pay6 k) j = k (Shape.reshapeEquiv shapeCasts_S1x128x512_S128x512 j) :=
  congrFun (cast_self (shapeCast S128x512 k shapeCasts_S1x128x512_S128x512) _) j

end Cert.KvqIdeal.Canon
-- ==== Proof.KvqSched.lean ====
/- The protocol of the run: what every arrival and departure hands over, what a device owes, and the
   order in which the semaphores are awaited. The slots a device's copies go to are handed over at the
   barrier, by the device they lie on. -/
module

public import proofs.«01_k».proof.Proof.KvqGeom

@[expose] public section

noncomputable section

namespace Cert.KvqIdeal.Canon

open Cert.KvqIdeal Cert.KvqIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

/-- The resources `Φ x` for `x` in a list. -/
def lsep {α : Type} (l : List α) (Φ : α → sProp 𝕄) : sProp 𝕄 := bigSepM (l : Multiset α) Φ

section
variable {α β : Type}
omit [FloatOps F]

theorem sep_emp' (P : sProp 𝕄) : iprop(P ∗ emp) = P := equiv_iff.mp BI.sep_emp
theorem emp_sep' (P : sProp 𝕄) : iprop(emp ∗ P) = P := equiv_iff.mp BI.emp_sep
theorem sep_cross (P Q R S : sProp 𝕄) : iprop((P ∗ Q) ∗ R ∗ S) ⊢ iprop((P ∗ R) ∗ Q ∗ S) := by
  iintro ⟨⟨HP, HQ⟩, HR, HS⟩
  isplitl [HP HR]
  · isplitl [HP] <;> iassumption
  isplitl [HQ] <;> iassumption
theorem lsep_nil (Φ : α → sProp 𝕄) : lsep [] Φ = iprop(emp) := rfl
theorem lsep_cons (x : α) (l : List α) (Φ : α → sProp 𝕄) : lsep (x :: l) Φ = iprop(Φ x ∗ lsep l Φ) := bigSepM_cons x (l : Multiset α) Φ
theorem lsep_append (l l' : List α) (Φ : α → sProp 𝕄) : lsep (l ++ l') Φ = iprop(lsep l Φ ∗ lsep l' Φ) := bigSepM_add (l : Multiset α) (l' : Multiset α) Φ
theorem lsep_single (x : α) (Φ : α → sProp 𝕄) : lsep [x] Φ = Φ x := bigSepM_singleton x Φ
theorem lsep_perm {l l' : List α} (h : l.Perm l') (Φ : α → sProp 𝕄) : lsep l Φ = lsep l' Φ := by
  unfold lsep; rw [Multiset.coe_eq_coe.mpr h]
theorem lsep_map (f : β → α) (l : List β) (Φ : α → sProp 𝕄) : lsep (l.map f) Φ = lsep l fun b => Φ (f b) := by
  induction l with
  | nil => rfl
  | cons b l ih => rw [List.map_cons, lsep_cons, lsep_cons, ih]
theorem lsep_mono {Φ Ψ : α → sProp 𝕄} (l : List α) (h : ∀ x, Φ x ⊢ Ψ x) : lsep l Φ ⊢ lsep l Ψ := by
  induction l with
  | nil => exact BI.Entails.refl _
  | cons b l ih => rw [lsep_cons, lsep_cons]; exact BI.sep_mono (h b) ih
theorem lsep_sep (l : List α) (Φ Ψ : α → sProp 𝕄) : lsep l (fun x => iprop(Φ x ∗ Ψ x)) = iprop(lsep l Φ ∗ lsep l Ψ) := by
  induction l with
  | nil => rw [lsep_nil, lsep_nil, lsep_nil]; exact (emp_sep' _).symm
  | cons b l ih => rw [lsep_cons, lsep_cons, lsep_cons, ih]; exact equiv_iff.mp ⟨sep_cross _ _ _ _, sep_cross _ _ _ _⟩
theorem lsep_emp (l : List α) : (emp : sProp 𝕄) ⊢ lsep l fun _ => iprop(emp) := by
  induction l with
  | nil => exact BI.Entails.refl _
  | cons b l ih => rw [lsep_cons, emp_sep']; exact ih
theorem lsep_univ [DecidableEq α] [Fintype α] {l : List α} (hn : l.Nodup) (hm : ∀ x, x ∈ l) (Φ : α → sProp 𝕄) :
    lsep l Φ = bigSep Finset.univ Φ := by
  rw [← show l.toFinset = Finset.univ from Finset.ext fun x => by simp [hm x]]
  show _ = bigSepM l.toFinset.val Φ
  rw [List.toFinset_val, hn.dedup]
  rfl
end

/-! ## The buffers -/

/-- The device's own latent. -/
abbrev csM : Memref sig .tc .vmem S1024x128 .bf16 := Memref.whole cc0_scratch0
/-- The gathered latents. -/
abbrev caM : Memref sig .tc .vmem S1024x1024 .bf16 := Memref.whole cc0_scratch1
/-- The gathered blocks of a weight. -/
abbrev wM (v : Bool) : Memref sig .tc .vmem S1024x512 .bf16 :=
  match v with | false => Memref.whole cc0_scratch2 | true => Memref.whole cc0_scratch3
/-- A weight's argument. -/
abbrev uM (v : Bool) : Memref sig .tc .vmem S8x128x512 .bf16 :=
  match v with | false => Memref.whole cc0_stg2_0 | true => Memref.whole cc0_stg3_0

theorem wM_whole : ∀ v, (wM v).IsWhole
  | false => Memref.isWhole_whole _
  | true => Memref.isWhole_whole _
theorem uM_whole : ∀ v, (uM v).IsWhole
  | false => Memref.isWhole_whole _
  | true => Memref.isWhole_whole _

instance cs_nonempty (c : Dev nD) : Nonempty (Buf (Elt F) (csM.view.loc (c : Thread nD τ))) :=
  ⟨fun i => (FloatOps.ofBits .bf16 0 : F .bf16)⟩
instance ca_nonempty (c : Dev nD) : Nonempty (Buf (Elt F) (caM.view.loc (c : Thread nD τ))) :=
  ⟨fun i => (FloatOps.ofBits .bf16 0 : F .bf16)⟩
instance wM_nonempty (v : Bool) (c : Dev nD) : Nonempty (Buf (Elt F) ((wM v).view.loc (c : Thread nD τ))) :=
  match v with
  | false => ⟨fun i => (FloatOps.ofBits .bf16 0 : F .bf16)⟩
  | true => ⟨fun i => (FloatOps.ofBits .bf16 0 : F .bf16)⟩
instance uM_nonempty (v : Bool) (c : Dev nD) : Nonempty (Buf (Elt F) ((uM v).view.loc (c : Thread nD τ))) :=
  match v with
  | false => ⟨fun i => (FloatOps.ofBits .bf16 0 : F .bf16)⟩
  | true => ⟨fun i => (FloatOps.ofBits .bf16 0 : F .bf16)⟩

/-- The units of a copy. -/
def amt (x : X) : ℕ := match x.1 with
  | none => (cSlot caM 0).view.dmaCredit
  | some v => (wSlot (wM v) 0).view.dmaCredit

theorem amt_pos : ∀ x : X, 0 < amt x
  | (none, _) => View.dmaCredit_pos _ (by decide)
  | (some false, _) => View.dmaCredit_pos _ (by decide)
  | (some true, _) => View.dmaCredit_pos _ (by decide)

/-- What is left of the latent's share after `n` rounds have started. -/
def sh : ℕ → PosShare TreeShare
  | 0 => fullShare
  | n + 1 => (sh n).right
/-- The share of the latent copy `d` reads from. -/
def qk (d : Fin 7) : PosShare TreeShare := (sh d.val).left

/-! ## Payloads -/

variable (I : Dev nD → Ins F)

/-- Where copy `x` of device `c` lands. -/
def dstPts (c : Dev nD) (x : X) : sProp 𝕄 := match x.1 with
  | none => pcE caM (fwd x.2 c) (cRect (slotOf x.2)).set
  | some v => pcE (wM v) (fwd x.2 c) (wRect (slotOf x.2)).set
/-- What the barrier's duty `d` hands device `c`: the slots its copies of round `d` go to. -/
def barPay (d : Fin 7) (c : Dev nD) : sProp 𝕄 := lsep (x3 d) (dstPts c)
/-- What a departure hands back: the source. -/
def sendPay (c : Dev nD) (x : X) : sProp 𝕄 := match x.1 with
  | none => pc csM c Finset.univ (qk x.2) (cV I c)
  | some v => pc (uM v) c (uRect (slotOf x.2) c).set fullShare ((I c).u v)
/-- What an arrival hands over: its slot, filled. -/
def recvPay (c : Dev nD) (x : X) : sProp 𝕄 := match x.1 with
  | none => pc caM c (cRect (slotOf x.2)).set fullShare (caV I c)
  | some v => pc (wM v) c (wRect (slotOf x.2)).set fullShare (wV I v c)

omit [FloatOps F] in
instance dstPts_storable (c) : ∀ x, BI.Storable (upEmb : UEmb _ 𝕄) (dstPts (F := F) c x)
  | (none, d) => pcE_storable _ _ _
  | (some v, d) => pcE_storable _ _ _
omit [FloatOps F] in
instance barPay_storable (d c) : BI.Storable (upEmb : UEmb _ 𝕄) (barPay (F := F) d c) := by
  unfold barPay x3
  rw [lsep_cons, lsep_cons, lsep_single]
  infer_instance
instance sendPay_storable (c) : ∀ x, BI.Storable (upEmb : UEmb _ 𝕄) (sendPay I c x)
  | (none, d) => pc_storable _ _ _ _ _
  | (some v, d) => pc_storable _ _ _ _ _
instance recvPay_storable (c) : ∀ x, BI.Storable (upEmb : UEmb _ 𝕄) (recvPay I c x)
  | (none, d) => pc_storable _ _ _ _ _
  | (some v, d) => pc_storable _ _ _ _ _

/-! ## The schedule -/

/-- The duties of a cell in its one round. -/
def dutiesOf : Option Cl → Finset (Fin 7)
  | none => ∅
  | some none => Finset.univ
  | some (some _) => {0}
/-- The units of a cell's duties. -/
def amtOf : Option Cl → ℕ
  | some (some (_, x)) => amt x
  | _ => 1
/-- What a cell's duties hand over. -/
def payOf (c : Dev nD) (d : Fin 7) : Option Cl → sProp 𝕄
  | none => iprop(emp)
  | some none => barPay d c
  | some (some (false, x)) => sendPay I c x
  | some (some (true, x)) => recvPay I c x

instance payOf_storable (c d) : ∀ k, BI.Storable (upEmb : UEmb _ 𝕄) (payOf I c d k)
  | none => by unfold payOf; infer_instance
  | some none => by unfold payOf; infer_instance
  | some (some (false, x)) => by unfold payOf; infer_instance
  | some (some (true, x)) => by unfold payOf; infer_instance

/-- One round: a barrier cell's seven duties, a copy's one. -/
def ringRd : Rounds.Schedule (GSem nD τ sig) (Fin 7) 𝕄 where
  duties g r := if r = 0 ∧ g.1.2 = .tc then dutiesOf (dec g.2) else ∅
  unitless _ := False
  amount g _ _ := amtOf (dec g.2)
  payload g _ d := payOf I g.1.1 d (dec g.2)
  amount_pos g _ _ _ := by
    rcases dec g.2 with _ | _ | ⟨b, x⟩
    · exact Nat.one_pos
    · exact Nat.one_pos
    · exact amt_pos x

instance ringRd_payload_storable (g : GSem nD τ sig) (r : ℕ) (d : Fin 7) :
    BI.Storable (upEmb : UEmb _ 𝕄) ((ringRd I).payload g r d) := by
  show BI.Storable upEmb (payOf I g.1.1 d (dec g.2)); infer_instance

section
variable (c : Dev nD)

theorem duties_bar : (ringRd I).duties (kcell c none) 0 = Finset.univ := by
  dsimp only [ringRd]; rw [if_pos ⟨rfl, rfl⟩, dec_csem]; rfl
theorem duties_copy (b : Bool) (x : X) : (ringRd I).duties (kcell c (some (b, x))) 0 = {0} := by
  dsimp only [ringRd]; rw [if_pos ⟨rfl, rfl⟩, dec_csem]; rfl
theorem duties_later (g : GSem nD τ sig) : ∀ r, 1 ≤ r → (ringRd I).duties g r = ∅ :=
  fun r hr => by dsimp only [ringRd]; exact if_neg fun h => by omega
theorem amount_bar (d : Fin 7) : (ringRd I).amount (kcell c none) 0 d = 1 := by
  dsimp only [ringRd]; rw [dec_csem]; rfl
theorem amount_copy (b : Bool) (x : X) (d : Fin 7) : (ringRd I).amount (kcell c (some (b, x))) 0 d = amt x := by
  dsimp only [ringRd]; rw [dec_csem]; rfl
theorem expect_bar : (ringRd I).expect (kcell c none) 0 = 7 := by
  unfold Schedule.expect Schedule.amountOf
  rw [duties_bar, Finset.sum_congr rfl fun d _ => amount_bar I c d, Finset.sum_const, Finset.card_univ, Fintype.card_fin, smul_eq_mul]
theorem expect_copy (b : Bool) (x : X) : (ringRd I).expect (kcell c (some (b, x))) 0 = amt x := by
  unfold Schedule.expect Schedule.amountOf; rw [duties_copy, Finset.sum_singleton, amount_copy]
theorem payload_bar (d : Fin 7) : (ringRd I).payload (kcell c none) 0 d = barPay d c := by
  dsimp only [ringRd]; rw [dec_csem]; rfl
theorem payload_send (x : X) (d : Fin 7) : (ringRd I).payload (kcell c (some (false, x))) 0 d = sendPay I c x := by
  dsimp only [ringRd]; rw [dec_csem]; rfl
theorem payload_recv (x : X) (d : Fin 7) : (ringRd I).payload (kcell c (some (true, x))) 0 d = recvPay I c x := by
  dsimp only [ringRd]; rw [dec_csem]; rfl
/-- All the barrier's payloads. -/
theorem rest_bar : bigSep ((ringRd I).duties (kcell c none) 0 \ ∅) (fun d => (ringRd I).payload (kcell c none) 0 d)
    = lsep l7 fun d => barPay d c := by
  rw [Finset.sdiff_empty, duties_bar, lsep_univ l7_nodup mem_l7]
  exact bigSep_congr fun d _ => payload_bar I c d
/-- A departure's payload. -/
theorem rest_send (x : X) : bigSep ((ringRd I).duties (kcell c (some (false, x))) 0 \ ∅) (fun d => (ringRd I).payload (kcell c (some (false, x))) 0 d)
    = sendPay I c x := by
  rw [Finset.sdiff_empty, duties_copy, bigSep_singleton, payload_send]
/-- An arrival's payload. -/
theorem rest_recv (x : X) : bigSep ((ringRd I).duties (kcell c (some (true, x))) 0 \ ∅) (fun d => (ringRd I).payload (kcell c (some (true, x))) 0 d)
    = recvPay I c x := by
  rw [Finset.sdiff_empty, duties_copy, bigSep_singleton, payload_recv]
end

/-! ## What a device owes; the levels -/

/-- What a device still has to start: a signal of the barrier, or a copy. -/
abbrev Ob := Fin 7 ⊕ X
/-- Where it goes. -/
def obDev (c : Dev nD) : Ob → Dev nD
  | .inl d => fwd d c
  | .inr x => fwd x.2 c
/-- The cell it pays. -/
def obCl : Ob → Cl
  | .inl _ => none
  | .inr x => some (true, x)
/-- The units it pays. -/
def obAmt : Ob → ℕ
  | .inl _ => 1
  | .inr x => amt x
/-- All of them, in the order they start. -/
def allO : List Ob := l7.map .inl ++ allX.map .inr

/-- What is owed for those still to start. -/
def tal (c : Dev nD) : List Ob → CellTallies nD τ sig Unit
  | [] => 0
  | o :: os => tal c os + tallyAt (kcell (obDev c o) (obCl o)) () (obAmt o)
/-- What is owed at launch. -/
def O₀ (c : Dev nD) : CellTallies nD τ sig Unit := tal c allO

def L (g : GSem nD τ sig) : Finset Unit := if g.1.2 = .tc then {()} else ∅
/-- The height of a cell. -/
def lvOf : Option Cl → ℕ
  | some none => 1
  | some (some (true, x)) => 2
  | _ => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem tal_pos {c : Dev nD} {g : GSem nD τ sig} {u : Unit} : ∀ {os : List Ob}, 0 < tal c os g u → ∃ o ∈ os, g = kcell (obDev c o) (obCl o)
  | [], h => absurd h (Nat.lt_irrefl 0)
  | o :: os, h => by
    unfold tal at h
    rw [Pi.add_apply, Finsupp.add_apply, tallyAt_apply] at h
    by_cases hx : g = kcell (obDev c o) (obCl o) ∧ u = ()
    · exact ⟨o, List.mem_cons_self, hx.1⟩
    · rw [if_neg hx, add_zero] at h
      obtain ⟨y, hy, e⟩ := tal_pos h
      exact ⟨y, List.mem_cons_of_mem _ hy, e⟩

omit [FloatOps F] in
/-- Below everything still owed, a wait is in order. -/
theorem mayWait_tal (c : Dev nD) (sm : SemLoc sig) (os : List Ob) (h : ∀ o ∈ os, lvOf (dec sm) < lvOf (some (obCl o))) :
    (levAts L lv : sProp 𝕄) ⊢ MayWait (c : Thread nD τ) sm () (tal c os) :=
  MayOwe.of_cut (L := L) (lev := lv) (lvOf (dec sm)) (fun p hp => by rw [Finset.mem_singleton.mp hp, L_tc]; exact Finset.mem_singleton_self _)
    (fun g u hg => by obtain ⟨x, -, rfl⟩ := tal_pos hg; exact Finset.mem_singleton_self _)
    (fun p hp => by rw [Finset.mem_singleton.mp hp]; exact le_rfl)
    (fun g u hg => by
      obtain ⟨o, ho, rfl⟩ := tal_pos hg
      show lvOf (dec sm) < lvOf (dec (csem (obCl o)))
      rw [dec_csem]; exact h o ho)

theorem lv_ob : ∀ o : Ob, 0 < lvOf (some (obCl o))
  | .inl _ => Nat.one_pos
  | .inr _ => Nat.succ_pos _

omit [FloatOps F] in
/-- A wait on a semaphore that is no cell is in order at any time. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · exact mayWait_tal c (.dma q) allO fun o _ => by rw [hq]; exact lv_ob o
  · rw [MayWait_zero]; iintro -; iempintro

end Cert.KvqIdeal.Canon
-- ==== Proof.KvqOps.lean ====
/- The copies and the waits, one rule each. -/
module

public import proofs.«01_k».proof.Proof.KvqSched

@[expose] public section

noncomputable section

namespace Cert.KvqIdeal.Canon

open Cert.KvqIdeal Cert.KvqIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Views -/

theorem cs_set : csM.view.set = csM.view.setOn Finset.univ := (View.setOn_univ _).symm
theorem cSlot_set (a : Memref sig .tc .vmem S1024x1024 .bf16) (s : Fin 8) : (cSlot a s).view.set = a.view.setOn (cRect s).set :=
  View.set_slice a.view _
theorem wSlot_set (a : Memref sig .tc .vmem S1024x512 .bf16) (s : Fin 8) : (wSlot a s).view.set = a.view.setOn (wRect s).set :=
  View.set_slice a.view _
theorem uBlk_set (a : Memref sig .tc .vmem S8x128x512 .bf16) (s : Fin 8) (c : Dev nD) :
    (uBlk a s c).view.set = a.view.setOn (uRect s c).set := by
  refine (View.set_reshape _ _).trans ?_
  exact View.set_slice a.view _

/-! ## The state -/

variable (I : Dev nD → Ins F) (K : Dev nD × Cl → ℕ)

/-- The invariants of all cells, that all have reached their round, and the levels. -/
def Env : sProp 𝕄 :=
  iprop((bigSep Finset.univ fun p : Dev nD × Cl => iprop(cellInv ER (ringRd I) (K p) (kcell p.1 p.2) ∗ reached ER (kcell p.1 p.2) 0)) ∗ levAts L lv)

instance Env_persistent : BI.Persistent (Env I K) := by unfold Env; infer_instance

theorem Env_inv (c : Dev nD) (k : Cl) : Env I K ⊢ iprop(cellInv ER (ringRd I) (K (c, k)) (kcell c k) ∗ reached ER (kcell c k) 0) := by
  unfold Env
  classical
  iintro ⟨H, -⟩
  have key : (bigSep Finset.univ fun p : Dev nD × Cl => iprop(cellInv ER (ringRd I) (K p) (kcell p.1 p.2) ∗ reached ER (kcell p.1 p.2) 0) : sProp 𝕄)
      ⊢ iprop(cellInv ER (ringRd I) (K (c, k)) (kcell c k) ∗ reached ER (kcell c k) 0) := bigSep_elim (i := (c, k)) (Finset.mem_univ _)
  iapply key; iexact H
theorem Env_lev : Env I K ⊢ (levAts L lv : sProp 𝕄) := by
  unfold Env; iintro ⟨-, H⟩; iexact H

/-- What a copy needs before it starts, but for its source and destination. -/
def T1 (c : Dev nD) (x : X) : sProp 𝕄 :=
  iprop(dutyTok ER (kcell c (some (false, x))) 0 0 ∗ dutyTok ER (kcell (fwd x.2 c) (some (true, x))) 0 0
    ∗ atPos ER (kcell c (some (false, x))) 0 ∅ 0)
/-- What the wait for an arrival needs. -/
def T2 (c : Dev nD) (x : X) : sProp 𝕄 :=
  iprop(atPos ER (kcell c (some (true, x))) 0 ∅ 0 ∗ cred (tallyAt (kcell c (some (true, x))) () (amt x)))
/-- What the wait for a departure needs. -/
def Sent (c : Dev nD) (x : X) : sProp 𝕄 :=
  iprop(atPos ER (kcell c (some (false, x))) 0 ∅ 0 ∗ cred (tallyAt (kcell c (some (false, x))) () (amt x)))
/-- An arrival's cell, done with. -/
def Rcvd (c : Dev nD) (x : X) : sProp 𝕄 := semVal (kcell c (some (true, x))) 0
/-- A departure's cell, done with. -/
def Gone (c : Dev nD) (x : X) : sProp 𝕄 := semVal (kcell c (some (false, x))) 0

/-- What is owed. -/
def Ow (c : Dev nD) (os : List Ob) : sProp 𝕄 := iprop(∃ W, owes (c : Thread nD τ) (tal c os) W)

theorem payOf_recv (c : Dev nD) (x : X) : payOf I c 0 (some (some (true, x))) = recvPay I c x := rfl
theorem payOf_send (c : Dev nD) (x : X) : payOf I c 0 (some (some (false, x))) = sendPay I c x := rfl
omit [FloatOps F] in
theorem dstPts_c (c : Dev nD) (d) : dstPts (F := F) c (none, d) = pcE caM (fwd d c) (cRect (slotOf d)).set := rfl
omit [FloatOps F] in
theorem dstPts_w (c : Dev nD) (v d) : dstPts (F := F) c (some v, d) = pcE (wM v) (fwd d c) (wRect (slotOf d)).set := rfl
theorem sendPay_c (c : Dev nD) (d) : sendPay I c (none, d) = pc csM c Finset.univ (qk d) (cV I c) := rfl
theorem sendPay_w (c : Dev nD) (v d) : sendPay I c (some v, d) = pc (uM v) c (uRect (slotOf d) c).set fullShare ((I c).u v) := rfl
theorem recvPay_c (c : Dev nD) (d) : recvPay I c (none, d) = pc caM c (cRect (slotOf d)).set fullShare (caV I c) := rfl
theorem recvPay_w (c : Dev nD) (v d) : recvPay I c (some v, d) = pc (wM v) c (wRect (slotOf d)).set fullShare (wV I v c) := rfl

/-! ## Waits -/

/-- A wait for a copy's arrival or departure closes its cell and hands over its payload. -/
theorem wait_copy (c : Dev nD) (b : Bool) (x : X) (xs : List Ob)
    (hlv : ∀ z ∈ xs, lvOf (some (some (b, x))) < lvOf (some (obCl z)))
    {sp sp' : Space} {s s' : Shape} {e e' : EltTy} {q : DmaSem sig} (hq : q = (if b then semR x else semS x))
    {src : Memref sig .tc sp' s' e'} {dst : Memref sig .tc sp s e} {hsrc : src.view.WordExact} {hdst : dst.view.WordExact}
    (hN : dst.view.dmaCredit = amt x) :
    iprop(Env I K ∗ Ow c xs ∗ atPos ER (kcell c (some (b, x))) 0 ∅ 0 ∗ cred (tallyAt (kcell c (some (b, x))) () (amt x)))
      ⊢ WP c (Prog.lift (.waitDma2 q src dst hsrc hdst)) (fun _ => iprop((Ow c xs ∗ semVal (kcell c (some (b, x))) 0)
        ∗ payOf I c 0 (some (some (b, x))))) := by
  have hsm : csem (some (b, x)) = .dma q := by subst hq; cases b <;> rfl
  unfold Ow
  iintro ⟨#HE, ⟨%W, HO⟩, Hat, Hcr⟩
  ihave Hi := (Env_inv I K c (some (b, x))) $$ HE
  icases Hi with ⟨#HI, -⟩
  have key := Rounds.wp_wait_rest_token 𝒱₀ ER (ringRd I) (c : Thread nD τ) none (defs := defs₀ (F := F)) (κ := K (c, some (b, x)))
      (w := .waitDma2 q src dst hsrc hdst) (sm := csem (some (b, x))) (k' := amt x)
      (hw := by intro Kt; rw [hsm, ← hN]; exact wpE_waitDma2_eq 𝒱₀ (c : Thread nD τ) none Set.univ Kt) (Set.mem_univ _) () (O := tal c xs) (W := W) (R := 0) (m := 0) (T := ∅)
      (k := Prog.ret) (Q := fun _ => iprop(((∃ W, owes (c : Thread nD τ) (tal c xs) W) ∗ semVal (kcell c (some (b, x))) 0)
        ∗ payOf I c 0 (some (some (b, x)))))
      (by rw [expect_copy, Nat.zero_add])
  iapply key $$ [Hcr HO Hat]
  · isplitr; · iexact HI
    isplitl [Hcr]; · iexact Hcr
    isplitl [HO]; · iexact HO
    isplitr
    · iapply (mayWait_tal c (csem (some (b, x))) xs (by rw [dec_csem]; exact hlv))
      iapply (Env_lev I K); iexact HE
    iexact Hat
  iintro ⟨HO, Hat, -, Hpay⟩
  have hrest : bigSep ((ringRd I).duties (kcell c (some (b, x))) 0 \ ∅) (fun d => (ringRd I).payload (kcell c (some (b, x))) 0 d)
      = payOf I c 0 (some (some (b, x))) := by
    cases b
    · exact rest_send I c x
    · exact rest_recv I c x
  ihave Hp := (Entails.of_eq hrest) $$ Hpay
  ihave Hc := (Rounds.cell_close ER (ringRd I) (Set.mem_univ (K (c, some (b, x)))) (fun h => h) (R := 0 + 1) (duties_later I (kcell c (some (b, x))))) $$ [Hat]
  · isplitr; · iexact HI
    iexact Hat
  rw [wp_ret]
  imod Hc
  imodintro
  isplitl [HO Hc]
  · isplitl [HO]
    · iexists (insert (csem (some (b, x)), ()) W); iexact HO
    iexact Hc
  iexact Hp

/-! ## A wait for both ends of a copy -/

/-- The waits for a copy's departure and arrival. -/
theorem wait_two (c : Dev nD) (x : X)
    {s s' : Shape} {e e' : EltTy} {p1 p2 : DmaSem sig} (h1 : p1 = semS x) (h2 : p2 = semR x)
    {src : Memref sig .tc .vmem s e} {dst : Memref sig .tc .vmem s' e'} {w1 : dst.view.WordExact} {w2 : src.view.WordExact}
    {w3 : src.view.WordExact} {w4 : dst.view.WordExact}
    (hN : src.view.dmaCredit = amt x) (hM : dst.view.dmaCredit = amt x) :
    iprop(Env I K ∗ Ow c [] ∗ Sent c x ∗ T2 c x)
      ⊢ WP (F := F) c (do Prog.lift (.waitDma2 p1 dst src w1 w2); Prog.lift (.waitDma2 p2 src dst w3 w4))
        (fun _ => iprop(Ow c [] ∗ (Gone c x ∗ Rcvd c x) ∗ sendPay I c x ∗ recvPay I c x)) := by
  unfold Sent T2
  iintro ⟨#HE, HO, ⟨Ha1, Hc1⟩, Ha2, Hc2⟩
  have k1 := wait_copy I K c false x [] (by intro z hz; cases hz) (q := p1) h1 (src := dst) (dst := src) (hsrc := w1) (hdst := w2) hN
  have k2 := wait_copy I K c true x [] (by intro z hz; cases hz) (q := p2) h2 (src := src) (dst := dst) (hsrc := w3) (hdst := w4) hM
  iapply (step k1) $$ [HO Ha1 Hc1]
  · isplitr; · iexact HE
    isplitl [HO]; · iexact HO
    isplitl [Ha1] <;> iassumption
  iintro %r ⟨⟨HO, HG⟩, Hs⟩
  iapply (last k2) $$ [HO Ha2 Hc2]
  · isplitr; · iexact HE
    isplitl [HO]; · iexact HO
    isplitl [Ha2] <;> iassumption
  iintro %r ⟨⟨HO, HR⟩, Hr⟩
  isplitl [HO]; · iexact HO
  isplitl [HG HR]
  · unfold Gone Rcvd
    isplitl [HG] <;> iassumption
  isplitl [Hs]
  · iapply (Entails.of_eq (payOf_send I c x)); iexact Hs
  iapply (Entails.of_eq (payOf_recv I c x)); iexact Hr

/-- The waits for a latent's copy. -/
theorem wait_c (c : Dev nD) (d : Fin 7) : iprop(Env I K ∗ Ow c [] ∗ Sent c (none, d) ∗ T2 c (none, d))
    ⊢ WP c (waitC (F := F) (a12 := csM) (Memref.isWhole_whole _) (a13 := caM) (Memref.isWhole_whole _) (smS none) (smR none) d)
      (fun _ => iprop(Ow c [] ∗ (Gone c (none, d) ∗ Rcvd c (none, d)) ∗ sendPay I c (none, d) ∗ recvPay I c (none, d))) :=
  wait_two I K c (none, d) (p1 := sem7 (smS none) d) (p2 := sem7 (smR none) d) rfl rfl (src := csM) (dst := cSlot caM (slotOf d)) rfl rfl
/-- The waits for a weight's copy. -/
theorem wait_w (c : Dev nD) (v : Bool) (d : Fin 7) : iprop(Env I K ∗ Ow c [] ∗ Sent c (some v, d) ∗ T2 c (some v, d))
    ⊢ WP c (waitW (F := F) (uM_whole v) (wM_whole v) (smS (some v)) (smR (some v)) c d)
      (fun _ => iprop(Ow c [] ∗ (Gone c (some v, d) ∗ Rcvd c (some v, d)) ∗ sendPay I c (some v, d) ∗ recvPay I c (some v, d))) :=
  wait_two I K c (some v, d) (p1 := sem7 (smS (some v)) d) (p2 := sem7 (smR (some v)) d) rfl rfl
    (src := uBlk (uM v) (slotOf d) c) (dst := wSlot (wM v) (slotOf d)) (by cases v <;> rfl) (by cases v <;> rfl)

/-! ## Copies -/

/-- A latent's copy starts, wherever its address comes from. -/
theorem send_c_at (c n : Dev nD) (d : Fin 7) (hn : n = fwd d c)
    {hsc : (cSlot caM (slotOf d) : Memref sig (Dev.tc n : Thread nD τ).2.kind .vmem S1024x128 .bf16).view.ref.isScScratch = false}
    {hsrc : (csM).view.WordExact} {hdst : (cSlot caM (slotOf d)).view.WordExact}
    {hsem : DmaTarget.Typed .vmem (.dma (sem7 (smR none) d)) (.remote (Dev.tc n : Thread nD τ) (cSlot caM (slotOf d)) (.dma (sem7 (smS none) d)) hsc)}
    (R : List Ob) :
    iprop(Env I K ∗ Ow c (.inr (none, d) :: R) ∗ T1 c (none, d) ∗ dstPts c (none, d) ∗ sendPay I c (none, d))
      ⊢ WP c (Prog.lift (.enqueueDma (csM) (.remote (Dev.tc n : Thread nD τ) (cSlot caM (slotOf d))
          (.dma (sem7 (smS none) d)) hsc) (.dma (sem7 (smR none) d)) hsrc hdst hsem)) (fun _ => iprop(Ow c R ∗ Sent c (none, d))) := by
  subst hn
  unfold T1 Ow
  rw [dstPts_c, sendPay_c]
  iintro ⟨#HE, ⟨%W, HO⟩, ⟨Ht1, Ht2, Hat⟩, Hdst, Hsrc⟩
  unfold pcE
  icases Hdst with ⟨%fd, Hdst⟩
  unfold pc
  icases Hsrc with ⟨%fs, %hfs, Hsrc⟩
  ihave Hi := (Env_inv I K c (some (false, (none, d)))) $$ HE
  icases Hi with ⟨#HI1, #HR1⟩
  ihave Hi := (Env_inv I K (fwd d c) (some (true, (none, d)))) $$ HE
  icases Hi with ⟨#HI2, #HR2⟩
  iapply (Rounds.wp_send_pointsTo_with 𝒱₀ ER (ringRd I) (c : Thread nD τ) none (defs := defs₀ (F := F))
    (c' := ((fwd d c : Dev nD) : Thread nD τ))
    (src := csM) (dst := cSlot caM (slotOf d))
    (sS := .dma (sem7 (smS none) d)) (sem := .dma (sem7 (smR none) d))
    (κ₁ := K (c, some (false, (none, d)))) (κ₂ := K (fwd d c, some (true, (none, d))))
    (q := qk d) (fs := fs) (fd := fd) (F := iprop(emp))
    (r₁ := 0) (r₂ := 0) (d₁ := 0) (d₂ := 0)
    (by show (0 : Fin 7) ∈ (ringRd I).duties (kcell c (some (false, (none, d)))) 0; rw [duties_copy]; exact Finset.mem_singleton_self _)
    (by show (0 : Fin 7) ∈ (ringRd I).duties (kcell (fwd d c) (some (true, (none, d)))) 0; rw [duties_copy]; exact Finset.mem_singleton_self _)
    () () (amt (none, d)) rfl
    (amount_copy I c false (none, d) 0) (amount_copy I (fwd d c) true (none, d) 0)
    (tal c R) rfl (W := W)
    (by
      show _ ⊢ (ringRd I).payload (kcell c (some (false, (none, d)))) 0 0
      rw [payload_send, sendPay_c, cs_set]; unfold pc
      iintro H; iexists fs; isplitr; · ipureintro; exact hfs
      iexact H)
    (by
      show _ ⊢ (ringRd I).payload (kcell (fwd d c) (some (true, (none, d)))) 0 0
      rw [payload_recv, recvPay_c, cSlot_set]; unfold pc
      iintro ⟨H, -⟩
      iexists _; isplitr
      rotate_left
      · iexact H
      ipureintro
      intro i hi
      obtain ⟨j, rfl⟩ := (cRect (slotOf d)).exists_idx_of_mem hi
      refine (View.read_write_of_mem (v := (cSlot caM (slotOf d)).view) (Val := Elt F) fd _ (Finset.mem_univ j)).trans ?_
      exact (hfs j (Finset.mem_univ j)).trans (caV_slot I (slotOf d) c (fwd d c) (slotDev_fwd d c) j).symm)) $$ [Ht1 Ht2 Hdst HO Hsrc]
  · isplitr; · iexact HI1
    isplitr; · iexact HI2
    isplitl [Hsrc]; · rw [cs_set]; iexact Hsrc
    isplitl [Hdst]
    · isplitl [Hdst]; · rw [cSlot_set]; iexact Hdst
      iempintro
    isplitl [HO]; · iexact HO
    isplitl [Ht1]; · iexact Ht1
    isplitr; · iexact HR1
    isplitl [Ht2]; · iexact Ht2
    iexact HR2
  iintro ⟨Hcred, HO⟩
  iapply (wp_pure_intro (c := c) PUnit.unit)
  isplitl [HO]
  · iexists W; iexact HO
  unfold Sent
  isplitl [Hat]; · iexact Hat
  iexact Hcred

/-- A weight's copy starts, wherever its address comes from. -/
theorem send_w_at (c n : Dev nD) (v : Bool) (d : Fin 7) (hn : n = fwd d c)
    {hsc : (wSlot (wM v) (slotOf d) : Memref sig (Dev.tc n : Thread nD τ).2.kind .vmem S128x512 .bf16).view.ref.isScScratch = false}
    {hsrc : (uBlk (uM v) (slotOf d) c).view.WordExact} {hdst : (wSlot (wM v) (slotOf d)).view.WordExact}
    {hsem : DmaTarget.Typed .vmem (.dma (sem7 (smR (some v)) d)) (.remote (Dev.tc n : Thread nD τ) (wSlot (wM v) (slotOf d)) (.dma (sem7 (smS (some v)) d)) hsc)}
    (R : List Ob) :
    iprop(Env I K ∗ Ow c (.inr (some v, d) :: R) ∗ T1 c (some v, d) ∗ dstPts c (some v, d) ∗ sendPay I c (some v, d))
      ⊢ WP c (Prog.lift (.enqueueDma (uBlk (uM v) (slotOf d) c) (.remote (Dev.tc n : Thread nD τ) (wSlot (wM v) (slotOf d))
          (.dma (sem7 (smS (some v)) d)) hsc) (.dma (sem7 (smR (some v)) d)) hsrc hdst hsem)) (fun _ => iprop(Ow c R ∗ Sent c (some v, d))) := by
  subst hn
  unfold T1 Ow
  rw [dstPts_w, sendPay_w]
  iintro ⟨#HE, ⟨%W, HO⟩, ⟨Ht1, Ht2, Hat⟩, Hdst, Hsrc⟩
  unfold pcE
  icases Hdst with ⟨%fd, Hdst⟩
  unfold pc
  icases Hsrc with ⟨%fs, %hfs, Hsrc⟩
  ihave Hi := (Env_inv I K c (some (false, (some v, d)))) $$ HE
  icases Hi with ⟨#HI1, #HR1⟩
  ihave Hi := (Env_inv I K (fwd d c) (some (true, (some v, d)))) $$ HE
  icases Hi with ⟨#HI2, #HR2⟩
  iapply (Rounds.wp_send_pointsTo_with 𝒱₀ ER (ringRd I) (c : Thread nD τ) none (defs := defs₀ (F := F))
    (c' := ((fwd d c : Dev nD) : Thread nD τ))
    (src := uBlk (uM v) (slotOf d) c) (dst := wSlot (wM v) (slotOf d))
    (sS := .dma (sem7 (smS (some v)) d)) (sem := .dma (sem7 (smR (some v)) d))
    (κ₁ := K (c, some (false, (some v, d)))) (κ₂ := K (fwd d c, some (true, (some v, d))))
    (q := fullShare) (fs := fs) (fd := fd) (F := iprop(emp))
    (r₁ := 0) (r₂ := 0) (d₁ := 0) (d₂ := 0)
    (by show (0 : Fin 7) ∈ (ringRd I).duties (kcell c (some (false, (some v, d)))) 0; rw [duties_copy]; exact Finset.mem_singleton_self _)
    (by show (0 : Fin 7) ∈ (ringRd I).duties (kcell (fwd d c) (some (true, (some v, d)))) 0; rw [duties_copy]; exact Finset.mem_singleton_self _)
    () () (amt (some v, d)) (by cases v <;> rfl)
    (amount_copy I c false (some v, d) 0) (amount_copy I (fwd d c) true (some v, d) 0)
    (tal c R) rfl (W := W)
    (by
      show _ ⊢ (ringRd I).payload (kcell c (some (false, (some v, d)))) 0 0
      rw [payload_send, sendPay_w, uBlk_set]; unfold pc
      iintro H; iexists fs; isplitr; · ipureintro; exact hfs
      iexact H)
    (by
      show _ ⊢ (ringRd I).payload (kcell (fwd d c) (some (true, (some v, d)))) 0 0
      rw [payload_recv, recvPay_w, wSlot_set]; unfold pc
      iintro ⟨H, -⟩
      iexists _; isplitr
      rotate_left
      · iexact H
      ipureintro
      intro i hi
      obtain ⟨j, rfl⟩ := (wRect (slotOf d)).exists_idx_of_mem hi
      refine (View.read_write_of_mem (v := (wSlot (wM v) (slotOf d)).view) (Val := Elt F) fd _ (Finset.mem_univ j)).trans ?_
      exact (hfs _ ((uRect (slotOf d) c).idx_mem _)).trans (wV_slot I v (slotOf d) c (fwd d c) (slotDev_fwd d c) (uBlk_send d c) squeezes_S1x128x512_S128x512.numel_eq j).symm)) $$ [Ht1 Ht2 Hdst HO Hsrc]
  · isplitr; · iexact HI1
    isplitr; · iexact HI2
    isplitl [Hsrc]; · rw [uBlk_set]; iexact Hsrc
    isplitl [Hdst]
    · isplitl [Hdst]; · rw [wSlot_set]; iexact Hdst
      iempintro
    isplitl [HO]; · iexact HO
    isplitl [Ht1]; · iexact Ht1
    isplitr; · iexact HR1
    isplitl [Ht2]; · iexact Ht2
    iexact HR2
  iintro ⟨Hcred, HO⟩
  iapply (wp_pure_intro (c := c) PUnit.unit)
  isplitl [HO]
  · iexists W; iexact HO
  unfold Sent
  isplitl [Hat]; · iexact Hat
  iexact Hcred

/-- A latent's copy starts. -/
theorem send_c (c : Dev nD) (d : Fin 7) (R : List Ob) : iprop(Env I K ∗ Ow c (.inr (none, d) :: R) ∗ T1 c (none, d) ∗ dstPts c (none, d) ∗ sendPay I c (none, d))
    ⊢ WP c (sendC (F := F) (a12 := csM) (Memref.isWhole_whole _) (a13 := caM) (Memref.isWhole_whole _) (smS none) (smR none) c d)
      (fun _ => iprop(Ow c R ∗ Sent c (none, d))) :=
  send_c_at I K c _ d (devTab_eq 0 d c) R
/-- A weight's copy starts. -/
theorem send_w (k : Fin 3) (c : Dev nD) (v : Bool) (d : Fin 7) (R : List Ob) : iprop(Env I K ∗ Ow c (.inr (some v, d) :: R) ∗ T1 c (some v, d) ∗ dstPts c (some v, d) ∗ sendPay I c (some v, d))
    ⊢ WP c (sendW (F := F) k.val (uM_whole v) (wM_whole v) (smS (some v)) (smR (some v)) c d)
      (fun _ => iprop(Ow c R ∗ Sent c (some v, d))) :=
  send_w_at I K c _ v d (devTab_eq k d c) R

end Cert.KvqIdeal.Canon
-- ==== Proof.KvqBlocks.lean ====
/- The blocks of the body: the barrier, the rounds of copies and of waits, the parts of the buffers. -/
module

public import proofs.«01_k».proof.Proof.KvqOps

@[expose] public section

noncomputable section

namespace Cert.KvqIdeal.Canon

open Cert.KvqIdeal Cert.KvqIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem eqv {P Q : sProp 𝕄} (h : P ⊣⊢ Q) : P = Q := equiv_iff.mp ⟨h.1, h.2⟩

variable (I : Dev nD → Ins F) (K : Dev nD × Cl → ℕ)

/-! ## Loops -/

omit [FloatOps F] in
theorem lsep_flat {α β : Type} (f : α → List β) (Φ : β → sProp 𝕄) : ∀ l : List α, lsep (l.flatMap f) Φ = lsep l fun a => lsep (f a) Φ
  | [] => rfl
  | a :: l => by rw [List.flatMap_cons, lsep_append, lsep_cons, lsep_flat f Φ l]

omit [FloatOps F] in
theorem lsep_x3 (d : Fin 7) (Φ : X → sProp 𝕄) : lsep (x3 d) Φ = iprop(Φ (none, d) ∗ Φ (some false, d) ∗ Φ (some true, d)) := by
  unfold x3; rw [lsep_cons, lsep_cons, lsep_single]

omit [FloatOps F] in
/-- A resource of every copy, sorted by what they carry. -/
theorem lsep_allX (Φ : X → sProp 𝕄) : lsep allX Φ
    = iprop((lsep l7 fun d => Φ (none, d)) ∗ (lsep l7 fun d => Φ (some false, d)) ∗ (lsep l7 fun d => Φ (some true, d))) := by
  unfold allX
  rw [lsep_flat, ← lsep_sep, ← lsep_sep]
  exact congrArg (lsep l7) (funext fun d => lsep_x3 d Φ)

/-- A list of programs, each using up the head of what is left to do. -/
theorem seq_list (c : Dev nD) {α : Type} (f : α → PR F PUnit) (Φ : List α → sProp 𝕄) (A B : α → sProp 𝕄)
    (h : ∀ x R, iprop(Φ (x :: R) ∗ A x) ⊢ WP c (f x) (fun _ => iprop(Φ R ∗ B x))) : ∀ L : List α,
    iprop(Φ L ∗ lsep L A) ⊢ WP c (seqP (L.map f)) (fun _ => iprop(Φ [] ∗ lsep L B))
  | [] => by
    rw [lsep_nil, lsep_nil]
    exact wp_pure_intro (c := c) PUnit.unit (fun _ => iprop(Φ [] ∗ emp))
  | x :: L => by
    rw [lsep_cons, lsep_cons, List.map_cons]
    unfold seqP
    iintro ⟨HP, Hx, HL⟩
    iapply (step (h x L)) $$ [HP Hx]
    · isplitl [HP] <;> iassumption
    iintro %r ⟨HP, Hx⟩
    iapply (last (seq_list c f Φ A B h L)) $$ [HP HL]
    · isplitl [HP] <;> iassumption
    iintro %r ⟨HP, HL⟩
    isplitl [HP]; · iexact HP
    isplitl [Hx] <;> iassumption

/-! ## The barrier -/

theorem bar_pay (d : Fin 7) (c : Dev nD) : barPay d c ⊢ (ringRd I).payload (((c : Dev nD) : Thread nD τ), SemLoc.reg barS.sem) 0 d :=
  Entails.of_eq (payload_bar I c d).symm

/-- A signal hands the slots over that the device signalled will fill. -/
theorem sig_one (c n : Dev nD) (d : Fin 7) (hn : n = fwd d c) (R : List Ob) :
    iprop(Env I K ∗ Ow c (.inl d :: R) ∗ dutyTok ER (kcell (fwd d c) none) 0 (rv d) ∗ barPay (rv d) (fwd d c))
      ⊢ WP c (semSignalWord (n : Dev nD) barS.sem 1#32) (fun _ => Ow c R) := by
  subst hn
  unfold Ow
  iintro ⟨#HE, ⟨%W, HO⟩, Ht, Hp⟩
  ihave Hi := (Env_inv I K (fwd d c) none) $$ HE
  icases Hi with ⟨#HI, #HR⟩
  have key := Rounds.wp_signal 𝒱₀ ER (ringRd I) (c : Thread nD τ) none (defs := defs₀ (F := F)) (dst := (fwd d c : Thread nD τ)) (sem := barS.sem)
      (κ := K (fwd d c, none)) (r := 0) (d := rv d) (k := Prog.ret) (Es := Set.univ) (Γ := [])
      (Q := fun _ => iprop(∃ W, owes (c : Thread nD τ) (tal c R) W))
      (by rw [show (((fwd d c : Dev nD) : Thread nD τ), SemLoc.reg barS.sem) = kcell (fwd d c) none from rfl, duties_bar]; exact Finset.mem_univ _)
      (amount_bar I (fwd d c) (rv d)) ()
      (O₀ := tal c (.inl d :: R)) (tal c R) rfl (W := W)
  iapply key $$ [HO Ht Hp]
  · isplitr; · iexact HI
    isplitl [HO]; · iexact HO
    isplitl [Ht]; · iexact Ht
    isplitl [Hp]
    · iapply (bar_pay I (rv d) (fwd d c)); iexact Hp
    iexact HR
  iintro HO
  iapply (wp_pure_intro (c := c) PUnit.unit)
  iexists W; iexact HO

theorem bar_lv : ∀ z ∈ allX.map (Sum.inr : X → Ob), 1 < lvOf (some (obCl z)) := by decide +kernel

/-- The barrier's wait hands over the slots the device's copies fill. -/
theorem wait_bar (c : Dev nD) :
    iprop(Env I K ∗ Ow c (allX.map .inr) ∗ atPos ER (kcell c none) 0 ∅ 0 ∗ cred (tallyAt (kcell c none) () 7))
      ⊢ WP c (semWaitWord barS.sem 7#32) (fun _ => iprop((Ow c (allX.map .inr) ∗ semVal (kcell c none) 0) ∗ lsep l7 fun d => barPay d c)) := by
  unfold Ow
  iintro ⟨#HE, ⟨%W, HO⟩, Hat, Hcr⟩
  ihave Hi := (Env_inv I K c none) $$ HE
  icases Hi with ⟨#HI, -⟩
  have key := Rounds.wp_wait_rest_token 𝒱₀ ER (ringRd I) (c : Thread nD τ) none (defs := defs₀ (F := F)) (κ := K (c, none))
      (w := .semWait barS.sem (7#32 : BitVec 32).toInt) (sm := csem none) (k' := 7)
      (hw := wpE_semWait_eq 𝒱₀ (c : Thread nD τ) none Set.univ) (Set.mem_univ _) () (O := tal c (allX.map .inr)) (W := W) (R := 0) (m := 0) (T := ∅)
      (k := Prog.ret) (Q := fun _ => iprop(((∃ W, owes (c : Thread nD τ) (tal c (allX.map .inr)) W) ∗ semVal (kcell c none) 0) ∗ lsep l7 fun d => barPay d c))
      (by rw [expect_bar])
  iapply key $$ [Hcr HO Hat]
  · isplitr; · iexact HI
    isplitl [Hcr]; · iexact Hcr
    isplitl [HO]; · iexact HO
    isplitr
    · iapply (mayWait_tal c (csem none) (allX.map .inr) (by rw [dec_csem]; exact bar_lv))
      iapply (Env_lev I K); iexact HE
    iexact Hat
  iintro ⟨HO, Hat, -, Hpay⟩
  ihave Hp := (Entails.of_eq (rest_bar I c)) $$ Hpay
  ihave Hc := (Rounds.cell_close ER (ringRd I) (Set.mem_univ (K (c, none))) (fun h => h) (R := 0 + 1) (duties_later I (kcell c none))) $$ [Hat]
  · isplitr; · iexact HI
    iexact Hat
  rw [wp_ret]
  imod Hc
  imodintro
  isplitl [HO Hc]
  · isplitl [HO]
    · iexists (insert (csem none, ()) W); iexact HO
    iexact Hc
  iexact Hp

/-- The whole barrier. -/
theorem bar_all (c : Dev nD) :
    iprop(Env I K ∗ Ow c allO ∗ (lsep l7 fun d => iprop(dutyTok ER (kcell (fwd d c) none) 0 (rv d) ∗ barPay (rv d) (fwd d c)))
        ∗ atPos ER (kcell c none) 0 ∅ 0 ∗ cred (tallyAt (kcell c none) () 7))
      ⊢ WP c (handshake (F := F) c) (fun _ => iprop((Ow c (allX.map .inr) ∗ semVal (kcell c none) 0) ∗ lsep l7 fun d => barPay d c)) := by
  unfold handshake
  iintro ⟨#HE, HO, Hl, Hat, Hcr⟩
  have key := seq_list c (fun d : Fin 7 => (semSignalWord (sigTab d.val c) barS.sem 1#32 : PR F PUnit))
    (fun R => iprop(Env I K ∗ Ow c (R.map .inl ++ allX.map .inr)))
    (fun d => iprop(dutyTok ER (kcell (fwd d c) none) 0 (rv d) ∗ barPay (rv d) (fwd d c))) (fun _ => iprop(emp))
    (fun d R => by
      iintro ⟨⟨#HE, HO⟩, Ht, Hp⟩
      iapply (last (sig_one I K c _ d (sigTab_eq d c) (R.map .inl ++ allX.map .inr))) $$ [HO Ht Hp]
      · isplitr; · iexact HE
        isplitl [HO]; · iexact HO
        isplitl [Ht] <;> iassumption
      iintro %r HO
      isplitl [HO]
      · isplitr; · iexact HE
        iexact HO
      iempintro) l7
  iapply (step key) $$ [HO Hl]
  · isplitl [HO]
    · isplitr; · iexact HE
      iexact HO
    iexact Hl
  iintro %r ⟨⟨-, HO⟩, -⟩
  iapply (last (wait_bar I K c)) $$ [HO Hat Hcr]
  · isplitr; · iexact HE
    isplitl [HO]; · iexact HO
    isplitl [Hat] <;> iassumption
  iintro %r H
  iexact H

/-! ## The rounds of copies and of waits -/

/-- What a copy starts from. -/
def Go (c : Dev nD) (x : X) : sProp 𝕄 := iprop(T1 c x ∗ dstPts c x ∗ sendPay I c x)
/-- What a copy's waits leave. -/
def Done (c : Dev nD) (x : X) : sProp 𝕄 := iprop((Gone c x ∗ Rcvd c x) ∗ sendPay I c x ∗ recvPay I c x)

/-- A round of copies. -/
theorem send_round (c : Dev nD) (d : Fin 7) (R : List (Fin 7)) :
    iprop((Env I K ∗ Ow c (((d :: R).flatMap x3).map .inr)) ∗ lsep (x3 d) (Go I c))
      ⊢ WP c (sends (F := F) (uM false) (uM_whole false) (uM true) (uM_whole true) csM (Memref.isWhole_whole _) caM (Memref.isWhole_whole _)
          (wM false) (wM_whole false) (wM true) (wM_whole true) (smS none) (smR none) (smS (some false)) (smR (some false))
          (smS (some true)) (smR (some true)) c d)
        (fun _ => iprop((Env I K ∗ Ow c ((R.flatMap x3).map .inr)) ∗ lsep (x3 d) (Sent c))) := by
  rw [lsep_x3, lsep_x3]
  unfold Go sends
  iintro ⟨⟨#HE, HO⟩, H0, H1, H2⟩
  iapply (step (send_c I K c d (.inr (some false, d) :: .inr (some true, d) :: (R.flatMap x3).map .inr))) $$ [HO H0]
  · isplitr; · iexact HE
    isplitl [HO]; · iexact HO
    iexact H0
  iintro %r ⟨HO, H0⟩
  iapply (step (send_w I K 1 c false d (.inr (some true, d) :: (R.flatMap x3).map .inr))) $$ [HO H1]
  · isplitr; · iexact HE
    isplitl [HO]; · iexact HO
    iexact H1
  iintro %r ⟨HO, H1⟩
  iapply (last (send_w I K 2 c true d ((R.flatMap x3).map .inr))) $$ [HO H2]
  · isplitr; · iexact HE
    isplitl [HO]; · iexact HO
    iexact H2
  iintro %r ⟨HO, H2⟩
  isplitl [HO]
  · isplitr; · iexact HE
    iexact HO
  isplitl [H0]; · iexact H0
  isplitl [H1] <;> iassumption

/-- A round of waits. -/
theorem wait_round (c : Dev nD) (d : Fin 7) :
    iprop((Env I K ∗ Ow c []) ∗ lsep (x3 d) (fun x => iprop(Sent c x ∗ T2 c x)))
      ⊢ WP c (waits (F := F) (uM false) (uM_whole false) (uM true) (uM_whole true) csM (Memref.isWhole_whole _) caM (Memref.isWhole_whole _)
          (wM false) (wM_whole false) (wM true) (wM_whole true) (smS none) (smR none) (smS (some false)) (smR (some false))
          (smS (some true)) (smR (some true)) c d)
        (fun _ => iprop((Env I K ∗ Ow c []) ∗ lsep (x3 d) (Done I c))) := by
  rw [lsep_x3, lsep_x3]
  unfold Done waits
  iintro ⟨⟨#HE, HO⟩, H0, H1, H2⟩
  iapply (step (wait_c I K c d)) $$ [HO H0]
  · isplitr; · iexact HE
    isplitl [HO]; · iexact HO
    iexact H0
  iintro %r ⟨HO, H0⟩
  iapply (step (wait_w I K c false d)) $$ [HO H1]
  · isplitr; · iexact HE
    isplitl [HO]; · iexact HO
    iexact H1
  iintro %r ⟨HO, H1⟩
  iapply (last (wait_w I K c true d)) $$ [HO H2]
  · isplitr; · iexact HE
    isplitl [HO]; · iexact HO
    iexact H2
  iintro %r ⟨HO, H2⟩
  isplitl [HO]
  · isplitr; · iexact HE
    iexact HO
  isplitl [H0]; · iexact H0
  isplitl [H1] <;> iassumption

/-! ## Whole arrays -/

section
variable {n m : Nat} {e : EltTy} (b : Memref sig .tc .vmem ⟨2, ![n, m]⟩ e) (c : Dev nD)

/-- A load of a whole array. -/
theorem ld_w (q : PosShare TreeShare) (Y : Vec F ⟨2, ![n, m]⟩ e)
    {inb : ∀ a : Fin 2, (![0, 0] : Fin 2 → Nat) a + (![n, m] : Fin 2 → Nat) a ≤ (![n, m] : Fin 2 → Nat) a}
    {hl : b.view.LoadsAt (Rect.unit (s := ⟨2, ![n, m]⟩) ![0, 0] ![n, m] inb).toLoadRect} :
    pc b c Finset.univ q Y ⊢ WP c (Prog.lift (.load b (Rect.unit (s := ⟨2, ![n, m]⟩) ![0, 0] ![n, m] inb).toLoadRect hl))
      (fun x => iprop(⌜x = Y⌝ ∗ pc b c Finset.univ q Y)) := by
  iintro H
  iapply (last (wp_load_pc b c (Finset.subset_univ _) q Y)) $$ H
  iintro %x ⟨%hx, H⟩
  isplitr
  · ipureintro
    rw [hx]
    exact funext fun j => congrArg Y (whole_emb j)
  iexact H

/-- A load of a whole array at contents not stated. -/
theorem ld_e
    {inb : ∀ a : Fin 2, (![0, 0] : Fin 2 → Nat) a + (![n, m] : Fin 2 → Nat) a ≤ (![n, m] : Fin 2 → Nat) a}
    {hl : b.view.LoadsAt (Rect.unit (s := ⟨2, ![n, m]⟩) ![0, 0] ![n, m] inb).toLoadRect} :
    pcE (F := F) b c Finset.univ ⊢ WP c (Prog.lift (.load b (Rect.unit (s := ⟨2, ![n, m]⟩) ![0, 0] ![n, m] inb).toLoadRect hl))
      (fun x => pcE (F := F) b c Finset.univ) := wp_load_pcE b c (Finset.subset_univ _)

/-- A store of a whole array. -/
theorem st_w (Y : Vec F ⟨2, ![n, m]⟩ e)
    {inb : ∀ a : Fin 2, (![0, 0] : Fin 2 → Nat) a + (![n, m] : Fin 2 → Nat) a ≤ (![n, m] : Fin 2 → Nat) a}
    {hx : (b.access (Rect.unit (s := ⟨2, ![n, m]⟩) ![0, 0] ![n, m] inb)).Stores Finset.univ}
    {hm : (Finset.univ : Finset (Rect.unit (s := ⟨2, ![n, m]⟩) ![0, 0] ![n, m] inb).shape.Idx) = Finset.univ
      ∨ ∀ a, (Rect.unit (s := ⟨2, ![n, m]⟩) ![0, 0] ![n, m] inb).stride a = 1} :
    pcE (F := F) b c Finset.univ ⊢ WP c (Prog.lift (.store b (Rect.unit (s := ⟨2, ![n, m]⟩) ![0, 0] ![n, m] inb) Y Finset.univ hx hm))
      (fun _ => pc b c Finset.univ fullShare Y) := by
  have key := wp_store_pc b c (r := Rect.unit (s := ⟨2, ![n, m]⟩) ![0, 0] ![n, m] inb) (w := Y) (hx := hx) (hm := hm) Y
    (fun j => congrArg Y (whole_emb j))
  rw [whole_set] at key
  exact key
end

/-! ## Parts -/

omit [FloatOps F] in
omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

theorem blocks8 (Φ : Fin 8 → sProp 𝕄) : bigSep Finset.univ Φ = iprop((lsep l7 fun d => Φ (slotOf d)) ∗ Φ 7) := by
  rw [← lsep_univ (l := l7.map slotOf ++ [7]) (by decide) (by decide), lsep_append, lsep_map, lsep_single]

theorem ca_splitE (c : Dev nD) : pcE (F := F) caM c Finset.univ
    = iprop((lsep l7 fun d => pcE caM c (cRect (slotOf d)).set) ∗ pcE caM c (cRect 7).set) :=
  (eqv (pcE_blocks caM c (fun s : Fin 8 => (cRect s).set) c_disj Finset.univ c_cover)).trans (blocks8 _)
theorem w_splitE (c : Dev nD) (v : Bool) : pcE (F := F) (wM v) c Finset.univ
    = iprop((lsep l7 fun d => pcE (wM v) c (wRect (slotOf d)).set) ∗ pcE (wM v) c (wRect 7).set) :=
  (eqv (pcE_blocks (wM v) c (fun s : Fin 8 => (wRect s).set) w_disj Finset.univ w_cover)).trans (blocks8 _)
theorem ca_split (c : Dev nD) (Y : Vec F S1024x1024 .bf16) : pc caM c Finset.univ fullShare Y
    = iprop((lsep l7 fun d => pc caM c (cRect (slotOf d)).set fullShare Y) ∗ pc caM c (cRect 7).set fullShare Y) :=
  (eqv (pc_blocks caM c (fun s : Fin 8 => (cRect s).set) c_disj fullShare Y Finset.univ c_cover)).trans (blocks8 _)
theorem w_split (c : Dev nD) (v : Bool) (Y : Vec F S1024x512 .bf16) : pc (wM v) c Finset.univ fullShare Y
    = iprop((lsep l7 fun d => pc (wM v) c (wRect (slotOf d)).set fullShare Y) ∗ pc (wM v) c (wRect 7).set fullShare Y) :=
  (eqv (pc_blocks (wM v) c (fun s : Fin 8 => (wRect s).set) w_disj fullShare Y Finset.univ w_cover)).trans (blocks8 _)
theorem u_split (c : Dev nD) (v : Bool) (Y : Vec F S8x128x512 .bf16) : pc (uM v) c Finset.univ fullShare Y
    = iprop((lsep l7 fun d => pc (uM v) c (uRect (slotOf d) c).set fullShare Y) ∗ pc (uM v) c (uRect 7 c).set fullShare Y) :=
  (eqv (pc_blocks (uM v) c (fun s : Fin 8 => (uRect s c).set) (u_disj c) fullShare Y Finset.univ (u_cover c))).trans (blocks8 _)

theorem cs_half (c : Dev nD) (n : ℕ) (Y : Vec F S1024x128 .bf16) :
    pc csM c Finset.univ (sh n) Y = iprop(pc csM c Finset.univ (sh n).left Y ∗ pc csM c Finset.univ (sh (n + 1)) Y) :=
  eqv (pc_halves csM c Finset.univ (sh n) Y)

theorem sep_assoc' (P Q R : sProp 𝕄) : iprop((P ∗ Q) ∗ R) = iprop(P ∗ Q ∗ R) := by
  refine eqv ⟨?_, ?_⟩
  · iintro ⟨⟨HP, HQ⟩, HR⟩
    isplitl [HP]; · iexact HP
    isplitl [HQ] <;> iassumption
  · iintro ⟨HP, HQ, HR⟩
    isplitr [HR]
    · isplitl [HP] <;> iassumption
    iexact HR

theorem cs_split (c : Dev nD) (Y : Vec F S1024x128 .bf16) : pc csM c Finset.univ fullShare Y
    = iprop((lsep l7 fun d => pc csM c Finset.univ (qk d) Y) ∗ pc csM c Finset.univ (sh 7) Y) := by
  unfold l7
  rw [lsep_cons, lsep_cons, lsep_cons, lsep_cons, lsep_cons, lsep_cons, lsep_single]
  rw [sep_assoc', sep_assoc', sep_assoc', sep_assoc', sep_assoc', sep_assoc']
  refine (cs_half c 0 Y).trans ?_
  refine congrArg (fun R => iprop(pc csM c Finset.univ (qk 0) Y ∗ R)) ?_
  refine (cs_half c 1 Y).trans ?_
  refine congrArg (fun R => iprop(pc csM c Finset.univ (qk 1) Y ∗ R)) ?_
  refine (cs_half c 2 Y).trans ?_
  refine congrArg (fun R => iprop(pc csM c Finset.univ (qk 2) Y ∗ R)) ?_
  refine (cs_half c 3 Y).trans ?_
  refine congrArg (fun R => iprop(pc csM c Finset.univ (qk 3) Y ∗ R)) ?_
  refine (cs_half c 4 Y).trans ?_
  refine congrArg (fun R => iprop(pc csM c Finset.univ (qk 4) Y ∗ R)) ?_
  refine (cs_half c 5 Y).trans ?_
  refine congrArg (fun R => iprop(pc csM c Finset.univ (qk 5) Y ∗ R)) ?_
  exact cs_half c 6 Y

theorem rv_perm : (l7.map rv).Perm l7 := by decide

/-- The slots a device hands over at the barrier are its own first seven. -/
theorem bar_give (c : Dev nD) : (lsep l7 fun d => barPay (F := F) (rv d) (fwd d c))
    = iprop((lsep l7 fun d => pcE caM c (cRect (slotOf d)).set) ∗ (lsep l7 fun d => pcE (wM false) c (wRect (slotOf d)).set)
      ∗ (lsep l7 fun d => pcE (wM true) c (wRect (slotOf d)).set)) := by
  rw [← lsep_sep, ← lsep_sep]
  rw [← lsep_perm rv_perm (fun d => iprop(pcE (F := F) caM c (cRect (slotOf d)).set ∗ pcE (wM false) c (wRect (slotOf d)).set ∗ pcE (wM true) c (wRect (slotOf d)).set)), lsep_map]
  refine congrArg (lsep l7) (funext fun d => ?_)
  unfold barPay
  rw [lsep_x3, dstPts_c, dstPts_w, dstPts_w, fwd_rv]

theorem send_list (c : Dev nD) : lsep allX (sendPay I c)
    = iprop((lsep l7 fun d => pc csM c Finset.univ (qk d) (cV I c)) ∗ (lsep l7 fun d => pc (uM false) c (uRect (slotOf d) c).set fullShare ((I c).u false))
      ∗ (lsep l7 fun d => pc (uM true) c (uRect (slotOf d) c).set fullShare ((I c).u true))) := lsep_allX _
theorem recv_list (c : Dev nD) : lsep allX (recvPay I c)
    = iprop((lsep l7 fun d => pc caM c (cRect (slotOf d)).set fullShare (caV I c)) ∗ (lsep l7 fun d => pc (wM false) c (wRect (slotOf d)).set fullShare (wV I false c))
      ∗ (lsep l7 fun d => pc (wM true) c (wRect (slotOf d)).set fullShare (wV I true c))) := lsep_allX _

end Cert.KvqIdeal.Canon
-- ==== Proof.KvqBody.lean ====
/- The whole body: from what a device starts with to what it ends with. -/
module

public import proofs.«01_k».proof.Proof.KvqBlocks

@[expose] public section

noncomputable section

namespace Cert.KvqIdeal.Canon

open Cert.KvqIdeal Cert.KvqIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cl → ℕ)

/-! ## The steps without copies -/

/-- The device's latent. -/
theorem latent_wp (c : Dev nD) :
    iprop(pc (Memref.whole cc0_stg0_0) c Finset.univ fullShare (I c).x ∗ pc (Memref.whole cc0_stg1_0) c Finset.univ fullShare (I c).wd
        ∗ pcE csM c Finset.univ)
      ⊢ WP c (latent (F := F) (Memref.whole cc0_stg0_0) (Memref.whole cc0_stg1_0) csM (Memref.isWhole_whole _))
        (fun _ => iprop(pc (Memref.whole cc0_stg0_0) c Finset.univ fullShare (I c).x ∗ pc (Memref.whole cc0_stg1_0) c Finset.univ fullShare (I c).wd
          ∗ pc csM c Finset.univ fullShare (cV I c))) := by
  unfold latent
  iintro ⟨H0, H1, Hs⟩
  iapply (step (ld_w (Memref.whole cc0_stg0_0) c fullShare (I c).x)) $$ H0
  iintro %x ⟨%hx, H0⟩
  iapply (step (ld_w (Memref.whole cc0_stg1_0) c fullShare (I c).wd)) $$ H1
  iintro %w ⟨%hw, H1⟩
  subst hx hw
  iapply (step (ld_e csM c)) $$ Hs
  iintro %z Hs
  iapply (last (st_w csM c (k0_pay3 (I c).x (I c).wd))) $$ Hs
  iintro %r Hs
  unfold cV
  isplitl [H0]; · iexact H0
  isplitl [H1] <;> iassumption

theorem own_c (c : Dev nD) (j : S1024x128.Idx) : caV I c ((cRect 7).emb j) = k0_pay4 (cV I c) j := by
  rw [pay4_eq]; exact caV_slot I 7 c c (slotDev_own c) j
theorem own_w5 (c : Dev nD) (j : S128x512.Idx) : wV I false c ((wRect 7).emb j) = k0_pay5 (fun j => (I c).u false ((uRect 7 c).emb j)) j :=
  (wV_slot I false 7 c c (slotDev_own c) (uBlk_own c) shapeCasts_S1x128x512_S128x512 j).trans (pay5_eq (fun j => (I c).u false ((uRect 7 c).emb j)) j).symm
theorem own_w7 (c : Dev nD) (j : S128x512.Idx) : wV I true c ((wRect 7).emb j) = k0_pay7 (k0_pay6 (fun j => (I c).u true ((uRect 7 c).emb j))) j :=
  (wV_slot I true 7 c c (slotDev_own c) (uBlk_own c) shapeCasts_S1x128x512_S128x512 j).trans (pay7_eq (fun j => (I c).u true ((uRect 7 c).emb j)) j).symm

/-- The device's own blocks. -/
theorem own_wp (c : Dev nD) :
    iprop(pc csM c Finset.univ (sh 7) (cV I c) ∗ pc (uM false) c (uRect 7 c).set fullShare ((I c).u false)
        ∗ pc (uM true) c (uRect 7 c).set fullShare ((I c).u true)
        ∗ pcE caM c (cRect 7).set ∗ pcE (wM false) c (wRect 7).set ∗ pcE (wM true) c (wRect 7).set)
      ⊢ WP c (own (F := F) (uM false) (uM true) csM caM (Memref.isWhole_whole _) (wM false) (wM_whole false) (wM true) (wM_whole true) c)
        (fun _ => iprop(pc csM c Finset.univ (sh 7) (cV I c) ∗ pc (uM false) c (uRect 7 c).set fullShare ((I c).u false)
          ∗ pc (uM true) c (uRect 7 c).set fullShare ((I c).u true)
          ∗ pc caM c (cRect 7).set fullShare (caV I c) ∗ pc (wM false) c (wRect 7).set fullShare (wV I false c)
          ∗ pc (wM true) c (wRect 7).set fullShare (wV I true c))) := by
  unfold own
  iintro ⟨Hs, Hk, Hv, H13, H14, H15⟩
  iapply (step (ld_w csM c (sh 7) (cV I c))) $$ Hs
  iintro %z ⟨%hz, Hs⟩
  subst hz
  iapply (step (wp_load_pcE caM c (Finset.Subset.refl _))) $$ H13
  iintro %d H13
  iapply (step (wp_store_pc caM c (r := cRect 7) (caV I c) (own_c I c))) $$ H13
  iintro %r H13
  iapply (step (wp_load_pc (uM false) c (r := uRect 7 c) (Finset.Subset.refl _) fullShare ((I c).u false))) $$ Hk
  iintro %k ⟨%hk, Hk⟩
  subst hk
  iapply (step (wp_load_pcE (wM false) c (Finset.Subset.refl _))) $$ H14
  iintro %d H14
  iapply (step (wp_store_pc (wM false) c (r := wRect 7) (wV I false c) (own_w5 I c))) $$ H14
  iintro %r H14
  iapply (step (wp_load_pc (uM true) c (r := uRect 7 c) (Finset.Subset.refl _) fullShare ((I c).u true))) $$ Hv
  iintro %k ⟨%hk, Hv⟩
  subst hk
  iapply (step (wp_load_pcE (wM true) c (Finset.Subset.refl _))) $$ H15
  iintro %d H15
  iapply (last (wp_store_pc (wM true) c (r := wRect 7) (wV I true c) (own_w7 I c))) $$ H15
  iintro %r H15
  isplitl [Hs]; · iexact Hs
  isplitl [Hk]; · iexact Hk
  isplitl [Hv]; · iexact Hv
  isplitl [H13]; · iexact H13
  isplitl [H14] <;> iassumption

/-- The three projections. -/
theorem projs_wp (c : Dev nD) :
    iprop(pc (Memref.whole cc0_stg0_0) c Finset.univ fullShare (I c).x ∗ pc (Memref.whole cc0_stg4_0) c Finset.univ fullShare (I c).wq
        ∗ pc (Memref.whole cc0_stg5_0) c Finset.univ fullShare (I c).wr ∗ pc (Memref.whole cc0_stg6_0) c Finset.univ fullShare (I c).wc
        ∗ pcE (Memref.whole cc0_stg7_0) c Finset.univ ∗ pcE (Memref.whole cc0_stg8_0) c Finset.univ ∗ pcE (Memref.whole cc0_stg9_0) c Finset.univ)
      ⊢ WP c (projs (F := F) (Memref.whole cc0_stg0_0) (Memref.whole cc0_stg4_0) (Memref.whole cc0_stg5_0) (Memref.whole cc0_stg6_0)
          (Memref.whole cc0_stg7_0) (Memref.isWhole_whole _) (Memref.whole cc0_stg8_0) (Memref.isWhole_whole _) (Memref.whole cc0_stg9_0) (Memref.isWhole_whole _))
        (fun _ => iprop(pc (Memref.whole cc0_stg0_0) c Finset.univ fullShare (I c).x ∗ pc (Memref.whole cc0_stg4_0) c Finset.univ fullShare (I c).wq
          ∗ pc (Memref.whole cc0_stg5_0) c Finset.univ fullShare (I c).wr ∗ pc (Memref.whole cc0_stg6_0) c Finset.univ fullShare (I c).wc
          ∗ pc (Memref.whole cc0_stg7_0) c Finset.univ fullShare (k0_pay9 (I c).x (I c).wq)
          ∗ pc (Memref.whole cc0_stg8_0) c Finset.univ fullShare (k0_pay10 (I c).x (I c).wr)
          ∗ pc (Memref.whole cc0_stg9_0) c Finset.univ fullShare (k0_pay11 (I c).x (I c).wc))) := by
  unfold projs
  iintro ⟨H0, H4, H5, H6, H7, H8, H9⟩
  iapply (step (ld_w (Memref.whole cc0_stg0_0) c fullShare (I c).x)) $$ H0
  iintro %x ⟨%hx, H0⟩
  iapply (step (ld_w (Memref.whole cc0_stg4_0) c fullShare (I c).wq)) $$ H4
  iintro %w ⟨%hw, H4⟩
  subst hx hw
  iapply (step (ld_e (Memref.whole cc0_stg7_0) c)) $$ H7
  iintro %z H7
  iapply (step (st_w (Memref.whole cc0_stg7_0) c (k0_pay9 (I c).x (I c).wq))) $$ H7
  iintro %r H7
  iapply (step (ld_w (Memref.whole cc0_stg5_0) c fullShare (I c).wr)) $$ H5
  iintro %w ⟨%hw, H5⟩
  subst hw
  iapply (step (ld_e (Memref.whole cc0_stg8_0) c)) $$ H8
  iintro %z H8
  iapply (step (st_w (Memref.whole cc0_stg8_0) c (k0_pay10 (I c).x (I c).wr))) $$ H8
  iintro %r H8
  iapply (step (ld_w (Memref.whole cc0_stg6_0) c fullShare (I c).wc)) $$ H6
  iintro %w ⟨%hw, H6⟩
  subst hw
  iapply (step (ld_e (Memref.whole cc0_stg9_0) c)) $$ H9
  iintro %z H9
  iapply (last (st_w (Memref.whole cc0_stg9_0) c (k0_pay11 (I c).x (I c).wc))) $$ H9
  iintro %r H9
  isplitl [H0]; · iexact H0
  isplitl [H4]; · iexact H4
  isplitl [H5]; · iexact H5
  isplitl [H6]; · iexact H6
  isplitl [H7]; · iexact H7
  isplitl [H8] <;> iassumption

/-- The two products. -/
theorem prods_wp (c : Dev nD) :
    iprop(pc caM c Finset.univ fullShare (caV I c) ∗ pc (wM false) c Finset.univ fullShare (wV I false c) ∗ pc (wM true) c Finset.univ fullShare (wV I true c)
        ∗ pcE (Memref.whole cc0_stg10_0) c Finset.univ ∗ pcE (Memref.whole cc0_stg11_0) c Finset.univ)
      ⊢ WP c (prods (F := F) (Memref.whole cc0_stg10_0) (Memref.isWhole_whole _) (Memref.whole cc0_stg11_0) (Memref.isWhole_whole _) caM (wM false) (wM true))
        (fun _ => iprop(pc caM c Finset.univ fullShare (caV I c) ∗ pc (wM false) c Finset.univ fullShare (wV I false c) ∗ pc (wM true) c Finset.univ fullShare (wV I true c)
          ∗ pc (Memref.whole cc0_stg10_0) c Finset.univ fullShare (k0_pay1 (caV I c) (wV I false c))
          ∗ pc (Memref.whole cc0_stg11_0) c Finset.univ fullShare (k0_pay2 (caV I c) (wV I true c)))) := by
  unfold prods
  iintro ⟨Ha, Hk, Hv, H10, H11⟩
  iapply (step (ld_w caM c fullShare (caV I c))) $$ Ha
  iintro %x ⟨%hx, Ha⟩
  iapply (step (ld_w (wM false) c fullShare (wV I false c))) $$ Hk
  iintro %w ⟨%hw, Hk⟩
  subst hx hw
  iapply (step (ld_e (Memref.whole cc0_stg10_0) c)) $$ H10
  iintro %z H10
  iapply (step (st_w (Memref.whole cc0_stg10_0) c (k0_pay1 (caV I c) (wV I false c)))) $$ H10
  iintro %r H10
  iapply (step (ld_w (wM true) c fullShare (wV I true c))) $$ Hv
  iintro %w ⟨%hw, Hv⟩
  subst hw
  iapply (step (ld_e (Memref.whole cc0_stg11_0) c)) $$ H11
  iintro %z H11
  iapply (last (st_w (Memref.whole cc0_stg11_0) c (k0_pay2 (caV I c) (wV I true c)))) $$ H11
  iintro %r H11
  isplitl [Ha]; · iexact Ha
  isplitl [Hk]; · iexact Hk
  isplitl [Hv]; · iexact Hv
  isplitl [H10] <;> iassumption

/-! ## The body -/

/-- The seven operands in place. -/
def Inp (c : Dev nD) : sProp 𝕄 :=
  iprop(pc (Memref.whole cc0_stg0_0) c Finset.univ fullShare (I c).x ∗ pc (Memref.whole cc0_stg1_0) c Finset.univ fullShare (I c).wd
    ∗ pc (uM false) c Finset.univ fullShare ((I c).u false) ∗ pc (uM true) c Finset.univ fullShare ((I c).u true)
    ∗ pc (Memref.whole cc0_stg4_0) c Finset.univ fullShare (I c).wq ∗ pc (Memref.whole cc0_stg5_0) c Finset.univ fullShare (I c).wr
    ∗ pc (Memref.whole cc0_stg6_0) c Finset.univ fullShare (I c).wc)

/-- The four scratch buffers. -/
def Scr (c : Dev nD) : sProp 𝕄 :=
  iprop(pcE csM c Finset.univ ∗ pcE caM c Finset.univ ∗ pcE (wM false) c Finset.univ ∗ pcE (wM true) c Finset.univ)

/-- What a device starts with. -/
def Pre (c : Dev nD) (W : Waits sig Unit) : sProp 𝕄 :=
  iprop(Env I K ∗ owes (c : Thread nD τ) (O₀ c) W ∗ ((lsep l7 fun d => dutyTok ER (kcell (fwd d c) none) 0 (rv d))
      ∗ atPos ER (kcell c none) 0 ∅ 0 ∗ cred (tallyAt (kcell c none) () 7))
    ∗ lsep allX (T1 c) ∗ lsep allX (T2 c) ∗ Inp I c ∗ Scr c
    ∗ pcE (Memref.whole cc0_stg7_0) c Finset.univ ∗ pcE (Memref.whole cc0_stg8_0) c Finset.univ ∗ pcE (Memref.whole cc0_stg9_0) c Finset.univ
    ∗ pcE (Memref.whole cc0_stg10_0) c Finset.univ ∗ pcE (Memref.whole cc0_stg11_0) c Finset.univ)

/-- What it ends with. -/
def Post (c : Dev nD) : sProp 𝕄 :=
  iprop((∃ W, owes (c : Thread nD τ) 0 W) ∗ semVal (kcell c none) 0 ∗ lsep allX (Gone c) ∗ lsep allX (Rcvd c) ∗ Inp I c ∗ Scr (F := F) c
    ∗ pc (Memref.whole cc0_stg7_0) c Finset.univ fullShare (k0_pay9 (I c).x (I c).wq)
    ∗ pc (Memref.whole cc0_stg8_0) c Finset.univ fullShare (k0_pay10 (I c).x (I c).wr)
    ∗ pc (Memref.whole cc0_stg9_0) c Finset.univ fullShare (k0_pay11 (I c).x (I c).wc)
    ∗ pc (Memref.whole cc0_stg10_0) c Finset.univ fullShare (k0_pay1 (caV I c) (wV I false c))
    ∗ pc (Memref.whole cc0_stg11_0) c Finset.univ fullShare (k0_pay2 (caV I c) (wV I true c)))

theorem wp_dev (c : Dev nD) : (emp : sProp 𝕄) ⊢ WP (F := F) c (Prog.lift .deviceId) (fun d => iprop(⌜c = d⌝)) := by
  unfold WP Prog.lift
  rw [wp_deviceId]
  iintro -
  iapply (wp_pure_intro (c := c))
  ipureintro; rfl

/-- What all copies start from. -/
theorem go_list (c : Dev nD) : (lsep l7 fun d => lsep (x3 d) (Go I c))
    = iprop(lsep allX (T1 c) ∗ (lsep l7 fun d => barPay d c) ∗ lsep allX (sendPay I c)) := by
  rw [← lsep_flat]
  show lsep allX (fun x => iprop(T1 c x ∗ dstPts c x ∗ sendPay I c x)) = _
  rw [lsep_sep, lsep_sep]
  congr 2
  exact lsep_flat x3 (dstPts c) l7
theorem done_list (c : Dev nD) : (lsep l7 fun d => lsep (x3 d) (Done I c))
    = iprop((lsep allX (Gone c) ∗ lsep allX (Rcvd c)) ∗ lsep allX (sendPay I c) ∗ lsep allX (recvPay I c)) := by
  rw [← lsep_flat]
  show lsep allX (fun x => iprop((Gone c x ∗ Rcvd c x) ∗ sendPay I c x ∗ recvPay I c x)) = _
  rw [lsep_sep, lsep_sep, lsep_sep]
theorem wait_list (c : Dev nD) : (lsep l7 fun d => lsep (x3 d) fun x => iprop(Sent (F := F) c x ∗ T2 c x))
    = iprop((lsep l7 fun d => lsep (x3 d) (Sent c)) ∗ lsep allX (T2 c)) := by
  rw [← lsep_flat, ← lsep_flat, lsep_sep]; rfl

/-- All rounds of copies. -/
theorem send_all (c : Dev nD) :
    iprop((Env I K ∗ Ow c (allX.map .inr)) ∗ lsep l7 fun d => lsep (x3 d) (Go I c))
      ⊢ WP c (seqP (l7.map (sends (F := F) (uM false) (uM_whole false) (uM true) (uM_whole true) csM (Memref.isWhole_whole _) caM (Memref.isWhole_whole _)
          (wM false) (wM_whole false) (wM true) (wM_whole true) (smS none) (smR none) (smS (some false)) (smR (some false))
          (smS (some true)) (smR (some true)) c)))
        (fun _ => iprop((Env I K ∗ Ow c []) ∗ lsep l7 fun d => lsep (x3 d) (Sent c))) :=
  seq_list c _ (fun R => iprop(Env I K ∗ Ow c ((R.flatMap x3).map .inr))) (fun d => lsep (x3 d) (Go I c)) (fun d => lsep (x3 d) (Sent c))
    (fun d R => send_round I K c d R) l7

/-- All rounds of waits. -/
theorem wait_all (c : Dev nD) :
    iprop((Env I K ∗ Ow c []) ∗ lsep l7 fun d => lsep (x3 d) fun x => iprop(Sent c x ∗ T2 c x))
      ⊢ WP c (seqP (l7.map (waits (F := F) (uM false) (uM_whole false) (uM true) (uM_whole true) csM (Memref.isWhole_whole _) caM (Memref.isWhole_whole _)
          (wM false) (wM_whole false) (wM true) (wM_whole true) (smS none) (smR none) (smS (some false)) (smR (some false))
          (smS (some true)) (smR (some true)) c)))
        (fun _ => iprop((Env I K ∗ Ow c []) ∗ lsep l7 fun d => lsep (x3 d) (Done I c))) :=
  seq_list c _ (fun _ => iprop(Env I K ∗ Ow c [])) (fun d => lsep (x3 d) fun x => iprop(Sent c x ∗ T2 c x)) (fun d => lsep (x3 d) (Done I c))
    (fun d R => wait_round I K c d) l7

/-- The body of a device. -/
theorem canon_wp (c : Dev nD) (W : Waits sig Unit) :
    Pre I K c W ⊢ WP c (canon (F := F) (Memref.whole cc0_stg0_0) (Memref.whole cc0_stg1_0) (uM false) (uM_whole false) (uM true) (uM_whole true)
      (Memref.whole cc0_stg4_0) (Memref.whole cc0_stg5_0) (Memref.whole cc0_stg6_0)
      (Memref.whole cc0_stg7_0) (Memref.isWhole_whole _) (Memref.whole cc0_stg8_0) (Memref.isWhole_whole _) (Memref.whole cc0_stg9_0) (Memref.isWhole_whole _)
      (Memref.whole cc0_stg10_0) (Memref.isWhole_whole _) (Memref.whole cc0_stg11_0) (Memref.isWhole_whole _)
      csM (Memref.isWhole_whole _) caM (Memref.isWhole_whole _) (wM false) (wM_whole false) (wM true) (wM_whole true)
      (smS none) (smR none) (smS (some false)) (smR (some false)) (smS (some true)) (smR (some true))) (fun _ => Post I c) := by
  unfold Pre Inp Scr
  iintro ⟨#HE, HO, ⟨Htk, Hat, Hcr⟩, HT1, HT2, ⟨H0, H1, H2, H3, H4, H5, H6⟩, ⟨Hs, Ha, Hk, Hv⟩, H7, H8, H9, H10, H11⟩
  unfold canon
  iapply (step (wp_dev c)) $$ []
  · iempintro
  iintro %d %hd
  subst hd
  iapply (step (latent_wp I c)) $$ [H0 H1 Hs]
  · isplitl [H0]; · iexact H0
    isplitl [H1] <;> iassumption
  iintro %r ⟨H0, H1, Hs⟩
  -- the barrier
  ihave Ha := (Entails.of_eq (ca_splitE c)) $$ Ha
  icases Ha with ⟨Ha, Ha7⟩
  ihave Hk := (Entails.of_eq (w_splitE c false)) $$ Hk
  icases Hk with ⟨Hk, Hk7⟩
  ihave Hv := (Entails.of_eq (w_splitE c true)) $$ Hv
  icases Hv with ⟨Hv, Hv7⟩
  ihave Hg := (Entails.of_eq (bar_give c).symm) $$ [Ha Hk Hv]
  · isplitl [Ha]; · iexact Ha
    isplitl [Hk] <;> iassumption
  iapply (step (bar_all I K c)) $$ [HO Htk Hg Hat Hcr]
  · isplitr; · iexact HE
    isplitl [HO]; · unfold Ow; iexists W; iexact HO
    isplitl [Htk Hg]
    · iapply (Entails.of_eq (lsep_sep l7 _ _).symm)
      isplitl [Htk] <;> iassumption
    isplitl [Hat] <;> iassumption
  iintro %r ⟨⟨HO, Hsem⟩, Hbp⟩
  -- the copies
  ihave Hs := (Entails.of_eq (cs_split c (cV I c))) $$ Hs
  icases Hs with ⟨Hs, Hs7⟩
  ihave H2 := (Entails.of_eq (u_split c false ((I c).u false))) $$ H2
  icases H2 with ⟨H2, H27⟩
  ihave H3 := (Entails.of_eq (u_split c true ((I c).u true))) $$ H3
  icases H3 with ⟨H3, H37⟩
  ihave Hsp := (Entails.of_eq (send_list I c).symm) $$ [Hs H2 H3]
  · isplitl [Hs]; · iexact Hs
    isplitl [H2] <;> iassumption
  ihave Hgo := (Entails.of_eq (go_list I c).symm) $$ [HT1 Hbp Hsp]
  · isplitl [HT1]; · iexact HT1
    isplitl [Hbp] <;> iassumption
  iapply (step (send_all I K c)) $$ [HO Hgo]
  · isplitl [HO]
    · isplitr; · iexact HE
      iexact HO
    iexact Hgo
  iintro %r ⟨⟨-, HO⟩, Hsent⟩
  -- the device's own blocks and projections
  iapply (step (own_wp I c)) $$ [Hs7 H27 H37 Ha7 Hk7 Hv7]
  · isplitl [Hs7]; · iexact Hs7
    isplitl [H27]; · iexact H27
    isplitl [H37]; · iexact H37
    isplitl [Ha7]; · iexact Ha7
    isplitl [Hk7] <;> iassumption
  iintro %r ⟨Hs7, H27, H37, Ha7, Hk7, Hv7⟩
  iapply (step (projs_wp I c)) $$ [H0 H4 H5 H6 H7 H8 H9]
  · isplitl [H0]; · iexact H0
    isplitl [H4]; · iexact H4
    isplitl [H5]; · iexact H5
    isplitl [H6]; · iexact H6
    isplitl [H7]; · iexact H7
    isplitl [H8] <;> iassumption
  iintro %r ⟨H0, H4, H5, H6, H7, H8, H9⟩
  -- the waits
  ihave Hw := (Entails.of_eq (wait_list c).symm) $$ [Hsent HT2]
  · isplitl [Hsent] <;> iassumption
  iapply (step (wait_all I K c)) $$ [HO Hw]
  · isplitl [HO]
    · isplitr; · iexact HE
      iexact HO
    iexact Hw
  iintro %r ⟨⟨-, HO⟩, Hdone⟩
  ihave Hdone := (Entails.of_eq (done_list I c)) $$ Hdone
  icases Hdone with ⟨⟨HG, HR⟩, Hsp, Hrp⟩
  ihave Hsp := (Entails.of_eq (send_list I c)) $$ Hsp
  icases Hsp with ⟨Hs, H2, H3⟩
  ihave Hrp := (Entails.of_eq (recv_list I c)) $$ Hrp
  icases Hrp with ⟨Ha, Hk, Hv⟩
  ihave Hs := (Entails.of_eq (cs_split c (cV I c)).symm) $$ [Hs Hs7]
  · isplitl [Hs] <;> iassumption
  ihave H2 := (Entails.of_eq (u_split c false ((I c).u false)).symm) $$ [H2 H27]
  · isplitl [H2] <;> iassumption
  ihave H3 := (Entails.of_eq (u_split c true ((I c).u true)).symm) $$ [H3 H37]
  · isplitl [H3] <;> iassumption
  ihave Ha := (Entails.of_eq (ca_split c (caV I c)).symm) $$ [Ha Ha7]
  · isplitl [Ha] <;> iassumption
  ihave Hk := (Entails.of_eq (w_split c false (wV I false c)).symm) $$ [Hk Hk7]
  · isplitl [Hk] <;> iassumption
  ihave Hv := (Entails.of_eq (w_split c true (wV I true c)).symm) $$ [Hv Hv7]
  · isplitl [Hv] <;> iassumption
  iapply (last (prods_wp I c)) $$ [Ha Hk Hv H10 H11]
  · isplitl [Ha]; · iexact Ha
    isplitl [Hk]; · iexact Hk
    isplitl [Hv]; · iexact Hv
    isplitl [H10] <;> iassumption
  iintro %r ⟨Ha, Hk, Hv, H10, H11⟩
  unfold Post Inp Scr
  isplitl [HO]; · iapply (Entails.of_eq (show Ow (F := F) c [] = iprop(∃ W, owes (c : Thread nD τ) 0 W) from rfl)); iexact HO
  isplitl [Hsem]; · iexact Hsem
  isplitl [HG]; · iexact HG
  isplitl [HR]; · iexact HR
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [Hs Ha Hk Hv]
  · isplitl [Hs]; · iapply (pc_forget csM c Finset.univ (cV I c)); iexact Hs
    isplitl [Ha]; · iapply (pc_forget caM c Finset.univ (caV I c)); iexact Ha
    isplitl [Hk]; · iapply (pc_forget (wM false) c Finset.univ (wV I false c)); iexact Hk
    iapply (pc_forget (wM true) c Finset.univ (wV I true c)); iexact Hv
  isplitl [H7]; · iexact H7
  isplitl [H8]; · iexact H8
  isplitl [H9]; · iexact H9
  isplitl [H10] <;> iassumption

end Cert.KvqIdeal.Canon
-- ==== Proof.KvqLaunch.lean ====
/- The launch: the ghost state of the protocol, dealt to the devices that use it. -/
module

public import proofs.«01_k».proof.Proof.KvqBody
public import proofs.«01_k».proof.Proof.Gen.KvqIdeal.Launch
public import proofs.«01_k».proof.Proof.Gen.KvqIdeal.Points
public import Idealize.ShloMosaic.Lib.Pipeline.Launch
public import Idealize.ShloMosaic.Lib.Pipeline.Kit

@[expose] public section

noncomputable section

namespace Cert.KvqIdeal.Canon

open Cert.KvqIdeal Cert.KvqIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (K : Dev nD × Cl → ℕ)

/-! ## The kernel's own semaphores -/

/-- The kernel's own semaphores: a departure's and an arrival's for each copy. -/
abbrev osem (k : Bool × X) : SemLoc sig := csem (some k)

theorem dec_stage : ∀ (w : Fin 12) (s : Fin (spec0 w).nbuf), dec (.dma ((spec0 w).sem s)) = none := by decide +kernel
theorem osem_scoped : ∀ k : Bool × X, (osem k).isScoped .tc = true := by decide +kernel

theorem ownSemFacts : Pipeline.OwnSemFacts cfg0.spec osem where
  isScoped := osem_scoped
  inj := fun a b h => Option.some.inj (csem_injective h)
  disj := fun k w s h => by
    have h1 := congrArg dec h
    rw [dec_csem] at h1
    exact absurd (h1.trans (dec_stage w s)) (by simp)

/-! ## Cells and tokens -/

theorem kcell_inj : Function.Injective fun p : Dev nD × Cl => kcell p.1 p.2 := by
  rintro ⟨c, k⟩ ⟨c', k'⟩ h
  have h1 : c = c' := congrArg (fun g : GSem nD τ sig => g.1.1) h
  have h2 : k = k' := csem_injective (congrArg Prod.snd h)
  rw [h1, h2]

/-- All cells. -/
def ringCells : Finset (GSem nD τ sig) := Finset.univ.map ⟨fun p : Dev nD × Cl => kcell p.1 p.2, kcell_inj⟩

/-- The duties of one device's cells: the barrier's seven, and one for each departure and arrival. -/
abbrev J := Fin 7 ⊕ (Bool × X)
/-- A duty's cell. -/
def jcl : J → Cl
  | .inl _ => none
  | .inr k => some k
/-- A duty's name. -/
def jd : J → Fin 7
  | .inl b => b
  | .inr _ => 0
theorem j_inj {j j' : J} (h1 : jcl j = jcl j') (h2 : jd j = jd j') : j = j' := by
  rcases j with b | k <;> rcases j' with b' | k'
  · exact congrArg _ h2
  · cases h1
  · cases h1
  · exact congrArg _ (Option.some.inj h1)
/-- A duty's token. -/
abbrev tokOf (p : Dev nD × J) : GSem nD τ sig × ℕ × Fin 7 := (kcell p.1 (jcl p.2), 0, jd p.2)
theorem tokOf_injective : Function.Injective tokOf := by
  rintro ⟨c, j⟩ ⟨c', j'⟩ h
  have h1 := kcell_inj (a₁ := (c, jcl j)) (a₂ := (c', jcl j')) (congrArg Prod.fst h)
  have h2 : jd j = jd j' := congrArg (fun x : GSem nD τ sig × ℕ × Fin 7 => x.2.2) h
  rw [show c = c' from congrArg Prod.fst h1, j_inj (congrArg Prod.snd h1) h2]
/-- All tokens. -/
def ringToks : Finset (GSem nD τ sig × ℕ × Fin 7) := Finset.univ.map ⟨tokOf, tokOf_injective⟩

/-- The ghost state at launch. -/
def u₀ : UU :=
  (initOf (Pipeline.cells cfgs cellOf_inj) (Pipeline.launchToks cfgs cellOf_inj), initOf ringCells ringToks)

/-- The tokens of device `c`'s own cells. -/
def toks (c : Dev nD) : sProp 𝕄 := bigSep Finset.univ fun j : J => dutyTok ER (kcell c (jcl j)) 0 (jd j)

/-- What the launch deals device `c`. -/
def G (c : Dev nD) : sProp 𝕄 :=
  iprop((bigSep Finset.univ fun k : Cl => roundState ER (ringRd I) (kcell c k) 0)
    ∗ (bigSep Finset.univ fun k : Cl => iprop(atPos ER (kcell c k) 0 ∅ 0 ∗ reached ER (kcell c k) 0)) ∗ toks c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Cl => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd I) ringCells ringToks) $$ HX with ⟨Hst, Hr, Hat, Htok⟩
  imodintro
  ihave Hst' := (Entails.of_eq (hX fun g => roundState ER (ringRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Invariants -/

omit [FloatOps F] in
theorem sep_comm' (P Q : sProp 𝕄) : BI.sep P Q = BI.sep Q P := eqv ⟨BI.sep_comm, BI.sep_comm⟩
omit [FloatOps F] in
theorem bigSep_cl (Φ : Cl → sProp 𝕄) : bigSep Finset.univ Φ = iprop(Φ none ∗ bigSep Finset.univ fun k : Bool × X => Φ (some k)) := by
  classical
  rw [bigSep_univ_equiv (Equiv.optionEquivSumPUnit (Bool × X)).symm, bigSep_univ_sum]
  have h1 : (bigSep Finset.univ fun b : PUnit.{1} => Φ ((Equiv.optionEquivSumPUnit (Bool × X)).symm (Sum.inr b))) = Φ none := bigSep_singleton
  exact (congrArg (BI.sep _) h1).trans (sep_comm' _ _)
omit [FloatOps F] in
theorem unscopedSems0_eq (c : Dev nD) : (unscopedSems0 c : sProp 𝕄) = semVal (kcell c none) 0 := by
  unfold unscopedSems0; rw [bigSep_eq_bigSepL_of_eq [SemLoc.reg barS.sem] (by decide +kernel) (by decide)]; rfl
/-- The kernel's own semaphores at zero. -/
abbrev own0 (c : Dev nD) : sProp 𝕄 := Pipeline.ownSems0 (Ix := Unit) (Name := ℕ) (U := UU) (Lvl := ℕ) (Val := Elt F) (τ := τ) osem c
omit [FloatOps F] in
theorem sems0_eq (c : Dev nD) : iprop(own0 (F := F) c ∗ unscopedSems0 c) ⊢ (bigSep Finset.univ fun k : Cl => semVal (kcell c k) 0 : sProp 𝕄) := by
  unfold own0 Pipeline.ownSems0
  rw [unscopedSems0_eq, bigSep_cl]
  iintro ⟨HS, HB⟩
  isplitl [HB]; · iexact HB
  iexact HS

theorem core_alloc (c : Dev nD) :
    iprop(own0 (F := F) c ∗ unscopedSems0 c ∗ G I c)
      ⊢ |={Set.univ}=> iprop((bigSep Finset.univ fun k : Cl => iprop(∃ κ : ℕ, cellInv ER (ringRd I) κ (kcell c k)))
          ∗ (bigSep Finset.univ fun k : Cl => iprop(atPos ER (kcell c k) 0 ∅ 0 ∗ reached ER (kcell c k) 0)) ∗ toks c) := by
  classical
  unfold G
  iintro ⟨Hos, Hus, Hst, Hat, Htok⟩
  ihave Hv := (sems0_eq (F := F) c) $$ [Hos Hus]
  · isplitl [Hos] <;> iassumption
  have key : iprop((bigSep Finset.univ fun k : Cl => semVal (kcell c k) 0) ∗ bigSep Finset.univ fun k : Cl => roundState ER (ringRd I) (kcell c k) 0)
      ⊢ (|={Set.univ}=> bigSep Finset.univ fun k : Cl => iprop(∃ κ : ℕ, cellInv ER (ringRd I) κ (kcell c k)) : sProp 𝕄) := by
    rw [← bigSep_sep']
    exact (bigSep_mono fun k _ => (Rounds.body_intro ER (ringRd I) (kcell c k)).trans inv_alloc).trans (bigSep_fupd _ _)
  imod key $$ [Hv Hst] with Hinv
  · isplitl [Hv] <;> iassumption
  imodintro
  isplitl [Hinv]; · iexact Hinv
  isplitl [Hat]; · iexact Hat
  iexact Htok

/-! ## The tokens go to the devices that pay -/

/-- The positions and tokens device `c` runs with. -/
def linear (c : Dev nD) : sProp 𝕄 :=
  iprop(((lsep l7 fun d => dutyTok ER (kcell (fwd d c) none) 0 (rv d)) ∗ atPos ER (kcell c none) 0 ∅ 0)
    ∗ lsep allX (T1 c) ∗ lsep allX fun x => atPos ER (kcell c (some (true, x))) 0 ∅ 0)

/-- Each signal moved from where it starts to where it arrives. -/
def around : Dev nD × Fin 7 ≃ Dev nD × Fin 7 :=
  ⟨fun p => (fwd p.2 p.1, rv p.2), fun p => (fwd p.2 p.1, rv p.2), fun p => Prod.ext (fwd_rv p.2 p.1) (rv_rv p.2), fun p => Prod.ext (fwd_rv p.2 p.1) (rv_rv p.2)⟩
/-- Each copy moved from where it starts to where it arrives. -/
def travel : Dev nD × X ≃ Dev nD × X :=
  ⟨fun p => (fwd p.2.2 p.1, p.2), fun p => (bwd p.2.2 p.1, p.2), fun p => Prod.ext (bwd_fwd p.2.2 p.1) rfl, fun p => Prod.ext (fwd_bwd p.2.2 p.1) rfl⟩

omit [FloatOps F] in
theorem toks_around :
    iprop((bigSep Finset.univ fun c : Dev nD => toks (F := F) c) ∗ bigSep Finset.univ fun c : Dev nD => bigSep Finset.univ fun k : Cl => (atPos ER (kcell c k) 0 ∅ 0 : sProp 𝕄))
      ⊢ bigSep Finset.univ fun c : Dev nD => linear (F := F) c := by
  classical
  have hT (c : Dev nD) : toks (F := F) c = iprop((bigSep Finset.univ fun d : Fin 7 => dutyTok ER (kcell c none) 0 d)
      ∗ (bigSep Finset.univ fun x : X => dutyTok ER (kcell c (some (false, x))) 0 0)
      ∗ bigSep Finset.univ fun x : X => dutyTok ER (kcell c (some (true, x))) 0 0) := by
    unfold toks
    rw [bigSep_univ_sum, bigSep_univ_prod, bigSep_bool]; rfl
  have hA (c : Dev nD) : (bigSep Finset.univ fun k : Cl => (atPos ER (kcell c k) 0 ∅ 0 : sProp 𝕄)) = iprop(atPos ER (kcell c none) 0 ∅ 0
      ∗ (bigSep Finset.univ fun x : X => atPos ER (kcell c (some (false, x))) 0 ∅ 0)
      ∗ bigSep Finset.univ fun x : X => atPos ER (kcell c (some (true, x))) 0 ∅ 0) := by
    rw [bigSep_cl, bigSep_univ_prod, bigSep_bool]
  have hL (c : Dev nD) : linear (F := F) c = iprop(((bigSep Finset.univ fun d : Fin 7 => dutyTok ER (kcell (fwd d c) none) 0 (rv d)) ∗ atPos ER (kcell c none) 0 ∅ 0)
      ∗ ((bigSep Finset.univ fun x : X => dutyTok ER (kcell c (some (false, x))) 0 0)
        ∗ (bigSep Finset.univ fun x : X => dutyTok ER (kcell (fwd x.2 c) (some (true, x))) 0 0)
        ∗ (bigSep Finset.univ fun x : X => atPos ER (kcell c (some (false, x))) 0 ∅ 0))
      ∗ bigSep Finset.univ fun x : X => atPos ER (kcell c (some (true, x))) 0 ∅ 0) := by
    unfold linear T1
    rw [lsep_univ l7_nodup mem_l7, lsep_univ allX_nodup mem_allX, lsep_univ allX_nodup mem_allX, bigSep_sep', bigSep_sep']
  rw [bigSep_congr (s := Finset.univ) (fun (c : Dev nD) _ => hT c), bigSep_congr (s := Finset.univ) (fun (c : Dev nD) _ => hA c),
    bigSep_congr (s := Finset.univ) (fun (c : Dev nD) _ => hL c)]
  simp only [bigSep_sep']
  have h1 : (bigSep Finset.univ fun c : Dev nD => bigSep Finset.univ fun d : Fin 7 => (dutyTok ER (kcell c none) 0 d : sProp 𝕄))
      = bigSep Finset.univ fun c : Dev nD => bigSep Finset.univ fun d : Fin 7 => dutyTok ER (kcell (fwd d c) none) 0 (rv d) := by
    rw [← bigSep_univ_prod (fun p : Dev nD × Fin 7 => (dutyTok ER (kcell p.1 none) 0 p.2 : sProp 𝕄)),
      bigSep_univ_equiv around (fun p : Dev nD × Fin 7 => (dutyTok ER (kcell p.1 none) 0 p.2 : sProp 𝕄)), bigSep_univ_prod]
    rfl
  have h3 : (bigSep Finset.univ fun c : Dev nD => bigSep Finset.univ fun x : X => (dutyTok ER (kcell c (some (true, x))) 0 0 : sProp 𝕄))
      = bigSep Finset.univ fun c : Dev nD => bigSep Finset.univ fun x : X => dutyTok ER (kcell (fwd x.2 c) (some (true, x))) 0 0 := by
    rw [← bigSep_univ_prod (fun p : Dev nD × X => (dutyTok ER (kcell p.1 (some (true, p.2))) 0 0 : sProp 𝕄)),
      bigSep_univ_equiv travel (fun p : Dev nD × X => (dutyTok ER (kcell p.1 (some (true, p.2))) 0 0 : sProp 𝕄)), bigSep_univ_prod]
    rfl
  rw [h1, h3]
  iintro ⟨⟨Ha, Hc, Hd⟩, He, Hf, Hg⟩
  isplitl [Ha He]
  · isplitl [Ha]; · iexact Ha
    iexact He
  isplitl [Hc Hd Hf]
  · isplitl [Hc]; · iexact Hc
    isplitl [Hd]; · iexact Hd
    iexact Hf
  iexact Hg

/-- What every device knows of all cells. -/
def records : sProp 𝕄 :=
  bigSep Finset.univ fun p : Dev nD × Cl => iprop(cellInv ER (ringRd I) (K p) (kcell p.1 p.2) ∗ reached ER (kcell p.1 p.2) 0)
instance records_persistent : BI.Persistent (records I K) := by unfold records; infer_instance

/-- What the global step makes for device `c`. -/
def G' (c : Dev nD) : sProp 𝕄 := iprop(∃ K, records I K ∗ linear c)

omit [FloatOps F] in
theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cl => iprop(∃ κ : ℕ, cellInv ER (ringRd I) κ (kcell c k)))
          ∗ (bigSep Finset.univ fun k : Cl => iprop(atPos ER (kcell c k) 0 ∅ 0 ∗ reached ER (kcell c k) 0)) ∗ toks c) : sProp 𝕄)
      ⊢ bigSep Finset.univ (G' I) := by
  classical
  rw [bigSep_sep', bigSep_sep', ← bigSep_univ_prod (fun p : Dev nD × Cl => iprop(∃ κ : ℕ, cellInv ER (ringRd I) κ (kcell p.1 p.2))),
    bigSep_congr (s := Finset.univ) (fun (c : Dev nD) _ => bigSep_sep' Finset.univ (fun k : Cl => (atPos ER (kcell c k) 0 ∅ 0 : sProp 𝕄)) (fun k => reached ER (kcell c k) 0)),
    bigSep_sep', ← bigSep_univ_prod (fun p : Dev nD × Cl => (reached ER (kcell p.1 p.2) 0 : sProp 𝕄))]
  iintro ⟨HI, ⟨Hat, #HR⟩, Htok⟩
  ihave HK := (BI.bigSep_exists_pi Finset.univ (fun (p : Dev nD × Cl) (κ : ℕ) => (cellInv ER (ringRd I) κ (kcell p.1 p.2) : sProp 𝕄))) $$ HI
  icases HK with ⟨%K, #HI⟩
  ihave Hlin := (toks_around (F := F)) $$ [Htok Hat]
  · isplitl [Htok] <;> iassumption
  have hg (c : Dev nD) : iprop(records I K ∗ linear c) ⊢ G' I c := by
    unfold G'; iintro H; iexists K; iexact H
  iapply (with_persistent (R := records I K) fun c _ => hg c)
  isplitr
  · unfold records; rw [bigSep_sep']
    isplitl; · iexact HI
    iexact HR
  iexact Hlin

/-- The global step: all semaphores of all devices at once. -/
theorem glob : (bigSep Finset.univ fun c => iprop(own0 (F := F) c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem kcell_eq_iff {a b : Dev nD} {k k' : Cl} : kcell a k = kcell b k' ↔ a = b ∧ k = k' :=
  ⟨fun h => by have := kcell_inj (a₁ := (a, k)) (a₂ := (b, k')) h; exact ⟨congrArg Prod.fst this, congrArg Prod.snd this⟩, fun h => by rw [h.1, h.2]⟩

theorem tal_copies_bar (d c : Dev nD) : ∀ l : List X, tal d (l.map .inr) (kcell c none) () = 0
  | [] => rfl
  | x :: l => by
    rw [List.map_cons]
    unfold tal
    rw [Pi.add_apply, Finsupp.add_apply, tal_copies_bar d c l, tallyAt_apply, if_neg (fun h => by cases (kcell_eq_iff.1 h.1).2)]
open scoped Classical in
theorem tal_bar (d c : Dev nD) : ∀ l : List (Fin 7), tal d (l.map .inl ++ allX.map .inr) (kcell c none) () = (l.map fun e => if c = fwd e d then 1 else 0).sum
  | [] => tal_copies_bar d c allX
  | e :: l => by
    rw [List.map_cons, List.cons_append, List.map_cons, List.sum_cons]
    unfold tal
    rw [Pi.add_apply, Finsupp.add_apply, tal_bar d c l, tallyAt_apply, Nat.add_comm]
    refine congrArg (· + _) (if_congr ?_ rfl rfl)
    exact ⟨fun h => (kcell_eq_iff.1 h.1).1, fun h => ⟨kcell_eq_iff.2 ⟨h, rfl⟩, rfl⟩⟩
open scoped Classical in
theorem tal_copy (d c : Dev nD) (x : X) : ∀ l : List X, l.Nodup → tal d (l.map .inr) (kcell c (some (true, x))) () = if x ∈ l ∧ fwd x.2 d = c then amt x else 0
  | [], _ => by rw [if_neg (fun h => by cases h.1)]; rfl
  | y :: l, hn => by
    have hn' := List.nodup_cons.1 hn
    rw [List.map_cons]
    unfold tal
    rw [Pi.add_apply, Finsupp.add_apply, tal_copy d c x l hn'.2, tallyAt_apply]
    by_cases hxy : x = y
    · subst hxy
      rw [if_neg (c := x ∈ l ∧ fwd x.2 d = c) (fun h => hn'.1 h.1), Nat.zero_add]
      by_cases hc : fwd x.2 d = c
      · subst hc; rw [if_pos ⟨rfl, rfl⟩, if_pos ⟨List.mem_cons_self, rfl⟩]; rfl
      · rw [if_neg (fun h => hc (kcell_eq_iff.1 h.1).1.symm), if_neg (fun h => hc h.2)]
    · rw [if_neg (c := kcell c (some (true, x)) = kcell (obDev d (.inr y)) (obCl (.inr y)) ∧ () = ())
        (fun h => hxy (by have := (kcell_eq_iff.1 h.1).2; exact congrArg Prod.snd (Option.some.inj this))), Nat.add_zero]
      refine if_congr ?_ rfl rfl
      rw [List.mem_cons, or_iff_right hxy]
theorem tal_signals (d c : Dev nD) (x : X) : ∀ l : List (Fin 7), tal d (l.map .inl ++ allX.map .inr) (kcell c (some (true, x))) ()
    = tal d (allX.map .inr) (kcell c (some (true, x))) ()
  | [] => rfl
  | e :: l => by
    rw [List.map_cons, List.cons_append]
    refine Eq.trans ?_ (tal_signals d c x l)
    rw [tal, Pi.add_apply, Finsupp.add_apply, tallyAt_apply, if_neg (fun h => by cases (kcell_eq_iff.1 h.1).2), Nat.add_zero]

theorem one_signal : ∀ d c : Dev nD, (l7.map fun e => if c = fwd e d then 1 else 0).sum = if d = c then 0 else 1 := by decide +kernel
theorem seven : ∀ c : Dev nD, (∑ d : Dev nD, if d = c then 0 else 1) = 7 := by decide +kernel
theorem owed_bar (d c : Dev nD) : O₀ d (kcell c none) () = if d = c then 0 else 1 := by
  refine (tal_bar d c l7).trans (Eq.trans ?_ (one_signal d c))
  congr
open scoped Classical in
theorem owed_copy (d c : Dev nD) (x : X) : O₀ d (kcell c (some (true, x))) () = if d = bwd x.2 c then amt x else 0 := by
  refine (tal_signals d c x l7).trans ((tal_copy d c x allX allX_nodup).trans (if_congr ?_ rfl rfl))
  exact ⟨fun h => by rw [← h.2, bwd_fwd], fun h => by subst h; exact ⟨mem_allX x, fwd_bwd x.2 c⟩⟩

theorem launch_bar (c : Dev nD) :
    tallyOn (kcell c none) (launchCredit (Pipeline.owing O₀) 0 (kcell c none)) = (tallyAt (kcell c none) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact seven c
theorem launch_copy (c : Dev nD) (x : X) :
    tallyOn (kcell c (some (true, x))) (launchCredit (Pipeline.owing O₀) 0 (kcell c (some (true, x))))
      = (tallyAt (kcell c (some (true, x))) () (amt x) : CellTallies nD τ sig Unit) := by
  classical
  unfold tallyAt; refine congrArg _ (Finsupp.ext fun u => ?_); cases u
  rw [Pipeline.launchCredit_owing, Finsupp.single_eq_same, Finset.sum_congr rfl fun d _ => owed_copy d c x,
    Finset.sum_ite_eq' Finset.univ (bwd x.2 c) fun _ => amt x, if_pos (Finset.mem_univ _)]

/-- The cells a device waits on for others. -/
def waitCl : Unit ⊕ X → Cl
  | .inl _ => none
  | .inr x => some (true, x)
theorem waitCl_inj : Function.Injective fun o => csem (waitCl o) := fun a b h => by
  have h' := csem_injective h
  rcases a with _ | a <;> rcases b with _ | b
  · rfl
  · cases h'
  · cases h'
  · exact congrArg _ (congrArg Prod.snd (Option.some.inj h'))

omit [FloatOps F] in
theorem creds (c : Dev nD) :
    (Pipeline.launchCred O₀ c : sProp 𝕄) ⊢ iprop(cred (tallyAt (kcell c none) () 7)
      ∗ lsep allX fun x => cred (tallyAt (kcell c (some (true, x))) () (amt x))) := by
  classical
  unfold Pipeline.launchCred
  refine (bigSep_subset (Finset.subset_univ (Finset.univ.map ⟨fun o => csem (waitCl o), waitCl_inj⟩))).trans ?_
  rw [bigSep_map, bigSep_univ_sum, lsep_univ allX_nodup mem_allX]
  refine BI.sep_mono ?_ ?_
  · rw [← launch_bar]
    exact bigSep_elim (Finset.mem_univ ())
  · exact Entails.of_eq (bigSep_congr fun x _ => by rw [← launch_copy]; rfl)

end Cert.KvqIdeal.Canon
-- ==== Proof.KvqCanonEq.lean ====
module

public import proofs.«01_k».proof.Proof.KvqCanon

@[expose] public section

set_option synthInstance.maxSize 4096

noncomputable section

namespace Cert.KvqIdeal.Canon

open Idealize.ShloMosaic Idealize.SL.Sem Cert.KvqIdeal Cert.KvqIdeal.Gen

variable {F : FTy → Type} [FloatOps F]

set_option maxRecDepth 100000 in
set_option maxHeartbeats 0 in
/-- The printed body is the straight program. -/
theorem body_eq (arg0 : Memref sig .tc .vmem S1024x4096 .bf16) (harg0 : arg0.IsWhole) (arg1 : Memref sig .tc .vmem S4096x128 .bf16) (harg1 : arg1.IsWhole) (arg2 : Memref sig .tc .vmem S8x128x512 .bf16) (harg2 : arg2.IsWhole) (arg3 : Memref sig .tc .vmem S8x128x512 .bf16) (harg3 : arg3.IsWhole) (arg4 : Memref sig .tc .vmem S4096x512 .bf16) (harg4 : arg4.IsWhole) (arg5 : Memref sig .tc .vmem S4096x256 .bf16) (harg5 : arg5.IsWhole) (arg6 : Memref sig .tc .vmem S4096x64 .bf16) (harg6 : arg6.IsWhole) (arg7 : Memref sig .tc .vmem S1024x512 .bf16) (harg7 : arg7.IsWhole) (arg8 : Memref sig .tc .vmem S1024x256 .bf16) (harg8 : arg8.IsWhole) (arg9 : Memref sig .tc .vmem S1024x64 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x512 .bf16) (harg14 : arg14.IsWhole) (arg15 : Memref sig .tc .vmem S1024x512 .bf16) (harg15 : arg15.IsWhole) (arg16 : DmaSems sig S7) (arg17 : DmaSems sig S7) (arg18 : DmaSems sig S7) (arg19 : DmaSems sig S7) (arg20 : DmaSems sig S7) (arg21 : DmaSems sig S7) :
    cc0__kvq_body_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21
      = canon arg0 arg1 arg2 harg2 arg3 harg3 arg4 arg5 arg6 arg7 harg7 arg8 harg8 arg9 harg9 arg10 harg10 arg11 harg11 arg12 harg12 arg13 harg13 arg14 harg14 arg15 harg15 arg16 arg17 arg18 arg19 arg20 arg21 := by
  rfl

end Cert.KvqIdeal.Canon
-- ==== Proof.KvqRun.lean ====
/- The run of the whole program: every device's result, its inputs unchanged, every semaphore at zero. -/
module

public import proofs.«01_k».proof.Proof.KvqLaunch
public import proofs.«01_k».proof.Proof.KvqCanonEq
public import Idealize.ShloMosaic.Lib.Pipeline.CollectiveSegs

@[expose] public section

noncomputable section

namespace Cert.KvqIdeal.Canon

open Cert.KvqIdeal Cert.KvqIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What the devices are given. -/
def insAt (c : Dev nD) : Ins F where
  x := (win0_0.blk (0 : Fin 1)).view.read (Elt F) ((s₀ m ρ).mem ((c : Thread nD τ).loc main_arg0))
  wd := (win0_1.blk (0 : Fin 1)).view.read (Elt F) ((s₀ m ρ).mem ((c : Thread nD τ).loc main_arg1))
  wk := (win0_2.blk (0 : Fin 1)).view.read (Elt F) ((s₀ m ρ).mem ((c : Thread nD τ).loc main_arg2))
  wv := (win0_3.blk (0 : Fin 1)).view.read (Elt F) ((s₀ m ρ).mem ((c : Thread nD τ).loc main_arg3))
  wq := (win0_4.blk (0 : Fin 1)).view.read (Elt F) ((s₀ m ρ).mem ((c : Thread nD τ).loc main_arg4))
  wr := (win0_5.blk (0 : Fin 1)).view.read (Elt F) ((s₀ m ρ).mem ((c : Thread nD τ).loc main_arg5))
  wc := (win0_6.blk (0 : Fin 1)).view.read (Elt F) ((s₀ m ρ).mem ((c : Thread nD τ).loc main_arg6))

/-- A device's columns of the queries. -/
def out7 (i : Ins F) : Vec F S1024x512 .bf16 := k0_pay9 i.x i.wq
/-- Its columns of the rotated queries. -/
def out8 (i : Ins F) : Vec F S1024x256 .bf16 := k0_pay10 i.x i.wr
/-- The rotated keys. -/
def out9 (i : Ins F) : Vec F S1024x64 .bf16 := k0_pay11 i.x i.wc
/-- Its columns of the keys. -/
def out10 (I : Dev nD → Ins F) (c : Dev nD) : Vec F S1024x512 .bf16 := k0_pay1 (caV I c) (wV I false c)
/-- Its columns of the values. -/
def out11 (I : Dev nD → Ins F) (c : Dev nD) : Vec F S1024x512 .bf16 := k0_pay2 (caV I c) (wV I true c)

/-- What device `c` starts from. -/
def start (c : Dev nD) : sProp 𝕄 :=
  iprop(G' (insAt m ρ) c ∗ levAts L lv ∗ cred (tallyAt (kcell c none) () 7) ∗ lsep allX fun x => cred (tallyAt (kcell c (some (true, x))) () (amt x)))
/-- The scratch buffers at contents not stated. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
def Φ₀ (c : Dev nD) : sProp 𝕄 := iprop(start m ρ c ∗ scr c)
def Φ₁ (c : Dev nD) : sProp 𝕄 := iprop(semVal (kcell c none) 0 ∗ lsep allX (Gone c) ∗ lsep allX (Rcvd c) ∗ scr c)

/-- The proof data of the pipeline. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insAt m ρ c).x
    | ⟨1, _⟩ => (insAt m ρ c).wd
    | ⟨2, _⟩ => (insAt m ρ c).wk
    | ⟨3, _⟩ => (insAt m ρ c).wv
    | ⟨4, _⟩ => (insAt m ρ c).wq
    | ⟨5, _⟩ => (insAt m ρ c).wr
    | ⟨6, _⟩ => (insAt m ρ c).wc
    | ⟨7, _⟩ => out7 (insAt m ρ c)
    | ⟨8, _⟩ => out8 (insAt m ρ c)
    | ⟨9, _⟩ => out9 (insAt m ρ c)
    | ⟨10, _⟩ => out10 (insAt m ρ) c
    | ⟨11, _⟩ => out11 (insAt m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 12) ∗ Φ (1 : Fin 12) ∗ Φ (2 : Fin 12) ∗ Φ (3 : Fin 12) ∗ Φ (4 : Fin 12) ∗ Φ (5 : Fin 12) ∗ Φ (6 : Fin 12) ∗ Φ (7 : Fin 12) ∗ Φ (8 : Fin 12) ∗ Φ (9 : Fin 12) ∗ Φ (10 : Fin 12) ∗ Φ (11 : Fin 12)) := bigSep_W0 Φ

/-- A buffer held whole. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem whole_setOn (b : Ref sig .tc) : (Memref.whole b).view.setOn Finset.univ = Finset.univ := by
  rw [View.setOn_univ, Memref.view_whole, View.set_whole]
omit [FloatOps F] in
theorem whole_read (c : Dev nD) (b : Ref sig .tc) (f : Buf (Elt F) ((c : Thread nD τ).loc b)) : (Memref.whole b).view.read (Elt F) f = f := by
  simp only [Memref.view_whole, View.read_whole]

/-- All of a whole buffer's elements, reading `X`. -/
abbrev wpc (c : Dev nD) (b : Ref sig .tc) (X : b.ty.Contents (Elt F)) : sProp 𝕄 :=
  iprop(∃ f : Buf (Elt F) ((Memref.whole b).view.loc (c : Thread nD τ)), ⌜∀ i ∈ Finset.univ, (Memref.whole b).view.read (Elt F) f i = X i⌝
      ∗ ((Memref.whole b).view.loc (c : Thread nD τ) ↦[(Memref.whole b).view.setOn Finset.univ]{fullShare} f))
omit [FloatOps F] in
theorem stg_wpc (c : Dev nD) (b : Ref sig .tc) (X : b.ty.Contents (Elt F)) : stg c b X ⊢ wpc c b X := by
  unfold wpc
  rw [whole_setOn]
  iintro ⟨%f, %hf, H⟩
  iexists f
  isplitr
  · ipureintro; intro i _; rw [← hf]; exact congrFun (whole_read c b f) i
  iexact H
omit [FloatOps F] in
theorem wpc_stg (c : Dev nD) (b : Ref sig .tc) (X : b.ty.Contents (Elt F)) : wpc c b X ⊢ stg c b X := by
  unfold wpc
  rw [whole_setOn]
  iintro ⟨%f, %hf, H⟩
  iexists f
  isplitr
  · ipureintro; exact (whole_read c b f).symm.trans (funext fun i => hf i (Finset.mem_univ _))
  iexact H

/-- A whole buffer at contents not stated. -/
abbrev any (c : Dev nD) (b : Ref sig .tc) : sProp 𝕄 :=
  iprop(∃ f : Buf (Elt F) ((c : Thread nD τ).loc b), ((c : Thread nD τ).loc b) ↦{fullShare} f)
/-- All of a whole buffer's elements at contents not stated. -/
abbrev wany (c : Dev nD) (b : Ref sig .tc) : sProp 𝕄 :=
  iprop(∃ f : Buf (Elt F) ((Memref.whole b).view.loc (c : Thread nD τ)),
    ((Memref.whole b).view.loc (c : Thread nD τ) ↦[(Memref.whole b).view.setOn Finset.univ]{fullShare} f))
omit [FloatOps F] in
theorem any_eq (c : Dev nD) (b : Ref sig .tc) : any (F := F) c b = wany c b := by
  unfold wany; rw [whole_setOn]

omit [FloatOps F] in
theorem scr_eq (c : Dev nD) : scr (F := F) c = Scr c := by
  have h0 : any (F := F) c cc0_scratch0 = pcE csM c Finset.univ := any_eq c cc0_scratch0
  have h1 : any (F := F) c cc0_scratch1 = pcE caM c Finset.univ := any_eq c cc0_scratch1
  have h2 : any (F := F) c cc0_scratch2 = pcE (wM false) c Finset.univ := any_eq c cc0_scratch2
  have h3 : any (F := F) c cc0_scratch3 = pcE (wM true) c Finset.univ := any_eq c cc0_scratch3
  unfold Scr
  rw [← h0, ← h1, ← h2, ← h3]; rfl

/-! ## The body -/

theorem before_0 (c : Dev nD) (d) : (dats m ρ 0 c).before (0 : Fin 12) t₀ d = (insAt m ρ c).x := by unfold Dat.before; rw [if_pos (fetch0_0 t₀)]; rfl
theorem before_1 (c : Dev nD) (d) : (dats m ρ 0 c).before (1 : Fin 12) t₀ d = (insAt m ρ c).wd := by unfold Dat.before; rw [if_pos (fetch0_1 t₀)]; rfl
theorem before_2 (c : Dev nD) (d) : (dats m ρ 0 c).before (2 : Fin 12) t₀ d = (insAt m ρ c).wk := by unfold Dat.before; rw [if_pos (fetch0_2 t₀)]; rfl
theorem before_3 (c : Dev nD) (d) : (dats m ρ 0 c).before (3 : Fin 12) t₀ d = (insAt m ρ c).wv := by unfold Dat.before; rw [if_pos (fetch0_3 t₀)]; rfl
theorem before_4 (c : Dev nD) (d) : (dats m ρ 0 c).before (4 : Fin 12) t₀ d = (insAt m ρ c).wq := by unfold Dat.before; rw [if_pos (fetch0_4 t₀)]; rfl
theorem before_5 (c : Dev nD) (d) : (dats m ρ 0 c).before (5 : Fin 12) t₀ d = (insAt m ρ c).wr := by unfold Dat.before; rw [if_pos (fetch0_5 t₀)]; rfl
theorem before_6 (c : Dev nD) (d) : (dats m ρ 0 c).before (6 : Fin 12) t₀ d = (insAt m ρ c).wc := by unfold Dat.before; rw [if_pos (fetch0_6 t₀)]; rfl

/-- What a device's body starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 12) t₀ d))
    ∗ (∃ d, stg c cc0_stg1_0 ((dats m ρ 0 c).before (1 : Fin 12) t₀ d))
    ∗ (∃ d, stg c cc0_stg2_0 ((dats m ρ 0 c).before (2 : Fin 12) t₀ d))
    ∗ (∃ d, stg c cc0_stg3_0 ((dats m ρ 0 c).before (3 : Fin 12) t₀ d))
    ∗ (∃ d, stg c cc0_stg4_0 ((dats m ρ 0 c).before (4 : Fin 12) t₀ d))
    ∗ (∃ d, stg c cc0_stg5_0 ((dats m ρ 0 c).before (5 : Fin 12) t₀ d))
    ∗ (∃ d, stg c cc0_stg6_0 ((dats m ρ 0 c).before (6 : Fin 12) t₀ d))
    ∗ (∃ d, stg c cc0_stg7_0 ((dats m ρ 0 c).before (7 : Fin 12) t₀ d))
    ∗ (∃ d, stg c cc0_stg8_0 ((dats m ρ 0 c).before (8 : Fin 12) t₀ d))
    ∗ (∃ d, stg c cc0_stg9_0 ((dats m ρ 0 c).before (9 : Fin 12) t₀ d))
    ∗ (∃ d, stg c cc0_stg10_0 ((dats m ρ 0 c).before (10 : Fin 12) t₀ d))
    ∗ (∃ d, stg c cc0_stg11_0 ((dats m ρ 0 c).before (11 : Fin 12) t₀ d)))
/-- What it ends with. -/
def bodyPost (c : Dev nD) : sProp 𝕄 :=
  iprop(Φ₁ c ∗ (dats m ρ 0 c).owesAt () t₀.succ
    ∗ stg c cc0_stg0_0 (insAt m ρ c).x
    ∗ stg c cc0_stg1_0 (insAt m ρ c).wd
    ∗ stg c cc0_stg2_0 (insAt m ρ c).wk
    ∗ stg c cc0_stg3_0 (insAt m ρ c).wv
    ∗ stg c cc0_stg4_0 (insAt m ρ c).wq
    ∗ stg c cc0_stg5_0 (insAt m ρ c).wr
    ∗ stg c cc0_stg6_0 (insAt m ρ c).wc
    ∗ stg c cc0_stg7_0 (out7 (insAt m ρ c))
    ∗ stg c cc0_stg8_0 (out8 (insAt m ρ c))
    ∗ stg c cc0_stg9_0 (out9 (insAt m ρ c))
    ∗ stg c cc0_stg10_0 (out10 (insAt m ρ) c)
    ∗ stg c cc0_stg11_0 (out11 (insAt m ρ) c))

theorem pre_intro (c : Dev nD) : bodyPre m ρ c ⊢ iprop(∃ K W, Pre (insAt m ρ) K c W) := by
  unfold bodyPre Φ₀ start G' linear Dat.owesAt Pipeline.owesWithin
  iintro ⟨⟨⟨⟨%K, #HR, ⟨Ht1, Hat⟩, HT1, HA⟩, #Hlev, Hcb, Hcr⟩, Hscr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iexists K; iexists W
  unfold Pre
  isplitr
  · unfold Env; isplitr
    · unfold records; iexact HR
    iexact Hlev
  isplitl [HO]; · iexact HO
  isplitl [Ht1 Hat Hcb]
  · isplitl [Ht1]; · iexact Ht1
    isplitl [Hat]; · iexact Hat
    iexact Hcb
  isplitl [HT1]; · iexact HT1
  isplitl [HA Hcr]
  · have h : iprop((lsep allX fun x => atPos ER (kcell c (some (true, x))) 0 ∅ 0) ∗ lsep allX fun x => cred (tallyAt (kcell c (some (true, x))) () (amt x)))
        ⊢ (lsep allX (T2 c) : sProp 𝕄) := by
      rw [← lsep_sep]; exact BI.Entails.refl _
    iapply h; isplitl [HA] <;> iassumption
  isplitl [H0 H1 H2 H3 H4 H5 H6]
  · have e0 : stg c cc0_stg0_0 ((dats m ρ 0 c).before (0 : Fin 12) t₀ d0) ⊢ pc (Memref.whole cc0_stg0_0) c Finset.univ fullShare (insAt m ρ c).x := by
      rw [before_0]; exact stg_wpc c cc0_stg0_0 _
    have e1 : stg c cc0_stg1_0 ((dats m ρ 0 c).before (1 : Fin 12) t₀ d1) ⊢ pc (Memref.whole cc0_stg1_0) c Finset.univ fullShare (insAt m ρ c).wd := by
      rw [before_1]; exact stg_wpc c cc0_stg1_0 _
    have e2 : stg c cc0_stg2_0 ((dats m ρ 0 c).before (2 : Fin 12) t₀ d2) ⊢ pc (uM false) c Finset.univ fullShare ((insAt m ρ c).u false) := by
      rw [before_2]; exact stg_wpc c cc0_stg2_0 _
    have e3 : stg c cc0_stg3_0 ((dats m ρ 0 c).before (3 : Fin 12) t₀ d3) ⊢ pc (uM true) c Finset.univ fullShare ((insAt m ρ c).u true) := by
      rw [before_3]; exact stg_wpc c cc0_stg3_0 _
    have e4 : stg c cc0_stg4_0 ((dats m ρ 0 c).before (4 : Fin 12) t₀ d4) ⊢ pc (Memref.whole cc0_stg4_0) c Finset.univ fullShare (insAt m ρ c).wq := by
      rw [before_4]; exact stg_wpc c cc0_stg4_0 _
    have e5 : stg c cc0_stg5_0 ((dats m ρ 0 c).before (5 : Fin 12) t₀ d5) ⊢ pc (Memref.whole cc0_stg5_0) c Finset.univ fullShare (insAt m ρ c).wr := by
      rw [before_5]; exact stg_wpc c cc0_stg5_0 _
    have e6 : stg c cc0_stg6_0 ((dats m ρ 0 c).before (6 : Fin 12) t₀ d6) ⊢ pc (Memref.whole cc0_stg6_0) c Finset.univ fullShare (insAt m ρ c).wc := by
      rw [before_6]; exact stg_wpc c cc0_stg6_0 _
    unfold Inp
    isplitl [H0]; · iapply e0; iexact H0
    isplitl [H1]; · iapply e1; iexact H1
    isplitl [H2]; · iapply e2; iexact H2
    isplitl [H3]; · iapply e3; iexact H3
    isplitl [H4]; · iapply e4; iexact H4
    isplitl [H5]; · iapply e5; iexact H5
    iapply e6; iexact H6
  isplitl [Hscr]
  · iapply (Entails.of_eq (scr_eq c)); iexact Hscr
  have e7 : stg c cc0_stg7_0 ((dats m ρ 0 c).before (7 : Fin 12) t₀ d7) ⊢ pcE (Memref.whole cc0_stg7_0) c Finset.univ := by
    have h : wany (F := F) c cc0_stg7_0 ⊢ pcE (Memref.whole cc0_stg7_0) c Finset.univ := BI.Entails.refl _
    rw [← any_eq] at h
    have h' : stg c cc0_stg7_0 ((dats m ρ 0 c).before (7 : Fin 12) t₀ d7) ⊢ any c cc0_stg7_0 := by
      iintro ⟨%f, -, H⟩; iexists f; iexact H
    exact h'.trans h
  have e8 : stg c cc0_stg8_0 ((dats m ρ 0 c).before (8 : Fin 12) t₀ d8) ⊢ pcE (Memref.whole cc0_stg8_0) c Finset.univ := by
    have h : wany (F := F) c cc0_stg8_0 ⊢ pcE (Memref.whole cc0_stg8_0) c Finset.univ := BI.Entails.refl _
    rw [← any_eq] at h
    have h' : stg c cc0_stg8_0 ((dats m ρ 0 c).before (8 : Fin 12) t₀ d8) ⊢ any c cc0_stg8_0 := by
      iintro ⟨%f, -, H⟩; iexists f; iexact H
    exact h'.trans h
  have e9 : stg c cc0_stg9_0 ((dats m ρ 0 c).before (9 : Fin 12) t₀ d9) ⊢ pcE (Memref.whole cc0_stg9_0) c Finset.univ := by
    have h : wany (F := F) c cc0_stg9_0 ⊢ pcE (Memref.whole cc0_stg9_0) c Finset.univ := BI.Entails.refl _
    rw [← any_eq] at h
    have h' : stg c cc0_stg9_0 ((dats m ρ 0 c).before (9 : Fin 12) t₀ d9) ⊢ any c cc0_stg9_0 := by
      iintro ⟨%f, -, H⟩; iexists f; iexact H
    exact h'.trans h
  have e10 : stg c cc0_stg10_0 ((dats m ρ 0 c).before (10 : Fin 12) t₀ d10) ⊢ pcE (Memref.whole cc0_stg10_0) c Finset.univ := by
    have h : wany (F := F) c cc0_stg10_0 ⊢ pcE (Memref.whole cc0_stg10_0) c Finset.univ := BI.Entails.refl _
    rw [← any_eq] at h
    have h' : stg c cc0_stg10_0 ((dats m ρ 0 c).before (10 : Fin 12) t₀ d10) ⊢ any c cc0_stg10_0 := by
      iintro ⟨%f, -, H⟩; iexists f; iexact H
    exact h'.trans h
  have e11 : stg c cc0_stg11_0 ((dats m ρ 0 c).before (11 : Fin 12) t₀ d11) ⊢ pcE (Memref.whole cc0_stg11_0) c Finset.univ := by
    have h : wany (F := F) c cc0_stg11_0 ⊢ pcE (Memref.whole cc0_stg11_0) c Finset.univ := BI.Entails.refl _
    rw [← any_eq] at h
    have h' : stg c cc0_stg11_0 ((dats m ρ 0 c).before (11 : Fin 12) t₀ d11) ⊢ any c cc0_stg11_0 := by
      iintro ⟨%f, -, H⟩; iexists f; iexact H
    exact h'.trans h
  isplitl [H7]; · iapply e7; iexact H7
  isplitl [H8]; · iapply e8; iexact H8
  isplitl [H9]; · iapply e9; iexact H9
  isplitl [H10]; · iapply e10; iexact H10
  iapply e11; iexact H11

theorem post_elim (c : Dev nD) : Post (insAt m ρ) c ⊢ bodyPost m ρ c := by
  unfold Post bodyPost Φ₁ Inp Dat.owesAt Pipeline.owesWithin
  iintro ⟨⟨%W, HO⟩, Hbar, Hg, Hr, ⟨H0, H1, H2, H3, H4, H5, H6⟩, Hs, H7, H8, H9, H10, H11⟩
  isplitl [Hbar Hg Hr Hs]
  · isplitl [Hbar]; · iexact Hbar
    isplitl [Hg]; · iexact Hg
    isplitl [Hr]; · iexact Hr
    iapply (Entails.of_eq (scr_eq c).symm); iexact Hs
  isplitl [HO]
  · iexists W; isplitr
    · ipureintro; exact fun _ _ => Or.inl trivial
    iexact HO
  have e0 : pc (Memref.whole cc0_stg0_0) c Finset.univ fullShare (insAt m ρ c).x ⊢ stg c cc0_stg0_0 (insAt m ρ c).x := wpc_stg c cc0_stg0_0 _
  have e1 : pc (Memref.whole cc0_stg1_0) c Finset.univ fullShare (insAt m ρ c).wd ⊢ stg c cc0_stg1_0 (insAt m ρ c).wd := wpc_stg c cc0_stg1_0 _
  have e2 : pc (uM false) c Finset.univ fullShare ((insAt m ρ c).u false) ⊢ stg c cc0_stg2_0 (insAt m ρ c).wk := wpc_stg c cc0_stg2_0 _
  have e3 : pc (uM true) c Finset.univ fullShare ((insAt m ρ c).u true) ⊢ stg c cc0_stg3_0 (insAt m ρ c).wv := wpc_stg c cc0_stg3_0 _
  have e4 : pc (Memref.whole cc0_stg4_0) c Finset.univ fullShare (insAt m ρ c).wq ⊢ stg c cc0_stg4_0 (insAt m ρ c).wq := wpc_stg c cc0_stg4_0 _
  have e5 : pc (Memref.whole cc0_stg5_0) c Finset.univ fullShare (insAt m ρ c).wr ⊢ stg c cc0_stg5_0 (insAt m ρ c).wr := wpc_stg c cc0_stg5_0 _
  have e6 : pc (Memref.whole cc0_stg6_0) c Finset.univ fullShare (insAt m ρ c).wc ⊢ stg c cc0_stg6_0 (insAt m ρ c).wc := wpc_stg c cc0_stg6_0 _
  have e7 : pc (Memref.whole cc0_stg7_0) c Finset.univ fullShare (out7 (insAt m ρ c)) ⊢ stg c cc0_stg7_0 (out7 (insAt m ρ c)) := wpc_stg c cc0_stg7_0 _
  have e8 : pc (Memref.whole cc0_stg8_0) c Finset.univ fullShare (out8 (insAt m ρ c)) ⊢ stg c cc0_stg8_0 (out8 (insAt m ρ c)) := wpc_stg c cc0_stg8_0 _
  have e9 : pc (Memref.whole cc0_stg9_0) c Finset.univ fullShare (out9 (insAt m ρ c)) ⊢ stg c cc0_stg9_0 (out9 (insAt m ρ c)) := wpc_stg c cc0_stg9_0 _
  have e10 : pc (Memref.whole cc0_stg10_0) c Finset.univ fullShare (out10 (insAt m ρ) c) ⊢ stg c cc0_stg10_0 (out10 (insAt m ρ) c) := wpc_stg c cc0_stg10_0 _
  have e11 : pc (Memref.whole cc0_stg11_0) c Finset.univ fullShare (out11 (insAt m ρ) c) ⊢ stg c cc0_stg11_0 (out11 (insAt m ρ) c) := wpc_stg c cc0_stg11_0 _
  isplitl [H0]; · iapply e0; iexact H0
  isplitl [H1]; · iapply e1; iexact H1
  isplitl [H2]; · iapply e2; iexact H2
  isplitl [H3]; · iapply e3; iexact H3
  isplitl [H4]; · iapply e4; iexact H4
  isplitl [H5]; · iapply e5; iexact H5
  isplitl [H6]; · iapply e6; iexact H6
  isplitl [H7]; · iapply e7; iexact H7
  isplitl [H8]; · iapply e8; iexact H8
  isplitl [H9]; · iapply e9; iexact H9
  isplitl [H10]; · iapply e10; iexact H10
  iapply e11; iexact H11

set_option maxRecDepth 100000 in
/-- The pipeline's obligation for the body on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0__kvq_body (Memref.whole cc0_stg0_0) (Memref.isWhole_whole _) (Memref.whole cc0_stg1_0) (Memref.isWhole_whole _) (uM false) (uM_whole false) (uM true) (uM_whole true) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) csM (Memref.isWhole_whole _) caM (Memref.isWhole_whole _) (wM false) (wM_whole false) (wM true) (wM_whole true)
      (smS none) (smR none) (smS (some false)) (smR (some false)) (smS (some true)) (smR (some true))) (fun _ => bodyPost m ρ c)
  rw [cc0__kvq_body_eq_skeleton, body_eq]
  refine (pre_intro m ρ c).trans ?_
  iintro ⟨%K, %W, H⟩
  iapply (wp_mono' c fun _ => post_elim m ρ c)
  iapply (canon_wp (insAt m ρ) K c W); iexact H

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insAt m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  classical
  have hown : iprop(lsep allX (Gone (F := F) c) ∗ lsep allX (Rcvd c)) ⊢ own0 c := by
    unfold own0 Pipeline.ownSems0
    rw [lsep_univ allX_nodup mem_allX, lsep_univ allX_nodup mem_allX,
      bigSep_univ_prod (fun k : Bool × X => (semVal ((c : Thread nD τ), osem k) 0 : sProp 𝕄)), bigSep_bool]
    exact BI.Entails.refl _
  rw [show (dats m ρ 0 c).Φ (Fin.last cfg0.N) = Φ₁ c from rfl, scopedRest0_eq, unscopedSems0_eq]
  unfold Φ₁ scr
  iintro ⟨HzB, Hg, Hr, Hs⟩
  isplitl [HzB]; · iexact HzB
  isplitl [Hg Hr]
  · iapply hown
    isplitl [Hg] <;> iassumption
  iexact Hs

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (dec_stage w s) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m ρ 0 c).arrAt w cfg0.N

/-- Every device's arrays are at the stated contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with the counters at zero, every fair execution of the program on the eight devices ends, each
    device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G (insAt m ρ)) (G' := G' (insAt m ρ)) (u₀ := u₀)
    (hu₀ := by
      unfold u₀
      iintro Hu
      ihave H := (ownU_pair _ _) $$ Hu
      icases H with ⟨HP, HX⟩
      imod (fund_ring (insAt m ρ)) $$ HX with HG
      imodintro
      isplitl [HP] <;> iassumption)
    (hglob := glob (insAt m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays after the run hold what they held. -/
theorem finalA_in (c : Dev nD) (w : Fin 7) : finalA m ρ c (⟨w.val, Nat.lt_of_lt_of_le w.isLt (by decide)⟩ : Fin 12)
    = (s₀ m ρ).mem ((cfg0.win (⟨w.val, Nat.lt_of_lt_of_le w.isLt (by decide)⟩ : Fin 12)).arr.view.loc (c : Thread nD τ)) :=
  (dats (F := F) m ρ 0 c).arrAt_in (⟨w.val, Nat.lt_of_lt_of_le w.isLt (by decide)⟩ : Fin 12) (by fin_cases w <;> rfl) _

end Cert.KvqIdeal.Canon
-- ==== Proof.KvqFrames.lean ====
/- The frames of the kernel, as floats and as reals, from the one run. -/
module

public import proofs.«01_k».proof.Defs
public import proofs.«01_k».proof.Proof.Gen.Kvq
public import proofs.«01_k».proof.Proof.KvqRun

@[expose] public section

noncomputable section

namespace Cert.KvqIdeal.Canon

open Cert.KvqIdeal Cert.KvqIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The run read at the arguments and the results: the arguments are unchanged, the results are those the body leaves. -/
theorem run_args : θ_run defs (onTc (τ := τ) (main (F := F))) (s₀ m ρ) (fun r => (∀ c : Dev nD,
      (r.2.mem ((c.tc : Thread nD τ).loc main_v1_0) = finalA m ρ c (7 : Fin 12)
      ∧ r.2.mem ((c.tc : Thread nD τ).loc main_v1_1) = finalA m ρ c (8 : Fin 12)
      ∧ r.2.mem ((c.tc : Thread nD τ).loc main_v1_2) = finalA m ρ c (9 : Fin 12)
      ∧ r.2.mem ((c.tc : Thread nD τ).loc main_v1_3) = finalA m ρ c (10 : Fin 12)
      ∧ r.2.mem ((c.tc : Thread nD τ).loc main_v1_4) = finalA m ρ c (11 : Fin 12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨⟨h.1 c (7 : Fin 12), h.1 c (8 : Fin 12), h.1 c (9 : Fin 12), h.1 c (10 : Fin 12), h.1 c (11 : Fin 12)⟩,
    (h.1 c (0 : Fin 12)).trans (finalA_in m ρ c 0), (h.1 c (1 : Fin 12)).trans (finalA_in m ρ c 1), (h.1 c (2 : Fin 12)).trans (finalA_in m ρ c 2), (h.1 c (3 : Fin 12)).trans (finalA_in m ρ c 3), (h.1 c (4 : Fin 12)).trans (finalA_in m ρ c 4), (h.1 c (5 : Fin 12)).trans (finalA_in m ρ c 5), (h.1 c (6 : Fin 12)).trans (finalA_in m ρ c 6)⟩, h.2⟩)
    (run_main m ρ)

/-- The frame of the kernel read over the reals. -/
theorem frame_ideal : Cert.quiescent_KvqIdeal := fun m ρ _ =>
  (θ_run Cert.KvqIdeal.defs _ _).mono (fun _ h => ⟨fun c => (h.1 c).2, h.2⟩) (run_args (F := Ideal) m ρ)

set_option maxRecDepth 100000

/-- The two programs' bodies have the same text, label by label. -/
theorem defs_eq0 : Cert.Kvq.defs₀ (F := Bits) = Cert.KvqIdeal.defs₀ (F := Bits) := by
  unfold Cert.Kvq.defs₀ Cert.KvqIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So the two programs are the same. -/
theorem defs_eq : Cert.Kvq.defs (F := Bits) = Cert.KvqIdeal.defs (F := Bits) :=
  congrArg (Pipeline.defs (Cert.KvqIdeal.pcfgs (F := Bits))) defs_eq0

/-- The frame of the kernel: its text is that of the run above. -/
theorem frame_kernel : Cert.quiescent_Kvq := by
  intro m ρ _
  rw [defs_eq]
  exact (θ_run (Cert.KvqIdeal.defs (F := Bits)) (onTc (Cert.KvqIdeal.main (F := Bits))) _).mono
    (fun _ h => ⟨fun c => (h.1 c).2, h.2⟩) (run_args (F := Bits) m ρ)

end Cert.KvqIdeal.Canon
-- ==== Proof.KvqVal.lean ====
/- The results of the call that makes the projections over the extended reals, entry by entry: plain
   sums over whole arrays, whichever device a block of latents or of weights came from. -/
module

public import proofs.«01_k».proof.Proof.KvqRun
public import Idealize.ShloMosaic.Lib.Pointwise

@[expose] public section

set_option maxRecDepth 16384

noncomputable section

namespace Cert.KvqIdeal.Canon

open Cert.KvqIdeal Cert.KvqIdeal.Gen
open Idealize.ShloMosaic
open Idealize.ShloMosaic.TcCoe

/-! ## One device's products -/

/-- An entry of the queries. -/
theorem pay9_apply (x : Vec Ideal S1024x4096 .bf16) (w : Vec Ideal S4096x512 .bf16) (r : Fin 1024) (j : Fin 512) :
    k0_pay9 x w (ix2 r j) = ∑ k : Fin 4096, x (ix2 r k) * w (ix2 k j) := by
  pointwise [k0_pay9, k0_pay8]
/-- An entry of the rotary queries. -/
theorem pay10_apply (x : Vec Ideal S1024x4096 .bf16) (w : Vec Ideal S4096x256 .bf16) (r : Fin 1024) (j : Fin 256) :
    k0_pay10 x w (ix2 r j) = ∑ k : Fin 4096, x (ix2 r k) * w (ix2 k j) := by
  pointwise [k0_pay10, k0_pay8]
/-- An entry of the rotary keys. -/
theorem pay11_apply (x : Vec Ideal S1024x4096 .bf16) (w : Vec Ideal S4096x64 .bf16) (r : Fin 1024) (j : Fin 64) :
    k0_pay11 x w (ix2 r j) = ∑ k : Fin 4096, x (ix2 r k) * w (ix2 k j) := by
  pointwise [k0_pay11, k0_pay8]
/-- An entry of a device's latents. -/
theorem pay3_apply (x : Vec Ideal S1024x4096 .bf16) (w : Vec Ideal S4096x128 .bf16) (r : Fin 1024) (j : Fin 128) :
    k0_pay3 x w (ix2 r j) = ∑ k : Fin 4096, x (ix2 r k) * w (ix2 k j) := by
  pointwise [k0_pay3]
/-- An entry of the keys. -/
theorem pay1_apply (a : Vec Ideal S1024x1024 .bf16) (w : Vec Ideal S1024x512 .bf16) (r : Fin 1024) (j : Fin 512) :
    k0_pay1 a w (ix2 r j) = ∑ t : Fin 1024, a (ix2 r t) * w (ix2 t j) := by
  pointwise [k0_pay1]
/-- An entry of the values. -/
theorem pay2_apply (a : Vec Ideal S1024x1024 .bf16) (w : Vec Ideal S1024x512 .bf16) (r : Fin 1024) (j : Fin 512) :
    k0_pay2 a w (ix2 r j) = ∑ t : Fin 1024, a (ix2 r t) * w (ix2 t j) := by
  pointwise [k0_pay2]

/-! ## The order the slots come in -/

/-- The row of the whole weights, and column of the whole latents, that a device finds at place `t`. -/
def place (c : Dev nD) (t : Fin 1024) : Fin 1024 :=
  ⟨(slotDev (t.val / 128) c).val * 128 + t.val % 128, by have := (slotDev (t.val / 128) c).isLt; have : nD = 8 := rfl; omega⟩

/-- Every row is found at one place: two slots hold two devices' blocks. -/
theorem place_inj (c : Dev nD) : Function.Injective (place c) := by
  intro s t h
  have hc : c.val < 8 := c.isLt
  have h : (c.val + 7 + 8 - s.val / 128 % 8) % 8 * 128 + s.val % 128 = (c.val + 7 + 8 - t.val / 128 % 8) % 8 * 128 + t.val % 128 :=
    congrArg Fin.val h
  exact Fin.ext (by omega)

/-- So a sum over the places is the sum over the rows. -/
theorem sum_place (c : Dev nD) (f : Fin 1024 → EReal) : ∑ t, f (place c t) = ∑ t, f t :=
  (Finite.injective_iff_bijective.1 (place_inj c)).sum_comp f

/-! ## The devices' blocks of the whole arrays -/

/-- The devices' operands: the activations and the rotary keys' weights whole, columns of the down
    projection, of the queries' and of the rotary queries' weights, and rows of every block of the up projections. -/
structure Blk (I : Dev nD → Ins Ideal) (X : FVec Ideal S1024x4096 .bf16) (Wd : (⟨2, ![4096, 1024]⟩ : Shape).Idx → EReal)
    (U : Bool → (⟨3, ![8, 1024, 512]⟩ : Shape).Idx → EReal) (Wq : (⟨2, ![4096, 4096]⟩ : Shape).Idx → EReal)
    (Wr : (⟨2, ![4096, 2048]⟩ : Shape).Idx → EReal) (Wc : FVec Ideal S4096x64 .bf16) : Prop where
  x : ∀ (c : Fin 8) (r : Fin 1024) (k : Fin 4096), (I c).x (ix2 r k) = X (ix2 r k)
  wd : ∀ (c : Fin 8) (k : Fin 4096) (j : Fin 128), (I c).wd (ix2 k j) = Wd (ix2 k ⟨c.val * 128 + j.val, by omega⟩)
  u : ∀ (v : Bool) (c : Fin 8) (b : Fin 8) (t : Fin 128) (j : Fin 512), (I c).u v (ix3 b t j) = U v (ix3 b ⟨c.val * 128 + t.val, by omega⟩ j)
  wq : ∀ (c : Fin 8) (k : Fin 4096) (j : Fin 512), (I c).wq (ix2 k j) = Wq (ix2 k ⟨c.val * 512 + j.val, by omega⟩)
  wr : ∀ (c : Fin 8) (k : Fin 4096) (j : Fin 256), (I c).wr (ix2 k j) = Wr (ix2 k ⟨c.val * 256 + j.val, by omega⟩)
  wc : ∀ (c : Fin 8) (k : Fin 4096) (j : Fin 64), (I c).wc (ix2 k j) = Wc (ix2 k j)

section

variable {I : Dev nD → Ins Ideal} {X : FVec Ideal S1024x4096 .bf16} {Wd : (⟨2, ![4096, 1024]⟩ : Shape).Idx → EReal}
  {U : Bool → (⟨3, ![8, 1024, 512]⟩ : Shape).Idx → EReal} {Wq : (⟨2, ![4096, 4096]⟩ : Shape).Idx → EReal}
  {Wr : (⟨2, ![4096, 2048]⟩ : Shape).Idx → EReal} {Wc : FVec Ideal S4096x64 .bf16}

/-- A device's queries are columns of the whole product. -/
theorem out7_apply (H : Blk I X Wd U Wq Wr Wc) (c : Fin 8) (r : Fin 1024) (j : Fin 512) :
    out7 (I c) (ix2 r j) = ∑ k : Fin 4096, X (ix2 r k) * Wq (ix2 k ⟨c.val * 512 + j.val, by omega⟩) :=
  (pay9_apply _ _ r j).trans (Finset.sum_congr rfl fun k _ => by rw [H.x, H.wq])
/-- Its rotary queries likewise. -/
theorem out8_apply (H : Blk I X Wd U Wq Wr Wc) (c : Fin 8) (r : Fin 1024) (j : Fin 256) :
    out8 (I c) (ix2 r j) = ∑ k : Fin 4096, X (ix2 r k) * Wr (ix2 k ⟨c.val * 256 + j.val, by omega⟩) :=
  (pay10_apply _ _ r j).trans (Finset.sum_congr rfl fun k _ => by rw [H.x, H.wr])
/-- The rotary keys are the whole product on every device. -/
theorem out9_apply (H : Blk I X Wd U Wq Wr Wc) (c : Fin 8) (r : Fin 1024) (j : Fin 64) :
    out9 (I c) (ix2 r j) = ∑ k : Fin 4096, X (ix2 r k) * Wc (ix2 k j) :=
  (pay11_apply _ _ r j).trans (Finset.sum_congr rfl fun k _ => by rw [H.x, H.wc])

/-- A gathered latent is one of the whole latents. -/
theorem caV_apply (H : Blk I X Wd U Wq Wr Wc) (c : Fin 8) (r : Fin 1024) (t : Fin 1024) :
    caV I c (ix2 r t) = ∑ k : Fin 4096, X (ix2 r k) * Wd (ix2 k (place c t)) :=
  (pay3_apply _ _ r _).trans (Finset.sum_congr rfl fun k _ => by rw [H.x, H.wd]; rfl)
/-- A gathered weight is one of the whole weights, of the device's own block. -/
theorem wV_apply (H : Blk I X Wd U Wq Wr Wc) (v : Bool) (c : Fin 8) (t : Fin 1024) (j : Fin 512) :
    wV I v c (ix2 t j) = U v (ix3 (ownBlk c) (place c t) j) :=
  H.u v _ _ _ _

/-- A device's keys or values: the latents times its own block of the weights, in any order of the rows. -/
theorem prod_apply (H : Blk I X Wd U Wq Wr Wc) (v : Bool) (c : Fin 8) (r : Fin 1024) (j : Fin 512) :
    ∑ t : Fin 1024, caV I c (ix2 r t) * wV I v c (ix2 t j) =
      ∑ t : Fin 1024, (∑ k : Fin 4096, X (ix2 r k) * Wd (ix2 k t)) * U v (ix3 (ownBlk c) t j) := by
  simp only [caV_apply H, wV_apply H]
  exact sum_place c (fun t => (∑ k : Fin 4096, X (ix2 r k) * Wd (ix2 k t)) * U v (ix3 (ownBlk c) t j))

/-- A device's keys. -/
theorem out10_apply (H : Blk I X Wd U Wq Wr Wc) (c : Fin 8) (r : Fin 1024) (j : Fin 512) :
    out10 I c (ix2 r j) = ∑ t : Fin 1024, (∑ k : Fin 4096, X (ix2 r k) * Wd (ix2 k t)) * U false (ix3 (ownBlk c) t j) :=
  (pay1_apply _ _ r j).trans (prod_apply H false c r j)
/-- A device's values. -/
theorem out11_apply (H : Blk I X Wd U Wq Wr Wc) (c : Fin 8) (r : Fin 1024) (j : Fin 512) :
    out11 I c (ix2 r j) = ∑ t : Fin 1024, (∑ k : Fin 4096, X (ix2 r k) * Wd (ix2 k t)) * U true (ix3 (ownBlk c) t j) :=
  (pay2_apply _ _ r j).trans (prod_apply H true c r j)

end

end Cert.KvqIdeal.Canon

end
-- ==== Proof.KvqRefVal.lean ====
/- The reference of the call that makes the projections: its five results, entry by entry. -/
module

public import proofs.«01_k».proof.Proof.Gen.KvqRefIdeal.Run
public import Idealize.ShloMosaic.Lib.Pointwise

@[expose] public section

set_option maxRecDepth 16384

noncomputable section

namespace Cert.KvqRefIdeal.Value

open Cert.KvqRefIdeal Cert.KvqRefIdeal.Gen
open Idealize.ShloMosaic
open Idealize.ShloMosaic.TcCoe

section

variable {F : FTy → Type} [FloatOps F]

/-- The projected queries. -/
def qR (x : FVec F S1024x4096 .bf16) (w : FVec F S4096x4096 .bf16) : FVec F S1024x4096 .bf16 :=
  truncf .bf16 (Host.dotGeneral dot_S1024x4096_S4096x4096_S1024x4096_1_0_0_1_n_n none (extf .f32 x bitsLt_bf16_f32) (extf .f32 w bitsLt_bf16_f32)) bitsLt_bf16_f32
/-- The projected rotary queries. -/
def rR (x : FVec F S1024x4096 .bf16) (w : FVec F S4096x2048 .bf16) : FVec F S1024x2048 .bf16 :=
  truncf .bf16 (Host.dotGeneral dot_S1024x4096_S4096x2048_S1024x2048_1_0_0_1_n_n none (extf .f32 x bitsLt_bf16_f32) (extf .f32 w bitsLt_bf16_f32)) bitsLt_bf16_f32
/-- The projected rotary keys. -/
def kR (x : FVec F S1024x4096 .bf16) (w : FVec F S4096x64 .bf16) : FVec F S1024x64 .bf16 :=
  truncf .bf16 (Host.dotGeneral dot_S1024x4096_S4096x64_S1024x64_1_0_0_1_n_n none (extf .f32 x bitsLt_bf16_f32) (extf .f32 w bitsLt_bf16_f32)) bitsLt_bf16_f32
/-- The latents. -/
def cR (x : FVec F S1024x4096 .bf16) (w : FVec F S4096x1024 .bf16) : FVec F S1024x1024 .f32 :=
  Host.dotGeneral dot_S1024x4096_S4096x1024_S1024x1024_1_0_0_1_n_n none (extf .f32 x bitsLt_bf16_f32) (extf .f32 w bitsLt_bf16_f32)
/-- The up-projection's weights as one matrix. -/
def uR (w : FVec F S8x1024x512 .bf16) : FVec F S1024x4096 .f32 :=
  shapeCast _ (transpose S1024x8x512 [1, 0, 2] (extf .f32 w bitsLt_bf16_f32) transposes_S8x1024x512_S1024x8x512_1_0_2) shapeCasts_S1024x8x512_S1024x4096
/-- The keys or the values, before they are rolled. -/
def pR (c : FVec F S1024x1024 .f32) (u : FVec F S1024x4096 .f32) : FVec F S1024x4096 .f32 :=
  Host.dotGeneral dot_S1024x1024_S1024x4096_S1024x4096_1_0_0_1_n_n none c u
/-- Columns rolled by one block. -/
def rollR (p : FVec F S1024x4096 .f32) : FVec F S1024x4096 .bf16 :=
  truncf .bf16 (concatenate S1024x4096 1 [⟨S1024x3584, (extractStridedSlice S1024x3584 ![0, 512] p slices_S1024x4096_S1024x3584_0_512)⟩, ⟨S1024x512, (extractStridedSlice S1024x512 ![0, 0] p slices_S1024x4096_S1024x512_0_0)⟩] concatenates_S1024x3584_S1024x512_S1024x4096_d1) bitsLt_bf16_f32

end

/-- An entry of the projected queries. -/
theorem qR_apply (x : FVec Ideal S1024x4096 .bf16) (w : FVec Ideal S4096x4096 .bf16) (r : Fin 1024) (j : Fin 4096) :
    qR x w (ix2 r j) = ∑ k : Fin 4096, x (ix2 r k) * w (ix2 k j) := by
  pointwise [qR]
/-- An entry of the projected rotary queries. -/
theorem rR_apply (x : FVec Ideal S1024x4096 .bf16) (w : FVec Ideal S4096x2048 .bf16) (r : Fin 1024) (j : Fin 2048) :
    rR x w (ix2 r j) = ∑ k : Fin 4096, x (ix2 r k) * w (ix2 k j) := by
  pointwise [rR]
/-- An entry of the projected rotary keys. -/
theorem kR_apply (x : FVec Ideal S1024x4096 .bf16) (w : FVec Ideal S4096x64 .bf16) (r : Fin 1024) (j : Fin 64) :
    kR x w (ix2 r j) = ∑ k : Fin 4096, x (ix2 r k) * w (ix2 k j) := by
  pointwise [kR]
/-- An entry of the latents. -/
theorem cR_apply (x : FVec Ideal S1024x4096 .bf16) (w : FVec Ideal S4096x1024 .bf16) (r : Fin 1024) (t : Fin 1024) :
    cR x w (ix2 r t) = ∑ k : Fin 4096, x (ix2 r k) * w (ix2 k t) := by
  pointwise [cR]
/-- An entry of the up-projection's matrix. -/
theorem uR_apply (w : FVec Ideal S8x1024x512 .bf16) (t : Fin 1024) (j : Fin 4096) :
    uR w (ix2 t j) = w (ix3 ⟨j.val / 512, by omega⟩ t ⟨j.val % 512, by omega⟩) := by
  pointwise [uR]
/-- An entry of the keys or the values before the roll. -/
theorem pR_apply (c : FVec Ideal S1024x1024 .f32) (u : FVec Ideal S1024x4096 .f32) (r : Fin 1024) (j : Fin 4096) :
    pR c u (ix2 r j) = ∑ t : Fin 1024, c (ix2 r t) * u (ix2 t j) := by
  pointwise [pR]
/-- An entry after the roll: that of the next block. -/
theorem rollR_apply (p : FVec Ideal S1024x4096 .f32) (r : Fin 1024) (j : Fin 4096) :
    rollR p (ix2 r j) = p (ix2 r ⟨(j.val + 512) % 4096, by omega⟩) := by
  pointwise [rollR]
  split
  · exact congrArg p (congrArg (ix2 r) (Fin.ext (by show 512 + j.val = (j.val + 512) % 4096; omega)))
  · exact congrArg p (congrArg (ix2 r) (Fin.ext (by show _ = (j.val + 512) % 4096; simp; omega)))

end Cert.KvqRefIdeal.Value

end
-- ==== Proof.KvqAlgebraic.lean ====
/- The value claim of the call that makes the projections: every device's five results are its blocks
   of the reference's. -/
module

public import proofs.«01_k».proof.Proof.KvqFrames
public import proofs.«01_k».proof.Proof.Gen.KvqIdeal.Points
public import proofs.«01_k».proof.Proof.KvqVal
public import proofs.«01_k».proof.Proof.KvqRefVal

@[expose] public section

set_option maxRecDepth 16384

noncomputable section

namespace Cert.KvqIdeal.Canon

open Cert.KvqIdeal Cert.KvqIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The array of the queries ends at what the body leaves: the one point writes its one block, which is all of it. -/
theorem finalA_out7 (c : Dev nD) : finalA m ρ c (7 : Fin 12) = out7 (insAt m ρ c) := by
  have hz : (fun a => (win0_7.index (0 : Fin 1)) a * main_v1_0.ty.shape.size a) = fun _ => 0 := funext fun a => by fin_cases a <;> decide
  have hr : (win0_7.blk (0 : Fin 1)).view.read (Elt F) (finalA m ρ c (7 : Fin 12)) = out7 (insAt m ρ c) := by
    unfold finalA
    rw [show cfg0.N = ((0 : Fin 1) : Fin cfg0.N).val + 1 from rfl, (dats m ρ 0 c).arrAt_succ (7 : Fin 12) (0 : Fin 1)]
    rw [show (cfg0.win (7 : Fin 12)).flush (0 : Fin 1) = true from flush0_7 _, if_pos rfl]
    exact View.read_write_univ _ _
  exact (Memref.read_access_unit_zero (Elt F) main_v1_0 hz (fun a => by fin_cases a <;> decide) _).symm.trans hr

/-- The array of the rotary queries ends at what the body leaves: the one point writes its one block, which is all of it. -/
theorem finalA_out8 (c : Dev nD) : finalA m ρ c (8 : Fin 12) = out8 (insAt m ρ c) := by
  have hz : (fun a => (win0_8.index (0 : Fin 1)) a * main_v1_1.ty.shape.size a) = fun _ => 0 := funext fun a => by fin_cases a <;> decide
  have hr : (win0_8.blk (0 : Fin 1)).view.read (Elt F) (finalA m ρ c (8 : Fin 12)) = out8 (insAt m ρ c) := by
    unfold finalA
    rw [show cfg0.N = ((0 : Fin 1) : Fin cfg0.N).val + 1 from rfl, (dats m ρ 0 c).arrAt_succ (8 : Fin 12) (0 : Fin 1)]
    rw [show (cfg0.win (8 : Fin 12)).flush (0 : Fin 1) = true from flush0_8 _, if_pos rfl]
    exact View.read_write_univ _ _
  exact (Memref.read_access_unit_zero (Elt F) main_v1_1 hz (fun a => by fin_cases a <;> decide) _).symm.trans hr

/-- The array of the rotary keys ends at what the body leaves: the one point writes its one block, which is all of it. -/
theorem finalA_out9 (c : Dev nD) : finalA m ρ c (9 : Fin 12) = out9 (insAt m ρ c) := by
  have hz : (fun a => (win0_9.index (0 : Fin 1)) a * main_v1_2.ty.shape.size a) = fun _ => 0 := funext fun a => by fin_cases a <;> decide
  have hr : (win0_9.blk (0 : Fin 1)).view.read (Elt F) (finalA m ρ c (9 : Fin 12)) = out9 (insAt m ρ c) := by
    unfold finalA
    rw [show cfg0.N = ((0 : Fin 1) : Fin cfg0.N).val + 1 from rfl, (dats m ρ 0 c).arrAt_succ (9 : Fin 12) (0 : Fin 1)]
    rw [show (cfg0.win (9 : Fin 12)).flush (0 : Fin 1) = true from flush0_9 _, if_pos rfl]
    exact View.read_write_univ _ _
  exact (Memref.read_access_unit_zero (Elt F) main_v1_2 hz (fun a => by fin_cases a <;> decide) _).symm.trans hr

/-- The array of the keys ends at what the body leaves: the one point writes its one block, which is all of it. -/
theorem finalA_out10 (c : Dev nD) : finalA m ρ c (10 : Fin 12) = out10 (insAt m ρ) c := by
  have hz : (fun a => (win0_10.index (0 : Fin 1)) a * main_v1_3.ty.shape.size a) = fun _ => 0 := funext fun a => by fin_cases a <;> decide
  have hr : (win0_10.blk (0 : Fin 1)).view.read (Elt F) (finalA m ρ c (10 : Fin 12)) = out10 (insAt m ρ) c := by
    unfold finalA
    rw [show cfg0.N = ((0 : Fin 1) : Fin cfg0.N).val + 1 from rfl, (dats m ρ 0 c).arrAt_succ (10 : Fin 12) (0 : Fin 1)]
    rw [show (cfg0.win (10 : Fin 12)).flush (0 : Fin 1) = true from flush0_10 _, if_pos rfl]
    exact View.read_write_univ _ _
  exact (Memref.read_access_unit_zero (Elt F) main_v1_3 hz (fun a => by fin_cases a <;> decide) _).symm.trans hr

/-- The array of the values ends at what the body leaves: the one point writes its one block, which is all of it. -/
theorem finalA_out11 (c : Dev nD) : finalA m ρ c (11 : Fin 12) = out11 (insAt m ρ) c := by
  have hz : (fun a => (win0_11.index (0 : Fin 1)) a * main_v1_4.ty.shape.size a) = fun _ => 0 := funext fun a => by fin_cases a <;> decide
  have hr : (win0_11.blk (0 : Fin 1)).view.read (Elt F) (finalA m ρ c (11 : Fin 12)) = out11 (insAt m ρ) c := by
    unfold finalA
    rw [show cfg0.N = ((0 : Fin 1) : Fin cfg0.N).val + 1 from rfl, (dats m ρ 0 c).arrAt_succ (11 : Fin 12) (0 : Fin 1)]
    rw [show (cfg0.win (11 : Fin 12)).flush (0 : Fin 1) = true from flush0_11 _, if_pos rfl]
    exact View.read_write_univ _ _
  exact (Memref.read_access_unit_zero (Elt F) main_v1_4 hz (fun a => by fin_cases a <;> decide) _).symm.trans hr

/-- The activations a device starts from are the array it was given. -/
theorem insAt_x (c : Dev nD) : (insAt m ρ c).x = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- The down projection's weights a device starts from are the array it was given. -/
theorem insAt_wd (c : Dev nD) : (insAt m ρ c).wd = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
/-- The keys' weights a device starts from are the array it was given. -/
theorem insAt_wk (c : Dev nD) : (insAt m ρ c).wk = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _
/-- The values' weights a device starts from are the array it was given. -/
theorem insAt_wv (c : Dev nD) : (insAt m ρ c).wv = m ((c : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _
/-- The queries' weights a device starts from are the array it was given. -/
theorem insAt_wq (c : Dev nD) : (insAt m ρ c).wq = m ((c : Thread nD τ).loc main_arg4) := by
  have hz : (fun a => (win0_4.index (0 : Fin 1)) a * main_arg4.ty.shape.size a) = fun _ => 0 := funext fun a => by fin_cases a <;> decide
  exact Memref.read_access_unit_zero (Elt F) main_arg4 hz (fun a => by fin_cases a <;> decide) _
/-- The rotary queries' weights a device starts from are the array it was given. -/
theorem insAt_wr (c : Dev nD) : (insAt m ρ c).wr = m ((c : Thread nD τ).loc main_arg5) := by
  have hz : (fun a => (win0_5.index (0 : Fin 1)) a * main_arg5.ty.shape.size a) = fun _ => 0 := funext fun a => by fin_cases a <;> decide
  exact Memref.read_access_unit_zero (Elt F) main_arg5 hz (fun a => by fin_cases a <;> decide) _
/-- The rotary keys' weights a device starts from are the array it was given. -/
theorem insAt_wc (c : Dev nD) : (insAt m ρ c).wc = m ((c : Thread nD τ).loc main_arg6) := by
  have hz : (fun a => (win0_6.index (0 : Fin 1)) a * main_arg6.ty.shape.size a) = fun _ => 0 := funext fun a => by fin_cases a <;> decide
  exact Memref.read_access_unit_zero (Elt F) main_arg6 hz (fun a => by fin_cases a <;> decide) _

/-- An entry of a block of columns. -/
theorem block_cols {a b b' : Nat} (v : (⟨2, ![a, b]⟩ : Shape).Idx → EReal) (c : Fin 8) (h : Layout.Tiles ⟨2, ![a, b']⟩ ⟨2, ![a, b]⟩ 1 8) (r : Fin a) (x : Fin b') (X : Fin b)
    (hX : c.val * b' + x.val = X.val) : Layout.block ⟨2, ![a, b']⟩ ⟨2, ![a, b]⟩ 1 8 c v h (ix2 r x) = v (ix2 r X) := by
  rw [Layout.block_apply]
  refine congrArg v (funext fun i => Fin.ext ?_)
  match i with
  | ⟨0, _⟩ => exact (Layout.idx_cols_val h c (ix2 r x)).1
  | ⟨1, _⟩ => exact ((Layout.idx_cols_val h c (ix2 r x)).2).trans hX

/-- An entry of a block along the middle of three axes. -/
theorem block_mid (v : (⟨3, ![8, 1024, 512]⟩ : Shape).Idx → EReal) (c : Fin 8) (h : Layout.Tiles ⟨3, ![8, 128, 512]⟩ ⟨3, ![8, 1024, 512]⟩ 1 8) (b : Fin 8) (t : Fin 128) (j : Fin 512)
    (T : Fin 1024) (hT : c.val * 128 + t.val = T.val) : Layout.block ⟨3, ![8, 128, 512]⟩ ⟨3, ![8, 1024, 512]⟩ 1 8 c v h (ix3 b t j) = v (ix3 b T j) := by
  rw [Layout.block_apply]
  refine congrArg v (funext fun i => Fin.ext ?_)
  match i with
  | ⟨0, _⟩ => rfl
  | ⟨1, _⟩ => exact hT
  | ⟨2, _⟩ => rfl

/-- The reference's keys or values, before they are cast. -/
abbrev rolled (x : FVec Ideal Cert.KvqRefIdeal.S1024x4096 .bf16) (wd : FVec Ideal Cert.KvqRefIdeal.S4096x1024 .bf16)
    (u : FVec Ideal Cert.KvqRefIdeal.S8x1024x512 .bf16) : FVec Ideal Cert.KvqRefIdeal.S1024x4096 .bf16 :=
  Cert.KvqRefIdeal.Value.rollR (Cert.KvqRefIdeal.Value.pR (Cert.KvqRefIdeal.Value.cR x wd) (Cert.KvqRefIdeal.Value.uR u))

/-- An entry of them, in a device's columns: it is of the device's own block of the weights. -/
theorem rolled_apply (x : FVec Ideal Cert.KvqRefIdeal.S1024x4096 .bf16) (wd : FVec Ideal Cert.KvqRefIdeal.S4096x1024 .bf16)
    (u : FVec Ideal Cert.KvqRefIdeal.S8x1024x512 .bf16) (c : Fin 8) (r : Fin 1024) (j : Fin 512) (J : Fin 4096) (hJ : c.val * 512 + j.val = J.val) :
    rolled x wd u (ix2 r J) = ∑ t : Fin 1024, (∑ k : Fin 4096, x (ix2 r k) * wd (ix2 k t)) * u (ix3 (ownBlk c) t j) := by
  refine (Cert.KvqRefIdeal.Value.rollR_apply _ r J).trans ((Cert.KvqRefIdeal.Value.pR_apply _ _ r _).trans ?_)
  refine Finset.sum_congr rfl fun t _ => ?_
  rw [Cert.KvqRefIdeal.Value.cR_apply, Cert.KvqRefIdeal.Value.uR_apply]
  have h0 : (⟨(J.val + 512) % 4096 / 512, by omega⟩ : Fin 8) = ownBlk c := Fin.ext (by show (J.val + 512) % 4096 / 512 = (c.val + 1) % 8; omega)
  have h1 : (⟨(J.val + 512) % 4096 % 512, by omega⟩ : Fin 512) = j := Fin.ext (by show (J.val + 512) % 4096 % 512 = j.val; omega)
  exact congrArg₂ (fun a b => (∑ k : Fin 4096, x (ix2 r k) * wd (ix2 k t)) * u (ix3 a t b)) h0 h1

/-- The value claim of the projections: each device's results are its blocks of the reference's five. -/
theorem algebraic : Cert.algebraic_KvqIdeal_KvqRefIdeal := by
  intro m ρ m' ρ' _ hag
  refine ⟨Cert.KvqRefIdeal.Value.qR (F := Ideal) (m' (((0 : Dev Cert.KvqRefIdeal.nD).tc : Thread Cert.KvqRefIdeal.nD Cert.KvqRefIdeal.τ).loc Cert.KvqRefIdeal.main_arg0)) (m' (((0 : Dev Cert.KvqRefIdeal.nD).tc : Thread Cert.KvqRefIdeal.nD Cert.KvqRefIdeal.τ).loc Cert.KvqRefIdeal.main_arg4)),
    Cert.KvqRefIdeal.Value.rR (F := Ideal) (m' (((0 : Dev Cert.KvqRefIdeal.nD).tc : Thread Cert.KvqRefIdeal.nD Cert.KvqRefIdeal.τ).loc Cert.KvqRefIdeal.main_arg0)) (m' (((0 : Dev Cert.KvqRefIdeal.nD).tc : Thread Cert.KvqRefIdeal.nD Cert.KvqRefIdeal.τ).loc Cert.KvqRefIdeal.main_arg5)),
    Cert.KvqRefIdeal.Value.kR (F := Ideal) (m' (((0 : Dev Cert.KvqRefIdeal.nD).tc : Thread Cert.KvqRefIdeal.nD Cert.KvqRefIdeal.τ).loc Cert.KvqRefIdeal.main_arg0)) (m' (((0 : Dev Cert.KvqRefIdeal.nD).tc : Thread Cert.KvqRefIdeal.nD Cert.KvqRefIdeal.τ).loc Cert.KvqRefIdeal.main_arg6)),
    rolled (m' (((0 : Dev Cert.KvqRefIdeal.nD).tc : Thread Cert.KvqRefIdeal.nD Cert.KvqRefIdeal.τ).loc Cert.KvqRefIdeal.main_arg0)) (m' (((0 : Dev Cert.KvqRefIdeal.nD).tc : Thread Cert.KvqRefIdeal.nD Cert.KvqRefIdeal.τ).loc Cert.KvqRefIdeal.main_arg1)) (m' (((0 : Dev Cert.KvqRefIdeal.nD).tc : Thread Cert.KvqRefIdeal.nD Cert.KvqRefIdeal.τ).loc Cert.KvqRefIdeal.main_arg2)),
    rolled (m' (((0 : Dev Cert.KvqRefIdeal.nD).tc : Thread Cert.KvqRefIdeal.nD Cert.KvqRefIdeal.τ).loc Cert.KvqRefIdeal.main_arg0)) (m' (((0 : Dev Cert.KvqRefIdeal.nD).tc : Thread Cert.KvqRefIdeal.nD Cert.KvqRefIdeal.τ).loc Cert.KvqRefIdeal.main_arg1)) (m' (((0 : Dev Cert.KvqRefIdeal.nD).tc : Thread Cert.KvqRefIdeal.nD Cert.KvqRefIdeal.τ).loc Cert.KvqRefIdeal.main_arg3)), ?_, ?_⟩
  · have H : Blk (insAt m ρ) (m' (((0 : Dev Cert.KvqRefIdeal.nD).tc : Thread Cert.KvqRefIdeal.nD Cert.KvqRefIdeal.τ).loc Cert.KvqRefIdeal.main_arg0)) (m' (((0 : Dev Cert.KvqRefIdeal.nD).tc : Thread Cert.KvqRefIdeal.nD Cert.KvqRefIdeal.τ).loc Cert.KvqRefIdeal.main_arg1))
        (fun v => match v with
          | false => (m' (((0 : Dev Cert.KvqRefIdeal.nD).tc : Thread Cert.KvqRefIdeal.nD Cert.KvqRefIdeal.τ).loc Cert.KvqRefIdeal.main_arg2))
          | true => (m' (((0 : Dev Cert.KvqRefIdeal.nD).tc : Thread Cert.KvqRefIdeal.nD Cert.KvqRefIdeal.τ).loc Cert.KvqRefIdeal.main_arg3)))
        (m' (((0 : Dev Cert.KvqRefIdeal.nD).tc : Thread Cert.KvqRefIdeal.nD Cert.KvqRefIdeal.τ).loc Cert.KvqRefIdeal.main_arg4)) (m' (((0 : Dev Cert.KvqRefIdeal.nD).tc : Thread Cert.KvqRefIdeal.nD Cert.KvqRefIdeal.τ).loc Cert.KvqRefIdeal.main_arg5)) (m' (((0 : Dev Cert.KvqRefIdeal.nD).tc : Thread Cert.KvqRefIdeal.nD Cert.KvqRefIdeal.τ).loc Cert.KvqRefIdeal.main_arg6)) := by
      refine ⟨fun c r k => ?_, fun c k j => ?_, fun v c b t j => ?_, fun c k j => ?_, fun c k j => ?_, fun c k j => ?_⟩
      · exact congrFun ((insAt_x m ρ c).trans (hag c).1) _
      · exact (congrFun ((insAt_wd m ρ c).trans (hag c).2.1) _).trans (block_cols _ c _ k j _ rfl)
      · match v with
        | false => exact (congrFun ((insAt_wk m ρ c).trans (hag c).2.2.1) _).trans (block_mid _ c _ b t j _ rfl)
        | true => exact (congrFun ((insAt_wv m ρ c).trans (hag c).2.2.2.1) _).trans (block_mid _ c _ b t j _ rfl)
      · exact (congrFun ((insAt_wq m ρ c).trans (hag c).2.2.2.2.1) _).trans (block_cols _ c _ k j _ rfl)
      · exact (congrFun ((insAt_wr m ρ c).trans (hag c).2.2.2.2.2.1) _).trans (block_cols _ c _ k j _ rfl)
      · exact congrFun ((insAt_wc m ρ c).trans (hag c).2.2.2.2.2.2) _
    refine (θ_run Cert.KvqIdeal.defs _ _).mono (fun _ h c =>
      ⟨((h.1 c).1.1.trans (finalA_out7 m ρ c)).trans ?_, ((h.1 c).1.2.1.trans (finalA_out8 m ρ c)).trans ?_,
        ((h.1 c).1.2.2.1.trans (finalA_out9 m ρ c)).trans ?_, ((h.1 c).1.2.2.2.1.trans (finalA_out10 m ρ c)).trans ?_,
        ((h.1 c).1.2.2.2.2.trans (finalA_out11 m ρ c)).trans ?_, (h.1 c).2⟩) (run_args (F := Ideal) m ρ)
    · funext i
      idx_vars i
      exact (out7_apply H c _ _).trans ((block_cols _ c _ _ _ _ rfl).trans (Cert.KvqRefIdeal.Value.qR_apply _ _ _ _)).symm
    · funext i
      idx_vars i
      exact (out8_apply H c _ _).trans ((block_cols _ c _ _ _ _ rfl).trans (Cert.KvqRefIdeal.Value.rR_apply _ _ _ _)).symm
    · funext i
      idx_vars i
      exact (out9_apply H c _ _).trans (Cert.KvqRefIdeal.Value.kR_apply _ _ _ _).symm
    · funext i
      idx_vars i
      exact (out10_apply H c _ _).trans ((block_cols _ c _ _ _ ⟨c.val * 512 + i1.val, by have hc : c.val < 8 := c.isLt; omega⟩ rfl).trans (rolled_apply _ _ _ c _ _ _ rfl)).symm
    · funext i
      idx_vars i
      exact (out11_apply H c _ _).trans ((block_cols _ c _ _ _ ⟨c.val * 512 + i1.val, by have hc : c.val < 8 := c.isLt; omega⟩ rfl).trans (rolled_apply _ _ _ c _ _ _ rfl)).symm
  · exact (θ_run Cert.KvqRefIdeal.defs _ _).mono (fun _ h => h 0) (Cert.KvqRefIdeal.Value.run (F := Ideal) m' ρ')

end Cert.KvqIdeal.Canon

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kvq
public import proofs.«01_k».proof.Proof.Gen.Kvq.Skeleton
public import proofs.«01_k».proof.Proof.Gen.Kvq.Launch
public import proofs.«01_k».proof.Proof.Gen.Kvq.Points
public import proofs.«01_k».proof.Proof.Gen.Kvq.Frame
public import proofs.«01_k».proof.Proof.Gen.KvqIdeal
public import proofs.«01_k».proof.Proof.Gen.KvqIdeal.Skeleton
public import proofs.«01_k».proof.Proof.Gen.KvqIdeal.Launch
public import proofs.«01_k».proof.Proof.Gen.KvqIdeal.Points
public import proofs.«01_k».proof.Proof.Gen.KvqIdeal.Frame
public import proofs.«01_k».proof.Proof.Gen.KvqRefIdeal
public import proofs.«01_k».proof.Proof.Gen.KvqRefIdeal.Run
public import proofs.«01_k».proof.Proof.Frames
public import proofs.«01_k».proof.Proof.Algebraic
public import proofs.«01_k».proof.Proof.KvqFrames
public import proofs.«01_k».proof.Proof.KvqAlgebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run read at the arguments, which no operation writes; it declares no semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The frame of the projections' reference, likewise. -/
theorem frame_kvq_reference : Cert.quiescent_KvqRefIdeal := by
  intro m ρ _
  exact (θ_run Cert.KvqRefIdeal.defs _ _).mono (fun r h => ⟨fun c => (h c).2.2.2.2.2,
      Idealize.ShloMosaic.sem_eq_zero_of_no_sems (by decide) r.2⟩)
    (Cert.KvqRefIdeal.Value.run (F := Ideal) m ρ)

/-- The claims of the certificate. -/
theorem claim : Cert.Claim := ⟨Cert.Kernel.Gen.facts, Cert.KernelIdeal.Gen.facts, Cert.ReferenceIdeal.Gen.facts,
  Cert.Kvq.Gen.facts, Cert.KvqIdeal.Gen.facts, Cert.KvqRefIdeal.Gen.facts,
  Cert.KernelIdeal.Canon.frame_kernel, Cert.KernelIdeal.Canon.frame_ideal, frame_reference,
  Cert.KvqIdeal.Canon.frame_kernel, Cert.KvqIdeal.Canon.frame_ideal, frame_kvq_reference,
  trivial, Cert.KernelIdeal.Canon.algebraic, trivial, Cert.KvqIdeal.Canon.algebraic⟩

end Cert.Proof

end
